-- ==== Defs.lean ====
def Pre_KernelSwiglu (m : (ℓ : Loc Cert.KernelSwiglu.nD Cert.KernelSwiglu.τ Cert.KernelSwiglu.sig) → Buf (Elt Bits) ℓ) : Prop :=
  True

def Pre_KernelSwigluIdeal (m : (ℓ : Loc Cert.KernelSwigluIdeal.nD Cert.KernelSwigluIdeal.τ Cert.KernelSwigluIdeal.sig) → Buf (Elt Ideal) ℓ) : Prop :=
  True

def Pre_KernelSwigluIdeal_finite_swiglu [hPre_finite_swiglu : Cert.Pre_finite_swiglu.Facts] (m : (ℓ : Loc Cert.KernelSwigluIdeal.nD Cert.KernelSwigluIdeal.τ Cert.KernelSwigluIdeal.sig) → Buf (Elt Ideal) ℓ) : Prop :=
  ∀ c : Dev Cert.KernelSwigluIdeal.nD,
    (Cert.Pre_finite_swiglu.fn (F := Ideal) (m ((c.tc : Thread Cert.KernelSwigluIdeal.nD Cert.KernelSwigluIdeal.τ).loc Cert.KernelSwigluIdeal.main_arg0)) (m ((c.tc : Thread Cert.KernelSwigluIdeal.nD Cert.KernelSwigluIdeal.τ).loc Cert.KernelSwigluIdeal.main_arg1)) (m ((c.tc : Thread Cert.KernelSwigluIdeal.nD Cert.KernelSwigluIdeal.τ).loc Cert.KernelSwigluIdeal.main_arg2))) = (fun _ => 1#1)

def Pre_ReferenceSwigluIdeal (m : (ℓ : Loc Cert.ReferenceSwigluIdeal.nD Cert.ReferenceSwigluIdeal.τ Cert.ReferenceSwigluIdeal.sig) → Buf (Elt Ideal) ℓ) : Prop :=
  True

def Pre_ReferenceSwigluIdeal_finite_swiglu [hPre_finite_swiglu : Cert.Pre_finite_swiglu.Facts] (m : (ℓ : Loc Cert.ReferenceSwigluIdeal.nD Cert.ReferenceSwigluIdeal.τ Cert.ReferenceSwigluIdeal.sig) → Buf (Elt Ideal) ℓ) : Prop :=
  ∀ c : Dev Cert.ReferenceSwigluIdeal.nD,
    (Cert.Pre_finite_swiglu.fn (F := Ideal) (m ((c.tc : Thread Cert.ReferenceSwigluIdeal.nD Cert.ReferenceSwigluIdeal.τ).loc Cert.ReferenceSwigluIdeal.main_arg0)) (m ((c.tc : Thread Cert.ReferenceSwigluIdeal.nD Cert.ReferenceSwigluIdeal.τ).loc Cert.ReferenceSwigluIdeal.main_arg1)) (m ((c.tc : Thread Cert.ReferenceSwigluIdeal.nD Cert.ReferenceSwigluIdeal.τ).loc Cert.ReferenceSwigluIdeal.main_arg2))) = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2))) = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4))) = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4))) = (fun _ => 1#1)

def Pre_KernelForget (m : (ℓ : Loc Cert.KernelForget.nD Cert.KernelForget.τ Cert.KernelForget.sig) → Buf (Elt Bits) ℓ) : Prop :=
  True

def Pre_KernelForgetIdeal (m : (ℓ : Loc Cert.KernelForgetIdeal.nD Cert.KernelForgetIdeal.τ Cert.KernelForgetIdeal.sig) → Buf (Elt Ideal) ℓ) : Prop :=
  True

def Pre_KernelForgetIdeal_finite_forget [hPre_finite_forget : Cert.Pre_finite_forget.Facts] (m : (ℓ : Loc Cert.KernelForgetIdeal.nD Cert.KernelForgetIdeal.τ Cert.KernelForgetIdeal.sig) → Buf (Elt Ideal) ℓ) : Prop :=
  ∀ c : Dev Cert.KernelForgetIdeal.nD,
    (Cert.Pre_finite_forget.fn (F := Ideal) (m ((c.tc : Thread Cert.KernelForgetIdeal.nD Cert.KernelForgetIdeal.τ).loc Cert.KernelForgetIdeal.main_arg0)) (m ((c.tc : Thread Cert.KernelForgetIdeal.nD Cert.KernelForgetIdeal.τ).loc Cert.KernelForgetIdeal.main_arg1)) (m ((c.tc : Thread Cert.KernelForgetIdeal.nD Cert.KernelForgetIdeal.τ).loc Cert.KernelForgetIdeal.main_arg2))) = (fun _ => 1#1)

def Pre_ReferenceForgetIdeal (m : (ℓ : Loc Cert.ReferenceForgetIdeal.nD Cert.ReferenceForgetIdeal.τ Cert.ReferenceForgetIdeal.sig) → Buf (Elt Ideal) ℓ) : Prop :=
  True

def Pre_ReferenceForgetIdeal_finite_forget [hPre_finite_forget : Cert.Pre_finite_forget.Facts] (m : (ℓ : Loc Cert.ReferenceForgetIdeal.nD Cert.ReferenceForgetIdeal.τ Cert.ReferenceForgetIdeal.sig) → Buf (Elt Ideal) ℓ) : Prop :=
  ∀ c : Dev Cert.ReferenceForgetIdeal.nD,
    (Cert.Pre_finite_forget.fn (F := Ideal) (m ((c.tc : Thread Cert.ReferenceForgetIdeal.nD Cert.ReferenceForgetIdeal.τ).loc Cert.ReferenceForgetIdeal.main_arg0)) (m ((c.tc : Thread Cert.ReferenceForgetIdeal.nD Cert.ReferenceForgetIdeal.τ).loc Cert.ReferenceForgetIdeal.main_arg1)) (m ((c.tc : Thread Cert.ReferenceForgetIdeal.nD Cert.ReferenceForgetIdeal.τ).loc Cert.ReferenceForgetIdeal.main_arg2))) = (fun _ => 1#1)

def Pre_KernelSb (m : (ℓ : Loc Cert.KernelSb.nD Cert.KernelSb.τ Cert.KernelSb.sig) → Buf (Elt Bits) ℓ) : Prop :=
  True

def Pre_KernelSbIdeal (m : (ℓ : Loc Cert.KernelSbIdeal.nD Cert.KernelSbIdeal.τ Cert.KernelSbIdeal.sig) → Buf (Elt Ideal) ℓ) : Prop :=
  True

def Pre_KernelSbIdeal_finite_sb [hPre_finite_sb : Cert.Pre_finite_sb.Facts] (m : (ℓ : Loc Cert.KernelSbIdeal.nD Cert.KernelSbIdeal.τ Cert.KernelSbIdeal.sig) → Buf (Elt Ideal) ℓ) : Prop :=
  ∀ c : Dev Cert.KernelSbIdeal.nD,
    (Cert.Pre_finite_sb.fn (F := Ideal) (m ((c.tc : Thread Cert.KernelSbIdeal.nD Cert.KernelSbIdeal.τ).loc Cert.KernelSbIdeal.main_arg0)) (m ((c.tc : Thread Cert.KernelSbIdeal.nD Cert.KernelSbIdeal.τ).loc Cert.KernelSbIdeal.main_arg1)) (m ((c.tc : Thread Cert.KernelSbIdeal.nD Cert.KernelSbIdeal.τ).loc Cert.KernelSbIdeal.main_arg2)) (m ((c.tc : Thread Cert.KernelSbIdeal.nD Cert.KernelSbIdeal.τ).loc Cert.KernelSbIdeal.main_arg3))) = (fun _ => 1#1)

def Pre_ReferenceSbIdeal (m : (ℓ : Loc Cert.ReferenceSbIdeal.nD Cert.ReferenceSbIdeal.τ Cert.ReferenceSbIdeal.sig) → Buf (Elt Ideal) ℓ) : Prop :=
  True

def Pre_ReferenceSbIdeal_finite_sb [hPre_finite_sb : Cert.Pre_finite_sb.Facts] (m : (ℓ : Loc Cert.ReferenceSbIdeal.nD Cert.ReferenceSbIdeal.τ Cert.ReferenceSbIdeal.sig) → Buf (Elt Ideal) ℓ) : Prop :=
  ∀ c : Dev Cert.ReferenceSbIdeal.nD,
    (Cert.Pre_finite_sb.fn (F := Ideal) (m ((c.tc : Thread Cert.ReferenceSbIdeal.nD Cert.ReferenceSbIdeal.τ).loc Cert.ReferenceSbIdeal.main_arg0)) (m ((c.tc : Thread Cert.ReferenceSbIdeal.nD Cert.ReferenceSbIdeal.τ).loc Cert.ReferenceSbIdeal.main_arg1)) (m ((c.tc : Thread Cert.ReferenceSbIdeal.nD Cert.ReferenceSbIdeal.τ).loc Cert.ReferenceSbIdeal.main_arg2)) (m ((c.tc : Thread Cert.ReferenceSbIdeal.nD Cert.ReferenceSbIdeal.τ).loc Cert.ReferenceSbIdeal.main_arg3))) = (fun _ => 1#1)

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def Pre_KernelFoxIdeal_finite_fox [hPre_finite_fox : Cert.Pre_finite_fox.Facts] (m : (ℓ : Loc Cert.KernelFoxIdeal.nD Cert.KernelFoxIdeal.τ Cert.KernelFoxIdeal.sig) → Buf (Elt Ideal) ℓ) : Prop :=
  ∀ c : Dev Cert.KernelFoxIdeal.nD,
    (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3)) (m ((c.tc : Thread Cert.KernelFoxIdeal.nD Cert.KernelFoxIdeal.τ).loc Cert.KernelFoxIdeal.main_arg4))) = (fun _ => 1#1)

def Pre_ReferenceFoxIdeal (m : (ℓ : Loc Cert.ReferenceFoxIdeal.nD Cert.ReferenceFoxIdeal.τ Cert.ReferenceFoxIdeal.sig) → Buf (Elt Ideal) ℓ) : Prop :=
  True

def Pre_ReferenceFoxIdeal_finite_fox [hPre_finite_fox : Cert.Pre_finite_fox.Facts] (m : (ℓ : Loc Cert.ReferenceFoxIdeal.nD Cert.ReferenceFoxIdeal.τ Cert.ReferenceFoxIdeal.sig) → Buf (Elt Ideal) ℓ) : Prop :=
  ∀ c : Dev Cert.ReferenceFoxIdeal.nD,
    (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3)) (m ((c.tc : Thread Cert.ReferenceFoxIdeal.nD Cert.ReferenceFoxIdeal.τ).loc Cert.ReferenceFoxIdeal.main_arg4))) = (fun _ => 1#1)

def Pre_KernelEven (m : (ℓ : Loc Cert.KernelEven.nD Cert.KernelEven.τ Cert.KernelEven.sig) → Buf (Elt Bits) ℓ) : Prop :=
  True

def Pre_KernelEvenIdeal (m : (ℓ : Loc Cert.KernelEvenIdeal.nD Cert.KernelEvenIdeal.τ Cert.KernelEvenIdeal.sig) → Buf (Elt Ideal) ℓ) : Prop :=
  True

def Pre_KernelEvenIdeal_finite_even [hPre_finite_even : Cert.Pre_finite_even.Facts] (m : (ℓ : Loc Cert.KernelEvenIdeal.nD Cert.KernelEvenIdeal.τ Cert.KernelEvenIdeal.sig) → Buf (Elt Ideal) ℓ) : Prop :=
  ∀ c : Dev Cert.KernelEvenIdeal.nD,
    (Cert.Pre_finite_even.fn (F := Ideal) (m ((c.tc : Thread Cert.KernelEvenIdeal.nD Cert.KernelEvenIdeal.τ).loc Cert.KernelEvenIdeal.main_arg0)) (m ((c.tc : Thread Cert.KernelEvenIdeal.nD Cert.KernelEvenIdeal.τ).loc Cert.KernelEvenIdeal.main_arg1)) (m ((c.tc : Thread Cert.KernelEvenIdeal.nD Cert.KernelEvenIdeal.τ).loc Cert.KernelEvenIdeal.main_arg2)) (m ((c.tc : Thread Cert.KernelEvenIdeal.nD Cert.KernelEvenIdeal.τ).loc Cert.KernelEvenIdeal.main_arg3)) (m ((c.tc : Thread Cert.KernelEvenIdeal.nD Cert.KernelEvenIdeal.τ).loc Cert.KernelEvenIdeal.main_arg4))) = (fun _ => 1#1)

def Pre_ReferenceEvenIdeal (m : (ℓ : Loc Cert.ReferenceEvenIdeal.nD Cert.ReferenceEvenIdeal.τ Cert.ReferenceEvenIdeal.sig) → Buf (Elt Ideal) ℓ) : Prop :=
  True

def Pre_ReferenceEvenIdeal_finite_even [hPre_finite_even : Cert.Pre_finite_even.Facts] (m : (ℓ : Loc Cert.ReferenceEvenIdeal.nD Cert.ReferenceEvenIdeal.τ Cert.ReferenceEvenIdeal.sig) → Buf (Elt Ideal) ℓ) : Prop :=
  ∀ c : Dev Cert.ReferenceEvenIdeal.nD,
    (Cert.Pre_finite_even.fn (F := Ideal) (m ((c.tc : Thread Cert.ReferenceEvenIdeal.nD Cert.ReferenceEvenIdeal.τ).loc Cert.ReferenceEvenIdeal.main_arg0)) (m ((c.tc : Thread Cert.ReferenceEvenIdeal.nD Cert.ReferenceEvenIdeal.τ).loc Cert.ReferenceEvenIdeal.main_arg1)) (m ((c.tc : Thread Cert.ReferenceEvenIdeal.nD Cert.ReferenceEvenIdeal.τ).loc Cert.ReferenceEvenIdeal.main_arg2)) (m ((c.tc : Thread Cert.ReferenceEvenIdeal.nD Cert.ReferenceEvenIdeal.τ).loc Cert.ReferenceEvenIdeal.main_arg3)) (m ((c.tc : Thread Cert.ReferenceEvenIdeal.nD Cert.ReferenceEvenIdeal.τ).loc Cert.ReferenceEvenIdeal.main_arg4))) = (fun _ => 1#1)

def Pre_KernelFoxfwd (m : (ℓ : Loc Cert.KernelFoxfwd.nD Cert.KernelFoxfwd.τ Cert.KernelFoxfwd.sig) → Buf (Elt Bits) ℓ) : Prop :=
  True

def Pre_KernelFoxfwdIdeal (m : (ℓ : Loc Cert.KernelFoxfwdIdeal.nD Cert.KernelFoxfwdIdeal.τ Cert.KernelFoxfwdIdeal.sig) → Buf (Elt Ideal) ℓ) : Prop :=
  True

def Pre_KernelFoxfwdIdeal_finite_foxfwd [hPre_finite_foxfwd : Cert.Pre_finite_foxfwd.Facts] (m : (ℓ : Loc Cert.KernelFoxfwdIdeal.nD Cert.KernelFoxfwdIdeal.τ Cert.KernelFoxfwdIdeal.sig) → Buf (Elt Ideal) ℓ) : Prop :=
  ∀ c : Dev Cert.KernelFoxfwdIdeal.nD,
    (Cert.Pre_finite_foxfwd.fn (F := Ideal) (m ((c.tc : Thread Cert.KernelFoxfwdIdeal.nD Cert.KernelFoxfwdIdeal.τ).loc Cert.KernelFoxfwdIdeal.main_arg0)) (m ((c.tc : Thread Cert.KernelFoxfwdIdeal.nD Cert.KernelFoxfwdIdeal.τ).loc Cert.KernelFoxfwdIdeal.main_arg1)) (m ((c.tc : Thread Cert.KernelFoxfwdIdeal.nD Cert.KernelFoxfwdIdeal.τ).loc Cert.KernelFoxfwdIdeal.main_arg2)) (m ((c.tc : Thread Cert.KernelFoxfwdIdeal.nD Cert.KernelFoxfwdIdeal.τ).loc Cert.KernelFoxfwdIdeal.main_arg3))) = (fun _ => 1#1)

def Pre_ReferenceFoxfwdIdeal (m : (ℓ : Loc Cert.ReferenceFoxfwdIdeal.nD Cert.ReferenceFoxfwdIdeal.τ Cert.ReferenceFoxfwdIdeal.sig) → Buf (Elt Ideal) ℓ) : Prop :=
  True

def Pre_ReferenceFoxfwdIdeal_finite_foxfwd [hPre_finite_foxfwd : Cert.Pre_finite_foxfwd.Facts] (m : (ℓ : Loc Cert.ReferenceFoxfwdIdeal.nD Cert.ReferenceFoxfwdIdeal.τ Cert.ReferenceFoxfwdIdeal.sig) → Buf (Elt Ideal) ℓ) : Prop :=
  ∀ c : Dev Cert.ReferenceFoxfwdIdeal.nD,
    (Cert.Pre_finite_foxfwd.fn (F := Ideal) (m ((c.tc : Thread Cert.ReferenceFoxfwdIdeal.nD Cert.ReferenceFoxfwdIdeal.τ).loc Cert.ReferenceFoxfwdIdeal.main_arg0)) (m ((c.tc : Thread Cert.ReferenceFoxfwdIdeal.nD Cert.ReferenceFoxfwdIdeal.τ).loc Cert.ReferenceFoxfwdIdeal.main_arg1)) (m ((c.tc : Thread Cert.ReferenceFoxfwdIdeal.nD Cert.ReferenceFoxfwdIdeal.τ).loc Cert.ReferenceFoxfwdIdeal.main_arg2)) (m ((c.tc : Thread Cert.ReferenceFoxfwdIdeal.nD Cert.ReferenceFoxfwdIdeal.τ).loc Cert.ReferenceFoxfwdIdeal.main_arg3))) = (fun _ => 1#1)

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_KernelGateIdeal_finite_gate [hPre_finite_gate : Cert.Pre_finite_gate.Facts] (m : (ℓ : Loc Cert.KernelGateIdeal.nD Cert.KernelGateIdeal.τ Cert.KernelGateIdeal.sig) → Buf (Elt Ideal) ℓ) : Prop :=
  ∀ c : Dev Cert.KernelGateIdeal.nD,
    (Cert.Pre_finite_gate.fn (F := Ideal) (m ((c.tc : Thread Cert.KernelGateIdeal.nD Cert.KernelGateIdeal.τ).loc Cert.KernelGateIdeal.main_arg0)) (m ((c.tc : Thread Cert.KernelGateIdeal.nD Cert.KernelGateIdeal.τ).loc Cert.KernelGateIdeal.main_arg1))) = (fun _ => 1#1)

def Pre_ReferenceGateIdeal (m : (ℓ : Loc Cert.ReferenceGateIdeal.nD Cert.ReferenceGateIdeal.τ Cert.ReferenceGateIdeal.sig) → Buf (Elt Ideal) ℓ) : Prop :=
  True

def Pre_ReferenceGateIdeal_finite_gate [hPre_finite_gate : Cert.Pre_finite_gate.Facts] (m : (ℓ : Loc Cert.ReferenceGateIdeal.nD Cert.ReferenceGateIdeal.τ Cert.ReferenceGateIdeal.sig) → Buf (Elt Ideal) ℓ) : Prop :=
  ∀ c : Dev Cert.ReferenceGateIdeal.nD,
    (Cert.Pre_finite_gate.fn (F := Ideal) (m ((c.tc : Thread Cert.ReferenceGateIdeal.nD Cert.ReferenceGateIdeal.τ).loc Cert.ReferenceGateIdeal.main_arg0)) (m ((c.tc : Thread Cert.ReferenceGateIdeal.nD Cert.ReferenceGateIdeal.τ).loc Cert.ReferenceGateIdeal.main_arg1))) = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def quiescent_KernelSwiglu [hKernelSwiglu : Cert.KernelSwiglu.Facts] : Prop :=
  ∀ (m : (ℓ : Loc Cert.KernelSwiglu.nD Cert.KernelSwiglu.τ Cert.KernelSwiglu.sig) → Buf (Elt Bits) ℓ) (g : Dev Cert.KernelSwiglu.nD → PrngReg), Pre_KernelSwiglu m →
    θ_run (Cert.KernelSwiglu.defs (F := Bits)) (onTc (τ := Cert.KernelSwiglu.τ) (Cert.KernelSwiglu.main (F := Bits))) ⟨m, fun _ => 0, g⟩ (fun r => (∀ c : Dev Cert.KernelSwiglu.nD,
      r.2.mem ((c.tc : Thread Cert.KernelSwiglu.nD Cert.KernelSwiglu.τ).loc Cert.KernelSwiglu.main_arg0) = m ((c.tc : Thread Cert.KernelSwiglu.nD Cert.KernelSwiglu.τ).loc Cert.KernelSwiglu.main_arg0)
      ∧ r.2.mem ((c.tc : Thread Cert.KernelSwiglu.nD Cert.KernelSwiglu.τ).loc Cert.KernelSwiglu.main_arg1) = m ((c.tc : Thread Cert.KernelSwiglu.nD Cert.KernelSwiglu.τ).loc Cert.KernelSwiglu.main_arg1)
      ∧ r.2.mem ((c.tc : Thread Cert.KernelSwiglu.nD Cert.KernelSwiglu.τ).loc Cert.KernelSwiglu.main_arg2) = m ((c.tc : Thread Cert.KernelSwiglu.nD Cert.KernelSwiglu.τ).loc Cert.KernelSwiglu.main_arg2))
      ∧ r.2.sem = fun _ => 0)

def quiescent_KernelSwigluIdeal [hKernelSwigluIdeal : Cert.KernelSwigluIdeal.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ r.2.sem = fun _ => 0)

def quiescent_KernelSwigluIdeal_pre_finite_swiglu [hKernelSwigluIdeal : Cert.KernelSwigluIdeal.Facts] [hPre_finite_swiglu : Cert.Pre_finite_swiglu.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg), Pre_KernelSwigluIdeal_finite_swiglu m →
    θ_run (Cert.KernelSwigluIdeal.defs (F := Ideal)) (onTc (τ := Cert.KernelSwigluIdeal.τ) (Cert.KernelSwigluIdeal.main (F := Ideal))) ⟨m, fun _ => 0, g⟩ (fun r => (∀ c : Dev Cert.KernelSwigluIdeal.nD,
      r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
      ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
      ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ r.2.sem = fun _ => 0)

def quiescent_ReferenceSwigluIdeal [hReferenceSwigluIdeal : Cert.ReferenceSwigluIdeal.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2))
      ∧ r.2.sem = fun _ => 0)

def quiescent_ReferenceSwigluIdeal_pre_finite_swiglu [hReferenceSwigluIdeal : Cert.ReferenceSwigluIdeal.Facts] [hPre_finite_swiglu : Cert.Pre_finite_swiglu.Facts] : Prop :=
  ∀ (m : (ℓ : Loc Cert.ReferenceSwigluIdeal.nD Cert.ReferenceSwigluIdeal.τ Cert.ReferenceSwigluIdeal.sig) → Buf (Elt Ideal) ℓ) (g : Dev Cert.ReferenceSwigluIdeal.nD → PrngReg), Pre_ReferenceSwigluIdeal_finite_swiglu m →
    θ_run (Cert.ReferenceSwigluIdeal.defs (F := Ideal)) (onTc (τ := Cert.ReferenceSwigluIdeal.τ) (Cert.ReferenceSwigluIdeal.main (F := Ideal))) ⟨m, fun _ => 0, g⟩ (fun r => (∀ c : Dev Cert.ReferenceSwigluIdeal.nD,
      r.2.mem ((c.tc : Thread Cert.ReferenceSwigluIdeal.nD Cert.ReferenceSwigluIdeal.τ).loc Cert.ReferenceSwigluIdeal.main_arg0) = m ((c.tc : Thread Cert.ReferenceSwigluIdeal.nD Cert.ReferenceSwigluIdeal.τ).loc Cert.ReferenceSwigluIdeal.main_arg0)
      ∧ r.2.mem ((c.tc : Thread Cert.ReferenceSwigluIdeal.nD Cert.ReferenceSwigluIdeal.τ).loc Cert.ReferenceSwigluIdeal.main_arg1) = m ((c.tc : Thread Cert.ReferenceSwigluIdeal.nD Cert.ReferenceSwigluIdeal.τ).loc Cert.ReferenceSwigluIdeal.main_arg1)
      ∧ r.2.mem ((c.tc : Thread Cert.ReferenceSwigluIdeal.nD Cert.ReferenceSwigluIdeal.τ).loc Cert.ReferenceSwigluIdeal.main_arg2) = m ((c.tc : Thread Cert.ReferenceSwigluIdeal.nD Cert.ReferenceSwigluIdeal.τ).loc Cert.ReferenceSwigluIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelForget [hKernelForget : Cert.KernelForget.Facts] : Prop :=
  ∀ (m : (ℓ : Loc Cert.KernelForget.nD Cert.KernelForget.τ Cert.KernelForget.sig) → Buf (Elt Bits) ℓ) (g : Dev Cert.KernelForget.nD → PrngReg), Pre_KernelForget m →
    θ_run (Cert.KernelForget.defs (F := Bits)) (onTc (τ := Cert.KernelForget.τ) (Cert.KernelForget.main (F := Bits))) ⟨m, fun _ => 0, g⟩ (fun r => (∀ c : Dev Cert.KernelForget.nD,
      r.2.mem ((c.tc : Thread Cert.KernelForget.nD Cert.KernelForget.τ).loc Cert.KernelForget.main_arg0) = m ((c.tc : Thread Cert.KernelForget.nD Cert.KernelForget.τ).loc Cert.KernelForget.main_arg0)
      ∧ r.2.mem ((c.tc : Thread Cert.KernelForget.nD Cert.KernelForget.τ).loc Cert.KernelForget.main_arg1) = m ((c.tc : Thread Cert.KernelForget.nD Cert.KernelForget.τ).loc Cert.KernelForget.main_arg1)
      ∧ r.2.mem ((c.tc : Thread Cert.KernelForget.nD Cert.KernelForget.τ).loc Cert.KernelForget.main_arg2) = m ((c.tc : Thread Cert.KernelForget.nD Cert.KernelForget.τ).loc Cert.KernelForget.main_arg2))
      ∧ r.2.sem = fun _ => 0)

def quiescent_KernelForgetIdeal [hKernelForgetIdeal : Cert.KernelForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
      ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ r.2.sem = fun _ => 0)

def quiescent_KernelForgetIdeal_pre_finite_forget [hKernelForgetIdeal : Cert.KernelForgetIdeal.Facts] [hPre_finite_forget : Cert.Pre_finite_forget.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal_finite_forget m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
      ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ r.2.sem = fun _ => 0)

def quiescent_ReferenceForgetIdeal [hReferenceForgetIdeal : Cert.ReferenceForgetIdeal.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1)
      ∧ r.2.mem ((c.tc : Thread Cert.ReferenceForgetIdeal.nD Cert.ReferenceForgetIdeal.τ).loc Cert.ReferenceForgetIdeal.main_arg2) = m ((c.tc : Thread Cert.ReferenceForgetIdeal.nD Cert.ReferenceForgetIdeal.τ).loc Cert.ReferenceForgetIdeal.main_arg2))
      ∧ r.2.sem = fun _ => 0)

def quiescent_ReferenceForgetIdeal_pre_finite_forget [hReferenceForgetIdeal : Cert.ReferenceForgetIdeal.Facts] [hPre_finite_forget : Cert.Pre_finite_forget.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal_finite_forget m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1)
      ∧ r.2.mem ((c.tc : Thread Cert.ReferenceForgetIdeal.nD Cert.ReferenceForgetIdeal.τ).loc Cert.ReferenceForgetIdeal.main_arg2) = m ((c.tc : Thread Cert.ReferenceForgetIdeal.nD Cert.ReferenceForgetIdeal.τ).loc Cert.ReferenceForgetIdeal.main_arg2))
      ∧ r.2.sem = fun _ => 0)

def quiescent_KernelSb [hKernelSb : Cert.KernelSb.Facts] : Prop :=
  ∀ (m : (ℓ : Loc Cert.KernelSb.nD Cert.KernelSb.τ Cert.KernelSb.sig) → Buf (Elt Bits) ℓ) (g : Dev Cert.KernelSb.nD → PrngReg), Pre_KernelSb m →
    θ_run (Cert.KernelSb.defs (F := Bits)) (onTc (τ := Cert.KernelSb.τ) (Cert.KernelSb.main (F := Bits))) ⟨m, fun _ => 0, g⟩ (fun r => (∀ c : Dev Cert.KernelSb.nD,
      r.2.mem ((c.tc : Thread Cert.KernelSb.nD Cert.KernelSb.τ).loc Cert.KernelSb.main_arg0) = m ((c.tc : Thread Cert.KernelSb.nD Cert.KernelSb.τ).loc Cert.KernelSb.main_arg0)
      ∧ r.2.mem ((c.tc : Thread Cert.KernelSb.nD Cert.KernelSb.τ).loc Cert.KernelSb.main_arg1) = m ((c.tc : Thread Cert.KernelSb.nD Cert.KernelSb.τ).loc Cert.KernelSb.main_arg1)
      ∧ r.2.mem ((c.tc : Thread Cert.KernelSb.nD Cert.KernelSb.τ).loc Cert.KernelSb.main_arg2) = m ((c.tc : Thread Cert.KernelSb.nD Cert.KernelSb.τ).loc Cert.KernelSb.main_arg2)
      ∧ r.2.mem ((c.tc : Thread Cert.KernelSb.nD Cert.KernelSb.τ).loc Cert.KernelSb.main_arg3) = m ((c.tc : Thread Cert.KernelSb.nD Cert.KernelSb.τ).loc Cert.KernelSb.main_arg3))
      ∧ r.2.sem = fun _ => 0)

def quiescent_KernelSbIdeal [hKernelSbIdeal : Cert.KernelSbIdeal.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2)
      ∧ r.2.mem ((c.tc : Thread Cert.KernelSbIdeal.nD Cert.KernelSbIdeal.τ).loc Cert.KernelSbIdeal.main_arg3) = m ((c.tc : Thread Cert.KernelSbIdeal.nD Cert.KernelSbIdeal.τ).loc Cert.KernelSbIdeal.main_arg3))
      ∧ r.2.sem = fun _ => 0)

def quiescent_KernelSbIdeal_pre_finite_sb [hKernelSbIdeal : Cert.KernelSbIdeal.Facts] [hPre_finite_sb : Cert.Pre_finite_sb.Facts] : Prop :=
  ∀ (m : (ℓ : Loc Cert.KernelSbIdeal.nD Cert.KernelSbIdeal.τ Cert.KernelSbIdeal.sig) → Buf (Elt Ideal) ℓ) (g : Dev Cert.KernelSbIdeal.nD → PrngReg), Pre_KernelSbIdeal_finite_sb m →
    θ_run (Cert.KernelSbIdeal.defs (F := Ideal)) (onTc (τ := Cert.KernelSbIdeal.τ) (Cert.KernelSbIdeal.main (F := Ideal))) ⟨m, fun _ => 0, g⟩ (fun r => (∀ c : Dev Cert.KernelSbIdeal.nD,
      r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
      ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
      ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2)
      ∧ r.2.mem ((c.tc : Thread Cert.KernelSbIdeal.nD Cert.KernelSbIdeal.τ).loc Cert.KernelSbIdeal.main_arg3) = m ((c.tc : Thread Cert.KernelSbIdeal.nD Cert.KernelSbIdeal.τ).loc Cert.KernelSbIdeal.main_arg3))
      ∧ r.2.sem = fun _ => 0)

def quiescent_ReferenceSbIdeal [hReferenceSbIdeal : Cert.ReferenceSbIdeal.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2)
      ∧ r.2.mem ((c.tc : Thread Cert.ReferenceSbIdeal.nD Cert.ReferenceSbIdeal.τ).loc Cert.ReferenceSbIdeal.main_arg3) = m ((c.tc : Thread Cert.ReferenceSbIdeal.nD Cert.ReferenceSbIdeal.τ).loc Cert.ReferenceSbIdeal.main_arg3))
      ∧ r.2.sem = fun _ => 0)

def quiescent_ReferenceSbIdeal_pre_finite_sb [hReferenceSbIdeal : Cert.ReferenceSbIdeal.Facts] [hPre_finite_sb : Cert.Pre_finite_sb.Facts] : Prop :=
  ∀ (m : (ℓ : Loc Cert.ReferenceSbIdeal.nD Cert.ReferenceSbIdeal.τ Cert.ReferenceSbIdeal.sig) → Buf (Elt Ideal) ℓ) (g : Dev Cert.ReferenceSbIdeal.nD → PrngReg), Pre_ReferenceSbIdeal_finite_sb m →
    θ_run (Cert.ReferenceSbIdeal.defs (F := Ideal)) (onTc (τ := Cert.ReferenceSbIdeal.τ) (Cert.ReferenceSbIdeal.main (F := Ideal))) ⟨m, fun _ => 0, g⟩ (fun r => (∀ c : Dev Cert.ReferenceSbIdeal.nD,
      r.2.mem ((c.tc : Thread Cert.ReferenceSbIdeal.nD Cert.ReferenceSbIdeal.τ).loc Cert.ReferenceSbIdeal.main_arg0) = m ((c.tc : Thread Cert.ReferenceSbIdeal.nD Cert.ReferenceSbIdeal.τ).loc Cert.ReferenceSbIdeal.main_arg0)
      ∧ r.2.mem ((c.tc : Thread Cert.ReferenceSbIdeal.nD Cert.ReferenceSbIdeal.τ).loc Cert.ReferenceSbIdeal.main_arg1) = m ((c.tc : Thread Cert.ReferenceSbIdeal.nD Cert.ReferenceSbIdeal.τ).loc Cert.ReferenceSbIdeal.main_arg1)
      ∧ r.2.mem ((c.tc : Thread Cert.ReferenceSbIdeal.nD Cert.ReferenceSbIdeal.τ).loc Cert.ReferenceSbIdeal.main_arg2) = m ((c.tc : Thread Cert.ReferenceSbIdeal.nD Cert.ReferenceSbIdeal.τ).loc Cert.ReferenceSbIdeal.main_arg2)
      ∧ r.2.mem ((c.tc : Thread Cert.ReferenceSbIdeal.nD Cert.ReferenceSbIdeal.τ).loc Cert.ReferenceSbIdeal.main_arg3) = m ((c.tc : Thread Cert.ReferenceSbIdeal.nD Cert.ReferenceSbIdeal.τ).loc Cert.ReferenceSbIdeal.main_arg3))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1)
      ∧ r.2.mem ((c.tc : Thread Cert.KernelFox.nD Cert.KernelFox.τ).loc Cert.KernelFox.main_arg2) = m ((c.tc : Thread Cert.KernelFox.nD Cert.KernelFox.τ).loc Cert.KernelFox.main_arg2)
      ∧ r.2.mem ((c.tc : Thread Cert.KernelFox.nD Cert.KernelFox.τ).loc Cert.KernelFox.main_arg3) = m ((c.tc : Thread Cert.KernelFox.nD Cert.KernelFox.τ).loc Cert.KernelFox.main_arg3)
      ∧ r.2.mem ((c.tc : Thread Cert.KernelFox.nD Cert.KernelFox.τ).loc Cert.KernelFox.main_arg4) = m ((c.tc : Thread Cert.KernelFox.nD Cert.KernelFox.τ).loc Cert.KernelFox.main_arg4))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ r.2.sem = fun _ => 0)

def quiescent_KernelFoxIdeal_pre_finite_fox [hKernelFoxIdeal : Cert.KernelFoxIdeal.Facts] [hPre_finite_fox : Cert.Pre_finite_fox.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal_finite_fox m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
      ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ r.2.sem = fun _ => 0)

def quiescent_ReferenceFoxIdeal [hReferenceFoxIdeal : Cert.ReferenceFoxIdeal.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3)
      ∧ r.2.mem ((c.tc : Thread Cert.ReferenceFoxIdeal.nD Cert.ReferenceFoxIdeal.τ).loc Cert.ReferenceFoxIdeal.main_arg4) = m ((c.tc : Thread Cert.ReferenceFoxIdeal.nD Cert.ReferenceFoxIdeal.τ).loc Cert.ReferenceFoxIdeal.main_arg4))
      ∧ r.2.sem = fun _ => 0)

def quiescent_ReferenceFoxIdeal_pre_finite_fox [hReferenceFoxIdeal : Cert.ReferenceFoxIdeal.Facts] [hPre_finite_fox : Cert.Pre_finite_fox.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal_finite_fox m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3)
      ∧ r.2.mem ((c.tc : Thread Cert.ReferenceFoxIdeal.nD Cert.ReferenceFoxIdeal.τ).loc Cert.ReferenceFoxIdeal.main_arg4) = m ((c.tc : Thread Cert.ReferenceFoxIdeal.nD Cert.ReferenceFoxIdeal.τ).loc Cert.ReferenceFoxIdeal.main_arg4))
      ∧ r.2.sem = fun _ => 0)

def quiescent_KernelEven [hKernelEven : Cert.KernelEven.Facts] : Prop :=
  ∀ (m : (ℓ : Loc Cert.KernelEven.nD Cert.KernelEven.τ Cert.KernelEven.sig) → Buf (Elt Bits) ℓ) (g : Dev Cert.KernelEven.nD → PrngReg), Pre_KernelEven m →
    θ_run (Cert.KernelEven.defs (F := Bits)) (onTc (τ := Cert.KernelEven.τ) (Cert.KernelEven.main (F := Bits))) ⟨m, fun _ => 0, g⟩ (fun r => (∀ c : Dev Cert.KernelEven.nD,
      r.2.mem ((c.tc : Thread Cert.KernelEven.nD Cert.KernelEven.τ).loc Cert.KernelEven.main_arg0) = m ((c.tc : Thread Cert.KernelEven.nD Cert.KernelEven.τ).loc Cert.KernelEven.main_arg0)
      ∧ r.2.mem ((c.tc : Thread Cert.KernelEven.nD Cert.KernelEven.τ).loc Cert.KernelEven.main_arg1) = m ((c.tc : Thread Cert.KernelEven.nD Cert.KernelEven.τ).loc Cert.KernelEven.main_arg1)
      ∧ r.2.mem ((c.tc : Thread Cert.KernelEven.nD Cert.KernelEven.τ).loc Cert.KernelEven.main_arg2) = m ((c.tc : Thread Cert.KernelEven.nD Cert.KernelEven.τ).loc Cert.KernelEven.main_arg2)
      ∧ r.2.mem ((c.tc : Thread Cert.KernelEven.nD Cert.KernelEven.τ).loc Cert.KernelEven.main_arg3) = m ((c.tc : Thread Cert.KernelEven.nD Cert.KernelEven.τ).loc Cert.KernelEven.main_arg3)
      ∧ r.2.mem ((c.tc : Thread Cert.KernelEven.nD Cert.KernelEven.τ).loc Cert.KernelEven.main_arg4) = m ((c.tc : Thread Cert.KernelEven.nD Cert.KernelEven.τ).loc Cert.KernelEven.main_arg4))
      ∧ r.2.sem = fun _ => 0)

def quiescent_KernelEvenIdeal [hKernelEvenIdeal : Cert.KernelEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
      ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
      ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4))
      ∧ r.2.sem = fun _ => 0)

def quiescent_KernelEvenIdeal_pre_finite_even [hKernelEvenIdeal : Cert.KernelEvenIdeal.Facts] [hPre_finite_even : Cert.Pre_finite_even.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal_finite_even m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
      ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
      ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3)
      ∧ r.2.mem ((c.tc : Thread Cert.ReferenceEvenIdeal.nD Cert.ReferenceEvenIdeal.τ).loc Cert.ReferenceEvenIdeal.main_arg4) = m ((c.tc : Thread Cert.ReferenceEvenIdeal.nD Cert.ReferenceEvenIdeal.τ).loc Cert.ReferenceEvenIdeal.main_arg4))
      ∧ r.2.sem = fun _ => 0)

def quiescent_ReferenceEvenIdeal_pre_finite_even [hReferenceEvenIdeal : Cert.ReferenceEvenIdeal.Facts] [hPre_finite_even : Cert.Pre_finite_even.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal_finite_even m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3)
      ∧ r.2.mem ((c.tc : Thread Cert.ReferenceEvenIdeal.nD Cert.ReferenceEvenIdeal.τ).loc Cert.ReferenceEvenIdeal.main_arg4) = m ((c.tc : Thread Cert.ReferenceEvenIdeal.nD Cert.ReferenceEvenIdeal.τ).loc Cert.ReferenceEvenIdeal.main_arg4))
      ∧ r.2.sem = fun _ => 0)

def quiescent_KernelFoxfwd [hKernelFoxfwd : Cert.KernelFoxfwd.Facts] : Prop :=
  ∀ (m : (ℓ : Loc Cert.KernelFoxfwd.nD Cert.KernelFoxfwd.τ Cert.KernelFoxfwd.sig) → Buf (Elt Bits) ℓ) (g : Dev Cert.KernelFoxfwd.nD → PrngReg), Pre_KernelFoxfwd m →
    θ_run (Cert.KernelFoxfwd.defs (F := Bits)) (onTc (τ := Cert.KernelFoxfwd.τ) (Cert.KernelFoxfwd.main (F := Bits))) ⟨m, fun _ => 0, g⟩ (fun r => (∀ c : Dev Cert.KernelFoxfwd.nD,
      r.2.mem ((c.tc : Thread Cert.KernelFoxfwd.nD Cert.KernelFoxfwd.τ).loc Cert.KernelFoxfwd.main_arg0) = m ((c.tc : Thread Cert.KernelFoxfwd.nD Cert.KernelFoxfwd.τ).loc Cert.KernelFoxfwd.main_arg0)
      ∧ r.2.mem ((c.tc : Thread Cert.KernelFoxfwd.nD Cert.KernelFoxfwd.τ).loc Cert.KernelFoxfwd.main_arg1) = m ((c.tc : Thread Cert.KernelFoxfwd.nD Cert.KernelFoxfwd.τ).loc Cert.KernelFoxfwd.main_arg1)
      ∧ r.2.mem ((c.tc : Thread Cert.KernelFoxfwd.nD Cert.KernelFoxfwd.τ).loc Cert.KernelFoxfwd.main_arg2) = m ((c.tc : Thread Cert.KernelFoxfwd.nD Cert.KernelFoxfwd.τ).loc Cert.KernelFoxfwd.main_arg2)
      ∧ r.2.mem ((c.tc : Thread Cert.KernelFoxfwd.nD Cert.KernelFoxfwd.τ).loc Cert.KernelFoxfwd.main_arg3) = m ((c.tc : Thread Cert.KernelFoxfwd.nD Cert.KernelFoxfwd.τ).loc Cert.KernelFoxfwd.main_arg3))
      ∧ r.2.sem = fun _ => 0)

def quiescent_KernelFoxfwdIdeal [hKernelFoxfwdIdeal : Cert.KernelFoxfwdIdeal.Facts] : Prop :=
  ∀ (m : (ℓ : Loc Cert.KernelFoxfwdIdeal.nD Cert.KernelFoxfwdIdeal.τ Cert.KernelFoxfwdIdeal.sig) → Buf (Elt Ideal) ℓ) (g : Dev Cert.KernelFoxfwdIdeal.nD → PrngReg), Pre_KernelFoxfwdIdeal m →
    θ_run (Cert.KernelFoxfwdIdeal.defs (F := Ideal)) (onTc (τ := Cert.KernelFoxfwdIdeal.τ) (Cert.KernelFoxfwdIdeal.main (F := Ideal))) ⟨m, fun _ => 0, g⟩ (fun r => (∀ c : Dev Cert.KernelFoxfwdIdeal.nD,
      r.2.mem ((c.tc : Thread Cert.KernelFoxfwdIdeal.nD Cert.KernelFoxfwdIdeal.τ).loc Cert.KernelFoxfwdIdeal.main_arg0) = m ((c.tc : Thread Cert.KernelFoxfwdIdeal.nD Cert.KernelFoxfwdIdeal.τ).loc Cert.KernelFoxfwdIdeal.main_arg0)
      ∧ r.2.mem ((c.tc : Thread Cert.KernelFoxfwdIdeal.nD Cert.KernelFoxfwdIdeal.τ).loc Cert.KernelFoxfwdIdeal.main_arg1) = m ((c.tc : Thread Cert.KernelFoxfwdIdeal.nD Cert.KernelFoxfwdIdeal.τ).loc Cert.KernelFoxfwdIdeal.main_arg1)
      ∧ r.2.mem ((c.tc : Thread Cert.KernelFoxfwdIdeal.nD Cert.KernelFoxfwdIdeal.τ).loc Cert.KernelFoxfwdIdeal.main_arg2) = m ((c.tc : Thread Cert.KernelFoxfwdIdeal.nD Cert.KernelFoxfwdIdeal.τ).loc Cert.KernelFoxfwdIdeal.main_arg2)
      ∧ r.2.mem ((c.tc : Thread Cert.KernelFoxfwdIdeal.nD Cert.KernelFoxfwdIdeal.τ).loc Cert.KernelFoxfwdIdeal.main_arg3) = m ((c.tc : Thread Cert.KernelFoxfwdIdeal.nD Cert.KernelFoxfwdIdeal.τ).loc Cert.KernelFoxfwdIdeal.main_arg3))
      ∧ r.2.sem = fun _ => 0)

def quiescent_KernelFoxfwdIdeal_pre_finite_foxfwd [hKernelFoxfwdIdeal : Cert.KernelFoxfwdIdeal.Facts] [hPre_finite_foxfwd : Cert.Pre_finite_foxfwd.Facts] : Prop :=
  ∀ (m : (ℓ : Loc Cert.KernelFoxfwdIdeal.nD Cert.KernelFoxfwdIdeal.τ Cert.KernelFoxfwdIdeal.sig) → Buf (Elt Ideal) ℓ) (g : Dev Cert.KernelFoxfwdIdeal.nD → PrngReg), Pre_KernelFoxfwdIdeal_finite_foxfwd m →
    θ_run (Cert.KernelFoxfwdIdeal.defs (F := Ideal)) (onTc (τ := Cert.KernelFoxfwdIdeal.τ) (Cert.KernelFoxfwdIdeal.main (F := Ideal))) ⟨m, fun _ => 0, g⟩ (fun r => (∀ c : Dev Cert.KernelFoxfwdIdeal.nD,
      r.2.mem ((c.tc : Thread Cert.KernelFoxfwdIdeal.nD Cert.KernelFoxfwdIdeal.τ).loc Cert.KernelFoxfwdIdeal.main_arg0) = m ((c.tc : Thread Cert.KernelFoxfwdIdeal.nD Cert.KernelFoxfwdIdeal.τ).loc Cert.KernelFoxfwdIdeal.main_arg0)
      ∧ r.2.mem ((c.tc : Thread Cert.KernelFoxfwdIdeal.nD Cert.KernelFoxfwdIdeal.τ).loc Cert.KernelFoxfwdIdeal.main_arg1) = m ((c.tc : Thread Cert.KernelFoxfwdIdeal.nD Cert.KernelFoxfwdIdeal.τ).loc Cert.KernelFoxfwdIdeal.main_arg1)
      ∧ r.2.mem ((c.tc : Thread Cert.KernelFoxfwdIdeal.nD Cert.KernelFoxfwdIdeal.τ).loc Cert.KernelFoxfwdIdeal.main_arg2) = m ((c.tc : Thread Cert.KernelFoxfwdIdeal.nD Cert.KernelFoxfwdIdeal.τ).loc Cert.KernelFoxfwdIdeal.main_arg2)
      ∧ r.2.mem ((c.tc : Thread Cert.KernelFoxfwdIdeal.nD Cert.KernelFoxfwdIdeal.τ).loc Cert.KernelFoxfwdIdeal.main_arg3) = m ((c.tc : Thread Cert.KernelFoxfwdIdeal.nD Cert.KernelFoxfwdIdeal.τ).loc Cert.KernelFoxfwdIdeal.main_arg3))
      ∧ r.2.sem = fun _ => 0)

def quiescent_ReferenceFoxfwdIdeal [hReferenceFoxfwdIdeal : Cert.ReferenceFoxfwdIdeal.Facts] : Prop :=
  ∀ (m : (ℓ : Loc Cert.ReferenceFoxfwdIdeal.nD Cert.ReferenceFoxfwdIdeal.τ Cert.ReferenceFoxfwdIdeal.sig) → Buf (Elt Ideal) ℓ) (g : Dev Cert.ReferenceFoxfwdIdeal.nD → PrngReg), Pre_ReferenceFoxfwdIdeal m →
    θ_run (Cert.ReferenceFoxfwdIdeal.defs (F := Ideal)) (onTc (τ := Cert.ReferenceFoxfwdIdeal.τ) (Cert.ReferenceFoxfwdIdeal.main (F := Ideal))) ⟨m, fun _ => 0, g⟩ (fun r => (∀ c : Dev Cert.ReferenceFoxfwdIdeal.nD,
      r.2.mem ((c.tc : Thread Cert.ReferenceFoxfwdIdeal.nD Cert.ReferenceFoxfwdIdeal.τ).loc Cert.ReferenceFoxfwdIdeal.main_arg0) = m ((c.tc : Thread Cert.ReferenceFoxfwdIdeal.nD Cert.ReferenceFoxfwdIdeal.τ).loc Cert.ReferenceFoxfwdIdeal.main_arg0)
      ∧ r.2.mem ((c.tc : Thread Cert.ReferenceFoxfwdIdeal.nD Cert.ReferenceFoxfwdIdeal.τ).loc Cert.ReferenceFoxfwdIdeal.main_arg1) = m ((c.tc : Thread Cert.ReferenceFoxfwdIdeal.nD Cert.ReferenceFoxfwdIdeal.τ).loc Cert.ReferenceFoxfwdIdeal.main_arg1)
      ∧ r.2.mem ((c.tc : Thread Cert.ReferenceFoxfwdIdeal.nD Cert.ReferenceFoxfwdIdeal.τ).loc Cert.ReferenceFoxfwdIdeal.main_arg2) = m ((c.tc : Thread Cert.ReferenceFoxfwdIdeal.nD Cert.ReferenceFoxfwdIdeal.τ).loc Cert.ReferenceFoxfwdIdeal.main_arg2)
      ∧ r.2.mem ((c.tc : Thread Cert.ReferenceFoxfwdIdeal.nD Cert.ReferenceFoxfwdIdeal.τ).loc Cert.ReferenceFoxfwdIdeal.main_arg3) = m ((c.tc : Thread Cert.ReferenceFoxfwdIdeal.nD Cert.ReferenceFoxfwdIdeal.τ).loc Cert.ReferenceFoxfwdIdeal.main_arg3))
      ∧ r.2.sem = fun _ => 0)

def quiescent_ReferenceFoxfwdIdeal_pre_finite_foxfwd [hReferenceFoxfwdIdeal : Cert.ReferenceFoxfwdIdeal.Facts] [hPre_finite_foxfwd : Cert.Pre_finite_foxfwd.Facts] : Prop :=
  ∀ (m : (ℓ : Loc Cert.ReferenceFoxfwdIdeal.nD Cert.ReferenceFoxfwdIdeal.τ Cert.ReferenceFoxfwdIdeal.sig) → Buf (Elt Ideal) ℓ) (g : Dev Cert.ReferenceFoxfwdIdeal.nD → PrngReg), Pre_ReferenceFoxfwdIdeal_finite_foxfwd m →
    θ_run (Cert.ReferenceFoxfwdIdeal.defs (F := Ideal)) (onTc (τ := Cert.ReferenceFoxfwdIdeal.τ) (Cert.ReferenceFoxfwdIdeal.main (F := Ideal))) ⟨m, fun _ => 0, g⟩ (fun r => (∀ c : Dev Cert.ReferenceFoxfwdIdeal.nD,
      r.2.mem ((c.tc : Thread Cert.ReferenceFoxfwdIdeal.nD Cert.ReferenceFoxfwdIdeal.τ).loc Cert.ReferenceFoxfwdIdeal.main_arg0) = m ((c.tc : Thread Cert.ReferenceFoxfwdIdeal.nD Cert.ReferenceFoxfwdIdeal.τ).loc Cert.ReferenceFoxfwdIdeal.main_arg0)
      ∧ r.2.mem ((c.tc : Thread Cert.ReferenceFoxfwdIdeal.nD Cert.ReferenceFoxfwdIdeal.τ).loc Cert.ReferenceFoxfwdIdeal.main_arg1) = m ((c.tc : Thread Cert.ReferenceFoxfwdIdeal.nD Cert.ReferenceFoxfwdIdeal.τ).loc Cert.ReferenceFoxfwdIdeal.main_arg1)
      ∧ r.2.mem ((c.tc : Thread Cert.ReferenceFoxfwdIdeal.nD Cert.ReferenceFoxfwdIdeal.τ).loc Cert.ReferenceFoxfwdIdeal.main_arg2) = m ((c.tc : Thread Cert.ReferenceFoxfwdIdeal.nD Cert.ReferenceFoxfwdIdeal.τ).loc Cert.ReferenceFoxfwdIdeal.main_arg2)
      ∧ r.2.mem ((c.tc : Thread Cert.ReferenceFoxfwdIdeal.nD Cert.ReferenceFoxfwdIdeal.τ).loc Cert.ReferenceFoxfwdIdeal.main_arg3) = m ((c.tc : Thread Cert.ReferenceFoxfwdIdeal.nD Cert.ReferenceFoxfwdIdeal.τ).loc Cert.ReferenceFoxfwdIdeal.main_arg3))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_KernelGateIdeal_pre_finite_gate [hKernelGateIdeal : Cert.KernelGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal_finite_gate m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_ReferenceGateIdeal_pre_finite_gate [hReferenceGateIdeal : Cert.ReferenceGateIdeal.Facts] [hPre_finite_gate : Cert.Pre_finite_gate.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal_finite_gate m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def preserves_KernelSwiglu_KernelSwigluIdeal : Prop :=
  True

def algebraic_KernelSwigluIdeal_ReferenceSwigluIdeal_pre_finite_swiglu [hKernelSwigluIdeal : Cert.KernelSwigluIdeal.Facts] [hReferenceSwigluIdeal : Cert.ReferenceSwigluIdeal.Facts] [hPre_finite_swiglu : Cert.Pre_finite_swiglu.Facts] : Prop :=
  ∀ (m : (ℓ : Loc Cert.KernelSwigluIdeal.nD Cert.KernelSwigluIdeal.τ Cert.KernelSwigluIdeal.sig) → Buf (Elt Ideal) ℓ) (g : Dev Cert.KernelSwigluIdeal.nD → PrngReg)
    (m' : (ℓ : Loc Cert.ReferenceSwigluIdeal.nD Cert.ReferenceSwigluIdeal.τ Cert.ReferenceSwigluIdeal.sig) → Buf (Elt Ideal) ℓ) (g' : Dev Cert.ReferenceSwigluIdeal.nD → PrngReg), Pre_KernelSwigluIdeal_finite_swiglu m →
    (∀ c : Dev Cert.KernelSwigluIdeal.nD,
      m' ((c.tc : Thread Cert.ReferenceSwigluIdeal.nD Cert.ReferenceSwigluIdeal.τ).loc Cert.ReferenceSwigluIdeal.main_arg0) = m ((c.tc : Thread Cert.KernelSwigluIdeal.nD Cert.KernelSwigluIdeal.τ).loc Cert.KernelSwigluIdeal.main_arg0)
      ∧ m' ((c.tc : Thread Cert.ReferenceSwigluIdeal.nD Cert.ReferenceSwigluIdeal.τ).loc Cert.ReferenceSwigluIdeal.main_arg1) = m ((c.tc : Thread Cert.KernelSwigluIdeal.nD Cert.KernelSwigluIdeal.τ).loc Cert.KernelSwigluIdeal.main_arg1)
      ∧ m' ((c.tc : Thread Cert.ReferenceSwigluIdeal.nD Cert.ReferenceSwigluIdeal.τ).loc Cert.ReferenceSwigluIdeal.main_arg2) = m ((c.tc : Thread Cert.KernelSwigluIdeal.nD Cert.KernelSwigluIdeal.τ).loc Cert.KernelSwigluIdeal.main_arg2)) →
    ∃ (v0 : (c : Dev Cert.KernelSwigluIdeal.nD) → Buf (Elt Ideal) ((c.tc : Thread Cert.KernelSwigluIdeal.nD Cert.KernelSwigluIdeal.τ).loc Cert.KernelSwigluIdeal.main_v4)),
      θ_run (Cert.KernelSwigluIdeal.defs (F := Ideal)) (onTc (τ := Cert.KernelSwigluIdeal.τ) (Cert.KernelSwigluIdeal.main (F := Ideal))) ⟨m, fun _ => 0, g⟩ (fun r => ∀ c : Dev Cert.KernelSwigluIdeal.nD,
          r.2.mem ((c.tc : Thread Cert.KernelSwigluIdeal.nD Cert.KernelSwigluIdeal.τ).loc Cert.KernelSwigluIdeal.main_v4) = v0 c
          ∧ r.2.mem ((c.tc : Thread Cert.KernelSwigluIdeal.nD Cert.KernelSwigluIdeal.τ).loc Cert.KernelSwigluIdeal.main_arg0) = m ((c.tc : Thread Cert.KernelSwigluIdeal.nD Cert.KernelSwigluIdeal.τ).loc Cert.KernelSwigluIdeal.main_arg0)
          ∧ r.2.mem ((c.tc : Thread Cert.KernelSwigluIdeal.nD Cert.KernelSwigluIdeal.τ).loc Cert.KernelSwigluIdeal.main_arg1) = m ((c.tc : Thread Cert.KernelSwigluIdeal.nD Cert.KernelSwigluIdeal.τ).loc Cert.KernelSwigluIdeal.main_arg1)
          ∧ r.2.mem ((c.tc : Thread Cert.KernelSwigluIdeal.nD Cert.KernelSwigluIdeal.τ).loc Cert.KernelSwigluIdeal.main_arg2) = m ((c.tc : Thread Cert.KernelSwigluIdeal.nD Cert.KernelSwigluIdeal.τ).loc Cert.KernelSwigluIdeal.main_arg2))
      ∧ θ_run (Cert.ReferenceSwigluIdeal.defs (F := Ideal)) (onTc (τ := Cert.ReferenceSwigluIdeal.τ) (Cert.ReferenceSwigluIdeal.main (F := Ideal))) ⟨m', fun _ => 0, g'⟩ (fun r => ∀ c : Dev Cert.ReferenceSwigluIdeal.nD,
          r.2.mem ((c.tc : Thread Cert.ReferenceSwigluIdeal.nD Cert.ReferenceSwigluIdeal.τ).loc Cert.ReferenceSwigluIdeal.main_v10) = v0 c
          ∧ r.2.mem ((c.tc : Thread Cert.ReferenceSwigluIdeal.nD Cert.ReferenceSwigluIdeal.τ).loc Cert.ReferenceSwigluIdeal.main_arg0) = m' ((c.tc : Thread Cert.ReferenceSwigluIdeal.nD Cert.ReferenceSwigluIdeal.τ).loc Cert.ReferenceSwigluIdeal.main_arg0)
          ∧ r.2.mem ((c.tc : Thread Cert.ReferenceSwigluIdeal.nD Cert.ReferenceSwigluIdeal.τ).loc Cert.ReferenceSwigluIdeal.main_arg1) = m' ((c.tc : Thread Cert.ReferenceSwigluIdeal.nD Cert.ReferenceSwigluIdeal.τ).loc Cert.ReferenceSwigluIdeal.main_arg1)
          ∧ r.2.mem ((c.tc : Thread Cert.ReferenceSwigluIdeal.nD Cert.ReferenceSwigluIdeal.τ).loc Cert.ReferenceSwigluIdeal.main_arg2) = m' ((c.tc : Thread Cert.ReferenceSwigluIdeal.nD Cert.ReferenceSwigluIdeal.τ).loc Cert.ReferenceSwigluIdeal.main_arg2))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v3)) (v1 : (c : Dev Cert.KernelLossIdeal.nD) → Buf (Elt Ideal) ((c.tc : Thread Cert.KernelLossIdeal.nD Cert.KernelLossIdeal.τ).loc Cert.KernelLossIdeal.main_v1_0)) (v2 : (c : Dev Cert.KernelLossIdeal.nD) → Buf (Elt Ideal) ((c.tc : Thread Cert.KernelLossIdeal.nD Cert.KernelLossIdeal.τ).loc Cert.KernelLossIdeal.main_v4)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v3) = v0 c
          ∧ r.2.mem ((c.tc : Thread Cert.KernelLossIdeal.nD Cert.KernelLossIdeal.τ).loc Cert.KernelLossIdeal.main_v1_0) = v1 c
          ∧ r.2.mem ((c.tc : Thread Cert.KernelLossIdeal.nD Cert.KernelLossIdeal.τ).loc Cert.KernelLossIdeal.main_v4) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v24) = v0 c
          ∧ r.2.mem ((c.tc : Thread Cert.ReferenceLossIdeal.nD Cert.ReferenceLossIdeal.τ).loc Cert.ReferenceLossIdeal.main_v50) = v1 c
          ∧ r.2.mem ((c.tc : Thread Cert.ReferenceLossIdeal.nD Cert.ReferenceLossIdeal.τ).loc Cert.ReferenceLossIdeal.main_v36) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v5_0)) (v1 : (c : Dev Cert.KernelFfnIdeal.nD) → Buf (Elt Ideal) ((c.tc : Thread Cert.KernelFfnIdeal.nD Cert.KernelFfnIdeal.τ).loc Cert.KernelFfnIdeal.main_v5_1)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v5_0) = v0 c
          ∧ r.2.mem ((c.tc : Thread Cert.KernelFfnIdeal.nD Cert.KernelFfnIdeal.τ).loc Cert.KernelFfnIdeal.main_v5_1) = v1 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v38) = v0 c
          ∧ r.2.mem ((c.tc : Thread Cert.ReferenceFfnIdeal.nD Cert.ReferenceFfnIdeal.τ).loc Cert.ReferenceFfnIdeal.main_v39) = v1 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v5_0)) (v1 : (c : Dev Cert.KernelMixIdeal.nD) → Buf (Elt Ideal) ((c.tc : Thread Cert.KernelMixIdeal.nD Cert.KernelMixIdeal.τ).loc Cert.KernelMixIdeal.main_v5_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v5_0) = v0 c
          ∧ r.2.mem ((c.tc : Thread Cert.KernelMixIdeal.nD Cert.KernelMixIdeal.τ).loc Cert.KernelMixIdeal.main_v5_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v38) = v0 c
          ∧ r.2.mem ((c.tc : Thread Cert.ReferenceMixIdeal.nD Cert.ReferenceMixIdeal.τ).loc Cert.ReferenceMixIdeal.main_v39) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelForget_KernelForgetIdeal : Prop :=
  True

def algebraic_KernelForgetIdeal_ReferenceForgetIdeal_pre_finite_forget [hKernelForgetIdeal : Cert.KernelForgetIdeal.Facts] [hReferenceForgetIdeal : Cert.ReferenceForgetIdeal.Facts] [hPre_finite_forget : Cert.Pre_finite_forget.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg)
    (m' : (ℓ : Loc Cert.ReferenceForgetIdeal.nD Cert.ReferenceForgetIdeal.τ Cert.ReferenceForgetIdeal.sig) → Buf (Elt Ideal) ℓ) (g' : Dev Cert.ReferenceForgetIdeal.nD → PrngReg), Pre_KernelForgetIdeal_finite_forget m →
    (∀ c : Dev Cert.KernelForgetIdeal.nD,
      m' ((c.tc : Thread Cert.ReferenceForgetIdeal.nD Cert.ReferenceForgetIdeal.τ).loc Cert.ReferenceForgetIdeal.main_arg0) = m ((c.tc : Thread Cert.KernelForgetIdeal.nD Cert.KernelForgetIdeal.τ).loc Cert.KernelForgetIdeal.main_arg0)
      ∧ m' ((c.tc : Thread Cert.ReferenceForgetIdeal.nD Cert.ReferenceForgetIdeal.τ).loc Cert.ReferenceForgetIdeal.main_arg1) = m ((c.tc : Thread Cert.KernelForgetIdeal.nD Cert.KernelForgetIdeal.τ).loc Cert.KernelForgetIdeal.main_arg1)
      ∧ m' ((c.tc : Thread Cert.ReferenceForgetIdeal.nD Cert.ReferenceForgetIdeal.τ).loc Cert.ReferenceForgetIdeal.main_arg2) = m ((c.tc : Thread Cert.KernelForgetIdeal.nD Cert.KernelForgetIdeal.τ).loc Cert.KernelForgetIdeal.main_arg2)) →
    ∃ (v0 : (c : Dev Cert.KernelForgetIdeal.nD) → Buf (Elt Ideal) ((c.tc : Thread Cert.KernelForgetIdeal.nD Cert.KernelForgetIdeal.τ).loc Cert.KernelForgetIdeal.main_v6)) (v1 : (c : Dev Cert.KernelForgetIdeal.nD) → Buf (Elt Ideal) ((c.tc : Thread Cert.KernelForgetIdeal.nD Cert.KernelForgetIdeal.τ).loc Cert.KernelForgetIdeal.main_v8)),
      θ_run (Cert.KernelForgetIdeal.defs (F := Ideal)) (onTc (τ := Cert.KernelForgetIdeal.τ) (Cert.KernelForgetIdeal.main (F := Ideal))) ⟨m, fun _ => 0, g⟩ (fun r => ∀ c : Dev Cert.KernelForgetIdeal.nD,
          r.2.mem ((c.tc : Thread Cert.KernelForgetIdeal.nD Cert.KernelForgetIdeal.τ).loc Cert.KernelForgetIdeal.main_v6) = v0 c
          ∧ r.2.mem ((c.tc : Thread Cert.KernelForgetIdeal.nD Cert.KernelForgetIdeal.τ).loc Cert.KernelForgetIdeal.main_v8) = v1 c
          ∧ r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
          ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1)
          ∧ r.2.mem ((c.tc : Thread Cert.KernelForgetIdeal.nD Cert.KernelForgetIdeal.τ).loc Cert.KernelForgetIdeal.main_arg2) = m ((c.tc : Thread Cert.KernelForgetIdeal.nD Cert.KernelForgetIdeal.τ).loc Cert.KernelForgetIdeal.main_arg2))
      ∧ θ_run (Cert.ReferenceForgetIdeal.defs (F := Ideal)) (onTc (τ := Cert.ReferenceForgetIdeal.τ) (Cert.ReferenceForgetIdeal.main (F := Ideal))) ⟨m', fun _ => 0, g'⟩ (fun r => ∀ c : Dev Cert.ReferenceForgetIdeal.nD,
          r.2.mem ((c.tc : Thread Cert.ReferenceForgetIdeal.nD Cert.ReferenceForgetIdeal.τ).loc Cert.ReferenceForgetIdeal.main_v8) = v0 c
          ∧ r.2.mem ((c.tc : Thread Cert.ReferenceForgetIdeal.nD Cert.ReferenceForgetIdeal.τ).loc Cert.ReferenceForgetIdeal.main_v11) = v1 c
          ∧ r.2.mem ((c.tc : Thread Cert.ReferenceForgetIdeal.nD Cert.ReferenceForgetIdeal.τ).loc Cert.ReferenceForgetIdeal.main_arg0) = m' ((c.tc : Thread Cert.ReferenceForgetIdeal.nD Cert.ReferenceForgetIdeal.τ).loc Cert.ReferenceForgetIdeal.main_arg0)
          ∧ r.2.mem ((c.tc : Thread Cert.ReferenceForgetIdeal.nD Cert.ReferenceForgetIdeal.τ).loc Cert.ReferenceForgetIdeal.main_arg1) = m' ((c.tc : Thread Cert.ReferenceForgetIdeal.nD Cert.ReferenceForgetIdeal.τ).loc Cert.ReferenceForgetIdeal.main_arg1)
          ∧ r.2.mem ((c.tc : Thread Cert.ReferenceForgetIdeal.nD Cert.ReferenceForgetIdeal.τ).loc Cert.ReferenceForgetIdeal.main_arg2) = m' ((c.tc : Thread Cert.ReferenceForgetIdeal.nD Cert.ReferenceForgetIdeal.τ).loc Cert.ReferenceForgetIdeal.main_arg2))

def preserves_KernelSb_KernelSbIdeal : Prop :=
  True

def algebraic_KernelSbIdeal_ReferenceSbIdeal_pre_finite_sb [hKernelSbIdeal : Cert.KernelSbIdeal.Facts] [hReferenceSbIdeal : Cert.ReferenceSbIdeal.Facts] [hPre_finite_sb : Cert.Pre_finite_sb.Facts] : Prop :=
  ∀ (m : (ℓ : Loc Cert.KernelSbIdeal.nD Cert.KernelSbIdeal.τ Cert.KernelSbIdeal.sig) → Buf (Elt Ideal) ℓ) (g : Dev Cert.KernelSbIdeal.nD → PrngReg)
    (m' : (ℓ : Loc Cert.ReferenceSbIdeal.nD Cert.ReferenceSbIdeal.τ Cert.ReferenceSbIdeal.sig) → Buf (Elt Ideal) ℓ) (g' : Dev Cert.ReferenceSbIdeal.nD → PrngReg), Pre_KernelSbIdeal_finite_sb m →
    (∀ c : Dev Cert.KernelSbIdeal.nD,
      m' ((c.tc : Thread Cert.ReferenceSbIdeal.nD Cert.ReferenceSbIdeal.τ).loc Cert.ReferenceSbIdeal.main_arg0) = m ((c.tc : Thread Cert.KernelSbIdeal.nD Cert.KernelSbIdeal.τ).loc Cert.KernelSbIdeal.main_arg0)
      ∧ m' ((c.tc : Thread Cert.ReferenceSbIdeal.nD Cert.ReferenceSbIdeal.τ).loc Cert.ReferenceSbIdeal.main_arg1) = m ((c.tc : Thread Cert.KernelSbIdeal.nD Cert.KernelSbIdeal.τ).loc Cert.KernelSbIdeal.main_arg1)
      ∧ m' ((c.tc : Thread Cert.ReferenceSbIdeal.nD Cert.ReferenceSbIdeal.τ).loc Cert.ReferenceSbIdeal.main_arg2) = m ((c.tc : Thread Cert.KernelSbIdeal.nD Cert.KernelSbIdeal.τ).loc Cert.KernelSbIdeal.main_arg2)
      ∧ m' ((c.tc : Thread Cert.ReferenceSbIdeal.nD Cert.ReferenceSbIdeal.τ).loc Cert.ReferenceSbIdeal.main_arg3) = m ((c.tc : Thread Cert.KernelSbIdeal.nD Cert.KernelSbIdeal.τ).loc Cert.KernelSbIdeal.main_arg3)) →
    ∃ (v0 : (c : Dev Cert.KernelSbIdeal.nD) → Buf (Elt Ideal) ((c.tc : Thread Cert.KernelSbIdeal.nD Cert.KernelSbIdeal.τ).loc Cert.KernelSbIdeal.main_v24_0)) (v1 : (c : Dev Cert.KernelSbIdeal.nD) → Buf (Elt Ideal) ((c.tc : Thread Cert.KernelSbIdeal.nD Cert.KernelSbIdeal.τ).loc Cert.KernelSbIdeal.main_v24_1)) (v2 : (c : Dev Cert.KernelSbIdeal.nD) → Buf (Elt Ideal) ((c.tc : Thread Cert.KernelSbIdeal.nD Cert.KernelSbIdeal.τ).loc Cert.KernelSbIdeal.main_v24_2)),
      θ_run (Cert.KernelSbIdeal.defs (F := Ideal)) (onTc (τ := Cert.KernelSbIdeal.τ) (Cert.KernelSbIdeal.main (F := Ideal))) ⟨m, fun _ => 0, g⟩ (fun r => ∀ c : Dev Cert.KernelSbIdeal.nD,
          r.2.mem ((c.tc : Thread Cert.KernelSbIdeal.nD Cert.KernelSbIdeal.τ).loc Cert.KernelSbIdeal.main_v24_0) = v0 c
          ∧ r.2.mem ((c.tc : Thread Cert.KernelSbIdeal.nD Cert.KernelSbIdeal.τ).loc Cert.KernelSbIdeal.main_v24_1) = v1 c
          ∧ r.2.mem ((c.tc : Thread Cert.KernelSbIdeal.nD Cert.KernelSbIdeal.τ).loc Cert.KernelSbIdeal.main_v24_2) = v2 c
          ∧ r.2.mem ((c.tc : Thread Cert.KernelSbIdeal.nD Cert.KernelSbIdeal.τ).loc Cert.KernelSbIdeal.main_arg0) = m ((c.tc : Thread Cert.KernelSbIdeal.nD Cert.KernelSbIdeal.τ).loc Cert.KernelSbIdeal.main_arg0)
          ∧ r.2.mem ((c.tc : Thread Cert.KernelSbIdeal.nD Cert.KernelSbIdeal.τ).loc Cert.KernelSbIdeal.main_arg1) = m ((c.tc : Thread Cert.KernelSbIdeal.nD Cert.KernelSbIdeal.τ).loc Cert.KernelSbIdeal.main_arg1)
          ∧ r.2.mem ((c.tc : Thread Cert.KernelSbIdeal.nD Cert.KernelSbIdeal.τ).loc Cert.KernelSbIdeal.main_arg2) = m ((c.tc : Thread Cert.KernelSbIdeal.nD Cert.KernelSbIdeal.τ).loc Cert.KernelSbIdeal.main_arg2)
          ∧ r.2.mem ((c.tc : Thread Cert.KernelSbIdeal.nD Cert.KernelSbIdeal.τ).loc Cert.KernelSbIdeal.main_arg3) = m ((c.tc : Thread Cert.KernelSbIdeal.nD Cert.KernelSbIdeal.τ).loc Cert.KernelSbIdeal.main_arg3))
      ∧ θ_run (Cert.ReferenceSbIdeal.defs (F := Ideal)) (onTc (τ := Cert.ReferenceSbIdeal.τ) (Cert.ReferenceSbIdeal.main (F := Ideal))) ⟨m', fun _ => 0, g'⟩ (fun r => ∀ c : Dev Cert.ReferenceSbIdeal.nD,
          r.2.mem ((c.tc : Thread Cert.ReferenceSbIdeal.nD Cert.ReferenceSbIdeal.τ).loc Cert.ReferenceSbIdeal.main_v53) = v0 c
          ∧ r.2.mem ((c.tc : Thread Cert.ReferenceSbIdeal.nD Cert.ReferenceSbIdeal.τ).loc Cert.ReferenceSbIdeal.main_v54) = v1 c
          ∧ r.2.mem ((c.tc : Thread Cert.ReferenceSbIdeal.nD Cert.ReferenceSbIdeal.τ).loc Cert.ReferenceSbIdeal.main_v55) = v2 c
          ∧ r.2.mem ((c.tc : Thread Cert.ReferenceSbIdeal.nD Cert.ReferenceSbIdeal.τ).loc Cert.ReferenceSbIdeal.main_arg0) = m' ((c.tc : Thread Cert.ReferenceSbIdeal.nD Cert.ReferenceSbIdeal.τ).loc Cert.ReferenceSbIdeal.main_arg0)
          ∧ r.2.mem ((c.tc : Thread Cert.ReferenceSbIdeal.nD Cert.ReferenceSbIdeal.τ).loc Cert.ReferenceSbIdeal.main_arg1) = m' ((c.tc : Thread Cert.ReferenceSbIdeal.nD Cert.ReferenceSbIdeal.τ).loc Cert.ReferenceSbIdeal.main_arg1)
          ∧ r.2.mem ((c.tc : Thread Cert.ReferenceSbIdeal.nD Cert.ReferenceSbIdeal.τ).loc Cert.ReferenceSbIdeal.main_arg2) = m' ((c.tc : Thread Cert.ReferenceSbIdeal.nD Cert.ReferenceSbIdeal.τ).loc Cert.ReferenceSbIdeal.main_arg2)
          ∧ r.2.mem ((c.tc : Thread Cert.ReferenceSbIdeal.nD Cert.ReferenceSbIdeal.τ).loc Cert.ReferenceSbIdeal.main_arg3) = m' ((c.tc : Thread Cert.ReferenceSbIdeal.nD Cert.ReferenceSbIdeal.τ).loc Cert.ReferenceSbIdeal.main_arg3))

def preserves_KernelFox_KernelFoxIdeal : Prop :=
  True

def algebraic_KernelFoxIdeal_ReferenceFoxIdeal_pre_finite_fox [hKernelFoxIdeal : Cert.KernelFoxIdeal.Facts] [hReferenceFoxIdeal : Cert.ReferenceFoxIdeal.Facts] [hPre_finite_fox : Cert.Pre_finite_fox.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg)
    (m' : (ℓ : Loc Cert.ReferenceFoxIdeal.nD Cert.ReferenceFoxIdeal.τ Cert.ReferenceFoxIdeal.sig) → Buf (Elt Ideal) ℓ) (g' : Dev Cert.ReferenceFoxIdeal.nD → PrngReg), Pre_KernelFoxIdeal_finite_fox m →
    (∀ c : Dev Cert.KernelFoxIdeal.nD,
      m' ((c.tc : Thread Cert.ReferenceFoxIdeal.nD Cert.ReferenceFoxIdeal.τ).loc Cert.ReferenceFoxIdeal.main_arg0) = m ((c.tc : Thread Cert.KernelFoxIdeal.nD Cert.KernelFoxIdeal.τ).loc Cert.KernelFoxIdeal.main_arg0)
      ∧ m' ((c.tc : Thread Cert.ReferenceFoxIdeal.nD Cert.ReferenceFoxIdeal.τ).loc Cert.ReferenceFoxIdeal.main_arg1) = m ((c.tc : Thread Cert.KernelFoxIdeal.nD Cert.KernelFoxIdeal.τ).loc Cert.KernelFoxIdeal.main_arg1)
      ∧ m' ((c.tc : Thread Cert.ReferenceFoxIdeal.nD Cert.ReferenceFoxIdeal.τ).loc Cert.ReferenceFoxIdeal.main_arg2) = m ((c.tc : Thread Cert.KernelFoxIdeal.nD Cert.KernelFoxIdeal.τ).loc Cert.KernelFoxIdeal.main_arg2)
      ∧ m' ((c.tc : Thread Cert.ReferenceFoxIdeal.nD Cert.ReferenceFoxIdeal.τ).loc Cert.ReferenceFoxIdeal.main_arg3) = m ((c.tc : Thread Cert.KernelFoxIdeal.nD Cert.KernelFoxIdeal.τ).loc Cert.KernelFoxIdeal.main_arg3)
      ∧ m' ((c.tc : Thread Cert.ReferenceFoxIdeal.nD Cert.ReferenceFoxIdeal.τ).loc Cert.ReferenceFoxIdeal.main_arg4) = m ((c.tc : Thread Cert.KernelFoxIdeal.nD Cert.KernelFoxIdeal.τ).loc Cert.KernelFoxIdeal.main_arg4)) →
    ∃ (v0 : (c : Dev Cert.KernelFoxIdeal.nD) → Buf (Elt Ideal) ((c.tc : Thread Cert.KernelFoxIdeal.nD Cert.KernelFoxIdeal.τ).loc Cert.KernelFoxIdeal.main_v36_0)) (v1 : (c : Dev Cert.KernelFoxIdeal.nD) → Buf (Elt Ideal) ((c.tc : Thread Cert.KernelFoxIdeal.nD Cert.KernelFoxIdeal.τ).loc Cert.KernelFoxIdeal.main_v36_1)) (v2 : (c : Dev Cert.KernelFoxIdeal.nD) → Buf (Elt Ideal) ((c.tc : Thread Cert.KernelFoxIdeal.nD Cert.KernelFoxIdeal.τ).loc Cert.KernelFoxIdeal.main_v36_2)) (v3 : (c : Dev Cert.KernelFoxIdeal.nD) → Buf (Elt Ideal) ((c.tc : Thread Cert.KernelFoxIdeal.nD Cert.KernelFoxIdeal.τ).loc Cert.KernelFoxIdeal.main_v36_3)),
      θ_run (Cert.KernelFoxIdeal.defs (F := Ideal)) (onTc (τ := Cert.KernelFoxIdeal.τ) (Cert.KernelFoxIdeal.main (F := Ideal))) ⟨m, fun _ => 0, g⟩ (fun r => ∀ c : Dev Cert.KernelFoxIdeal.nD,
          r.2.mem ((c.tc : Thread Cert.KernelFoxIdeal.nD Cert.KernelFoxIdeal.τ).loc Cert.KernelFoxIdeal.main_v36_0) = v0 c
          ∧ r.2.mem ((c.tc : Thread Cert.KernelFoxIdeal.nD Cert.KernelFoxIdeal.τ).loc Cert.KernelFoxIdeal.main_v36_1) = v1 c
          ∧ r.2.mem ((c.tc : Thread Cert.KernelFoxIdeal.nD Cert.KernelFoxIdeal.τ).loc Cert.KernelFoxIdeal.main_v36_2) = v2 c
          ∧ r.2.mem ((c.tc : Thread Cert.KernelFoxIdeal.nD Cert.KernelFoxIdeal.τ).loc Cert.KernelFoxIdeal.main_v36_3) = v3 c
          ∧ r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
          ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
          ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
          ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3)
          ∧ r.2.mem ((c.tc : Thread Cert.KernelFoxIdeal.nD Cert.KernelFoxIdeal.τ).loc Cert.KernelFoxIdeal.main_arg4) = m ((c.tc : Thread Cert.KernelFoxIdeal.nD Cert.KernelFoxIdeal.τ).loc Cert.KernelFoxIdeal.main_arg4))
      ∧ θ_run (Cert.ReferenceFoxIdeal.defs (F := Ideal)) (onTc (τ := Cert.ReferenceFoxIdeal.τ) (Cert.ReferenceFoxIdeal.main (F := Ideal))) ⟨m', fun _ => 0, g'⟩ (fun r => ∀ c : Dev Cert.ReferenceFoxIdeal.nD,
          r.2.mem ((c.tc : Thread Cert.ReferenceFoxIdeal.nD Cert.ReferenceFoxIdeal.τ).loc Cert.ReferenceFoxIdeal.main_v90) = v0 c
          ∧ r.2.mem ((c.tc : Thread Cert.ReferenceFoxIdeal.nD Cert.ReferenceFoxIdeal.τ).loc Cert.ReferenceFoxIdeal.main_v91) = v1 c
          ∧ r.2.mem ((c.tc : Thread Cert.ReferenceFoxIdeal.nD Cert.ReferenceFoxIdeal.τ).loc Cert.ReferenceFoxIdeal.main_v92) = v2 c
          ∧ r.2.mem ((c.tc : Thread Cert.ReferenceFoxIdeal.nD Cert.ReferenceFoxIdeal.τ).loc Cert.ReferenceFoxIdeal.main_v93) = v3 c
          ∧ r.2.mem ((c.tc : Thread Cert.ReferenceFoxIdeal.nD Cert.ReferenceFoxIdeal.τ).loc Cert.ReferenceFoxIdeal.main_arg0) = m' ((c.tc : Thread Cert.ReferenceFoxIdeal.nD Cert.ReferenceFoxIdeal.τ).loc Cert.ReferenceFoxIdeal.main_arg0)
          ∧ r.2.mem ((c.tc : Thread Cert.ReferenceFoxIdeal.nD Cert.ReferenceFoxIdeal.τ).loc Cert.ReferenceFoxIdeal.main_arg1) = m' ((c.tc : Thread Cert.ReferenceFoxIdeal.nD Cert.ReferenceFoxIdeal.τ).loc Cert.ReferenceFoxIdeal.main_arg1)
          ∧ r.2.mem ((c.tc : Thread Cert.ReferenceFoxIdeal.nD Cert.ReferenceFoxIdeal.τ).loc Cert.ReferenceFoxIdeal.main_arg2) = m' ((c.tc : Thread Cert.ReferenceFoxIdeal.nD Cert.ReferenceFoxIdeal.τ).loc Cert.ReferenceFoxIdeal.main_arg2)
          ∧ r.2.mem ((c.tc : Thread Cert.ReferenceFoxIdeal.nD Cert.ReferenceFoxIdeal.τ).loc Cert.ReferenceFoxIdeal.main_arg3) = m' ((c.tc : Thread Cert.ReferenceFoxIdeal.nD Cert.ReferenceFoxIdeal.τ).loc Cert.ReferenceFoxIdeal.main_arg3)
          ∧ r.2.mem ((c.tc : Thread Cert.ReferenceFoxIdeal.nD Cert.ReferenceFoxIdeal.τ).loc Cert.ReferenceFoxIdeal.main_arg4) = m' ((c.tc : Thread Cert.ReferenceFoxIdeal.nD Cert.ReferenceFoxIdeal.τ).loc Cert.ReferenceFoxIdeal.main_arg4))

def preserves_KernelEven_KernelEvenIdeal : Prop :=
  True

def algebraic_KernelEvenIdeal_ReferenceEvenIdeal_pre_finite_even [hKernelEvenIdeal : Cert.KernelEvenIdeal.Facts] [hReferenceEvenIdeal : Cert.ReferenceEvenIdeal.Facts] [hPre_finite_even : Cert.Pre_finite_even.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_KernelEvenIdeal_finite_even m →
    (∀ c : Dev Cert.KernelEvenIdeal.nD,
      m' ((c.tc : Thread Cert.ReferenceEvenIdeal.nD Cert.ReferenceEvenIdeal.τ).loc Cert.ReferenceEvenIdeal.main_arg0) = m ((c.tc : Thread Cert.KernelEvenIdeal.nD Cert.KernelEvenIdeal.τ).loc Cert.KernelEvenIdeal.main_arg0)
      ∧ m' ((c.tc : Thread Cert.ReferenceEvenIdeal.nD Cert.ReferenceEvenIdeal.τ).loc Cert.ReferenceEvenIdeal.main_arg1) = m ((c.tc : Thread Cert.KernelEvenIdeal.nD Cert.KernelEvenIdeal.τ).loc Cert.KernelEvenIdeal.main_arg1)
      ∧ m' ((c.tc : Thread Cert.ReferenceEvenIdeal.nD Cert.ReferenceEvenIdeal.τ).loc Cert.ReferenceEvenIdeal.main_arg2) = m ((c.tc : Thread Cert.KernelEvenIdeal.nD Cert.KernelEvenIdeal.τ).loc Cert.KernelEvenIdeal.main_arg2)
      ∧ m' ((c.tc : Thread Cert.ReferenceEvenIdeal.nD Cert.ReferenceEvenIdeal.τ).loc Cert.ReferenceEvenIdeal.main_arg3) = m ((c.tc : Thread Cert.KernelEvenIdeal.nD Cert.KernelEvenIdeal.τ).loc Cert.KernelEvenIdeal.main_arg3)
      ∧ m' ((c.tc : Thread Cert.ReferenceEvenIdeal.nD Cert.ReferenceEvenIdeal.τ).loc Cert.ReferenceEvenIdeal.main_arg4) = m ((c.tc : Thread Cert.KernelEvenIdeal.nD Cert.KernelEvenIdeal.τ).loc Cert.KernelEvenIdeal.main_arg4)) →
    ∃ (v0 : (c : Dev Cert.KernelEvenIdeal.nD) → Buf (Elt Ideal) ((c.tc : Thread Cert.KernelEvenIdeal.nD Cert.KernelEvenIdeal.τ).loc Cert.KernelEvenIdeal.main_v5_0)) (v1 : (c : Dev Cert.KernelEvenIdeal.nD) → Buf (Elt Ideal) ((c.tc : Thread Cert.KernelEvenIdeal.nD Cert.KernelEvenIdeal.τ).loc Cert.KernelEvenIdeal.main_v5_1)),
      θ_run (Cert.KernelEvenIdeal.defs (F := Ideal)) (onTc (τ := Cert.KernelEvenIdeal.τ) (Cert.KernelEvenIdeal.main (F := Ideal))) ⟨m, fun _ => 0, g⟩ (fun r => ∀ c : Dev Cert.KernelEvenIdeal.nD,
          r.2.mem ((c.tc : Thread Cert.KernelEvenIdeal.nD Cert.KernelEvenIdeal.τ).loc Cert.KernelEvenIdeal.main_v5_0) = v0 c
          ∧ r.2.mem ((c.tc : Thread Cert.KernelEvenIdeal.nD Cert.KernelEvenIdeal.τ).loc Cert.KernelEvenIdeal.main_v5_1) = v1 c
          ∧ r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
          ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
          ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
          ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
          ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v38) = v0 c
          ∧ r.2.mem ((c.tc : Thread Cert.ReferenceEvenIdeal.nD Cert.ReferenceEvenIdeal.τ).loc Cert.ReferenceEvenIdeal.main_v39) = v1 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2)
          ∧ r.2.mem ((c.tc : Thread Cert.ReferenceEvenIdeal.nD Cert.ReferenceEvenIdeal.τ).loc Cert.ReferenceEvenIdeal.main_arg3) = m' ((c.tc : Thread Cert.ReferenceEvenIdeal.nD Cert.ReferenceEvenIdeal.τ).loc Cert.ReferenceEvenIdeal.main_arg3)
          ∧ r.2.mem ((c.tc : Thread Cert.ReferenceEvenIdeal.nD Cert.ReferenceEvenIdeal.τ).loc Cert.ReferenceEvenIdeal.main_arg4) = m' ((c.tc : Thread Cert.ReferenceEvenIdeal.nD Cert.ReferenceEvenIdeal.τ).loc Cert.ReferenceEvenIdeal.main_arg4))

def preserves_KernelFoxfwd_KernelFoxfwdIdeal : Prop :=
  IdealRules.named_const.Statement Cert.KernelFoxfwdIdeal.κ "mask" .f32 0xF149F2CA#32 ⊥

def algebraic_KernelFoxfwdIdeal_ReferenceFoxfwdIdeal_pre_finite_foxfwd [hKernelFoxfwdIdeal : Cert.KernelFoxfwdIdeal.Facts] [hReferenceFoxfwdIdeal : Cert.ReferenceFoxfwdIdeal.Facts] [hPre_finite_foxfwd : Cert.Pre_finite_foxfwd.Facts] : Prop :=
  ∀ (m : (ℓ : Loc Cert.KernelFoxfwdIdeal.nD Cert.KernelFoxfwdIdeal.τ Cert.KernelFoxfwdIdeal.sig) → Buf (Elt Ideal) ℓ) (g : Dev Cert.KernelFoxfwdIdeal.nD → PrngReg)
    (m' : (ℓ : Loc Cert.ReferenceFoxfwdIdeal.nD Cert.ReferenceFoxfwdIdeal.τ Cert.ReferenceFoxfwdIdeal.sig) → Buf (Elt Ideal) ℓ) (g' : Dev Cert.ReferenceFoxfwdIdeal.nD → PrngReg), Pre_KernelFoxfwdIdeal_finite_foxfwd m →
    (∀ c : Dev Cert.KernelFoxfwdIdeal.nD,
      m' ((c.tc : Thread Cert.ReferenceFoxfwdIdeal.nD Cert.ReferenceFoxfwdIdeal.τ).loc Cert.ReferenceFoxfwdIdeal.main_arg0) = m ((c.tc : Thread Cert.KernelFoxfwdIdeal.nD Cert.KernelFoxfwdIdeal.τ).loc Cert.KernelFoxfwdIdeal.main_arg0)
      ∧ m' ((c.tc : Thread Cert.ReferenceFoxfwdIdeal.nD Cert.ReferenceFoxfwdIdeal.τ).loc Cert.ReferenceFoxfwdIdeal.main_arg1) = m ((c.tc : Thread Cert.KernelFoxfwdIdeal.nD Cert.KernelFoxfwdIdeal.τ).loc Cert.KernelFoxfwdIdeal.main_arg1)
      ∧ m' ((c.tc : Thread Cert.ReferenceFoxfwdIdeal.nD Cert.ReferenceFoxfwdIdeal.τ).loc Cert.ReferenceFoxfwdIdeal.main_arg2) = m ((c.tc : Thread Cert.KernelFoxfwdIdeal.nD Cert.KernelFoxfwdIdeal.τ).loc Cert.KernelFoxfwdIdeal.main_arg2)
      ∧ m' ((c.tc : Thread Cert.ReferenceFoxfwdIdeal.nD Cert.ReferenceFoxfwdIdeal.τ).loc Cert.ReferenceFoxfwdIdeal.main_arg3) = m ((c.tc : Thread Cert.KernelFoxfwdIdeal.nD Cert.KernelFoxfwdIdeal.τ).loc Cert.KernelFoxfwdIdeal.main_arg3)) →
    ∃ (v0 : (c : Dev Cert.KernelFoxfwdIdeal.nD) → Buf (Elt Ideal) ((c.tc : Thread Cert.KernelFoxfwdIdeal.nD Cert.KernelFoxfwdIdeal.τ).loc Cert.KernelFoxfwdIdeal.main_v5_0)) (v1 : (c : Dev Cert.KernelFoxfwdIdeal.nD) → Buf (Elt Ideal) ((c.tc : Thread Cert.KernelFoxfwdIdeal.nD Cert.KernelFoxfwdIdeal.τ).loc Cert.KernelFoxfwdIdeal.main_v5_1)),
      θ_run (Cert.KernelFoxfwdIdeal.defs (F := Ideal)) (onTc (τ := Cert.KernelFoxfwdIdeal.τ) (Cert.KernelFoxfwdIdeal.main (F := Ideal))) ⟨m, fun _ => 0, g⟩ (fun r => ∀ c : Dev Cert.KernelFoxfwdIdeal.nD,
          r.2.mem ((c.tc : Thread Cert.KernelFoxfwdIdeal.nD Cert.KernelFoxfwdIdeal.τ).loc Cert.KernelFoxfwdIdeal.main_v5_0) = v0 c
          ∧ r.2.mem ((c.tc : Thread Cert.KernelFoxfwdIdeal.nD Cert.KernelFoxfwdIdeal.τ).loc Cert.KernelFoxfwdIdeal.main_v5_1) = v1 c
          ∧ r.2.mem ((c.tc : Thread Cert.KernelFoxfwdIdeal.nD Cert.KernelFoxfwdIdeal.τ).loc Cert.KernelFoxfwdIdeal.main_arg0) = m ((c.tc : Thread Cert.KernelFoxfwdIdeal.nD Cert.KernelFoxfwdIdeal.τ).loc Cert.KernelFoxfwdIdeal.main_arg0)
          ∧ r.2.mem ((c.tc : Thread Cert.KernelFoxfwdIdeal.nD Cert.KernelFoxfwdIdeal.τ).loc Cert.KernelFoxfwdIdeal.main_arg1) = m ((c.tc : Thread Cert.KernelFoxfwdIdeal.nD Cert.KernelFoxfwdIdeal.τ).loc Cert.KernelFoxfwdIdeal.main_arg1)
          ∧ r.2.mem ((c.tc : Thread Cert.KernelFoxfwdIdeal.nD Cert.KernelFoxfwdIdeal.τ).loc Cert.KernelFoxfwdIdeal.main_arg2) = m ((c.tc : Thread Cert.KernelFoxfwdIdeal.nD Cert.KernelFoxfwdIdeal.τ).loc Cert.KernelFoxfwdIdeal.main_arg2)
          ∧ r.2.mem ((c.tc : Thread Cert.KernelFoxfwdIdeal.nD Cert.KernelFoxfwdIdeal.τ).loc Cert.KernelFoxfwdIdeal.main_arg3) = m ((c.tc : Thread Cert.KernelFoxfwdIdeal.nD Cert.KernelFoxfwdIdeal.τ).loc Cert.KernelFoxfwdIdeal.main_arg3))
      ∧ θ_run (Cert.ReferenceFoxfwdIdeal.defs (F := Ideal)) (onTc (τ := Cert.ReferenceFoxfwdIdeal.τ) (Cert.ReferenceFoxfwdIdeal.main (F := Ideal))) ⟨m', fun _ => 0, g'⟩ (fun r => ∀ c : Dev Cert.ReferenceFoxfwdIdeal.nD,
          r.2.mem ((c.tc : Thread Cert.ReferenceFoxfwdIdeal.nD Cert.ReferenceFoxfwdIdeal.τ).loc Cert.ReferenceFoxfwdIdeal.main_v66) = v0 c
          ∧ r.2.mem ((c.tc : Thread Cert.ReferenceFoxfwdIdeal.nD Cert.ReferenceFoxfwdIdeal.τ).loc Cert.ReferenceFoxfwdIdeal.main_v68) = v1 c
          ∧ r.2.mem ((c.tc : Thread Cert.ReferenceFoxfwdIdeal.nD Cert.ReferenceFoxfwdIdeal.τ).loc Cert.ReferenceFoxfwdIdeal.main_arg0) = m' ((c.tc : Thread Cert.ReferenceFoxfwdIdeal.nD Cert.ReferenceFoxfwdIdeal.τ).loc Cert.ReferenceFoxfwdIdeal.main_arg0)
          ∧ r.2.mem ((c.tc : Thread Cert.ReferenceFoxfwdIdeal.nD Cert.ReferenceFoxfwdIdeal.τ).loc Cert.ReferenceFoxfwdIdeal.main_arg1) = m' ((c.tc : Thread Cert.ReferenceFoxfwdIdeal.nD Cert.ReferenceFoxfwdIdeal.τ).loc Cert.ReferenceFoxfwdIdeal.main_arg1)
          ∧ r.2.mem ((c.tc : Thread Cert.ReferenceFoxfwdIdeal.nD Cert.ReferenceFoxfwdIdeal.τ).loc Cert.ReferenceFoxfwdIdeal.main_arg2) = m' ((c.tc : Thread Cert.ReferenceFoxfwdIdeal.nD Cert.ReferenceFoxfwdIdeal.τ).loc Cert.ReferenceFoxfwdIdeal.main_arg2)
          ∧ r.2.mem ((c.tc : Thread Cert.ReferenceFoxfwdIdeal.nD Cert.ReferenceFoxfwdIdeal.τ).loc Cert.ReferenceFoxfwdIdeal.main_arg3) = m' ((c.tc : Thread Cert.ReferenceFoxfwdIdeal.nD Cert.ReferenceFoxfwdIdeal.τ).loc Cert.ReferenceFoxfwdIdeal.main_arg3))

def preserves_KernelGate_KernelGateIdeal : Prop :=
  True

def algebraic_KernelGateIdeal_ReferenceGateIdeal_pre_finite_gate [hKernelGateIdeal : Cert.KernelGateIdeal.Facts] [hReferenceGateIdeal : Cert.ReferenceGateIdeal.Facts] [hPre_finite_gate : Cert.Pre_finite_gate.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal_finite_gate m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v5)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v5) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v5) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)) →
    ∃ (v0 : (c : Dev Cert.KernelActIdeal.nD) → Buf (Elt Ideal) ((c.tc : Thread Cert.KernelActIdeal.nD Cert.KernelActIdeal.τ).loc Cert.KernelActIdeal.main_v4_0)) (v1 : (c : Dev Cert.KernelActIdeal.nD) → Buf (Elt Ideal) ((c.tc : Thread Cert.KernelActIdeal.nD Cert.KernelActIdeal.τ).loc Cert.KernelActIdeal.main_v4_1)) (v2 : (c : Dev Cert.KernelActIdeal.nD) → Buf (Elt Ideal) ((c.tc : Thread Cert.KernelActIdeal.nD Cert.KernelActIdeal.τ).loc Cert.KernelActIdeal.main_v4_2)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v4_0) = v0 c
          ∧ r.2.mem ((c.tc : Thread Cert.KernelActIdeal.nD Cert.KernelActIdeal.τ).loc Cert.KernelActIdeal.main_v4_1) = v1 c
          ∧ r.2.mem ((c.tc : Thread Cert.KernelActIdeal.nD Cert.KernelActIdeal.τ).loc Cert.KernelActIdeal.main_v4_2) = v2 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v3) = v0 c
          ∧ r.2.mem ((c.tc : Thread Cert.ReferenceActIdeal.nD Cert.ReferenceActIdeal.τ).loc Cert.ReferenceActIdeal.main_v4) = v1 c
          ∧ r.2.mem ((c.tc : Thread Cert.ReferenceActIdeal.nD Cert.ReferenceActIdeal.τ).loc Cert.ReferenceActIdeal.main_v7) = v2 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v3_0)) (v1 : (c : Dev Cert.KernelOutIdeal.nD) → Buf (Elt Ideal) ((c.tc : Thread Cert.KernelOutIdeal.nD Cert.KernelOutIdeal.τ).loc Cert.KernelOutIdeal.main_v3_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3_0) = v0 c
          ∧ r.2.mem ((c.tc : Thread Cert.KernelOutIdeal.nD Cert.KernelOutIdeal.τ).loc Cert.KernelOutIdeal.main_v3_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v1) = v0 c
          ∧ r.2.mem ((c.tc : Thread Cert.ReferenceOutIdeal.nD Cert.ReferenceOutIdeal.τ).loc Cert.ReferenceOutIdeal.main_v15) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def Claim : Prop :=
  ∃ (hKernelSwiglu : Cert.KernelSwiglu.Facts) (hKernelSwigluIdeal : Cert.KernelSwigluIdeal.Facts) (hReferenceSwigluIdeal : Cert.ReferenceSwigluIdeal.Facts) (hKernelLoss : Cert.KernelLoss.Facts) (hKernelLossIdeal : Cert.KernelLossIdeal.Facts) (hReferenceLossIdeal : Cert.ReferenceLossIdeal.Facts) (hKernelFfn : Cert.KernelFfn.Facts) (hKernelFfnIdeal : Cert.KernelFfnIdeal.Facts) (hReferenceFfnIdeal : Cert.ReferenceFfnIdeal.Facts) (hKernelMix : Cert.KernelMix.Facts) (hKernelMixIdeal : Cert.KernelMixIdeal.Facts) (hReferenceMixIdeal : Cert.ReferenceMixIdeal.Facts) (hKernelForget : Cert.KernelForget.Facts) (hKernelForgetIdeal : Cert.KernelForgetIdeal.Facts) (hReferenceForgetIdeal : Cert.ReferenceForgetIdeal.Facts) (hKernelSb : Cert.KernelSb.Facts) (hKernelSbIdeal : Cert.KernelSbIdeal.Facts) (hReferenceSbIdeal : Cert.ReferenceSbIdeal.Facts) (hKernelFox : Cert.KernelFox.Facts) (hKernelFoxIdeal : Cert.KernelFoxIdeal.Facts) (hReferenceFoxIdeal : Cert.ReferenceFoxIdeal.Facts) (hKernelEven : Cert.KernelEven.Facts) (hKernelEvenIdeal : Cert.KernelEvenIdeal.Facts) (hReferenceEvenIdeal : Cert.ReferenceEvenIdeal.Facts) (hKernelFoxfwd : Cert.KernelFoxfwd.Facts) (hKernelFoxfwdIdeal : Cert.KernelFoxfwdIdeal.Facts) (hReferenceFoxfwdIdeal : Cert.ReferenceFoxfwdIdeal.Facts) (hKernelGate : Cert.KernelGate.Facts) (hKernelGateIdeal : Cert.KernelGateIdeal.Facts) (hReferenceGateIdeal : Cert.ReferenceGateIdeal.Facts) (hKernelNorm : Cert.KernelNorm.Facts) (hKernelNormIdeal : Cert.KernelNormIdeal.Facts) (hReferenceNormIdeal : Cert.ReferenceNormIdeal.Facts) (hKernelAct : Cert.KernelAct.Facts) (hKernelActIdeal : Cert.KernelActIdeal.Facts) (hReferenceActIdeal : Cert.ReferenceActIdeal.Facts) (hKernelOut : Cert.KernelOut.Facts) (hKernelOutIdeal : Cert.KernelOutIdeal.Facts) (hReferenceOutIdeal : Cert.ReferenceOutIdeal.Facts) (hPre_finite_swiglu : Cert.Pre_finite_swiglu.Facts) (hPre_finite_loss : Cert.Pre_finite_loss.Facts) (hPre_finite_ffn : Cert.Pre_finite_ffn.Facts) (hPre_finite_mix : Cert.Pre_finite_mix.Facts) (hPre_finite_forget : Cert.Pre_finite_forget.Facts) (hPre_finite_sb : Cert.Pre_finite_sb.Facts) (hPre_finite_fox : Cert.Pre_finite_fox.Facts) (hPre_finite_even : Cert.Pre_finite_even.Facts) (hPre_finite_foxfwd : Cert.Pre_finite_foxfwd.Facts) (hPre_finite_gate : Cert.Pre_finite_gate.Facts),
    quiescent_KernelSwiglu (hKernelSwiglu := hKernelSwiglu)
    ∧ quiescent_KernelSwigluIdeal (hKernelSwigluIdeal := hKernelSwigluIdeal)
    ∧ quiescent_KernelSwigluIdeal_pre_finite_swiglu (hKernelSwigluIdeal := hKernelSwigluIdeal) (hPre_finite_swiglu := hPre_finite_swiglu)
    ∧ quiescent_ReferenceSwigluIdeal (hReferenceSwigluIdeal := hReferenceSwigluIdeal)
    ∧ quiescent_ReferenceSwigluIdeal_pre_finite_swiglu (hReferenceSwigluIdeal := hReferenceSwigluIdeal) (hPre_finite_swiglu := hPre_finite_swiglu)
    ∧ quiescent_KernelLoss (hKernelLoss := hKernelLoss)
    ∧ quiescent_KernelLossIdeal (hKernelLossIdeal := hKernelLossIdeal)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelForget (hKernelForget := hKernelForget)
    ∧ quiescent_KernelForgetIdeal (hKernelForgetIdeal := hKernelForgetIdeal)
    ∧ quiescent_KernelForgetIdeal_pre_finite_forget (hKernelForgetIdeal := hKernelForgetIdeal) (hPre_finite_forget := hPre_finite_forget)
    ∧ quiescent_ReferenceForgetIdeal (hReferenceForgetIdeal := hReferenceForgetIdeal)
    ∧ quiescent_ReferenceForgetIdeal_pre_finite_forget (hReferenceForgetIdeal := hReferenceForgetIdeal) (hPre_finite_forget := hPre_finite_forget)
    ∧ quiescent_KernelSb (hKernelSb := hKernelSb)
    ∧ quiescent_KernelSbIdeal (hKernelSbIdeal := hKernelSbIdeal)
    ∧ quiescent_KernelSbIdeal_pre_finite_sb (hKernelSbIdeal := hKernelSbIdeal) (hPre_finite_sb := hPre_finite_sb)
    ∧ quiescent_ReferenceSbIdeal (hReferenceSbIdeal := hReferenceSbIdeal)
    ∧ quiescent_ReferenceSbIdeal_pre_finite_sb (hReferenceSbIdeal := hReferenceSbIdeal) (hPre_finite_sb := hPre_finite_sb)
    ∧ quiescent_KernelFox (hKernelFox := hKernelFox)
    ∧ quiescent_KernelFoxIdeal (hKernelFoxIdeal := hKernelFoxIdeal)
    ∧ quiescent_KernelFoxIdeal_pre_finite_fox (hKernelFoxIdeal := hKernelFoxIdeal) (hPre_finite_fox := hPre_finite_fox)
    ∧ quiescent_ReferenceFoxIdeal (hReferenceFoxIdeal := hReferenceFoxIdeal)
    ∧ quiescent_ReferenceFoxIdeal_pre_finite_fox (hReferenceFoxIdeal := hReferenceFoxIdeal) (hPre_finite_fox := hPre_finite_fox)
    ∧ quiescent_KernelEven (hKernelEven := hKernelEven)
    ∧ quiescent_KernelEvenIdeal (hKernelEvenIdeal := hKernelEvenIdeal)
    ∧ quiescent_KernelEvenIdeal_pre_finite_even (hKernelEvenIdeal := hKernelEvenIdeal) (hPre_finite_even := hPre_finite_even)
    ∧ quiescent_ReferenceEvenIdeal (hReferenceEvenIdeal := hReferenceEvenIdeal)
    ∧ quiescent_ReferenceEvenIdeal_pre_finite_even (hReferenceEvenIdeal := hReferenceEvenIdeal) (hPre_finite_even := hPre_finite_even)
    ∧ quiescent_KernelFoxfwd (hKernelFoxfwd := hKernelFoxfwd)
    ∧ quiescent_KernelFoxfwdIdeal (hKernelFoxfwdIdeal := hKernelFoxfwdIdeal)
    ∧ quiescent_KernelFoxfwdIdeal_pre_finite_foxfwd (hKernelFoxfwdIdeal := hKernelFoxfwdIdeal) (hPre_finite_foxfwd := hPre_finite_foxfwd)
    ∧ quiescent_ReferenceFoxfwdIdeal (hReferenceFoxfwdIdeal := hReferenceFoxfwdIdeal)
    ∧ quiescent_ReferenceFoxfwdIdeal_pre_finite_foxfwd (hReferenceFoxfwdIdeal := hReferenceFoxfwdIdeal) (hPre_finite_foxfwd := hPre_finite_foxfwd)
    ∧ quiescent_KernelGate (hKernelGate := hKernelGate)
    ∧ quiescent_KernelGateIdeal (hKernelGateIdeal := hKernelGateIdeal)
    ∧ quiescent_KernelGateIdeal_pre_finite_gate (hKernelGateIdeal := hKernelGateIdeal) (hPre_finite_gate := hPre_finite_gate)
    ∧ quiescent_ReferenceGateIdeal (hReferenceGateIdeal := hReferenceGateIdeal)
    ∧ quiescent_ReferenceGateIdeal_pre_finite_gate (hReferenceGateIdeal := hReferenceGateIdeal) (hPre_finite_gate := hPre_finite_gate)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ preserves_KernelSwiglu_KernelSwigluIdeal
    ∧ algebraic_KernelSwigluIdeal_ReferenceSwigluIdeal_pre_finite_swiglu (hKernelSwigluIdeal := hKernelSwigluIdeal) (hReferenceSwigluIdeal := hReferenceSwigluIdeal) (hPre_finite_swiglu := hPre_finite_swiglu)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelForget_KernelForgetIdeal
    ∧ algebraic_KernelForgetIdeal_ReferenceForgetIdeal_pre_finite_forget (hKernelForgetIdeal := hKernelForgetIdeal) (hReferenceForgetIdeal := hReferenceForgetIdeal) (hPre_finite_forget := hPre_finite_forget)
    ∧ preserves_KernelSb_KernelSbIdeal
    ∧ algebraic_KernelSbIdeal_ReferenceSbIdeal_pre_finite_sb (hKernelSbIdeal := hKernelSbIdeal) (hReferenceSbIdeal := hReferenceSbIdeal) (hPre_finite_sb := hPre_finite_sb)
    ∧ preserves_KernelFox_KernelFoxIdeal
    ∧ algebraic_KernelFoxIdeal_ReferenceFoxIdeal_pre_finite_fox (hKernelFoxIdeal := hKernelFoxIdeal) (hReferenceFoxIdeal := hReferenceFoxIdeal) (hPre_finite_fox := hPre_finite_fox)
    ∧ preserves_KernelEven_KernelEvenIdeal
    ∧ algebraic_KernelEvenIdeal_ReferenceEvenIdeal_pre_finite_even (hKernelEvenIdeal := hKernelEvenIdeal) (hReferenceEvenIdeal := hReferenceEvenIdeal) (hPre_finite_even := hPre_finite_even)
    ∧ preserves_KernelFoxfwd_KernelFoxfwdIdeal
    ∧ algebraic_KernelFoxfwdIdeal_ReferenceFoxfwdIdeal_pre_finite_foxfwd (hKernelFoxfwdIdeal := hKernelFoxfwdIdeal) (hReferenceFoxfwdIdeal := hReferenceFoxfwdIdeal) (hPre_finite_foxfwd := hPre_finite_foxfwd)
    ∧ preserves_KernelGate_KernelGateIdeal
    ∧ algebraic_KernelGateIdeal_ReferenceGateIdeal_pre_finite_gate (hKernelGateIdeal := hKernelGateIdeal) (hReferenceGateIdeal := hReferenceGateIdeal) (hPre_finite_gate := hPre_finite_gate)
    ∧ preserves_KernelNorm_KernelNormIdeal
    ∧ algebraic_KernelNormIdeal_ReferenceNormIdeal (hKernelNormIdeal := hKernelNormIdeal) (hReferenceNormIdeal := hReferenceNormIdeal)
    ∧ preserves_KernelAct_KernelActIdeal
    ∧ algebraic_KernelActIdeal_ReferenceActIdeal (hKernelActIdeal := hKernelActIdeal) (hReferenceActIdeal := hReferenceActIdeal)
    ∧ preserves_KernelOut_KernelOutIdeal
    ∧ algebraic_KernelOutIdeal_ReferenceOutIdeal (hKernelOutIdeal := hKernelOutIdeal) (hReferenceOutIdeal := hReferenceOutIdeal)
-- ==== Pre_finite_even.lean ====
abbrev S2048x3072 : Shape := ⟨2, ![2048, 3072]⟩
abbrev S1024x3072 : Shape := ⟨2, ![1024, 3072]⟩
abbrev S2048x1024 : Shape := ⟨2, ![2048, 1024]⟩
abbrev S1024 : Shape := ⟨1, ![1024]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S2048x3072 .f32) (main_arg1 : FVec F S1024x3072 .f32) (main_arg2 : FVec F S2048x1024 .f32) (main_arg3 : FVec F S1024 .f32) (main_arg4 : FVec F S2048x1024 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_c_0 : IVec S_ 1 := constantI S_ 1 1#1
  let main_v4 : IVec S_ 1 := andi main_c_0 main_v3
  let main_v5 : FVec F S1024x3072 .f32 := Host.absf main_arg1
  let main_cst_1 : FVec F S_ .f32 := constant S_ .f32 0x7F800000#32
  let main_v6 : FVec F S1024x3072 .f32 := broadcastInDim S1024x3072 ![] bcast_S_S1024x3072 main_cst_1
  let main_v7 : IVec S1024x3072 1 := cmpf .olt main_v5 main_v6
  let main_c_2 : IVec S_ 1 := constantI S_ 1 1#1
  let main_v8 : IVec S_ 1 := (fun x v => Host.reduce IntOp.andi x v reducesTo_S1024x3072_S_d0_1 h_S_) main_v7 main_c_2
  let main_v9 : IVec S_ 1 := andi main_v4 main_v8
  let main_v10 : FVec F S2048x1024 .f32 := Host.absf main_arg2
  let main_cst_3 : FVec F S_ .f32 := constant S_ .f32 0x7F800000#32
  let main_v11 : FVec F S2048x1024 .f32 := broadcastInDim S2048x1024 ![] bcast_S_S2048x1024 main_cst_3
  let main_v12 : IVec S2048x1024 1 := cmpf .olt main_v10 main_v11
  let main_c_4 : IVec S_ 1 := constantI S_ 1 1#1
  let main_v13 : IVec S_ 1 := (fun x v => Host.reduce IntOp.andi x v reducesTo_S2048x1024_S_d0_1 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_v14 main_v15 main_cst_5
-- ==== Pre_finite_ffn.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩

class Facts : Prop where
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S2048x5632 .f32) (main_arg1 : FVec F S1024x5632 .f32) (main_arg2 : FVec F S2048x1024 .f32) (main_arg3 : FVec F S1024 .f32) (main_arg4 : FVec F S2048x1024 .f32) : IVec S_ 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_c : IVec S_ 1 := constantI S_ 1 1#1
  let main_v3 : IVec S_ 1 := (fun x v => Host.reduce IntOp.andi x v reducesTo_S2048x5632_S_d0_1 h_S_) main_v2 main_c
  let main_c_0 : IVec S_ 1 := constantI S_ 1 1#1
  let main_v4 : IVec S_ 1 := andi main_c_0 main_v3
  let main_v5 : FVec F S1024x5632 .f32 := Host.absf main_arg1
  let main_cst_1 : FVec F S_ .f32 := constant S_ .f32 0x7F800000#32
  let main_v6 : FVec F S1024x5632 .f32 := broadcastInDim S1024x5632 ![] bcast_S_S1024x5632 main_cst_1
  let main_v7 : IVec S1024x5632 1 := cmpf .olt main_v5 main_v6
  let main_c_2 : IVec S_ 1 := constantI S_ 1 1#1
  let main_v8 : IVec S_ 1 := (fun x v => Host.reduce IntOp.andi x v reducesTo_S1024x5632_S_d0_1 h_S_) main_v7 main_c_2
  let main_v9 : IVec S_ 1 := andi main_v4 main_v8
  let main_v10 : FVec F S2048x1024 .f32 := Host.absf main_arg2
  let main_cst_3 : FVec F S_ .f32 := constant S_ .f32 0x7F800000#32
  let main_v11 : FVec F S2048x1024 .f32 := broadcastInDim S2048x1024 ![] bcast_S_S2048x1024 main_cst_3
  let main_v12 : IVec S2048x1024 1 := cmpf .olt main_v10 main_v11
  let main_c_4 : IVec S_ 1 := constantI S_ 1 1#1
  let main_v13 : IVec S_ 1 := (fun x v => Host.reduce IntOp.andi x v reducesTo_S2048x1024_S_d0_1 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_v14 main_v15 main_cst_5
-- ==== Pre_finite_forget.lean ====
abbrev S2048x16 : Shape := ⟨2, ![2048, 16]⟩
abbrev S16 : Shape := ⟨1, ![16]⟩
abbrev S16x2048 : Shape := ⟨2, ![16, 2048]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S16 : S_.BroadcastsInDim S16 (![] : Fin 0 → Fin S16.rank)
  reducesTo_S16_S_d0 : S16.ReducesTo [0] S_
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S2048x16 .f32) (main_arg1 : FVec F S16 .f32) (main_arg2 : FVec F S16x2048 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_c_0 : IVec S_ 1 := constantI S_ 1 1#1
  let main_v4 : IVec S_ 1 := andi main_c_0 main_v3
  let main_v5 : FVec F S16 .f32 := Host.absf main_arg1
  let main_cst_1 : FVec F S_ .f32 := constant S_ .f32 0x7F800000#32
  let main_v6 : FVec F S16 .f32 := broadcastInDim S16 ![] bcast_S_S16 main_cst_1
  let main_v7 : IVec S16 1 := cmpf .olt main_v5 main_v6
  let main_c_2 : IVec S_ 1 := constantI S_ 1 1#1
  let main_v8 : IVec S_ 1 := (fun x v => Host.reduce IntOp.andi x v reducesTo_S16_S_d0 h_S_) main_v7 main_c_2
  let main_v9 : IVec S_ 1 := andi main_v4 main_v8
  let main_v10 : FVec F S16x2048 .f32 := Host.absf main_arg2
  let main_cst_3 : FVec F S_ .f32 := constant S_ .f32 0x7F800000#32
  let main_v11 : FVec F S16x2048 .f32 := broadcastInDim S16x2048 ![] bcast_S_S16x2048 main_cst_3
  let main_v12 : IVec S16x2048 1 := cmpf .olt main_v10 main_v11
  let main_c_4 : IVec S_ 1 := constantI S_ 1 1#1
  let main_v13 : IVec S_ 1 := (fun x v => Host.reduce IntOp.andi x v reducesTo_S16x2048_S_d0_1 h_S_) main_v12 main_c_4
  let main_v14 : IVec S_ 1 := andi main_v9 main_v13
  main_v14
-- ==== Pre_finite_fox.lean ====
abbrev S2048x1024 : Shape := ⟨2, ![2048, 1024]⟩
abbrev S16x2048 : Shape := ⟨2, ![16, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_arg4 : FVec F S2048x1024 .f32) (main_v14 : IVec S_ 1) (main_v15 : FVec F S16x2048 .f32) (main_cst_5 : FVec F S_ .f32) : IVec S_ 1 :=
  let main_v16 : FVec F S16x2048 .f32 := broadcastInDim S16x2048 ![] bcast_S_S16x2048 main_cst_5
  let main_v17 : IVec S16x2048 1 := cmpf .olt main_v15 main_v16
  let main_c_6 : IVec S_ 1 := constantI S_ 1 1#1
  let main_v18 : IVec S_ 1 := (fun x v => Host.reduce IntOp.andi x v reducesTo_S16x2048_S_d0_1 h_S_) main_v17 main_c_6
  let main_v19 : IVec S_ 1 := andi main_v14 main_v18
  let main_v20 : FVec F S2048x1024 .f32 := Host.absf main_arg4
  let main_cst_7 : FVec F S_ .f32 := constant S_ .f32 0x7F800000#32
  let main_v21 : FVec F S2048x1024 .f32 := broadcastInDim S2048x1024 ![] bcast_S_S2048x1024 main_cst_7
  let main_v22 : IVec S2048x1024 1 := cmpf .olt main_v20 main_v21
  let main_c_8 : IVec S_ 1 := constantI S_ 1 1#1
  let main_v23 : IVec S_ 1 := (fun x v => Host.reduce IntOp.andi x v reducesTo_S2048x1024_S_d0_1 h_S_) main_v22 main_c_8
  let main_v24 : IVec S_ 1 := andi main_v19 main_v23
  main_v24

def fn {F : FTy → Type} [FloatOps F] (main_arg0 : FVec F S2048x1024 .f32) (main_arg1 : FVec F S2048x1024 .f32) (main_arg2 : FVec F S2048x1024 .f32) (main_arg3 : FVec F S16x2048 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S2048x1024 .f32 := Host.absf main_arg1
  let main_cst_1 : FVec F S_ .f32 := constant S_ .f32 0x7F800000#32
  let main_v6 : FVec F S2048x1024 .f32 := broadcastInDim S2048x1024 ![] bcast_S_S2048x1024 main_cst_1
  let main_v7 : IVec S2048x1024 1 := cmpf .olt main_v5 main_v6
  let main_c_2 : IVec S_ 1 := constantI S_ 1 1#1
  let main_v8 : IVec S_ 1 := (fun x v => Host.reduce IntOp.andi x v reducesTo_S2048x1024_S_d0_1 h_S_) main_v7 main_c_2
  let main_v9 : IVec S_ 1 := andi main_v4 main_v8
  let main_v10 : FVec F S2048x1024 .f32 := Host.absf main_arg2
  let main_cst_3 : FVec F S_ .f32 := constant S_ .f32 0x7F800000#32
  let main_v11 : FVec F S2048x1024 .f32 := broadcastInDim S2048x1024 ![] bcast_S_S2048x1024 main_cst_3
  let main_v12 : IVec S2048x1024 1 := cmpf .olt main_v10 main_v11
  let main_c_4 : IVec S_ 1 := constantI S_ 1 1#1
  let main_v13 : IVec S_ 1 := (fun x v => Host.reduce IntOp.andi x v reducesTo_S2048x1024_S_d0_1 h_S_) main_v12 main_c_4
  let main_v14 : IVec S_ 1 := andi main_v9 main_v13
  let main_v15 : FVec F S16x2048 .f32 := Host.absf main_arg3
  let main_cst_5 : FVec F S_ .f32 := constant S_ .f32 0x7F800000#32
  fn_part1 (F := F) main_arg4 main_v14 main_v15 main_cst_5
-- ==== Pre_finite_foxfwd.lean ====
abbrev S2048x1024 : Shape := ⟨2, ![2048, 1024]⟩
abbrev S16x2048 : Shape := ⟨2, ![16, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn_part1 {F : FTy → Type} [FloatOps F] (main_v14 : IVec S_ 1) (main_v15 : FVec F S16x2048 .f32) (main_cst_5 : FVec F S_ .f32) : IVec S_ 1 :=
  let main_v16 : FVec F S16x2048 .f32 := broadcastInDim S16x2048 ![] bcast_S_S16x2048 main_cst_5
  let main_v17 : IVec S16x2048 1 := cmpf .olt main_v15 main_v16
  let main_c_6 : IVec S_ 1 := constantI S_ 1 1#1
  let main_v18 : IVec S_ 1 := (fun x v => Host.reduce IntOp.andi x v reducesTo_S16x2048_S_d0_1 h_S_) main_v17 main_c_6
  let main_v19 : IVec S_ 1 := andi main_v14 main_v18
  main_v19

def fn {F : FTy → Type} [FloatOps F] (main_arg0 : FVec F S2048x1024 .f32) (main_arg1 : FVec F S2048x1024 .f32) (main_arg2 : FVec F S2048x1024 .f32) (main_arg3 : FVec F S16x2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S2048x1024 .f32 := Host.absf main_arg1
  let main_cst_1 : FVec F S_ .f32 := constant S_ .f32 0x7F800000#32
  let main_v6 : FVec F S2048x1024 .f32 := broadcastInDim S2048x1024 ![] bcast_S_S2048x1024 main_cst_1
  let main_v7 : IVec S2048x1024 1 := cmpf .olt main_v5 main_v6
  let main_c_2 : IVec S_ 1 := constantI S_ 1 1#1
  let main_v8 : IVec S_ 1 := (fun x v => Host.reduce IntOp.andi x v reducesTo_S2048x1024_S_d0_1 h_S_) main_v7 main_c_2
  let main_v9 : IVec S_ 1 := andi main_v4 main_v8
  let main_v10 : FVec F S2048x1024 .f32 := Host.absf main_arg2
  let main_cst_3 : FVec F S_ .f32 := constant S_ .f32 0x7F800000#32
  let main_v11 : FVec F S2048x1024 .f32 := broadcastInDim S2048x1024 ![] bcast_S_S2048x1024 main_cst_3
  let main_v12 : IVec S2048x1024 1 := cmpf .olt main_v10 main_v11
  let main_c_4 : IVec S_ 1 := constantI S_ 1 1#1
  let main_v13 : IVec S_ 1 := (fun x v => Host.reduce IntOp.andi x v reducesTo_S2048x1024_S_d0_1 h_S_) main_v12 main_c_4
  let main_v14 : IVec S_ 1 := andi main_v9 main_v13
  let main_v15 : FVec F S16x2048 .f32 := Host.absf main_arg3
  let main_cst_5 : FVec F S_ .f32 := constant S_ .f32 0x7F800000#32
  fn_part1 (F := F) main_v14 main_v15 main_cst_5
-- ==== Pre_finite_gate.lean ====
abbrev S2048x16 : Shape := ⟨2, ![2048, 16]⟩
abbrev S16 : Shape := ⟨1, ![16]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2048x16 .f32) (main_arg1 : FVec F S16 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_c_0 : IVec S_ 1 := constantI S_ 1 1#1
  let main_v4 : IVec S_ 1 := andi main_c_0 main_v3
  let main_v5 : FVec F S16 .f32 := Host.absf main_arg1
  let main_cst_1 : FVec F S_ .f32 := constant S_ .f32 0x7F800000#32
  let main_v6 : FVec F S16 .f32 := broadcastInDim S16 ![] bcast_S_S16 main_cst_1
  let main_v7 : IVec S16 1 := cmpf .olt main_v5 main_v6
  let main_c_2 : IVec S_ 1 := constantI S_ 1 1#1
  let main_v8 : IVec S_ 1 := (fun x v => Host.reduce IntOp.andi x v reducesTo_S16_S_d0 h_S_) main_v7 main_c_2
  let main_v9 : IVec S_ 1 := andi main_v4 main_v8
  main_v9
-- ==== Pre_finite_loss.lean ====
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2048x1024 .f32) (main_arg1 : FVec F S1024 .f32) (main_arg2 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S2048x1024 .f32 := Host.absf main_arg2
  let main_cst_3 : FVec F S_ .f32 := constant S_ .f32 0x7F800000#32
  let main_v11 : FVec F S2048x1024 .f32 := broadcastInDim S2048x1024 ![] bcast_S_S2048x1024 main_cst_3
  let main_v12 : IVec S2048x1024 1 := cmpf .olt main_v10 main_v11
  let main_c_4 : IVec S_ 1 := constantI S_ 1 1#1
  let main_v13 : IVec S_ 1 := (fun x v => Host.reduce IntOp.andi x v reducesTo_S2048x1024_S_d0_1 h_S_) main_v12 main_c_4
  let main_v14 : IVec S_ 1 := andi main_v9 main_v13
  main_v14
-- ==== Pre_finite_mix.lean ====
abbrev S2048x3088 : Shape := ⟨2, ![2048, 3088]⟩
abbrev S1024x3088 : Shape := ⟨2, ![1024, 3088]⟩
abbrev S2048x1024 : Shape := ⟨2, ![2048, 1024]⟩
abbrev S1024 : Shape := ⟨1, ![1024]⟩
abbrev S_ : Shape := ⟨0, ![]⟩

class Facts : Prop where
  bcast_S_S2048x3088 : S_.BroadcastsInDim S2048x3088 (![] : Fin 0 → Fin S2048x3088.rank)
  reducesTo_S2048x3088_S_d0_1 : S2048x3088.ReducesTo [0, 1] S_
  h_S_ : 0 < S_.numel
  bcast_S_S1024x3088 : S_.BroadcastsInDim S1024x3088 (![] : Fin 0 → Fin S1024x3088.rank)
  reducesTo_S1024x3088_S_d0_1 : S1024x3088.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S2048x3088 .f32) (main_arg1 : FVec F S1024x3088 .f32) (main_arg2 : FVec F S2048x1024 .f32) (main_arg3 : FVec F S1024 .f32) (main_arg4 : FVec F S2048x1024 .f32) : IVec S_ 1 :=
  let main_v0 : FVec F S2048x3088 .f32 := Host.absf main_arg0
  let main_cst : FVec F S_ .f32 := constant S_ .f32 0x7F800000#32
  let main_v1 : FVec F S2048x3088 .f32 := broadcastInDim S2048x3088 ![] bcast_S_S2048x3088 main_cst
  let main_v2 : IVec S2048x3088 1 := cmpf .olt main_v0 main_v1
  let main_c : IVec S_ 1 := constantI S_ 1 1#1
  let main_v3 : IVec S_ 1 := (fun x v => Host.reduce IntOp.andi x v reducesTo_S2048x3088_S_d0_1 h_S_) main_v2 main_c
  let main_c_0 : IVec S_ 1 := constantI S_ 1 1#1
  let main_v4 : IVec S_ 1 := andi main_c_0 main_v3
  let main_v5 : FVec F S1024x3088 .f32 := Host.absf main_arg1
  let main_cst_1 : FVec F S_ .f32 := constant S_ .f32 0x7F800000#32
  let main_v6 : FVec F S1024x3088 .f32 := broadcastInDim S1024x3088 ![] bcast_S_S1024x3088 main_cst_1
  let main_v7 : IVec S1024x3088 1 := cmpf .olt main_v5 main_v6
  let main_c_2 : IVec S_ 1 := constantI S_ 1 1#1
  let main_v8 : IVec S_ 1 := (fun x v => Host.reduce IntOp.andi x v reducesTo_S1024x3088_S_d0_1 h_S_) main_v7 main_c_2
  let main_v9 : IVec S_ 1 := andi main_v4 main_v8
  let main_v10 : FVec F S2048x1024 .f32 := Host.absf main_arg2
  let main_cst_3 : FVec F S_ .f32 := constant S_ .f32 0x7F800000#32
  let main_v11 : FVec F S2048x1024 .f32 := broadcastInDim S2048x1024 ![] bcast_S_S2048x1024 main_cst_3
  let main_v12 : IVec S2048x1024 1 := cmpf .olt main_v10 main_v11
  let main_c_4 : IVec S_ 1 := constantI S_ 1 1#1
  let main_v13 : IVec S_ 1 := (fun x v => Host.reduce IntOp.andi x v reducesTo_S2048x1024_S_d0_1 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_v14 main_v15 main_cst_5
-- ==== Pre_finite_sb.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn_part1 {F : FTy → Type} [FloatOps F] (main_v14 : IVec S_ 1) (main_v15 : FVec F S2048x512 .f32) (main_cst_5 : FVec F S_ .f32) : IVec S_ 1 :=
  let main_v16 : FVec F S2048x512 .f32 := broadcastInDim S2048x512 ![] bcast_S_S2048x512 main_cst_5
  let main_v17 : IVec S2048x512 1 := cmpf .olt main_v15 main_v16
  let main_c_6 : IVec S_ 1 := constantI S_ 1 1#1
  let main_v18 : IVec S_ 1 := (fun x v => Host.reduce IntOp.andi x v reducesTo_S2048x512_S_d0_1 h_S_) main_v17 main_c_6
  let main_v19 : IVec S_ 1 := andi main_v14 main_v18
  main_v19

def fn {F : FTy → Type} [FloatOps F] (main_arg0 : FVec F S2048x512 .f32) (main_arg1 : FVec F S2048x512 .f32) (main_arg2 : FVec F S2048x512 .f32) (main_arg3 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_c_0 : IVec S_ 1 := constantI S_ 1 1#1
  let main_v4 : IVec S_ 1 := andi main_c_0 main_v3
  let main_v5 : FVec F S2048x512 .f32 := Host.absf main_arg1
  let main_cst_1 : FVec F S_ .f32 := constant S_ .f32 0x7F800000#32
  let main_v6 : FVec F S2048x512 .f32 := broadcastInDim S2048x512 ![] bcast_S_S2048x512 main_cst_1
  let main_v7 : IVec S2048x512 1 := cmpf .olt main_v5 main_v6
  let main_c_2 : IVec S_ 1 := constantI S_ 1 1#1
  let main_v8 : IVec S_ 1 := (fun x v => Host.reduce IntOp.andi x v reducesTo_S2048x512_S_d0_1 h_S_) main_v7 main_c_2
  let main_v9 : IVec S_ 1 := andi main_v4 main_v8
  let main_v10 : FVec F S2048x512 .f32 := Host.absf main_arg2
  let main_cst_3 : FVec F S_ .f32 := constant S_ .f32 0x7F800000#32
  let main_v11 : FVec F S2048x512 .f32 := broadcastInDim S2048x512 ![] bcast_S_S2048x512 main_cst_3
  let main_v12 : IVec S2048x512 1 := cmpf .olt main_v10 main_v11
  let main_c_4 : IVec S_ 1 := constantI S_ 1 1#1
  let main_v13 : IVec S_ 1 := (fun x v => Host.reduce IntOp.andi x v reducesTo_S2048x512_S_d0_1 h_S_) main_v12 main_c_4
  let main_v14 : IVec S_ 1 := andi main_v9 main_v13
  let main_v15 : FVec F S2048x512 .f32 := Host.absf main_arg3
  let main_cst_5 : FVec F S_ .f32 := constant S_ .f32 0x7F800000#32
  fn_part1 (F := F) main_v14 main_v15 main_cst_5
-- ==== Pre_finite_swiglu.lean ====
abbrev S2048x1024 : Shape := ⟨2, ![2048, 1024]⟩
abbrev S2816x1024 : Shape := ⟨2, ![2816, 1024]⟩
abbrev S2048x5632 : Shape := ⟨2, ![2048, 5632]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x5632 : S_.BroadcastsInDim S2048x5632 (![] : Fin 0 → Fin S2048x5632.rank)
  reducesTo_S2048x5632_S_d0_1 : S2048x5632.ReducesTo [0, 1] S_

variable [Facts]

def fn {F : FTy → Type} [FloatOps F] (main_arg0 : FVec F S2048x1024 .f32) (main_arg1 : FVec F S2816x1024 .f32) (main_arg2 : FVec F S2048x5632 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S2816x1024 .f32 := Host.absf main_arg1
  let main_cst_1 : FVec F S_ .f32 := constant S_ .f32 0x7F800000#32
  let main_v6 : FVec F S2816x1024 .f32 := broadcastInDim S2816x1024 ![] bcast_S_S2816x1024 main_cst_1
  let main_v7 : IVec S2816x1024 1 := cmpf .olt main_v5 main_v6
  let main_c_2 : IVec S_ 1 := constantI S_ 1 1#1
  let main_v8 : IVec S_ 1 := (fun x v => Host.reduce IntOp.andi x v reducesTo_S2816x1024_S_d0_1 h_S_) main_v7 main_c_2
  let main_v9 : IVec S_ 1 := andi main_v4 main_v8
  let main_v10 : FVec F S2048x5632 .f32 := Host.absf main_arg2
  let main_cst_3 : FVec F S_ .f32 := constant S_ .f32 0x7F800000#32
  let main_v11 : FVec F S2048x5632 .f32 := broadcastInDim S2048x5632 ![] bcast_S_S2048x5632 main_cst_3
  let main_v12 : IVec S2048x5632 1 := cmpf .olt main_v10 main_v11
  let main_c_4 : IVec S_ 1 := constantI S_ 1 1#1
  let main_v13 : IVec S_ 1 := (fun x v => Host.reduce IntOp.andi x v reducesTo_S2048x5632_S_d0_1 h_S_) main_v12 main_c_4
  let main_v14 : IVec S_ 1 := andi main_v9 main_v13
  main_v14
-- ==== KernelSwiglu.lean ====
abbrev S2048x1024 : Shape := ⟨2, ![2048, 1024]⟩
abbrev S2816x1024 : Shape := ⟨2, ![2816, 1024]⟩
abbrev S2048x5632 : Shape := ⟨2, ![2048, 5632]⟩
abbrev S2048x2816 : Shape := ⟨2, ![2048, 2816]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x5632, .f32⟩
  | .hbm, ⟨3, _⟩ => ⟨S2048x5632, .bf16⟩
  | .hbm, ⟨4, _⟩ => ⟨S2048x2816, .bf16⟩
  | .hbm, ⟨5, _⟩ => ⟨S2048x2816, .bf16⟩
  | .hbm, ⟨6, _⟩ => ⟨S2816x1024, .bf16⟩
  | .hbm, ⟨7, _⟩ => ⟨S2048x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceSwigluIdeal.lean ====
abbrev S2048x1024 : Shape := ⟨2, ![2048, 1024]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2816x1024, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x1024, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x5632, .f32⟩
  | .hbm, ⟨28, _⟩ => ⟨S2048x5632, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== KernelLoss.lean ====
abbrev S2048x1024 : Shape := ⟨2, ![2048, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S1x128, .f32⟩
  | .hbm, ⟨7, _⟩ => ⟨S1x1, .f32⟩
  | .hbm, ⟨8, _⟩ => ⟨S_, .f32⟩
  | .hbm, ⟨9, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_18 : BitVec 32 := 0#32
  let v55 : BitVec 1 := Scalar.cmpi .ne v54 c0_i32_18
  v55

def k0_cond2 (i : grid0.Coords) : BitVec 1 :=
  let arg0 : BitVec 32 := BitVec.ofNat 32 (i 0).val
  let c0_i32_19 : BitVec 32 := 0#32
  let v56 : BitVec 1 := Scalar.cmpi .sgt arg0 c0_i32_19
  let v57 : BitVec 32 := Scalar.extui v56
  let c0_i32_20 : BitVec 32 := 0#32
  let v58 : BitVec 1 := Scalar.cmpi .ne v57 c0_i32_20
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== KernelFfn.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S256x5632 : Shape := ⟨2, ![256, 5632]⟩
abbrev S256x1024 : Shape := ⟨2, ![256, 1024]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2048x5632, .bf16⟩
  | .hbm, ⟨9, _⟩ => ⟨S1x1024, .f32⟩
  | .hbm, ⟨10, _⟩ => ⟨S2048x1024, .f32⟩
  | .hbm, ⟨11, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_18 : BitVec 32 := 0#32
  let v47 : BitVec 1 := Scalar.cmpi .ne v46 c0_i32_18
  v47

def k0_cond2 (i : grid0.Coords) : BitVec 1 :=
  let arg0 : BitVec 32 := BitVec.ofNat 32 (i 0).val
  let c0_i32_19 : BitVec 32 := 0#32
  let v48 : BitVec 1 := Scalar.cmpi .sgt arg0 c0_i32_19
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceFfnIdeal.lean ====
abbrev S2048x5632 : Shape := ⟨2, ![2048, 5632]⟩
abbrev S1024x5632 : Shape := ⟨2, ![1024, 5632]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S1024x5632, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x5632, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelMix.lean ====
abbrev S2048x3088 : Shape := ⟨2, ![2048, 3088]⟩
abbrev S1024x3088 : Shape := ⟨2, ![1024, 3088]⟩
abbrev S2048x1024 : Shape := ⟨2, ![2048, 1024]⟩
abbrev S1024 : Shape := ⟨1, ![1024]⟩
abbrev S_ : Shape := ⟨0, ![]⟩
abbrev S2048x3200 : Shape := ⟨2, ![2048, 3200]⟩
abbrev S1024x3200 : Shape := ⟨2, ![1024, 3200]⟩
abbrev S1x1024 : Shape := ⟨2, ![1, 1024]⟩
abbrev S512x3200 : Shape := ⟨2, ![512, 3200]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S2048x3088, .f32⟩
  | .hbm, ⟨1, _⟩ => ⟨S1024x3088, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S_, .i32⟩
  | .hbm, ⟨6, _⟩ => ⟨S_, .f32⟩
  | .hbm, ⟨7, _⟩ => ⟨S2048x3200, .f32⟩
  | .hbm, ⟨8, _⟩ => ⟨S2048x3200, .bf16⟩
  | .hbm, ⟨9, _⟩ => ⟨S_, .i32⟩
  | .hbm, ⟨10, _⟩ => ⟨S_, .f32⟩
  | .hbm, ⟨11, _⟩ => ⟨S1024x3200, .f32⟩
  | .hbm, ⟨12, _⟩ => ⟨S1024x3200, .bf16⟩
  | .hbm, ⟨13, _⟩ => ⟨S1x1024, .f32⟩
  | .hbm, ⟨14, _⟩ => ⟨S2048x1024, .f32⟩
  | .hbm, ⟨15, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32_18 : BitVec 32 := 0#32
  let v39 : BitVec 1 := Scalar.cmpi .sgt arg0 c0_i32_18
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceMixIdeal.lean ====
abbrev S2048x3088 : Shape := ⟨2, ![2048, 3088]⟩
abbrev S1024x3088 : Shape := ⟨2, ![1024, 3088]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x3088, .f32⟩
  | .hbm, ⟨1, _⟩ => ⟨S1024x3088, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x3088, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelForget.lean ====
abbrev S2048x16 : Shape := ⟨2, ![2048, 16]⟩
abbrev S16 : Shape := ⟨1, ![16]⟩
abbrev S16x2048 : Shape := ⟨2, ![16, 2048]⟩
abbrev S_ : Shape := ⟨0, ![]⟩
abbrev S2048x128 : Shape := ⟨2, ![2048, 128]⟩
abbrev S1x16 : Shape := ⟨2, ![1, 16]⟩
abbrev S1x128 : Shape := ⟨2, ![1, 128]⟩
abbrev S128x128 : Shape := ⟨2, ![128, 128]⟩
abbrev S128 : Shape := ⟨1, ![128]⟩

abbrev nBuf : Space → Nat
  | .hbm => 19
  | .vmem => 5
  | .smem => 0
  | _ => 0

abbrev bufTy : (tb : Table) → Fin (tcTables nBuf tb) → BufTy
  | .hbm, ⟨0, _⟩ => ⟨S2048x16, .f32⟩
  | .hbm, ⟨1, _⟩ => ⟨S16, .f32⟩
  | .hbm, ⟨2, _⟩ => ⟨S16x2048, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S1x16, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S2048x16, .f32⟩
  | .hbm, ⟨11, _⟩ => ⟨S_, .i32⟩
  | .hbm, ⟨12, _⟩ => ⟨S_, .f32⟩
  | .hbm, ⟨13, _⟩ => ⟨S2048x128, .f32⟩
  | .hbm, ⟨14, _⟩ => ⟨S2048x128, .f32⟩
  | .hbm, ⟨15, _⟩ => ⟨S1x128, .f32⟩
  | .hbm, ⟨16, _⟩ => ⟨S2048x16, .f32⟩
  | .hbm, ⟨17, _⟩ => ⟨S1x16, .f32⟩
  | .hbm, ⟨18, _⟩ => ⟨S16, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v9 : BitVec 32 := Scalar.addi c0_i32 c16_i32
  let c1_i32 : BitVec 32 := 1#32
  ⟨c0_i32, v9, c1_i32⟩
def k0_mult1 (k0_t1 : Fin k0_t1_loop.trips) : BitVec 32 :=
  let c15_i32 : BitVec 32 := 15#32
  let c0_i32 : BitVec 32 := 0#32
  let c1_i32 : BitVec 32 := 1#32
  let arg5 : BitVec 32 := Scf.iv c0_i32 c1_i32 k0_t1
  let v12 : BitVec 32 := Scalar.subi c15_i32 arg5
  let c128_i32 : BitVec 32 := 128#32
  let v13 : BitVec 32 := Scalar.muli v12 c128_i32
  v13
def k0_off1 (k0_t1 : Fin k0_t1_loop.trips) : Fin 2 → Nat :=
  let c15_i32 : BitVec 32 := 15#32
  let c0_i32 : BitVec 32 := 0#32
  let c1_i32 : BitVec 32 := 1#32
  let arg5 : BitVec 32 := Scf.iv c0_i32 c1_i32 k0_t1
  let v12 : BitVec 32 := Scalar.subi c15_i32 arg5
  let c128_i32 : BitVec 32 := 128#32
  let v13 : BitVec 32 := Scalar.muli v12 c128_i32
  let v14 : BitVec 32 := v13
  let v15 : Index := Scalar.indexCast v14
  let c0_5 : Index := 0#32
  ![v15.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceForgetIdeal.lean ====
abbrev S2048x16 : Shape := ⟨2, ![2048, 16]⟩
abbrev S16 : Shape := ⟨1, ![16]⟩
abbrev S16x2048 : Shape := ⟨2, ![16, 2048]⟩
abbrev S1x16 : Shape := ⟨2, ![1, 16]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S16, .f32⟩
  | .hbm, ⟨2, _⟩ => ⟨S16x2048, .f32⟩
  | .hbm, ⟨3, _⟩ => ⟨S1x16, .f32⟩
  | .hbm, ⟨4, _⟩ => ⟨S2048x16, .f32⟩
  | .hbm, ⟨5, _⟩ => ⟨S2048x16, .f32⟩
  | .hbm, ⟨6, _⟩ => ⟨S2048x16, .f32⟩
  | .hbm, ⟨7, _⟩ => ⟨S_, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S2048x16, .i1⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S_, .f32⟩
  | .hbm, ⟨22, _⟩ => ⟨S2048x16, .f32⟩
  | .hbm, ⟨23, _⟩ => ⟨S2048x16, .i1⟩
  | .hbm, ⟨24, _⟩ => ⟨S_, .f32⟩
  | .hbm, ⟨25, _⟩ => ⟨S2048x16, .f32⟩
  | .hbm, ⟨26, _⟩ => ⟨S2048x16, .f32⟩
  | .hbm, ⟨27, _⟩ => ⟨S_, .f32⟩
  | .hbm, ⟨28, _⟩ => ⟨S2048x16, .f32⟩
  | .hbm, ⟨29, _⟩ => ⟨S2048x16, .i1⟩
  | .hbm, ⟨30, _⟩ => ⟨S_, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x16, .f32⟩
  | .hbm, ⟨43, _⟩ => ⟨S2048x16, .i1⟩
  | .hbm, ⟨44, _⟩ => ⟨S_, .f32⟩
  | .hbm, ⟨45, _⟩ => ⟨S2048x16, .f32⟩
  | .hbm, ⟨46, _⟩ => ⟨S2048x16, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S_, .f32⟩
  | .hbm, ⟨51, _⟩ => ⟨S2048x16, .f32⟩
  | .hbm, ⟨52, _⟩ => ⟨S2048x16, .f32⟩
  | .hbm, ⟨53, _⟩ => ⟨S2048x16, .f32⟩
  | .hbm, ⟨54, _⟩ => ⟨S16x2048, .f32⟩
  | .hbm, ⟨55, _⟩ => ⟨S_, .f32⟩
  | .hbm, ⟨56, _⟩ => ⟨S_, .f32⟩
  | .hbm, ⟨57, _⟩ => ⟨S16x2048, .f32⟩
  | .hbm, ⟨58, _⟩ => ⟨S_, .f32⟩
  | .hbm, ⟨59, _⟩ => ⟨S_, .f32⟩
  | .hbm, ⟨60, _⟩ => ⟨S16x2048, .f32⟩
  | .hbm, ⟨61, _⟩ => ⟨S2048x16, .f32⟩
  | .hbm, ⟨62, _⟩ => ⟨S2048x16, .f32⟩
  | .hbm, ⟨63, _⟩ => ⟨S2048x16, .f32⟩
  | .hbm, ⟨64, _⟩ => ⟨S2048x16, .f32⟩
  | .hbm, ⟨65, _⟩ => ⟨S_, .f32⟩
  | .hbm, ⟨66, _⟩ => ⟨S16, .f32⟩
  | .hbm, ⟨67, _⟩ => ⟨S1x16, .f32⟩
  | .hbm, ⟨68, _⟩ => ⟨S_, .f32⟩
  | .hbm, ⟨69, _⟩ => ⟨S16, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_v4 : Ref sig .tc := ⟨.hbm, 54, rfl⟩
abbrev main_call1_cst : Ref sig .tc := ⟨.hbm, 55, rfl⟩
abbrev main_call1_v0 : Ref sig .tc := ⟨.hbm, 56, rfl⟩
abbrev main_v5 : Ref sig .tc := ⟨.hbm, 57, rfl⟩
abbrev main_call2_cst : Ref sig .tc := ⟨.hbm, 58, rfl⟩
abbrev main_call2_v0 : Ref sig .tc := ⟨.hbm, 59, rfl⟩
abbrev main_v6 : Ref sig .tc := ⟨.hbm, 60, rfl⟩
abbrev main_v7 : Ref sig .tc := ⟨.hbm, 61, rfl⟩
abbrev main_call3_v0 : Ref sig .tc := ⟨.hbm, 62, rfl⟩
abbrev main_call3_v1 : Ref sig .tc := ⟨.hbm, 63, rfl⟩
abbrev main_v8 : Ref sig .tc := ⟨.hbm, 64, rfl⟩
abbrev main_cst : Ref sig .tc := ⟨.hbm, 65, rfl⟩
abbrev main_v9 : Ref sig .tc := ⟨.hbm, 66, rfl⟩
abbrev main_v10 : Ref sig .tc := ⟨.hbm, 67, rfl⟩
abbrev main_cst_0 : Ref sig .tc := ⟨.hbm, 68, rfl⟩
abbrev main_v11 : Ref sig .tc := ⟨.hbm, 69, rfl⟩

abbrev nD : Nat := 1
abbrev τ : Topo := Topo.v7x

variable {F : FTy → Type} [FloatOps F]
-- ==== KernelSb.lean ====
abbrev S2048x512 : Shape := ⟨2, ![2048, 512]⟩
abbrev S2048x8x64 : Shape := ⟨3, ![2048, 8, 64]⟩
abbrev S8x2048x64 : Shape := ⟨3, ![8, 2048, 64]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x2048x128 : Shape := ⟨3, ![8, 2048, 128]⟩
abbrev S2048x3072 : Shape := ⟨2, ![2048, 3072]⟩
abbrev S2048x1024 : Shape := ⟨2, ![2048, 1024]⟩
abbrev S512x128 : Shape := ⟨2, ![512, 128]⟩
abbrev S2048x128 : Shape := ⟨2, ![2048, 128]⟩
abbrev S2x512x128 : Shape := ⟨3, ![2, 512, 128]⟩
abbrev S512x512 : Shape := ⟨2, ![512, 512]⟩
abbrev S128x128 : Shape := ⟨2, ![128, 128]⟩
abbrev S1x512x128 : Shape := ⟨3, ![1, 512, 128]⟩
abbrev S512x1 : Shape := ⟨2, ![512, 1]⟩
abbrev S4096x128 : Shape := ⟨2, ![4096, 128]⟩
abbrev S512 : Shape := ⟨1, ![512]⟩

abbrev nBuf : Space → Nat
  | .hbm => 53
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x8x64, .f32⟩
  | .hbm, ⟨5, _⟩ => ⟨S8x2048x64, .f32⟩
  | .hbm, ⟨6, _⟩ => ⟨S_, .f32⟩
  | .hbm, ⟨7, _⟩ => ⟨S8x2048x64, .f32⟩
  | .hbm, ⟨8, _⟩ => ⟨S8x2048x64, .f32⟩
  | .hbm, ⟨9, _⟩ => ⟨S2048x8x64, .f32⟩
  | .hbm, ⟨10, _⟩ => ⟨S8x2048x64, .f32⟩
  | .hbm, ⟨11, _⟩ => ⟨S8x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .i1⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S_, .f32⟩
  | .hbm, ⟨38, _⟩ => ⟨S8x2048x2048, .i1⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x128, .f32⟩
  | .hbm, ⟨45, _⟩ => ⟨S_, .f32⟩
  | .hbm, ⟨46, _⟩ => ⟨S2048x512, .f32⟩
  | .hbm, ⟨47, _⟩ => ⟨S2048x3072, .f32⟩
  | .hbm, ⟨48, _⟩ => ⟨S2048x3072, .bf16⟩
  | .hbm, ⟨49, _⟩ => ⟨S2048x1024, .f32⟩
  | .hbm, ⟨50, _⟩ => ⟨S2048x512, .bf16⟩
  | .hbm, ⟨51, _⟩ => ⟨S2048x512, .bf16⟩
  | .hbm, ⟨52, _⟩ => ⟨S2048x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S2x512x128, .f32⟩
  | .local _ .vmem, ⟨9, _⟩ => ⟨S2x512x128, .f32⟩
  | .local _ .vmem, ⟨10, _⟩ => ⟨S512x128, .bf16⟩
  | .local _ .vmem, ⟨11, _⟩ => ⟨S512x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v15 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev main_v24_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_38 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v91 : BitVec 32 := Scalar.subi v41 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_40 : BitVec 32 := 1#32
  ⟨c0_i32_38, v95, c1_i32_40⟩
def k0_mult1 (i : grid0.Coords) (k0_t1 : Fin (k0_t1_loop i).trips) : BitVec 32 :=
  let c0_i32_38 : BitVec 32 := 0#32
  let c1_i32_40 : BitVec 32 := 1#32
  let arg12 : BitVec 32 := Scf.iv c0_i32_38 c1_i32_40 k0_t1
  let c512_i32_49 : BitVec 32 := 512#32
  let v113 : BitVec 32 := Scalar.muli arg12 c512_i32_49
  v113
def k0_off1 (i : grid0.Coords) (k0_t1 : Fin (k0_t1_loop i).trips) : Fin 2 → Nat :=
  let c0_i32_38 : BitVec 32 := 0#32
  let c1_i32_40 : BitVec 32 := 1#32
  let arg12 : BitVec 32 := Scf.iv c0_i32_38 c1_i32_40 k0_t1
  let c512_i32_49 : BitVec 32 := 512#32
  let v113 : BitVec 32 := Scalar.muli arg12 c512_i32_49
  let v114 : BitVec 32 := v113
  let v115 : Index := Scalar.indexCast v114
  let c0_50 : Index := 0#32
  ![v115.toNat, 0]
@[reducible] def k0_t2_loop (i : grid0.Coords) : Scf.Loop 32 :=
  let c0_i32_38 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v91 : BitVec 32 := Scalar.subi v41 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let v92 : BitVec 32 := Scalar.addi c0_i32_38 v91
  let c1_i32_41 : BitVec 32 := 1#32
  ⟨v95, v92, c1_i32_41⟩
def k0_mult2 (i : grid0.Coords) (k0_t2 : Fin (k0_t2_loop i).trips) : BitVec 32 :=
  let c0_i32_38 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v91 : BitVec 32 := Scalar.subi v41 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_41 : BitVec 32 := 1#32
  let arg12 : BitVec 32 := Scf.iv v95 c1_i32_41 k0_t2
  let c512_i32_49 : BitVec 32 := 512#32
  let v113 : BitVec 32 := Scalar.muli arg12 c512_i32_49
  v113
def k0_off2 (i : grid0.Coords) (k0_t2 : Fin (k0_t2_loop i).trips) : Fin 2 → Nat :=
  let c0_i32_38 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v91 : BitVec 32 := Scalar.subi v41 c0_i32_38
  let c1_i32_39 : BitVec 32 := 1#32
  let v93 : BitVec 32 := Scalar.divsi v91 c1_i32_39
  let v94 : BitVec 32 := Scalar.muli v93 c1_i32_39
  let v95 : BitVec 32 := Scalar.addi c0_i32_38 v94
  let c1_i32_41 : BitVec 32 := 1#32
  let arg12 : BitVec 32 := Scf.iv v95 c1_i32_41 k0_t2
  let c512_i32_49 : BitVec 32 := 512#32
  let v113 : BitVec 32 := Scalar.muli arg12 c512_i32_49
  let v114 : BitVec 32 := v113
  let v115 : Index := Scalar.indexCast v114
  let c0_50 : Index := 0#32
  ![v115.toNat, 0]
@[reducible] def k0_t3_loop (i : grid0.Coords) : Scf.Loop 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 v41
  let c1_i32_42 : BitVec 32 := 1#32
  let v100 : BitVec 32 := Scalar.divsi v98 c1_i32_42
  let v101 : BitVec 32 := Scalar.muli v100 c1_i32_42
  let v102 : BitVec 32 := Scalar.addi v41 v101
  let c1_i32_43 : BitVec 32 := 1#32
  ⟨v41, v102, c1_i32_43⟩
def k0_mult3 (i : grid0.Coords) (k0_t3 : Fin (k0_t3_loop i).trips) : BitVec 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_43 : BitVec 32 := 1#32
  let arg12 : BitVec 32 := Scf.iv v41 c1_i32_43 k0_t3
  let c512_i32_49 : BitVec 32 := 512#32
  let v113 : BitVec 32 := Scalar.muli arg12 c512_i32_49
  v113
def k0_off3 (i : grid0.Coords) (k0_t3 : Fin (k0_t3_loop i).trips) : Fin 2 → Nat :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_43 : BitVec 32 := 1#32
  let arg12 : BitVec 32 := Scf.iv v41 c1_i32_43 k0_t3
  let c512_i32_49 : BitVec 32 := 512#32
  let v113 : BitVec 32 := Scalar.muli arg12 c512_i32_49
  let v114 : BitVec 32 := v113
  let v115 : Index := Scalar.indexCast v114
  let c0_50 : Index := 0#32
  ![v115.toNat, 0]
@[reducible] def k0_t4_loop (i : grid0.Coords) : Scf.Loop 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 v41
  let c1_i32_42 : BitVec 32 := 1#32
  let v100 : BitVec 32 := Scalar.divsi v98 c1_i32_42
  let v101 : BitVec 32 := Scalar.muli v100 c1_i32_42
  let v102 : BitVec 32 := Scalar.addi v41 v101
  let v99 : BitVec 32 := Scalar.addi v41 v98
  let c1_i32_44 : BitVec 32 := 1#32
  ⟨v102, v99, c1_i32_44⟩
def k0_mult4 (i : grid0.Coords) (k0_t4 : Fin (k0_t4_loop i).trips) : BitVec 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 v41
  let c1_i32_42 : BitVec 32 := 1#32
  let v100 : BitVec 32 := Scalar.divsi v98 c1_i32_42
  let v101 : BitVec 32 := Scalar.muli v100 c1_i32_42
  let v102 : BitVec 32 := Scalar.addi v41 v101
  let c1_i32_44 : BitVec 32 := 1#32
  let arg12 : BitVec 32 := Scf.iv v102 c1_i32_44 k0_t4
  let c512_i32_49 : BitVec 32 := 512#32
  let v113 : BitVec 32 := Scalar.muli arg12 c512_i32_49
  v113
def k0_off4 (i : grid0.Coords) (k0_t4 : Fin (k0_t4_loop i).trips) : Fin 2 → Nat :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 v41
  let c1_i32_42 : BitVec 32 := 1#32
  let v100 : BitVec 32 := Scalar.divsi v98 c1_i32_42
  let v101 : BitVec 32 := Scalar.muli v100 c1_i32_42
  let v102 : BitVec 32 := Scalar.addi v41 v101
  let c1_i32_44 : BitVec 32 := 1#32
  let arg12 : BitVec 32 := Scf.iv v102 c1_i32_44 k0_t4
  let c512_i32_49 : BitVec 32 := 512#32
  let v113 : BitVec 32 := Scalar.muli arg12 c512_i32_49
  let v114 : BitVec 32 := v113
  let v115 : Index := Scalar.indexCast v114
  let c0_50 : Index := 0#32
  ![v115.toNat, 0]
def k0_cond2 (i : grid0.Coords) : BitVec 1 :=
  let arg1 : BitVec 32 := BitVec.ofNat 32 (i 1).val
  let c3_i32 : BitVec 32 := 3#32
  let v110 : BitVec 1 := Scalar.cmpi .eq arg1 c3_i32
  let v111 : BitVec 32 := Scalar.extui v110
  let c0_i32_48 : BitVec 32 := 0#32
  let v112 : BitVec 1 := Scalar.cmpi .ne v111 c0_i32_48
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceSbIdeal.lean ====
abbrev S2048x512 : Shape := ⟨2, ![2048, 512]⟩
abbrev S2048x8x64 : Shape := ⟨3, ![2048, 8, 64]⟩
abbrev S8x2048x64 : Shape := ⟨3, ![8, 2048, 64]⟩
abbrev S_ : Shape := ⟨0, ![]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩

abbrev nBuf : Space → Nat
  | .hbm => 180
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x8x64, .f32⟩
  | 5 => ⟨S8x2048x64, .f32⟩
  | 6 => ⟨S_, .f32⟩
  | 7 => ⟨S8x2048x64, .f32⟩
  | 8 => ⟨S8x2048x64, .f32⟩
  | 9 => ⟨S2048x8x64, .f32⟩
  | 10 => ⟨S8x2048x64, .f32⟩
  | 11 => ⟨S2048x8x64, .f32⟩
  | 12 => ⟨S8x2048x64, .f32⟩
  | 13 => ⟨S8x2048x2048, .f32⟩
  | 14 => ⟨S2048, .i32⟩
  | 15 => ⟨S1x2048, .i32⟩
  | 16 => ⟨S2048, .i32⟩
  | 17 => ⟨S2048x1, .i32⟩
  | 18 => ⟨S2048x2048, .i32⟩
  | 19 => ⟨S2048x2048, .i32⟩
  | 20 => ⟨S2048x2048, .i1⟩
  | 21 => ⟨S8x2048x2048, .f32⟩
  | 22 => ⟨S8x2048x2048, .f32⟩
  | 23 => ⟨S_, .f32⟩
  | 24 => ⟨S8x2048x2048, .f32⟩
  | 25 => ⟨S8x2048x2048, .f32⟩
  | 26 => ⟨S8x2048x2048, .f32⟩
  | 27 => ⟨S8x2048x2048, .f32⟩
  | 28 => ⟨S8x2048x2048, .i1⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .i1⟩
  | 40 => ⟨S_, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .i1⟩
  | 46 => ⟨S_, .f32⟩
  | 47 => ⟨S8x2048x2048, .f32⟩
  | 48 => ⟨S8x2048x2048, .f32⟩
  | 49 => ⟨S8x2048x2048, .f32⟩
  | 50 => ⟨S8x2048x2048, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x2048x2048, .f32⟩
  | 59 => ⟨S8x2048x2048, .i1⟩
  | 60 => ⟨S_, .f32⟩
  | 61 => ⟨S8x2048x2048, .f32⟩
  | 62 => ⟨S8x2048x2048, .f32⟩
  | 63 => ⟨S8x2048x2048, .f32⟩
  | 64 => ⟨S8x2048x2048, .f32⟩
  | 65 => ⟨S8x2048x2048, .f32⟩
  | 66 => ⟨S_, .f32⟩
  | 67 => ⟨S8x2048x2048, .f32⟩
  | 68 => ⟨S8x2048x2048, .f32⟩
  | 69 => ⟨S8x2048x2048, .f32⟩
  | 70 => ⟨S_, .f32⟩
  | 71 => ⟨S_, .f32⟩
  | 72 => ⟨S8x2048x2048, .i1⟩
  | 73 => ⟨S8x2048x2048, .f32⟩
  | 74 => ⟨S8x2048x2048, .f32⟩
  | 75 => ⟨S_, .f32⟩
  | 76 => ⟨S8x2048x2048, .f32⟩
  | 77 => ⟨S_, .f32⟩
  | 78 => ⟨S_, .f32⟩
  | 79 => ⟨S8x2048x2048, .f32⟩
  | 80 => ⟨S8x2048x2048, .f32⟩
  | 81 => ⟨S8x2048x2048, .f32⟩
  | 82 => ⟨S_, .f32⟩
  | 83 => ⟨S8x2048x2048, .f32⟩
  | 84 => ⟨S8x2048x2048, .f32⟩
  | 85 => ⟨S8x2048x2048, .f32⟩
  | 86 => ⟨S8x2048x2048, .f32⟩
  | 87 => ⟨S8x2048x2048, .i1⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S_, .f32⟩
  | 97 => ⟨S8x2048x2048, .f32⟩
  | 98 => ⟨S8x2048x2048, .i1⟩
  | 99 => ⟨S_, .f32⟩
  | 100 => ⟨S8x2048x2048, .f32⟩
  | 101 => ⟨S8x2048x2048, .f32⟩
  | 102 => ⟨S_, .f32⟩
  | 103 => ⟨S8x2048x2048, .f32⟩
  | 104 => ⟨S8x2048x2048, .i1⟩
  | 105 => ⟨S_, .f32⟩
  | 106 => ⟨S8x2048x2048, .f32⟩
  | 107 => ⟨S8x2048x2048, .f32⟩
  | 108 => ⟨S8x2048x2048, .f32⟩
  | 109 => ⟨S8x2048x2048, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S8x2048x2048, .f32⟩
  | 118 => ⟨S8x2048x2048, .i1⟩
  | 119 => ⟨S_, .f32⟩
  | 120 => ⟨S8x2048x2048, .f32⟩
  | 121 => ⟨S8x2048x2048, .f32⟩
  | 122 => ⟨S8x2048x2048, .f32⟩
  | 123 => ⟨S8x2048x2048, .f32⟩
  | 124 => ⟨S8x2048x2048, .f32⟩
  | 125 => ⟨S_, .f32⟩
  | 126 => ⟨S8x2048x2048, .f32⟩
  | 127 => ⟨S8x2048x2048, .f32⟩
  | _ => ⟨S2048x512, .f32⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S_, .f32⟩
  | 4 => ⟨S_, .f32⟩
  | 5 => ⟨S8x2048x2048, .i1⟩
  | 6 => ⟨S8x2048x2048, .f32⟩
  | 7 => ⟨S8x2048x2048, .f32⟩
  | 8 => ⟨S_, .f32⟩
  | 9 => ⟨S8x2048x2048, .f32⟩
  | 10 => ⟨S8x2048x64, .f32⟩
  | 11 => ⟨S2048x8x64, .f32⟩
  | 12 => ⟨S2048x512, .f32⟩
  | 13 => ⟨S2048x8x64, .f32⟩
  | 14 => ⟨S8x2048x64, .f32⟩
  | 15 => ⟨S8x64x2048, .f32⟩
  | 16 => ⟨S8x2048x64, .f32⟩
  | 17 => ⟨S8x2048x2048, .f32⟩
  | 18 => ⟨S_, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S_, .f32⟩
  | 27 => ⟨S_, .f32⟩
  | 28 => ⟨S8x2048x2048, .f32⟩
  | 29 => ⟨S8x2048x2048, .f32⟩
  | 30 => ⟨S_, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x64, .f32⟩
  | 39 => ⟨S8x2048x64, .f32⟩
  | 40 => ⟨S2048x8x64, .f32⟩
  | 41 => ⟨S2048x512, .f32⟩
  | 42 => ⟨S2048x8x64, .f32⟩
  | 43 => ⟨S2048x512, .f32⟩
  | 44 => ⟨S_, .f32⟩
  | 45 => ⟨S8x2048x64, .f32⟩
  | 46 => ⟨S8x2048x64, .f32⟩
  | 47 => ⟨S2048x8x64, .f32⟩
  | 48 => ⟨S2048x512, .f32⟩
  | 49 => ⟨S2048x512, .bf16⟩
  | 50 => ⟨S2048x512, .bf16⟩
  | 51 => ⟨S2048x512, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_cst : Ref sig .tc := ⟨.hbm, 77, rfl⟩
abbrev main_call2_v0 : Ref sig .tc := ⟨.hbm, 78, rfl⟩
abbrev main_v19 : Ref sig .tc := ⟨.hbm, 79, rfl⟩
abbrev main_v20 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v21_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v21_2 : Ref sig .tc := ⟨.hbm, 127, rfl⟩
abbrev main_v21_0 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_call6_v0 : Ref sig .tc := ⟨.hbm, 150, rfl⟩
abbrev main_call6_v1 : Ref sig .tc := ⟨.hbm, 151, rfl⟩
abbrev main_v35 : Ref sig .tc := ⟨.hbm, 152, rfl⟩
abbrev main_v36 : Ref sig .tc := ⟨.hbm, 153, rfl⟩
abbrev main_call7_cst : Ref sig .tc := ⟨.hbm, 154, rfl⟩
abbrev main_call7_v0 : Ref sig .tc := ⟨.hbm, 155, rfl⟩
abbrev main_v37 : Ref sig .tc := ⟨.hbm, 156, rfl⟩
abbrev main_v38 : Ref sig .tc := ⟨.hbm, 157, rfl⟩
abbrev main_call8_cst : Ref sig .tc := ⟨.hbm, 158, rfl⟩
abbrev main_call8_v0 : Ref sig .tc := ⟨.hbm, 159, rfl⟩
abbrev main_v39 : Ref sig .tc := ⟨.hbm, 160, rfl⟩
abbrev main_call9_v0 : Ref sig .tc := ⟨.hbm, 161, rfl⟩
abbrev main_call9_v1 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_cst_2 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩

abbrev nD : Nat := 1
abbrev τ : Topo := Topo.v7x

variable {F : FTy → Type} [FloatOps F]
-- ==== KernelFox.lean ====
abbrev S2048x1024 : Shape := ⟨2, ![2048, 1024]⟩
abbrev S16x2048 : Shape := ⟨2, ![16, 2048]⟩
abbrev S2048x16x64 : Shape := ⟨3, ![2048, 16, 64]⟩
abbrev S16x2048x64 : Shape := ⟨3, ![16, 2048, 64]⟩
abbrev S_ : Shape := ⟨0, ![]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x2048x128 : Shape := ⟨3, ![16, 2048, 128]⟩
abbrev S2048x3072 : Shape := ⟨2, ![2048, 3072]⟩
abbrev S8x2x2048 : Shape := ⟨3, ![8, 2, 2048]⟩
abbrev S512x128 : Shape := ⟨2, ![512, 128]⟩
abbrev S2048x128 : Shape := ⟨2, ![2048, 128]⟩
abbrev S2x512x128 : Shape := ⟨3, ![2, 512, 128]⟩
abbrev S1x2x2048 : Shape := ⟨3, ![1, 2, 2048]⟩
abbrev S2x4x512x512 : Shape := ⟨4, ![2, 4, 512, 512]⟩
abbrev S2x2048 : Shape := ⟨2, ![2, 2048]⟩
abbrev S512x512 : Shape := ⟨2, ![512, 512]⟩
abbrev S1x512x128 : Shape := ⟨3, ![1, 512, 128]⟩
abbrev S512x1 : Shape := ⟨2, ![512, 1]⟩
abbrev S1x1x512 : Shape := ⟨3, ![1, 1, 512]⟩
abbrev S1x512 : Shape := ⟨2, ![1, 512]⟩
abbrev S1x1x512x512 : Shape := ⟨4, ![1, 1, 512, 512]⟩
abbrev S512 : Shape := ⟨1, ![512]⟩

abbrev nBuf : Space → Nat
  | .hbm => 52
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048, .f32⟩
  | .hbm, ⟨4, _⟩ => ⟨S2048x1024, .f32⟩
  | .hbm, ⟨5, _⟩ => ⟨S2048x16x64, .f32⟩
  | .hbm, ⟨6, _⟩ => ⟨S16x2048x64, .f32⟩
  | .hbm, ⟨7, _⟩ => ⟨S_, .f32⟩
  | .hbm, ⟨8, _⟩ => ⟨S16x2048x64, .f32⟩
  | .hbm, ⟨9, _⟩ => ⟨S16x2048x64, .f32⟩
  | .hbm, ⟨10, _⟩ => ⟨S2048x16x64, .f32⟩
  | .hbm, ⟨11, _⟩ => ⟨S16x2048x64, .f32⟩
  | .hbm, ⟨12, _⟩ => ⟨S16x2048x2048, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S16x1x2048, .f32⟩
  | .hbm, ⟨17, _⟩ => ⟨S16x2048x2048, .f32⟩
  | .hbm, ⟨18, _⟩ => ⟨S16x2048x2048, .f32⟩
  | .hbm, ⟨19, _⟩ => ⟨S2048, .i32⟩
  | .hbm, ⟨20, _⟩ => ⟨S1x2048, .i32⟩
  | .hbm, ⟨21, _⟩ => ⟨S2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S16x2048x2048, .i1⟩
  | .hbm, ⟨29, _⟩ => ⟨S16x2048x2048, .f32⟩
  | .hbm, ⟨30, _⟩ => ⟨S16x2048x2048, .f32⟩
  | .hbm, ⟨31, _⟩ => ⟨S_, .f32⟩
  | .hbm, ⟨32, _⟩ => ⟨S16x2048, .f32⟩
  | .hbm, ⟨33, _⟩ => ⟨S16x2048x1, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S_, .f32⟩
  | .hbm, ⟨38, _⟩ => ⟨S16x2048, .f32⟩
  | .hbm, ⟨39, _⟩ => ⟨S16x2048, .f32⟩
  | .hbm, ⟨40, _⟩ => ⟨S16x2048, .f32⟩
  | .hbm, ⟨41, _⟩ => ⟨S16x2048x1, .f32⟩
  | .hbm, ⟨42, _⟩ => ⟨S16x2048x128, .f32⟩
  | .hbm, ⟨43, _⟩ => ⟨S2048x3072, .f32⟩
  | .hbm, ⟨44, _⟩ => ⟨S2048x3072, .bf16⟩
  | .hbm, ⟨45, _⟩ => ⟨S16x2048x1, .f32⟩
  | .hbm, ⟨46, _⟩ => ⟨S16x2048x128, .f32⟩
  | .hbm, ⟨47, _⟩ => ⟨S8x2x2048, .f32⟩
  | .hbm, ⟨48, _⟩ => ⟨S2048x1024, .bf16⟩
  | .hbm, ⟨49, _⟩ => ⟨S2048x1024, .bf16⟩
  | .hbm, ⟨50, _⟩ => ⟨S2048x1024, .bf16⟩
  | .hbm, ⟨51, _⟩ => ⟨S8x2x2048, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S1x2x2048, .f32⟩
  | .local _ .vmem, ⟨13, _⟩ => ⟨S1x2x2048, .f32⟩
  | .local _ .vmem, ⟨14, _⟩ => ⟨S512x128, .bf16⟩
  | .local _ .vmem, ⟨15, _⟩ => ⟨S512x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x2x2048, .f32⟩
  | .local _ .vmem, ⟨21, _⟩ => ⟨S1x2x2048, .f32⟩
  | .local _ .vmem, ⟨22, _⟩ => ⟨S2x4x512x512, .f32⟩
  | .local _ .vmem, ⟨23, _⟩ => ⟨S2x4x512x512, .f32⟩
  | .local _ .vmem, ⟨24, _⟩ => ⟨S2048x128, .f32⟩
  | .local _ .vmem, ⟨25, _⟩ => ⟨S2048x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev main_v36_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_40 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v84 : BitVec 32 := Scalar.subi v41 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_42 : BitVec 32 := 1#32
  ⟨c0_i32_40, v88, c1_i32_42⟩
def k0_mult1 (i : grid0.Coords) (k0_t1 : Fin (k0_t1_loop i).trips) : BitVec 32 :=
  let c0_i32_40 : BitVec 32 := 0#32
  let c1_i32_42 : BitVec 32 := 1#32
  let arg17 : BitVec 32 := Scf.iv c0_i32_40 c1_i32_42 k0_t1
  let c512_i32_55 : BitVec 32 := 512#32
  let v113 : BitVec 32 := Scalar.muli arg17 c512_i32_55
  v113
def k0_off1 (i : grid0.Coords) (k0_t1 : Fin (k0_t1_loop i).trips) : Fin 2 → Nat :=
  let c0_i32_40 : BitVec 32 := 0#32
  let c1_i32_42 : BitVec 32 := 1#32
  let arg17 : BitVec 32 := Scf.iv c0_i32_40 c1_i32_42 k0_t1
  let c512_i32_55 : BitVec 32 := 512#32
  let v113 : BitVec 32 := Scalar.muli arg17 c512_i32_55
  let v114 : BitVec 32 := v113
  let v115 : Index := Scalar.indexCast v114
  let c0_56 : Index := 0#32
  ![v115.toNat, 0]
def k0_off2 (i : grid0.Coords) (k0_t1 : Fin (k0_t1_loop i).trips) : Fin 3 → Nat :=
  let c0_59 : Index := 0#32
  let c0_60 : Index := 0#32
  let c0_i32_40 : BitVec 32 := 0#32
  let c1_i32_42 : BitVec 32 := 1#32
  let arg17 : BitVec 32 := Scf.iv c0_i32_40 c1_i32_42 k0_t1
  let c512_i32_55 : BitVec 32 := 512#32
  let v113 : BitVec 32 := Scalar.muli arg17 c512_i32_55
  let v114 : BitVec 32 := v113
  let v123 : Index := Scalar.indexCast v114
  ![0, 0, v123.toNat]
def k0_off3 (i : grid0.Coords) (k0_t1 : Fin (k0_t1_loop i).trips) : Fin 4 → Nat :=
  let c0_62 : Index := 0#32
  let c0_i32_40 : BitVec 32 := 0#32
  let c1_i32_42 : BitVec 32 := 1#32
  let arg17 : BitVec 32 := Scf.iv c0_i32_40 c1_i32_42 k0_t1
  let v131 : Index := Scalar.indexCast arg17
  let c0_63 : Index := 0#32
  let c0_64 : Index := 0#32
  ![0, v131.toNat, 0, 0]
def k0_off4 (i : grid0.Coords) (k0_t1 : Fin (k0_t1_loop i).trips) : Fin 3 → Nat :=
  let c0_70 : Index := 0#32
  let c1_71 : Index := 1#32
  let c0_i32_40 : BitVec 32 := 0#32
  let c1_i32_42 : BitVec 32 := 1#32
  let arg17 : BitVec 32 := Scf.iv c0_i32_40 c1_i32_42 k0_t1
  let c512_i32_55 : BitVec 32 := 512#32
  let v113 : BitVec 32 := Scalar.muli arg17 c512_i32_55
  let v114 : BitVec 32 := v113
  let v145 : Index := Scalar.indexCast v114
  ![0, 1, v145.toNat]
def k0_off5 (i : grid0.Coords) (k0_t1 : Fin (k0_t1_loop i).trips) : Fin 4 → Nat :=
  let c1_73 : Index := 1#32
  let c0_i32_40 : BitVec 32 := 0#32
  let c1_i32_42 : BitVec 32 := 1#32
  let arg17 : BitVec 32 := Scf.iv c0_i32_40 c1_i32_42 k0_t1
  let v153 : Index := Scalar.indexCast arg17
  let c0_74 : Index := 0#32
  let c0_75 : Index := 0#32
  ![1, v153.toNat, 0, 0]
@[reducible] def k0_t2_loop (i : grid0.Coords) : Scf.Loop 32 :=
  let c0_i32_40 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v84 : BitVec 32 := Scalar.subi v41 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let v85 : BitVec 32 := Scalar.addi c0_i32_40 v84
  let c1_i32_43 : BitVec 32 := 1#32
  ⟨v88, v85, c1_i32_43⟩
def k0_mult2 (i : grid0.Coords) (k0_t2 : Fin (k0_t2_loop i).trips) : BitVec 32 :=
  let c0_i32_40 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v84 : BitVec 32 := Scalar.subi v41 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t2
  let c512_i32_55 : BitVec 32 := 512#32
  let v113 : BitVec 32 := Scalar.muli arg17 c512_i32_55
  v113
def k0_off6 (i : grid0.Coords) (k0_t2 : Fin (k0_t2_loop i).trips) : Fin 2 → Nat :=
  let c0_i32_40 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v84 : BitVec 32 := Scalar.subi v41 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t2
  let c512_i32_55 : BitVec 32 := 512#32
  let v113 : BitVec 32 := Scalar.muli arg17 c512_i32_55
  let v114 : BitVec 32 := v113
  let v115 : Index := Scalar.indexCast v114
  let c0_56 : Index := 0#32
  ![v115.toNat, 0]
def k0_off7 (i : grid0.Coords) (k0_t2 : Fin (k0_t2_loop i).trips) : Fin 3 → Nat :=
  let c0_59 : Index := 0#32
  let c0_60 : Index := 0#32
  let c0_i32_40 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v84 : BitVec 32 := Scalar.subi v41 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t2
  let c512_i32_55 : BitVec 32 := 512#32
  let v113 : BitVec 32 := Scalar.muli arg17 c512_i32_55
  let v114 : BitVec 32 := v113
  let v123 : Index := Scalar.indexCast v114
  ![0, 0, v123.toNat]
def k0_off8 (i : grid0.Coords) (k0_t2 : Fin (k0_t2_loop i).trips) : Fin 4 → Nat :=
  let c0_62 : Index := 0#32
  let c0_i32_40 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v84 : BitVec 32 := Scalar.subi v41 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t2
  let v131 : Index := Scalar.indexCast arg17
  let c0_63 : Index := 0#32
  let c0_64 : Index := 0#32
  ![0, v131.toNat, 0, 0]
def k0_off9 (i : grid0.Coords) (k0_t2 : Fin (k0_t2_loop i).trips) : Fin 3 → Nat :=
  let c0_70 : Index := 0#32
  let c1_71 : Index := 1#32
  let c0_i32_40 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v84 : BitVec 32 := Scalar.subi v41 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t2
  let c512_i32_55 : BitVec 32 := 512#32
  let v113 : BitVec 32 := Scalar.muli arg17 c512_i32_55
  let v114 : BitVec 32 := v113
  let v145 : Index := Scalar.indexCast v114
  ![0, 1, v145.toNat]
def k0_off10 (i : grid0.Coords) (k0_t2 : Fin (k0_t2_loop i).trips) : Fin 4 → Nat :=
  let c1_73 : Index := 1#32
  let c0_i32_40 : BitVec 32 := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let v84 : BitVec 32 := Scalar.subi v41 c0_i32_40
  let c1_i32_41 : BitVec 32 := 1#32
  let v86 : BitVec 32 := Scalar.divsi v84 c1_i32_41
  let v87 : BitVec 32 := Scalar.muli v86 c1_i32_41
  let v88 : BitVec 32 := Scalar.addi c0_i32_40 v87
  let c1_i32_43 : BitVec 32 := 1#32
  let arg17 : BitVec 32 := Scf.iv v88 c1_i32_43 k0_t2
  let v153 : Index := Scalar.indexCast arg17
  let c0_74 : Index := 0#32
  let c0_75 : Index := 0#32
  ![1, v153.toNat, 0, 0]
@[reducible] def k0_t3_loop (i : grid0.Coords) : Scf.Loop 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v91 : BitVec 32 := Scalar.subi v23 v41
  let c1_i32_44 : BitVec 32 := 1#32
  let v93 : BitVec 32 := Scalar.divsi v91 c1_i32_44
  let v94 : BitVec 32 := Scalar.muli v93 c1_i32_44
  let v95 : BitVec 32 := Scalar.addi v41 v94
  let c1_i32_45 : BitVec 32 := 1#32
  ⟨v41, v95, c1_i32_45⟩
def k0_mult3 (i : grid0.Coords) (k0_t3 : Fin (k0_t3_loop i).trips) : BitVec 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_45 : BitVec 32 := 1#32
  let arg17 : BitVec 32 := Scf.iv v41 c1_i32_45 k0_t3
  let c512_i32_55 : BitVec 32 := 512#32
  let v113 : BitVec 32 := Scalar.muli arg17 c512_i32_55
  v113
def k0_off11 (i : grid0.Coords) (k0_t3 : Fin (k0_t3_loop i).trips) : Fin 2 → Nat :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_45 : BitVec 32 := 1#32
  let arg17 : BitVec 32 := Scf.iv v41 c1_i32_45 k0_t3
  let c512_i32_55 : BitVec 32 := 512#32
  let v113 : BitVec 32 := Scalar.muli arg17 c512_i32_55
  let v114 : BitVec 32 := v113
  let v115 : Index := Scalar.indexCast v114
  let c0_56 : Index := 0#32
  ![v115.toNat, 0]
def k0_off12 (i : grid0.Coords) (k0_t3 : Fin (k0_t3_loop i).trips) : Fin 3 → Nat :=
  let c0_59 : Index := 0#32
  let c0_60 : Index := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_45 : BitVec 32 := 1#32
  let arg17 : BitVec 32 := Scf.iv v41 c1_i32_45 k0_t3
  let c512_i32_55 : BitVec 32 := 512#32
  let v113 : BitVec 32 := Scalar.muli arg17 c512_i32_55
  let v114 : BitVec 32 := v113
  let v123 : Index := Scalar.indexCast v114
  ![0, 0, v123.toNat]
def k0_off13 (i : grid0.Coords) (k0_t3 : Fin (k0_t3_loop i).trips) : Fin 4 → Nat :=
  let c0_63 : Index := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_45 : BitVec 32 := 1#32
  let arg17 : BitVec 32 := Scf.iv v41 c1_i32_45 k0_t3
  let v136 : Index := Scalar.indexCast arg17
  let c0_64 : Index := 0#32
  let c0_65 : Index := 0#32
  ![0, v136.toNat, 0, 0]
def k0_off14 (i : grid0.Coords) (k0_t3 : Fin (k0_t3_loop i).trips) : Fin 3 → Nat :=
  let c0_71 : Index := 0#32
  let c1_72 : Index := 1#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_45 : BitVec 32 := 1#32
  let arg17 : BitVec 32 := Scf.iv v41 c1_i32_45 k0_t3
  let c512_i32_55 : BitVec 32 := 512#32
  let v113 : BitVec 32 := Scalar.muli arg17 c512_i32_55
  let v114 : BitVec 32 := v113
  let v150 : Index := Scalar.indexCast v114
  ![0, 1, v150.toNat]
def k0_off15 (i : grid0.Coords) (k0_t3 : Fin (k0_t3_loop i).trips) : Fin 4 → Nat :=
  let c1_75 : Index := 1#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c1_i32_45 : BitVec 32 := 1#32
  let arg17 : BitVec 32 := Scf.iv v41 c1_i32_45 k0_t3
  let v163 : Index := Scalar.indexCast arg17
  let c0_76 : Index := 0#32
  let c0_77 : Index := 0#32
  ![1, v163.toNat, 0, 0]
@[reducible] def k0_t4_loop (i : grid0.Coords) : Scf.Loop 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v91 : BitVec 32 := Scalar.subi v23 v41
  let c1_i32_44 : BitVec 32 := 1#32
  let v93 : BitVec 32 := Scalar.divsi v91 c1_i32_44
  let v94 : BitVec 32 := Scalar.muli v93 c1_i32_44
  let v95 : BitVec 32 := Scalar.addi v41 v94
  let v92 : BitVec 32 := Scalar.addi v41 v91
  let c1_i32_46 : BitVec 32 := 1#32
  ⟨v95, v92, c1_i32_46⟩
def k0_mult4 (i : grid0.Coords) (k0_t4 : Fin (k0_t4_loop i).trips) : BitVec 32 :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v91 : BitVec 32 := Scalar.subi v23 v41
  let c1_i32_44 : BitVec 32 := 1#32
  let v93 : BitVec 32 := Scalar.divsi v91 c1_i32_44
  let v94 : BitVec 32 := Scalar.muli v93 c1_i32_44
  let v95 : BitVec 32 := Scalar.addi v41 v94
  let c1_i32_46 : BitVec 32 := 1#32
  let arg17 : BitVec 32 := Scf.iv v95 c1_i32_46 k0_t4
  let c512_i32_55 : BitVec 32 := 512#32
  let v113 : BitVec 32 := Scalar.muli arg17 c512_i32_55
  v113
def k0_off16 (i : grid0.Coords) (k0_t4 : Fin (k0_t4_loop i).trips) : Fin 2 → Nat :=
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v91 : BitVec 32 := Scalar.subi v23 v41
  let c1_i32_44 : BitVec 32 := 1#32
  let v93 : BitVec 32 := Scalar.divsi v91 c1_i32_44
  let v94 : BitVec 32 := Scalar.muli v93 c1_i32_44
  let v95 : BitVec 32 := Scalar.addi v41 v94
  let c1_i32_46 : BitVec 32 := 1#32
  let arg17 : BitVec 32 := Scf.iv v95 c1_i32_46 k0_t4
  let c512_i32_55 : BitVec 32 := 512#32
  let v113 : BitVec 32 := Scalar.muli arg17 c512_i32_55
  let v114 : BitVec 32 := v113
  let v115 : Index := Scalar.indexCast v114
  let c0_56 : Index := 0#32
  ![v115.toNat, 0]
def k0_off17 (i : grid0.Coords) (k0_t4 : Fin (k0_t4_loop i).trips) : Fin 3 → Nat :=
  let c0_59 : Index := 0#32
  let c0_60 : Index := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v91 : BitVec 32 := Scalar.subi v23 v41
  let c1_i32_44 : BitVec 32 := 1#32
  let v93 : BitVec 32 := Scalar.divsi v91 c1_i32_44
  let v94 : BitVec 32 := Scalar.muli v93 c1_i32_44
  let v95 : BitVec 32 := Scalar.addi v41 v94
  let c1_i32_46 : BitVec 32 := 1#32
  let arg17 : BitVec 32 := Scf.iv v95 c1_i32_46 k0_t4
  let c512_i32_55 : BitVec 32 := 512#32
  let v113 : BitVec 32 := Scalar.muli arg17 c512_i32_55
  let v114 : BitVec 32 := v113
  let v123 : Index := Scalar.indexCast v114
  ![0, 0, v123.toNat]
def k0_off18 (i : grid0.Coords) (k0_t4 : Fin (k0_t4_loop i).trips) : Fin 4 → Nat :=
  let c0_63 : Index := 0#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v91 : BitVec 32 := Scalar.subi v23 v41
  let c1_i32_44 : BitVec 32 := 1#32
  let v93 : BitVec 32 := Scalar.divsi v91 c1_i32_44
  let v94 : BitVec 32 := Scalar.muli v93 c1_i32_44
  let v95 : BitVec 32 := Scalar.addi v41 v94
  let c1_i32_46 : BitVec 32 := 1#32
  let arg17 : BitVec 32 := Scf.iv v95 c1_i32_46 k0_t4
  let v136 : Index := Scalar.indexCast arg17
  let c0_64 : Index := 0#32
  let c0_65 : Index := 0#32
  ![0, v136.toNat, 0, 0]
def k0_off19 (i : grid0.Coords) (k0_t4 : Fin (k0_t4_loop i).trips) : Fin 3 → Nat :=
  let c0_71 : Index := 0#32
  let c1_72 : Index := 1#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v91 : BitVec 32 := Scalar.subi v23 v41
  let c1_i32_44 : BitVec 32 := 1#32
  let v93 : BitVec 32 := Scalar.divsi v91 c1_i32_44
  let v94 : BitVec 32 := Scalar.muli v93 c1_i32_44
  let v95 : BitVec 32 := Scalar.addi v41 v94
  let c1_i32_46 : BitVec 32 := 1#32
  let arg17 : BitVec 32 := Scf.iv v95 c1_i32_46 k0_t4
  let c512_i32_55 : BitVec 32 := 512#32
  let v113 : BitVec 32 := Scalar.muli arg17 c512_i32_55
  let v114 : BitVec 32 := v113
  let v150 : Index := Scalar.indexCast v114
  ![0, 1, v150.toNat]
def k0_off20 (i : grid0.Coords) (k0_t4 : Fin (k0_t4_loop i).trips) : Fin 4 → Nat :=
  let c1_75 : Index := 1#32
  let arg1 : BitVec 32 := BitVec.ofNat 32 (i 1).val
  let c512_i32_10 : BitVec 32 := 512#32
  let v24 : BitVec 32 := Scalar.muli arg1 c512_i32_10
  let c0_i32_12 : BitVec 32 := 0#32
  let v26 : BitVec 1 := Scalar.cmpi .sgt v24 c0_i32_12
  let v27 : BitVec 32 := Scalar.extui v26
  let c0_i32_13 : BitVec 32 := 0#32
  let v28 : BitVec 1 := Scalar.cmpi .slt v24 c0_i32_13
  let v29 : BitVec 32 := Scalar.extui v28
  let v30 : BitVec 32 := Scalar.subi v27 v29
  let c512_i32_11 : BitVec 32 := 512#32
  let c0_i32_14 : BitVec 32 := 0#32
  let v31 : BitVec 1 := Scalar.cmpi .sgt c512_i32_11 c0_i32_14
  let v32 : BitVec 32 := Scalar.extui v31
  let c0_i32_15 : BitVec 32 := 0#32
  let v33 : BitVec 1 := Scalar.cmpi .slt c512_i32_11 c0_i32_15
  let v34 : BitVec 32 := Scalar.extui v33
  let v35 : BitVec 32 := Scalar.subi v32 v34
  let v36 : BitVec 1 := Scalar.cmpi .ne v30 v35
  let v37 : BitVec 32 := Scalar.remsi v24 c512_i32_11
  let c0_i32_16 : BitVec 32 := 0#32
  let v38 : BitVec 1 := Scalar.cmpi .ne v37 c0_i32_16
  let v39 : BitVec 1 := Scalar.andi v36 v38
  let v25 : BitVec 32 := Scalar.divsi v24 c512_i32_11
  let c1_i32_17 : BitVec 32 := 1#32
  let v40 : BitVec 32 := Scalar.subi v25 c1_i32_17
  let v41 : BitVec 32 := Scalar.select v39 v40 v25
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v91 : BitVec 32 := Scalar.subi v23 v41
  let c1_i32_44 : BitVec 32 := 1#32
  let v93 : BitVec 32 := Scalar.divsi v91 c1_i32_44
  let v94 : BitVec 32 := Scalar.muli v93 c1_i32_44
  let v95 : BitVec 32 := Scalar.addi v41 v94
  let c1_i32_46 : BitVec 32 := 1#32
  let arg17 : BitVec 32 := Scf.iv v95 c1_i32_46 k0_t4
  let v163 : Index := Scalar.indexCast arg17
  let c0_76 : Index := 0#32
  let c0_77 : Index := 0#32
  ![1, v163.toNat, 0, 0]
@[reducible] def k0_t5_loop (i : grid0.Coords) : Scf.Loop 32 :=
  let c0_i32_47 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 c0_i32_47
  let c1_i32_48 : BitVec 32 := 1#32
  let v100 : BitVec 32 := Scalar.divsi v98 c1_i32_48
  let v101 : BitVec 32 := Scalar.muli v100 c1_i32_48
  let v102 : BitVec 32 := Scalar.addi c0_i32_47 v101
  let c1_i32_49 : BitVec 32 := 1#32
  ⟨c0_i32_47, v102, c1_i32_49⟩
def k0_mult5 (i : grid0.Coords) (k0_t5 : Fin (k0_t5_loop i).trips) : BitVec 32 :=
  let c0_i32_47 : BitVec 32 := 0#32
  let c1_i32_49 : BitVec 32 := 1#32
  let arg17 : BitVec 32 := Scf.iv c0_i32_47 c1_i32_49 k0_t5
  let c512_i32_55 : BitVec 32 := 512#32
  let v113 : BitVec 32 := Scalar.muli arg17 c512_i32_55
  v113
def k0_off21 (i : grid0.Coords) (k0_t5 : Fin (k0_t5_loop i).trips) : Fin 2 → Nat :=
  let c0_i32_47 : BitVec 32 := 0#32
  let c1_i32_49 : BitVec 32 := 1#32
  let arg17 : BitVec 32 := Scf.iv c0_i32_47 c1_i32_49 k0_t5
  let c512_i32_55 : BitVec 32 := 512#32
  let v113 : BitVec 32 := Scalar.muli arg17 c512_i32_55
  let v114 : BitVec 32 := v113
  let v115 : Index := Scalar.indexCast v114
  let c0_56 : Index := 0#32
  ![v115.toNat, 0]
def k0_off22 (i : grid0.Coords) (k0_t5 : Fin (k0_t5_loop i).trips) : Fin 4 → Nat :=
  let c0_60 : Index := 0#32
  let c0_i32_47 : BitVec 32 := 0#32
  let c1_i32_49 : BitVec 32 := 1#32
  let arg17 : BitVec 32 := Scf.iv c0_i32_47 c1_i32_49 k0_t5
  let v123 : Index := Scalar.indexCast arg17
  let c0_61 : Index := 0#32
  let c0_62 : Index := 0#32
  ![0, v123.toNat, 0, 0]
def k0_off23 (i : grid0.Coords) (k0_t5 : Fin (k0_t5_loop i).trips) : Fin 3 → Nat :=
  let c0_68 : Index := 0#32
  let c0_69 : Index := 0#32
  let c0_i32_47 : BitVec 32 := 0#32
  let c1_i32_49 : BitVec 32 := 1#32
  let arg17 : BitVec 32 := Scf.iv c0_i32_47 c1_i32_49 k0_t5
  let c512_i32_55 : BitVec 32 := 512#32
  let v113 : BitVec 32 := Scalar.muli arg17 c512_i32_55
  let v114 : BitVec 32 := v113
  let v138 : Index := Scalar.indexCast v114
  ![0, 0, v138.toNat]
def k0_off24 (i : grid0.Coords) (k0_t5 : Fin (k0_t5_loop i).trips) : Fin 4 → Nat :=
  let c1_74 : Index := 1#32
  let c0_i32_47 : BitVec 32 := 0#32
  let c1_i32_49 : BitVec 32 := 1#32
  let arg17 : BitVec 32 := Scf.iv c0_i32_47 c1_i32_49 k0_t5
  let v150 : Index := Scalar.indexCast arg17
  let c0_75 : Index := 0#32
  let c0_76 : Index := 0#32
  ![1, v150.toNat, 0, 0]
def k0_off25 (i : grid0.Coords) (k0_t5 : Fin (k0_t5_loop i).trips) : Fin 3 → Nat :=
  let c0_82 : Index := 0#32
  let c1_83 : Index := 1#32
  let c0_i32_47 : BitVec 32 := 0#32
  let c1_i32_49 : BitVec 32 := 1#32
  let arg17 : BitVec 32 := Scf.iv c0_i32_47 c1_i32_49 k0_t5
  let c512_i32_55 : BitVec 32 := 512#32
  let v113 : BitVec 32 := Scalar.muli arg17 c512_i32_55
  let v114 : BitVec 32 := v113
  let v165 : Index := Scalar.indexCast v114
  ![0, 1, v165.toNat]
@[reducible] def k0_t6_loop (i : grid0.Coords) : Scf.Loop 32 :=
  let c0_i32_47 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 c0_i32_47
  let c1_i32_48 : BitVec 32 := 1#32
  let v100 : BitVec 32 := Scalar.divsi v98 c1_i32_48
  let v101 : BitVec 32 := Scalar.muli v100 c1_i32_48
  let v102 : BitVec 32 := Scalar.addi c0_i32_47 v101
  let v99 : BitVec 32 := Scalar.addi c0_i32_47 v98
  let c1_i32_50 : BitVec 32 := 1#32
  ⟨v102, v99, c1_i32_50⟩
def k0_mult6 (i : grid0.Coords) (k0_t6 : Fin (k0_t6_loop i).trips) : BitVec 32 :=
  let c0_i32_47 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 c0_i32_47
  let c1_i32_48 : BitVec 32 := 1#32
  let v100 : BitVec 32 := Scalar.divsi v98 c1_i32_48
  let v101 : BitVec 32 := Scalar.muli v100 c1_i32_48
  let v102 : BitVec 32 := Scalar.addi c0_i32_47 v101
  let c1_i32_50 : BitVec 32 := 1#32
  let arg17 : BitVec 32 := Scf.iv v102 c1_i32_50 k0_t6
  let c512_i32_55 : BitVec 32 := 512#32
  let v113 : BitVec 32 := Scalar.muli arg17 c512_i32_55
  v113
def k0_off26 (i : grid0.Coords) (k0_t6 : Fin (k0_t6_loop i).trips) : Fin 2 → Nat :=
  let c0_i32_47 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 c0_i32_47
  let c1_i32_48 : BitVec 32 := 1#32
  let v100 : BitVec 32 := Scalar.divsi v98 c1_i32_48
  let v101 : BitVec 32 := Scalar.muli v100 c1_i32_48
  let v102 : BitVec 32 := Scalar.addi c0_i32_47 v101
  let c1_i32_50 : BitVec 32 := 1#32
  let arg17 : BitVec 32 := Scf.iv v102 c1_i32_50 k0_t6
  let c512_i32_55 : BitVec 32 := 512#32
  let v113 : BitVec 32 := Scalar.muli arg17 c512_i32_55
  let v114 : BitVec 32 := v113
  let v115 : Index := Scalar.indexCast v114
  let c0_56 : Index := 0#32
  ![v115.toNat, 0]
def k0_off27 (i : grid0.Coords) (k0_t6 : Fin (k0_t6_loop i).trips) : Fin 4 → Nat :=
  let c0_60 : Index := 0#32
  let c0_i32_47 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 c0_i32_47
  let c1_i32_48 : BitVec 32 := 1#32
  let v100 : BitVec 32 := Scalar.divsi v98 c1_i32_48
  let v101 : BitVec 32 := Scalar.muli v100 c1_i32_48
  let v102 : BitVec 32 := Scalar.addi c0_i32_47 v101
  let c1_i32_50 : BitVec 32 := 1#32
  let arg17 : BitVec 32 := Scf.iv v102 c1_i32_50 k0_t6
  let v123 : Index := Scalar.indexCast arg17
  let c0_61 : Index := 0#32
  let c0_62 : Index := 0#32
  ![0, v123.toNat, 0, 0]
def k0_off28 (i : grid0.Coords) (k0_t6 : Fin (k0_t6_loop i).trips) : Fin 3 → Nat :=
  let c0_68 : Index := 0#32
  let c0_69 : Index := 0#32
  let c0_i32_47 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 c0_i32_47
  let c1_i32_48 : BitVec 32 := 1#32
  let v100 : BitVec 32 := Scalar.divsi v98 c1_i32_48
  let v101 : BitVec 32 := Scalar.muli v100 c1_i32_48
  let v102 : BitVec 32 := Scalar.addi c0_i32_47 v101
  let c1_i32_50 : BitVec 32 := 1#32
  let arg17 : BitVec 32 := Scf.iv v102 c1_i32_50 k0_t6
  let c512_i32_55 : BitVec 32 := 512#32
  let v113 : BitVec 32 := Scalar.muli arg17 c512_i32_55
  let v114 : BitVec 32 := v113
  let v138 : Index := Scalar.indexCast v114
  ![0, 0, v138.toNat]
def k0_off29 (i : grid0.Coords) (k0_t6 : Fin (k0_t6_loop i).trips) : Fin 4 → Nat :=
  let c1_74 : Index := 1#32
  let c0_i32_47 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 c0_i32_47
  let c1_i32_48 : BitVec 32 := 1#32
  let v100 : BitVec 32 := Scalar.divsi v98 c1_i32_48
  let v101 : BitVec 32 := Scalar.muli v100 c1_i32_48
  let v102 : BitVec 32 := Scalar.addi c0_i32_47 v101
  let c1_i32_50 : BitVec 32 := 1#32
  let arg17 : BitVec 32 := Scf.iv v102 c1_i32_50 k0_t6
  let v150 : Index := Scalar.indexCast arg17
  let c0_75 : Index := 0#32
  let c0_76 : Index := 0#32
  ![1, v150.toNat, 0, 0]
def k0_off30 (i : grid0.Coords) (k0_t6 : Fin (k0_t6_loop i).trips) : Fin 3 → Nat :=
  let c0_82 : Index := 0#32
  let c1_83 : Index := 1#32
  let c0_i32_47 : BitVec 32 := 0#32
  let arg1 : BitVec 32 := BitVec.ofNat 32 (i 1).val
  let c512_i32 : BitVec 32 := 512#32
  let v3 : BitVec 32 := Scalar.muli arg1 c512_i32
  let c512_i32_1 : BitVec 32 := 512#32
  let v4 : BitVec 32 := Scalar.addi v3 c512_i32_1
  let c1_i32 : BitVec 32 := 1#32
  let v5 : BitVec 32 := Scalar.subi v4 c1_i32
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c512_i32_2 : BitVec 32 := 512#32
  let c0_i32_5 : BitVec 32 := 0#32
  let v12 : BitVec 1 := Scalar.cmpi .sgt c512_i32_2 c0_i32_5
  let v13 : BitVec 32 := Scalar.extui v12
  let c0_i32_6 : BitVec 32 := 0#32
  let v14 : BitVec 1 := Scalar.cmpi .slt c512_i32_2 c0_i32_6
  let v15 : BitVec 32 := Scalar.extui v14
  let v16 : BitVec 32 := Scalar.subi v13 v15
  let v17 : BitVec 1 := Scalar.cmpi .ne v11 v16
  let v18 : BitVec 32 := Scalar.remsi v5 c512_i32_2
  let c0_i32_7 : BitVec 32 := 0#32
  let v19 : BitVec 1 := Scalar.cmpi .ne v18 c0_i32_7
  let v20 : BitVec 1 := Scalar.andi v17 v19
  let v6 : BitVec 32 := Scalar.divsi v5 c512_i32_2
  let c1_i32_8 : BitVec 32 := 1#32
  let v21 : BitVec 32 := Scalar.subi v6 c1_i32_8
  let v22 : BitVec 32 := Scalar.select v20 v21 v6
  let c1_i32_9 : BitVec 32 := 1#32
  let v23 : BitVec 32 := Scalar.addi v22 c1_i32_9
  let v98 : BitVec 32 := Scalar.subi v23 c0_i32_47
  let c1_i32_48 : BitVec 32 := 1#32
  let v100 : BitVec 32 := Scalar.divsi v98 c1_i32_48
  let v101 : BitVec 32 := Scalar.muli v100 c1_i32_48
  let v102 : BitVec 32 := Scalar.addi c0_i32_47 v101
  let c1_i32_50 : BitVec 32 := 1#32
  let arg17 : BitVec 32 := Scf.iv v102 c1_i32_50 k0_t6
  let c512_i32_55 : BitVec 32 := 512#32
  let v113 : BitVec 32 := Scalar.muli arg17 c512_i32_55
  let v114 : BitVec 32 := v113
  let v165 : Index := Scalar.indexCast v114
  ![0, 1, v165.toNat]
def k0_cond2 (i : grid0.Coords) : BitVec 1 :=
  let arg1 : BitVec 32 := BitVec.ofNat 32 (i 1).val
  let c3_i32 : BitVec 32 := 3#32
  let v110 : BitVec 1 := Scalar.cmpi .eq arg1 c3_i32
  let v111 : BitVec 32 := Scalar.extui v110
  let c0_i32_54 : BitVec 32 := 0#32
  let v112 : BitVec 1 := Scalar.cmpi .ne v111 c0_i32_54
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceFoxIdeal.lean ====
abbrev S2048x1024 : Shape := ⟨2, ![2048, 1024]⟩
abbrev S16x2048 : Shape := ⟨2, ![16, 2048]⟩
abbrev S2048x16x64 : Shape := ⟨3, ![2048, 16, 64]⟩
abbrev S16x2048x64 : Shape := ⟨3, ![16, 2048, 64]⟩
abbrev S_ : Shape := ⟨0, ![]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x64x2048 : Shape := ⟨3, ![16, 64, 2048]⟩
abbrev S8x2x2048 : Shape := ⟨3, ![8, 2, 2048]⟩

abbrev nBuf : Space → Nat
  | .hbm => 125
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048, .f32⟩
  | .hbm, ⟨4, _⟩ => ⟨S2048x1024, .f32⟩
  | .hbm, ⟨5, _⟩ => ⟨S2048x16x64, .f32⟩
  | .hbm, ⟨6, _⟩ => ⟨S16x2048x64, .f32⟩
  | .hbm, ⟨7, _⟩ => ⟨S_, .f32⟩
  | .hbm, ⟨8, _⟩ => ⟨S16x2048x64, .f32⟩
  | .hbm, ⟨9, _⟩ => ⟨S16x2048x64, .f32⟩
  | .hbm, ⟨10, _⟩ => ⟨S2048x16x64, .f32⟩
  | .hbm, ⟨11, _⟩ => ⟨S16x2048x64, .f32⟩
  | .hbm, ⟨12, _⟩ => ⟨S2048x16x64, .f32⟩
  | .hbm, ⟨13, _⟩ => ⟨S16x2048x64, .f32⟩
  | .hbm, ⟨14, _⟩ => ⟨S16x2048x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x1x2048, .f32⟩
  | .hbm, ⟨19, _⟩ => ⟨S16x2048x2048, .f32⟩
  | .hbm, ⟨20, _⟩ => ⟨S16x2048x2048, .f32⟩
  | .hbm, ⟨21, _⟩ => ⟨S2048, .i32⟩
  | .hbm, ⟨22, _⟩ => ⟨S1x2048, .i32⟩
  | .hbm, ⟨23, _⟩ => ⟨S2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S16x2048x2048, .i1⟩
  | .hbm, ⟨31, _⟩ => ⟨S16x2048x2048, .f32⟩
  | .hbm, ⟨32, _⟩ => ⟨S16x2048x2048, .f32⟩
  | .hbm, ⟨33, _⟩ => ⟨S_, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S16x2048x2048, .f32⟩
  | .hbm, ⟨39, _⟩ => ⟨S16x2048x2048, .i1⟩
  | .hbm, ⟨40, _⟩ => ⟨S16x2048x2048, .f32⟩
  | .hbm, ⟨41, _⟩ => ⟨S_, .f32⟩
  | .hbm, ⟨42, _⟩ => ⟨S16x2048, .f32⟩
  | .hbm, ⟨43, _⟩ => ⟨S_, .f32⟩
  | .hbm, ⟨44, _⟩ => ⟨S16x2048, .f32⟩
  | .hbm, ⟨45, _⟩ => ⟨S16x2048, .f32⟩
  | .hbm, ⟨46, _⟩ => ⟨S_, .f32⟩
  | .hbm, ⟨47, _⟩ => ⟨S16x2048, .f32⟩
  | .hbm, ⟨48, _⟩ => ⟨S16x2048, .i1⟩
  | .hbm, ⟨49, _⟩ => ⟨S_, .f32⟩
  | .hbm, ⟨50, _⟩ => ⟨S16x2048, .f32⟩
  | .hbm, ⟨51, _⟩ => ⟨S16x2048, .i1⟩
  | .hbm, ⟨52, _⟩ => ⟨S_, .f32⟩
  | .hbm, ⟨53, _⟩ => ⟨S16x2048, .f32⟩
  | .hbm, ⟨54, _⟩ => ⟨S_, .f32⟩
  | .hbm, ⟨55, _⟩ => ⟨S16x2048, .f32⟩
  | .hbm, ⟨56, _⟩ => ⟨S_, .f32⟩
  | .hbm, ⟨57, _⟩ => ⟨S16x2048, .f32⟩
  | .hbm, ⟨58, _⟩ => ⟨S16x2048, .f32⟩
  | .hbm, ⟨59, _⟩ => ⟨S16x2048, .f32⟩
  | .hbm, ⟨60, _⟩ => ⟨S16x2048x1, .f32⟩
  | .hbm, ⟨61, _⟩ => ⟨S16x2048x2048, .f32⟩
  | .hbm, ⟨62, _⟩ => ⟨S16x2048x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S16x2048x2048, .f32⟩
  | .hbm, ⟨68, _⟩ => ⟨S16x2048x2048, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x64, .f32⟩
  | .hbm, ⟨74, _⟩ => ⟨S2048x16x64, .f32⟩
  | .hbm, ⟨75, _⟩ => ⟨S2048x1024, .f32⟩
  | .hbm, ⟨76, _⟩ => ⟨S2048x16x64, .f32⟩
  | .hbm, ⟨77, _⟩ => ⟨S16x2048x64, .f32⟩
  | .hbm, ⟨78, _⟩ => ⟨S16x64x2048, .f32⟩
  | .hbm, ⟨79, _⟩ => ⟨S16x2048x64, .f32⟩
  | .hbm, ⟨80, _⟩ => ⟨S16x2048x2048, .f32⟩
  | .hbm, ⟨81, _⟩ => ⟨S16x2048x2048, .f32⟩
  | .hbm, ⟨82, _⟩ => ⟨S16x2048x2048, .f32⟩
  | .hbm, ⟨83, _⟩ => ⟨S16x2048x2048, .f32⟩
  | .hbm, ⟨84, _⟩ => ⟨S_, .f32⟩
  | .hbm, ⟨85, _⟩ => ⟨S16x2048, .f32⟩
  | .hbm, ⟨86, _⟩ => ⟨S16x2048x1, .f32⟩
  | .hbm, ⟨87, _⟩ => ⟨S16x2048x1, .f32⟩
  | .hbm, ⟨88, _⟩ => ⟨S16x2048x2048, .f32⟩
  | .hbm, ⟨89, _⟩ => ⟨S16x2048x2048, .f32⟩
  | .hbm, ⟨90, _⟩ => ⟨S_, .f32⟩
  | .hbm, ⟨91, _⟩ => ⟨S16x2048, .f32⟩
  | .hbm, ⟨92, _⟩ => ⟨S16x2048x2048, .f32⟩
  | .hbm, ⟨93, _⟩ => ⟨S16x2048x2048, .f32⟩
  | .hbm, ⟨94, _⟩ => ⟨S16x2048x2048, .f32⟩
  | .hbm, ⟨95, _⟩ => ⟨S_, .f32⟩
  | .hbm, ⟨96, _⟩ => ⟨S16x2048x2048, .f32⟩
  | .hbm, ⟨97, _⟩ => ⟨S16x2048x2048, .f32⟩
  | .hbm, ⟨98, _⟩ => ⟨S16x2048x2048, .f32⟩
  | .hbm, ⟨99, _⟩ => ⟨S_, .f32⟩
  | .hbm, ⟨100, _⟩ => ⟨S16x2048, .f32⟩
  | .hbm, ⟨101, _⟩ => ⟨S16x1x2048, .f32⟩
  | .hbm, ⟨102, _⟩ => ⟨S_, .f32⟩
  | .hbm, ⟨103, _⟩ => ⟨S16x2048, .f32⟩
  | .hbm, ⟨104, _⟩ => ⟨S_, .f32⟩
  | .hbm, ⟨105, _⟩ => ⟨S16x2048, .f32⟩
  | .hbm, ⟨106, _⟩ => ⟨S16x2048x1, .f32⟩
  | .hbm, ⟨107, _⟩ => ⟨S_, .f32⟩
  | .hbm, ⟨108, _⟩ => ⟨S16x2048, .f32⟩
  | .hbm, ⟨109, _⟩ => ⟨S16x2048, .f32⟩
  | .hbm, ⟨110, _⟩ => ⟨S16x2048x64, .f32⟩
  | .hbm, ⟨111, _⟩ => ⟨S16x2048x64, .f32⟩
  | .hbm, ⟨112, _⟩ => ⟨S2048x16x64, .f32⟩
  | .hbm, ⟨113, _⟩ => ⟨S2048x1024, .f32⟩
  | .hbm, ⟨114, _⟩ => ⟨S2048x16x64, .f32⟩
  | .hbm, ⟨115, _⟩ => ⟨S2048x1024, .f32⟩
  | .hbm, ⟨116, _⟩ => ⟨S_, .f32⟩
  | .hbm, ⟨117, _⟩ => ⟨S16x2048x64, .f32⟩
  | .hbm, ⟨118, _⟩ => ⟨S16x2048x64, .f32⟩
  | .hbm, ⟨119, _⟩ => ⟨S2048x16x64, .f32⟩
  | .hbm, ⟨120, _⟩ => ⟨S2048x1024, .f32⟩
  | .hbm, ⟨121, _⟩ => ⟨S2048x1024, .bf16⟩
  | .hbm, ⟨122, _⟩ => ⟨S2048x1024, .bf16⟩
  | .hbm, ⟨123, _⟩ => ⟨S2048x1024, .bf16⟩
  | .hbm, ⟨124, _⟩ => ⟨S8x2x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== KernelEven.lean ====
abbrev S2048x3072 : Shape := ⟨2, ![2048, 3072]⟩
abbrev S1024x3072 : Shape := ⟨2, ![1024, 3072]⟩
abbrev S2048x1024 : Shape := ⟨2, ![2048, 1024]⟩
abbrev S1024 : Shape := ⟨1, ![1024]⟩
abbrev S1024x4x768 : Shape := ⟨3, ![1024, 4, 768]⟩
abbrev S4x1024x768 : Shape := ⟨3, ![4, 1024, 768]⟩
abbrev S1x1024 : Shape := ⟨2, ![1, 1024]⟩
abbrev S512x3072 : Shape := ⟨2, ![512, 3072]⟩
abbrev S512x1024 : Shape := ⟨2, ![512, 1024]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S2048x3072, .f32⟩
  | .hbm, ⟨1, _⟩ => ⟨S1024x3072, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S1024x4x768, .f32⟩
  | .hbm, ⟨6, _⟩ => ⟨S4x1024x768, .f32⟩
  | .hbm, ⟨7, _⟩ => ⟨S4x1024x768, .bf16⟩
  | .hbm, ⟨8, _⟩ => ⟨S2048x3072, .bf16⟩
  | .hbm, ⟨9, _⟩ => ⟨S1x1024, .f32⟩
  | .hbm, ⟨10, _⟩ => ⟨S2048x1024, .f32⟩
  | .hbm, ⟨11, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_18 : BitVec 32 := 0#32
  let v47 : BitVec 1 := Scalar.cmpi .ne v46 c0_i32_18
  v47

def k0_cond2 (i : grid0.Coords) : BitVec 1 :=
  let arg0 : BitVec 32 := BitVec.ofNat 32 (i 0).val
  let c0_i32_19 : BitVec 32 := 0#32
  let v48 : BitVec 1 := Scalar.cmpi .sgt arg0 c0_i32_19
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceEvenIdeal.lean ====
abbrev S2048x3072 : Shape := ⟨2, ![2048, 3072]⟩
abbrev S1024x3072 : Shape := ⟨2, ![1024, 3072]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S1024x3072, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x3072, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelFoxfwd.lean ====
abbrev S2048x1024 : Shape := ⟨2, ![2048, 1024]⟩
abbrev S16x2048 : Shape := ⟨2, ![16, 2048]⟩
abbrev S2048x3072 : Shape := ⟨2, ![2048, 3072]⟩
abbrev S16x2048x1 : Shape := ⟨3, ![16, 2048, 1]⟩
abbrev S16x2048x128 : Shape := ⟨3, ![16, 2048, 128]⟩
abbrev S8x2x2048 : Shape := ⟨3, ![8, 2, 2048]⟩
abbrev S512x128 : Shape := ⟨2, ![512, 128]⟩
abbrev S2048x128 : Shape := ⟨2, ![2048, 128]⟩
abbrev S2x512x128 : Shape := ⟨3, ![2, 512, 128]⟩
abbrev S1x2x2048 : Shape := ⟨3, ![1, 2, 2048]⟩
abbrev S512x512 : Shape := ⟨2, ![512, 512]⟩
abbrev S512x1 : Shape := ⟨2, ![512, 1]⟩
abbrev S1x512x128 : Shape := ⟨3, ![1, 512, 128]⟩
abbrev S1x1x512 : Shape := ⟨3, ![1, 1, 512]⟩
abbrev S1x512 : Shape := ⟨2, ![1, 512]⟩
abbrev S512 : Shape := ⟨1, ![512]⟩

abbrev nBuf : Space → Nat
  | .hbm => 11
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048, .f32⟩
  | .hbm, ⟨4, _⟩ => ⟨S2048x3072, .f32⟩
  | .hbm, ⟨5, _⟩ => ⟨S2048x3072, .bf16⟩
  | .hbm, ⟨6, _⟩ => ⟨S16x2048x1, .f32⟩
  | .hbm, ⟨7, _⟩ => ⟨S16x2048x128, .f32⟩
  | .hbm, ⟨8, _⟩ => ⟨S8x2x2048, .f32⟩
  | .hbm, ⟨9, _⟩ => ⟨S2048x1024, .bf16⟩
  | .hbm, ⟨10, _⟩ => ⟨S16x2048x128, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2x512x128, .f32⟩
  | .local _ .vmem, ⟨7, _⟩ => ⟨S2x512x128, .f32⟩
  | .local _ .vmem, ⟨8, _⟩ => ⟨S1x2x2048, .f32⟩
  | .local _ .vmem, ⟨9, _⟩ => ⟨S1x2x2048, .f32⟩
  | .local _ .vmem, ⟨10, _⟩ => ⟨S512x128, .bf16⟩
  | .local _ .vmem, ⟨11, _⟩ => ⟨S512x128, .bf16⟩
  | .local _ .vmem, ⟨12, _⟩ => ⟨S2x512x128, .f32⟩
  | .local _ .vmem, ⟨13, _⟩ => ⟨S2x512x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32_29 : BitVec 32 := 0#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let v69 : BitVec 32 := Scalar.subi v41 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_31 : BitVec 32 := 1#32
  ⟨c0_i32_29, v73, c1_i32_31⟩
def k0_mult1 (i : grid0.Coords) (k0_t1 : Fin (k0_t1_loop i).trips) : BitVec 32 :=
  let c0_i32_29 : BitVec 32 := 0#32
  let c1_i32_31 : BitVec 32 := 1#32
  let arg9 : BitVec 32 := Scf.iv c0_i32_29 c1_i32_31 k0_t1
  let c512_i32_44 : BitVec 32 := 512#32
  let v104 : BitVec 32 := Scalar.muli arg9 c512_i32_44
  v104
def k0_off1 (i : grid0.Coords) (k0_t1 : Fin (k0_t1_loop i).trips) : Fin 2 → Nat :=
  let c0_i32_29 : BitVec 32 := 0#32
  let c1_i32_31 : BitVec 32 := 1#32
  let arg9 : BitVec 32 := Scf.iv c0_i32_29 c1_i32_31 k0_t1
  let c512_i32_44 : BitVec 32 := 512#32
  let v104 : BitVec 32 := Scalar.muli arg9 c512_i32_44
  let v105 : BitVec 32 := v104
  let v106 : Index := Scalar.indexCast v105
  let c0_45 : Index := 0#32
  ![v106.toNat, 0]
def k0_off2 (i : grid0.Coords) (k0_t1 : Fin (k0_t1_loop i).trips) : Fin 3 → Nat :=
  let c0_48 : Index := 0#32
  let c0_49 : Index := 0#32
  let c0_i32_29 : BitVec 32 := 0#32
  let c1_i32_31 : BitVec 32 := 1#32
  let arg9 : BitVec 32 := Scf.iv c0_i32_29 c1_i32_31 k0_t1
  let c512_i32_44 : BitVec 32 := 512#32
  let v104 : BitVec 32 := Scalar.muli arg9 c512_i32_44
  let v105 : BitVec 32 := v104
  let v114 : Index := Scalar.indexCast v105
  ![0, 0, v114.toNat]
def k0_off3 (i : grid0.Coords) (k0_t1 : Fin (k0_t1_loop i).trips) : Fin 3 → Nat :=
  let c0_54 : Index := 0#32
  let c1_55 : Index := 1#32
  let c0_i32_29 : BitVec 32 := 0#32
  let c1_i32_31 : BitVec 32 := 1#32
  let arg9 : BitVec 32 := Scf.iv c0_i32_29 c1_i32_31 k0_t1
  let c512_i32_44 : BitVec 32 := 512#32
  let v104 : BitVec 32 := Scalar.muli arg9 c512_i32_44
  let v105 : BitVec 32 := v104
  let v138 : Index := Scalar.indexCast v105
  ![0, 1, v138.toNat]
@[reducible] def k0_t2_loop (i : grid0.Coords) : Scf.Loop 32 :=
  let c0_i32_29 : BitVec 32 := 0#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let v69 : BitVec 32 := Scalar.subi v41 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let v70 : BitVec 32 := Scalar.addi c0_i32_29 v69
  let c1_i32_32 : BitVec 32 := 1#32
  ⟨v73, v70, c1_i32_32⟩
def k0_mult2 (i : grid0.Coords) (k0_t2 : Fin (k0_t2_loop i).trips) : BitVec 32 :=
  let c0_i32_29 : BitVec 32 := 0#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let v69 : BitVec 32 := Scalar.subi v41 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg9 : BitVec 32 := Scf.iv v73 c1_i32_32 k0_t2
  let c512_i32_44 : BitVec 32 := 512#32
  let v104 : BitVec 32 := Scalar.muli arg9 c512_i32_44
  v104
def k0_off4 (i : grid0.Coords) (k0_t2 : Fin (k0_t2_loop i).trips) : Fin 2 → Nat :=
  let c0_i32_29 : BitVec 32 := 0#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let v69 : BitVec 32 := Scalar.subi v41 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg9 : BitVec 32 := Scf.iv v73 c1_i32_32 k0_t2
  let c512_i32_44 : BitVec 32 := 512#32
  let v104 : BitVec 32 := Scalar.muli arg9 c512_i32_44
  let v105 : BitVec 32 := v104
  let v106 : Index := Scalar.indexCast v105
  let c0_45 : Index := 0#32
  ![v106.toNat, 0]
def k0_off5 (i : grid0.Coords) (k0_t2 : Fin (k0_t2_loop i).trips) : Fin 3 → Nat :=
  let c0_48 : Index := 0#32
  let c0_49 : Index := 0#32
  let c0_i32_29 : BitVec 32 := 0#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let v69 : BitVec 32 := Scalar.subi v41 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg9 : BitVec 32 := Scf.iv v73 c1_i32_32 k0_t2
  let c512_i32_44 : BitVec 32 := 512#32
  let v104 : BitVec 32 := Scalar.muli arg9 c512_i32_44
  let v105 : BitVec 32 := v104
  let v114 : Index := Scalar.indexCast v105
  ![0, 0, v114.toNat]
def k0_off6 (i : grid0.Coords) (k0_t2 : Fin (k0_t2_loop i).trips) : Fin 3 → Nat :=
  let c0_54 : Index := 0#32
  let c1_55 : Index := 1#32
  let c0_i32_29 : BitVec 32 := 0#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let v69 : BitVec 32 := Scalar.subi v41 c0_i32_29
  let c1_i32_30 : BitVec 32 := 1#32
  let v71 : BitVec 32 := Scalar.divsi v69 c1_i32_30
  let v72 : BitVec 32 := Scalar.muli v71 c1_i32_30
  let v73 : BitVec 32 := Scalar.addi c0_i32_29 v72
  let c1_i32_32 : BitVec 32 := 1#32
  let arg9 : BitVec 32 := Scf.iv v73 c1_i32_32 k0_t2
  let c512_i32_44 : BitVec 32 := 512#32
  let v104 : BitVec 32 := Scalar.muli arg9 c512_i32_44
  let v105 : BitVec 32 := v104
  let v138 : Index := Scalar.indexCast v105
  ![0, 1, v138.toNat]
@[reducible] def k0_t3_loop (i : grid0.Coords) : Scf.Loop 32 :=
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let v76 : BitVec 32 := Scalar.subi v20 v41
  let c1_i32_33 : BitVec 32 := 1#32
  let v78 : BitVec 32 := Scalar.divsi v76 c1_i32_33
  let v79 : BitVec 32 := Scalar.muli v78 c1_i32_33
  let v80 : BitVec 32 := Scalar.addi v41 v79
  let c1_i32_34 : BitVec 32 := 1#32
  ⟨v41, v80, c1_i32_34⟩
def k0_mult3 (i : grid0.Coords) (k0_t3 : Fin (k0_t3_loop i).trips) : BitVec 32 :=
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c1_i32_34 : BitVec 32 := 1#32
  let arg9 : BitVec 32 := Scf.iv v41 c1_i32_34 k0_t3
  let c512_i32_44 : BitVec 32 := 512#32
  let v104 : BitVec 32 := Scalar.muli arg9 c512_i32_44
  v104
def k0_off7 (i : grid0.Coords) (k0_t3 : Fin (k0_t3_loop i).trips) : Fin 2 → Nat :=
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c1_i32_34 : BitVec 32 := 1#32
  let arg9 : BitVec 32 := Scf.iv v41 c1_i32_34 k0_t3
  let c512_i32_44 : BitVec 32 := 512#32
  let v104 : BitVec 32 := Scalar.muli arg9 c512_i32_44
  let v105 : BitVec 32 := v104
  let v106 : Index := Scalar.indexCast v105
  let c0_45 : Index := 0#32
  ![v106.toNat, 0]
def k0_off8 (i : grid0.Coords) (k0_t3 : Fin (k0_t3_loop i).trips) : Fin 3 → Nat :=
  let c0_48 : Index := 0#32
  let c0_49 : Index := 0#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c1_i32_34 : BitVec 32 := 1#32
  let arg9 : BitVec 32 := Scf.iv v41 c1_i32_34 k0_t3
  let c512_i32_44 : BitVec 32 := 512#32
  let v104 : BitVec 32 := Scalar.muli arg9 c512_i32_44
  let v105 : BitVec 32 := v104
  let v114 : Index := Scalar.indexCast v105
  ![0, 0, v114.toNat]
def k0_off9 (i : grid0.Coords) (k0_t3 : Fin (k0_t3_loop i).trips) : Fin 3 → Nat :=
  let c0_55 : Index := 0#32
  let c1_56 : Index := 1#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c1_i32_34 : BitVec 32 := 1#32
  let arg9 : BitVec 32 := Scf.iv v41 c1_i32_34 k0_t3
  let c512_i32_44 : BitVec 32 := 512#32
  let v104 : BitVec 32 := Scalar.muli arg9 c512_i32_44
  let v105 : BitVec 32 := v104
  let v143 : Index := Scalar.indexCast v105
  ![0, 1, v143.toNat]
@[reducible] def k0_t4_loop (i : grid0.Coords) : Scf.Loop 32 :=
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let v76 : BitVec 32 := Scalar.subi v20 v41
  let c1_i32_33 : BitVec 32 := 1#32
  let v78 : BitVec 32 := Scalar.divsi v76 c1_i32_33
  let v79 : BitVec 32 := Scalar.muli v78 c1_i32_33
  let v80 : BitVec 32 := Scalar.addi v41 v79
  let v77 : BitVec 32 := Scalar.addi v41 v76
  let c1_i32_35 : BitVec 32 := 1#32
  ⟨v80, v77, c1_i32_35⟩
def k0_mult4 (i : grid0.Coords) (k0_t4 : Fin (k0_t4_loop i).trips) : BitVec 32 :=
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let v76 : BitVec 32 := Scalar.subi v20 v41
  let c1_i32_33 : BitVec 32 := 1#32
  let v78 : BitVec 32 := Scalar.divsi v76 c1_i32_33
  let v79 : BitVec 32 := Scalar.muli v78 c1_i32_33
  let v80 : BitVec 32 := Scalar.addi v41 v79
  let c1_i32_35 : BitVec 32 := 1#32
  let arg9 : BitVec 32 := Scf.iv v80 c1_i32_35 k0_t4
  let c512_i32_44 : BitVec 32 := 512#32
  let v104 : BitVec 32 := Scalar.muli arg9 c512_i32_44
  v104
def k0_off10 (i : grid0.Coords) (k0_t4 : Fin (k0_t4_loop i).trips) : Fin 2 → Nat :=
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let v76 : BitVec 32 := Scalar.subi v20 v41
  let c1_i32_33 : BitVec 32 := 1#32
  let v78 : BitVec 32 := Scalar.divsi v76 c1_i32_33
  let v79 : BitVec 32 := Scalar.muli v78 c1_i32_33
  let v80 : BitVec 32 := Scalar.addi v41 v79
  let c1_i32_35 : BitVec 32 := 1#32
  let arg9 : BitVec 32 := Scf.iv v80 c1_i32_35 k0_t4
  let c512_i32_44 : BitVec 32 := 512#32
  let v104 : BitVec 32 := Scalar.muli arg9 c512_i32_44
  let v105 : BitVec 32 := v104
  let v106 : Index := Scalar.indexCast v105
  let c0_45 : Index := 0#32
  ![v106.toNat, 0]
def k0_off11 (i : grid0.Coords) (k0_t4 : Fin (k0_t4_loop i).trips) : Fin 3 → Nat :=
  let c0_48 : Index := 0#32
  let c0_49 : Index := 0#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let v76 : BitVec 32 := Scalar.subi v20 v41
  let c1_i32_33 : BitVec 32 := 1#32
  let v78 : BitVec 32 := Scalar.divsi v76 c1_i32_33
  let v79 : BitVec 32 := Scalar.muli v78 c1_i32_33
  let v80 : BitVec 32 := Scalar.addi v41 v79
  let c1_i32_35 : BitVec 32 := 1#32
  let arg9 : BitVec 32 := Scf.iv v80 c1_i32_35 k0_t4
  let c512_i32_44 : BitVec 32 := 512#32
  let v104 : BitVec 32 := Scalar.muli arg9 c512_i32_44
  let v105 : BitVec 32 := v104
  let v114 : Index := Scalar.indexCast v105
  ![0, 0, v114.toNat]
def k0_off12 (i : grid0.Coords) (k0_t4 : Fin (k0_t4_loop i).trips) : Fin 3 → Nat :=
  let c0_55 : Index := 0#32
  let c1_56 : Index := 1#32
  let arg1 : BitVec 32 := BitVec.ofNat 32 (i 1).val
  let c512_i32_8 : BitVec 32 := 512#32
  let v24 : BitVec 32 := Scalar.muli arg1 c512_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c512_i32_9 : BitVec 32 := 512#32
  let c0_i32_12 : BitVec 32 := 0#32
  let v31 : BitVec 1 := Scalar.cmpi .sgt c512_i32_9 c0_i32_12
  let v32 : BitVec 32 := Scalar.extui v31
  let c0_i32_13 : BitVec 32 := 0#32
  let v33 : BitVec 1 := Scalar.cmpi .slt c512_i32_9 c0_i32_13
  let v34 : BitVec 32 := Scalar.extui v33
  let v35 : BitVec 32 := Scalar.subi v32 v34
  let v36 : BitVec 1 := Scalar.cmpi .ne v30 v35
  let v37 : BitVec 32 := Scalar.remsi v24 c512_i32_9
  let c0_i32_14 : BitVec 32 := 0#32
  let v38 : BitVec 1 := Scalar.cmpi .ne v37 c0_i32_14
  let v39 : BitVec 1 := Scalar.andi v36 v38
  let v25 : BitVec 32 := Scalar.divsi v24 c512_i32_9
  let c1_i32_15 : BitVec 32 := 1#32
  let v40 : BitVec 32 := Scalar.subi v25 c1_i32_15
  let v41 : BitVec 32 := Scalar.select v39 v40 v25
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c512_i32_1 : BitVec 32 := 512#32
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let v3 : BitVec 32 := Scalar.divsi v2 c512_i32_1
  let c1_i32_6 : BitVec 32 := 1#32
  let v18 : BitVec 32 := Scalar.subi v3 c1_i32_6
  let v19 : BitVec 32 := Scalar.select v17 v18 v3
  let c1_i32_7 : BitVec 32 := 1#32
  let v20 : BitVec 32 := Scalar.addi v19 c1_i32_7
  let v76 : BitVec 32 := Scalar.subi v20 v41
  let c1_i32_33 : BitVec 32 := 1#32
  let v78 : BitVec 32 := Scalar.divsi v76 c1_i32_33
  let v79 : BitVec 32 := Scalar.muli v78 c1_i32_33
  let v80 : BitVec 32 := Scalar.addi v41 v79
  let c1_i32_35 : BitVec 32 := 1#32
  let arg9 : BitVec 32 := Scf.iv v80 c1_i32_35 k0_t4
  let c512_i32_44 : BitVec 32 := 512#32
  let v104 : BitVec 32 := Scalar.muli arg9 c512_i32_44
  let v105 : BitVec 32 := v104
  let v143 : Index := Scalar.indexCast v105
  ![0, 1, v143.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelFoxfwdIdeal.lean ====
variable {F : FTy → Type} [FloatOps F] [Named F]
def κ : String → Option EReal := fun
  | "mask" => some ⊥
  | _ => none
-- ==== ReferenceFoxfwdIdeal.lean ====
abbrev S2048x1024 : Shape := ⟨2, ![2048, 1024]⟩
abbrev S16x2048 : Shape := ⟨2, ![16, 2048]⟩
abbrev S2048x16x64 : Shape := ⟨3, ![2048, 16, 64]⟩
abbrev S16x2048x64 : Shape := ⟨3, ![16, 2048, 64]⟩
abbrev S_ : Shape := ⟨0, ![]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x2048x128 : Shape := ⟨3, ![16, 2048, 128]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S16x2048, .f32⟩
  | .hbm, ⟨4, _⟩ => ⟨S2048x16x64, .f32⟩
  | .hbm, ⟨5, _⟩ => ⟨S16x2048x64, .f32⟩
  | .hbm, ⟨6, _⟩ => ⟨S_, .f32⟩
  | .hbm, ⟨7, _⟩ => ⟨S16x2048x64, .f32⟩
  | .hbm, ⟨8, _⟩ => ⟨S16x2048x64, .f32⟩
  | .hbm, ⟨9, _⟩ => ⟨S2048x16x64, .f32⟩
  | .hbm, ⟨10, _⟩ => ⟨S16x2048x64, .f32⟩
  | .hbm, ⟨11, _⟩ => ⟨S2048x16x64, .f32⟩
  | .hbm, ⟨12, _⟩ => ⟨S16x2048x64, .f32⟩
  | .hbm, ⟨13, _⟩ => ⟨S16x2048x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S2048, .i32⟩
  | .hbm, ⟨21, _⟩ => ⟨S1x2048, .i32⟩
  | .hbm, ⟨22, _⟩ => ⟨S2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S16x2048x2048, .i1⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S_, .f32⟩
  | .hbm, ⟨35, _⟩ => ⟨S16x2048, .f32⟩
  | .hbm, ⟨36, _⟩ => ⟨S16x2048, .f32⟩
  | .hbm, ⟨37, _⟩ => ⟨S16x2048x1, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S_, .f32⟩
  | .hbm, ⟨42, _⟩ => ⟨S16x2048, .f32⟩
  | .hbm, ⟨43, _⟩ => ⟨S16x2048x1, .f32⟩
  | .hbm, ⟨44, _⟩ => ⟨S16x2048x2048, .f32⟩
  | .hbm, ⟨45, _⟩ => ⟨S16x2048x2048, .f32⟩
  | .hbm, ⟨46, _⟩ => ⟨S16x2048x64, .f32⟩
  | .hbm, ⟨47, _⟩ => ⟨S2048x16x64, .f32⟩
  | .hbm, ⟨48, _⟩ => ⟨S2048x1024, .f32⟩
  | .hbm, ⟨49, _⟩ => ⟨S2048x16x64, .f32⟩
  | .hbm, ⟨50, _⟩ => ⟨S16x2048x64, .f32⟩
  | .hbm, ⟨51, _⟩ => ⟨S_, .f32⟩
  | .hbm, ⟨52, _⟩ => ⟨S16x2048x64, .f32⟩
  | .hbm, ⟨53, _⟩ => ⟨S16x2048x64, .f32⟩
  | .hbm, ⟨54, _⟩ => ⟨S2048x16x64, .f32⟩
  | .hbm, ⟨55, _⟩ => ⟨S16x2048x64, .f32⟩
  | .hbm, ⟨56, _⟩ => ⟨S16x2048x2048, .f32⟩
  | .hbm, ⟨57, _⟩ => ⟨S16x2048x1, .f32⟩
  | .hbm, ⟨58, _⟩ => ⟨S16x2048x2048, .f32⟩
  | .hbm, ⟨59, _⟩ => ⟨S16x2048x2048, .f32⟩
  | .hbm, ⟨60, _⟩ => ⟨S16x1x2048, .f32⟩
  | .hbm, ⟨61, _⟩ => ⟨S16x2048x2048, .f32⟩
  | .hbm, ⟨62, _⟩ => ⟨S16x2048x2048, .f32⟩
  | .hbm, ⟨63, _⟩ => ⟨S2048, .i32⟩
  | .hbm, ⟨64, _⟩ => ⟨S1x2048, .i32⟩
  | .hbm, ⟨65, _⟩ => ⟨S2048, .i32⟩
  | .hbm, ⟨66, _⟩ => ⟨S2048x1, .i32⟩
  | .hbm, ⟨67, _⟩ => ⟨S2048x2048, .i32⟩
  | .hbm, ⟨68, _⟩ => ⟨S2048x2048, .i32⟩
  | .hbm, ⟨69, _⟩ => ⟨S2048x2048, .i1⟩
  | .hbm, ⟨70, _⟩ => ⟨S_, .f32⟩
  | .hbm, ⟨71, _⟩ => ⟨S_, .f32⟩
  | .hbm, ⟨72, _⟩ => ⟨S16x2048x2048, .i1⟩
  | .hbm, ⟨73, _⟩ => ⟨S16x2048x2048, .f32⟩
  | .hbm, ⟨74, _⟩ => ⟨S16x2048x2048, .f32⟩
  | .hbm, ⟨75, _⟩ => ⟨S_, .f32⟩
  | .hbm, ⟨76, _⟩ => ⟨S16x2048, .f32⟩
  | .hbm, ⟨77, _⟩ => ⟨S16x2048x1, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S_, .f32⟩
  | .hbm, ⟨82, _⟩ => ⟨S16x2048, .f32⟩
  | .hbm, ⟨83, _⟩ => ⟨S16x2048, .f32⟩
  | .hbm, ⟨84, _⟩ => ⟨S16x2048, .f32⟩
  | .hbm, ⟨85, _⟩ => ⟨S2048x1024, .bf16⟩
  | .hbm, ⟨86, _⟩ => ⟨S16x2048x1, .f32⟩
  | .hbm, ⟨87, _⟩ => ⟨S16x2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== KernelGate.lean ====
abbrev S2048x16 : Shape := ⟨2, ![2048, 16]⟩
abbrev S16 : Shape := ⟨1, ![16]⟩
abbrev S_ : Shape := ⟨0, ![]⟩
abbrev S2048x128 : Shape := ⟨2, ![2048, 128]⟩
abbrev S1x16 : Shape := ⟨2, ![1, 16]⟩
abbrev S1x128 : Shape := ⟨2, ![1, 128]⟩
abbrev S128x128 : Shape := ⟨2, ![128, 128]⟩
abbrev S16x2048 : Shape := ⟨2, ![16, 2048]⟩

abbrev nBuf : Space → Nat
  | .hbm => 12
  | .vmem => 3
  | .smem => 0
  | _ => 0

abbrev bufTy : (tb : Table) → Fin (tcTables nBuf tb) → BufTy
  | .hbm, ⟨0, _⟩ => ⟨S2048x16, .f32⟩
  | .hbm, ⟨1, _⟩ => ⟨S16, .f32⟩
  | .hbm, ⟨2, _⟩ => ⟨S_, .i32⟩
  | .hbm, ⟨3, _⟩ => ⟨S_, .f32⟩
  | .hbm, ⟨4, _⟩ => ⟨S2048x128, .f32⟩
  | .hbm, ⟨5, _⟩ => ⟨S1x16, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S2048x128, .f32⟩
  | .hbm, ⟨10, _⟩ => ⟨S2048x16, .f32⟩
  | .hbm, ⟨11, _⟩ => ⟨S16x2048, .f32⟩
  | .local _ .vmem, ⟨0, _⟩ => ⟨S2048x128, .f32⟩
  | .local _ .vmem, ⟨1, _⟩ => ⟨S1x128, .f32⟩
  | .local _ .vmem, ⟨2, _⟩ => ⟨S2048x128, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c128_i32 : BitVec 32 := 128#32
  let v10 : BitVec 32 := Scalar.muli arg3 c128_i32
  v10
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c128_i32 : BitVec 32 := 128#32
  let v10 : BitVec 32 := Scalar.muli arg3 c128_i32
  let v11 : BitVec 32 := v10
  let v12 : Index := Scalar.indexCast v11
  let c0 : Index := 0#32
  ![v12.toNat, 0]
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceGateIdeal.lean ====
abbrev S2048x16 : Shape := ⟨2, ![2048, 16]⟩
abbrev S16 : Shape := ⟨1, ![16]⟩
abbrev S1x16 : Shape := ⟨2, ![1, 16]⟩
abbrev S_ : Shape := ⟨0, ![]⟩
abbrev S16x2048 : Shape := ⟨2, ![16, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S16, .f32⟩
  | .hbm, ⟨2, _⟩ => ⟨S1x16, .f32⟩
  | .hbm, ⟨3, _⟩ => ⟨S2048x16, .f32⟩
  | .hbm, ⟨4, _⟩ => ⟨S2048x16, .f32⟩
  | .hbm, ⟨5, _⟩ => ⟨S2048x16, .f32⟩
  | .hbm, ⟨6, _⟩ => ⟨S_, .f32⟩
  | .hbm, ⟨7, _⟩ => ⟨S2048x16, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S2048x16, .i1⟩
  | .hbm, ⟨12, _⟩ => ⟨S2048x16, .f32⟩
  | .hbm, ⟨13, _⟩ => ⟨S2048x16, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S16x2048, .f32⟩
  | .hbm, ⟨22, _⟩ => ⟨S_, .f32⟩
  | .hbm, ⟨23, _⟩ => ⟨S_, .f32⟩
  | .hbm, ⟨24, _⟩ => ⟨S16x2048, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_call1_cst : Ref sig .tc := ⟨.hbm, 22, rfl⟩
abbrev main_call1_v0 : Ref sig .tc := ⟨.hbm, 23, rfl⟩
abbrev main_v5 : Ref sig .tc := ⟨.hbm, 24, rfl⟩

abbrev nD : Nat := 1
abbrev τ : Topo := Topo.v7x

variable {F : FTy → Type} [FloatOps F]
-- ==== KernelNorm.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelAct.lean ====
abbrev S2048x1024 : Shape := ⟨2, ![2048, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x2816 : Shape := ⟨2, ![2048, 2816]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S2048x1024, .bf16⟩
  | .hbm, ⟨6, _⟩ => ⟨S2048x2816, .bf16⟩
  | .hbm, ⟨7, _⟩ => ⟨S2048x2816, .bf16⟩
  | .hbm, ⟨8, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceActIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x5632, .f32⟩
  | .hbm, ⟨3, _⟩ => ⟨S2048x2816, .f32⟩
  | .hbm, ⟨4, _⟩ => ⟨S2048x2816, .f32⟩
  | .hbm, ⟨5, _⟩ => ⟨S2048x2816, .bf16⟩
  | .hbm, ⟨6, _⟩ => ⟨S2048x2816, .bf16⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== KernelOut.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .bf16⟩
  | .hbm, ⟨5, _⟩ => ⟨S1024x1024, .bf16⟩
  | .hbm, ⟨6, _⟩ => ⟨S1x1024, .f32⟩
  | .hbm, ⟨7, _⟩ => ⟨S2048x1024, .f32⟩
  | .hbm, ⟨8, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceOutIdeal.lean ====
abbrev S2048x1024 : Shape := ⟨2, ![2048, 1024]⟩
abbrev S1024x1024 : Shape := ⟨2, ![1024, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.FoxStep.lean ====
module

public import proofs.«01_k».proof.Proof.Gen.KernelFoxIdeal.Loops
public import Idealize.ShloMosaic.Lib.VecWindow

@[expose] public section

set_option maxRecDepth 16384

noncomputable section

open Idealize.ShloMosaic Idealize.ShloMosaic.TcCoe Idealize.SL.Sem

namespace Cert.KernelFoxIdeal.Gen
open Cert.KernelFoxIdeal
variable {F : FTy → Type} [FloatOps F]

/-- Scores of a block of queries against a block of keys. -/
def scoreOf (q kb : FVec F S512x128 .bf16) : FVec F S512x512 .f32 :=
  matmul dot_S512x128_S512x128_S512x512_1_1_0_0_n_n none q kb (constant S512x512 .f32 0x00000000#32)

/-- What lies after the query is put to zero (on the diagonal block). -/
def keep (m : Option (IVec S512x512 1)) (x : FVec F S512x512 .f32) : FVec F S512x512 .f32 :=
  match m with
  | none => x
  | some v => select v x (broadcast S512x512 (Scalar.ofBits .f32 0x00000000#32))

/-- A query block's row statistic, repeated over the columns. -/
def wide4 (x : Vec F S1x512x128 .f32) : FVec F S512x512 .f32 :=
  concatenate S512x512 1 [⟨S512x128, shapeCast S512x128 x shapeCasts_S1x512x128_S512x128⟩, ⟨S512x128, shapeCast S512x128 x shapeCasts_S1x512x128_S512x128⟩, ⟨S512x128, shapeCast S512x128 x shapeCasts_S1x512x128_S512x128⟩, ⟨S512x128, shapeCast S512x128 x shapeCasts_S1x512x128_S512x128⟩] concatenates_S512x128_S512x128_S512x128_S512x128_S512x512_d1

/-- A key block's row, repeated over the queries. -/
def tall (x : Vec F S1x1x512 .f32) : FVec F S512x512 .f32 :=
  broadcastTo S512x512 (shapeCast S1x512 x shapeCasts_S1x1x512_S1x512) broadcasts_S1x512_S512x512

/-- One head of a query block: queries, cotangents, row log-sums and gate sums. -/
structure Head (F : FTy → Type) where
  q : FVec F S512x128 .bf16
  d : FVec F S512x128 .bf16
  st : FVec F S512x512 .f32
  fq : FVec F S512x512 .f32

/-- The weights of a block. -/
def pOf (m : Option (IVec S512x512 1)) (h : Head F) (kb : FVec F S512x128 .bf16) (fk : Vec F S1x1x512 .f32) : FVec F S512x512 .f32 :=
  keep m (exp (subf (subf (addf (scoreOf h.q kb) h.fq) (tall fk)) h.st))
/-- Their cotangents. -/
def dpOf (h : Head F) (vb : FVec F S512x128 .bf16) : FVec F S512x512 .f32 := scoreOf h.d vb

/-- A block's row sums of weight times cotangent, added on. -/
def rowAdd (a : FVec F S512x1 .f32) (p dp : FVec F S512x512 .f32) : FVec F S512x1 .f32 :=
  addf a (shapeCast S512x1 (multiReduction .add [1] S512 (mulf p dp) 0x00000000#32 reduces_S512x512_S512 (.inl rfl) rfl) shapeCasts_S512_S512x1)

def slot (x : FVec F S512x512 .f32) : Vec F S1x1x512x512 .f32 := shapeCast S1x1x512x512 x shapeCasts_S512x512_S1x1x512x512
def unslot (x : Vec F S1x1x512x512 .f32) : FVec F S512x512 .f32 := shapeCast S512x512 x shapeCasts_S1x1x512x512_S512x512

/-- The cotangent of the scores. -/
def dsOf (p dp : FVec F S512x512 .f32) (e : FVec F S512x1 .f32) : FVec F S512x512 .f32 :=
  mulf p (subf dp (broadcastTo S512x512 e broadcasts_S512x1_S512x512))

def tnOf (x : FVec F S512x512 .f32) (y : FVec F S512x128 .bf16) : FVec F S512x128 .f32 :=
  matmul dot_S512x512_S512x128_S512x128_0_0_1_1_n_n none (truncf .bf16 x bitsLt_bf16_f32) y (constant S512x128 .f32 0x00000000#32)
def nnOf (x : FVec F S512x512 .f32) (y : FVec F S512x128 .bf16) : FVec F S512x128 .f32 :=
  matmul dot_S512x512_S512x128_S512x128_1_0_0_1_n_n none (truncf .bf16 x bitsLt_bf16_f32) y (constant S512x128 .f32 0x00000000#32)

/-- What two heads add to the gradient of a key or a value block. -/
def pair (x0 x1 : FVec F S512x512 .f32) (y0 y1 : FVec F S512x128 .bf16) : FVec F S512x128 .f32 :=
  addf (addf (broadcast S512x128 (Scalar.ofBits .f32 0x00000000#32)) (tnOf x0 y0)) (tnOf x1 y1)

/-- A block's column sums, taken off the gate's gradient. -/
def dfOf (r : Vec F S1x1x512 .f32) (ds : FVec F S512x512 .f32) : Vec F S1x1x512 .f32 :=
  shapeCast S1x1x512 (subf (shapeCast S1x512 r shapeCasts_S1x1x512_S1x512)
    (shapeCast S1x512 (multiReduction .add [0] S512 ds 0x00000000#32 reduces_S512x512_S512_2 (.inl rfl) rfl) shapeCasts_S512_S1x512)) shapeCasts_S1x512_S1x1x512

def castB (x : FVec F S512x128 .bf16) : FVec F S512x128 .bf16 := shapeCast S512x128 x shapeCasts_S512x128_S512x128
def castF (x : FVec F S512x128 .f32) : FVec F S512x128 .f32 := shapeCast S512x128 x shapeCasts_S512x128_S512x128

variable {𝒱 : Variants} {c : Dev nD} {bd : Option 𝒱.V} {i : grid0.Coords} {arg2 : Memref sig .tc .vmem S512x128 .bf16} {harg2 : arg2.IsWhole} {arg3 : Memref sig .tc .vmem S2048x128 .bf16} {harg3 : arg3.IsWhole} {arg4 : Memref sig .tc .vmem S2048x128 .bf16} {harg4 : arg4.IsWhole} {arg5 : Memref sig .tc .vmem S512x128 .f32} {harg5 : arg5.IsWhole} {arg6 : Memref sig .tc .vmem S2x512x128 .f32} {harg6 : arg6.IsWhole} {arg7 : Memref sig .tc .vmem S2x512x128 .f32} {harg7 : arg7.IsWhole} {arg8 : Memref sig .tc .vmem S1x2x2048 .f32} {harg8 : arg8.IsWhole} {arg9 : Memref sig .tc .vmem S512x128 .bf16} {harg9 : arg9.IsWhole} {arg10 : Memref sig .tc .vmem S2048x128 .bf16} {harg10 : arg10.IsWhole} {arg11 : Memref sig .tc .vmem S2048x128 .bf16} {harg11 : arg11.IsWhole} {arg12 : Memref sig .tc .vmem S1x2x2048 .f32} {harg12 : arg12.IsWhole} {arg13 : Memref sig .tc .vmem S2x4x512x512 .f32} {harg13 : arg13.IsWhole} {arg14 : Memref sig .tc .vmem S2x4x512x512 .f32} {harg14 : arg14.IsWhole} {arg15 : Memref sig .tc .vmem S2048x128 .f32} {harg15 : arg15.IsWhole} {arg16 : Memref sig .tc .vmem S2048x128 .f32} {harg16 : arg16.IsWhole}
  {arg1 v23 v41 v88 v95 v102 : BitVec 32} {v43 v47 : IVec S512x512 32} {v55 : IVec S512x128 1} {v60 v63 v66 v69 : FVec F S512x128 .bf16} {v72 v75 : FVec F S512x512 .f32} {v76 : FVec F S512x128 .f32} {v78 v81 : Vec F S1x512x128 .f32} {v97_0 v97_1 : FVec F S512x1 .f32}
  {X3 : BufTy.Contents (Elt F) arg3.view.ty} {X4 : BufTy.Contents (Elt F) arg4.view.ty} {X8 : BufTy.Contents (Elt F) arg8.view.ty} {X13 : BufTy.Contents (Elt F) arg13.view.ty} {X14 : BufTy.Contents (Elt F) arg14.view.ty} {G12 : BufTy.Contents (Elt F) arg12.view.ty} {G15 : BufTy.Contents (Elt F) arg15.view.ty} {G16 : BufTy.Contents (Elt F) arg16.view.ty}

set_option maxHeartbeats 4000000 in
theorem tripR_t1 (k : Fin (k0_t1_loop i).trips) (acc : FVec F S512x1 .f32 × FVec F S512x1 .f32) :
    tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 k acc = (rowAdd acc.1 (pOf none ⟨v60, v66, v72, wide4 v78⟩ (castB (View.readAt (Elt F) arg3.view (Rect.unit (s := S2048x128) (k0_off1 i k) S512x128.size (k0_off1_inb i k)).toLoadRect X3)) (View.readAt (Elt F) arg8.view (Rect.unit (s := S1x2x2048) (k0_off2 i k) S1x1x512.size (k0_off2_inb i k)).toLoadRect X8)) (dpOf ⟨v60, v66, v72, wide4 v78⟩ (castB (View.readAt (Elt F) arg4.view (Rect.unit (s := S2048x128) (k0_off1 i k) S512x128.size (k0_off1_inb i k)).toLoadRect X4))), rowAdd acc.2 (pOf none ⟨v63, v69, v75, wide4 v81⟩ (castB (View.readAt (Elt F) arg3.view (Rect.unit (s := S2048x128) (k0_off1 i k) S512x128.size (k0_off1_inb i k)).toLoadRect X3)) (View.readAt (Elt F) arg8.view (Rect.unit (s := S1x2x2048) (k0_off4 i k) S1x1x512.size (k0_off4_inb i k)).toLoadRect X8)) (dpOf ⟨v63, v69, v75, wide4 v81⟩ (castB (View.readAt (Elt F) arg4.view (Rect.unit (s := S2048x128) (k0_off1 i k) S512x128.size (k0_off1_inb i k)).toLoadRect X4)))) := by
  unfold tripR_k0_t1 trip_k0_t1
  exact Prod.ext rfl rfl

set_option maxHeartbeats 4000000 in
theorem tripL_t1 (k : Fin (k0_t1_loop i).trips) (acc : FVec F S512x1 .f32 × FVec F S512x1 .f32) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 k acc =
      ([⟨(Rect.unit (s := S2x4x512x512) (k0_off5 i k) S1x1x512x512.size (k0_off5_inb i k)), slot (pOf none ⟨v63, v69, v75, wide4 v81⟩ (castB (View.readAt (Elt F) arg3.view (Rect.unit (s := S2048x128) (k0_off1 i k) S512x128.size (k0_off1_inb i k)).toLoadRect X3)) (View.readAt (Elt F) arg8.view (Rect.unit (s := S1x2x2048) (k0_off4 i k) S1x1x512.size (k0_off4_inb i k)).toLoadRect X8))⟩, ⟨(Rect.unit (s := S2x4x512x512) (k0_off3 i k) S1x1x512x512.size (k0_off3_inb i k)), slot (pOf none ⟨v60, v66, v72, wide4 v78⟩ (castB (View.readAt (Elt F) arg3.view (Rect.unit (s := S2048x128) (k0_off1 i k) S512x128.size (k0_off1_inb i k)).toLoadRect X3)) (View.readAt (Elt F) arg8.view (Rect.unit (s := S1x2x2048) (k0_off2 i k) S1x1x512.size (k0_off2_inb i k)).toLoadRect X8))⟩], [⟨(Rect.unit (s := S2x4x512x512) (k0_off5 i k) S1x1x512x512.size (k0_off5_inb i k)), slot (dpOf ⟨v63, v69, v75, wide4 v81⟩ (castB (View.readAt (Elt F) arg4.view (Rect.unit (s := S2048x128) (k0_off1 i k) S512x128.size (k0_off1_inb i k)).toLoadRect X4)))⟩, ⟨(Rect.unit (s := S2x4x512x512) (k0_off3 i k) S1x1x512x512.size (k0_off3_inb i k)), slot (dpOf ⟨v60, v66, v72, wide4 v78⟩ (castB (View.readAt (Elt F) arg4.view (Rect.unit (s := S2048x128) (k0_off1 i k) S512x128.size (k0_off1_inb i k)).toLoadRect X4)))⟩]) := by
  unfold tripL_k0_t1 trip_k0_t1
  rfl

set_option maxHeartbeats 4000000 in
theorem tripR_t3 (k : Fin (k0_t3_loop i).trips) (acc : FVec F S512x1 .f32 × FVec F S512x1 .f32) :
    tripR_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 k acc = (rowAdd acc.1 (pOf (some (cmpi .sle (addi (broadcast S512x512 (Scalar.muli (Scf.iv v41 1#32 k) 512#32)) v43) v47)) ⟨v60, v66, v72, wide4 v78⟩ (castB (View.readAt (Elt F) arg3.view (Rect.unit (s := S2048x128) (k0_off11 i k) S512x128.size (k0_off11_inb i k)).toLoadRect X3)) (View.readAt (Elt F) arg8.view (Rect.unit (s := S1x2x2048) (k0_off12 i k) S1x1x512.size (k0_off12_inb i k)).toLoadRect X8)) (dpOf ⟨v60, v66, v72, wide4 v78⟩ (castB (View.readAt (Elt F) arg4.view (Rect.unit (s := S2048x128) (k0_off11 i k) S512x128.size (k0_off11_inb i k)).toLoadRect X4))), rowAdd acc.2 (pOf (some (cmpi .sle (addi (broadcast S512x512 (Scalar.muli (Scf.iv v41 1#32 k) 512#32)) v43) v47)) ⟨v63, v69, v75, wide4 v81⟩ (castB (View.readAt (Elt F) arg3.view (Rect.unit (s := S2048x128) (k0_off11 i k) S512x128.size (k0_off11_inb i k)).toLoadRect X3)) (View.readAt (Elt F) arg8.view (Rect.unit (s := S1x2x2048) (k0_off14 i k) S1x1x512.size (k0_off14_inb i k)).toLoadRect X8)) (dpOf ⟨v63, v69, v75, wide4 v81⟩ (castB (View.readAt (Elt F) arg4.view (Rect.unit (s := S2048x128) (k0_off11 i k) S512x128.size (k0_off11_inb i k)).toLoadRect X4)))) := by
  unfold tripR_k0_t3 trip_k0_t3
  exact Prod.ext rfl rfl

set_option maxHeartbeats 4000000 in
theorem tripL_t3 (k : Fin (k0_t3_loop i).trips) (acc : FVec F S512x1 .f32 × FVec F S512x1 .f32) :
    tripL_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 k acc =
      ([⟨(Rect.unit (s := S2x4x512x512) (k0_off15 i k) S1x1x512x512.size (k0_off15_inb i k)), slot (pOf (some (cmpi .sle (addi (broadcast S512x512 (Scalar.muli (Scf.iv v41 1#32 k) 512#32)) v43) v47)) ⟨v63, v69, v75, wide4 v81⟩ (castB (View.readAt (Elt F) arg3.view (Rect.unit (s := S2048x128) (k0_off11 i k) S512x128.size (k0_off11_inb i k)).toLoadRect X3)) (View.readAt (Elt F) arg8.view (Rect.unit (s := S1x2x2048) (k0_off14 i k) S1x1x512.size (k0_off14_inb i k)).toLoadRect X8))⟩, ⟨(Rect.unit (s := S2x4x512x512) (k0_off13 i k) S1x1x512x512.size (k0_off13_inb i k)), slot (pOf (some (cmpi .sle (addi (broadcast S512x512 (Scalar.muli (Scf.iv v41 1#32 k) 512#32)) v43) v47)) ⟨v60, v66, v72, wide4 v78⟩ (castB (View.readAt (Elt F) arg3.view (Rect.unit (s := S2048x128) (k0_off11 i k) S512x128.size (k0_off11_inb i k)).toLoadRect X3)) (View.readAt (Elt F) arg8.view (Rect.unit (s := S1x2x2048) (k0_off12 i k) S1x1x512.size (k0_off12_inb i k)).toLoadRect X8))⟩], [⟨(Rect.unit (s := S2x4x512x512) (k0_off15 i k) S1x1x512x512.size (k0_off15_inb i k)), slot (dpOf ⟨v63, v69, v75, wide4 v81⟩ (castB (View.readAt (Elt F) arg4.view (Rect.unit (s := S2048x128) (k0_off11 i k) S512x128.size (k0_off11_inb i k)).toLoadRect X4)))⟩, ⟨(Rect.unit (s := S2x4x512x512) (k0_off13 i k) S1x1x512x512.size (k0_off13_inb i k)), slot (dpOf ⟨v60, v66, v72, wide4 v78⟩ (castB (View.readAt (Elt F) arg4.view (Rect.unit (s := S2048x128) (k0_off11 i k) S512x128.size (k0_off11_inb i k)).toLoadRect X4)))⟩]) := by
  unfold tripL_k0_t3 trip_k0_t3
  rfl

set_option maxHeartbeats 4000000 in
theorem tripR_t5 (k : Fin (k0_t5_loop i).trips) (acc : FVec F S512x128 .f32 × FVec F S512x128 .f32) (f12 : BufTy.Contents (Elt F) arg12.view.ty) (f15 : BufTy.Contents (Elt F) arg15.view.ty) (f16 : BufTy.Contents (Elt F) arg16.view.ty) :
    tripR_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v97_0 v97_1 X3 X4 X13 X14 k acc f12 f15 f16 = (addf acc.1 (nnOf (dsOf (unslot (View.readAt (Elt F) arg13.view (Rect.unit (s := S2x4x512x512) (k0_off22 i k) S1x1x512x512.size (k0_off22_inb i k)).toLoadRect X13)) (unslot (View.readAt (Elt F) arg14.view (Rect.unit (s := S2x4x512x512) (k0_off22 i k) S1x1x512x512.size (k0_off22_inb i k)).toLoadRect X14)) v97_0) (castB (View.readAt (Elt F) arg3.view (Rect.unit (s := S2048x128) (k0_off21 i k) S512x128.size (k0_off21_inb i k)).toLoadRect X3))), addf acc.2 (nnOf (dsOf (unslot (View.readAt (Elt F) arg13.view (Rect.unit (s := S2x4x512x512) (k0_off24 i k) S1x1x512x512.size (k0_off24_inb i k)).toLoadRect X13)) (unslot (View.readAt (Elt F) arg14.view (Rect.unit (s := S2x4x512x512) (k0_off24 i k) S1x1x512x512.size (k0_off24_inb i k)).toLoadRect X14)) v97_1) (castB (View.readAt (Elt F) arg3.view (Rect.unit (s := S2048x128) (k0_off21 i k) S512x128.size (k0_off21_inb i k)).toLoadRect X3)))) := by
  unfold tripR_k0_t5 trip_k0_t5
  exact Prod.ext rfl rfl

set_option maxHeartbeats 4000000 in
theorem tripL_t5 (k : Fin (k0_t5_loop i).trips) (acc : FVec F S512x128 .f32 × FVec F S512x128 .f32) (f12 : BufTy.Contents (Elt F) arg12.view.ty) (f15 : BufTy.Contents (Elt F) arg15.view.ty) (f16 : BufTy.Contents (Elt F) arg16.view.ty) :
    tripL_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v97_0 v97_1 X3 X4 X13 X14 k acc f12 f15 f16 =
      ([⟨(Rect.unit (s := S1x2x2048) (k0_off25 i k) S1x1x512.size (k0_off25_inb i k)), dfOf (View.readAt (Elt F) arg12.view (Rect.unit (s := S1x2x2048) (k0_off25 i k) S1x1x512.size (k0_off25_inb i k)).toLoadRect f12) (dsOf (unslot (View.readAt (Elt F) arg13.view (Rect.unit (s := S2x4x512x512) (k0_off24 i k) S1x1x512x512.size (k0_off24_inb i k)).toLoadRect X13)) (unslot (View.readAt (Elt F) arg14.view (Rect.unit (s := S2x4x512x512) (k0_off24 i k) S1x1x512x512.size (k0_off24_inb i k)).toLoadRect X14)) v97_1)⟩, ⟨(Rect.unit (s := S1x2x2048) (k0_off23 i k) S1x1x512.size (k0_off23_inb i k)), dfOf (View.readAt (Elt F) arg12.view (Rect.unit (s := S1x2x2048) (k0_off23 i k) S1x1x512.size (k0_off23_inb i k)).toLoadRect f12) (dsOf (unslot (View.readAt (Elt F) arg13.view (Rect.unit (s := S2x4x512x512) (k0_off22 i k) S1x1x512x512.size (k0_off22_inb i k)).toLoadRect X13)) (unslot (View.readAt (Elt F) arg14.view (Rect.unit (s := S2x4x512x512) (k0_off22 i k) S1x1x512x512.size (k0_off22_inb i k)).toLoadRect X14)) v97_0)⟩],
       [⟨(Rect.unit (s := S2048x128) (k0_off21 i k) S512x128.size (k0_off21_inb i k)), castF (addf (View.readAt (Elt F) arg15.view (Rect.unit (s := S2048x128) (k0_off21 i k) S512x128.size (k0_off21_inb i k)).toLoadRect f15) (pair (dsOf (unslot (View.readAt (Elt F) arg13.view (Rect.unit (s := S2x4x512x512) (k0_off22 i k) S1x1x512x512.size (k0_off22_inb i k)).toLoadRect X13)) (unslot (View.readAt (Elt F) arg14.view (Rect.unit (s := S2x4x512x512) (k0_off22 i k) S1x1x512x512.size (k0_off22_inb i k)).toLoadRect X14)) v97_0) (dsOf (unslot (View.readAt (Elt F) arg13.view (Rect.unit (s := S2x4x512x512) (k0_off24 i k) S1x1x512x512.size (k0_off24_inb i k)).toLoadRect X13)) (unslot (View.readAt (Elt F) arg14.view (Rect.unit (s := S2x4x512x512) (k0_off24 i k) S1x1x512x512.size (k0_off24_inb i k)).toLoadRect X14)) v97_1) v60 v63))⟩],
       [⟨(Rect.unit (s := S2048x128) (k0_off21 i k) S512x128.size (k0_off21_inb i k)), castF (addf (View.readAt (Elt F) arg16.view (Rect.unit (s := S2048x128) (k0_off21 i k) S512x128.size (k0_off21_inb i k)).toLoadRect f16) (pair (unslot (View.readAt (Elt F) arg13.view (Rect.unit (s := S2x4x512x512) (k0_off22 i k) S1x1x512x512.size (k0_off22_inb i k)).toLoadRect X13)) (unslot (View.readAt (Elt F) arg13.view (Rect.unit (s := S2x4x512x512) (k0_off24 i k) S1x1x512x512.size (k0_off24_inb i k)).toLoadRect X13)) v66 v69))⟩]) := by
  unfold tripL_k0_t5 trip_k0_t5
  rfl

end Cert.KernelFoxIdeal.Gen

end
-- ==== Proof.FoxLoop.lean ====
module

public import proofs.«01_k».proof.Proof.FoxStep
public import Idealize.ShloMosaic.Lib.Pipeline.Value

@[expose] public section

set_option maxRecDepth 16384

noncomputable section

open Idealize.ShloMosaic Idealize.ShloMosaic.TcCoe Idealize.SL.Sem

namespace Cert.KernelFoxIdeal.Gen
open Cert.KernelFoxIdeal

theorem trips1 : ∀ i : grid0.Coords, (k0_t1_loop i).trips = (i 1).val := by decide +kernel
theorem trips2 : ∀ i : grid0.Coords, (k0_t2_loop i).trips = 0 := by decide +kernel
theorem trips3 : ∀ i : grid0.Coords, (k0_t3_loop i).trips = 1 := by decide +kernel
theorem trips4 : ∀ i : grid0.Coords, (k0_t4_loop i).trips = 0 := by decide +kernel
theorem trips5 : ∀ i : grid0.Coords, (k0_t5_loop i).trips = (i 1).val + 1 := by decide +kernel
theorem trips6 : ∀ i : grid0.Coords, (k0_t6_loop i).trips = 0 := by decide +kernel
theorem off1 : ∀ (i : grid0.Coords) (k : Fin (k0_t1_loop i).trips), k0_off1 i k = ![512 * k.val, 0] := by decide +kernel
theorem off2 : ∀ (i : grid0.Coords) (k : Fin (k0_t1_loop i).trips), k0_off2 i k = ![0, 0, 512 * k.val] := by decide +kernel
theorem off3 : ∀ (i : grid0.Coords) (k : Fin (k0_t1_loop i).trips), k0_off3 i k = ![0, k.val, 0, 0] := by decide +kernel
theorem off4 : ∀ (i : grid0.Coords) (k : Fin (k0_t1_loop i).trips), k0_off4 i k = ![0, 1, 512 * k.val] := by decide +kernel
theorem off5 : ∀ (i : grid0.Coords) (k : Fin (k0_t1_loop i).trips), k0_off5 i k = ![1, k.val, 0, 0] := by decide +kernel
theorem off11 : ∀ (i : grid0.Coords) (k : Fin (k0_t3_loop i).trips), k0_off11 i k = ![512 * (i 1).val, 0] := by decide +kernel
theorem off12 : ∀ (i : grid0.Coords) (k : Fin (k0_t3_loop i).trips), k0_off12 i k = ![0, 0, 512 * (i 1).val] := by decide +kernel
theorem off13 : ∀ (i : grid0.Coords) (k : Fin (k0_t3_loop i).trips), k0_off13 i k = ![0, (i 1).val, 0, 0] := by decide +kernel
theorem off14 : ∀ (i : grid0.Coords) (k : Fin (k0_t3_loop i).trips), k0_off14 i k = ![0, 1, 512 * (i 1).val] := by decide +kernel
theorem off15 : ∀ (i : grid0.Coords) (k : Fin (k0_t3_loop i).trips), k0_off15 i k = ![1, (i 1).val, 0, 0] := by decide +kernel
theorem off21 : ∀ (i : grid0.Coords) (k : Fin (k0_t5_loop i).trips), k0_off21 i k = ![512 * k.val, 0] := by decide +kernel
theorem off23 : ∀ (i : grid0.Coords) (k : Fin (k0_t5_loop i).trips), k0_off23 i k = ![0, 0, 512 * k.val] := by decide +kernel
theorem off22 : ∀ (i : grid0.Coords) (k : Fin (k0_t5_loop i).trips), k0_off22 i k = ![0, k.val, 0, 0] := by decide +kernel
theorem off25 : ∀ (i : grid0.Coords) (k : Fin (k0_t5_loop i).trips), k0_off25 i k = ![0, 1, 512 * k.val] := by decide +kernel
theorem off24 : ∀ (i : grid0.Coords) (k : Fin (k0_t5_loop i).trips), k0_off24 i k = ![1, k.val, 0, 0] := by decide +kernel

theorem rows_inb (k : Fin 4) : ∀ a, (![512 * k.val, 0] : Fin 2 → ℕ) a + S512x128.size a ≤ S2048x128.size a := by
  revert k; decide
theorem frow_inb (a : Fin 2) (k : Fin 4) : ∀ b, (![0, a.val, 512 * k.val] : Fin 3 → ℕ) b + S1x1x512.size b ≤ S1x2x2048.size b := by
  revert a k; decide
theorem slot_inb (a : Fin 2) (k : Fin 4) : ∀ b, (![a.val, k.val, 0, 0] : Fin 4 → ℕ) b + S1x1x512x512.size b ≤ S2x4x512x512.size b := by
  revert a k; decide

variable {F : FTy → Type} [FloatOps F]

/-- The rows of one key block. -/
def rows {e : EltTy} (k : Fin 4) (x : Vec F S2048x128 e) : Vec F S512x128 e :=
  VecWindow.window x ![512 * k.val, 0] S512x128.size (rows_inb k)
/-- One head's entries at a key block. -/
def frow (a : Fin 2) (k : Fin 4) (x : Vec F S1x2x2048 .f32) : Vec F S1x1x512 .f32 :=
  VecWindow.window x ![0, a.val, 512 * k.val] S1x1x512.size (frow_inb a k)
/-- One head's stored block. -/
def slotAt (a : Fin 2) (k : Fin 4) (x : Vec F S2x4x512x512 .f32) : Vec F S1x1x512x512 .f32 :=
  VecWindow.window x ![a.val, k.val, 0, 0] S1x1x512x512.size (slot_inb a k)

/-- The rows of one key block, increased. -/
def bump (k : Fin 4) (x : Vec F S2048x128 .f32) (y : FVec F S512x128 .f32) : Vec F S2048x128 .f32 :=
  VecWindow.put x ![512 * k.val, 0] S512x128.size (castF (addf (rows k x) y))
/-- Both heads' entries at a key block, with the column sums taken off. -/
def drop2 (k : Fin 4) (x : Vec F S1x2x2048 .f32) (s0 s1 : FVec F S512x512 .f32) : Vec F S1x2x2048 .f32 :=
  VecWindow.put (VecWindow.put x ![0, 0, 512 * k.val] S1x1x512.size (dfOf (frow 0 k x) s0)) ![0, 1, 512 * k.val] S1x1x512.size (dfOf (frow 1 k x) s1)

theorem readAt_rows {κ : Kind} {sp : Space} {e : EltTy} (v : View sig κ sp S2048x128 e) (f : v.ty.Contents (Elt F)) {off : Fin 2 → ℕ}
    (inb : ∀ a, off a + S512x128.size a ≤ S2048x128.size a) (k : Fin 4) (h : off = ![512 * k.val, 0]) :
    v.readAt (Elt F) (Rect.unit (s := S2048x128) off S512x128.size inb).toLoadRect f = rows k (v.read (Elt F) f) :=
  View.readAt_unit v f inb h (rows_inb k)
theorem readAt_frow {κ : Kind} {sp : Space} (v : View sig κ sp S1x2x2048 .f32) (f : v.ty.Contents (Elt F)) {off : Fin 3 → ℕ}
    (inb : ∀ a, off a + S1x1x512.size a ≤ S1x2x2048.size a) (a : Fin 2) (k : Fin 4) (h : off = ![0, a.val, 512 * k.val]) :
    v.readAt (Elt F) (Rect.unit (s := S1x2x2048) off S1x1x512.size inb).toLoadRect f = frow a k (v.read (Elt F) f) :=
  View.readAt_unit v f inb h (frow_inb a k)
theorem readAt_slot {κ : Kind} {sp : Space} (v : View sig κ sp S2x4x512x512 .f32) (f : v.ty.Contents (Elt F)) {off : Fin 4 → ℕ}
    (inb : ∀ a, off a + S1x1x512x512.size a ≤ S2x4x512x512.size a) (a : Fin 2) (k : Fin 4) (h : off = ![a.val, k.val, 0, 0]) :
    v.readAt (Elt F) (Rect.unit (s := S2x4x512x512) off S1x1x512x512.size inb).toLoadRect f = slotAt a k (v.read (Elt F) f) :=
  View.readAt_unit v f inb h (slot_inb a k)

theorem read_bump {κ : Kind} {sp : Space} (v : View sig κ sp S2048x128 .f32) (f : v.ty.Contents (Elt F)) (L : List (View.Piece (Elt F) S2048x128 .f32))
    {off : Fin 2 → ℕ} (inb : ∀ a, off a + S512x128.size a ≤ S2048x128.size a) (k : Fin 4) (h : off = ![512 * k.val, 0]) (y : FVec F S512x128 .f32) :
    v.read (Elt F) (v.writes (Elt F) f ([⟨Rect.unit (s := S2048x128) off S512x128.size inb,
      castF (addf (v.readAt (Elt F) (Rect.unit (s := S2048x128) off S512x128.size inb).toLoadRect (v.writes (Elt F) f L)) y)⟩] ++ L))
      = bump k (v.read (Elt F) (v.writes (Elt F) f L)) y := by
  rw [View.writes_append, readAt_rows v _ inb k h]
  exact View.read_writes_cons_put v _ inb _ [] h

theorem read_two {κ : Kind} {sp : Space} {s : Shape} {e : EltTy} (v : View sig κ sp s e) (f : v.ty.Contents (Elt F)) (L : List (View.Piece (Elt F) s e))
    {off0 off1 off0' off1' size0 size1 : Fin s.rank → ℕ} (inb0 : ∀ a, off0 a + size0 a ≤ s.size a) (inb1 : ∀ a, off1 a + size1 a ≤ s.size a)
    (h0 : off0 = off0') (h1 : off1 = off1') (w0 : ((a : Fin s.rank) → Fin (size0 a)) → Elt F e) (w1 : ((a : Fin s.rank) → Fin (size1 a)) → Elt F e) :
    v.read (Elt F) (v.writes (Elt F) f ([⟨Rect.unit off1 size1 inb1, w1⟩, ⟨Rect.unit off0 size0 inb0, w0⟩] ++ L))
      = VecWindow.put (VecWindow.put (v.read (Elt F) (v.writes (Elt F) f L)) off0' size0 w0) off1' size1 w1 := by
  refine (View.read_writes_cons_put v f inb1 w1 (⟨Rect.unit off0 size0 inb0, w0⟩ :: L) h1).trans ?_
  exact congrArg (fun x => VecWindow.put x off1' size1 w1) (View.read_writes_cons_put v f inb0 w0 L h0)

/-- Both heads' blocks stored, up to the `n`-th. -/
def Holds (x : Vec F S2x4x512x512 .f32) (n : ℕ) (p0 p1 : Fin 4 → FVec F S512x512 .f32) : Prop :=
  ∀ j : Fin 4, j.val < n → slotAt 0 j x = slot (p0 j) ∧ slotAt 1 j x = slot (p1 j)

theorem slot_other (x : Vec F S2x4x512x512 .f32) (a b : Fin 2) (j k : Fin 4) (h : j ≠ k) (w : Vec F S1x1x512x512 .f32) :
    slotAt a j (VecWindow.put x ![b.val, k.val, 0, 0] S1x1x512x512.size w) = slotAt a j x :=
  VecWindow.window_put_of_disjoint x _ _ _ _ (slot_inb a j) w 1 (by
    have : j.val ≠ k.val := fun e => h (Fin.ext e)
    show j.val + 1 ≤ k.val ∨ k.val + 1 ≤ j.val
    omega)

theorem slot_apart (x : Vec F S2x4x512x512 .f32) (j : Fin 4) (w : Vec F S1x1x512x512 .f32) :
    slotAt 0 j (VecWindow.put x ![(1 : Fin 2).val, j.val, 0, 0] S1x1x512x512.size w) = slotAt 0 j x :=
  VecWindow.window_put_of_disjoint x _ _ _ _ (slot_inb 0 j) w 0 (by show 0 + 1 ≤ 1 ∨ 1 + 1 ≤ 0; omega)

theorem slot_same (x : Vec F S2x4x512x512 .f32) (a : Fin 2) (j : Fin 4) (w : Vec F S1x1x512x512 .f32) :
    slotAt a j (VecWindow.put x ![a.val, j.val, 0, 0] S1x1x512x512.size w) = w :=
  VecWindow.window_put_same x _ _ (slot_inb a j) w

theorem holds_step (x : Vec F S2x4x512x512 .f32) (k : Fin 4) (p0 p1 : Fin 4 → FVec F S512x512 .f32) (h : Holds x k.val p0 p1) :
    Holds (VecWindow.put (VecWindow.put x ![(0 : Fin 2).val, k.val, 0, 0] S1x1x512x512.size (slot (p0 k))) ![(1 : Fin 2).val, k.val, 0, 0] S1x1x512x512.size (slot (p1 k)))
      (k.val + 1) p0 p1 := by
  intro j hj
  by_cases e : j = k
  · subst e
    exact ⟨(slot_apart _ j _).trans (slot_same _ 0 j _), slot_same _ 1 j _⟩
  · have hlt : j.val < k.val := by
      have : j.val ≠ k.val := fun e' => e (Fin.ext e')
      omega
    have h' := h j hlt
    exact ⟨((slot_other _ 0 1 j k e _).trans (slot_other _ 0 0 j k e _)).trans h'.1, ((slot_other _ 1 1 j k e _).trans (slot_other _ 1 0 j k e _)).trans h'.2⟩

theorem unslot_slot (x : FVec F S512x512 .f32) : unslot (slot x) = x :=
  shapeCast_shapeCast x shapeCasts_S512x512_S1x1x512x512 shapeCasts_S1x1x512x512_S512x512

/-- A head's weights and their cotangents at a key block. -/
def pAt (m : Option (IVec S512x512 1)) (h : Head F) (K : Vec F S2048x128 .bf16) (fk : Vec F S1x2x2048 .f32) (a : Fin 2) (k : Fin 4) : FVec F S512x512 .f32 :=
  pOf m h (castB (rows k K)) (frow a k fk)
def dpAt (h : Head F) (V : Vec F S2048x128 .bf16) (k : Fin 4) : FVec F S512x512 .f32 := dpOf h (castB (rows k V))

abbrev Two (F : FTy → Type) := FVec F S512x1 .f32 × FVec F S512x1 .f32

/-- The row sums over the first `n` key blocks. -/
def sums (p0 p1 d0 d1 : Fin 4 → FVec F S512x512 .f32) (s : Two F) : ℕ → Two F
  | 0 => s
  | n + 1 => if h : n < 4 then (rowAdd (sums p0 p1 d0 d1 s n).1 (p0 ⟨n, h⟩) (d0 ⟨n, h⟩), rowAdd (sums p0 p1 d0 d1 s n).2 (p1 ⟨n, h⟩) (d1 ⟨n, h⟩)) else sums p0 p1 d0 d1 s n

/-- What the second pass carries. -/
abbrev St (F : FTy → Type) := (FVec F S512x128 .f32 × FVec F S512x128 .f32) × Vec F S1x2x2048 .f32 × Vec F S2048x128 .f32 × Vec F S2048x128 .f32

/-- One step of the second pass. -/
def stepSt (q0 q1 o0 o1 : FVec F S512x128 .bf16) (K : Vec F S2048x128 .bf16) (p0 p1 d0 d1 : Fin 4 → FVec F S512x512 .f32) (e0 e1 : FVec F S512x1 .f32) (k : Fin 4) (s : St F) : St F :=
  ((addf s.1.1 (nnOf (dsOf (p0 k) (d0 k) e0) (castB (rows k K))), addf s.1.2 (nnOf (dsOf (p1 k) (d1 k) e1) (castB (rows k K)))),
   drop2 k s.2.1 (dsOf (p0 k) (d0 k) e0) (dsOf (p1 k) (d1 k) e1),
   bump k s.2.2.1 (pair (dsOf (p0 k) (d0 k) e0) (dsOf (p1 k) (d1 k) e1) q0 q1),
   bump k s.2.2.2 (pair (p0 k) (p1 k) o0 o1))

def chain (q0 q1 o0 o1 : FVec F S512x128 .bf16) (K : Vec F S2048x128 .bf16) (p0 p1 d0 d1 : Fin 4 → FVec F S512x512 .f32) (e0 e1 : FVec F S512x1 .f32) (s : St F) : ℕ → St F
  | 0 => s
  | n + 1 => if h : n < 4 then stepSt q0 q1 o0 o1 K p0 p1 d0 d1 e0 e1 ⟨n, h⟩ (chain q0 q1 o0 o1 K p0 p1 d0 d1 e0 e1 s n) else chain q0 q1 o0 o1 K p0 p1 d0 d1 e0 e1 s n

variable {𝒱 : Variants} {c : Dev nD} {bd : Option 𝒱.V} {i : grid0.Coords} {arg2 : Memref sig .tc .vmem S512x128 .bf16} {harg2 : arg2.IsWhole} {arg3 : Memref sig .tc .vmem S2048x128 .bf16} {harg3 : arg3.IsWhole} {arg4 : Memref sig .tc .vmem S2048x128 .bf16} {harg4 : arg4.IsWhole} {arg5 : Memref sig .tc .vmem S512x128 .f32} {harg5 : arg5.IsWhole} {arg6 : Memref sig .tc .vmem S2x512x128 .f32} {harg6 : arg6.IsWhole} {arg7 : Memref sig .tc .vmem S2x512x128 .f32} {harg7 : arg7.IsWhole} {arg8 : Memref sig .tc .vmem S1x2x2048 .f32} {harg8 : arg8.IsWhole} {arg9 : Memref sig .tc .vmem S512x128 .bf16} {harg9 : arg9.IsWhole} {arg10 : Memref sig .tc .vmem S2048x128 .bf16} {harg10 : arg10.IsWhole} {arg11 : Memref sig .tc .vmem S2048x128 .bf16} {harg11 : arg11.IsWhole} {arg12 : Memref sig .tc .vmem S1x2x2048 .f32} {harg12 : arg12.IsWhole} {arg13 : Memref sig .tc .vmem S2x4x512x512 .f32} {harg13 : arg13.IsWhole} {arg14 : Memref sig .tc .vmem S2x4x512x512 .f32} {harg14 : arg14.IsWhole} {arg15 : Memref sig .tc .vmem S2048x128 .f32} {harg15 : arg15.IsWhole} {arg16 : Memref sig .tc .vmem S2048x128 .f32} {harg16 : arg16.IsWhole}
  {arg1 v23 v41 v88 v95 v102 : BitVec 32} {v43 v47 : IVec S512x512 32} {v55 : IVec S512x128 1} {v60 v63 v66 v69 : FVec F S512x128 .bf16} {v72 v75 : FVec F S512x512 .f32} {v76 : FVec F S512x128 .f32} {v78 v81 : Vec F S1x512x128 .f32} {v97_0 v97_1 : FVec F S512x1 .f32}
  {X3 : BufTy.Contents (Elt F) arg3.view.ty} {X4 : BufTy.Contents (Elt F) arg4.view.ty} {X8 : BufTy.Contents (Elt F) arg8.view.ty} {X13 : BufTy.Contents (Elt F) arg13.view.ty} {X14 : BufTy.Contents (Elt F) arg14.view.ty} {G12 : BufTy.Contents (Elt F) arg12.view.ty} {G15 : BufTy.Contents (Elt F) arg15.view.ty} {G16 : BufTy.Contents (Elt F) arg16.view.ty}

theorem st2_done (init : Two F) : st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 v88 X3 X4 X8 init (k0_t2_loop i).trips = (init, [], []) := by
  rw [trips2]; rfl

theorem st4_done (init : Two F) : st_k0_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 v95 X3 X4 X8 init (k0_t4_loop i).trips = (init, [], []) := by
  rw [trips4]; rfl

theorem st6_done (init : FVec F S512x128 .f32 × FVec F S512x128 .f32) : st_k0_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v97_0 v97_1 v102 X3 X4 X13 X14 G12 G15 G16 init (k0_t6_loop i).trips = (init, [], [], []) := by
  rw [trips6]; rfl

/-- The unmasked loop of the first pass. -/
theorem st1_spec (init : Two F) (G13 : BufTy.Contents (Elt F) arg13.view.ty) (G14 : BufTy.Contents (Elt F) arg14.view.ty) (n : ℕ) (hn : n ≤ (k0_t1_loop i).trips) :
    (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init n).1 = sums (pAt none ⟨v60, v66, v72, wide4 v78⟩ (arg3.view.read (Elt F) X3) (arg8.view.read (Elt F) X8) 0) (pAt none ⟨v63, v69, v75, wide4 v81⟩ (arg3.view.read (Elt F) X3) (arg8.view.read (Elt F) X8) 1) (dpAt ⟨v60, v66, v72, wide4 v78⟩ (arg4.view.read (Elt F) X4)) (dpAt ⟨v63, v69, v75, wide4 v81⟩ (arg4.view.read (Elt F) X4)) init n
    ∧ Holds (arg13.view.read (Elt F) (arg13.view.writes (Elt F) G13 (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init n).2.1)) n (pAt none ⟨v60, v66, v72, wide4 v78⟩ (arg3.view.read (Elt F) X3) (arg8.view.read (Elt F) X8) 0) (pAt none ⟨v63, v69, v75, wide4 v81⟩ (arg3.view.read (Elt F) X3) (arg8.view.read (Elt F) X8) 1)
    ∧ Holds (arg14.view.read (Elt F) (arg14.view.writes (Elt F) G14 (st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init n).2.2)) n (dpAt ⟨v60, v66, v72, wide4 v78⟩ (arg4.view.read (Elt F) X4)) (dpAt ⟨v63, v69, v75, wide4 v81⟩ (arg4.view.read (Elt F) X4)) := by
  induction n with
  | zero => exact ⟨rfl, fun j hj => absurd hj (Nat.not_lt_zero _), fun j hj => absurd hj (Nat.not_lt_zero _)⟩
  | succ n ih =>
    have hlt : n < (k0_t1_loop i).trips := hn
    have h4 : n < 4 := lt_of_lt_of_le hlt (by rw [trips1]; exact (i 1).isLt.le)
    obtain ⟨ih1, ih2, ih3⟩ := ih hlt.le
    have e := st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init ⟨n, hlt⟩
    have e' : st_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init (n + 1) = _ := e
    rw [e', tripR_t1, tripL_t1, readAt_rows arg3.view _ _ ⟨n, h4⟩ (off1 i ⟨n, hlt⟩), readAt_rows arg4.view _ _ ⟨n, h4⟩ (off1 i ⟨n, hlt⟩),
      readAt_frow arg8.view _ _ 0 ⟨n, h4⟩ (off2 i ⟨n, hlt⟩), readAt_frow arg8.view _ _ 1 ⟨n, h4⟩ (off4 i ⟨n, hlt⟩)]
    refine ⟨?_, ?_, ?_⟩
    · rw [sums, dif_pos h4, ← ih1]; rfl
    · have h := holds_step _ ⟨n, h4⟩ _ _ ih2
      exact (read_two arg13.view G13 _ _ _ (off3 i ⟨n, hlt⟩) (off5 i ⟨n, hlt⟩) _ _).symm ▸ h
    · have h := holds_step _ ⟨n, h4⟩ _ _ ih3
      exact (read_two arg14.view G14 _ _ _ (off3 i ⟨n, hlt⟩) (off5 i ⟨n, hlt⟩) _ _).symm ▸ h

/-- The masked loop of the first pass is one step. -/
theorem st3_spec (init : Two F) (k : Fin (k0_t3_loop i).trips) (G13 : BufTy.Contents (Elt F) arg13.view.ty) (G14 : BufTy.Contents (Elt F) arg14.view.ty)
    (p0 p1 d0 d1 : Fin 4 → FVec F S512x512 .f32)
    (hp0 : p0 (i 1) = pAt (some (cmpi .sle (addi (broadcast S512x512 (Scalar.muli (Scf.iv v41 1#32 k) 512#32)) v43) v47)) ⟨v60, v66, v72, wide4 v78⟩ (arg3.view.read (Elt F) X3) (arg8.view.read (Elt F) X8) 0 (i 1)) (hp1 : p1 (i 1) = pAt (some (cmpi .sle (addi (broadcast S512x512 (Scalar.muli (Scf.iv v41 1#32 k) 512#32)) v43) v47)) ⟨v63, v69, v75, wide4 v81⟩ (arg3.view.read (Elt F) X3) (arg8.view.read (Elt F) X8) 1 (i 1))
    (hd0 : d0 (i 1) = dpAt ⟨v60, v66, v72, wide4 v78⟩ (arg4.view.read (Elt F) X4) (i 1)) (hd1 : d1 (i 1) = dpAt ⟨v63, v69, v75, wide4 v81⟩ (arg4.view.read (Elt F) X4) (i 1))
    (h13 : Holds (arg13.view.read (Elt F) G13) (i 1).val p0 p1) (h14 : Holds (arg14.view.read (Elt F) G14) (i 1).val d0 d1) :
    (st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init (k0_t3_loop i).trips).1 = (rowAdd init.1 (p0 (i 1)) (d0 (i 1)), rowAdd init.2 (p1 (i 1)) (d1 (i 1)))
    ∧ Holds (arg13.view.read (Elt F) (arg13.view.writes (Elt F) G13 (st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init (k0_t3_loop i).trips).2.1)) ((i 1).val + 1) p0 p1
    ∧ Holds (arg14.view.read (Elt F) (arg14.view.writes (Elt F) G14 (st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init (k0_t3_loop i).trips).2.2)) ((i 1).val + 1) d0 d1 := by
  have hk : k.val = 0 := by have h := k.isLt.trans_eq (trips3 i); omega
  have e := st_k0_t3_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init k
  have e' : st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init (k0_t3_loop i).trips = _ := (congrArg _ ((trips3 i).trans (by rw [hk]))).trans e
  have e0 : st_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 init k.val = (init, [], []) := by rw [hk]; rfl
  rw [e', e0, tripR_t3, tripL_t3, readAt_rows arg3.view _ _ (i 1) (off11 i k), readAt_rows arg4.view _ _ (i 1) (off11 i k),
    readAt_frow arg8.view _ _ 0 (i 1) (off12 i k), readAt_frow arg8.view _ _ 1 (i 1) (off14 i k)]
  refine ⟨?_, ?_, ?_⟩
  · rw [hp0, hp1, hd0, hd1]; rfl
  · have h := holds_step _ (i 1) _ _ h13
    rw [hp0, hp1] at h
    exact (read_two arg13.view G13 [] _ _ (off13 i k) (off15 i k) _ _).symm ▸ h
  · have h := holds_step _ (i 1) _ _ h14
    rw [hd0, hd1] at h
    exact (read_two arg14.view G14 [] _ _ (off13 i k) (off15 i k) _ _).symm ▸ h

/-- The second pass, over the blocks the first one stored. -/
theorem st5_spec (init : FVec F S512x128 .f32 × FVec F S512x128 .f32) (p0 p1 d0 d1 : Fin 4 → FVec F S512x512 .f32)
    (h13 : Holds (arg13.view.read (Elt F) X13) ((i 1).val + 1) p0 p1) (h14 : Holds (arg14.view.read (Elt F) X14) ((i 1).val + 1) d0 d1)
    (n : ℕ) (hn : n ≤ (k0_t5_loop i).trips) :
    ((st_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v97_0 v97_1 X3 X4 X13 X14 G12 G15 G16 init n).1,
      arg12.view.read (Elt F) (arg12.view.writes (Elt F) G12 (st_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v97_0 v97_1 X3 X4 X13 X14 G12 G15 G16 init n).2.1),
      arg15.view.read (Elt F) (arg15.view.writes (Elt F) G15 (st_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v97_0 v97_1 X3 X4 X13 X14 G12 G15 G16 init n).2.2.1),
      arg16.view.read (Elt F) (arg16.view.writes (Elt F) G16 (st_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v97_0 v97_1 X3 X4 X13 X14 G12 G15 G16 init n).2.2.2))
    = chain v60 v63 v66 v69 (arg3.view.read (Elt F) X3) p0 p1 d0 d1 v97_0 v97_1 (init, arg12.view.read (Elt F) G12, arg15.view.read (Elt F) G15, arg16.view.read (Elt F) G16) n := by
  induction n with
  | zero => rfl
  | succ n ih =>
    have hlt : n < (k0_t5_loop i).trips := hn
    have hle : n < (i 1).val + 1 := lt_of_lt_of_eq hlt (trips5 i)
    have h4 : n < 4 := lt_of_lt_of_le hle (i 1).isLt
    have ih := ih hlt.le
    rw [chain, dif_pos h4, ← ih]
    have e := st_k0_t5_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v97_0 v97_1 X3 X4 X13 X14 G12 G15 G16 init ⟨n, hlt⟩
    have e' : st_k0_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v97_0 v97_1 X3 X4 X13 X14 G12 G15 G16 init (n + 1) = _ := e
    obtain ⟨a0, a1⟩ := h13 ⟨n, h4⟩ hle
    obtain ⟨b0, b1⟩ := h14 ⟨n, h4⟩ hle
    rw [e', tripR_t5, tripL_t5, readAt_rows arg3.view _ _ ⟨n, h4⟩ (off21 i ⟨n, hlt⟩),
      readAt_slot arg13.view _ _ 0 ⟨n, h4⟩ (off22 i ⟨n, hlt⟩), readAt_slot arg13.view _ _ 1 ⟨n, h4⟩ (off24 i ⟨n, hlt⟩),
      readAt_slot arg14.view _ _ 0 ⟨n, h4⟩ (off22 i ⟨n, hlt⟩), readAt_slot arg14.view _ _ 1 ⟨n, h4⟩ (off24 i ⟨n, hlt⟩),
      a0, a1, b0, b1, unslot_slot, unslot_slot, unslot_slot, unslot_slot,
      readAt_frow arg12.view _ _ 0 ⟨n, h4⟩ (off23 i ⟨n, hlt⟩), readAt_frow arg12.view _ _ 1 ⟨n, h4⟩ (off25 i ⟨n, hlt⟩)]
    exact Prod.ext rfl (Prod.ext (read_two arg12.view G12 _ _ _ (off23 i ⟨n, hlt⟩) (off25 i ⟨n, hlt⟩) _ _)
      (Prod.ext (read_bump arg15.view _ _ _ ⟨n, h4⟩ (off21 i ⟨n, hlt⟩) _) (read_bump arg16.view _ _ _ ⟨n, h4⟩ (off21 i ⟨n, hlt⟩) _)))

end Cert.KernelFoxIdeal.Gen

end
-- ==== Proof.FoxSeg.lean ====
module

public import proofs.«01_k».proof.Proof.FoxLoop

@[expose] public section

set_option maxRecDepth 16384

noncomputable section

open Idealize.ShloMosaic Idealize.ShloMosaic.TcCoe Idealize.SL.Sem

namespace Cert.KernelFoxIdeal.Gen
open Cert.KernelFoxIdeal
variable {F : FTy → Type} [FloatOps F]

theorem trips3_pos (i : grid0.Coords) : 0 < (k0_t3_loop i).trips := (Nat.lt_succ_self 0).trans_eq (trips3 i).symm

/-- The mask of a key block under a query block: none before it, the triangle at it. -/
def mOf (t : Fin 4) (m : IVec S512x512 1) (j : Fin 4) : Option (IVec S512x512 1) := if j.val < t.val then none else some m

theorem mOf_lt (t : Fin 4) (m : IVec S512x512 1) (j : Fin 4) (h : j.val < t.val) : mOf t m j = none := if_pos h
theorem mOf_eq (t : Fin 4) (m : IVec S512x512 1) : mOf t m t = some m := if_neg (Nat.lt_irrefl _)

/-- A head's weights at every key block up to the query block. -/
def pF (t : Fin 4) (m : IVec S512x512 1) (h : Head F) (K : Vec F S2048x128 .bf16) (fk : Vec F S1x2x2048 .f32) (a : Fin 2) (j : Fin 4) : FVec F S512x512 .f32 :=
  pAt (mOf t m j) h K fk a j

theorem pF_lt (t : Fin 4) (m : IVec S512x512 1) (h : Head F) (K : Vec F S2048x128 .bf16) (fk : Vec F S1x2x2048 .f32) (a : Fin 2) (j : Fin 4) (hj : j.val < t.val) :
    pF t m h K fk a j = pAt none h K fk a j := congrArg (fun q => pAt q h K fk a j) (mOf_lt t m j hj)
theorem pF_eq (t : Fin 4) (m : IVec S512x512 1) (h : Head F) (K : Vec F S2048x128 .bf16) (fk : Vec F S1x2x2048 .f32) (a : Fin 2) :
    pF t m h K fk a t = pAt (some m) h K fk a t := congrArg (fun q => pAt q h K fk a t) (mOf_eq t m)

/-- The row sums of weight times cotangent. -/
def delta (t : Fin 4) (m : IVec S512x512 1) (h0 h1 : Head F) (K V : Vec F S2048x128 .bf16) (fk : Vec F S1x2x2048 .f32) : Two F :=
  sums (pF t m h0 K fk 0) (pF t m h1 K fk 1) (dpAt h0 V) (dpAt h1 V) (k0_pay79, k0_pay79) (t.val + 1)

/-- The triangle of the block the loop over the diagonal visits. -/
def diag (i : grid0.Coords) (v41 : BitVec 32) (v43 v47 : IVec S512x512 32) : IVec S512x512 1 :=
  cmpi .sle (addi (broadcast S512x512 (Scalar.muli (Scf.iv v41 1#32 (⟨0, trips3_pos i⟩ : Fin (k0_t3_loop i).trips)) 512#32)) v43) v47

theorem sums_last (p0 p1 d0 d1 : Fin 4 → FVec F S512x512 .f32) (s : Two F) (t : Fin 4) :
    sums p0 p1 d0 d1 s (t.val + 1) = (rowAdd (sums p0 p1 d0 d1 s t.val).1 (p0 t) (d0 t), rowAdd (sums p0 p1 d0 d1 s t.val).2 (p1 t) (d1 t)) := by
  rw [sums, dif_pos t.isLt]

/-- What a grid point ends with. -/
def point (t : Fin 4) (m : IVec S512x512 1) (h0 h1 : Head F) (K V : Vec F S2048x128 .bf16) (fk : Vec F S1x2x2048 .f32)
    (s : Vec F S1x2x2048 .f32 × Vec F S2048x128 .f32 × Vec F S2048x128 .f32) : St F :=
  chain h0.q h1.q h0.d h1.d K (pF t m h0 K fk 0) (pF t m h1 K fk 1) (dpAt h0 V) (dpAt h1 V) (delta t m h0 h1 K V fk).1 (delta t m h0 h1 K V fk).2
    ((k0_pay78, k0_pay78), s) (t.val + 1)

theorem sums_congr (p0 p1 q0 q1 d0 d1 : Fin 4 → FVec F S512x512 .f32) (s : Two F) (n : ℕ) (h0 : ∀ j : Fin 4, j.val < n → p0 j = q0 j) (h1 : ∀ j : Fin 4, j.val < n → p1 j = q1 j) :
    sums p0 p1 d0 d1 s n = sums q0 q1 d0 d1 s n := by
  induction n with
  | zero => rfl
  | succ n ih =>
    have ih := ih (fun j hj => h0 j (by omega)) (fun j hj => h1 j (by omega))
    rw [sums, sums]
    by_cases h : n < 4
    · rw [dif_pos h, dif_pos h, ih, h0 ⟨n, h⟩ (Nat.lt_succ_self n), h1 ⟨n, h⟩ (Nat.lt_succ_self n)]
    · rw [dif_neg h, dif_neg h, ih]

variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole)
  (arg1 v23 v41 : BitVec 32) (v43 v47 : IVec S512x512 32) (v55 : IVec S512x128 1) (v60 v63 v66 v69 : FVec F S512x128 .bf16) (v72 v75 : FVec F S512x512 .f32) (v76 : FVec F S512x128 .f32) (v78 v81 : Vec F S1x512x128 .f32)
  (X3 : BufTy.Contents (Elt F) arg3.view.ty) (X4 : BufTy.Contents (Elt F) arg4.view.ty) (X8 : BufTy.Contents (Elt F) arg8.view.ty) (v88 v95 v102 : BitVec 32)
  (G13 : BufTy.Contents (Elt F) arg13.view.ty) (G14 : BufTy.Contents (Elt F) arg14.view.ty) (G12 : BufTy.Contents (Elt F) arg12.view.ty) (G15 : BufTy.Contents (Elt F) arg15.view.ty) (G16 : BufTy.Contents (Elt F) arg16.view.ty)
  (P : List (View.Piece (Elt F) S1x2x2048 .f32) × List (View.Piece (Elt F) S2048x128 .f32) × List (View.Piece (Elt F) S2048x128 .f32))

/-- The first pass's loops, one after the other. -/
def seg1 : Two F × List (View.Piece (Elt F) S2x4x512x512 .f32) × List (View.Piece (Elt F) S2x4x512x512 .f32) := st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 (k0_pay79, k0_pay79) (Scf.trips (k0_t1_loop i).lb (k0_t1_loop i).ub (k0_t1_loop i).st)
local notation "s1" => seg1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8
def seg2 : Two F × List (View.Piece (Elt F) S2x4x512x512 .f32) × List (View.Piece (Elt F) S2x4x512x512 .f32) := st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 v88 X3 X4 X8 (s1.1.1, s1.1.2) (Scf.trips (k0_t2_loop i).lb (k0_t2_loop i).ub (k0_t2_loop i).st)
local notation "s2" => seg2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 v88
def seg3 : Two F × List (View.Piece (Elt F) S2x4x512x512 .f32) × List (View.Piece (Elt F) S2x4x512x512 .f32) := st_k0_t3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 (s2.1.1, s2.1.2) (Scf.trips (k0_t3_loop i).lb (k0_t3_loop i).ub (k0_t3_loop i).st)
local notation "s3" => seg3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 v88
def seg4 : Two F × List (View.Piece (Elt F) S2x4x512x512 .f32) × List (View.Piece (Elt F) S2x4x512x512 .f32) := st_k0_t4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 v95 X3 X4 X8 (s3.1.1, s3.1.2) (Scf.trips (k0_t4_loop i).lb (k0_t4_loop i).ub (k0_t4_loop i).st)
local notation "s4" => seg4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 v88 v95
/-- The blocks it stored. -/
def pcs4 : List (View.Piece (Elt F) S2x4x512x512 .f32) × List (View.Piece (Elt F) S2x4x512x512 .f32) := (s4.2.1 ++ (s3.2.1 ++ (s2.2.1 ++ s1.2.1)), s4.2.2 ++ (s3.2.2 ++ (s2.2.2 ++ s1.2.2)))
local notation "p4" => pcs4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 v88 v95
/-- The second pass's loops. -/
def seg5 : (FVec F S512x128 .f32 × FVec F S512x128 .f32) × List (View.Piece (Elt F) S1x2x2048 .f32) × List (View.Piece (Elt F) S2048x128 .f32) × List (View.Piece (Elt F) S2048x128 .f32) :=
  st_k0_t5 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 s4.1.1 s4.1.2 X3 X4 (arg13.view.writes (Elt F) G13 p4.1) (arg14.view.writes (Elt F) G14 p4.2) (arg12.view.writes (Elt F) G12 P.1) (arg15.view.writes (Elt F) G15 P.2.1) (arg16.view.writes (Elt F) G16 P.2.2) (k0_pay78, k0_pay78) (Scf.trips (k0_t5_loop i).lb (k0_t5_loop i).ub (k0_t5_loop i).st)
local notation "s5" => seg5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 v88 v95 G13 G14 G12 G15 G16 P
def pcs5 : List (View.Piece (Elt F) S1x2x2048 .f32) × List (View.Piece (Elt F) S2048x128 .f32) × List (View.Piece (Elt F) S2048x128 .f32) := (s5.2.1 ++ P.1, s5.2.2.1 ++ P.2.1, s5.2.2.2 ++ P.2.2)
local notation "p5" => pcs5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 v88 v95 G13 G14 G12 G15 G16 P
def seg6 : (FVec F S512x128 .f32 × FVec F S512x128 .f32) × List (View.Piece (Elt F) S1x2x2048 .f32) × List (View.Piece (Elt F) S2048x128 .f32) × List (View.Piece (Elt F) S2048x128 .f32) :=
  st_k0_t6 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 s4.1.1 s4.1.2 v102 X3 X4 (arg13.view.writes (Elt F) G13 p4.1) (arg14.view.writes (Elt F) G14 p4.2) (arg12.view.writes (Elt F) G12 p5.1) (arg15.view.writes (Elt F) G15 p5.2.1) (arg16.view.writes (Elt F) G16 p5.2.2) (s5.1.1, s5.1.2) (Scf.trips (k0_t6_loop i).lb (k0_t6_loop i).ub (k0_t6_loop i).st)
local notation "s6" => seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 v88 v95 v102 G13 G14 G12 G15 G16 P
def pcs6 : List (View.Piece (Elt F) S1x2x2048 .f32) × List (View.Piece (Elt F) S2048x128 .f32) × List (View.Piece (Elt F) S2048x128 .f32) := (s6.2.1 ++ p5.1, s6.2.2.1 ++ p5.2.1, s6.2.2.2 ++ p5.2.2)
local notation "p6" => pcs6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 v88 v95 v102 G13 G14 G12 G15 G16 P

local notation "mm" => diag i v41 v43 v47
local notation "hA" => (Head.mk v60 v66 v72 (wide4 v78) : Head F)
local notation "hB" => (Head.mk v63 v69 v75 (wide4 v81) : Head F)

set_option maxHeartbeats 1000000 in
/-- The first pass leaves the row sums and the blocks. -/
theorem seg4_spec :
    s4.1 = delta (i 1) mm hA hB (arg3.view.read (Elt F) X3) (arg4.view.read (Elt F) X4) (arg8.view.read (Elt F) X8)
    ∧ Holds (arg13.view.read (Elt F) (arg13.view.writes (Elt F) G13 p4.1)) ((i 1).val + 1) (pF (i 1) mm hA (arg3.view.read (Elt F) X3) (arg8.view.read (Elt F) X8) 0) (pF (i 1) mm hB (arg3.view.read (Elt F) X3) (arg8.view.read (Elt F) X8) 1)
    ∧ Holds (arg14.view.read (Elt F) (arg14.view.writes (Elt F) G14 p4.2)) ((i 1).val + 1) (dpAt hA (arg4.view.read (Elt F) X4)) (dpAt hB (arg4.view.read (Elt F) X4)) := by
  have e2 : s2 = (s1.1, [], []) := by unfold seg2; exact st2_done _
  have e4 : s4 = (s3.1, [], []) := by unfold seg4; exact st4_done _
  obtain ⟨a1, a2, a3⟩ := st1_spec (𝒱 := Variants.none) (c := c) (bd := none) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (arg1 := arg1) (v23 := v23) (v41 := v41) (v43 := v43) (v47 := v47) (v55 := v55) (v60 := v60) (v63 := v63) (v66 := v66) (v69 := v69) (v72 := v72) (v75 := v75) (v76 := v76) (v78 := v78) (v81 := v81) (X3 := X3) (X4 := X4) (X8 := X8)
    (k0_pay79, k0_pay79) G13 G14 (k0_t1_loop i).trips (Nat.le_refl _)
  have t1 : (k0_t1_loop i).trips = (i 1).val := trips1 i
  have b1 : s1.1 = sums (pF (i 1) mm hA (arg3.view.read (Elt F) X3) (arg8.view.read (Elt F) X8) 0) (pF (i 1) mm hB (arg3.view.read (Elt F) X3) (arg8.view.read (Elt F) X8) 1) (dpAt hA (arg4.view.read (Elt F) X4)) (dpAt hB (arg4.view.read (Elt F) X4)) (k0_pay79, k0_pay79) (i 1).val := by
    have a1' : s1.1 = _ := a1
    rw [a1', t1]
    exact sums_congr _ _ _ _ _ _ _ _ (fun j hj => (pF_lt _ _ _ _ _ _ j hj).symm) (fun j hj => (pF_lt _ _ _ _ _ _ j hj).symm)
  have b2 : Holds (arg13.view.read (Elt F) (arg13.view.writes (Elt F) G13 s1.2.1)) (i 1).val (pF (i 1) mm hA (arg3.view.read (Elt F) X3) (arg8.view.read (Elt F) X8) 0) (pF (i 1) mm hB (arg3.view.read (Elt F) X3) (arg8.view.read (Elt F) X8) 1) := by
    intro j hj
    obtain ⟨u, v⟩ := a2 j (hj.trans_eq t1.symm)
    exact ⟨u.trans (congrArg slot (pF_lt _ _ _ _ _ _ j hj).symm), v.trans (congrArg slot (pF_lt _ _ _ _ _ _ j hj).symm)⟩
  have b3 : Holds (arg14.view.read (Elt F) (arg14.view.writes (Elt F) G14 s1.2.2)) (i 1).val (dpAt hA (arg4.view.read (Elt F) X4)) (dpAt hB (arg4.view.read (Elt F) X4)) := fun j hj => a3 j (hj.trans_eq t1.symm)
  obtain ⟨c1, c2, c3⟩ := st3_spec (𝒱 := Variants.none) (c := c) (bd := none) (i := i) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (arg1 := arg1) (v23 := v23) (v41 := v41) (v43 := v43) (v47 := v47) (v55 := v55) (v60 := v60) (v63 := v63) (v66 := v66) (v69 := v69) (v72 := v72) (v75 := v75) (v76 := v76) (v78 := v78) (v81 := v81) (X3 := X3) (X4 := X4) (X8 := X8)
    (s2.1.1, s2.1.2) ⟨0, trips3_pos i⟩ (arg13.view.writes (Elt F) G13 s1.2.1) (arg14.view.writes (Elt F) G14 s1.2.2)
    (pF (i 1) mm hA (arg3.view.read (Elt F) X3) (arg8.view.read (Elt F) X8) 0) (pF (i 1) mm hB (arg3.view.read (Elt F) X3) (arg8.view.read (Elt F) X8) 1) (dpAt hA (arg4.view.read (Elt F) X4)) (dpAt hB (arg4.view.read (Elt F) X4))
    (pF_eq (i 1) _ _ _ _ _) (pF_eq (i 1) _ _ _ _ _) rfl rfl b2 b3
  have q : p4 = (s3.2.1 ++ s1.2.1, s3.2.2 ++ s1.2.2) := by unfold pcs4; rw [e4, e2]; generalize s3 = Q; generalize s1 = R; rfl
  refine ⟨?_, ?_, ?_⟩
  · have c1' : s3.1 = _ := c1
    rw [e4, c1', e2, b1]; exact (sums_last _ _ _ _ _ (i 1)).symm
  · rw [q]
    have w : arg13.view.writes (Elt F) G13 (s3.2.1 ++ s1.2.1) = arg13.view.writes (Elt F) (arg13.view.writes (Elt F) G13 s1.2.1) s3.2.1 := View.writes_append _ _ _ _
    exact w.symm ▸ c2
  · rw [q]
    have w : arg14.view.writes (Elt F) G14 (s3.2.2 ++ s1.2.2) = arg14.view.writes (Elt F) (arg14.view.writes (Elt F) G14 s1.2.2) s3.2.2 := View.writes_append _ _ _ _
    exact w.symm ▸ c3

set_option maxHeartbeats 1000000 in
/-- The second pass leaves the gradients. -/
theorem seg6_spec :
    (s6.1, arg12.view.read (Elt F) (arg12.view.writes (Elt F) G12 p6.1), arg15.view.read (Elt F) (arg15.view.writes (Elt F) G15 p6.2.1), arg16.view.read (Elt F) (arg16.view.writes (Elt F) G16 p6.2.2))
    = point (i 1) mm hA hB (arg3.view.read (Elt F) X3) (arg4.view.read (Elt F) X4) (arg8.view.read (Elt F) X8)
        (arg12.view.read (Elt F) (arg12.view.writes (Elt F) G12 P.1), arg15.view.read (Elt F) (arg15.view.writes (Elt F) G15 P.2.1), arg16.view.read (Elt F) (arg16.view.writes (Elt F) G16 P.2.2)) := by
  obtain ⟨a1, a2, a3⟩ := seg4_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v23 v41 v43 v47 v55 v60 v63 v66 v69 v72 v75 v76 v78 v81 X3 X4 X8 v88 v95 G13 G14
  have e6 : s6 = (s5.1, [], [], []) := by unfold seg6; exact st6_done _
  have q : p6 = p5 := by unfold pcs6; rw [e6]; generalize p5 = Q; rfl
  rw [q, e6]
  have w1 : arg12.view.writes (Elt F) G12 p5.1 = arg12.view.writes (Elt F) (arg12.view.writes (Elt F) G12 P.1) s5.2.1 := View.writes_append _ _ _ _
  have w2 : arg15.view.writes (Elt F) G15 p5.2.1 = arg15.view.writes (Elt F) (arg15.view.writes (Elt F) G15 P.2.1) s5.2.2.1 := View.writes_append _ _ _ _
  have w3 : arg16.view.writes (Elt F) G16 p5.2.2 = arg16.view.writes (Elt F) (arg16.view.writes (Elt F) G16 P.2.2) s5.2.2.2 := View.writes_append _ _ _ _
  rw [w1, w2, w3]
  unfold seg5
  refine (st5_spec (k0_pay78, k0_pay78) _ _ _ _ a2 a3 (k0_t5_loop i).trips (Nat.le_refl _)).trans ?_
  rw [a1, trips5]
  rfl

end Cert.KernelFoxIdeal.Gen

end
-- ==== Proof.FoxPt.lean ====
module

public import proofs.«01_k».proof.Proof.FoxSeg
public import Idealize.ShloMosaic.Lib.Ring

@[expose] public section

set_option maxRecDepth 16384

noncomputable section

open Idealize.ShloMosaic Idealize.ShloMosaic.TcCoe Idealize.SL.Sem

namespace Cert.KernelFoxIdeal.Gen
open Cert.KernelFoxIdeal
variable {F : FTy → Type} [FloatOps F]

theorem one_inb0 : ∀ a, (![0, 0, 0] : Fin 3 → ℕ) a + S1x512x128.size a ≤ S2x512x128.size a := by decide
theorem one_inb1 : ∀ a, (![1, 0, 0] : Fin 3 → ℕ) a + S1x512x128.size a ≤ S2x512x128.size a := by decide

/-- The two heads of a query block. -/
def head0 (x2 : Vec F S512x128 .bf16) (x5 : Vec F S512x128 .f32) (x6 x7 : Vec F S2x512x128 .f32) : Head F :=
  ⟨k0_pay72 x2, k0_pay74 x5, k0_pay76 (VecWindow.window x6 ![0, 0, 0] S1x512x128.size one_inb0), wide4 (VecWindow.window x7 ![0, 0, 0] S1x512x128.size one_inb0)⟩
def head1 (x2 : Vec F S512x128 .bf16) (x5 : Vec F S512x128 .f32) (x6 x7 : Vec F S2x512x128 .f32) : Head F :=
  ⟨k0_pay73 x2, k0_pay75 x5, k0_pay77 (VecWindow.window x6 ![1, 0, 0] S1x512x128.size one_inb1), wide4 (VecWindow.window x7 ![1, 0, 0] S1x512x128.size one_inb1)⟩

/-- The keys at or before a query of the diagonal block. -/
def maskOf (i : grid0.Coords) : IVec S512x512 1 :=
  diag i (k0_t3_loop i).lb (iota .tc S512x512 32 [1] iota_S512x512_d1_w32) (k0_pay68 (BitVec.ofNat 32 (i 1).val))

/-- What a grid point ends with, from its blocks and what the pair's gradients held, and the rows of dq it stores. -/
def pointAt (i : grid0.Coords) (x2 : Vec F S512x128 .bf16) (x3 x4 : Vec F S2048x128 .bf16) (x5 : Vec F S512x128 .f32) (x6 x7 : Vec F S2x512x128 .f32) (x8 : Vec F S1x2x2048 .f32)
    (s : Vec F S1x2x2048 .f32 × Vec F S2048x128 .f32 × Vec F S2048x128 .f32) : St F :=
  point (i 1) (maskOf i) (head0 x2 x5 x6 x7) (head1 x2 x5 x6 x7) x3 x4 x8 s
def dqOf (s : St F) : FVec F S512x128 .bf16 := k0_pay100 k0_pay70 s.1.1 s.1.2

/-- A list of writes whose first write fills the buffer covers it. -/
theorem cover_of_full {s : Shape} {e : EltTy} {A B Q : List (View.Piece (Elt F) s e)} {w : View.Piece (Elt F) s e} (h : Q = A ++ (B ++ [w])) (hw : View.Piece.whole w = true := by rfl) :
    ∀ y, ∃ pc ∈ Q, y ∈ pc.1.set :=
  View.cover_of_wholeMem Q (h ▸ View.Piece.wholeMem_append_right (View.Piece.wholeMem_append_right (View.Piece.wholeMem_here hw)))

end Cert.KernelFoxIdeal.Gen

end
-- ==== Proof.FoxRun.lean ====
module

public import proofs.«01_k».proof.Proof.Gen.KernelFoxIdeal.Frame
public import proofs.«01_k».proof.Proof.Gen.KernelFoxIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

open Idealize.ShloMosaic Idealize.ShloMosaic.TcCoe Idealize.SL.Sem

namespace Cert.KernelFoxIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

/-- Whether a point is the first, the last, of its pair of heads. -/
abbrev cond0 (i : grid0.Coords) : Prop := (Scalar.cmpi .ne (Scalar.extui (Scalar.cmpi .eq (BitVec.ofNat 32 (i 1).val) 0#32)) 0#32) = 1#1
abbrev cond1 (i : grid0.Coords) : Prop := k0_cond2 i = 1#1
theorem cond0_iff : ∀ t : Fin cfg0.N, cond0 (grid0.coords t) ↔ t.val % 4 = 0 := (by decide +kernel : ∀ t : Fin grid0.N, cond0 (grid0.coords t) ↔ t.val % 4 = 0)
theorem cond1_iff : ∀ t : Fin cfg0.N, cond1 (grid0.coords t) ↔ t.val % 4 = 3 := (by decide +kernel : ∀ t : Fin grid0.N, cond1 (grid0.coords t) ↔ t.val % 4 = 3)

set_option maxHeartbeats 1000000 in
/-- The body's run in case B: what its stores leave in the buffers, and its triple over them. -/
noncomputable def runB (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole) (hc0 : ¬cond0 i) (hc1 : ¬cond1 i)
    (x2 : Vec F S512x128 .bf16) (x3 : Vec F S2048x128 .bf16) (x4 : Vec F S2048x128 .bf16) (x5 : Vec F S512x128 .f32) (x6 : Vec F S2x512x128 .f32) (x7 : Vec F S2x512x128 .f32) (x8 : Vec F S1x2x2048 .f32) (x12 : Vec F S1x2x2048 .f32) (x13 : Vec F S2x4x512x512 .f32) (x14 : Vec F S2x4x512x512 .f32) (x15 : Vec F S2048x128 .f32) (x16 : Vec F S2048x128 .f32) :
    Σ' (L9 : List (View.Piece (Elt F) S512x128 .bf16)), Σ' (L12 : List (View.Piece (Elt F) S1x2x2048 .f32)), Σ' (L15 : List (View.Piece (Elt F) S2048x128 .f32)), { L16 : List (View.Piece (Elt F) S2048x128 .f32) //
      ∀ (x10 : Vec F S2048x128 .bf16) (x11 : Vec F S2048x128 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ owns (c : Thread nD τ) arg10 fullShare x10 ∗ owns (c : Thread nD τ) arg11 fullShare x11 ∗ (arg12.view.loc (c : Thread nD τ) ↦[arg12.view.set]{fullShare} arg12.view.writes (Elt F) (harg12.unread x12) L12) ∗ (∃ d, owns (c : Thread nD τ) arg13 fullShare d) ∗ (∃ d, owns (c : Thread nD τ) arg14 fullShare d) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16)) -∗ K ⟨⟩))
          ⊢ wp frame (wpE (defs₀ (F := F)) Variants.none c none) E (cc0_l1_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun x10 x11 E K => ?run⟩
  case run =>
    simp only [cc0_l1_fox_bwd_eq_skeleton]; unfold cc0_l1_fox_bwd_skel
    simp only [k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    isplitl [H12]; · iexact H12
    isplitl [H13]
    · iexists _; iexists _; isplitr
      swap; · iexact H13
      ipureintro; rfl
    isplitl [H14]
    · iexists _; iexists _; isplitr
      swap; · iexact H14
      ipureintro; rfl
    isplitl [H15]; · iexact H15
    iexact H16

end Cert.KernelFoxIdeal.Gen

end
-- ==== Proof.FoxRunA.lean ====
module

public import proofs.«01_k».proof.Proof.FoxRun
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

open Idealize.ShloMosaic Idealize.ShloMosaic.TcCoe Idealize.SL.Sem

namespace Cert.KernelFoxIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

set_option maxHeartbeats 1000000 in
/-- The body's run in case A: what its stores leave in the buffers, and its triple over them. -/
noncomputable def runA (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole) (hc0 : cond0 i) (hc1 : ¬cond1 i)
    (x2 : Vec F S512x128 .bf16) (x3 : Vec F S2048x128 .bf16) (x4 : Vec F S2048x128 .bf16) (x5 : Vec F S512x128 .f32) (x6 : Vec F S2x512x128 .f32) (x7 : Vec F S2x512x128 .f32) (x8 : Vec F S1x2x2048 .f32) (x13 : Vec F S2x4x512x512 .f32) (x14 : Vec F S2x4x512x512 .f32) :
    Σ' (L9 : List (View.Piece (Elt F) S512x128 .bf16)), Σ' (L12 : List (View.Piece (Elt F) S1x2x2048 .f32)), Σ' (L15 : List (View.Piece (Elt F) S2048x128 .f32)), { L16 : List (View.Piece (Elt F) S2048x128 .f32) //
      ∀ (x10 : Vec F S2048x128 .bf16) (x11 : Vec F S2048x128 .bf16) (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14 ∗ (∃ d, owns (c : Thread nD τ) arg15 fullShare d) ∗ (∃ d, owns (c : Thread nD τ) arg16 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ owns (c : Thread nD τ) arg10 fullShare x10 ∗ owns (c : Thread nD τ) arg11 fullShare x11 ∗ (∃ f, arg12.view.loc (c : Thread nD τ) ↦[arg12.view.set]{fullShare} arg12.view.writes (Elt F) f L12) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16)) -∗ K ⟨⟩))
          ⊢ wp frame (wpE (defs₀ (F := F)) Variants.none c none) E (cc0_l1_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun x10 x11 E K => ?run⟩
  case run =>
    simp only [cc0_l1_fox_bwd_eq_skeleton]; unfold cc0_l1_fox_bwd_skel
    simp only [k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%d12, %f12, -, H12⟩, ⟨%f13, %hf13, H13⟩, ⟨%f14, %hf14, H14⟩, ⟨%d15, %f15, -, H15⟩, ⟨%d16, %f16, -, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg13.eq_unread hf13; obtain rfl := harg14.eq_unread hf14
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]
    · iexists _; iexists _; isplitr
      swap; · iexact H13
      ipureintro; rfl
    isplitl [H14]
    · iexists _; iexists _; isplitr
      swap; · iexact H14
      ipureintro; rfl
    isplitl [H15]; · iexists _; iexact H15
    iexists _; iexact H16

end Cert.KernelFoxIdeal.Gen

end
-- ==== Proof.FoxExA.lean ====
module

public import proofs.«01_k».proof.Proof.FoxSeg
public import proofs.«01_k».proof.Proof.FoxRunA

@[expose] public section

set_option maxRecDepth 16384

noncomputable section

open Idealize.ShloMosaic Idealize.ShloMosaic.TcCoe Idealize.SL.Sem

namespace Cert.KernelFoxIdeal.Gen
open Cert.KernelFoxIdeal
variable {F : FTy → Type} [FloatOps F]

set_option maxHeartbeats 8000000 in
/-- What a grid point of case A stores, by its loops. -/
theorem exA (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole) (hc0 : cond0 i) (hc1 : ¬cond1 i)
    (x2 : Vec F S512x128 .bf16) (x3 : Vec F S2048x128 .bf16) (x4 : Vec F S2048x128 .bf16) (x5 : Vec F S512x128 .f32) (x6 : Vec F S2x512x128 .f32) (x7 : Vec F S2x512x128 .f32) (x8 : Vec F S1x2x2048 .f32) (x13 : Vec F S2x4x512x512 .f32) (x14 : Vec F S2x4x512x512 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).1 = [⟨Rect.unit (s := S512x128) ![0, 0] S512x128.size inb_S512x128_S512x128_0_0, k0_pay100 k0_pay70 (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runA.sl.v23 i) (runA.sl.v41 i) runA.sl.v43 (runA.sl.r i) k0_pay70 (runA.sl.r_1 c arg2 harg2 x2) (runA.sl.r_2 c arg2 harg2 x2) (runA.sl.r_3 c arg5 harg5 x5) (runA.sl.r_4 c arg5 harg5 x5) (runA.sl.r_5 c arg6 harg6 x6) (runA.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runA.sl.v41 i) 0#32) 1#32) 1#32)) (Scalar.addi (runA.sl.v41 i) (Scalar.muli (Scalar.divsi (Scalar.subi (runA.sl.v23 i) (runA.sl.v41 i)) 1#32) 1#32)) (Scalar.addi (0#32) (Scalar.muli (Scalar.divsi (Scalar.subi (runA.sl.v23 i) 0#32) 1#32) 1#32)) (harg13.unread x13) (harg14.unread x14) arg12.view.junk arg15.view.junk arg16.view.junk (runA.sl.H12_1, runA.sl.H15_1, runA.sl.H16_1)).1.1 (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runA.sl.v23 i) (runA.sl.v41 i) runA.sl.v43 (runA.sl.r i) k0_pay70 (runA.sl.r_1 c arg2 harg2 x2) (runA.sl.r_2 c arg2 harg2 x2) (runA.sl.r_3 c arg5 harg5 x5) (runA.sl.r_4 c arg5 harg5 x5) (runA.sl.r_5 c arg6 harg6 x6) (runA.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runA.sl.v41 i) 0#32) 1#32) 1#32)) (Scalar.addi (runA.sl.v41 i) (Scalar.muli (Scalar.divsi (Scalar.subi (runA.sl.v23 i) (runA.sl.v41 i)) 1#32) 1#32)) (Scalar.addi (0#32) (Scalar.muli (Scalar.divsi (Scalar.subi (runA.sl.v23 i) 0#32) 1#32) 1#32)) (harg13.unread x13) (harg14.unread x14) arg12.view.junk arg15.view.junk arg16.view.junk (runA.sl.H12_1, runA.sl.H15_1, runA.sl.H16_1)).1.2⟩]
    ∧ ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).2.1, (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).2.2.1, (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).2.2.2.1) = pcs6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runA.sl.v23 i) (runA.sl.v41 i) runA.sl.v43 (runA.sl.r i) k0_pay70 (runA.sl.r_1 c arg2 harg2 x2) (runA.sl.r_2 c arg2 harg2 x2) (runA.sl.r_3 c arg5 harg5 x5) (runA.sl.r_4 c arg5 harg5 x5) (runA.sl.r_5 c arg6 harg6 x6) (runA.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runA.sl.v41 i) 0#32) 1#32) 1#32)) (Scalar.addi (runA.sl.v41 i) (Scalar.muli (Scalar.divsi (Scalar.subi (runA.sl.v23 i) (runA.sl.v41 i)) 1#32) 1#32)) (Scalar.addi (0#32) (Scalar.muli (Scalar.divsi (Scalar.subi (runA.sl.v23 i) 0#32) 1#32) 1#32)) (harg13.unread x13) (harg14.unread x14) arg12.view.junk arg15.view.junk arg16.view.junk (runA.sl.H12_1, runA.sl.H15_1, runA.sl.H16_1) := by
  unfold runA pcs6 seg6 pcs5 seg5 pcs4 seg4 seg3 seg2 seg1
  exact ⟨rfl, rfl⟩

end Cert.KernelFoxIdeal.Gen

end
-- ==== Proof.FoxPtA.lean ====
module

public import proofs.«01_k».proof.Proof.FoxPt
public import proofs.«01_k».proof.Proof.FoxExA

@[expose] public section

set_option maxRecDepth 16384

noncomputable section

open Idealize.ShloMosaic Idealize.ShloMosaic.TcCoe Idealize.SL.Sem

namespace Cert.KernelFoxIdeal.Gen
open Cert.KernelFoxIdeal
variable {F : FTy → Type} [FloatOps F]

set_option maxHeartbeats 4000000 in
/-- What a grid point of case A leaves, by its steps. -/
theorem ptA (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole) (hc0 : cond0 i) (hc1 : ¬cond1 i)
    (x2 : Vec F S512x128 .bf16) (x3 : Vec F S2048x128 .bf16) (x4 : Vec F S2048x128 .bf16) (x5 : Vec F S512x128 .f32) (x6 : Vec F S2x512x128 .f32) (x7 : Vec F S2x512x128 .f32) (x8 : Vec F S1x2x2048 .f32) (x13 : Vec F S2x4x512x512 .f32) (x14 : Vec F S2x4x512x512 .f32) :
    (∀ f, arg9.view.read (Elt F) (arg9.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).1) = dqOf (pointAt i x2 x3 x4 x5 x6 x7 x8 (k0_pay67, k0_pay65, k0_pay66)))
    ∧ (∀ f, arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).2.1) = (pointAt i x2 x3 x4 x5 x6 x7 x8 (k0_pay67, k0_pay65, k0_pay66)).2.1)
    ∧ (∀ f, arg15.view.read (Elt F) (arg15.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).2.2.1) = (pointAt i x2 x3 x4 x5 x6 x7 x8 (k0_pay67, k0_pay65, k0_pay66)).2.2.1)
    ∧ (∀ f, arg16.view.read (Elt F) (arg16.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).2.2.2.1) = (pointAt i x2 x3 x4 x5 x6 x7 x8 (k0_pay67, k0_pay65, k0_pay66)).2.2.2) := by
  obtain ⟨e1, e2⟩ := exA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14
  have h := seg6_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runA.sl.v23 i) (runA.sl.v41 i) runA.sl.v43 (runA.sl.r i) k0_pay70 (runA.sl.r_1 c arg2 harg2 x2) (runA.sl.r_2 c arg2 harg2 x2) (runA.sl.r_3 c arg5 harg5 x5) (runA.sl.r_4 c arg5 harg5 x5) (runA.sl.r_5 c arg6 harg6 x6) (runA.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runA.sl.v41 i) 0#32) 1#32) 1#32)) (Scalar.addi (runA.sl.v41 i) (Scalar.muli (Scalar.divsi (Scalar.subi (runA.sl.v23 i) (runA.sl.v41 i)) 1#32) 1#32)) (Scalar.addi (0#32) (Scalar.muli (Scalar.divsi (Scalar.subi (runA.sl.v23 i) 0#32) 1#32) 1#32)) (harg13.unread x13) (harg14.unread x14) arg12.view.junk arg15.view.junk arg16.view.junk (runA.sl.H12_1, runA.sl.H15_1, runA.sl.H16_1)
  have w2 : arg2.view.readAt (Elt F) (Rect.unit (s := S512x128) ![0, 0] S512x128.size inb_S512x128_S512x128_0_0).toLoadRect (harg2.unread x2) = x2 := by
    rw [View.readAt_full, harg2.read_unread]
  have w5 : arg5.view.readAt (Elt F) (Rect.unit (s := S512x128) ![0, 0] S512x128.size inb_S512x128_S512x128_0_0).toLoadRect (harg5.unread x5) = x5 := by
    rw [View.readAt_full, harg5.read_unread]
  have w60 : arg6.view.readAt (Elt F) (Rect.unit (s := S2x512x128) ![0, 0, 0] S1x512x128.size inb_S2x512x128_S1x512x128_0_0_0).toLoadRect (harg6.unread x6)
      = VecWindow.window x6 ![0, 0, 0] S1x512x128.size one_inb0 := by
    rw [View.readAt_unit arg6.view _ _ rfl one_inb0, harg6.read_unread]
  have w61 : arg6.view.readAt (Elt F) (Rect.unit (s := S2x512x128) ![1, 0, 0] S1x512x128.size inb_S2x512x128_S1x512x128_1_0_0).toLoadRect (harg6.unread x6)
      = VecWindow.window x6 ![1, 0, 0] S1x512x128.size one_inb1 := by
    rw [View.readAt_unit arg6.view _ _ rfl one_inb1, harg6.read_unread]
  have w70 : arg7.view.readAt (Elt F) (Rect.unit (s := S2x512x128) ![0, 0, 0] S1x512x128.size inb_S2x512x128_S1x512x128_0_0_0).toLoadRect (harg7.unread x7)
      = VecWindow.window x7 ![0, 0, 0] S1x512x128.size one_inb0 := by
    rw [View.readAt_unit arg7.view _ _ rfl one_inb0, harg7.read_unread]
  have w71 : arg7.view.readAt (Elt F) (Rect.unit (s := S2x512x128) ![1, 0, 0] S1x512x128.size inb_S2x512x128_S1x512x128_1_0_0).toLoadRect (harg7.unread x7)
      = VecWindow.window x7 ![1, 0, 0] S1x512x128.size one_inb1 := by
    rw [View.readAt_unit arg7.view _ _ rfl one_inb1, harg7.read_unread]
  have r1 : runA.sl.r_1 c arg2 harg2 x2 = k0_pay72 _ := congrArg k0_pay72 w2
  have r2 : runA.sl.r_2 c arg2 harg2 x2 = k0_pay73 _ := congrArg k0_pay73 w2
  have r3 : runA.sl.r_3 c arg5 harg5 x5 = k0_pay74 _ := congrArg k0_pay74 w5
  have r4 : runA.sl.r_4 c arg5 harg5 x5 = k0_pay75 _ := congrArg k0_pay75 w5
  have r5 : runA.sl.r_5 c arg6 harg6 x6 = k0_pay76 _ := congrArg k0_pay76 w60
  have r6 : runA.sl.r_6 c arg6 harg6 x6 = k0_pay77 _ := congrArg k0_pay77 w61
  have z12 : arg12.view.read (Elt F) (arg12.view.writes (Elt F) arg12.view.junk runA.sl.H12_1) = k0_pay67 := View.read_writes_full _ _ _ _ _
  have z15 : arg15.view.read (Elt F) (arg15.view.writes (Elt F) arg15.view.junk runA.sl.H15_1) = k0_pay65 := View.read_writes_full _ _ _ _ _
  have z16 : arg16.view.read (Elt F) (arg16.view.writes (Elt F) arg16.view.junk runA.sl.H16_1) = k0_pay66 := View.read_writes_full _ _ _ _ _
  have z3 : arg3.view.read (Elt F) (harg3.unread x3) = x3 := harg3.read_unread _
  have z4 : arg4.view.read (Elt F) (harg4.unread x4) = x4 := harg4.read_unread _
  have z8 : arg8.view.read (Elt F) (harg8.unread x8) = x8 := harg8.read_unread _
  rw [z12, z15, z16, z3, z4, z8, ← e2] at h
  have hp : _ = (pointAt i x2 x3 x4 x5 x6 x7 x8 (k0_pay67, k0_pay65, k0_pay66)) := h.trans (by rw [r1, r2, r3, r4, r5, r6, w70, w71]; rfl)
  have c12 : ∀ y, ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).2.1, y ∈ pc.1.set :=
    cover_of_full (congrArg (fun q : List (View.Piece (Elt F) S1x2x2048 .f32) × List (View.Piece (Elt F) S2048x128 .f32) × List (View.Piece (Elt F) S2048x128 .f32) => q.1) e2)
  have c15 : ∀ y, ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).2.2.1, y ∈ pc.1.set :=
    cover_of_full (congrArg (fun q : List (View.Piece (Elt F) S1x2x2048 .f32) × List (View.Piece (Elt F) S2048x128 .f32) × List (View.Piece (Elt F) S2048x128 .f32) => q.2.1) e2)
  have c16 : ∀ y, ∃ pc ∈ (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x13 x14).2.2.2.1, y ∈ pc.1.set :=
    cover_of_full (congrArg (fun q : List (View.Piece (Elt F) S1x2x2048 .f32) × List (View.Piece (Elt F) S2048x128 .f32) × List (View.Piece (Elt F) S2048x128 .f32) => q.2.2) e2)
  generalize hS : seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runA.sl.v23 i) (runA.sl.v41 i) runA.sl.v43 (runA.sl.r i) k0_pay70 (runA.sl.r_1 c arg2 harg2 x2) (runA.sl.r_2 c arg2 harg2 x2) (runA.sl.r_3 c arg5 harg5 x5) (runA.sl.r_4 c arg5 harg5 x5) (runA.sl.r_5 c arg6 harg6 x6) (runA.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runA.sl.v41 i) 0#32) 1#32) 1#32)) (Scalar.addi (runA.sl.v41 i) (Scalar.muli (Scalar.divsi (Scalar.subi (runA.sl.v23 i) (runA.sl.v41 i)) 1#32) 1#32)) (Scalar.addi (0#32) (Scalar.muli (Scalar.divsi (Scalar.subi (runA.sl.v23 i) 0#32) 1#32) 1#32)) (harg13.unread x13) (harg14.unread x14) arg12.view.junk arg15.view.junk arg16.view.junk (runA.sl.H12_1, runA.sl.H15_1, runA.sl.H16_1) = S at hp e1
  have g1 := congrArg (fun s : St F => s.1) hp
  have g2 := congrArg (fun s : St F => s.2.1) hp
  have g3 := congrArg (fun s : St F => s.2.2.1) hp
  have g4 := congrArg (fun s : St F => s.2.2.2) hp
  dsimp only at g1 g2 g3 g4
  refine ⟨fun f => (congrArg (fun L => arg9.view.read (Elt F) (arg9.view.writes (Elt F) f L)) e1).trans ((View.read_writes_full _ _ _ _ _).trans (congrArg (fun p : Vec F S512x128 .f32 × Vec F S512x128 .f32 => k0_pay100 k0_pay70 p.1 p.2) g1)), fun f => (View.read_writes_of_cover _ _ _ _ _ c12).trans g2, fun f => (View.read_writes_of_cover _ _ _ _ _ c15).trans g3, fun f => (View.read_writes_of_cover _ _ _ _ _ c16).trans g4⟩

end Cert.KernelFoxIdeal.Gen

end
-- ==== Proof.FoxExB.lean ====
module

public import proofs.«01_k».proof.Proof.FoxSeg
public import proofs.«01_k».proof.Proof.FoxRun

@[expose] public section

set_option maxRecDepth 16384

noncomputable section

open Idealize.ShloMosaic Idealize.ShloMosaic.TcCoe Idealize.SL.Sem

namespace Cert.KernelFoxIdeal.Gen
open Cert.KernelFoxIdeal
variable {F : FTy → Type} [FloatOps F]

set_option maxHeartbeats 2000000 in
/-- What a grid point of case B stores, by its loops. -/
theorem exB (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole) (hc0 : ¬cond0 i) (hc1 : ¬cond1 i)
    (x2 : Vec F S512x128 .bf16) (x3 : Vec F S2048x128 .bf16) (x4 : Vec F S2048x128 .bf16) (x5 : Vec F S512x128 .f32) (x6 : Vec F S2x512x128 .f32) (x7 : Vec F S2x512x128 .f32) (x8 : Vec F S1x2x2048 .f32) (x12 : Vec F S1x2x2048 .f32) (x13 : Vec F S2x4x512x512 .f32) (x14 : Vec F S2x4x512x512 .f32) (x15 : Vec F S2048x128 .f32) (x16 : Vec F S2048x128 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).1 = [⟨Rect.unit (s := S512x128) ![0, 0] S512x128.size inb_S512x128_S512x128_0_0, k0_pay100 k0_pay70 (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (Scalar.addi (0#32) (Scalar.muli (Scalar.divsi (Scalar.subi (runB.sl.v23 i) 0#32) 1#32) 1#32)) (harg13.unread x13) (harg14.unread x14) (harg12.unread x12) (harg15.unread x15) (harg16.unread x16) ([], [], [])).1.1 (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (Scalar.addi (0#32) (Scalar.muli (Scalar.divsi (Scalar.subi (runB.sl.v23 i) 0#32) 1#32) 1#32)) (harg13.unread x13) (harg14.unread x14) (harg12.unread x12) (harg15.unread x15) (harg16.unread x16) ([], [], [])).1.2⟩]
    ∧ ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.1, (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.1, (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.2.1) = pcs6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (Scalar.addi (0#32) (Scalar.muli (Scalar.divsi (Scalar.subi (runB.sl.v23 i) 0#32) 1#32) 1#32)) (harg13.unread x13) (harg14.unread x14) (harg12.unread x12) (harg15.unread x15) (harg16.unread x16) ([], [], []) := by
  have e5 : pcs5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (harg13.unread x13) (harg14.unread x14) (harg12.unread x12) (harg15.unread x15) (harg16.unread x16) ([], [], []) = (seg5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (harg13.unread x13) (harg14.unread x14) (harg12.unread x12) (harg15.unread x15) (harg16.unread x16) ([], [], [])).2 := by unfold pcs5; simp only [List.append_nil]
  have e6 : pcs6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (Scalar.addi (0#32) (Scalar.muli (Scalar.divsi (Scalar.subi (runB.sl.v23 i) 0#32) 1#32) 1#32)) (harg13.unread x13) (harg14.unread x14) (harg12.unread x12) (harg15.unread x15) (harg16.unread x16) ([], [], []) = ((seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (Scalar.addi (0#32) (Scalar.muli (Scalar.divsi (Scalar.subi (runB.sl.v23 i) 0#32) 1#32) 1#32)) (harg13.unread x13) (harg14.unread x14) (harg12.unread x12) (harg15.unread x15) (harg16.unread x16) ([], [], [])).2.1 ++ (seg5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (harg13.unread x13) (harg14.unread x14) (harg12.unread x12) (harg15.unread x15) (harg16.unread x16) ([], [], [])).2.1, (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (Scalar.addi (0#32) (Scalar.muli (Scalar.divsi (Scalar.subi (runB.sl.v23 i) 0#32) 1#32) 1#32)) (harg13.unread x13) (harg14.unread x14) (harg12.unread x12) (harg15.unread x15) (harg16.unread x16) ([], [], [])).2.2.1 ++ (seg5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (harg13.unread x13) (harg14.unread x14) (harg12.unread x12) (harg15.unread x15) (harg16.unread x16) ([], [], [])).2.2.1, (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (Scalar.addi (0#32) (Scalar.muli (Scalar.divsi (Scalar.subi (runB.sl.v23 i) 0#32) 1#32) 1#32)) (harg13.unread x13) (harg14.unread x14) (harg12.unread x12) (harg15.unread x15) (harg16.unread x16) ([], [], [])).2.2.2 ++ (seg5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (harg13.unread x13) (harg14.unread x14) (harg12.unread x12) (harg15.unread x15) (harg16.unread x16) ([], [], [])).2.2.2) := by unfold pcs6; rw [e5]
  rw [e6]
  unfold seg6
  rw [e5]
  unfold runB seg5 pcs4 seg4 seg3 seg2 seg1
  exact ⟨rfl, rfl⟩

end Cert.KernelFoxIdeal.Gen

end
-- ==== Proof.FoxPtB.lean ====
module

public import proofs.«01_k».proof.Proof.FoxPt
public import proofs.«01_k».proof.Proof.FoxExB

@[expose] public section

set_option maxRecDepth 16384

noncomputable section

open Idealize.ShloMosaic Idealize.ShloMosaic.TcCoe Idealize.SL.Sem

namespace Cert.KernelFoxIdeal.Gen
open Cert.KernelFoxIdeal
variable {F : FTy → Type} [FloatOps F]

set_option maxHeartbeats 4000000 in
/-- What a grid point of case B leaves, by its steps. -/
theorem ptB (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole) (hc0 : ¬cond0 i) (hc1 : ¬cond1 i)
    (x2 : Vec F S512x128 .bf16) (x3 : Vec F S2048x128 .bf16) (x4 : Vec F S2048x128 .bf16) (x5 : Vec F S512x128 .f32) (x6 : Vec F S2x512x128 .f32) (x7 : Vec F S2x512x128 .f32) (x8 : Vec F S1x2x2048 .f32) (x12 : Vec F S1x2x2048 .f32) (x13 : Vec F S2x4x512x512 .f32) (x14 : Vec F S2x4x512x512 .f32) (x15 : Vec F S2048x128 .f32) (x16 : Vec F S2048x128 .f32) :
    (∀ f, arg9.view.read (Elt F) (arg9.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).1) = dqOf (pointAt i x2 x3 x4 x5 x6 x7 x8 (x12, x15, x16)))
    ∧ arg12.view.read (Elt F) (arg12.view.writes (Elt F) (harg12.unread x12) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.1) = (pointAt i x2 x3 x4 x5 x6 x7 x8 (x12, x15, x16)).2.1
    ∧ arg15.view.read (Elt F) (arg15.view.writes (Elt F) (harg15.unread x15) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.1) = (pointAt i x2 x3 x4 x5 x6 x7 x8 (x12, x15, x16)).2.2.1
    ∧ arg16.view.read (Elt F) (arg16.view.writes (Elt F) (harg16.unread x16) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.2.1) = (pointAt i x2 x3 x4 x5 x6 x7 x8 (x12, x15, x16)).2.2.2 := by
  obtain ⟨e1, e2⟩ := exB c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16
  have h := seg6_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (Scalar.addi (0#32) (Scalar.muli (Scalar.divsi (Scalar.subi (runB.sl.v23 i) 0#32) 1#32) 1#32)) (harg13.unread x13) (harg14.unread x14) (harg12.unread x12) (harg15.unread x15) (harg16.unread x16) ([], [], [])
  have w2 : arg2.view.readAt (Elt F) (Rect.unit (s := S512x128) ![0, 0] S512x128.size inb_S512x128_S512x128_0_0).toLoadRect (harg2.unread x2) = x2 := by
    rw [View.readAt_full, harg2.read_unread]
  have w5 : arg5.view.readAt (Elt F) (Rect.unit (s := S512x128) ![0, 0] S512x128.size inb_S512x128_S512x128_0_0).toLoadRect (harg5.unread x5) = x5 := by
    rw [View.readAt_full, harg5.read_unread]
  have w60 : arg6.view.readAt (Elt F) (Rect.unit (s := S2x512x128) ![0, 0, 0] S1x512x128.size inb_S2x512x128_S1x512x128_0_0_0).toLoadRect (harg6.unread x6)
      = VecWindow.window x6 ![0, 0, 0] S1x512x128.size one_inb0 := by
    rw [View.readAt_unit arg6.view _ _ rfl one_inb0, harg6.read_unread]
  have w61 : arg6.view.readAt (Elt F) (Rect.unit (s := S2x512x128) ![1, 0, 0] S1x512x128.size inb_S2x512x128_S1x512x128_1_0_0).toLoadRect (harg6.unread x6)
      = VecWindow.window x6 ![1, 0, 0] S1x512x128.size one_inb1 := by
    rw [View.readAt_unit arg6.view _ _ rfl one_inb1, harg6.read_unread]
  have w70 : arg7.view.readAt (Elt F) (Rect.unit (s := S2x512x128) ![0, 0, 0] S1x512x128.size inb_S2x512x128_S1x512x128_0_0_0).toLoadRect (harg7.unread x7)
      = VecWindow.window x7 ![0, 0, 0] S1x512x128.size one_inb0 := by
    rw [View.readAt_unit arg7.view _ _ rfl one_inb0, harg7.read_unread]
  have w71 : arg7.view.readAt (Elt F) (Rect.unit (s := S2x512x128) ![1, 0, 0] S1x512x128.size inb_S2x512x128_S1x512x128_1_0_0).toLoadRect (harg7.unread x7)
      = VecWindow.window x7 ![1, 0, 0] S1x512x128.size one_inb1 := by
    rw [View.readAt_unit arg7.view _ _ rfl one_inb1, harg7.read_unread]
  have r1 : runB.sl.r_1 c arg2 harg2 x2 = k0_pay72 _ := congrArg k0_pay72 w2
  have r2 : runB.sl.r_2 c arg2 harg2 x2 = k0_pay73 _ := congrArg k0_pay73 w2
  have r3 : runB.sl.r_3 c arg5 harg5 x5 = k0_pay74 _ := congrArg k0_pay74 w5
  have r4 : runB.sl.r_4 c arg5 harg5 x5 = k0_pay75 _ := congrArg k0_pay75 w5
  have r5 : runB.sl.r_5 c arg6 harg6 x6 = k0_pay76 _ := congrArg k0_pay76 w60
  have r6 : runB.sl.r_6 c arg6 harg6 x6 = k0_pay77 _ := congrArg k0_pay77 w61
  have z12 : arg12.view.read (Elt F) (harg12.unread x12) = x12 := harg12.read_unread _
  have z15 : arg15.view.read (Elt F) (harg15.unread x15) = x15 := harg15.read_unread _
  have z16 : arg16.view.read (Elt F) (harg16.unread x16) = x16 := harg16.read_unread _
  have z3 : arg3.view.read (Elt F) (harg3.unread x3) = x3 := harg3.read_unread _
  have z4 : arg4.view.read (Elt F) (harg4.unread x4) = x4 := harg4.read_unread _
  have z8 : arg8.view.read (Elt F) (harg8.unread x8) = x8 := harg8.read_unread _
  rw [View.writes_nil, View.writes_nil, View.writes_nil, z12, z15, z16, z3, z4, z8, ← e2] at h
  have hp : _ = (pointAt i x2 x3 x4 x5 x6 x7 x8 (x12, x15, x16)) := h.trans (by rw [r1, r2, r3, r4, r5, r6, w70, w71]; rfl)
  generalize hS : seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runB.sl.v23 i) (runB.sl.v41 i) runB.sl.v43 (runB.sl.r i) k0_pay70 (runB.sl.r_1 c arg2 harg2 x2) (runB.sl.r_2 c arg2 harg2 x2) (runB.sl.r_3 c arg5 harg5 x5) (runB.sl.r_4 c arg5 harg5 x5) (runB.sl.r_5 c arg6 harg6 x6) (runB.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runB.sl.v41 i) 0#32) 1#32) 1#32)) (Scalar.addi (runB.sl.v41 i) (Scalar.muli (Scalar.divsi (Scalar.subi (runB.sl.v23 i) (runB.sl.v41 i)) 1#32) 1#32)) (Scalar.addi (0#32) (Scalar.muli (Scalar.divsi (Scalar.subi (runB.sl.v23 i) 0#32) 1#32) 1#32)) (harg13.unread x13) (harg14.unread x14) (harg12.unread x12) (harg15.unread x15) (harg16.unread x16) ([], [], []) = S at hp e1
  have g1 := congrArg (fun s : St F => s.1) hp
  have g2 := congrArg (fun s : St F => s.2.1) hp
  have g3 := congrArg (fun s : St F => s.2.2.1) hp
  have g4 := congrArg (fun s : St F => s.2.2.2) hp
  dsimp only at g1 g2 g3 g4
  refine ⟨fun f => (congrArg (fun L => arg9.view.read (Elt F) (arg9.view.writes (Elt F) f L)) e1).trans ((View.read_writes_full _ _ _ _ _).trans (congrArg (fun p : Vec F S512x128 .f32 × Vec F S512x128 .f32 => k0_pay100 k0_pay70 p.1 p.2) g1)), g2, g3, g4⟩

end Cert.KernelFoxIdeal.Gen

end
-- ==== Proof.FoxRunC.lean ====
module

public import proofs.«01_k».proof.Proof.FoxRunA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

open Idealize.ShloMosaic Idealize.ShloMosaic.TcCoe Idealize.SL.Sem

namespace Cert.KernelFoxIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

set_option maxHeartbeats 1000000 in
/-- The body's run in case C: what its stores leave in the buffers, and its triple over them. -/
noncomputable def runC (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole) (hc0 : ¬cond0 i) (hc1 : cond1 i)
    (x2 : Vec F S512x128 .bf16) (x3 : Vec F S2048x128 .bf16) (x4 : Vec F S2048x128 .bf16) (x5 : Vec F S512x128 .f32) (x6 : Vec F S2x512x128 .f32) (x7 : Vec F S2x512x128 .f32) (x8 : Vec F S1x2x2048 .f32) (x12 : Vec F S1x2x2048 .f32) (x13 : Vec F S2x4x512x512 .f32) (x14 : Vec F S2x4x512x512 .f32) (x15 : Vec F S2048x128 .f32) (x16 : Vec F S2048x128 .f32) :
    Σ' (L9 : List (View.Piece (Elt F) S512x128 .bf16)), Σ' (L10 : List (View.Piece (Elt F) S2048x128 .bf16)), Σ' (L11 : List (View.Piece (Elt F) S2048x128 .bf16)), Σ' (L12 : List (View.Piece (Elt F) S1x2x2048 .f32)), Σ' (L15 : List (View.Piece (Elt F) S2048x128 .f32)), { L16 : List (View.Piece (Elt F) S2048x128 .f32) //
      ∀  (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread x12) L12) ∗ (∃ d, owns (c : Thread nD τ) arg13 fullShare d) ∗ (∃ d, owns (c : Thread nD τ) arg14 fullShare d) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16)) -∗ K ⟨⟩))
          ⊢ wp frame (wpE (defs₀ (F := F)) Variants.none c none) E (cc0_l1_fox_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, fun  E K => ?run⟩
  case run =>
    simp only [cc0_l1_fox_bwd_eq_skeleton]; unfold cc0_l1_fox_bwd_skel
    simp only [k0_part9_eq_skeleton, k0_part10_eq_skeleton, k0_part11_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, ⟨%f14, %hf14, H14⟩, ⟨%f15, %hf15, H15⟩, ⟨%f16, %hf16, H16⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13; obtain rfl := harg14.eq_unread hf14; obtain rfl := harg15.eq_unread hf15; obtain rfl := harg16.eq_unread hf16
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    isplitl [H12]; · iexact H12
    isplitl [H13]
    · iexists _; iexists _; isplitr
      swap; · iexact H13
      ipureintro; rfl
    isplitl [H14]
    · iexists _; iexists _; isplitr
      swap; · iexact H14
      ipureintro; rfl
    isplitl [H15]; · iexact H15
    iexact H16

end Cert.KernelFoxIdeal.Gen

end
-- ==== Proof.FoxExC.lean ====
module

public import proofs.«01_k».proof.Proof.FoxSeg
public import proofs.«01_k».proof.Proof.FoxRunC

@[expose] public section

set_option maxRecDepth 16384

noncomputable section

open Idealize.ShloMosaic Idealize.ShloMosaic.TcCoe Idealize.SL.Sem

namespace Cert.KernelFoxIdeal.Gen
open Cert.KernelFoxIdeal
variable {F : FTy → Type} [FloatOps F]

set_option maxHeartbeats 8000000 in
/-- What a grid point of case C stores, by its loops. -/
theorem exC (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole) (hc0 : ¬cond0 i) (hc1 : cond1 i)
    (x2 : Vec F S512x128 .bf16) (x3 : Vec F S2048x128 .bf16) (x4 : Vec F S2048x128 .bf16) (x5 : Vec F S512x128 .f32) (x6 : Vec F S2x512x128 .f32) (x7 : Vec F S2x512x128 .f32) (x8 : Vec F S1x2x2048 .f32) (x12 : Vec F S1x2x2048 .f32) (x13 : Vec F S2x4x512x512 .f32) (x14 : Vec F S2x4x512x512 .f32) (x15 : Vec F S2048x128 .f32) (x16 : Vec F S2048x128 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).1 = [⟨Rect.unit (s := S512x128) ![0, 0] S512x128.size inb_S512x128_S512x128_0_0, k0_pay100 k0_pay70 (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], [])).1.1 (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], [])).1.2⟩]
    ∧ ((runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.2.1, (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.2.2.1, (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.2.2.2.1) = pcs6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], [])
    ∧ (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.1 = [⟨Rect.unit (s := S2048x128) ![0, 0] S2048x128.size inb_S2048x128_S2048x128_0_0, k0_pay1 (arg15.view.readAt (Elt F) (Rect.unit (s := S2048x128) ![0, 0] S2048x128.size inb_S2048x128_S2048x128_0_0) (arg15.view.writes (Elt F) (harg15.unread x15) (pcs6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], [])).2.1))⟩]
    ∧ (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.1 = [⟨Rect.unit (s := S2048x128) ![0, 0] S2048x128.size inb_S2048x128_S2048x128_0_0, k0_pay2 (arg16.view.readAt (Elt F) (Rect.unit (s := S2048x128) ![0, 0] S2048x128.size inb_S2048x128_S2048x128_0_0) (arg16.view.writes (Elt F) (harg16.unread x16) (pcs6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], [])).2.2))⟩] := by
  have e5 : pcs5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (harg13.unread x13) (harg14.unread x14) (harg12.unread x12) (harg15.unread x15) (harg16.unread x16) ([], [], []) = (seg5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (harg13.unread x13) (harg14.unread x14) (harg12.unread x12) (harg15.unread x15) (harg16.unread x16) ([], [], [])).2 := by unfold pcs5; simp only [List.append_nil]
  have e6 : pcs6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], []) = ((seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], [])).2.1 ++ (seg5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (harg13.unread x13) (harg14.unread x14) (harg12.unread x12) (harg15.unread x15) (harg16.unread x16) ([], [], [])).2.1, (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], [])).2.2.1 ++ (seg5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (harg13.unread x13) (harg14.unread x14) (harg12.unread x12) (harg15.unread x15) (harg16.unread x16) ([], [], [])).2.2.1, (seg6 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], [])).2.2.2 ++ (seg5 c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (harg13.unread x13) (harg14.unread x14) (harg12.unread x12) (harg15.unread x15) (harg16.unread x16) ([], [], [])).2.2.2) := by unfold pcs6; rw [e5]
  rw [e6]
  unfold seg6
  rw [e5]
  unfold runC seg5 pcs4 seg4 seg3 seg2 seg1
  unfold runC.sl.v113 runC.sl.v116
  exact ⟨rfl, rfl, rfl, rfl⟩

end Cert.KernelFoxIdeal.Gen

end
-- ==== Proof.FoxPtC.lean ====
module

public import proofs.«01_k».proof.Proof.FoxPt
public import proofs.«01_k».proof.Proof.FoxExC

@[expose] public section

set_option maxRecDepth 16384

noncomputable section

open Idealize.ShloMosaic Idealize.ShloMosaic.TcCoe Idealize.SL.Sem

namespace Cert.KernelFoxIdeal.Gen
open Cert.KernelFoxIdeal
variable {F : FTy → Type} [FloatOps F]

set_option maxHeartbeats 4000000 in
/-- What a grid point of case C leaves, by its steps. -/
theorem ptC (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S2x512x128 .f32) (harg7 : arg7.IsWhole) (arg8 : Memref sig .tc .vmem S1x2x2048 .f32) (harg8 : arg8.IsWhole) (arg9 : Memref sig .tc .vmem S512x128 .bf16) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S1x2x2048 .f32) (harg12 : arg12.IsWhole) (arg13 : Memref sig .tc .vmem S2x4x512x512 .f32) (harg13 : arg13.IsWhole) (arg14 : Memref sig .tc .vmem S2x4x512x512 .f32) (harg14 : arg14.IsWhole) (arg15 : Memref sig .tc .vmem S2048x128 .f32) (harg15 : arg15.IsWhole) (arg16 : Memref sig .tc .vmem S2048x128 .f32) (harg16 : arg16.IsWhole) (hc0 : ¬cond0 i) (hc1 : cond1 i)
    (x2 : Vec F S512x128 .bf16) (x3 : Vec F S2048x128 .bf16) (x4 : Vec F S2048x128 .bf16) (x5 : Vec F S512x128 .f32) (x6 : Vec F S2x512x128 .f32) (x7 : Vec F S2x512x128 .f32) (x8 : Vec F S1x2x2048 .f32) (x12 : Vec F S1x2x2048 .f32) (x13 : Vec F S2x4x512x512 .f32) (x14 : Vec F S2x4x512x512 .f32) (x15 : Vec F S2048x128 .f32) (x16 : Vec F S2048x128 .f32) :
    (∀ f, arg9.view.read (Elt F) (arg9.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).1) = dqOf (pointAt i x2 x3 x4 x5 x6 x7 x8 (x12, x15, x16)))
    ∧ arg12.view.read (Elt F) (arg12.view.writes (Elt F) (harg12.unread x12) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.2.1) = (pointAt i x2 x3 x4 x5 x6 x7 x8 (x12, x15, x16)).2.1
    ∧ arg15.view.read (Elt F) (arg15.view.writes (Elt F) (harg15.unread x15) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.2.2.1) = (pointAt i x2 x3 x4 x5 x6 x7 x8 (x12, x15, x16)).2.2.1
    ∧ arg16.view.read (Elt F) (arg16.view.writes (Elt F) (harg16.unread x16) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.2.2.2.1) = (pointAt i x2 x3 x4 x5 x6 x7 x8 (x12, x15, x16)).2.2.2
    ∧ (∀ f, arg10.view.read (Elt F) (arg10.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.1) = k0_pay1 (pointAt i x2 x3 x4 x5 x6 x7 x8 (x12, x15, x16)).2.2.1)
    ∧ (∀ f, arg11.view.read (Elt F) (arg11.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.1) = k0_pay2 (pointAt i x2 x3 x4 x5 x6 x7 x8 (x12, x15, x16)).2.2.2) := by
  obtain ⟨e1, e2, e3, e4⟩ := exC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16
  have h := seg6_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (runC.sl.v23 i) (runC.sl.v41 i) runC.sl.v43 (runC.sl.r i) k0_pay70 (runC.sl.r_1 c arg2 harg2 x2) (runC.sl.r_2 c arg2 harg2 x2) (runC.sl.r_3 c arg5 harg5 x5) (runC.sl.r_4 c arg5 harg5 x5) (runC.sl.r_5 c arg6 harg6 x6) (runC.sl.r_6 c arg6 harg6 x6) k0_pay78 (arg7.view.readAt (Elt F) (Rect.unit (s := S2x512x128) ![0, 0, 0] S1x512x128.size inb_S2x512x128_S1x512x128_0_0_0) (harg7.unread x7)) (arg7.view.readAt (Elt F) (Rect.unit (s := S2x512x128) ![1, 0, 0] S1x512x128.size inb_S2x512x128_S1x512x128_1_0_0) (harg7.unread x7)) (harg3.unread x3) (harg4.unread x4) (harg8.unread x8) (Scalar.addi (0#32) (Scalar.muli (Scalar.divsi (Scalar.subi (runC.sl.v41 i) 0#32) 1#32) 1#32)) (Scalar.addi (runC.sl.v41 i) (Scalar.muli (Scalar.divsi (Scalar.subi (runC.sl.v23 i) (runC.sl.v41 i)) 1#32) 1#32)) (Scalar.addi (0#32) (Scalar.muli (Scalar.divsi (Scalar.subi (runC.sl.v23 i) 0#32) 1#32) 1#32)) (harg13.unread x13) (harg14.unread x14) (harg12.unread x12) (harg15.unread x15) (harg16.unread x16) ([], [], [])
  have w2 : arg2.view.readAt (Elt F) (Rect.unit (s := S512x128) ![0, 0] S512x128.size inb_S512x128_S512x128_0_0).toLoadRect (harg2.unread x2) = x2 := by
    rw [View.readAt_full, harg2.read_unread]
  have w5 : arg5.view.readAt (Elt F) (Rect.unit (s := S512x128) ![0, 0] S512x128.size inb_S512x128_S512x128_0_0).toLoadRect (harg5.unread x5) = x5 := by
    rw [View.readAt_full, harg5.read_unread]
  have w60 : arg6.view.readAt (Elt F) (Rect.unit (s := S2x512x128) ![0, 0, 0] S1x512x128.size inb_S2x512x128_S1x512x128_0_0_0).toLoadRect (harg6.unread x6)
      = VecWindow.window x6 ![0, 0, 0] S1x512x128.size one_inb0 := by
    rw [View.readAt_unit arg6.view _ _ rfl one_inb0, harg6.read_unread]
  have w61 : arg6.view.readAt (Elt F) (Rect.unit (s := S2x512x128) ![1, 0, 0] S1x512x128.size inb_S2x512x128_S1x512x128_1_0_0).toLoadRect (harg6.unread x6)
      = VecWindow.window x6 ![1, 0, 0] S1x512x128.size one_inb1 := by
    rw [View.readAt_unit arg6.view _ _ rfl one_inb1, harg6.read_unread]
  have w70 : arg7.view.readAt (Elt F) (Rect.unit (s := S2x512x128) ![0, 0, 0] S1x512x128.size inb_S2x512x128_S1x512x128_0_0_0).toLoadRect (harg7.unread x7)
      = VecWindow.window x7 ![0, 0, 0] S1x512x128.size one_inb0 := by
    rw [View.readAt_unit arg7.view _ _ rfl one_inb0, harg7.read_unread]
  have w71 : arg7.view.readAt (Elt F) (Rect.unit (s := S2x512x128) ![1, 0, 0] S1x512x128.size inb_S2x512x128_S1x512x128_1_0_0).toLoadRect (harg7.unread x7)
      = VecWindow.window x7 ![1, 0, 0] S1x512x128.size one_inb1 := by
    rw [View.readAt_unit arg7.view _ _ rfl one_inb1, harg7.read_unread]
  have r1 : runC.sl.r_1 c arg2 harg2 x2 = k0_pay72 _ := congrArg k0_pay72 w2
  have r2 : runC.sl.r_2 c arg2 harg2 x2 = k0_pay73 _ := congrArg k0_pay73 w2
  have r3 : runC.sl.r_3 c arg5 harg5 x5 = k0_pay74 _ := congrArg k0_pay74 w5
  have r4 : runC.sl.r_4 c arg5 harg5 x5 = k0_pay75 _ := congrArg k0_pay75 w5
  have r5 : runC.sl.r_5 c arg6 harg6 x6 = k0_pay76 _ := congrArg k0_pay76 w60
  have r6 : runC.sl.r_6 c arg6 harg6 x6 = k0_pay77 _ := congrArg k0_pay77 w61
  have z12 : arg12.view.read (Elt F) (harg12.unread x12) = x12 := harg12.read_unread _
  have z15 : arg15.view.read (Elt F) (harg15.unread x15) = x15 := harg15.read_unread _
  have z16 : arg16.view.read (Elt F) (harg16.unread x16) = x16 := harg16.read_unread _
  have z3 : arg3.view.read (Elt F) (harg3.unread x3) = x3 := harg3.read_unread _
  have z4 : arg4.view.read (Elt F) (harg4.unread x4) = x4 := harg4.read_unread _
  have z8 : arg8.view.read (Elt F) (harg8.unread x8) = x8 := harg8.read_unread _
  rw [View.writes_nil, View.writes_nil, View.writes_nil, z12, z15, z16, z3, z4, z8, ← e2] at h
  rw [← e2] at e3 e4
  dsimp only at e3 e4
  have hp : _ = (pointAt i x2 x3 x4 x5 x6 x7 x8 (x12, x15, x16)) := h.trans (by rw [r1, r2, r3, r4, r5, r6, w70, w71]; rfl)
  have g1 := congrArg (fun s : St F => s.1) hp
  have g2 := congrArg (fun s : St F => s.2.1) hp
  have g3 := congrArg (fun s : St F => s.2.2.1) hp
  have g4 := congrArg (fun s : St F => s.2.2.2) hp
  dsimp only at g1 g2 g3 g4
  have q10 : ∀ f, arg10.view.read (Elt F) (arg10.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.1) = k0_pay1 (pointAt i x2 x3 x4 x5 x6 x7 x8 (x12, x15, x16)).2.2.1 := by
    intro f
    rw [e3, View.read_writes_full, View.readAt_full, g3]
  have q11 : ∀ f, arg11.view.read (Elt F) (arg11.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x2 x3 x4 x5 x6 x7 x8 x12 x13 x14 x15 x16).2.2.1) = k0_pay2 (pointAt i x2 x3 x4 x5 x6 x7 x8 (x12, x15, x16)).2.2.2 := by
    intro f
    rw [e4, View.read_writes_full, View.readAt_full, g4]
  refine ⟨fun f => (congrArg (fun L => arg9.view.read (Elt F) (arg9.view.writes (Elt F) f L)) e1).trans ((View.read_writes_full _ _ _ _ _).trans (congrArg (fun p : Vec F S512x128 .f32 × Vec F S512x128 .f32 => k0_pay100 k0_pay70 p.1 p.2) g1)), g2, g3, g4,
    fun f => q10 f,
    fun f => q11 f⟩

end Cert.KernelFoxIdeal.Gen

end
-- ==== Proof.FoxFrame.lean ====
module

public import proofs.«01_k».proof.Proof.FoxPtA
public import proofs.«01_k».proof.Proof.FoxPtB
public import proofs.«01_k».proof.Proof.FoxPtC
public import Idealize.ShloMosaic.Lib.Claim
public import Idealize.ShloMosaic.Lib.Pipeline.TableIdle

@[expose] public section

set_option maxRecDepth 16384

noncomputable section

open Idealize.ShloMosaic Idealize.ShloMosaic.TcCoe Idealize.SL.Sem

namespace Cert.KernelFoxIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers a point is given. -/
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x2048 .f32 := win0_10.stage (cfg0.slots t 10)
abbrev hs0_10 (t : Fin cfg0.N) : (ms0_10 t).IsWhole := hstage0_10 ((cfg0.slots t 10).cast nbuf0_10)
abbrev scM0_0 : Memref sig .tc .vmem S2x4x512x512 .f32 := Memref.whole cc0_scratch0
abbrev scM0_1 : Memref sig .tc .vmem S2x4x512x512 .f32 := Memref.whole cc0_scratch1
abbrev scM0_2 : Memref sig .tc .vmem S2048x128 .f32 := Memref.whole cc0_scratch2
abbrev scM0_3 : Memref sig .tc .vmem S2048x128 .f32 := Memref.whole cc0_scratch3

/-- The results of k and v wait for the pair's last point; the others are written at every point. -/
theorem idleAt_8 : ∀ t : Fin cfg0.N, ¬t.val % 4 = 3 → cfg0.idle 8 (grid0.coords t) = true := by decide +kernel
theorem noFlush_8 : ∀ t : Fin cfg0.N, ¬t.val % 4 = 3 → (cfg0.win 8).flush t = false := by decide +kernel
theorem liveAt_8 : ∀ t : Fin cfg0.N, t.val % 4 = 3 → cfg0.idle 8 (grid0.coords t) = false := by decide +kernel
theorem idleAt_9 : ∀ t : Fin cfg0.N, ¬t.val % 4 = 3 → cfg0.idle 9 (grid0.coords t) = true := by decide +kernel
theorem noFlush_9 : ∀ t : Fin cfg0.N, ¬t.val % 4 = 3 → (cfg0.win 9).flush t = false := by decide +kernel
theorem liveAt_9 : ∀ t : Fin cfg0.N, t.val % 4 = 3 → cfg0.idle 9 (grid0.coords t) = false := by decide +kernel
theorem fresh_10_step : ∀ t : Fin cfg0.N, ((t.val + 1) % 4 == 0) = ((cfg0.win 10).flush t || (cfg0.idle 10 (cfg0.grid.coords t) && (t.val % 4 == 0))) := by decide +kernel
theorem fresh_10 (t : Fin cfg0.N) : cfg0.fresh 10 t.val = (t.val % 4 == 0) :=
  Pipeline.Cfg.fresh_tab cfg0 10 (fun n => n % 4 == 0) rfl fresh_10_step t.val (Nat.le_of_lt t.isLt)

/-- What the launch hands the region. -/
theorem PhiA_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What the points up to one leave: its rows of dq, and its pair's df, dk, dv so far. -/
def stAt (c : Dev nD) : (n : ℕ) → n < cfg0.N → St F
  | 0, hn => pointAt (grid0.coords ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (k0_pay67, k0_pay65, k0_pay66)
  | n + 1, hn => pointAt (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
      (if (n + 1) % 4 = 0 then (k0_pay67, k0_pay65, k0_pay66) else (stAt c n (Nat.lt_of_succ_lt hn)).2)

theorem stAt_first (c : Dev nD) (t : Fin cfg0.N) (h : t.val % 4 = 0) :
    stAt m c t.val t.isLt = pointAt (grid0.coords t) (iblk m c 0 t) (iblk m c 1 t) (iblk m c 2 t) (iblk m c 3 t) (iblk m c 4 t) (iblk m c 5 t) (iblk m c 6 t) (k0_pay67, k0_pay65, k0_pay66) := by
  obtain ⟨n, hn⟩ := t
  cases n with
  | zero => rfl
  | succ n => exact congrArg (pointAt (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)) (if_pos h)

theorem stAt_next (c : Dev nD) (t : Fin cfg0.N) (h : ¬t.val % 4 = 0) :
    stAt m c t.val t.isLt = pointAt (grid0.coords t) (iblk m c 0 t) (iblk m c 1 t) (iblk m c 2 t) (iblk m c 3 t) (iblk m c 4 t) (iblk m c 5 t) (iblk m c 6 t) (stAt m c (t.val - 1) (Nat.lt_of_le_of_lt (Nat.sub_le _ _) t.isLt)).2 := by
  obtain ⟨n, hn⟩ := t
  cases n with
  | zero => exact absurd (Nat.zero_mod _) h
  | succ n => exact congrArg (pointAt (grid0.coords ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)) (if_neg h)

/-- Between points: the weights kept for the second pass at anything, dk and dv at what the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare (stAt m c n hn).2.2.1 ∗ owns (c : Thread nD τ) scM0_3 fullShare (stAt m c n hn).2.2.2) ∗ (∃ r, prngReg c r))

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ owns (c : Thread nD τ) scM0_2 fullShare (stAt m c n hn).2.2.1 ∗ owns (c : Thread nD τ) scM0_3 fullShare (stAt m c n hn).2.2.2) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ owns (c : Thread nD τ) scM0_2 fullShare (stAt m c (n - 1) (by omega)).2.2.1 ∗ owns (c : Thread nD τ) scM0_3 fullShare (stAt m c (n - 1) (by omega)).2.2.2) ∗ (∃ r, prngReg c r)) := by
  cases n with
  | zero => exact absurd rfl hz
  | succ n => rfl

/-- The invariant, its contents forgotten. -/
theorem PhiS_weak (c : Dev nD) (n : ℕ) (h : n ≤ cfg0.N) : PhiS m c n h ⊢ Pipeline.ΦA spec0 c := by
  cases n with
  | zero => exact Idealize.SL.BI.Entails.refl _
  | succ n =>
    rw [PhiS_succ, PhiA_eq]
    iintro ⟨⟨H13, H14, H15, H16⟩, Hg⟩
    isplitl [H13 H14 H15 H16]
    · isplitl [H13]; · iexact H13
      isplitl [H14]; · iexact H14
      isplitl [H15]; · iexists _; iexact H15
      iexists _; iexact H16
    iexact Hg

/-- The pipeline's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqOf (stAt m c t.val t.isLt)
    | ⟨8, _⟩ => k0_pay1 (stAt m c t.val t.isLt).2.2.1
    | ⟨9, _⟩ => k0_pay2 (stAt m c t.val t.isLt).2.2.2
    | ⟨10, _⟩ => (stAt m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = dqOf (stAt m c t.val t.isLt) := by dsimp only [dats]
theorem after_8 (c : Dev nD) (t : Fin cfg0.N) : (dats m 0 c).after 8 t = k0_pay1 (stAt m c t.val t.isLt).2.2.1 := by dsimp only [dats]
theorem after_9 (c : Dev nD) (t : Fin cfg0.N) : (dats m 0 c).after 9 t = k0_pay2 (stAt m c t.val t.isLt).2.2.2 := by dsimp only [dats]
theorem after_10 (c : Dev nD) (t : Fin cfg0.N) : (dats m 0 c).after 10 t = (stAt m c t.val t.isLt).2.1 := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d

/-- df is kept in its window from one point of a pair to the next. -/
theorem carry_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := fun t _ hi _ => absurd (hi : false = true) Bool.false_ne_true
theorem before_10 (c : Dev nD) (t : Fin cfg0.N) (h : ¬t.val % 4 = 0) (d) :
    (dats m 0 c).before 10 t d = (stAt m c (t.val - 1) (Nat.lt_of_le_of_lt (Nat.sub_le _ _) t.isLt)).2.1 := by
  rw [Dat.before_out_traj _ 10 rfl (fun _ _ => rfl) (carry_10 m c) t.val t rfl d,
    if_neg (by rw [fresh_10 t, beq_eq_false_iff_ne.mpr h]; exact Bool.false_ne_true)]
  dsimp only [dats]

/-- What a point's body is given, and what it gives back. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The same with the invariant's contents forgotten. -/
def bodyPreA (c : Dev nD) (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
theorem bodyPre_weak (c : Dev nD) (t : Fin cfg0.N) : bodyPre m c t ⊢ bodyPreA m c t := by
  unfold bodyPre bodyPreA
  rw [PhiS_castSucc m c t]
  exact sep_mono_l (PhiS_weak m c _ _)

/-- A window written at every point is left at its contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 2000000 in
/-- The body at a first point of a pair. -/
theorem sound_A (c : Dev nD) (t : Fin cfg0.N) (h0 : t.val % 4 = 0) (h1 : ¬t.val % 4 = 3) :
    bodyPre m c t ⊢ wp frame (wpE (defs₀ (F := F)) Variants.none c none) Set.univ (bodyAt0 t) (fun _ => bodyPost m c t) := by
  refine (bodyPre_weak m c t).trans ?_
  unfold bodyPreA bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [Dat.leavesExact_idle (dats m 0 c) 8 t (idleAt_8 t h1) (noFlush_8 t h1)]
  rw [Dat.leavesExact_idle (dats m 0 c) 9 t (idleAt_9 t h1) (noFlush_9 t h1)]
  rw [leaves_live m c 10 t rfl, after_10]
  rw [stAt_first m c t h0, PhiA_eq]
  iintro ⟨⟨⟨⟨%e13, H13⟩, ⟨%e14, H14⟩, H15, H16⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((cond0_iff t).mpr h0) (fun h => h1 ((cond1_iff t).mp h)) (iblk m c 0 t) (iblk m c 1 t) (iblk m c 2 t) (iblk m c 3 t) (iblk m c 4 t) (iblk m c 5 t) (iblk m c 6 t) e13 e14).2.2.2.2 _ _ Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexists _; iexact H12
  isplitl [H13]; · iexact H13
  isplitl [H14]; · iexact H14
  isplitl [H15]; · iexact H15
  isplitl [H16]; · iexact H16
  iintro ⟨H2, H3, H4, H5, H6, H7, H8, ⟨%f9, H9⟩, H10, H11, ⟨%f12, H12⟩, H13, H14, ⟨%f15, H15⟩, ⟨%f16, H16⟩⟩
  have hp := ptA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((cond0_iff t).mpr h0) (fun h => h1 ((cond1_iff t).mp h)) (iblk m c 0 t) (iblk m c 1 t) (iblk m c 2 t) (iblk m c 3 t) (iblk m c 4 t) (iblk m c 5 t) (iblk m c 6 t) e13 e14
  isplitl [H13 H14 H15 H16 Hg]
  · isplitl [H13 H14 H15 H16]
    · isplitl [H13]; · iexact H13
      isplitl [H14]; · iexact H14
      isplitl [H15]
      · unfold owns; iexists _; isplitr
        swap; · iexact H15
        ipureintro; exact hp.2.2.1 f15
      unfold owns; iexists _; isplitr
      swap; · iexact H16
      ipureintro; exact hp.2.2.2 f16
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact hp.1 f9
  isplitl [H10]; · iexists _; iexact H10
  isplitl [H11]; · iexists _; iexact H11
  unfold owns; iexists _; isplitr
  swap; · iexact H12
  ipureintro; exact hp.2.1 f12

set_option maxHeartbeats 2000000 in
/-- The body at a middle point of a pair. -/
theorem sound_B (c : Dev nD) (t : Fin cfg0.N) (h0 : ¬t.val % 4 = 0) (h1 : ¬t.val % 4 = 3) :
    bodyPre m c t ⊢ wp frame (wpE (defs₀ (F := F)) Variants.none c none) Set.univ (bodyAt0 t) (fun _ => bodyPost m c t) := by

  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [Dat.leavesExact_idle (dats m 0 c) 8 t (idleAt_8 t h1) (noFlush_8 t h1)]
  rw [Dat.leavesExact_idle (dats m 0 c) 9 t (idleAt_9 t h1) (noFlush_9 t h1)]
  rw [leaves_live m c 10 t rfl, after_10]
  have hz : t.val ≠ 0 := fun e => h0 (by omega)
  simp only [before_10 m c t h0]
  rw [PhiS_castSucc m c t, PhiS_pos m c _ _ hz, stAt_next m c t h0]
  iintro ⟨⟨⟨⟨%e13, H13⟩, ⟨%e14, H14⟩, H15, H16⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((cond0_iff t).mp h)) (fun h => h1 ((cond1_iff t).mp h)) (iblk m c 0 t) (iblk m c 1 t) (iblk m c 2 t) (iblk m c 3 t) (iblk m c 4 t) (iblk m c 5 t) (iblk m c 6 t) (stAt m c (t.val - 1) (Nat.lt_of_le_of_lt (Nat.sub_le _ _) t.isLt)).2.1 e13 e14 (stAt m c (t.val - 1) (Nat.lt_of_le_of_lt (Nat.sub_le _ _) t.isLt)).2.2.1 (stAt m c (t.val - 1) (Nat.lt_of_le_of_lt (Nat.sub_le _ _) t.isLt)).2.2.2).2.2.2.2 _ _ Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, ⟨%f9, H9⟩, H10, H11, H12, H13, H14, H15, H16⟩
  have hp := ptB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((cond0_iff t).mp h)) (fun h => h1 ((cond1_iff t).mp h)) (iblk m c 0 t) (iblk m c 1 t) (iblk m c 2 t) (iblk m c 3 t) (iblk m c 4 t) (iblk m c 5 t) (iblk m c 6 t) (stAt m c (t.val - 1) (Nat.lt_of_le_of_lt (Nat.sub_le _ _) t.isLt)).2.1 e13 e14 (stAt m c (t.val - 1) (Nat.lt_of_le_of_lt (Nat.sub_le _ _) t.isLt)).2.2.1 (stAt m c (t.val - 1) (Nat.lt_of_le_of_lt (Nat.sub_le _ _) t.isLt)).2.2.2
  isplitl [H13 H14 H15 H16 Hg]
  · isplitl [H13 H14 H15 H16]
    · isplitl [H13]; · iexact H13
      isplitl [H14]; · iexact H14
      isplitl [H15]
      · unfold owns; iexists _; isplitr
        swap; · iexact H15
        ipureintro; exact hp.2.2.1
      unfold owns; iexists _; isplitr
      swap; · iexact H16
      ipureintro; exact hp.2.2.2
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact hp.1 f9
  isplitl [H10]; · iexists _; iexact H10
  isplitl [H11]; · iexists _; iexact H11
  unfold owns; iexists _; isplitr
  swap; · iexact H12
  ipureintro; exact hp.2.1

set_option maxHeartbeats 2000000 in
/-- The body at a last point of a pair. -/
theorem sound_C (c : Dev nD) (t : Fin cfg0.N) (h0 : ¬t.val % 4 = 0) (h1 : t.val % 4 = 3) :
    bodyPre m c t ⊢ wp frame (wpE (defs₀ (F := F)) Variants.none c none) Set.univ (bodyAt0 t) (fun _ => bodyPost m c t) := by

  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t (liveAt_8 t h1), after_8]
  rw [leaves_live m c 9 t (liveAt_9 t h1), after_9]
  rw [leaves_live m c 10 t rfl, after_10]
  have hz : t.val ≠ 0 := fun e => h0 (by omega)
  simp only [before_10 m c t h0]
  rw [PhiS_castSucc m c t, PhiS_pos m c _ _ hz, stAt_next m c t h0]
  iintro ⟨⟨⟨⟨%e13, H13⟩, ⟨%e14, H14⟩, H15, H16⟩, Hg⟩, Ho, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩⟩
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((cond0_iff t).mp h)) ((cond1_iff t).mpr h1) (iblk m c 0 t) (iblk m c 1 t) (iblk m c 2 t) (iblk m c 3 t) (iblk m c 4 t) (iblk m c 5 t) (iblk m c 6 t) (stAt m c (t.val - 1) (Nat.lt_of_le_of_lt (Nat.sub_le _ _) t.isLt)).2.1 e13 e14 (stAt m c (t.val - 1) (Nat.lt_of_le_of_lt (Nat.sub_le _ _) t.isLt)).2.2.1 (stAt m c (t.val - 1) (Nat.lt_of_le_of_lt (Nat.sub_le _ _) t.isLt)).2.2.2).2.2.2.2.2.2 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [H13]; · iexact H13
  isplitl [H14]; · iexact H14
  isplitl [H15]; · iexact H15
  isplitl [H16]; · iexact H16
  iintro ⟨H2, H3, H4, H5, H6, H7, H8, ⟨%f9, H9⟩, ⟨%f10, H10⟩, ⟨%f11, H11⟩, H12, H13, H14, H15, H16⟩
  have hp := ptC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((cond0_iff t).mp h)) ((cond1_iff t).mpr h1) (iblk m c 0 t) (iblk m c 1 t) (iblk m c 2 t) (iblk m c 3 t) (iblk m c 4 t) (iblk m c 5 t) (iblk m c 6 t) (stAt m c (t.val - 1) (Nat.lt_of_le_of_lt (Nat.sub_le _ _) t.isLt)).2.1 e13 e14 (stAt m c (t.val - 1) (Nat.lt_of_le_of_lt (Nat.sub_le _ _) t.isLt)).2.2.1 (stAt m c (t.val - 1) (Nat.lt_of_le_of_lt (Nat.sub_le _ _) t.isLt)).2.2.2
  isplitl [H13 H14 H15 H16 Hg]
  · isplitl [H13 H14 H15 H16]
    · isplitl [H13]; · iexact H13
      isplitl [H14]; · iexact H14
      isplitl [H15]
      · unfold owns; iexists _; isplitr
        swap; · iexact H15
        ipureintro; exact hp.2.2.1
      unfold owns; iexists _; isplitr
      swap; · iexact H16
      ipureintro; exact hp.2.2.2.1
    iexact Hg
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact hp.1 f9
  isplitl [H10]
  · unfold owns; iexists _; isplitr
    swap; · iexact H10
    ipureintro; exact hp.2.2.2.2.1 f10
  isplitl [H11]
  · unfold owns; iexists _; isplitr
    swap; · iexact H11
    ipureintro; exact hp.2.2.2.2.2 f11
  unfold owns; iexists _; isplitr
  swap; · iexact H12
  ipureintro; exact hp.2.1

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_A m c t h0 (by omega)
  · by_cases h1 : t.val % 4 = 3
    · exact sound_C m c t h0 h1
    · exact sound_B m c t h0 h1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) defs₀ Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_weak m c _ _

set_option backward.isDefEq.respectTransparency.types false in
/-- The run: every array at what the points leave, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments stay as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelFoxIdeal.Gen

end
-- ==== Proof.FoxBoth.lean ====
module

public import proofs.«01_k».proof.Proof.FoxFrame
public import proofs.«01_k».proof.Defs
public import proofs.«01_k».proof.Proof.Gen.KernelFox

@[expose] public section

set_option maxRecDepth 16384

noncomputable section

open Idealize.ShloMosaic.Tactic
open Idealize.ShloMosaic Idealize.ShloMosaic.TcCoe Idealize.SL.Sem

namespace Cert.FoxFrames

theorem defs_eq : (Cert.KernelFox.defs (F := Bits)) = (Cert.KernelFoxIdeal.defs (F := Bits)) := by sl_kernel_rfl
theorem main_eq : (Cert.KernelFox.main (F := Bits)) = (Cert.KernelFoxIdeal.main (F := Bits)) := by sl_kernel_rfl

/-- The frame of the program at machine values: its text is the idealised one's. -/
theorem kernel : Cert.quiescent_KernelFox := fun m ρ _ => by
  rw [defs_eq, main_eq]
  exact Cert.KernelFoxIdeal.Gen.frame (F := Bits) m ρ

end Cert.FoxFrames

end
-- ==== Proof.FoxfwdFrame.lean ====
module

public import proofs.«01_k».proof.Proof.Gen.KernelFoxfwdIdeal.Frame.RunA
public import Idealize.ShloMosaic.Lib.Claim

@[expose] public section

set_option maxRecDepth 16384

noncomputable section

open Idealize.ShloMosaic Idealize.ShloMosaic.TcCoe Idealize.SL.Sem

namespace Cert.KernelFoxfwdIdeal.Gen
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What a point's stores leave in the attention's block, and in the row statistics'. -/
@[irreducible] def outP (c : Dev nD) (t : Fin cfg0.N) : List (View.Piece (Elt F) S512x128 .bf16) := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).1
@[irreducible] def statP (c : Dev nD) (t : Fin cfg0.N) : List (View.Piece (Elt F) S2x512x128 .f32) := (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).2.1

/-- The blocks of the inputs, which a point is given and gives back. -/
def blocksAt (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t))
/-- The blocks of the outputs, with a point's stores. -/
def storedAt (c : Dev nD) (t : Fin cfg0.N) : sProp 𝕄 :=
  iprop((∃ f, (ms0_5 t).view.loc (c : Thread nD τ) ↦[(ms0_5 t).view.set]{fullShare} (ms0_5 t).view.writes (Elt F) f (outP m c t))
    ∗ (∃ f, (ms0_6 t).view.loc (c : Thread nD τ) ↦[(ms0_6 t).view.set]{fullShare} (ms0_6 t).view.writes (Elt F) f (statP m c t)))

set_option maxHeartbeats 4000000 in
/-- A point's body, from its blocks to its stores. -/
theorem run_at (c : Dev nD) (t : Fin cfg0.N) (K : PUnit → sProp 𝕄) :
    iprop(blocksAt m c t ∗ (∃ d, owns (c : Thread nD τ) (ms0_5 t) fullShare d) ∗ (∃ d, owns (c : Thread nD τ) (ms0_6 t) fullShare d) ∗ (iprop(blocksAt m c t ∗ storedAt m c t) -∗ K ⟨⟩))
      ⊢ wp frame (wpE (defs₀ (F := F)) Variants.none c none) Set.univ (bodyAt0 t) K := by
  unfold blocksAt storedAt outP statP bodyAt0
  iintro ⟨⟨H0, H1, H2, H3, H4⟩, H5, H6, Hk⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  iapply Hk
  isplitl [H0 H1 H2 H3 H4]
  · isplitl [H0]; · iexact H0
    isplitl [H1]; · iexact H1
    isplitl [H2]; · iexact H2
    isplitl [H3]; · iexact H3
    iexact H4
  isplitl [H5]; · iexact H5
  iexact H6

/-- A point's stores cover its blocks. -/
theorem out_cover (c : Dev nD) (t : Fin cfg0.N) (y : S512x128.Idx) : ∃ pc ∈ outP m c t, y ∈ pc.1.set := by
  unfold outP
  exact View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).1 S512x128.size (by sl_kernel_rfl) y
set_option maxHeartbeats 4000000 in
theorem stat_cover (c : Dev nD) (t : Fin cfg0.N) (y : S2x512x128.Idx) : ∃ pc ∈ statP m c t, y ∈ pc.1.set := by
  unfold statP
  exact View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).2.1 S1x512x128.size (by sl_kernel_rfl) y

/-- What a point leaves in its blocks. -/
def outAt (c : Dev nD) (t : Fin cfg0.N) : Vec F S512x128 .bf16 := VO0_5.read (Elt F) (VO0_5.writes (Elt F) VO0_5.junk (outP m c t))
def statAt (c : Dev nD) (t : Fin cfg0.N) : Vec F S2x512x128 .f32 := VO0_6.read (Elt F) (VO0_6.writes (Elt F) VO0_6.junk (statP m c t))

/-- The pipeline's contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => statAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem after_6 (c : Dev nD) (t : Fin cfg0.N) : (dats m 0 c).after 6 t = statAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- The contract of a point's body. -/
theorem sound_body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d)))
      ⊢ wp frame (wpE (defs₀ (F := F)) Variants.none c none) Set.univ (bodyAt0 t) (fun _ =>
        iprop((dats m 0 c).Φ t.castSucc ∗ (dats m 0 c).owesAt () t.castSucc
        ∗ owns (c : Thread nD τ) (ms0_0 t) fullShare ((dats m 0 c).after 0 t)
        ∗ owns (c : Thread nD τ) (ms0_1 t) fullShare ((dats m 0 c).after 1 t)
        ∗ owns (c : Thread nD τ) (ms0_2 t) fullShare ((dats m 0 c).after 2 t)
        ∗ owns (c : Thread nD τ) (ms0_3 t) fullShare ((dats m 0 c).after 3 t)
        ∗ owns (c : Thread nD τ) (ms0_4 t) fullShare ((dats m 0 c).after 4 t)
        ∗ owns (c : Thread nD τ) (ms0_5 t) fullShare ((dats m 0 c).after 5 t)
        ∗ owns (c : Thread nD τ) (ms0_6 t) fullShare ((dats m 0 c).after 6 t))) := by
  simp only [before_0, before_1, before_2, before_3, before_4, after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_at m c t _)
  unfold blocksAt storedAt
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [H6]; · iexists _; iexact H6
  iintro ⟨⟨H0, H1, H2, H3, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (out_cover m c t)
  unfold owns; iexists _; isplitr
  swap; · iexact H6
  ipureintro; exact View.read_writes_of_cover _ _ _ _ _ (stat_cover m c t)

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run: its arrays end at the contents above. -/
theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiet m ρ))

end Cert.KernelFoxfwdIdeal.Gen

end
-- ==== Proof.FoxfwdBoth.lean ====
module

public import proofs.«01_k».proof.Proof.FoxfwdFrame
public import proofs.«01_k».proof.Defs
public import proofs.«01_k».proof.Proof.Gen.KernelFoxfwd

@[expose] public section

set_option maxRecDepth 16384

noncomputable section

open Idealize.ShloMosaic Idealize.ShloMosaic.TcCoe Idealize.SL.Sem

open Idealize.ShloMosaic.Tactic
open Idealize.ShloMosaic Idealize.ShloMosaic.TcCoe Idealize.SL.Sem

namespace Cert.FoxfwdFrames

/-- At machine values the mask's constant is its bits. -/
abbrev bits : Named Bits := ⟨fun _ _ {φ} b => Scalar.ofBits (F := Bits) φ b⟩
attribute [local instance] bits

theorem defs_eq : (Cert.KernelFoxfwd.defs (F := Bits)) = (Cert.KernelFoxfwdIdeal.defs (F := Bits)) := by sl_kernel_rfl
theorem main_eq : (Cert.KernelFoxfwd.main (F := Bits)) = (Cert.KernelFoxfwdIdeal.main (F := Bits)) := by sl_kernel_rfl

/-- The frame of the program at machine values: its text is the idealised one's. -/
theorem kernel : Cert.quiescent_KernelFoxfwd := fun m ρ _ => by
  rw [defs_eq, main_eq]
  exact Cert.KernelFoxfwdIdeal.Gen.frame (F := Bits) m ρ

end Cert.FoxfwdFrames

end
-- ==== Proof.Finite.lean ====
module

public import Idealize.ShloMosaic.Lib.ReduceAll
public import Idealize.ShloMosaic.PureOps.Ideal.Laws
public import Mathlib.Data.EReal.Operations

@[expose] public section

/-! Finite arrays of extended reals: what the precondition says of an argument, and arithmetic carried out over the reals. -/

namespace Cert.Finite

open Idealize.ShloMosaic

/-- The element is a real number. -/
def Fin1 (x : EReal) : Prop := ∃ r : ℝ, x = (r : EReal)

/-- Every element of the array is a real number. -/
def All {s : Shape} {φ : FTy} (x : FVec Ideal s φ) : Prop := ∀ i, Fin1 (x i)

theorem real (r : ℝ) : Fin1 (r : EReal) := ⟨r, rfl⟩

/-- An extended real whose absolute value is below infinity is a real number. -/
theorem of_abs_lt {x : EReal} (h : max x (-x) < ⊤) : Fin1 x := by
  induction x with
  | bot => simp at h
  | coe r => exact ⟨r, rfl⟩
  | top => simp at h

/-- `jnp.all(jnp.abs(x) < jnp.inf)` as it prints: every element of `x` is a real number. -/
theorem of_all {s u : Shape} {axes : List (Fin s.rank)} {t : Shape} [Subsingleton t.Idx] (x : FVec Ideal s .f32)
    (dims : Fin u.rank → Fin s.rank) (hb : u.BroadcastsInDim s dims) {v : Shape} (init : v.Idx → BitVec 1)
    (h : s.ReducesTo axes t) (hu : 0 < v.numel) (j : t.Idx)
    (e : Host.reduce IntOp.andi (cmpf .olt (Host.absf x) (broadcastInDim s dims hb (constant u .f32 0x7F800000#32))) init h hu j = 1#1) :
    All x := by
  intro i
  have := Host.reduce_andi_all _ _ _ _ j e i
  apply of_abs_lt
  change Ideal.cmp .olt (max (x i) (-x i)) (Ideal.ofBits .f32 0x7F800000#32) = 1#1 at this
  have hT : Ideal.ofBits .f32 0x7F800000#32 = ⊤ := by simp [Ideal.ofBits, Ideal.ieee]
  rw [hT] at this
  by_contra hn
  rw [Ideal.cmp, decide_eq_false hn] at this
  exact absurd this (by decide)

/-- The conjunction of two bits is one exactly when both are. -/
theorem and_one {a b : BitVec 1} (h : IntOp.andi a b = 1#1) : a = 1#1 ∧ b = 1#1 := by
  revert h; revert a b; decide

/-- A finite array is an array of reals. -/
theorem All.lift {s : Shape} {φ : FTy} {x : FVec Ideal s φ} (h : All x) : ∃ X : s.Idx → ℝ, x = fun i => (X i : EReal) :=
  ⟨fun i => (h i).choose, funext fun i => (h i).choose_spec⟩

/-- A finite sum of reals, summed as extended reals. -/
@[norm_cast] theorem coe_sum {ι : Type} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- The quotient of two reals, the divisor not zero. -/
theorem div_real {x y : ℝ} (h : y ≠ 0) : Ideal.div (x : EReal) (y : EReal) = ((x / y : ℝ) : EReal) := by
  rw [Ideal.div_coe h, ← EReal.coe_mul]; congr 1; ring

/-- The logistic function of a real. -/
noncomputable def sgm (x : ℝ) : ℝ := 1 / (1 + Real.exp (-x))

theorem sig_den_pos (x : ℝ) : 0 < 1 + Real.exp (-x) := by positivity

theorem sig_coe (x : ℝ) : Ideal.div 1 (1 + Ideal.exp (-(x : EReal))) = ((sgm x : ℝ) : EReal) := by
  rw [← EReal.coe_neg, Ideal.exp_coe, ← EReal.coe_one, ← EReal.coe_add, div_real (sig_den_pos x).ne']; rfl

/-- The same with the sign taken by a subtraction from zero. -/
theorem sig_coe' (x : ℝ) : Ideal.div 1 (1 + Ideal.exp (0 - (x : EReal))) = ((sgm x : ℝ) : EReal) := by
  rw [zero_sub, sig_coe]

end Cert.Finite
-- ==== Proof.Swiglu.lean ====
module

public import proofs.«01_k».proof.Proof.Gen.KernelSwigluIdeal.Frame
public import proofs.«01_k».proof.Proof.Gen.ReferenceSwigluIdeal.Read
public import proofs.«01_k».proof.Proof.Gen.Pre_finite_swiglu
public import proofs.«01_k».proof.Proof.Finite
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open Idealize.ShloMosaic.Pipeline (Dat)

namespace Cert.KernelSwigluIdeal.Grad
open Cert.KernelSwigluIdeal Cert.KernelSwigluIdeal.Gen Cert.Finite

abbrev R0 := Cert.ReferenceSwigluIdeal.S2048x1024
abbrev R1 := Cert.ReferenceSwigluIdeal.S2816x1024
abbrev R2 := Cert.ReferenceSwigluIdeal.S2048x5632

/-- The cotangent of the gated product, over the reals. -/
def dact (x0 : R0.Idx → ℝ) (x1 : R1.Idx → ℝ) (a : Fin 2048) (b : Fin 2816) : ℝ := ∑ x : Fin 1024, x0 (ix2 a x) * x1 (ix2 b x)

/-- The gradient of the second half of the projection. -/
def dup (x0 : R0.Idx → ℝ) (x1 : R1.Idx → ℝ) (x2 : R2.Idx → ℝ) (a : Fin 2048) (b : Fin 2816) : ℝ :=
  dact x0 x1 a b * x2 (ix2 a ⟨b.val, by omega⟩) * sgm (x2 (ix2 a ⟨b.val, by omega⟩))

/-- The gradient of the first half, the gate. -/
def dgate (x0 : R0.Idx → ℝ) (x1 : R1.Idx → ℝ) (x2 : R2.Idx → ℝ) (a : Fin 2048) (b : Fin 2816) : ℝ :=
  dact x0 x1 a b * x2 (ix2 a ⟨2816 + b.val, by omega⟩) * sgm (x2 (ix2 a ⟨b.val, by omega⟩)) * (1 + x2 (ix2 a ⟨b.val, by omega⟩) * (1 - sgm (x2 (ix2 a ⟨b.val, by omega⟩))))

/-- The gate's half of a row block of the kernel, at an index, over the reals. -/
theorem pay4_at (v0 : S256x1024.Idx → ℝ) (v2 : S2816x1024.Idx → ℝ) (v5 v8 : S256x2816.Idx → ℝ) (i : S256x2816.Idx) :
    k0_pay4 (F := Ideal) (fun i => (v0 i : EReal)) (fun i => (v2 i : EReal)) (fun i => (v5 i : EReal)) (fun i => (v8 i : EReal)) i
      = (((∑ x : Fin 1024, v0 (ix2 (i 0) x) * v2 (ix2 (i 1) x)) * v8 i * sgm (v5 i) * (1 + v5 i * (1 - sgm (v5 i))) : ℝ) : EReal) := by
  pointwise [k0_pay4, k0_pay1, k0_pay2, k0_pay3]
  rw [sig_coe']
  norm_cast

/-- The other half. -/
theorem pay5_at (v0 : S256x1024.Idx → ℝ) (v2 : S2816x1024.Idx → ℝ) (v5 : S256x2816.Idx → ℝ) (i : S256x2816.Idx) :
    k0_pay5 (F := Ideal) (fun i => (v0 i : EReal)) (fun i => (v2 i : EReal)) (fun i => (v5 i : EReal)) i
      = (((∑ x : Fin 1024, v0 (ix2 (i 0) x) * v2 (ix2 (i 1) x)) * v5 i * sgm (v5 i) : ℝ) : EReal) := by
  pointwise [k0_pay5, k0_pay1, k0_pay2, k0_pay3]
  rw [sig_coe']
  norm_cast

/-- The reference at a column of the gate's half. -/
theorem ref_gate (x0 : R0.Idx → ℝ) (x1 : R1.Idx → ℝ) (x2 : R2.Idx → ℝ) (a : Fin 2048) (b : Fin 5632) (h : b.val < 2816) :
    Cert.ReferenceSwigluIdeal.Read.val_main_v10 (F := Ideal) (fun i => (x0 i : EReal)) (fun i => (x1 i : EReal)) (fun i => (x2 i : EReal)) (ix2 a b)
      = ((dgate x0 x1 x2 a ⟨b.val, h⟩ : ℝ) : EReal) := by
  rw [← Cert.ReferenceSwigluIdeal.Read.val_main_v10_eq]
  pointwise
  rw [dif_pos h, sig_coe]
  norm_cast
  congr 1
  unfold dgate dact
  ring

/-- The reference at a column of the other half. -/
theorem ref_up (x0 : R0.Idx → ℝ) (x1 : R1.Idx → ℝ) (x2 : R2.Idx → ℝ) (a : Fin 2048) (b : Fin 5632) (h : ¬ b.val < 2816) :
    Cert.ReferenceSwigluIdeal.Read.val_main_v10 (F := Ideal) (fun i => (x0 i : EReal)) (fun i => (x1 i : EReal)) (fun i => (x2 i : EReal)) (ix2 a b)
      = ((dup x0 x1 x2 a ⟨b.val - 2816, by omega⟩ : ℝ) : EReal) := by
  rw [← Cert.ReferenceSwigluIdeal.Read.val_main_v10_eq]
  pointwise
  rw [dif_neg h, sig_coe]
  norm_cast
  congr 1
  unfold dup dact
  ring

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] := (by decide +kernel : ∀ t : Fin grid0.N, _)

section Blocks

variable (c : Dev nD) (t : Fin cfg0.N)
    (X0 : S2048x1024.Idx → ℝ) (e0 : m ((c : Thread nD τ).loc main_arg0) = fun i => (X0 i : EReal))
    (X1 : S2816x1024.Idx → ℝ) (e1 : m ((c : Thread nD τ).loc main_arg1) = fun i => (X1 i : EReal))
    (X2 : S2048x5632.Idx → ℝ) (e2 : m ((c : Thread nD τ).loc main_arg2) = fun i => (X2 i : EReal))

theorem t_lt (t : Fin cfg0.N) : t.val < 8 := t.isLt

include e0 in
theorem ld0 : View.ld (iblk m c 0 t) r0_0 = fun i : S256x1024.Idx =>
    ((X0 (ix2 ⟨t.val * 256 + (i 0).val, by have := t_lt t; have : (i 0).val < 256 := (i 0).isLt; omega⟩ (i 1)) : ℝ) : EReal) := by
  funext i
  refine Eq.trans (b := m ((c : Thread nD τ).loc main_arg0) _) ?_ (congrFun e0 _)
  blk_point [iblk, V, idx t]

include e1 in
theorem ld1 : View.ld (iblk m c 1 t) r0_1 = fun i : S2816x1024.Idx => ((X1 i : ℝ) : EReal) := by
  funext i
  refine Eq.trans (b := m ((c : Thread nD τ).loc main_arg1) _) ?_ (congrFun e1 _)
  blk_point [iblk, V, idx t]

theorem V2 : V m c main_v1 = fun j : S2048x2816.Idx => m ((c : Thread nD τ).loc main_arg2) (ix2 (j 0) ⟨0 + (j 1).val, by have : (j 1).val < 2816 := (j 1).isLt; omega⟩) := by
  refine Eq.trans (b := extractStridedSlice S2048x2816 ![0, 0] (truncf (F := Ideal) (s := S2048x5632) .bf16 (m ((c : Thread nD τ).loc main_arg2)) bitsLt_bf16_f32) slices_S2048x5632_S2048x2816_0_0) rfl ?_
  funext j
  pointwise
  blk_ext

include e2 in
theorem ld2 : View.ld (iblk m c 2 t) r0_2 = fun i : S256x2816.Idx =>
    ((X2 (ix2 ⟨t.val * 256 + (i 0).val, by have := t_lt t; have : (i 0).val < 256 := (i 0).isLt; omega⟩ ⟨(i 1).val, by have : (i 1).val < 2816 := (i 1).isLt; omega⟩) : ℝ) : EReal) := by
  funext i
  refine Eq.trans (b := m ((c : Thread nD τ).loc main_arg2) _) ?_ (congrFun e2 _)
  refine Eq.trans (b := V m c main_v1 (ix2 ⟨t.val * 256 + (i 0).val, by have := t_lt t; have : (i 0).val < 256 := (i 0).isLt; omega⟩ (i 1))) ?_ ?_
  · refine (congrFun (View.ld_unit_zero (S := S256x2816) (off := ![0, 0]) (by funext a; fin_cases a <;> rfl) _ _) i).trans ?_
    exact congrArg (V m c main_v1) (by blk_ext [idx t])
  · rw [V2]; blk_ext

theorem V3 : V m c main_v2 = fun j : S2048x2816.Idx => m ((c : Thread nD τ).loc main_arg2) (ix2 (j 0) ⟨2816 + (j 1).val, by have : (j 1).val < 2816 := (j 1).isLt; omega⟩) := by
  refine Eq.trans (b := extractStridedSlice S2048x2816 ![0, 2816] (truncf (F := Ideal) (s := S2048x5632) .bf16 (m ((c : Thread nD τ).loc main_arg2)) bitsLt_bf16_f32) slices_S2048x5632_S2048x2816_0_2816) rfl ?_
  funext j
  pointwise
  blk_ext

include e2 in
theorem ld3 : View.ld (iblk m c 3 t) r0_2 = fun i : S256x2816.Idx =>
    ((X2 (ix2 ⟨t.val * 256 + (i 0).val, by have := t_lt t; have : (i 0).val < 256 := (i 0).isLt; omega⟩ ⟨2816 + (i 1).val, by have : (i 1).val < 2816 := (i 1).isLt; omega⟩) : ℝ) : EReal) := by
  funext i
  refine Eq.trans (b := m ((c : Thread nD τ).loc main_arg2) _) ?_ (congrFun e2 _)
  refine Eq.trans (b := V m c main_v2 (ix2 ⟨t.val * 256 + (i 0).val, by have := t_lt t; have : (i 0).val < 256 := (i 0).isLt; omega⟩ (i 1))) ?_ ?_
  · refine (congrFun (View.ld_unit_zero (S := S256x2816) (off := ![0, 0]) (by funext a; fin_cases a <;> rfl) _ _) i).trans ?_
    exact congrArg (V m c main_v2) (by blk_ext [idx t])
  · rw [V3]; blk_ext

/-- The row of the whole array that is row `a` of block `t`. -/
abbrev row (a : Fin 256) : Fin 2048 := ⟨t.val * 256 + a.val, by have := t_lt t; omega⟩

include e0 e1 e2 in
theorem blk5 (x : S256x2816.Idx) : k0_pay5 (View.ld (iblk m c 0 t) r0_0) (View.ld (iblk m c 1 t) r0_1) (View.ld (iblk m c 2 t) r0_2) x
    = ((dup X0 X1 X2 (row t (x 0)) (x 1) : ℝ) : EReal) := by
  rw [ld0 m c t X0 e0, ld1 m c t X1 e1, ld2 m c t X2 e2, pay5_at]
  rfl

include e0 e1 e2 in
theorem blk4 (x : S256x2816.Idx) : k0_pay4 (View.ld (iblk m c 0 t) r0_0) (View.ld (iblk m c 1 t) r0_1) (View.ld (iblk m c 2 t) r0_2) (View.ld (iblk m c 3 t) r0_2) x
    = ((dgate X0 X1 X2 (row t (x 0)) (x 1) : ℝ) : EReal) := by
  rw [ld0 m c t X0 e0, ld1 m c t X1 e1, ld2 m c t X2 e2, ld3 m c t X2 e2, pay4_at]
  rfl

include e0 e1 e2 in
theorem point (y : S256x5632.Idx) :
    out0_4 (iblk m c 0 t) (iblk m c 1 t) (iblk m c 2 t) (iblk m c 3 t) y
      = Cert.ReferenceSwigluIdeal.Read.val_main_v10 (F := Ideal) (fun i => (X0 i : EReal)) (fun i => (X1 i : EReal)) (fun i => (X2 i : EReal))
        (((cfg0.win 4).blk t).view.emb y) := by
  have he : ((cfg0.win 4).blk t).view.emb y = ix2 (row t (y 0)) (⟨(y 1 : ℕ), (y 1).isLt⟩ : Fin 5632) := by blk_ext [idx t]
  canon_tiles x h
  · refine (blk5 m c t X0 e0 X1 e1 X2 e2 x).trans (Eq.trans ?_ ((congrArg (Cert.ReferenceSwigluIdeal.Read.val_main_v10 (F := Ideal) _ _ _) he).trans (ref_up X0 X1 X2 _ _ (by simp only [h1]; omega))).symm)
    exact congrArg₂ (fun a b => ((dup X0 X1 X2 a b : ℝ) : EReal)) (Fin.ext (by simp only [h0])) (Fin.ext (by simp only [h1]; omega))
  · refine (blk4 m c t X0 e0 X1 e1 X2 e2 x).trans (Eq.trans ?_ ((congrArg (Cert.ReferenceSwigluIdeal.Read.val_main_v10 (F := Ideal) _ _ _) he).trans (ref_gate X0 X1 X2 _ _ (by simp only [h1]; omega))).symm)
    exact congrArg₂ (fun a b => ((dgate X0 X1 X2 a b : ℝ) : EReal)) (Fin.ext (by simp only [h0])) (Fin.ext (by simp only [h1]))

include e0 e1 e2 in
/-- The kernel's result is the reference's. -/
theorem final : (dats m 0 c).arrAt 4 (cfgs 0).N
    = Cert.ReferenceSwigluIdeal.Read.val_main_v10 (F := Ideal) (m ((c : Thread nD τ).loc main_arg0)) (m ((c : Thread nD τ).loc main_arg1)) (m ((c : Thread nD τ).loc main_arg2)) := by
  rw [e0, e1, e2]
  refine (dats m 0 c).arrAt_eq_of_covers 4 _ (by decide +kernel) fun t _ y => ?_
  blk_simp; rw [after0_4]; exact point m c t X0 e0 X1 e1 X2 e2 y

end Blocks

end Cert.KernelSwigluIdeal.Grad

end
-- ==== Proof.SwigluClaim.lean ====
module

public import proofs.«01_k».proof.Defs
public import proofs.«01_k».proof.Proof.Swiglu

@[expose] public section

set_option maxRecDepth 16384

noncomputable section

open Idealize.ShloMosaic Idealize.ShloMosaic.TcCoe Idealize.SL.Sem
open Idealize.ShloMosaic.Pipeline (Dat)

namespace Cert.KernelSwigluIdeal.Grad
open Cert.KernelSwigluIdeal Cert.KernelSwigluIdeal.Gen Cert.Finite

/-- Finite arguments are arrays of reals. -/
theorem lifts (m : (ℓ : Loc nD τ sig) → Buf (Elt Ideal) ℓ) (h : Cert.Pre_KernelSwigluIdeal_finite_swiglu m) (c : Dev nD) :
    (∃ X : S2048x1024.Idx → ℝ, m ((c : Thread nD τ).loc main_arg0) = fun i => (X i : EReal))
    ∧ (∃ X : S2816x1024.Idx → ℝ, m ((c : Thread nD τ).loc main_arg1) = fun i => (X i : EReal))
    ∧ (∃ X : S2048x5632.Idx → ℝ, m ((c : Thread nD τ).loc main_arg2) = fun i => (X i : EReal)) := by
  haveI : Subsingleton Cert.Pre_finite_swiglu.S_.Idx := ⟨fun a b => funext fun i => i.elim0⟩
  have h1 := congrFun (h c) ix0
  obtain ⟨h1, a2⟩ := and_one h1
  obtain ⟨h1, a1⟩ := and_one h1
  obtain ⟨h1, a0⟩ := and_one h1
  exact ⟨(of_all _ _ _ _ _ _ _ a0).lift, (of_all _ _ _ _ _ _ _ a1).lift, (of_all _ _ _ _ _ _ _ a2).lift⟩

theorem algebraic : Cert.algebraic_KernelSwigluIdeal_ReferenceSwigluIdeal_pre_finite_swiglu := by
  intro m g m' g' hpre hagree
  refine ⟨fun c => Cert.ReferenceSwigluIdeal.Read.val_main_v10 (F := Ideal) (m' ((c : Thread nD τ).loc Cert.ReferenceSwigluIdeal.main_arg0))
    (m' ((c : Thread nD τ).loc Cert.ReferenceSwigluIdeal.main_arg1)) (m' ((c : Thread nD τ).loc Cert.ReferenceSwigluIdeal.main_arg2)), ?_, ?_⟩
  · run_from Cert.KernelSwigluIdeal.Gen.run_main m g
    obtain ⟨⟨X0, e0⟩, ⟨X1, e1⟩, ⟨X2, e2⟩⟩ := lifts m hpre c
    exact final m c X0 e0 X1 e1 X2 e2
  · exact θ_run_mono (Cert.ReferenceSwigluIdeal.Value.run m' g') fun r h c =>
      ⟨(h c).1.trans (Cert.ReferenceSwigluIdeal.Read.val_main_v10_eq _ _ _), (h c).2⟩

end Cert.KernelSwigluIdeal.Grad

end
-- ==== Proof.Rms.lean ====
module

public import proofs.«01_k».proof.Proof.Finite
public import Mathlib.Analysis.SpecialFunctions.Pow.Real

@[expose] public section

/-! The root mean square normalisation of one row of 1024 numbers and its gradient, over the reals. -/

noncomputable section

namespace Cert.Rms

open Idealize.ShloMosaic Cert.Finite

/-- The constant added to the mean square. -/
def eps : ℝ := 10995116 / 2 ^ 40

theorem eps_pos : 0 < eps := by unfold eps; positivity

theorem ofBits_eps : Ideal.ofBits .f32 0x3727C5AC#32 = ((eps : ℝ) : EReal) := by
  simp [Ideal.ofBits, Ideal.ieee, eps]; norm_num [← EReal.coe_mul]

theorem ofBits_1024 : Ideal.ofBits .f32 0x44800000#32 = ((1024 : ℝ) : EReal) := by
  simp [Ideal.ofBits, Ideal.ieee]; norm_num [← EReal.coe_mul]

theorem ofBits_inv1024 : Ideal.ofBits .f32 0x3A800000#32 = ((1 / 1024 : ℝ) : EReal) := by
  simp [Ideal.ofBits, Ideal.ieee]; norm_num [← EReal.coe_mul]

theorem ofBits_inv2048 : Ideal.ofBits .f32 0x3A000000#32 = ((1 / 2048 : ℝ) : EReal) := by
  simp [Ideal.ofBits, Ideal.ieee]; norm_num [← EReal.coe_mul]

theorem ofBits_half : Ideal.ofBits .f32 0x3F000000#32 = ((1 / 2 : ℝ) : EReal) := by
  simp [Ideal.ofBits, Ideal.ieee]; norm_num [← EReal.coe_mul]

theorem ofBits_neg_half : Ideal.ofBits .f32 0xBF000000#32 = ((-(1 / 2) : ℝ) : EReal) := by
  simp [Ideal.ofBits, Ideal.ieee]; norm_num [← EReal.coe_mul]

theorem ofBits_two : Ideal.ofBits .f32 0x40000000#32 = ((2 : ℝ) : EReal) := by
  simp [Ideal.ofBits, Ideal.ieee]; norm_num [← EReal.coe_mul]

/-- Division by the row length. -/
theorem div_1024 (x : EReal) : Ideal.div x (Ideal.ofBits .f32 0x44800000#32) = x * ((1 / 1024 : ℝ) : EReal) := by
  rw [ofBits_1024, Ideal.div_coe (by norm_num)]

/-- The mean square of a row, with the constant. -/
def ms (x : Fin 1024 → ℝ) : ℝ := (∑ k, x k * x k) * (1 / 1024) + eps

theorem ms_pos (x : Fin 1024 → ℝ) : 0 < ms x :=
  add_pos_of_nonneg_of_pos (mul_nonneg (Finset.sum_nonneg fun k _ => mul_self_nonneg _) (by norm_num)) eps_pos

/-- The row's scale. -/
def rr (x : Fin 1024 → ℝ) : ℝ := (Real.sqrt (ms x))⁻¹

theorem ms_coe (x : Fin 1024 → ℝ) :
    Ideal.div (∑ k, ((x k : ℝ) : EReal) * ((x k : ℝ) : EReal)) (Ideal.ofBits .f32 0x44800000#32) + Ideal.ofBits .f32 0x3727C5AC#32
      = ((ms x : ℝ) : EReal) := by
  rw [div_1024, ofBits_eps]; unfold ms; norm_cast

theorem rr_coe (x : Fin 1024 → ℝ) : Ideal.rsqrt ((ms x : ℝ) : EReal) = ((rr x : ℝ) : EReal) := by
  rw [Ideal.rsqrt_coe, if_neg (ms_pos x).not_gt, if_neg (ms_pos x).ne']; rfl

theorem rr_sq (x : Fin 1024 → ℝ) : rr x * rr x = 1 / ms x := by
  unfold rr; rw [← mul_inv, Real.mul_self_sqrt (ms_pos x).le, one_div]

theorem rr_div_coe (x : Fin 1024 → ℝ) : Ideal.div ((rr x : ℝ) : EReal) ((ms x : ℝ) : EReal) = ((rr x * rr x * rr x : ℝ) : EReal) := by
  rw [div_real (ms_pos x).ne']; congr 1; rw [rr_sq]; ring

/-- The gradient with respect to the row, from the gradient `u` with respect to the scaled row times the gain. -/
def dx (x u : Fin 1024 → ℝ) (k : Fin 1024) : ℝ := rr x * (u k - x k * rr x * ((∑ j, u j * (x j * rr x)) * (1 / 1024)))

/-- The same as the chain rule leaves it: the two halves of the square's derivative summed apart. -/
theorem dx_eq (x u : Fin 1024 → ℝ) (k : Fin 1024) :
    u k * rr x + x k * ((∑ j, x j * u j) * (-(1 / 2) * (rr x * rr x * rr x)) * (1 / 1024))
      + (∑ j, x j * u j) * (-(1 / 2) * (rr x * rr x * rr x)) * (1 / 1024) * x k = dx x u k := by
  unfold dx
  have : ∑ j, u j * (x j * rr x) = (∑ j, x j * u j) * rr x := by
    rw [Finset.sum_mul]; exact Finset.sum_congr rfl fun j _ => by ring
  rw [this]; ring

/-- One row's part of the gain's gradient, from the gradient `h` with respect to the normalised row. -/
def dg (x h : Fin 1024 → ℝ) (k : Fin 1024) : ℝ := h k * (x k * rr x)

end Cert.Rms

end
-- ==== Proof.Loss.lean ====
module

public import proofs.«01_k».proof.Proof.Gen.KernelLossIdeal.Frame
public import proofs.«01_k».proof.Proof.Gen.ReferenceLossIdeal.Read
public import proofs.«01_k».proof.Proof.Gen.Pre_finite_loss
public import proofs.«01_k».proof.Proof.Finite
public import proofs.«01_k».proof.Proof.Rms
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open Idealize.ShloMosaic.Pipeline (Dat)

namespace Cert.KernelLossIdeal.Grad
open Cert.KernelLossIdeal Cert.KernelLossIdeal.Gen Cert.Finite Cert.Rms

abbrev R0 := Cert.ReferenceLossIdeal.S2048x1024
abbrev R1 := Cert.ReferenceLossIdeal.S1024

/-- What one row's prediction is off by. -/
def err (x g t : Fin 1024 → ℝ) (k : Fin 1024) : ℝ := x k * rr x * g k - t k

/-- One row's part of the loss. -/
def lossRow (x g t : Fin 1024 → ℝ) : ℝ := (∑ k, err x g t k * err x g t k) * (1 / 2048)

/-- One row's part of the gain's gradient. -/
def dgRow (x g t : Fin 1024 → ℝ) (k : Fin 1024) : ℝ := err x g t k * (1 / 1024) * (x k * rr x)

/-- The gradient with respect to one row. -/
def dxRow (x g t : Fin 1024 → ℝ) (k : Fin 1024) : ℝ := dx x (fun j => err x g t j * (1 / 1024) * g j) k

theorem pay10_at (v0 v15 : S256x1024.Idx → ℝ) (v1 : S1x1024.Idx → ℝ) (a : Fin 256) (b : Fin 1024) :
    k0_pay10 (F := Ideal) (fun i => (v0 i : EReal)) (fun i => (v1 i : EReal)) (fun i => (v15 i : EReal)) (ix2 a b)
      = ((dxRow (fun k => v0 (ix2 a k)) (fun k => v1 (ix2 0 k)) (fun k => v15 (ix2 a k)) b : ℝ) : EReal) := by
  pointwise [k0_pay10, k0_pay5, k0_pay6, k0_pay7, k0_pay8, k0_pay9]
  simp only [ms_coe (fun k => v0 (ix2 a k)), rr_coe]
  simp only [div_1024, ofBits_inv1024]
  norm_cast

theorem pay11_at (v0 v15 : S256x1024.Idx → ℝ) (v1 : S1x1024.Idx → ℝ) (a : Fin 1) (b : Fin 1024) :
    k0_pay1 (F := Ideal) (k0_pay11 (F := Ideal) (fun i => (v0 i : EReal)) (fun i => (v1 i : EReal)) (fun i => (v15 i : EReal))) (ix2 a b)
      = ((∑ r : Fin 256, dgRow (fun k => v0 (ix2 r k)) (fun k => v1 (ix2 0 k)) (fun k => v15 (ix2 r k)) b : ℝ) : EReal) := by
  pointwise [k0_pay1, k0_pay11, k0_pay10, k0_pay5, k0_pay6, k0_pay7, k0_pay8, k0_pay9]
  simp only [fun r => ms_coe (fun k => v0 (ix2 r k)), rr_coe]
  simp only [div_1024, ofBits_inv1024]
  norm_cast

theorem pay2_at (v0 v15 : S256x1024.Idx → ℝ) (v1 : S1x1024.Idx → ℝ) (i : S1x128.Idx) :
    k0_pay2 (F := Ideal) (k0_pay6 (F := Ideal) (fun i => (v0 i : EReal)) (fun i => (v1 i : EReal)) (fun i => (v15 i : EReal))) i
      = ((∑ r : Fin 256, lossRow (fun k => v0 (ix2 r k)) (fun k => v1 (ix2 0 k)) (fun k => v15 (ix2 r k)) : ℝ) : EReal) := by
  pointwise [k0_pay2, k0_pay6, k0_pay5, k0_pay7, k0_pay8, k0_pay9]
  simp only [fun r => ms_coe (fun k => v0 (ix2 r k)), rr_coe]
  simp only [div_1024, ofBits_inv2048]
  norm_cast
  congr 1
  simp only [lossRow, err, Finset.sum_mul, Finset.mul_sum]
  exact Finset.sum_congr rfl fun r _ => Finset.sum_congr rfl fun k _ => by ring

theorem pay3_eq (v41 : FVec Ideal S256x1024 .f32) (v : Vec Ideal S1x1024 .f32) (i : S1x1024.Idx) :
    k0_pay3 (F := Ideal) v41 v i = v i + k0_pay1 (F := Ideal) v41 i := by
  pointwise [k0_pay3, k0_pay1]

theorem pay4_eq (v16 : FVec Ideal S256x1024 .f32) (v : Vec Ideal S1x128 .f32) (i : S1x128.Idx) :
    k0_pay4 (F := Ideal) v16 v i = v i + k0_pay2 (F := Ideal) v16 i := by
  pointwise [k0_pay4, k0_pay2]

theorem ref_loss (x0 x2 : R0.Idx → ℝ) (x1 : R1.Idx → ℝ) (i) :
    Cert.ReferenceLossIdeal.Read.val_main_v24 (F := Ideal) (fun i => (x0 i : EReal)) (fun i => (x1 i : EReal)) (fun i => (x2 i : EReal)) i
      = ((∑ r : Fin 2048, lossRow (fun k => x0 (ix2 r k)) (fun k => x1 (ix1 k)) (fun k => x2 (ix2 r k)) : ℝ) : EReal) := by
  rw [← Cert.ReferenceLossIdeal.Read.val_main_v24_eq]
  pointwise
  simp only [fun r => ms_coe (fun k => x0 (ix2 r k)), rr_coe]
  simp only [div_1024, ofBits_half]
  norm_cast
  congr 1
  simp only [lossRow, err, Finset.sum_mul, Finset.mul_sum]
  exact Finset.sum_congr rfl fun r _ => Finset.sum_congr rfl fun k _ => by ring

theorem half_1024 : Ideal.ofBits .f32 0x3F000000#32 * ((1 / 1024 : ℝ) : EReal) = ((1 / 2048 : ℝ) : EReal) := by
  rw [ofBits_half]; norm_num [← EReal.coe_mul]

theorem ref_dg (x0 x2 : R0.Idx → ℝ) (x1 : R1.Idx → ℝ) (b : Fin 1024) :
    Cert.ReferenceLossIdeal.Read.val_main_v36 (F := Ideal) (fun i => (x0 i : EReal)) (fun i => (x1 i : EReal)) (fun i => (x2 i : EReal)) (ix1 b)
      = ((∑ r : Fin 2048, dgRow (fun k => x0 (ix2 r k)) (fun k => x1 (ix1 k)) (fun k => x2 (ix2 r k)) b : ℝ) : EReal) := by
  rw [← Cert.ReferenceLossIdeal.Read.val_main_v36_eq]
  pointwise
  simp only [fun r => ms_coe (fun k => x0 (ix2 r k)), rr_coe]
  simp only [div_1024, half_1024, ofBits_two, Finset.univ_unique, Finset.sum_singleton]
  norm_cast
  congr 1
  exact Finset.sum_congr rfl fun r _ => by simp only [dgRow, err]; ring

open Cert.ReferenceLossIdeal.Read in
theorem ref_dx (x0 x2 : R0.Idx → ℝ) (x1 : R1.Idx → ℝ) (a : Fin 2048) (b : Fin 1024) :
    val_main_v50 (F := Ideal) (fun i => (x0 i : EReal)) (fun i => (x1 i : EReal)) (fun i => (x2 i : EReal)) (ix2 a b)
      = ((dxRow (fun k => x0 (ix2 a k)) (fun k => x1 (ix1 k)) (fun k => x2 (ix2 a k)) b : ℝ) : EReal) := by
  pointwise [val_main_v50, val_main_v49, val_main_v48, val_main_v47, val_main_v46, val_main_v45, val_main_v44, val_main_v43, val_main_v42, val_main_v41, val_main_v40, val_main_v39, val_main_v38, val_main_v37, val_main_v35, val_main_v34, val_main_v30, val_main_v29, val_main_v28, val_main_v27, val_main_v26, val_main_v25, val_main_v19, val_main_v18, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst_0, val_main_cst_1, val_main_cst_2, val_main_cst_3, val_main_cst_4, val_main_cst_8, val_main_cst_9, val_main_cst_10,  val_main_cst_13, val_main_cst_14,val_main_cst_15, val_main_cst]
  simp only [ms_coe (fun k => x0 (ix2 a k)), rr_coe, rr_div_coe]
  simp only [div_1024, half_1024, ofBits_neg_half, ofBits_two, Finset.univ_unique, Finset.sum_singleton]
  norm_cast
  congr 1
  rw [dxRow, ← dx_eq]
  have : ∀ k, err (fun k => x0 (ix2 a k)) (fun k => x1 (ix1 k)) (fun k => x2 (ix2 a k)) k * (1 / 1024)
    = 1 / 2048 * (2 * (x0 (ix2 a k) * rr (fun k => x0 (ix2 a k)) * x1 (ix1 k) - x2 (ix2 a k))) := fun k => by simp only [err]; ring
  simp only [this]

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] := (by decide +kernel : ∀ t : Fin grid0.N, _)

section Blocks

variable (c : Dev nD) (t : Fin cfg0.N)
    (X0 : S2048x1024.Idx → ℝ) (e0 : m ((c : Thread nD τ).loc main_arg0) = fun i => (X0 i : EReal))
    (X1 : S1024.Idx → ℝ) (e1 : m ((c : Thread nD τ).loc main_arg1) = fun i => (X1 i : EReal))
    (X2 : S2048x1024.Idx → ℝ) (e2 : m ((c : Thread nD τ).loc main_arg2) = fun i => (X2 i : EReal))

theorem t_lt (t : Fin cfg0.N) : t.val < 8 := t.isLt

include e0 in
theorem ld0 : (iblk m c 0 t) = fun i : S256x1024.Idx =>
    ((X0 (ix2 ⟨t.val * 256 + (i 0).val, by have := t_lt t; have : (i 0).val < 256 := (i 0).isLt; omega⟩ (i 1)) : ℝ) : EReal) := by
  funext i
  refine Eq.trans (b := m ((c : Thread nD τ).loc main_arg0) _) ?_ (congrFun e0 _)
  blk_point [iblk, V, idx t]

theorem V1 : V m c main_v0 = fun j : S1x1024.Idx => m ((c : Thread nD τ).loc main_arg1) (ix1 (j 1)) := by
  refine Eq.trans (b := shapeCast S1x1024 (m ((c : Thread nD τ).loc main_arg1)) shapeCasts_S1024_S1x1024) rfl ?_
  funext j
  pointwise

include e1 in
theorem ld1 : (iblk m c 1 t) = fun i : S1x1024.Idx => ((X1 (ix1 (i 1)) : ℝ) : EReal) := by
  funext i
  refine Eq.trans (b := m ((c : Thread nD τ).loc main_arg1) _) ?_ (congrFun e1 _)
  refine Eq.trans (b := V m c main_v0 (ix2 0 (i 1))) ?_ ?_
  · exact congrArg (V m c main_v0) (by blk_ext [idx t])
  · rw [V1]; blk_ext

include e2 in
theorem ld2 : (iblk m c 2 t) = fun i : S256x1024.Idx =>
    ((X2 (ix2 ⟨t.val * 256 + (i 0).val, by have := t_lt t; have : (i 0).val < 256 := (i 0).isLt; omega⟩ (i 1)) : ℝ) : EReal) := by
  funext i
  refine Eq.trans (b := m ((c : Thread nD τ).loc main_arg2) _) ?_ (congrFun e2 _)
  blk_point [iblk, V, idx t]

/-- The row of the whole array that is row `a` of block `t`. -/
abbrev row (a : Fin 256) : Fin 2048 := ⟨t.val * 256 + a.val, by have := t_lt t; omega⟩

include e0 e1 e2 in
theorem blk3 (a : Fin 256) (b : Fin 1024) : k0_pay10 ((iblk m c 0 t)) ((iblk m c 1 t)) ((iblk m c 2 t)) (ix2 a b)
    = Cert.ReferenceLossIdeal.Read.val_main_v50 (F := Ideal) (fun i => (X0 i : EReal)) (fun i => (X1 i : EReal)) (fun i => (X2 i : EReal)) (ix2 (row t a) b) := by
  rw [ld0 m c t X0 e0, ld1 m c t X1 e1, ld2 m c t X2 e2, pay10_at, ref_dx]
  rfl

include e0 e1 e2 in
theorem blk4 (a : Fin 1) (b : Fin 1024) : k0_pay1 (k0_pay11 ((iblk m c 0 t)) ((iblk m c 1 t)) ((iblk m c 2 t))) (ix2 a b)
    = ((∑ r : Fin 256, dgRow (fun k => X0 (ix2 (row t r) k)) (fun k => X1 (ix1 k)) (fun k => X2 (ix2 (row t r) k)) b : ℝ) : EReal) := by
  rw [ld0 m c t X0 e0, ld1 m c t X1 e1, ld2 m c t X2 e2, pay11_at]
  rfl

include e0 e1 e2 in
theorem blk5 (i : S1x128.Idx) : k0_pay2 (k0_pay6 ((iblk m c 0 t)) ((iblk m c 1 t)) ((iblk m c 2 t))) i
    = ((∑ r : Fin 256, lossRow (fun k => X0 (ix2 (row t r) k)) (fun k => X1 (ix1 k)) (fun k => X2 (ix2 (row t r) k)) : ℝ) : EReal) := by
  rw [ld0 m c t X0 e0, ld1 m c t X1 e1, ld2 m c t X2 e2, pay2_at]
  rfl

include e0 e1 e2 in
/-- The gradient with respect to the rows. -/
theorem final3 : (dats m 0 c).arrAt 3 (cfgs 0).N
    = Cert.ReferenceLossIdeal.Read.val_main_v50 (F := Ideal) (m ((c : Thread nD τ).loc main_arg0)) (m ((c : Thread nD τ).loc main_arg1)) (m ((c : Thread nD τ).loc main_arg2)) := by
  rw [e0, e1, e2]
  refine (dats m 0 c).arrAt_eq_of_covers 3 _ (by decide +kernel) fun t _ y => ?_
  have he : ((cfg0.win 3).blk t).view.emb y = ix2 (row t (y 0)) (⟨(y 1 : ℕ), (y 1).isLt⟩ : Fin 1024) := by blk_ext [idx t]
  blk_simp; rw [after0_3]
  refine Eq.trans ?_ ((blk3 m c t X0 e0 X1 e1 X2 e2 (y 0) (y 1)).trans (congrArg (Cert.ReferenceLossIdeal.Read.val_main_v50 (F := Ideal) _ _ _) he.symm))
  by_cases h : t.val % 8 = 0
  · rw [outsAt0_A m c t h (by have := t_lt t; omega)]; frame_out; exact congrArg (k0_pay10 _ _ _) (by blk_ext)
  · rw [outsAt0_B m c t h (by omega)]; frame_out; exact congrArg (k0_pay10 _ _ _) (by blk_ext)

include e0 e1 e2 in
theorem acc4 (j : S1x1024.Idx) : (outsAt0 m c (t0_7).val (t0_7).isLt).2.1 j
    = Cert.ReferenceLossIdeal.Read.val_main_v36 (F := Ideal) (fun i => (X0 i : EReal)) (fun i => (X1 i : EReal)) (fun i => (X2 i : EReal)) (ix1 (j 1)) := by
  rw [Pipeline.eq_sum_fin_of_reset_step_apply_last (fun n h => (outsAt0 m c n h).2.1) 8 (fun _ => 0)
    (fun p j => k0_pay1 (k0_pay11 (F := Ideal) (iblk m c 0 p) (iblk m c 1 p) (iblk m c 2 p)) j)
    (fun t h j => by rw [outsAt0_A m c t h (by have := t_lt t; omega)]; frame_out; exact (zero_add _).symm)
    (fun t h j => by rw [outsAt0_B m c t h (by omega)]; frame_out; exact pay3_eq _ _ j)
    (le_of_eq N_0) t0_7 rfl j, zero_add, ref_dg X0 X2 X1 (j 1)]
  obtain ⟨a, b, rfl⟩ : ∃ a b, j = ix2 a b := ⟨j 0, j 1, by blk_ext⟩
  rw [Finset.sum_congr rfl fun p _ => blk4 m c p X0 e0 X1 e1 X2 e2 a b]
  norm_cast
  congr 1
  exact Fin.sum_mul_add_congr fun s k hl => rfl

include e0 e1 e2 in
theorem acc5 (j : S1x128.Idx) : (outsAt0 m c (t0_7).val (t0_7).isLt).2.2 j
    = Cert.ReferenceLossIdeal.Read.val_main_v24 (F := Ideal) (fun i => (X0 i : EReal)) (fun i => (X1 i : EReal)) (fun i => (X2 i : EReal)) ix0 := by
  rw [Pipeline.eq_sum_fin_of_reset_step_apply_last (fun n h => (outsAt0 m c n h).2.2) 8 (fun _ => 0)
    (fun p j => k0_pay2 (k0_pay6 (F := Ideal) (iblk m c 0 p) (iblk m c 1 p) (iblk m c 2 p)) j)
    (fun t h j => by rw [outsAt0_A m c t h (by have := t_lt t; omega)]; frame_out; exact (zero_add _).symm)
    (fun t h j => by rw [outsAt0_B m c t h (by omega)]; frame_out; exact pay4_eq _ _ j)
    (le_of_eq N_0) t0_7 rfl j, zero_add, ref_loss X0 X2 X1]
  rw [Finset.sum_congr rfl fun p _ => blk5 m c p X0 e0 X1 e1 X2 e2 j]
  norm_cast
  congr 1
  exact Fin.sum_mul_add_congr fun s k hl => rfl

include e0 e1 e2 in
/-- The gain's gradient, as the pass over the row blocks adds it up. -/
theorem final4 : (dats m 0 c).arrAt 4 (cfgs 0).N = fun j : S1x1024.Idx =>
    Cert.ReferenceLossIdeal.Read.val_main_v36 (F := Ideal) (m ((c : Thread nD τ).loc main_arg0)) (m ((c : Thread nD τ).loc main_arg1)) (m ((c : Thread nD τ).loc main_arg2)) (ix1 (j 1)) := by
  rw [e0, e1, e2]
  refine (dats m 0 c).arrAt_eq_of_after_last 4 t0_7 (by decide +kernel) _ fun j => ?_
  blk_simp
  rw [after0_4]
  exact acc4 m c X0 e0 X1 e1 X2 e2 j

include e0 e1 e2 in
/-- The loss, as the pass over the row blocks adds it up, in every lane. -/
theorem final5 : (dats m 0 c).arrAt 5 (cfgs 0).N = fun j : S1x128.Idx =>
    Cert.ReferenceLossIdeal.Read.val_main_v24 (F := Ideal) (m ((c : Thread nD τ).loc main_arg0)) (m ((c : Thread nD τ).loc main_arg1)) (m ((c : Thread nD τ).loc main_arg2)) ix0 := by
  rw [e0, e1, e2]
  refine (dats m 0 c).arrAt_eq_of_after_last 5 t0_7 (by decide +kernel) _ fun j => ?_
  blk_simp
  rw [after0_5]
  exact acc5 m c X0 e0 X1 e1 X2 e2 j

end Blocks
end Cert.KernelLossIdeal.Grad

end
-- ==== Proof.LossClaim.lean ====
module

public import proofs.«01_k».proof.Defs
public import proofs.«01_k».proof.Proof.Loss

@[expose] public section

set_option maxRecDepth 16384

noncomputable section

open Idealize.ShloMosaic Idealize.ShloMosaic.TcCoe Idealize.SL.Sem
open Idealize.ShloMosaic.Pipeline (Dat)

namespace Cert.KernelLossIdeal.Grad
open Cert.KernelLossIdeal Cert.KernelLossIdeal.Gen Cert.Finite

/-- Finite arguments are arrays of reals. -/
theorem lifts (m : (ℓ : Loc nD τ sig) → Buf (Elt Ideal) ℓ) (h : Cert.Pre_KernelLossIdeal_finite_loss m) (c : Dev nD) :
    (∃ X : S2048x1024.Idx → ℝ, m ((c : Thread nD τ).loc main_arg0) = fun i => (X i : EReal))
    ∧ (∃ X : S1024.Idx → ℝ, m ((c : Thread nD τ).loc main_arg1) = fun i => (X i : EReal))
    ∧ (∃ X : S2048x1024.Idx → ℝ, m ((c : Thread nD τ).loc main_arg2) = fun i => (X i : EReal)) := by
  haveI : Subsingleton Cert.Pre_finite_loss.S_.Idx := ⟨fun a b => funext fun i => i.elim0⟩
  have h1 := congrFun (h c) ix0
  obtain ⟨h1, a2⟩ := and_one h1
  obtain ⟨h1, a1⟩ := and_one h1
  obtain ⟨h1, a0⟩ := and_one h1
  exact ⟨(of_all _ _ _ _ _ _ _ a0).lift, (of_all _ _ _ _ _ _ _ a1).lift, (of_all _ _ _ _ _ _ _ a2).lift⟩

theorem algebraic : Cert.algebraic_KernelLossIdeal_ReferenceLossIdeal_pre_finite_loss := by
  intro m g m' g' hpre hagree
  refine ⟨fun c => Cert.ReferenceLossIdeal.Read.val_main_v24 (F := Ideal) (m' ((c : Thread nD τ).loc Cert.ReferenceLossIdeal.main_arg0))
      (m' ((c : Thread nD τ).loc Cert.ReferenceLossIdeal.main_arg1)) (m' ((c : Thread nD τ).loc Cert.ReferenceLossIdeal.main_arg2)),
    fun c => Cert.ReferenceLossIdeal.Read.val_main_v50 (F := Ideal) (m' ((c : Thread nD τ).loc Cert.ReferenceLossIdeal.main_arg0))
      (m' ((c : Thread nD τ).loc Cert.ReferenceLossIdeal.main_arg1)) (m' ((c : Thread nD τ).loc Cert.ReferenceLossIdeal.main_arg2)),
    fun c => Cert.ReferenceLossIdeal.Read.val_main_v36 (F := Ideal) (m' ((c : Thread nD τ).loc Cert.ReferenceLossIdeal.main_arg0))
      (m' ((c : Thread nD τ).loc Cert.ReferenceLossIdeal.main_arg1)) (m' ((c : Thread nD τ).loc Cert.ReferenceLossIdeal.main_arg2)), ?_, ?_⟩
  · run_from Cert.KernelLossIdeal.Gen.unchanged m g & Cert.KernelLossIdeal.Gen.run_main m g
    all_goals obtain ⟨⟨X0, e0⟩, ⟨X1, e1⟩, ⟨X2, e2⟩⟩ := lifts m hpre c
    · refine Eq.trans (b := shapeCast S_ (extractStridedSlice S1x1 ![0, 0] (Pipeline.withArrays (cfgs 0).spec c (V0 m c) (fun w => (dats m 0 c).arrAt w (cfgs 0).N) (Proc.tc.devRef main_v1_2)) slices_S1x128_S1x1_0_0) shapeCasts_S1x1_S_) rfl ?_
      rw [show Pipeline.withArrays (cfgs 0).spec c (V0 m c) (fun w => (dats m 0 c).arrAt w (cfgs 0).N) (Proc.tc.devRef main_v1_2) = _ from
        (Pipeline.withArrays_arr (cfgs 0).spec (by decide) c _ _ 5).trans (final5 m c X0 e0 X1 e1 X2 e2)]
      funext i
      pointwise
      exact congrArg (Cert.ReferenceLossIdeal.Read.val_main_v24 (F := Ideal) _ _ _) (funext fun k => k.elim0)
    · exact final3 m c X0 e0 X1 e1 X2 e2
    · refine Eq.trans (b := shapeCast S1024 (Pipeline.withArrays (cfgs 0).spec c (V0 m c) (fun w => (dats m 0 c).arrAt w (cfgs 0).N) (Proc.tc.devRef main_v1_1)) shapeCasts_S1x1024_S1024) rfl ?_
      rw [show Pipeline.withArrays (cfgs 0).spec c (V0 m c) (fun w => (dats m 0 c).arrAt w (cfgs 0).N) (Proc.tc.devRef main_v1_1) = _ from
        (Pipeline.withArrays_arr (cfgs 0).spec (by decide) c _ _ 4).trans (final4 m c X0 e0 X1 e1 X2 e2)]
      funext i
      pointwise
  · exact θ_run_mono (Cert.ReferenceLossIdeal.Value.run m' g') fun r h c =>
      ⟨(h c).1.trans (Cert.ReferenceLossIdeal.Read.val_main_v24_eq _ _ _),
       (h c).2.1.trans (Cert.ReferenceLossIdeal.Read.val_main_v50_eq _ _),
       (h c).2.2.1.trans (Cert.ReferenceLossIdeal.Read.val_main_v36_eq _ _ _), (h c).2.2.2⟩

end Cert.KernelLossIdeal.Grad

end
-- ==== Proof.Ffn.lean ====
module

public import proofs.«01_k».proof.Proof.Gen.KernelFfnIdeal.Frame
public import proofs.«01_k».proof.Proof.Gen.ReferenceFfnIdeal.Read
public import proofs.«01_k».proof.Proof.Finite
public import proofs.«01_k».proof.Proof.Rms
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open Idealize.ShloMosaic.Pipeline (Dat)

namespace Cert.KernelFfnIdeal.Grad
open Cert.KernelFfnIdeal Cert.KernelFfnIdeal.Gen Cert.Finite Cert.Rms

abbrev D0 := Cert.ReferenceFfnIdeal.S2048x5632
abbrev D1 := Cert.ReferenceFfnIdeal.S1024x5632
abbrev D2 := Cert.ReferenceFfnIdeal.S2048x1024
abbrev D3 := Cert.ReferenceFfnIdeal.S1024

/-- The gradient before the projection, one row of it. -/
def dh (x0 : D0.Idx → ℝ) (x1 : D1.Idx → ℝ) (a : Fin 2048) (j : Fin 1024) : ℝ := ∑ k : Fin 5632, x0 (ix2 a k) * x1 (ix2 j k)

open Cert.ReferenceFfnIdeal.Read in
theorem ref_dh (x0 : D0.Idx → ℝ) (x1 : D1.Idx → ℝ) (a : Fin 2048) (j : Fin 1024) :
    val_main_v17 (F := Ideal) (fun i => (x0 i : EReal)) (fun i => (x1 i : EReal)) (ix2 a j) = ((dh x0 x1 a j : ℝ) : EReal) := by
  pointwise [val_main_v17]
  norm_cast

open Cert.ReferenceFfnIdeal.Read in
theorem ref_rr (x2 : D2.Idx → ℝ) (a : Fin 2048) (b : Fin 1) :
    val_main_v7 (F := Ideal) (fun i => (x2 i : EReal)) (ix2 a b) = ((rr (fun k => x2 (ix2 a k)) : ℝ) : EReal) := by
  pointwise [val_main_v7, val_main_v6, val_main_v5, val_main_v4, val_main_v3, val_main_v2, val_main_v1, val_main_v0, val_main_cst, val_main_cst_0, val_main_cst_1]
  simp only [ms_coe (fun k => x2 (ix2 a k)), rr_coe]

open Cert.ReferenceFfnIdeal.Read in
theorem ref_r3 (x2 : D2.Idx → ℝ) (a : Fin 2048) (b : Fin 1) :
    val_main_v8 (F := Ideal) (fun i => (x2 i : EReal)) (ix2 a b)
      = ((rr (fun k => x2 (ix2 a k)) * rr (fun k => x2 (ix2 a k)) * rr (fun k => x2 (ix2 a k)) : ℝ) : EReal) := by
  pointwise [val_main_v8, val_main_v7, val_main_v6, val_main_v5, val_main_v4, val_main_v3, val_main_v2, val_main_v1, val_main_v0, val_main_cst, val_main_cst_0, val_main_cst_1]
  simp only [ms_coe (fun k => x2 (ix2 a k)), rr_coe, rr_div_coe]

set_option maxHeartbeats 1600000 in
open Cert.ReferenceFfnIdeal.Read in
theorem ref_dx (x0 : D0.Idx → ℝ) (x1 : D1.Idx → ℝ) (x2 : D2.Idx → ℝ) (x3 : D3.Idx → ℝ) (x4 : D2.Idx → EReal) (a : Fin 2048) (b : Fin 1024) :
    val_main_v38 (F := Ideal) (fun i => (x0 i : EReal)) (fun i => (x1 i : EReal)) (fun i => (x2 i : EReal)) (fun i => (x3 i : EReal)) x4 (ix2 a b)
      = x4 (ix2 a b) + ((dx (fun k => x2 (ix2 a k)) (fun j => dh x0 x1 a j * x3 (ix1 j)) b : ℝ) : EReal) := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v14, val_main_v13, val_main_v12, val_main_v11, val_main_v10, val_main_v9, val_main_cst_2, val_main_cst_5, val_main_cst_6, val_main_cst_7]
  simp only [ref_dh, ref_rr, ref_r3]
  simp only [div_1024, ofBits_neg_half, Finset.univ_unique, Finset.sum_singleton, add_assoc]
  norm_cast
  rw [← dx_eq]
  simp only [add_assoc]

set_option maxHeartbeats 1600000 in
open Cert.ReferenceFfnIdeal.Read in
theorem ref_dg (x0 : D0.Idx → ℝ) (x1 : D1.Idx → ℝ) (x2 : D2.Idx → ℝ) (a : Fin 1) (b : Fin 1024) :
    val_main_v39 (F := Ideal) (fun i => (x0 i : EReal)) (fun i => (x1 i : EReal)) (fun i => (x2 i : EReal)) (ix2 a b)
      = ((∑ r : Fin 2048, dg (fun k => x2 (ix2 r k)) (dh x0 x1 r) b : ℝ) : EReal) := by
  pointwise [val_main_v39, val_main_v23, val_main_v20, val_main_v19, val_main_v18, val_main_v12, val_main_v11, val_main_cst_3, val_main_cst_4]
  simp only [ref_dh, ref_rr]
  simp only [Finset.univ_unique, Finset.sum_singleton]
  norm_cast
  congr 1
  exact Finset.sum_congr rfl fun r _ => by simp only [dg]; ring

/-- The weights of four chips side by side. -/
def joined (w : S4x1024x1408.Idx → ℝ) (j : Fin 1024) (k : Fin 5632) : ℝ :=
  w (ix3 ⟨k.val / 1408, by omega⟩ j ⟨k.val % 1408, by omega⟩)

/-- A block's rows times the transposed weights. -/
def dhk (w : S4x1024x1408.Idx → ℝ) (y : S256x5632.Idx → ℝ) (a : Fin 256) (j : Fin 1024) : ℝ := ∑ k : Fin 5632, y (ix2 a k) * joined w j k

theorem pay_dh (w : S4x1024x1408.Idx → ℝ) (y : S256x5632.Idx → ℝ) (a : Fin 256) (j : Fin 1024) :
    k0_pay3 (F := Ideal) (fun i => (w i : EReal)) (fun i => (y i : EReal)) (ix2 a j) = ((dhk w y a j : ℝ) : EReal) := by
  pointwise [k0_pay3]
  unfold dhk
  rw [coe_sum]
  refine Finset.sum_congr rfl fun k _ => ?_
  rw [EReal.coe_mul]
  congr 1
  simp only [joined]
  have hk := k.isLt
  split
  · exact congrArg (fun i => ((w i : ℝ) : EReal)) (by blk_ext <;> omega)
  split
  · exact congrArg (fun i => ((w i : ℝ) : EReal)) (by blk_ext <;> omega)
  split
  · exact congrArg (fun i => ((w i : ℝ) : EReal)) (by blk_ext <;> omega)
  · exact congrArg (fun i => ((w i : ℝ) : EReal)) (by blk_ext <;> omega)

theorem pay_rr (x : S256x1024.Idx → ℝ) (a : Fin 256) (b : Fin 1) :
    k0_pay4 (F := Ideal) (fun i => (x i : EReal)) (ix2 a b) = ((rr (fun k => x (ix2 a k)) : ℝ) : EReal) := by
  pointwise [k0_pay4]
  simp only [ms_coe (fun k => x (ix2 a k)), rr_coe]

theorem pay_dx (w : S4x1024x1408.Idx → ℝ) (x : S256x1024.Idx → ℝ) (g : S1x1024.Idx → ℝ) (y : S256x5632.Idx → ℝ) (d : S256x1024.Idx → EReal) (a : Fin 256) (b : Fin 1024) :
    k0_pay7 (F := Ideal) (fun i => (w i : EReal)) (fun i => (x i : EReal)) (fun i => (g i : EReal)) (fun i => (y i : EReal)) d (ix2 a b)
      = d (ix2 a b) + ((dx (fun k => x (ix2 a k)) (fun j => dhk w y a j * g (ix2 0 j)) b : ℝ) : EReal) := by
  pointwise [k0_pay7, k0_pay5]
  simp only [pay_dh, pay_rr, div_1024]
  norm_cast

theorem pay_dg (w : S4x1024x1408.Idx → ℝ) (x : S256x1024.Idx → ℝ) (y : S256x5632.Idx → ℝ) (a : Fin 1) (b : Fin 1024) :
    k0_pay1 (F := Ideal) (k0_pay6 (F := Ideal) (fun i => (w i : EReal)) (fun i => (x i : EReal)) (fun i => (y i : EReal))) (ix2 a b)
      = ((∑ r : Fin 256, dg (fun k => x (ix2 r k)) (dhk w y r) b : ℝ) : EReal) := by
  pointwise [k0_pay1, k0_pay6, k0_pay5]
  simp only [pay_dh, pay_rr]
  norm_cast

theorem pay_acc (u : FVec Ideal S256x1024 .f32) (v : Vec Ideal S1x1024 .f32) (i : S1x1024.Idx) :
    k0_pay2 (F := Ideal) u v i = v i + k0_pay1 (F := Ideal) u i := by
  pointwise [k0_pay2, k0_pay1]

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] := (by decide +kernel : ∀ t : Fin grid0.N, _)

section Blocks

variable (c : Dev nD) (t : Fin cfg0.N)
    (X0 : S2048x5632.Idx → ℝ) (e0 : m ((c : Thread nD τ).loc main_arg0) = fun i => (X0 i : EReal))
    (X1 : S1024x5632.Idx → ℝ) (e1 : m ((c : Thread nD τ).loc main_arg1) = fun i => (X1 i : EReal))
    (X2 : S2048x1024.Idx → ℝ) (e2 : m ((c : Thread nD τ).loc main_arg2) = fun i => (X2 i : EReal))
    (X3 : S1024.Idx → ℝ) (e3 : m ((c : Thread nD τ).loc main_arg3) = fun i => (X3 i : EReal))

theorem t_lt (t : Fin cfg0.N) : t.val < 8 := t.isLt

/-- The row of the whole array that is row `a` of block `t`. -/
abbrev row (a : Fin 256) : Fin 2048 := ⟨t.val * 256 + a.val, by have := t_lt t; omega⟩

include e1 in
theorem V2 : V m c main_v2 = fun j : S4x1024x1408.Idx => ((X1 (ix2 (j 1) ⟨(j 0).val * 1408 + (j 2).val, by have := (j 0).isLt; have := (j 2).isLt; simp at *; omega⟩) : ℝ) : EReal) := by
  refine Eq.trans (b := truncf (F := Ideal) .bf16 (transpose S4x1024x1408 [1, 0, 2] (shapeCast S1024x4x1408 (m ((c : Thread nD τ).loc main_arg1)) shapeCasts_S1024x5632_S1024x4x1408) transposes_S1024x4x1408_S4x1024x1408_1_0_2) bitsLt_bf16_f32) rfl ?_
  rw [e1]
  funext j
  pointwise
  done

theorem V3 : V m c main_v3 = m ((c : Thread nD τ).loc main_arg0) := rfl

include e0 in
theorem ld0 : (iblk m c 0 t) = fun i : S256x5632.Idx => ((X0 (ix2 (row t (i 0)) (i 1)) : ℝ) : EReal) := by
  funext i
  refine Eq.trans (b := V m c main_v3 (ix2 (row t (i 0)) (i 1))) (congrArg (V m c main_v3) (by blk_ext [idx t])) ?_
  rw [V3]; exact congrFun e0 _

include e1 in
theorem ld1 : (iblk m c 1 t) = fun j : S4x1024x1408.Idx => ((X1 (ix2 (j 1) ⟨(j 0).val * 1408 + (j 2).val, by have := (j 0).isLt; have := (j 2).isLt; simp at *; omega⟩) : ℝ) : EReal) := by
  funext i
  refine Eq.trans (b := V m c main_v2 i) (congrArg (V m c main_v2) (by blk_ext [idx t])) ?_
  rw [V2 m c X1 e1]

theorem dhk_eq (r : Fin 256) (j : Fin 1024) : dhk (fun j : S4x1024x1408.Idx => X1 (ix2 (j 1) ⟨(j 0).val * 1408 + (j 2).val, by have := (j 0).isLt; have := (j 2).isLt; simp at *; omega⟩))
    (fun i => X0 (ix2 (row t (i 0)) (i 1))) r j = dh X0 X1 (row t r) j :=
  Finset.sum_congr rfl fun k _ => by
    simp only [joined]
    congr 1
    exact congrArg X1 (by blk_ext <;> omega)

include e2 in
theorem ld2 : (iblk m c 2 t) = fun i : S256x1024.Idx => ((X2 (ix2 (row t (i 0)) (i 1)) : ℝ) : EReal) := by
  funext i
  refine Eq.trans (b := m ((c : Thread nD τ).loc main_arg2) _) ?_ (congrFun e2 _)
  blk_point [iblk, V, idx t]

theorem Vg : V m c main_v4 = fun j : S1x1024.Idx => m ((c : Thread nD τ).loc main_arg3) (ix1 (j 1)) := by
  refine Eq.trans (b := shapeCast S1x1024 (m ((c : Thread nD τ).loc main_arg3)) shapeCasts_S1024_S1x1024) rfl ?_
  funext j
  pointwise

include e3 in
theorem ld3 : (iblk m c 3 t) = fun i : S1x1024.Idx => ((X3 (ix1 (i 1)) : ℝ) : EReal) := by
  funext i
  refine Eq.trans (b := m ((c : Thread nD τ).loc main_arg3) _) ?_ (congrFun e3 _)
  refine Eq.trans (b := V m c main_v4 (ix2 0 (i 1))) ?_ ?_
  · exact congrArg (V m c main_v4) (by blk_ext [idx t])
  · rw [Vg]; blk_ext

theorem ld4 : (iblk m c 4 t) = fun i : S256x1024.Idx => m ((c : Thread nD τ).loc main_arg4) (ix2 (row t (i 0)) (i 1)) := by
  funext i
  blk_point [iblk, V, idx t]

include e0 e1 e2 e3 in
theorem blk5 (a : Fin 256) (b : Fin 1024) : k0_pay7 ((iblk m c 1 t)) ((iblk m c 2 t)) ((iblk m c 3 t)) ((iblk m c 0 t)) ((iblk m c 4 t)) (ix2 a b)
    = Cert.ReferenceFfnIdeal.Read.val_main_v38 (F := Ideal) (fun i => (X0 i : EReal)) (fun i => (X1 i : EReal)) (fun i => (X2 i : EReal)) (fun i => (X3 i : EReal)) (m ((c : Thread nD τ).loc main_arg4)) (ix2 (row t a) b) := by
  rw [ld0 m c t X0 e0, ld1 m c t X1 e1, ld2 m c t X2 e2, ld3 m c t X3 e3, ld4 m c t, pay_dx, ref_dx]
  simp only [dhk_eq]
  rfl

include e0 e1 e2 in
theorem blk6 (a : Fin 1) (b : Fin 1024) : k0_pay1 (F := Ideal) (k0_pay6 (F := Ideal) ((iblk m c 1 t)) ((iblk m c 2 t)) ((iblk m c 0 t))) (ix2 a b)
    = ((∑ r : Fin 256, dg (fun k => X2 (ix2 (row t r) k)) (dh X0 X1 (row t r)) b : ℝ) : EReal) := by
  rw [ld0 m c t X0 e0, ld1 m c t X1 e1, ld2 m c t X2 e2, pay_dg]
  simp only [show ∀ r : Fin 256, dhk _ _ r = dh X0 X1 (row t r) from fun r => funext fun j => dhk_eq t X0 X1 r j]
  rfl

include e0 e1 e2 e3 in
/-- The gradient with respect to the rows. -/
theorem final5 : (dats m 0 c).arrAt 5 (cfgs 0).N
    = Cert.ReferenceFfnIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [e0, e1, e2, e3]
  refine (dats m 0 c).arrAt_eq_of_covers 5 _ (by decide +kernel) fun t _ y => ?_
  have he : ((cfg0.win 5).blk t).view.emb y = ix2 (row t (y 0)) (⟨(y 1 : ℕ), (y 1).isLt⟩ : Fin 1024) := by blk_ext [idx t]
  blk_simp; rw [after0_5]
  refine Eq.trans ?_ ((blk5 m c t X0 e0 X1 e1 X2 e2 X3 e3 (y 0) (y 1)).trans (congrArg (Cert.ReferenceFfnIdeal.Read.val_main_v38 (F := Ideal) _ _ _ _ _) he.symm))
  by_cases h : t.val % 8 = 0
  · rw [outsAt0_A m c t h (by have := t_lt t; omega)]; frame_out; exact congrArg (k0_pay7 _ _ _ _ _) (by blk_ext)
  · rw [outsAt0_B m c t h (by omega)]; frame_out; exact congrArg (k0_pay7 _ _ _ _ _) (by blk_ext)

include e0 e1 e2 in
theorem acc6 (j : S1x1024.Idx) : (outsAt0 m c (t0_7).val (t0_7).isLt).2 j
    = Cert.ReferenceFfnIdeal.Read.val_main_v39 (F := Ideal) (fun i => (X0 i : EReal)) (fun i => (X1 i : EReal)) (fun i => (X2 i : EReal)) j := by
  rw [Pipeline.eq_sum_fin_of_reset_step_apply_last (fun n h => (outsAt0 m c n h).2) 8 (fun _ => 0)
    (fun p j => k0_pay1 (F := Ideal) (k0_pay6 (F := Ideal) ((iblk m c 1 p)) ((iblk m c 2 p)) ((iblk m c 0 p))) j)
    (fun t h j => by rw [outsAt0_A m c t h (by have := t_lt t; omega)]; frame_out; exact (zero_add _).symm)
    (fun t h j => by rw [outsAt0_B m c t h (by omega)]; frame_out; exact pay_acc _ _ j)
    (le_of_eq N_0) t0_7 rfl j, zero_add]
  obtain ⟨a, b, rfl⟩ : ∃ a b, j = ix2 a b := ⟨j 0, j 1, by blk_ext⟩
  rw [ref_dg X0 X1 X2 a b, Finset.sum_congr rfl fun p _ => blk6 m c p X0 e0 X1 e1 X2 e2 a b]
  norm_cast
  congr 1
  exact Fin.sum_mul_add_congr fun s k hl => rfl

include e0 e1 e2 in
/-- The gain's gradient, as the pass over the row blocks adds it up. -/
theorem final6 : (dats m 0 c).arrAt 6 (cfgs 0).N
    = Cert.ReferenceFfnIdeal.Read.val_main_v39 (F := Ideal) (m ((c : Thread nD τ).loc main_arg0)) (m ((c : Thread nD τ).loc main_arg1)) (m ((c : Thread nD τ).loc main_arg2)) := by
  rw [e0, e1, e2]
  refine (dats m 0 c).arrAt_eq_of_after_last 6 t0_7 (by decide +kernel) _ fun j => ?_
  blk_simp
  rw [after0_6]
  exact acc6 m c X0 e0 X1 e1 X2 e2 j

end Blocks
end Cert.KernelFfnIdeal.Grad

end
-- ==== Proof.FfnClaim.lean ====
module

public import proofs.«01_k».proof.Defs
public import proofs.«01_k».proof.Proof.Ffn
public import proofs.«01_k».proof.Proof.Gen.Pre_finite_ffn

@[expose] public section

set_option maxRecDepth 16384

noncomputable section

open Idealize.ShloMosaic Idealize.ShloMosaic.TcCoe Idealize.SL.Sem
open Idealize.ShloMosaic.Pipeline (Dat)

namespace Cert.KernelFfnIdeal.Grad
open Cert.KernelFfnIdeal Cert.KernelFfnIdeal.Gen Cert.Finite

/-- Finite arguments are arrays of reals. -/
theorem lifts (m : (ℓ : Loc nD τ sig) → Buf (Elt Ideal) ℓ) (h : Cert.Pre_KernelFfnIdeal_finite_ffn m) (c : Dev nD) :
    (∃ X : S2048x5632.Idx → ℝ, m ((c : Thread nD τ).loc main_arg0) = fun i => (X i : EReal))
    ∧ (∃ X : S1024x5632.Idx → ℝ, m ((c : Thread nD τ).loc main_arg1) = fun i => (X i : EReal))
    ∧ (∃ X : S2048x1024.Idx → ℝ, m ((c : Thread nD τ).loc main_arg2) = fun i => (X i : EReal))
    ∧ (∃ X : S1024.Idx → ℝ, m ((c : Thread nD τ).loc main_arg3) = fun i => (X i : EReal)) := by
  haveI : Subsingleton Cert.Pre_finite_ffn.S_.Idx := ⟨fun a b => funext fun i => i.elim0⟩
  have h1 := congrFun (h c) ix0
  obtain ⟨h1, a3⟩ := and_one h1
  obtain ⟨h1, a2⟩ := and_one h1
  obtain ⟨h1, a1⟩ := and_one h1
  obtain ⟨h1, a0⟩ := and_one h1
  exact ⟨(of_all _ _ _ _ _ _ _ a0).lift, (of_all _ _ _ _ _ _ _ a1).lift, (of_all _ _ _ _ _ _ _ a2).lift, (of_all _ _ _ _ _ _ _ a3).lift⟩

theorem algebraic : Cert.algebraic_KernelFfnIdeal_ReferenceFfnIdeal_pre_finite_ffn := by
  intro m g m' g' hpre hagree
  refine ⟨fun c => Cert.ReferenceFfnIdeal.Read.val_main_v38 (F := Ideal) (m' ((c : Thread nD τ).loc Cert.ReferenceFfnIdeal.main_arg0)) (m' ((c : Thread nD τ).loc Cert.ReferenceFfnIdeal.main_arg1)) (m' ((c : Thread nD τ).loc Cert.ReferenceFfnIdeal.main_arg2)) (m' ((c : Thread nD τ).loc Cert.ReferenceFfnIdeal.main_arg3)) (m' ((c : Thread nD τ).loc Cert.ReferenceFfnIdeal.main_arg4)),
    fun c => Cert.ReferenceFfnIdeal.Read.val_main_v39 (F := Ideal) (m' ((c : Thread nD τ).loc Cert.ReferenceFfnIdeal.main_arg0)) (m' ((c : Thread nD τ).loc Cert.ReferenceFfnIdeal.main_arg1)) (m' ((c : Thread nD τ).loc Cert.ReferenceFfnIdeal.main_arg2)), ?_, ?_⟩
  · run_from Cert.KernelFfnIdeal.Gen.run_main m g
    all_goals obtain ⟨⟨X0, e0⟩, ⟨X1, e1⟩, ⟨X2, e2⟩, ⟨X3, e3⟩⟩ := lifts m hpre c
    · exact final5 m c X0 e0 X1 e1 X2 e2 X3 e3
    · exact final6 m c X0 e0 X1 e1 X2 e2
  · exact θ_run_mono (Cert.ReferenceFfnIdeal.Value.run m' g') fun r h c =>
      ⟨(h c).1.trans (Cert.ReferenceFfnIdeal.Read.val_main_v38_eq _ _), (h c).2.1.trans (Cert.ReferenceFfnIdeal.Read.val_main_v39_eq _ _ _), (h c).2.2⟩

end Cert.KernelFfnIdeal.Grad

end
-- ==== Proof.Mix.lean ====
module

public import proofs.«01_k».proof.Proof.Gen.KernelMixIdeal.Frame
public import proofs.«01_k».proof.Proof.Gen.ReferenceMixIdeal.Read
public import proofs.«01_k».proof.Proof.Finite
public import proofs.«01_k».proof.Proof.Rms
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open Idealize.ShloMosaic.Pipeline (Dat)

namespace Cert.KernelMixIdeal.Grad
open Cert.KernelMixIdeal Cert.KernelMixIdeal.Gen Cert.Finite Cert.Rms

abbrev D0 := Cert.ReferenceMixIdeal.S2048x3088
abbrev D1 := Cert.ReferenceMixIdeal.S1024x3088
abbrev D2 := Cert.ReferenceMixIdeal.S2048x1024
abbrev D3 := Cert.ReferenceMixIdeal.S1024

/-- The gradient before the projection, one row of it. -/
def dh (x0 : D0.Idx → ℝ) (x1 : D1.Idx → ℝ) (a : Fin 2048) (j : Fin 1024) : ℝ := ∑ k : Fin 3088, x0 (ix2 a k) * x1 (ix2 j k)

open Cert.ReferenceMixIdeal.Read in
theorem ref_dh (x0 : D0.Idx → ℝ) (x1 : D1.Idx → ℝ) (a : Fin 2048) (j : Fin 1024) :
    val_main_v17 (F := Ideal) (fun i => (x0 i : EReal)) (fun i => (x1 i : EReal)) (ix2 a j) = ((dh x0 x1 a j : ℝ) : EReal) := by
  pointwise [val_main_v17]
  norm_cast

open Cert.ReferenceMixIdeal.Read in
theorem ref_rr (x2 : D2.Idx → ℝ) (a : Fin 2048) (b : Fin 1) :
    val_main_v7 (F := Ideal) (fun i => (x2 i : EReal)) (ix2 a b) = ((rr (fun k => x2 (ix2 a k)) : ℝ) : EReal) := by
  pointwise [val_main_v7, val_main_v6, val_main_v5, val_main_v4, val_main_v3, val_main_v2, val_main_v1, val_main_v0, val_main_cst, val_main_cst_0, val_main_cst_1]
  simp only [ms_coe (fun k => x2 (ix2 a k)), rr_coe]

open Cert.ReferenceMixIdeal.Read in
theorem ref_r3 (x2 : D2.Idx → ℝ) (a : Fin 2048) (b : Fin 1) :
    val_main_v8 (F := Ideal) (fun i => (x2 i : EReal)) (ix2 a b)
      = ((rr (fun k => x2 (ix2 a k)) * rr (fun k => x2 (ix2 a k)) * rr (fun k => x2 (ix2 a k)) : ℝ) : EReal) := by
  pointwise [val_main_v8, val_main_v7, val_main_v6, val_main_v5, val_main_v4, val_main_v3, val_main_v2, val_main_v1, val_main_v0, val_main_cst, val_main_cst_0, val_main_cst_1]
  simp only [ms_coe (fun k => x2 (ix2 a k)), rr_coe, rr_div_coe]

set_option maxHeartbeats 1600000 in
open Cert.ReferenceMixIdeal.Read in
theorem ref_dx (x0 : D0.Idx → ℝ) (x1 : D1.Idx → ℝ) (x2 : D2.Idx → ℝ) (x3 : D3.Idx → ℝ) (x4 : D2.Idx → EReal) (a : Fin 2048) (b : Fin 1024) :
    val_main_v38 (F := Ideal) (fun i => (x0 i : EReal)) (fun i => (x1 i : EReal)) (fun i => (x2 i : EReal)) (fun i => (x3 i : EReal)) x4 (ix2 a b)
      = x4 (ix2 a b) + ((dx (fun k => x2 (ix2 a k)) (fun j => dh x0 x1 a j * x3 (ix1 j)) b : ℝ) : EReal) := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v14, val_main_v13, val_main_v12, val_main_v11, val_main_v10, val_main_v9, val_main_cst_2, val_main_cst_5, val_main_cst_6, val_main_cst_7]
  simp only [ref_dh, ref_rr, ref_r3]
  simp only [div_1024, ofBits_neg_half, Finset.univ_unique, Finset.sum_singleton, add_assoc]
  norm_cast
  rw [← dx_eq]
  simp only [add_assoc]

set_option maxHeartbeats 1600000 in
open Cert.ReferenceMixIdeal.Read in
theorem ref_dg (x0 : D0.Idx → ℝ) (x1 : D1.Idx → ℝ) (x2 : D2.Idx → ℝ) (a : Fin 1) (b : Fin 1024) :
    val_main_v39 (F := Ideal) (fun i => (x0 i : EReal)) (fun i => (x1 i : EReal)) (fun i => (x2 i : EReal)) (ix2 a b)
      = ((∑ r : Fin 2048, dg (fun k => x2 (ix2 r k)) (dh x0 x1 r) b : ℝ) : EReal) := by
  pointwise [val_main_v39, val_main_v23, val_main_v20, val_main_v19, val_main_v18, val_main_v12, val_main_v11, val_main_cst_3, val_main_cst_4]
  simp only [ref_dh, ref_rr]
  simp only [Finset.univ_unique, Finset.sum_singleton]
  norm_cast
  congr 1
  exact Finset.sum_congr rfl fun r _ => by simp only [dg]; ring

/-- A row of 3088 numbers with 112 zeros after it. -/
def padded {n : ℕ} (X : (⟨2, ![n, 3088]⟩ : Shape).Idx → ℝ) (j : (⟨2, ![n, 3200]⟩ : Shape).Idx) : ℝ :=
  if h : (j 1 : ℕ) < 3088 then X (ix2 (j 0) ⟨(j 1 : ℕ), h⟩) else 0

/-- The zeros add nothing to a product. -/
theorem padded_dot {n p : ℕ} (X : (⟨2, ![n, 3088]⟩ : Shape).Idx → ℝ) (Y : (⟨2, ![p, 3088]⟩ : Shape).Idx → ℝ) (a : Fin n) (b : Fin p) :
    ∑ k : Fin 3200, padded X (ix2 a k) * padded Y (ix2 b k) = ∑ k : Fin 3088, X (ix2 a k) * Y (ix2 b k) := by
  rw [show (∑ k : Fin 3200, padded X (ix2 a k) * padded Y (ix2 b k)) = ∑ k : Fin (3088 + 112), padded X (ix2 a k) * padded Y (ix2 b k) from rfl, Fin.sum_univ_add]
  rw [Finset.sum_eq_zero (s := (Finset.univ : Finset (Fin 112))) fun k _ => by simp [padded], add_zero]
  exact Finset.sum_congr rfl fun k _ => by simp [padded]

/-- A block's rows times the transposed weights. -/
def dhk (w : S1024x3200.Idx → ℝ) (y : S512x3200.Idx → ℝ) (a : Fin 512) (j : Fin 1024) : ℝ := ∑ k : Fin 3200, y (ix2 a k) * w (ix2 j k)

theorem pay_dh (w : S1024x3200.Idx → ℝ) (y : S512x3200.Idx → ℝ) (a : Fin 512) (j : Fin 1024) :
    k0_pay2 (F := Ideal) (fun i => (w i : EReal)) (fun i => (y i : EReal)) (ix2 a j) = ((dhk w y a j : ℝ) : EReal) := by
  pointwise [k0_pay2]
  norm_cast

theorem pay_rr (x : S512x1024.Idx → ℝ) (a : Fin 512) (b : Fin 1) :
    k0_pay3 (F := Ideal) (fun i => (x i : EReal)) (ix2 a b) = ((rr (fun k => x (ix2 a k)) : ℝ) : EReal) := by
  pointwise [k0_pay3]
  simp only [ms_coe (fun k => x (ix2 a k)), rr_coe]

theorem pay_dx (w : S1024x3200.Idx → ℝ) (x : S512x1024.Idx → ℝ) (g : S1x1024.Idx → ℝ) (y : S512x3200.Idx → ℝ) (d : S512x1024.Idx → EReal) (a : Fin 512) (b : Fin 1024) :
    k0_pay5 (F := Ideal) (fun i => (w i : EReal)) (fun i => (x i : EReal)) (fun i => (g i : EReal)) (fun i => (y i : EReal)) d (ix2 a b)
      = d (ix2 a b) + ((dx (fun k => x (ix2 a k)) (fun j => dhk w y a j * g (ix2 0 j)) b : ℝ) : EReal) := by
  pointwise [k0_pay5, k0_pay4]
  simp only [pay_dh, pay_rr, div_1024]
  norm_cast

theorem pay_dg (w : S1024x3200.Idx → ℝ) (x : S512x1024.Idx → ℝ) (y : S512x3200.Idx → ℝ) (a : Fin 1) (b : Fin 1024) :
    k0_pay6 (F := Ideal) (fun i => (w i : EReal)) (fun i => (x i : EReal)) (fun i => (y i : EReal)) (ix2 a b)
      = ((∑ r : Fin 512, dg (fun k => x (ix2 r k)) (dhk w y r) b : ℝ) : EReal) := by
  pointwise [k0_pay6, k0_pay4]
  simp only [pay_dh, pay_rr]
  norm_cast

theorem pay_acc (u : FVec Ideal S1x1024 .f32) (v : Vec Ideal S1x1024 .f32) (i : S1x1024.Idx) :
    k0_pay1 (F := Ideal) u v i = v i + u i := by
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] := (by decide +kernel : ∀ t : Fin grid0.N, _)

section Blocks

variable (c : Dev nD) (t : Fin cfg0.N)
    (X0 : S2048x3088.Idx → ℝ) (e0 : m ((c : Thread nD τ).loc main_arg0) = fun i => (X0 i : EReal))
    (X1 : S1024x3088.Idx → ℝ) (e1 : m ((c : Thread nD τ).loc main_arg1) = fun i => (X1 i : EReal))
    (X2 : S2048x1024.Idx → ℝ) (e2 : m ((c : Thread nD τ).loc main_arg2) = fun i => (X2 i : EReal))
    (X3 : S1024.Idx → ℝ) (e3 : m ((c : Thread nD τ).loc main_arg3) = fun i => (X3 i : EReal))

theorem t_lt (t : Fin cfg0.N) : t.val < 4 := t.isLt

/-- The row of the whole array that is row `a` of block `t`. -/
abbrev row (a : Fin 512) : Fin 2048 := ⟨t.val * 512 + a.val, by have := t_lt t; omega⟩

theorem pad0 (X : S2048x3088.Idx → ℝ) : truncf (F := Ideal) (φ := .f32) .bf16 (pad S2048x3200 ![0, 0] ![0, 112] ![0, 0] (fun i => ((X i : ℝ) : EReal)) (sitofp (F := Ideal) .f32 (constantI S_ 32 0#32)) pads_S2048x3088_S2048x3200_000_01120 h_S_) bitsLt_bf16_f32
    = fun j => ((padded X j : ℝ) : EReal) := by
  funext j
  pointwise [padded]
  by_cases h : (j 1 : ℕ) < 3088
  · simp only [dif_pos h]
  · simp only [dif_neg h]; show ((((0#32 : BitVec 32).toInt : ℤ) : ℝ) : EReal) = ((0 : ℝ) : EReal); simp

include e0 in
theorem V1 : V m c main_v1 = fun j : S2048x3200.Idx => ((padded (X0) j : ℝ) : EReal) := by
  refine Eq.trans (b := truncf (F := Ideal) .bf16 (pad S2048x3200 ![0, 0] ![0, 112] ![0, 0] (m ((c : Thread nD τ).loc main_arg0)) (sitofp (F := Ideal) .f32 (constantI S_ 32 0#32)) pads_S2048x3088_S2048x3200_000_01120 h_S_) bitsLt_bf16_f32) rfl ?_
  rw [e0]
  exact pad0 X0

theorem pad1 (X : S1024x3088.Idx → ℝ) : truncf (F := Ideal) (φ := .f32) .bf16 (pad S1024x3200 ![0, 0] ![0, 112] ![0, 0] (fun i => ((X i : ℝ) : EReal)) (sitofp (F := Ideal) .f32 (constantI S_ 32 0#32)) pads_S1024x3088_S1024x3200_000_01120 h_S_) bitsLt_bf16_f32
    = fun j => ((padded X j : ℝ) : EReal) := by
  funext j
  pointwise [padded]
  by_cases h : (j 1 : ℕ) < 3088
  · simp only [dif_pos h]
  · simp only [dif_neg h]; show ((((0#32 : BitVec 32).toInt : ℤ) : ℝ) : EReal) = ((0 : ℝ) : EReal); simp

include e1 in
theorem V3 : V m c main_v3 = fun j : S1024x3200.Idx => ((padded (X1) j : ℝ) : EReal) := by
  refine Eq.trans (b := truncf (F := Ideal) .bf16 (pad S1024x3200 ![0, 0] ![0, 112] ![0, 0] (m ((c : Thread nD τ).loc main_arg1)) (sitofp (F := Ideal) .f32 (constantI S_ 32 0#32)) pads_S1024x3088_S1024x3200_000_01120 h_S_) bitsLt_bf16_f32) rfl ?_
  rw [e1]
  exact pad1 X1

include e0 in
theorem ld0 : (iblk m c 0 t) = fun i : S512x3200.Idx => ((padded X0 (ix2 (row t (i 0)) (i 1)) : ℝ) : EReal) := by
  funext i
  refine Eq.trans (b := V m c main_v1 (ix2 (row t (i 0)) (i 1))) (congrArg (V m c main_v1) (by blk_ext [idx t])) ?_
  rw [V1 m c X0 e0]

include e1 in
theorem ld1 : (iblk m c 1 t) = fun i : S1024x3200.Idx => ((padded X1 i : ℝ) : EReal) := by
  funext i
  refine Eq.trans (b := V m c main_v3 i) (congrArg (V m c main_v3) (by blk_ext [idx t])) ?_
  rw [V3 m c X1 e1]

theorem dhk_eq (r : Fin 512) (j : Fin 1024) : dhk (padded X1) (fun i => padded X0 (ix2 (row t (i 0)) (i 1))) r j = dh X0 X1 (row t r) j :=
  padded_dot X0 X1 (row t r) j

include e2 in
theorem ld2 : (iblk m c 2 t) = fun i : S512x1024.Idx => ((X2 (ix2 (row t (i 0)) (i 1)) : ℝ) : EReal) := by
  funext i
  refine Eq.trans (b := m ((c : Thread nD τ).loc main_arg2) _) ?_ (congrFun e2 _)
  blk_point [iblk, V, idx t]

theorem Vg : V m c main_v4 = fun j : S1x1024.Idx => m ((c : Thread nD τ).loc main_arg3) (ix1 (j 1)) := by
  refine Eq.trans (b := shapeCast S1x1024 (m ((c : Thread nD τ).loc main_arg3)) shapeCasts_S1024_S1x1024) rfl ?_
  funext j
  pointwise

include e3 in
theorem ld3 : (iblk m c 3 t) = fun i : S1x1024.Idx => ((X3 (ix1 (i 1)) : ℝ) : EReal) := by
  funext i
  refine Eq.trans (b := m ((c : Thread nD τ).loc main_arg3) _) ?_ (congrFun e3 _)
  refine Eq.trans (b := V m c main_v4 (ix2 0 (i 1))) ?_ ?_
  · exact congrArg (V m c main_v4) (by blk_ext [idx t])
  · rw [Vg]; blk_ext

theorem ld4 : (iblk m c 4 t) = fun i : S512x1024.Idx => m ((c : Thread nD τ).loc main_arg4) (ix2 (row t (i 0)) (i 1)) := by
  funext i
  blk_point [iblk, V, idx t]

include e0 e1 e2 e3 in
theorem blk5 (a : Fin 512) (b : Fin 1024) : k0_pay5 ((iblk m c 1 t)) ((iblk m c 2 t)) ((iblk m c 3 t)) ((iblk m c 0 t)) ((iblk m c 4 t)) (ix2 a b)
    = Cert.ReferenceMixIdeal.Read.val_main_v38 (F := Ideal) (fun i => (X0 i : EReal)) (fun i => (X1 i : EReal)) (fun i => (X2 i : EReal)) (fun i => (X3 i : EReal)) (m ((c : Thread nD τ).loc main_arg4)) (ix2 (row t a) b) := by
  rw [ld0 m c t X0 e0, ld1 m c t X1 e1, ld2 m c t X2 e2, ld3 m c t X3 e3, ld4 m c t, pay_dx, ref_dx]
  simp only [dhk_eq]
  rfl

include e0 e1 e2 in
theorem blk6 (a : Fin 1) (b : Fin 1024) : k0_pay6 (F := Ideal) ((iblk m c 1 t)) ((iblk m c 2 t)) ((iblk m c 0 t)) (ix2 a b)
    = ((∑ r : Fin 512, dg (fun k => X2 (ix2 (row t r) k)) (dh X0 X1 (row t r)) b : ℝ) : EReal) := by
  rw [ld0 m c t X0 e0, ld1 m c t X1 e1, ld2 m c t X2 e2, pay_dg]
  simp only [show ∀ r : Fin 512, dhk _ _ r = dh X0 X1 (row t r) from fun r => funext fun j => dhk_eq t X0 X1 r j]
  rfl

include e0 e1 e2 e3 in
/-- The gradient with respect to the rows. -/
theorem final5 : (dats m 0 c).arrAt 5 (cfgs 0).N
    = Cert.ReferenceMixIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [e0, e1, e2, e3]
  refine (dats m 0 c).arrAt_eq_of_covers 5 _ (by decide +kernel) fun t _ y => ?_
  have he : ((cfg0.win 5).blk t).view.emb y = ix2 (row t (y 0)) (⟨(y 1 : ℕ), (y 1).isLt⟩ : Fin 1024) := by blk_ext [idx t]
  blk_simp; rw [after0_5]
  refine Eq.trans ?_ ((blk5 m c t X0 e0 X1 e1 X2 e2 X3 e3 (y 0) (y 1)).trans (congrArg (Cert.ReferenceMixIdeal.Read.val_main_v38 (F := Ideal) _ _ _ _ _) he.symm))
  by_cases h : t.val % 4 = 0
  · rw [outsAt0_A m c t h (by have := t_lt t; omega)]; frame_out; exact congrArg (k0_pay5 _ _ _ _ _) (by blk_ext)
  · rw [outsAt0_B m c t h (by omega)]; frame_out; exact congrArg (k0_pay5 _ _ _ _ _) (by blk_ext)

include e0 e1 e2 in
theorem acc6 (j : S1x1024.Idx) : (outsAt0 m c (t0_3).val (t0_3).isLt).2 j
    = Cert.ReferenceMixIdeal.Read.val_main_v39 (F := Ideal) (fun i => (X0 i : EReal)) (fun i => (X1 i : EReal)) (fun i => (X2 i : EReal)) j := by
  rw [Pipeline.eq_sum_fin_of_reset_step_apply_last (fun n h => (outsAt0 m c n h).2) 4 (fun _ => 0)
    (fun p j => k0_pay6 (F := Ideal) ((iblk m c 1 p)) ((iblk m c 2 p)) ((iblk m c 0 p)) j)
    (fun t h j => by rw [outsAt0_A m c t h (by have := t_lt t; omega)]; frame_out; exact (zero_add _).symm)
    (fun t h j => by rw [outsAt0_B m c t h (by omega)]; frame_out; exact pay_acc _ _ j)
    (le_of_eq N_0) t0_3 rfl j, zero_add]
  obtain ⟨a, b, rfl⟩ : ∃ a b, j = ix2 a b := ⟨j 0, j 1, by blk_ext⟩
  rw [ref_dg X0 X1 X2 a b, Finset.sum_congr rfl fun p _ => blk6 m c p X0 e0 X1 e1 X2 e2 a b]
  norm_cast
  congr 1
  exact Fin.sum_mul_add_congr fun s k hl => rfl

include e0 e1 e2 in
/-- The gain's gradient, as the pass over the row blocks adds it up. -/
theorem final6 : (dats m 0 c).arrAt 6 (cfgs 0).N
    = Cert.ReferenceMixIdeal.Read.val_main_v39 (F := Ideal) (m ((c : Thread nD τ).loc main_arg0)) (m ((c : Thread nD τ).loc main_arg1)) (m ((c : Thread nD τ).loc main_arg2)) := by
  rw [e0, e1, e2]
  refine (dats m 0 c).arrAt_eq_of_after_last 6 t0_3 (by decide +kernel) _ fun j => ?_
  blk_simp
  rw [after0_6]
  exact acc6 m c X0 e0 X1 e1 X2 e2 j

end Blocks
end Cert.KernelMixIdeal.Grad

end
-- ==== Proof.MixClaim.lean ====
module

public import proofs.«01_k».proof.Defs
public import proofs.«01_k».proof.Proof.Mix
public import proofs.«01_k».proof.Proof.Gen.Pre_finite_mix

@[expose] public section

set_option maxRecDepth 16384

noncomputable section

open Idealize.ShloMosaic Idealize.ShloMosaic.TcCoe Idealize.SL.Sem
open Idealize.ShloMosaic.Pipeline (Dat)

namespace Cert.KernelMixIdeal.Grad
open Cert.KernelMixIdeal Cert.KernelMixIdeal.Gen Cert.Finite

/-- Finite arguments are arrays of reals. -/
theorem lifts (m : (ℓ : Loc nD τ sig) → Buf (Elt Ideal) ℓ) (h : Cert.Pre_KernelMixIdeal_finite_mix m) (c : Dev nD) :
    (∃ X : S2048x3088.Idx → ℝ, m ((c : Thread nD τ).loc main_arg0) = fun i => (X i : EReal))
    ∧ (∃ X : S1024x3088.Idx → ℝ, m ((c : Thread nD τ).loc main_arg1) = fun i => (X i : EReal))
    ∧ (∃ X : S2048x1024.Idx → ℝ, m ((c : Thread nD τ).loc main_arg2) = fun i => (X i : EReal))
    ∧ (∃ X : S1024.Idx → ℝ, m ((c : Thread nD τ).loc main_arg3) = fun i => (X i : EReal)) := by
  haveI : Subsingleton Cert.Pre_finite_mix.S_.Idx := ⟨fun a b => funext fun i => i.elim0⟩
  have h1 := congrFun (h c) ix0
  obtain ⟨h1, a3⟩ := and_one h1
  obtain ⟨h1, a2⟩ := and_one h1
  obtain ⟨h1, a1⟩ := and_one h1
  obtain ⟨h1, a0⟩ := and_one h1
  exact ⟨(of_all _ _ _ _ _ _ _ a0).lift, (of_all _ _ _ _ _ _ _ a1).lift, (of_all _ _ _ _ _ _ _ a2).lift, (of_all _ _ _ _ _ _ _ a3).lift⟩

theorem algebraic : Cert.algebraic_KernelMixIdeal_ReferenceMixIdeal_pre_finite_mix := by
  intro m g m' g' hpre hagree
  refine ⟨fun c => Cert.ReferenceMixIdeal.Read.val_main_v38 (F := Ideal) (m' ((c : Thread nD τ).loc Cert.ReferenceMixIdeal.main_arg0)) (m' ((c : Thread nD τ).loc Cert.ReferenceMixIdeal.main_arg1)) (m' ((c : Thread nD τ).loc Cert.ReferenceMixIdeal.main_arg2)) (m' ((c : Thread nD τ).loc Cert.ReferenceMixIdeal.main_arg3)) (m' ((c : Thread nD τ).loc Cert.ReferenceMixIdeal.main_arg4)),
    fun c => Cert.ReferenceMixIdeal.Read.val_main_v39 (F := Ideal) (m' ((c : Thread nD τ).loc Cert.ReferenceMixIdeal.main_arg0)) (m' ((c : Thread nD τ).loc Cert.ReferenceMixIdeal.main_arg1)) (m' ((c : Thread nD τ).loc Cert.ReferenceMixIdeal.main_arg2)), ?_, ?_⟩
  · run_from Cert.KernelMixIdeal.Gen.run_main m g
    all_goals obtain ⟨⟨X0, e0⟩, ⟨X1, e1⟩, ⟨X2, e2⟩, ⟨X3, e3⟩⟩ := lifts m hpre c
    · exact final5 m c X0 e0 X1 e1 X2 e2 X3 e3
    · exact final6 m c X0 e0 X1 e1 X2 e2
    all_goals rfl
  · exact θ_run_mono (Cert.ReferenceMixIdeal.Value.run m' g') fun r h c =>
      ⟨(h c).1.trans (Cert.ReferenceMixIdeal.Read.val_main_v38_eq _ _), (h c).2.1.trans (Cert.ReferenceMixIdeal.Read.val_main_v39_eq _ _ _), (h c).2.2⟩

end Cert.KernelMixIdeal.Grad

end
-- ==== Proof.SbStep.lean ====
module

public import proofs.«01_k».proof.Proof.Gen.KernelSbIdeal.Value

@[expose] public section

set_option maxRecDepth 16384

noncomputable section

open Idealize.ShloMosaic Idealize.ShloMosaic.TcCoe Idealize.SL.Sem

namespace Cert.KernelSbIdeal.Gen
open Cert.KernelSbIdeal
variable {F : FTy → Type} [FloatOps F]

/-- The columns `[o, o + 128)` of a block, as a value and the remainder of its rounding. -/
def hiOf (x : FVec F S512x128 .f32) : FVec F S512x128 .bf16 := truncf .bf16 x bitsLt_bf16_f32
def loOf (x : FVec F S512x128 .f32) : FVec F S512x128 .bf16 :=
  truncf .bf16 (subf x (extf .f32 (hiOf x) bitsLt_bf16_f32)) bitsLt_bf16_f32

/-- The four column chunks of a 512×512 block. -/
def ch0 (x : FVec F S512x512 .f32) : FVec F S512x128 .f32 := extractStridedSlice S512x128 ![0, 0] x slices_S512x512_o0_0_S512x128
def ch1 (x : FVec F S512x512 .f32) : FVec F S512x128 .f32 := extractStridedSlice S512x128 ![0, 128] x slices_S512x512_o0_128_S512x128
def ch2 (x : FVec F S512x512 .f32) : FVec F S512x128 .f32 := extractStridedSlice S512x128 ![0, 256] x slices_S512x512_o0_256_S512x128
def ch3 (x : FVec F S512x512 .f32) : FVec F S512x128 .f32 := extractStridedSlice S512x128 ![0, 384] x slices_S512x512_o0_384_S512x128

/-- The chunks with their remainders, one under the other. -/
def stackOf (x : FVec F S512x512 .f32) : FVec F S4096x128 .bf16 :=
  concatenate S4096x128 0 [⟨S512x128, hiOf (ch0 x)⟩, ⟨S512x128, loOf (ch0 x)⟩, ⟨S512x128, hiOf (ch1 x)⟩, ⟨S512x128, loOf (ch1 x)⟩, ⟨S512x128, hiOf (ch2 x)⟩, ⟨S512x128, loOf (ch2 x)⟩, ⟨S512x128, hiOf (ch3 x)⟩, ⟨S512x128, loOf (ch3 x)⟩] concatenates_S512x128_S512x128_S512x128_S512x128_S512x128_S512x128_S512x128_S512x128_S4096x128_d0

/-- The stack's product with a triangular matrix. -/
def prodOf (tri : FVec F S128x128 .bf16) (x : FVec F S512x512 .f32) : FVec F S4096x128 .f32 :=
  matmul dot_S4096x128_S128x128_S4096x128_1_0_0_1_n_n none (stackOf x) tri (constant S4096x128 .f32 0x00000000#32)

/-- A column carried over a chunk: the chunk's row sums added to it. -/
def addSum (c : FVec F S512x1 .f32) (x : FVec F S512x128 .f32) : FVec F S512x1 .f32 :=
  addf c (shapeCast S512x1 (multiReduction .add [1] S512 x 0x00000000#32 reduces_S512x128_S512 (.inl rfl) rfl) shapeCasts_S512_S512x1)

def cs1 (c : FVec F S512x1 .f32) (x : FVec F S512x512 .f32) : FVec F S512x1 .f32 := addSum c (ch0 x)
def cs2 (c : FVec F S512x1 .f32) (x : FVec F S512x512 .f32) : FVec F S512x1 .f32 := addSum (cs1 c x) (ch1 x)
def cs3 (c : FVec F S512x1 .f32) (x : FVec F S512x512 .f32) : FVec F S512x1 .f32 := addSum (cs2 c x) (ch2 x)
def cs4 (c : FVec F S512x1 .f32) (x : FVec F S512x512 .f32) : FVec F S512x1 .f32 := addSum (cs3 c x) (ch3 x)

/-- One chunk of the prefix sums: the product's two parts and the column carried in. -/
def wid (c : FVec F S512x1 .f32) : FVec F S512x128 .f32 := broadcastTo S512x128 c broadcasts_S512x1_S512x128

/-- The prefix sums of a block's rows, from the column carried in. -/
def scanOf (tri : FVec F S128x128 .bf16) (c : FVec F S512x1 .f32) (x : FVec F S512x512 .f32) : FVec F S512x512 .f32 :=
  concatenate S512x512 1
    [⟨S512x128, addf (addf (extractStridedSlice S512x128 ![0, 0] (prodOf tri x) slices_S4096x128_o0_0_S512x128) (extractStridedSlice S512x128 ![512, 0] (prodOf tri x) slices_S4096x128_o512_0_S512x128)) (wid c)⟩,
     ⟨S512x128, addf (addf (extractStridedSlice S512x128 ![1024, 0] (prodOf tri x) slices_S4096x128_o1024_0_S512x128) (extractStridedSlice S512x128 ![1536, 0] (prodOf tri x) slices_S4096x128_o1536_0_S512x128)) (wid (cs1 c x))⟩,
     ⟨S512x128, addf (addf (extractStridedSlice S512x128 ![2048, 0] (prodOf tri x) slices_S4096x128_o2048_0_S512x128) (extractStridedSlice S512x128 ![2560, 0] (prodOf tri x) slices_S4096x128_o2560_0_S512x128)) (wid (cs2 c x))⟩,
     ⟨S512x128, addf (addf (extractStridedSlice S512x128 ![3072, 0] (prodOf tri x) slices_S4096x128_o3072_0_S512x128) (extractStridedSlice S512x128 ![3584, 0] (prodOf tri x) slices_S4096x128_o3584_0_S512x128)) (wid (cs3 c x))⟩]
    concatenates_S512x128_S512x128_S512x128_S512x128_S512x512_d1

/-- Scores of a block of queries against a block of keys. -/
def scoreOf (q kb : FVec F S512x128 .bf16) : FVec F S512x512 .f32 :=
  matmul dot_S512x128_S512x128_S512x512_1_1_0_0_n_n none q kb (constant S512x512 .f32 0x00000000#32)

def logSigOf (z : FVec F S512x512 .f32) : FVec F S512x512 .f32 :=
  subf (minimumf z (broadcast S512x512 (Scalar.ofBits .f32 0x00000000#32)))
    (log (addf (broadcast S512x512 (Scalar.ofBits .f32 0x3F800000#32)) (exp (subf (broadcast S512x512 (Scalar.ofBits .f32 0x00000000#32)) (absf z)))))

/-- What is not strictly before the query is put to zero (on the diagonal block). -/
def keep (m : Option (IVec S512x512 1)) (x : FVec F S512x512 .f32) : FVec F S512x512 .f32 :=
  match m with
  | none => x
  | some v => select v x (broadcast S512x512 (Scalar.ofBits .f32 0x00000000#32))

def lmOf (m : Option (IVec S512x512 1)) (z : FVec F S512x512 .f32) : FVec F S512x512 .f32 := keep m (subf (logSigOf z) z)

/-- The weights. -/
def awOf (m : Option (IVec S512x512 1)) (st : FVec F S512x512 .f32) (tri : FVec F S128x128 .bf16) (cm : FVec F S512x1 .f32) (z : FVec F S512x512 .f32) : FVec F S512x512 .f32 :=
  keep m (exp (subf (addf (logSigOf z) st) (scanOf tri cm (lmOf m z))))

/-- The cotangent of the weights' logarithms. -/
def gOf (w p : FVec F S512x512 .f32) : FVec F S512x512 .f32 := mulf w p

/-- The cotangent of the scores. -/
def dzOf (m : Option (IVec S512x512 1)) (tri : FVec F S128x128 .bf16) (cg : FVec F S512x1 .f32) (z g : FVec F S512x512 .f32) : FVec F S512x512 .bf16 :=
  truncf .bf16 (keep m (subf (mulf g (subf (broadcast S512x512 (Scalar.ofBits .f32 0x3F800000#32)) (exp (logSigOf z))))
    (mulf (scanOf tri cg g) (exp (logSigOf z))))) bitsLt_bf16_f32

def tnOf (x : FVec F S512x512 .bf16) (y : FVec F S512x128 .bf16) : FVec F S512x128 .f32 :=
  matmul dot_S512x512_S512x128_S512x128_0_0_1_1_n_n none x y (constant S512x128 .f32 0x00000000#32)
def nnOf (x : FVec F S512x512 .bf16) (y : FVec F S512x128 .bf16) : FVec F S512x128 .f32 :=
  matmul dot_S512x512_S512x128_S512x128_1_0_0_1_n_n none x y (constant S512x128 .f32 0x00000000#32)
def bf (x : FVec F S512x512 .f32) : FVec F S512x512 .bf16 := truncf .bf16 x bitsLt_bf16_f32

/-- One head of one step. -/
structure Head (F : FTy → Type) where
  q : FVec F S512x128 .bf16
  d : FVec F S512x128 .bf16
  st : FVec F S512x512 .f32

abbrev Carry (F : FTy → Type) := FVec F S512x128 .f32 × FVec F S512x1 .f32 × FVec F S512x1 .f32

def hw (m : Option (IVec S512x512 1)) (ti : FVec F S128x128 .bf16) (h : Head F) (kb : FVec F S512x128 .bf16) (cm : FVec F S512x1 .f32) : FVec F S512x512 .f32 :=
  awOf m h.st ti cm (scoreOf h.q kb)
def hg (m : Option (IVec S512x512 1)) (ti : FVec F S128x128 .bf16) (h : Head F) (kb vb : FVec F S512x128 .bf16) (cm : FVec F S512x1 .f32) : FVec F S512x512 .f32 :=
  gOf (hw m ti h kb cm) (scoreOf h.d vb)
def hdz (m : Option (IVec S512x512 1)) (ti te : FVec F S128x128 .bf16) (h : Head F) (kb vb : FVec F S512x128 .bf16) (cm cg : FVec F S512x1 .f32) : FVec F S512x512 .bf16 :=
  dzOf m te cg (scoreOf h.q kb) (hg m ti h kb vb cm)

abbrev Acc (F : FTy → Type) := FVec F S512x128 .f32 × FVec F S512x1 .f32 × FVec F S512x1 .f32 × FVec F S512x128 .f32 × FVec F S512x1 .f32 × FVec F S512x1 .f32

/-- What a step carries on. -/
def stepR (m : Option (IVec S512x512 1)) (ti te : FVec F S128x128 .bf16) (h0 h1 : Head F) (kb vb : FVec F S512x128 .bf16) (acc : Acc F) : Acc F :=
  (addf acc.1 (nnOf (hdz m ti te h0 kb vb acc.2.1 acc.2.2.1) kb),
   cs4 acc.2.1 (lmOf m (scoreOf h0.q kb)),
   cs4 acc.2.2.1 (hg m ti h0 kb vb acc.2.1),
   addf acc.2.2.2.1 (nnOf (hdz m ti te h1 kb vb acc.2.2.2.2.1 acc.2.2.2.2.2) kb),
   cs4 acc.2.2.2.2.1 (lmOf m (scoreOf h1.q kb)),
   cs4 acc.2.2.2.2.2 (hg m ti h1 kb vb acc.2.2.2.2.1))

/-- What a step adds to the key block's gradient. -/
def dkAdd (m : Option (IVec S512x512 1)) (ti te : FVec F S128x128 .bf16) (h0 h1 : Head F) (kb vb : FVec F S512x128 .bf16) (acc : Acc F) : FVec F S512x128 .f32 :=
  addf (addf (broadcast S512x128 (Scalar.ofBits .f32 0x00000000#32)) (tnOf (hdz m ti te h0 kb vb acc.2.1 acc.2.2.1) h0.q))
    (tnOf (hdz m ti te h1 kb vb acc.2.2.2.2.1 acc.2.2.2.2.2) h1.q)

/-- What a step adds to the value block's gradient. -/
def dvAdd (m : Option (IVec S512x512 1)) (ti te : FVec F S128x128 .bf16) (h0 h1 : Head F) (kb vb : FVec F S512x128 .bf16) (acc : Acc F) : FVec F S512x128 .f32 :=
  addf (addf (broadcast S512x128 (Scalar.ofBits .f32 0x00000000#32)) (tnOf (bf (hw m ti h0 kb acc.2.1)) h0.d))
    (tnOf (bf (hw m ti h1 kb acc.2.2.2.2.1)) h1.d)

def castB (x : FVec F S512x128 .bf16) : FVec F S512x128 .bf16 := shapeCast S512x128 x shapeCasts_S512x128_S512x128
def castF (x : FVec F S512x128 .f32) : FVec F S512x128 .f32 := shapeCast S512x128 x shapeCasts_S512x128_S512x128

variable (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v41 : BitVec 32) (v43 : IVec S512x512 32) (v44 : IVec S128x128 32) (v45 : IVec S128x128 32) (v49 : IVec S512x512 32) (v63 : FVec F S512x128 .bf16) (v66 : FVec F S512x128 .bf16) (v69 : FVec F S512x128 .bf16) (v72 : FVec F S512x128 .bf16) (v75 : FVec F S512x512 .f32) (v77 : FVec F S512x128 .f32) (X_arg3 : BufTy.Contents (Elt F) arg3.view.ty) (X_arg4 : BufTy.Contents (Elt F) arg4.view.ty)

set_option maxHeartbeats 4000000 in
theorem tripR_t1 (k : Fin (k0_t1_loop i).trips) (acc : FVec F S512x128 .f32 × FVec F S512x1 .f32 × FVec F S512x1 .f32 × FVec F S512x128 .f32 × FVec F S512x1 .f32 × FVec F S512x1 .f32) (f_arg10 : BufTy.Contents (Elt F) arg10.view.ty) (f_arg11 : BufTy.Contents (Elt F) arg11.view.ty) : tripR_k0_t1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 k acc f_arg10 f_arg11 = stepR none (k0_pay4 v44 v45) (k0_pay5 v44 v45) ⟨v63, v69, v75⟩ ⟨v66, v72, k0_pay1 v77⟩ (castB (View.readAt (Elt F) arg3.view (Rect.unit (s := S2048x128) (k0_off1 i k) S512x128.size (k0_off1_inb i k)).toLoadRect X_arg3)) (castB (View.readAt (Elt F) arg4.view (Rect.unit (s := S2048x128) (k0_off1 i k) S512x128.size (k0_off1_inb i k)).toLoadRect X_arg4)) acc := by
  unfold tripR_k0_t1 trip_k0_t1
  exact Prod.ext rfl (Prod.ext rfl (Prod.ext rfl (Prod.ext rfl (Prod.ext rfl rfl))))

set_option maxHeartbeats 4000000 in
theorem tripL_t1 (k : Fin (k0_t1_loop i).trips) (acc : FVec F S512x128 .f32 × FVec F S512x1 .f32 × FVec F S512x1 .f32 × FVec F S512x128 .f32 × FVec F S512x1 .f32 × FVec F S512x1 .f32) (f_arg10 : BufTy.Contents (Elt F) arg10.view.ty) (f_arg11 : BufTy.Contents (Elt F) arg11.view.ty) : tripL_k0_t1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 k acc f_arg10 f_arg11 =
    ([⟨(Rect.unit (s := S2048x128) (k0_off1 i k) S512x128.size (k0_off1_inb i k)), castF (addf (View.readAt (Elt F) arg10.view (Rect.unit (s := S2048x128) (k0_off1 i k) S512x128.size (k0_off1_inb i k)).toLoadRect f_arg10) (dkAdd none (k0_pay4 v44 v45) (k0_pay5 v44 v45) ⟨v63, v69, v75⟩ ⟨v66, v72, k0_pay1 v77⟩ (castB (View.readAt (Elt F) arg3.view (Rect.unit (s := S2048x128) (k0_off1 i k) S512x128.size (k0_off1_inb i k)).toLoadRect X_arg3)) (castB (View.readAt (Elt F) arg4.view (Rect.unit (s := S2048x128) (k0_off1 i k) S512x128.size (k0_off1_inb i k)).toLoadRect X_arg4)) acc))⟩],
     [⟨(Rect.unit (s := S2048x128) (k0_off1 i k) S512x128.size (k0_off1_inb i k)), castF (addf (View.readAt (Elt F) arg11.view (Rect.unit (s := S2048x128) (k0_off1 i k) S512x128.size (k0_off1_inb i k)).toLoadRect f_arg11) (dvAdd none (k0_pay4 v44 v45) (k0_pay5 v44 v45) ⟨v63, v69, v75⟩ ⟨v66, v72, k0_pay1 v77⟩ (castB (View.readAt (Elt F) arg3.view (Rect.unit (s := S2048x128) (k0_off1 i k) S512x128.size (k0_off1_inb i k)).toLoadRect X_arg3)) (castB (View.readAt (Elt F) arg4.view (Rect.unit (s := S2048x128) (k0_off1 i k) S512x128.size (k0_off1_inb i k)).toLoadRect X_arg4)) acc))⟩]) := by
  unfold tripL_k0_t1 trip_k0_t1
  rfl

set_option maxHeartbeats 4000000 in
theorem tripR_t3 (k : Fin (k0_t3_loop i).trips) (acc : FVec F S512x128 .f32 × FVec F S512x1 .f32 × FVec F S512x1 .f32 × FVec F S512x128 .f32 × FVec F S512x1 .f32 × FVec F S512x1 .f32) (f_arg10 : BufTy.Contents (Elt F) arg10.view.ty) (f_arg11 : BufTy.Contents (Elt F) arg11.view.ty) : tripR_k0_t3 𝒱 c bd i arg2 harg2 arg3 harg3 arg4 harg4 arg5 harg5 arg6 harg6 arg7 harg7 arg8 harg8 arg9 harg9 arg10 harg10 arg11 harg11 v41 v43 v44 v45 v49 v63 v66 v69 v72 v75 v77 X_arg3 X_arg4 k acc f_arg10 f_arg11 = stepR (some (k0_pay141 i v41 v43 v49 1#32 k)) (k0_pay4 v44 v45) (k0_pay5 v44 v45) ⟨v63, v69, v75⟩ ⟨v66, v72, k0_pay1 v77⟩ (castB (View.readAt (Elt F) arg3.view (Rect.unit (s := S2048x128) (k0_off3 i k) S512x128.size (k0_off3_inb i k)).toLoadRect X_arg3)) (castB (View.readAt (Elt F) arg4.view (Rect.unit (s := S2048x128) (k0_off3 i k) S512x128.size (k0_off3_inb i k)).toLoadRect X_arg4)) acc := by
  unfold tripR_k0_t3 trip_k0_t3
  exact Prod.ext rfl (Prod.ext rfl (Prod.ext rfl (Prod.ext rfl (Prod.ext rfl rfl))))

set_option maxHeartbeats 4000000 in
theorem tripL_t3 (k : Fin (k0_t3_loop i).trips) (acc : FVec F S512x128 .f32 × FVec F S512x1 .f32 × FVec F S512x1 .f32 × FVec F S512x128 .f32 × FVec F S512x1 .f32 × FVec F S512x1 .f32) (f_arg10 : BufTy.Contents (Elt F) arg10.view.ty) (f_arg11 : BufTy.Contents (Elt F) arg11.view.ty) : tripL_k0_t3 𝒱 c bd i arg2 harg2 arg3 harg3 arg4 harg4 arg5 harg5 arg6 harg6 arg7 harg7 arg8 harg8 arg9 harg9 arg10 harg10 arg11 harg11 v41 v43 v44 v45 v49 v63 v66 v69 v72 v75 v77 X_arg3 X_arg4 k acc f_arg10 f_arg11 =
    ([⟨(Rect.unit (s := S2048x128) (k0_off3 i k) S512x128.size (k0_off3_inb i k)), castF (addf (View.readAt (Elt F) arg10.view (Rect.unit (s := S2048x128) (k0_off3 i k) S512x128.size (k0_off3_inb i k)).toLoadRect f_arg10) (dkAdd (some (k0_pay141 i v41 v43 v49 1#32 k)) (k0_pay4 v44 v45) (k0_pay5 v44 v45) ⟨v63, v69, v75⟩ ⟨v66, v72, k0_pay1 v77⟩ (castB (View.readAt (Elt F) arg3.view (Rect.unit (s := S2048x128) (k0_off3 i k) S512x128.size (k0_off3_inb i k)).toLoadRect X_arg3)) (castB (View.readAt (Elt F) arg4.view (Rect.unit (s := S2048x128) (k0_off3 i k) S512x128.size (k0_off3_inb i k)).toLoadRect X_arg4)) acc))⟩],
     [⟨(Rect.unit (s := S2048x128) (k0_off3 i k) S512x128.size (k0_off3_inb i k)), castF (addf (View.readAt (Elt F) arg11.view (Rect.unit (s := S2048x128) (k0_off3 i k) S512x128.size (k0_off3_inb i k)).toLoadRect f_arg11) (dvAdd (some (k0_pay141 i v41 v43 v49 1#32 k)) (k0_pay4 v44 v45) (k0_pay5 v44 v45) ⟨v63, v69, v75⟩ ⟨v66, v72, k0_pay1 v77⟩ (castB (View.readAt (Elt F) arg3.view (Rect.unit (s := S2048x128) (k0_off3 i k) S512x128.size (k0_off3_inb i k)).toLoadRect X_arg3)) (castB (View.readAt (Elt F) arg4.view (Rect.unit (s := S2048x128) (k0_off3 i k) S512x128.size (k0_off3_inb i k)).toLoadRect X_arg4)) acc))⟩]) := by
  unfold tripL_k0_t3 trip_k0_t3
  rfl

end Cert.KernelSbIdeal.Gen

end
-- ==== Proof.SbLoop.lean ====
module

public import proofs.«01_k».proof.Proof.SbStep
public import Idealize.ShloMosaic.Lib.VecWindow

@[expose] public section

set_option maxRecDepth 16384

noncomputable section

open Idealize.ShloMosaic Idealize.ShloMosaic.TcCoe Idealize.SL.Sem

namespace Cert.KernelSbIdeal.Gen
open Cert.KernelSbIdeal

theorem trips1 : ∀ i : grid0.Coords, (k0_t1_loop i).trips = (i 1).val := by decide +kernel
theorem trips2 : ∀ i : grid0.Coords, (k0_t2_loop i).trips = 0 := by decide +kernel
theorem trips3 : ∀ i : grid0.Coords, (k0_t3_loop i).trips = 1 := by decide +kernel
theorem trips4 : ∀ i : grid0.Coords, (k0_t4_loop i).trips = 0 := by decide +kernel
theorem off1 : ∀ (i : grid0.Coords) (k : Fin (k0_t1_loop i).trips), k0_off1 i k = ![512 * k.val, 0] := by decide +kernel
theorem off3 : ∀ (i : grid0.Coords) (k : Fin (k0_t3_loop i).trips), k0_off3 i k = ![512 * (i 1).val, 0] := by decide +kernel

theorem rows_inb (k : Fin 4) : ∀ a, (![512 * k.val, 0] : Fin 2 → ℕ) a + S512x128.size a ≤ S2048x128.size a := by
  revert k; decide

variable {F : FTy → Type} [FloatOps F]

/-- The rows of one key block. -/
def rows {e : EltTy} (k : Fin 4) (x : Vec F S2048x128 e) : Vec F S512x128 e :=
  VecWindow.window x ![512 * k.val, 0] S512x128.size (rows_inb k)

/-- The rows of one key block, increased. -/
def bump (k : Fin 4) (x : Vec F S2048x128 .f32) (y : FVec F S512x128 .f32) : Vec F S2048x128 .f32 :=
  VecWindow.put x ![512 * k.val, 0] S512x128.size (castF (addf (rows k x) y))

theorem readAt_rows {κ : Kind} {sp : Space} {e : EltTy} (v : View sig κ sp S2048x128 e) (f : v.ty.Contents (Elt F)) {off : Fin 2 → ℕ}
    (inb : ∀ a, off a + S512x128.size a ≤ S2048x128.size a) (k : Fin 4) (h : off = ![512 * k.val, 0]) :
    v.readAt (Elt F) (Rect.unit (s := S2048x128) off S512x128.size inb).toLoadRect f = rows k (v.read (Elt F) f) :=
  View.readAt_unit v f inb h (rows_inb k)

theorem read_bump {κ : Kind} {sp : Space} (v : View sig κ sp S2048x128 .f32) (f : v.ty.Contents (Elt F)) (L : List (View.Piece (Elt F) S2048x128 .f32))
    {off : Fin 2 → ℕ} (inb : ∀ a, off a + S512x128.size a ≤ S2048x128.size a) (k : Fin 4) (h : off = ![512 * k.val, 0]) (y : FVec F S512x128 .f32) :
    v.read (Elt F) (v.writes (Elt F) f ([⟨Rect.unit (s := S2048x128) off S512x128.size inb,
      castF (addf (v.readAt (Elt F) (Rect.unit (s := S2048x128) off S512x128.size inb).toLoadRect (v.writes (Elt F) f L)) y)⟩] ++ L))
      = bump k (v.read (Elt F) (v.writes (Elt F) f L)) y := by
  rw [View.writes_append, readAt_rows v _ inb k h]
  exact View.read_writes_cons_put v _ inb _ [] h

/-- What the loops carry: the six accumulators and the two gradients. -/
abbrev St (F : FTy → Type) := Acc F × Vec F S2048x128 .f32 × Vec F S2048x128 .f32

/-- One step on the whole state. -/
def stepSt (m : Option (IVec S512x512 1)) (ti te : FVec F S128x128 .bf16) (h0 h1 : Head F) (K V : Vec F S2048x128 .bf16) (k : Fin 4) (s : St F) : St F :=
  (stepR m ti te h0 h1 (castB (rows k K)) (castB (rows k V)) s.1,
   bump k s.2.1 (dkAdd m ti te h0 h1 (castB (rows k K)) (castB (rows k V)) s.1),
   bump k s.2.2 (dvAdd m ti te h0 h1 (castB (rows k K)) (castB (rows k V)) s.1))

/-- The unmasked steps of the first `n` key blocks. -/
def chain (ti te : FVec F S128x128 .bf16) (h0 h1 : Head F) (K V : Vec F S2048x128 .bf16) (s : St F) : ℕ → St F
  | 0 => s
  | n + 1 => if h : n < 4 then stepSt none ti te h0 h1 K V ⟨n, h⟩ (chain ti te h0 h1 K V s n) else chain ti te h0 h1 K V s n

variable (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v43 : IVec S512x512 32) (v44 : IVec S128x128 32) (v45 : IVec S128x128 32) (v49 : IVec S512x512 32) (v63 : FVec F S512x128 .bf16) (v66 : FVec F S512x128 .bf16) (v69 : FVec F S512x128 .bf16) (v72 : FVec F S512x128 .bf16) (v75 : FVec F S512x512 .f32) (v77 : FVec F S512x128 .f32) (X_arg3 : BufTy.Contents (Elt F) arg3.view.ty) (X_arg4 : BufTy.Contents (Elt F) arg4.view.ty)

theorem st2_done (v95 : BitVec 32) (G_arg10 : BufTy.Contents (Elt F) arg10.view.ty) (G_arg11 : BufTy.Contents (Elt F) arg11.view.ty) (init : FVec F S512x128 .f32 × FVec F S512x1 .f32 × FVec F S512x1 .f32 × FVec F S512x128 .f32 × FVec F S512x1 .f32 × FVec F S512x1 .f32) : st_k0_t2 𝒱 c bd i arg2 harg2 arg3 harg3 arg4 harg4 arg5 harg5 arg6 harg6 arg7 harg7 arg8 harg8 arg9 harg9 arg10 harg10 arg11 harg11 v43 v44 v45 v49 v63 v66 v69 v72 v75 v77 v95 X_arg3 X_arg4 G_arg10 G_arg11 init (k0_t2_loop i).trips = (init, [], []) := by
  rw [trips2]; rfl

theorem st4_done (v102 : BitVec 32) (G_arg10 : BufTy.Contents (Elt F) arg10.view.ty) (G_arg11 : BufTy.Contents (Elt F) arg11.view.ty) (init : FVec F S512x128 .f32 × FVec F S512x1 .f32 × FVec F S512x1 .f32 × FVec F S512x128 .f32 × FVec F S512x1 .f32 × FVec F S512x1 .f32) : st_k0_t4 𝒱 c bd i arg2 harg2 arg3 harg3 arg4 harg4 arg5 harg5 arg6 harg6 arg7 harg7 arg8 harg8 arg9 harg9 arg10 harg10 arg11 harg11 v43 v44 v45 v49 v63 v66 v69 v72 v75 v77 v102 X_arg3 X_arg4 G_arg10 G_arg11 init (k0_t4_loop i).trips = (init, [], []) := by
  rw [trips4]; rfl

/-- The unmasked loop, step by step. -/
theorem st1_spec (G_arg10 : BufTy.Contents (Elt F) arg10.view.ty) (G_arg11 : BufTy.Contents (Elt F) arg11.view.ty) (init : FVec F S512x128 .f32 × FVec F S512x1 .f32 × FVec F S512x1 .f32 × FVec F S512x128 .f32 × FVec F S512x1 .f32 × FVec F S512x1 .f32) (n : ℕ) (hn : n ≤ (k0_t1_loop i).trips) :
    ((st_k0_t1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 init n).1, arg10.view.read (Elt F) (arg10.view.writes (Elt F) G_arg10 (st_k0_t1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 init n).2.1),
      arg11.view.read (Elt F) (arg11.view.writes (Elt F) G_arg11 (st_k0_t1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 init n).2.2))
    = chain (k0_pay4 v44 v45) (k0_pay5 v44 v45) (⟨v63, v69, v75⟩) (⟨v66, v72, k0_pay1 v77⟩) (arg3.view.read (Elt F) X_arg3) (arg4.view.read (Elt F) X_arg4)
        (init, arg10.view.read (Elt F) G_arg10, arg11.view.read (Elt F) G_arg11) n := by
  induction n with
  | zero => rfl
  | succ n ih =>
    have hlt : n < (k0_t1_loop i).trips := hn
    have h4 : n < 4 := lt_of_lt_of_le hlt (by rw [trips1]; exact (i 1).isLt.le)
    have ih := ih hlt.le
    rw [chain, dif_pos h4, ← ih]
    have e := st_k0_t1_succ 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 init ⟨n, hlt⟩
    have e' : st_k0_t1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 init (n + 1) = _ := e
    rw [e', tripR_t1, tripL_t1, readAt_rows arg3.view _ _ ⟨n, h4⟩ (off1 i ⟨n, hlt⟩), readAt_rows arg4.view _ _ ⟨n, h4⟩ (off1 i ⟨n, hlt⟩)]
    exact Prod.ext rfl (Prod.ext (read_bump arg10.view _ _ _ ⟨n, h4⟩ (off1 i ⟨n, hlt⟩) _) (read_bump arg11.view _ _ _ ⟨n, h4⟩ (off1 i ⟨n, hlt⟩) _))

/-- The masked loop is one step. -/
theorem st3_spec (v41 : BitVec 32) (G_arg10 : BufTy.Contents (Elt F) arg10.view.ty) (G_arg11 : BufTy.Contents (Elt F) arg11.view.ty) (init : FVec F S512x128 .f32 × FVec F S512x1 .f32 × FVec F S512x1 .f32 × FVec F S512x128 .f32 × FVec F S512x1 .f32 × FVec F S512x1 .f32) (k : Fin (k0_t3_loop i).trips) :
    ((st_k0_t3 𝒱 c bd i arg2 harg2 arg3 harg3 arg4 harg4 arg5 harg5 arg6 harg6 arg7 harg7 arg8 harg8 arg9 harg9 arg10 harg10 arg11 harg11 v41 v43 v44 v45 v49 v63 v66 v69 v72 v75 v77 X_arg3 X_arg4 G_arg10 G_arg11 init (k0_t3_loop i).trips).1, arg10.view.read (Elt F) (arg10.view.writes (Elt F) G_arg10 (st_k0_t3 𝒱 c bd i arg2 harg2 arg3 harg3 arg4 harg4 arg5 harg5 arg6 harg6 arg7 harg7 arg8 harg8 arg9 harg9 arg10 harg10 arg11 harg11 v41 v43 v44 v45 v49 v63 v66 v69 v72 v75 v77 X_arg3 X_arg4 G_arg10 G_arg11 init (k0_t3_loop i).trips).2.1),
      arg11.view.read (Elt F) (arg11.view.writes (Elt F) G_arg11 (st_k0_t3 𝒱 c bd i arg2 harg2 arg3 harg3 arg4 harg4 arg5 harg5 arg6 harg6 arg7 harg7 arg8 harg8 arg9 harg9 arg10 harg10 arg11 harg11 v41 v43 v44 v45 v49 v63 v66 v69 v72 v75 v77 X_arg3 X_arg4 G_arg10 G_arg11 init (k0_t3_loop i).trips).2.2))
    = stepSt (some (k0_pay141 i v41 v43 v49 1#32 k)) (k0_pay4 v44 v45) (k0_pay5 v44 v45) (⟨v63, v69, v75⟩) (⟨v66, v72, k0_pay1 v77⟩) (arg3.view.read (Elt F) X_arg3) (arg4.view.read (Elt F) X_arg4) (i 1)
        (init, arg10.view.read (Elt F) G_arg10, arg11.view.read (Elt F) G_arg11) := by
  have hk : k.val = 0 := by have h := k.isLt.trans_eq (trips3 i); omega
  have e := st_k0_t3_succ 𝒱 c bd i arg2 harg2 arg3 harg3 arg4 harg4 arg5 harg5 arg6 harg6 arg7 harg7 arg8 harg8 arg9 harg9 arg10 harg10 arg11 harg11 v41 v43 v44 v45 v49 v63 v66 v69 v72 v75 v77 X_arg3 X_arg4 G_arg10 G_arg11 init k
  have e' : st_k0_t3 𝒱 c bd i arg2 harg2 arg3 harg3 arg4 harg4 arg5 harg5 arg6 harg6 arg7 harg7 arg8 harg8 arg9 harg9 arg10 harg10 arg11 harg11 v41 v43 v44 v45 v49 v63 v66 v69 v72 v75 v77 X_arg3 X_arg4 G_arg10 G_arg11 init (k0_t3_loop i).trips = _ := (congrArg _ ((trips3 i).trans (by rw [hk]))).trans e
  have e0 : st_k0_t3 𝒱 c bd i arg2 harg2 arg3 harg3 arg4 harg4 arg5 harg5 arg6 harg6 arg7 harg7 arg8 harg8 arg9 harg9 arg10 harg10 arg11 harg11 v41 v43 v44 v45 v49 v63 v66 v69 v72 v75 v77 X_arg3 X_arg4 G_arg10 G_arg11 init k.val = (init, [], []) := by rw [hk]; rfl
  rw [e', e0, tripR_t3, tripL_t3, readAt_rows arg3.view _ _ (i 1) (off3 i k), readAt_rows arg4.view _ _ (i 1) (off3 i k)]
  exact Prod.ext rfl (Prod.ext (read_bump arg10.view _ [] _ (i 1) (off3 i k) _) (read_bump arg11.view _ [] _ (i 1) (off3 i k) _))

end Cert.KernelSbIdeal.Gen

end
-- ==== Proof.SbSeg.lean ====
module

public import proofs.«01_k».proof.Proof.SbLoop

@[expose] public section

set_option maxRecDepth 16384

noncomputable section

open Idealize.ShloMosaic Idealize.ShloMosaic.TcCoe Idealize.SL.Sem

namespace Cert.KernelSbIdeal.Gen
open Cert.KernelSbIdeal
variable {F : FTy → Type} [FloatOps F]
/-- The state a loop hands on, as the run states it. -/
abbrev Seg (F : FTy → Type) := Acc F × List (View.Piece (Elt F) S2048x128 .f32) × List (View.Piece (Elt F) S2048x128 .f32)
/-- A tuple, component by component. -/
abbrev tup (a : Acc F) : Acc F := (a.1, a.2.1, a.2.2.1, a.2.2.2.1, a.2.2.2.2.1, a.2.2.2.2.2)

theorem tup_eq (a : Acc F) : tup a = a := rfl

variable (𝒱 : Variants) (c : Dev nD) (bd : Option 𝒱.V) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (v43 : IVec S512x512 32) (v44 : IVec S128x128 32) (v45 : IVec S128x128 32) (v49 : IVec S512x512 32) (v63 : FVec F S512x128 .bf16) (v66 : FVec F S512x128 .bf16) (v69 : FVec F S512x128 .bf16) (v72 : FVec F S512x128 .bf16) (v75 : FVec F S512x512 .f32) (v77 : FVec F S512x128 .f32) (X_arg3 : BufTy.Contents (Elt F) arg3.view.ty) (X_arg4 : BufTy.Contents (Elt F) arg4.view.ty)  (G_arg10 : BufTy.Contents (Elt F) arg10.view.ty) (G_arg11 : BufTy.Contents (Elt F) arg11.view.ty) (P : List (View.Piece (Elt F) S2048x128 .f32) × List (View.Piece (Elt F) S2048x128 .f32)) (init : Acc F)

/-- The four loops of a grid point, one after the other. -/
def seg1 (v41 v95 v102 : BitVec 32) : Seg F := st_k0_t1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 (arg10.view.writes (Elt F) G_arg10 P.1) (arg11.view.writes (Elt F) G_arg11 P.2) init (Scf.trips (k0_t1_loop i).lb (k0_t1_loop i).ub (k0_t1_loop i).st)
def pcs1 (v41 v95 v102 : BitVec 32) : List (View.Piece (Elt F) S2048x128 .f32) × List (View.Piece (Elt F) S2048x128 .f32) :=
  ((seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.1 ++ P.1, (seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.2 ++ P.2)
def seg2 (v41 v95 v102 : BitVec 32) : Seg F := st_k0_t2 𝒱 c bd i arg2 harg2 arg3 harg3 arg4 harg4 arg5 harg5 arg6 harg6 arg7 harg7 arg8 harg8 arg9 harg9 arg10 harg10 arg11 harg11 v43 v44 v45 v49 v63 v66 v69 v72 v75 v77 v95 X_arg3 X_arg4 (arg10.view.writes (Elt F) G_arg10 (pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (arg11.view.writes (Elt F) G_arg11 (pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2) (tup (seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (Scf.trips (k0_t2_loop i).lb (k0_t2_loop i).ub (k0_t2_loop i).st)
def pcs2 (v41 v95 v102 : BitVec 32) : List (View.Piece (Elt F) S2048x128 .f32) × List (View.Piece (Elt F) S2048x128 .f32) :=
  ((seg2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.1 ++ (pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1, (seg2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.2 ++ (pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2)
def seg3 (v41 v95 v102 : BitVec 32) : Seg F := st_k0_t3 𝒱 c bd i arg2 harg2 arg3 harg3 arg4 harg4 arg5 harg5 arg6 harg6 arg7 harg7 arg8 harg8 arg9 harg9 arg10 harg10 arg11 harg11 v41 v43 v44 v45 v49 v63 v66 v69 v72 v75 v77 X_arg3 X_arg4 (arg10.view.writes (Elt F) G_arg10 (pcs2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (arg11.view.writes (Elt F) G_arg11 (pcs2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2) (tup (seg2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (Scf.trips (k0_t3_loop i).lb (k0_t3_loop i).ub (k0_t3_loop i).st)
def pcs3 (v41 v95 v102 : BitVec 32) : List (View.Piece (Elt F) S2048x128 .f32) × List (View.Piece (Elt F) S2048x128 .f32) :=
  ((seg3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.1 ++ (pcs2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1, (seg3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.2 ++ (pcs2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2)
def seg4 (v41 v95 v102 : BitVec 32) : Seg F := st_k0_t4 𝒱 c bd i arg2 harg2 arg3 harg3 arg4 harg4 arg5 harg5 arg6 harg6 arg7 harg7 arg8 harg8 arg9 harg9 arg10 harg10 arg11 harg11 v43 v44 v45 v49 v63 v66 v69 v72 v75 v77 v102 X_arg3 X_arg4 (arg10.view.writes (Elt F) G_arg10 (pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (arg11.view.writes (Elt F) G_arg11 (pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2) (tup (seg3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (Scf.trips (k0_t4_loop i).lb (k0_t4_loop i).ub (k0_t4_loop i).st)
def pcs4 (v41 v95 v102 : BitVec 32) : List (View.Piece (Elt F) S2048x128 .f32) × List (View.Piece (Elt F) S2048x128 .f32) :=
  ((seg4 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.1 ++ (pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1, (seg4 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.2 ++ (pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2)

/-- Together they are the unmasked steps before the query block and the masked one at it. -/
theorem seg4_spec (v41 v95 v102 : BitVec 32) (k : Fin (k0_t3_loop i).trips) :
    ((seg4 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1, arg10.view.read (Elt F) (arg10.view.writes (Elt F) G_arg10 (pcs4 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1),
      arg11.view.read (Elt F) (arg11.view.writes (Elt F) G_arg11 (pcs4 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2))
    = stepSt (some (k0_pay141 i v41 v43 v49 1#32 k)) (k0_pay4 v44 v45) (k0_pay5 v44 v45) ⟨v63, v69, v75⟩ ⟨v66, v72, k0_pay1 v77⟩
        (arg3.view.read (Elt F) X_arg3) (arg4.view.read (Elt F) X_arg4) (i 1)
        (chain (k0_pay4 v44 v45) (k0_pay5 v44 v45) ⟨v63, v69, v75⟩ ⟨v66, v72, k0_pay1 v77⟩ (arg3.view.read (Elt F) X_arg3) (arg4.view.read (Elt F) X_arg4)
          (init, arg10.view.read (Elt F) (arg10.view.writes (Elt F) G_arg10 P.1), arg11.view.read (Elt F) (arg11.view.writes (Elt F) G_arg11 P.2)) (i 1).val) := by
  have h1 := st1_spec 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 (arg10.view.writes (Elt F) G_arg10 P.1) (arg11.view.writes (Elt F) G_arg11 P.2) init (k0_t1_loop i).trips (Nat.le_refl _)
  have e2 : seg2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102 = (tup (seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1, [], []) := by unfold seg2; exact st2_done 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 v95 (arg10.view.writes (Elt F) G_arg10 (pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (arg11.view.writes (Elt F) G_arg11 (pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2) (tup (seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1)
  have e4 : seg4 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102 = (tup (seg3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1, [], []) := by unfold seg4; exact st4_done 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 v102 (arg10.view.writes (Elt F) G_arg10 (pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (arg11.view.writes (Elt F) G_arg11 (pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2) (tup (seg3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1)
  have p2 : pcs2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102 = pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102 := by unfold pcs2; rw [e2]; generalize pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102 = Q; rfl
  have p4 : pcs4 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102 = pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102 := by unfold pcs4; rw [e4]; generalize pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102 = Q; rfl
  have h3 := st3_spec 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 v41 (arg10.view.writes (Elt F) G_arg10 (pcs2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (arg11.view.writes (Elt F) G_arg11 (pcs2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2) (tup (seg2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) k
  rw [p4, e4, tup_eq]
  have q1 : arg10.view.writes (Elt F) G_arg10 (pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1 = arg10.view.writes (Elt F) (arg10.view.writes (Elt F) G_arg10 (pcs2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1) (seg3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.1 := View.writes_append _ _ _ _
  have q2 : arg11.view.writes (Elt F) G_arg11 (pcs3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2 = arg11.view.writes (Elt F) (arg11.view.writes (Elt F) G_arg11 (pcs2 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2) (seg3 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.2 := View.writes_append _ _ _ _
  rw [q1, q2]
  unfold seg3
  refine h3.trans ?_
  rw [e2, p2, tup_eq, tup_eq]
  have q3 : arg10.view.writes (Elt F) G_arg10 (pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1 = arg10.view.writes (Elt F) (arg10.view.writes (Elt F) G_arg10 P.1) (seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.1 := View.writes_append _ _ _ _
  have q4 : arg11.view.writes (Elt F) G_arg11 (pcs1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2 = arg11.view.writes (Elt F) (arg11.view.writes (Elt F) G_arg11 P.2) (seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.2 := View.writes_append _ _ _ _
  rw [q3, q4]
  have h1' : ((seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).1, arg10.view.read (Elt F) (arg10.view.writes (Elt F) (arg10.view.writes (Elt F) G_arg10 P.1) (seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.1), arg11.view.read (Elt F) (arg11.view.writes (Elt F) (arg11.view.writes (Elt F) G_arg11 P.2) (seg1 𝒱 c bd i arg2 harg2 arg3 harg3 arg4 harg4 arg5 harg5 arg6 harg6 arg7 harg7 arg8 harg8 arg9 harg9 arg10 harg10 arg11 harg11 v43 v44 v45 v49 v63 v66 v69 v72 v75 v77 X_arg3 X_arg4 G_arg10 G_arg11 P init v41 v95 v102).2.2)) = _ := h1
  rw [h1', trips1]

end Cert.KernelSbIdeal.Gen

end
-- ==== Proof.SbRun.lean ====
module

public import proofs.«01_k».proof.Proof.SbSeg

@[expose] public section

set_option maxRecDepth 16384

noncomputable section

open Idealize.ShloMosaic Idealize.ShloMosaic.TcCoe Idealize.SL.Sem

namespace Cert.KernelSbIdeal.Gen
open Cert.KernelSbIdeal
variable {F : FTy → Type} [FloatOps F]
/-- What a grid point of the case leaves, by its four loops. -/
theorem runA (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : cond0_0 i) (hc1 : ¬cond0_1 i)     (x0 : Vec F S512x128 .bf16) (x1 : Vec F S2048x128 .bf16) (x2 : Vec F S2048x128 .bf16) (x3 : Vec F S512x128 .f32) (x4 : Vec F S2x512x128 .f32) :
    (kernelRun0_A c i arg2 harg2 arg3 harg3 arg4 harg4 arg5 harg5 arg6 harg6 arg7 harg7 arg8 harg8 arg9 harg9 arg10 harg10 arg11 harg11 hc0 hc1 x0 x1 x2 x3 x4).1 = [⟨Rect.unit (s := S512x128) ![0, 0] S512x128.size (inb_S512x128_S512x128_0_0), k0_pay18 k0_pay256 (seg4 Variants.none c none i arg2 harg2 arg3 harg3 arg4 harg4 arg5 harg5 arg6 harg6 arg7 harg7 arg8 harg8 arg9 harg9 arg10 harg10 arg11 harg11 kernelRun0_A.sl.v43 kernelRun0_A.sl.v44 kernelRun0_A.sl.v45 (kernelRun0_A.sl.r i) (kernelRun0_A.sl.r_1 c arg2 harg2 x0) (kernelRun0_A.sl.r_2 c arg2 harg2 x0) (kernelRun0_A.sl.r_3 c arg5 harg5 x3) (kernelRun0_A.sl.r_4 c arg5 harg5 x3) (kernelRun0_A.sl.r_5 c arg6 harg6 x4) (kernelRun0_A.sl.r_6 c arg6 harg6 x4) (harg3.unread x1) (harg4.unread x2) arg10.view.junk arg11.view.junk (kernelRun0_A.sl.HS0_1, kernelRun0_A.sl.HS1_1) (k0_pay2, k0_pay3, k0_pay3, k0_pay2, k0_pay3, k0_pay3) (kernelRun0_A.sl.v41 i) (Scalar.addi (0#32) (Scalar.muli (Scalar.divsi (Scalar.subi (kernelRun0_A.sl.v41 i) 0#32) 1#32) 1#32)) (Scalar.addi (kernelRun0_A.sl.v41 i) (Scalar.muli (Scalar.divsi (Scalar.subi (kernelRun0_A.sl.v23 i) (kernelRun0_A.sl.v41 i)) 1#32) 1#32))).1.1 (seg4 Variants.none c none i arg2 harg2 arg3 harg3 arg4 harg4 arg5 harg5 arg6 harg6 arg7 harg7 arg8 harg8 arg9 harg9 arg10 harg10 arg11 harg11 kernelRun0_A.sl.v43 kernelRun0_A.sl.v44 kernelRun0_A.sl.v45 (kernelRun0_A.sl.r i) (kernelRun0_A.sl.r_1 c arg2 harg2 x0) (kernelRun0_A.sl.r_2 c arg2 harg2 x0) (kernelRun0_A.sl.r_3 c arg5 harg5 x3) (kernelRun0_A.sl.r_4 c arg5 harg5 x3) (kernelRun0_A.sl.r_5 c arg6 harg6 x4) (kernelRun0_A.sl.r_6 c arg6 harg6 x4) (harg3.unread x1) (harg4.unread x2) arg10.view.junk arg11.view.junk (kernelRun0_A.sl.HS0_1, kernelRun0_A.sl.HS1_1) (k0_pay2, k0_pay3, k0_pay3, k0_pay2, k0_pay3, k0_pay3) (kernelRun0_A.sl.v41 i) (Scalar.addi (0#32) (Scalar.muli (Scalar.divsi (Scalar.subi (kernelRun0_A.sl.v41 i) 0#32) 1#32) 1#32)) (Scalar.addi (kernelRun0_A.sl.v41 i) (Scalar.muli (Scalar.divsi (Scalar.subi (kernelRun0_A.sl.v23 i) (kernelRun0_A.sl.v41 i)) 1#32) 1#32))).1.2.2.2.1⟩]
    ∧ (kernelRun0_A c i arg2 harg2 arg3 harg3 arg4 harg4 arg5 harg5 arg6 harg6 arg7 harg7 arg8 harg8 arg9 harg9 arg10 harg10 arg11 harg11 hc0 hc1 x0 x1 x2 x3 x4).2.2.2.1 = (pcs4 Variants.none c none i arg2 harg2 arg3 harg3 arg4 harg4 arg5 harg5 arg6 harg6 arg7 harg7 arg8 harg8 arg9 harg9 arg10 harg10 arg11 harg11 kernelRun0_A.sl.v43 kernelRun0_A.sl.v44 kernelRun0_A.sl.v45 (kernelRun0_A.sl.r i) (kernelRun0_A.sl.r_1 c arg2 harg2 x0) (kernelRun0_A.sl.r_2 c arg2 harg2 x0) (kernelRun0_A.sl.r_3 c arg5 harg5 x3) (kernelRun0_A.sl.r_4 c arg5 harg5 x3) (kernelRun0_A.sl.r_5 c arg6 harg6 x4) (kernelRun0_A.sl.r_6 c arg6 harg6 x4) (harg3.unread x1) (harg4.unread x2) arg10.view.junk arg11.view.junk (kernelRun0_A.sl.HS0_1, kernelRun0_A.sl.HS1_1) (k0_pay2, k0_pay3, k0_pay3, k0_pay2, k0_pay3, k0_pay3) (kernelRun0_A.sl.v41 i) (Scalar.addi (0#32) (Scalar.muli (Scalar.divsi (Scalar.subi (kernelRun0_A.sl.v41 i) 0#32) 1#32) 1#32)) (Scalar.addi (kernelRun0_A.sl.v41 i) (Scalar.muli (Scalar.divsi (Scalar.subi (kernelRun0_A.sl.v23 i) (kernelRun0_A.sl.v41 i)) 1#32) 1#32))).1 ∧ (kernelRun0_A c i arg2 harg2 arg3 harg3 arg4 harg4 arg5 harg5 arg6 harg6 arg7 harg7 arg8 harg8 arg9 harg9 arg10 harg10 arg11 harg11 hc0 hc1 x0 x1 x2 x3 x4).2.2.2.2.1 = (pcs4 Variants.none c none i arg2 harg2 arg3 harg3 arg4 harg4 arg5 harg5 arg6 harg6 arg7 harg7 arg8 harg8 arg9 harg9 arg10 harg10 arg11 harg11 kernelRun0_A.sl.v43 kernelRun0_A.sl.v44 kernelRun0_A.sl.v45 (kernelRun0_A.sl.r i) (kernelRun0_A.sl.r_1 c arg2 harg2 x0) (kernelRun0_A.sl.r_2 c arg2 harg2 x0) (kernelRun0_A.sl.r_3 c arg5 harg5 x3) (kernelRun0_A.sl.r_4 c arg5 harg5 x3) (kernelRun0_A.sl.r_5 c arg6 harg6 x4) (kernelRun0_A.sl.r_6 c arg6 harg6 x4) (harg3.unread x1) (harg4.unread x2) arg10.view.junk arg11.view.junk (kernelRun0_A.sl.HS0_1, kernelRun0_A.sl.HS1_1) (k0_pay2, k0_pay3, k0_pay3, k0_pay2, k0_pay3, k0_pay3) (kernelRun0_A.sl.v41 i) (Scalar.addi (0#32) (Scalar.muli (Scalar.divsi (Scalar.subi (kernelRun0_A.sl.v41 i) 0#32) 1#32) 1#32)) (Scalar.addi (kernelRun0_A.sl.v41 i) (Scalar.muli (Scalar.divsi (Scalar.subi (kernelRun0_A.sl.v23 i) (kernelRun0_A.sl.v41 i)) 1#32) 1#32))).2 := by
  unfold kernelRun0_A pcs4 seg4 pcs3 seg3 pcs2 seg2 pcs1 seg1
  dsimp only [tup]
  refine ⟨?_, ?_, ?_⟩
  all_goals congr 8
/-- What a grid point of the case leaves, by its four loops. -/
theorem runB (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : ¬cond0_1 i)     (x0 : Vec F S512x128 .bf16) (x1 : Vec F S2048x128 .bf16) (x2 : Vec F S2048x128 .bf16) (x3 : Vec F S512x128 .f32) (x4 : Vec F S2x512x128 .f32) (xs0 : Vec F S2048x128 .f32) (xs1 : Vec F S2048x128 .f32) :
    (kernelRun0_B c i arg2 harg2 arg3 harg3 arg4 harg4 arg5 harg5 arg6 harg6 arg7 harg7 arg8 harg8 arg9 harg9 arg10 harg10 arg11 harg11 hc0 hc1 x0 x1 x2 x3 x4 xs0 xs1).1 = [⟨Rect.unit (s := S512x128) ![0, 0] S512x128.size (inb_S512x128_S512x128_0_0), k0_pay18 k0_pay256 (seg4 Variants.none c none i arg2 harg2 arg3 harg3 arg4 harg4 arg5 harg5 arg6 harg6 arg7 harg7 arg8 harg8 arg9 harg9 arg10 harg10 arg11 harg11 kernelRun0_B.sl.v43 kernelRun0_B.sl.v44 kernelRun0_B.sl.v45 (kernelRun0_B.sl.r i) (kernelRun0_B.sl.r_1 c arg2 harg2 x0) (kernelRun0_B.sl.r_2 c arg2 harg2 x0) (kernelRun0_B.sl.r_3 c arg5 harg5 x3) (kernelRun0_B.sl.r_4 c arg5 harg5 x3) (kernelRun0_B.sl.r_5 c arg6 harg6 x4) (kernelRun0_B.sl.r_6 c arg6 harg6 x4) (harg3.unread x1) (harg4.unread x2) (harg10.unread xs0) (harg11.unread xs1) ([], []) (k0_pay2, k0_pay3, k0_pay3, k0_pay2, k0_pay3, k0_pay3) (kernelRun0_B.sl.v41 i) (Scalar.addi (0#32) (Scalar.muli (Scalar.divsi (Scalar.subi (kernelRun0_B.sl.v41 i) 0#32) 1#32) 1#32)) (Scalar.addi (kernelRun0_B.sl.v41 i) (Scalar.muli (Scalar.divsi (Scalar.subi (kernelRun0_B.sl.v23 i) (kernelRun0_B.sl.v41 i)) 1#32) 1#32))).1.1 (seg4 Variants.none c none i arg2 harg2 arg3 harg3 arg4 harg4 arg5 harg5 arg6 harg6 arg7 harg7 arg8 harg8 arg9 harg9 arg10 harg10 arg11 harg11 kernelRun0_B.sl.v43 kernelRun0_B.sl.v44 kernelRun0_B.sl.v45 (kernelRun0_B.sl.r i) (kernelRun0_B.sl.r_1 c arg2 harg2 x0) (kernelRun0_B.sl.r_2 c arg2 harg2 x0) (kernelRun0_B.sl.r_3 c arg5 harg5 x3) (kernelRun0_B.sl.r_4 c arg5 harg5 x3) (kernelRun0_B.sl.r_5 c arg6 harg6 x4) (kernelRun0_B.sl.r_6 c arg6 harg6 x4) (harg3.unread x1) (harg4.unread x2) (harg10.unread xs0) (harg11.unread xs1) ([], []) (k0_pay2, k0_pay3, k0_pay3, k0_pay2, k0_pay3, k0_pay3) (kernelRun0_B.sl.v41 i) (Scalar.addi (0#32) (Scalar.muli (Scalar.divsi (Scalar.subi (kernelRun0_B.sl.v41 i) 0#32) 1#32) 1#32)) (Scalar.addi (kernelRun0_B.sl.v41 i) (Scalar.muli (Scalar.divsi (Scalar.subi (kernelRun0_B.sl.v23 i) (kernelRun0_B.sl.v41 i)) 1#32) 1#32))).1.2.2.2.1⟩]
    ∧ (kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.1 = (pcs4 Variants.none c none i arg2 harg2 arg3 harg3 arg4 harg4 arg5 harg5 arg6 harg6 arg7 harg7 arg8 harg8 arg9 harg9 arg10 harg10 arg11 harg11 kernelRun0_B.sl.v43 kernelRun0_B.sl.v44 kernelRun0_B.sl.v45 (kernelRun0_B.sl.r i) (kernelRun0_B.sl.r_1 c arg2 harg2 x0) (kernelRun0_B.sl.r_2 c arg2 harg2 x0) (kernelRun0_B.sl.r_3 c arg5 harg5 x3) (kernelRun0_B.sl.r_4 c arg5 harg5 x3) (kernelRun0_B.sl.r_5 c arg6 harg6 x4) (kernelRun0_B.sl.r_6 c arg6 harg6 x4) (harg3.unread x1) (harg4.unread x2) (harg10.unread xs0) (harg11.unread xs1) ([], []) (k0_pay2, k0_pay3, k0_pay3, k0_pay2, k0_pay3, k0_pay3) (kernelRun0_B.sl.v41 i) (Scalar.addi (0#32) (Scalar.muli (Scalar.divsi (Scalar.subi (kernelRun0_B.sl.v41 i) 0#32) 1#32) 1#32)) (Scalar.addi (kernelRun0_B.sl.v41 i) (Scalar.muli (Scalar.divsi (Scalar.subi (kernelRun0_B.sl.v23 i) (kernelRun0_B.sl.v41 i)) 1#32) 1#32))).1 ∧ (kernelRun0_B c i arg2 harg2 arg3 harg3 arg4 harg4 arg5 harg5 arg6 harg6 arg7 harg7 arg8 harg8 arg9 harg9 arg10 harg10 arg11 harg11 hc0 hc1 x0 x1 x2 x3 x4 xs0 xs1).2.2.2.2.1 = (pcs4 Variants.none c none i arg2 harg2 arg3 harg3 arg4 harg4 arg5 harg5 arg6 harg6 arg7 harg7 arg8 harg8 arg9 harg9 arg10 harg10 arg11 harg11 kernelRun0_B.sl.v43 kernelRun0_B.sl.v44 kernelRun0_B.sl.v45 (kernelRun0_B.sl.r i) (kernelRun0_B.sl.r_1 c arg2 harg2 x0) (kernelRun0_B.sl.r_2 c arg2 harg2 x0) (kernelRun0_B.sl.r_3 c arg5 harg5 x3) (kernelRun0_B.sl.r_4 c arg5 harg5 x3) (kernelRun0_B.sl.r_5 c arg6 harg6 x4) (kernelRun0_B.sl.r_6 c arg6 harg6 x4) (harg3.unread x1) (harg4.unread x2) (harg10.unread xs0) (harg11.unread xs1) ([], []) (k0_pay2, k0_pay3, k0_pay3, k0_pay2, k0_pay3, k0_pay3) (kernelRun0_B.sl.v41 i) (Scalar.addi (0#32) (Scalar.muli (Scalar.divsi (Scalar.subi (kernelRun0_B.sl.v41 i) 0#32) 1#32) 1#32)) (Scalar.addi (kernelRun0_B.sl.v41 i) (Scalar.muli (Scalar.divsi (Scalar.subi (kernelRun0_B.sl.v23 i) (kernelRun0_B.sl.v41 i)) 1#32) 1#32))).2 := by
  unfold kernelRun0_B pcs4 seg4 pcs3 seg3 pcs2 seg2 pcs1 seg1
  dsimp only [tup]
  simp only [List.append_nil, View.writes_nil, and_self, true_and]
/-- What a grid point of the case leaves, by its four loops. -/
theorem runC (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : cond0_1 i)     (x0 : Vec F S512x128 .bf16) (x1 : Vec F S2048x128 .bf16) (x2 : Vec F S2048x128 .bf16) (x3 : Vec F S512x128 .f32) (x4 : Vec F S2x512x128 .f32) (xs0 : Vec F S2048x128 .f32) (xs1 : Vec F S2048x128 .f32) :
    (kernelRun0_C c i arg2 harg2 arg3 harg3 arg4 harg4 arg5 harg5 arg6 harg6 arg7 harg7 arg8 harg8 arg9 harg9 arg10 harg10 arg11 harg11 hc0 hc1 x0 x1 x2 x3 x4 xs0 xs1).1 = [⟨Rect.unit (s := S512x128) ![0, 0] S512x128.size (inb_S512x128_S512x128_0_0), k0_pay18 k0_pay256 (seg4 Variants.none c none i arg2 harg2 arg3 harg3 arg4 harg4 arg5 harg5 arg6 harg6 arg7 harg7 arg8 harg8 arg9 harg9 arg10 harg10 arg11 harg11 kernelRun0_C.sl.v43 kernelRun0_C.sl.v44 kernelRun0_C.sl.v45 (kernelRun0_C.sl.r i) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg6 harg6 x4) (kernelRun0_C.sl.r_6 c arg6 harg6 x4) (harg3.unread x1) (harg4.unread x2) (harg10.unread xs0) (harg11.unread xs1) ([], []) (k0_pay2, k0_pay3, k0_pay3, k0_pay2, k0_pay3, k0_pay3) (kernelRun0_C.sl.v41 i) (Scalar.addi (0#32) (Scalar.muli (Scalar.divsi (Scalar.subi (kernelRun0_C.sl.v41 i) 0#32) 1#32) 1#32)) (Scalar.addi (kernelRun0_C.sl.v41 i) (Scalar.muli (Scalar.divsi (Scalar.subi (kernelRun0_C.sl.v23 i) (kernelRun0_C.sl.v41 i)) 1#32) 1#32))).1.1 (seg4 Variants.none c none i arg2 harg2 arg3 harg3 arg4 harg4 arg5 harg5 arg6 harg6 arg7 harg7 arg8 harg8 arg9 harg9 arg10 harg10 arg11 harg11 kernelRun0_C.sl.v43 kernelRun0_C.sl.v44 kernelRun0_C.sl.v45 (kernelRun0_C.sl.r i) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg6 harg6 x4) (kernelRun0_C.sl.r_6 c arg6 harg6 x4) (harg3.unread x1) (harg4.unread x2) (harg10.unread xs0) (harg11.unread xs1) ([], []) (k0_pay2, k0_pay3, k0_pay3, k0_pay2, k0_pay3, k0_pay3) (kernelRun0_C.sl.v41 i) (Scalar.addi (0#32) (Scalar.muli (Scalar.divsi (Scalar.subi (kernelRun0_C.sl.v41 i) 0#32) 1#32) 1#32)) (Scalar.addi (kernelRun0_C.sl.v41 i) (Scalar.muli (Scalar.divsi (Scalar.subi (kernelRun0_C.sl.v23 i) (kernelRun0_C.sl.v41 i)) 1#32) 1#32))).1.2.2.2.1⟩]
    ∧ (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.1 = (pcs4 Variants.none c none i arg2 harg2 arg3 harg3 arg4 harg4 arg5 harg5 arg6 harg6 arg7 harg7 arg8 harg8 arg9 harg9 arg10 harg10 arg11 harg11 kernelRun0_C.sl.v43 kernelRun0_C.sl.v44 kernelRun0_C.sl.v45 (kernelRun0_C.sl.r i) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg6 harg6 x4) (kernelRun0_C.sl.r_6 c arg6 harg6 x4) (harg3.unread x1) (harg4.unread x2) (harg10.unread xs0) (harg11.unread xs1) ([], []) (k0_pay2, k0_pay3, k0_pay3, k0_pay2, k0_pay3, k0_pay3) (kernelRun0_C.sl.v41 i) (Scalar.addi (0#32) (Scalar.muli (Scalar.divsi (Scalar.subi (kernelRun0_C.sl.v41 i) 0#32) 1#32) 1#32)) (Scalar.addi (kernelRun0_C.sl.v41 i) (Scalar.muli (Scalar.divsi (Scalar.subi (kernelRun0_C.sl.v23 i) (kernelRun0_C.sl.v41 i)) 1#32) 1#32))).1 ∧ (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.2.2.1 = (pcs4 Variants.none c none i arg2 harg2 arg3 harg3 arg4 harg4 arg5 harg5 arg6 harg6 arg7 harg7 arg8 harg8 arg9 harg9 arg10 harg10 arg11 harg11 kernelRun0_C.sl.v43 kernelRun0_C.sl.v44 kernelRun0_C.sl.v45 (kernelRun0_C.sl.r i) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg6 harg6 x4) (kernelRun0_C.sl.r_6 c arg6 harg6 x4) (harg3.unread x1) (harg4.unread x2) (harg10.unread xs0) (harg11.unread xs1) ([], []) (k0_pay2, k0_pay3, k0_pay3, k0_pay2, k0_pay3, k0_pay3) (kernelRun0_C.sl.v41 i) (Scalar.addi (0#32) (Scalar.muli (Scalar.divsi (Scalar.subi (kernelRun0_C.sl.v41 i) 0#32) 1#32) 1#32)) (Scalar.addi (kernelRun0_C.sl.v41 i) (Scalar.muli (Scalar.divsi (Scalar.subi (kernelRun0_C.sl.v23 i) (kernelRun0_C.sl.v41 i)) 1#32) 1#32))).2
    ∧ (kernelRun0_C c i arg2 harg2 arg3 harg3 arg4 harg4 arg5 harg5 arg6 harg6 arg7 harg7 arg8 harg8 arg9 harg9 arg10 harg10 arg11 harg11 hc0 hc1 x0 x1 x2 x3 x4 xs0 xs1).2.1 = [⟨Rect.unit (s := S2048x128) ![0, 0] S2048x128.size (inb_S2048x128_S2048x128_0_0), k0_pay19 (arg10.view.readAt (Elt F) (Rect.unit (s := S2048x128) ![0, 0] S2048x128.size inb_S2048x128_S2048x128_0_0) (arg10.view.writes (Elt F) (harg10.unread xs0) (pcs4 Variants.none c none i arg2 harg2 arg3 harg3 arg4 harg4 arg5 harg5 arg6 harg6 arg7 harg7 arg8 harg8 arg9 harg9 arg10 harg10 arg11 harg11 kernelRun0_C.sl.v43 kernelRun0_C.sl.v44 kernelRun0_C.sl.v45 (kernelRun0_C.sl.r i) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg6 harg6 x4) (kernelRun0_C.sl.r_6 c arg6 harg6 x4) (harg3.unread x1) (harg4.unread x2) (harg10.unread xs0) (harg11.unread xs1) ([], []) (k0_pay2, k0_pay3, k0_pay3, k0_pay2, k0_pay3, k0_pay3) (kernelRun0_C.sl.v41 i) (Scalar.addi (0#32) (Scalar.muli (Scalar.divsi (Scalar.subi (kernelRun0_C.sl.v41 i) 0#32) 1#32) 1#32)) (Scalar.addi (kernelRun0_C.sl.v41 i) (Scalar.muli (Scalar.divsi (Scalar.subi (kernelRun0_C.sl.v23 i) (kernelRun0_C.sl.v41 i)) 1#32) 1#32))).1))⟩]
    ∧ (kernelRun0_C c i arg2 harg2 arg3 harg3 arg4 harg4 arg5 harg5 arg6 harg6 arg7 harg7 arg8 harg8 arg9 harg9 arg10 harg10 arg11 harg11 hc0 hc1 x0 x1 x2 x3 x4 xs0 xs1).2.2.1 = [⟨Rect.unit (s := S2048x128) ![0, 0] S2048x128.size (inb_S2048x128_S2048x128_0_0), k0_pay20 (arg11.view.readAt (Elt F) (Rect.unit (s := S2048x128) ![0, 0] S2048x128.size inb_S2048x128_S2048x128_0_0) (arg11.view.writes (Elt F) (harg11.unread xs1) (pcs4 Variants.none c none i arg2 harg2 arg3 harg3 arg4 harg4 arg5 harg5 arg6 harg6 arg7 harg7 arg8 harg8 arg9 harg9 arg10 harg10 arg11 harg11 kernelRun0_C.sl.v43 kernelRun0_C.sl.v44 kernelRun0_C.sl.v45 (kernelRun0_C.sl.r i) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg6 harg6 x4) (kernelRun0_C.sl.r_6 c arg6 harg6 x4) (harg3.unread x1) (harg4.unread x2) (harg10.unread xs0) (harg11.unread xs1) ([], []) (k0_pay2, k0_pay3, k0_pay3, k0_pay2, k0_pay3, k0_pay3) (kernelRun0_C.sl.v41 i) (Scalar.addi (0#32) (Scalar.muli (Scalar.divsi (Scalar.subi (kernelRun0_C.sl.v41 i) 0#32) 1#32) 1#32)) (Scalar.addi (kernelRun0_C.sl.v41 i) (Scalar.muli (Scalar.divsi (Scalar.subi (kernelRun0_C.sl.v23 i) (kernelRun0_C.sl.v41 i)) 1#32) 1#32))).2))⟩] := by
  unfold kernelRun0_C pcs4 seg4 pcs3 seg3 pcs2 seg2 pcs1 seg1
  dsimp only [tup]
  simp only [List.append_nil, View.writes_nil, and_self, true_and]
  unfold kernelRun0_C.sl.v113 kernelRun0_C.sl.v116
  simp only [List.append_nil, View.writes_nil, and_self, true_and]
end Cert.KernelSbIdeal.Gen

end
-- ==== Proof.SbPoint.lean ====
module

public import proofs.«01_k».proof.Proof.SbRun

@[expose] public section

set_option maxRecDepth 16384

noncomputable section

open Idealize.ShloMosaic Idealize.ShloMosaic.TcCoe Idealize.SL.Sem

namespace Cert.KernelSbIdeal.Gen
open Cert.KernelSbIdeal
variable {F : FTy → Type} [FloatOps F]

theorem one_inb0 : ∀ a, (![0, 0, 0] : Fin 3 → ℕ) a + S1x512x128.size a ≤ S2x512x128.size a := by decide
theorem one_inb1 : ∀ a, (![1, 0, 0] : Fin 3 → ℕ) a + S1x512x128.size a ≤ S2x512x128.size a := by decide

/-- The two heads of a query block. -/
def head0 (x0 : Vec F S512x128 .bf16) (x3 : Vec F S512x128 .f32) (x4 : Vec F S2x512x128 .f32) : Head F :=
  ⟨k0_pay258 x0, k0_pay260 x3, k0_pay262 (VecWindow.window x4 ![0, 0, 0] S1x512x128.size one_inb0)⟩
def head1 (x0 : Vec F S512x128 .bf16) (x3 : Vec F S512x128 .f32) (x4 : Vec F S2x512x128 .f32) : Head F :=
  ⟨k0_pay259 x0, k0_pay261 x3, k0_pay1 (k0_pay263 (VecWindow.window x4 ![1, 0, 0] S1x512x128.size one_inb1))⟩

/-- The triangular matrices of the prefix sums, with and without the diagonal. -/
def triI : FVec F S128x128 .bf16 := k0_pay4 (iota .tc S128x128 32 [0] iota_S128x128_d0_w32) (iota .tc S128x128 32 [1] iota_S128x128_d1_w32)
def triE : FVec F S128x128 .bf16 := k0_pay5 (iota .tc S128x128 32 [0] iota_S128x128_d0_w32) (iota .tc S128x128 32 [1] iota_S128x128_d1_w32)

theorem trips3_pos (i : grid0.Coords) : 0 < (k0_t3_loop i).trips := (Nat.lt_succ_self 0).trans_eq (trips3 i).symm

/-- The keys strictly before a query of the diagonal block. -/
def maskOf (i : grid0.Coords) : IVec S512x512 1 :=
  k0_pay141 i (k0_t3_loop i).lb (iota .tc S512x512 32 [1] iota_S512x512_d1_w32) (k0_pay253 (BitVec.ofNat 32 (i 1).val)) 1#32 ⟨0, trips3_pos i⟩

/-- The accumulators a grid point starts with. -/
def zeros : Acc F := (k0_pay2, k0_pay3, k0_pay3, k0_pay2, k0_pay3, k0_pay3)

/-- What a grid point ends with. -/
def point (i : grid0.Coords) (h0 h1 : Head F) (K V : Vec F S2048x128 .bf16) (s : Vec F S2048x128 .f32 × Vec F S2048x128 .f32) : St F :=
  stepSt (some (maskOf i)) triI triE h0 h1 K V (i 1) (chain triI triE h0 h1 K V (zeros, s) (i 1).val)

/-- Case B, by its steps. -/
theorem ptB (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : ¬cond0_1 i)     (x0 : Vec F S512x128 .bf16) (x1 : Vec F S2048x128 .bf16) (x2 : Vec F S2048x128 .bf16) (x3 : Vec F S512x128 .f32) (x4 : Vec F S2x512x128 .f32) (xs0 : Vec F S2048x128 .f32) (xs1 : Vec F S2048x128 .f32) :
    out0_B_5 c i arg2 harg2 arg3 harg3 arg4 harg4 arg5 harg5 arg6 harg6 arg7 harg7 arg8 harg8 arg9 harg9 arg10 harg10 arg11 harg11 hc0 hc1 x0 x1 x2 x3 x4 xs0 xs1 = k0_pay18 k0_pay256 (point i (head0 x0 x3 x4) (head1 x0 x3 x4) x1 x2 (xs0, xs1)).1.1 (point i (head0 x0 x3 x4) (head1 x0 x3 x4) x1 x2 (xs0, xs1)).1.2.2.2.1
    ∧ sout0_B_0 c i arg2 harg2 arg3 harg3 arg4 harg4 arg5 harg5 arg6 harg6 arg7 harg7 arg8 harg8 arg9 harg9 arg10 harg10 arg11 harg11 hc0 hc1 x0 x1 x2 x3 x4 xs0 xs1 = (point i (head0 x0 x3 x4) (head1 x0 x3 x4) x1 x2 (xs0, xs1)).2.1
    ∧ sout0_B_1 c i arg2 harg2 arg3 harg3 arg4 harg4 arg5 harg5 arg6 harg6 arg7 harg7 arg8 harg8 arg9 harg9 arg10 harg10 arg11 harg11 hc0 hc1 x0 x1 x2 x3 x4 xs0 xs1 = (point i (head0 x0 x3 x4) (head1 x0 x3 x4) x1 x2 (xs0, xs1)).2.2 := by
  obtain ⟨e1, e2, e3⟩ := runB c i arg2 harg2 arg3 harg3 arg4 harg4 arg5 harg5 arg6 harg6 arg7 harg7 arg8 harg8 arg9 harg9 arg10 harg10 arg11 harg11 hc0 hc1 x0 x1 x2 x3 x4 xs0 xs1
  have h := seg4_spec Variants.none c none i arg2 harg2 arg3 harg3 arg4 harg4 arg5 harg5 arg6 harg6 arg7 harg7 arg8 harg8 arg9 harg9 arg10 harg10 arg11 harg11 kernelRun0_B.sl.v43 kernelRun0_B.sl.v44 kernelRun0_B.sl.v45 (kernelRun0_B.sl.r i) (kernelRun0_B.sl.r_1 c arg2 harg2 x0) (kernelRun0_B.sl.r_2 c arg2 harg2 x0) (kernelRun0_B.sl.r_3 c arg5 harg5 x3) (kernelRun0_B.sl.r_4 c arg5 harg5 x3) (kernelRun0_B.sl.r_5 c arg6 harg6 x4) (kernelRun0_B.sl.r_6 c arg6 harg6 x4) (harg3.unread x1) (harg4.unread x2) (harg10.unread xs0) (harg11.unread xs1) ([], []) (k0_pay2, k0_pay3, k0_pay3, k0_pay2, k0_pay3, k0_pay3) (kernelRun0_B.sl.v41 i) (Scalar.addi (0#32) (Scalar.muli (Scalar.divsi (Scalar.subi (kernelRun0_B.sl.v41 i) 0#32) 1#32) 1#32)) (Scalar.addi (kernelRun0_B.sl.v41 i) (Scalar.muli (Scalar.divsi (Scalar.subi (kernelRun0_B.sl.v23 i) (kernelRun0_B.sl.v41 i)) 1#32) 1#32)) ⟨0, trips3_pos i⟩
  have w0 : arg2.view.readAt (Elt F) (Rect.unit (s := S512x128) ![0, 0] S512x128.size inb_S512x128_S512x128_0_0).toLoadRect (harg2.unread x0) = x0 := by
    rw [View.readAt_full, harg2.read_unread]
  have w3 : arg5.view.readAt (Elt F) (Rect.unit (s := S512x128) ![0, 0] S512x128.size inb_S512x128_S512x128_0_0).toLoadRect (harg5.unread x3) = x3 := by
    rw [View.readAt_full, harg5.read_unread]
  have w4 : arg6.view.readAt (Elt F) (Rect.unit (s := S2x512x128) ![0, 0, 0] S1x512x128.size inb_S2x512x128_S1x512x128_0_0_0).toLoadRect (harg6.unread x4)
      = VecWindow.window x4 ![0, 0, 0] S1x512x128.size one_inb0 := by
    rw [View.readAt_unit arg6.view _ _ rfl one_inb0, harg6.read_unread]
  have w5 : arg6.view.readAt (Elt F) (Rect.unit (s := S2x512x128) ![1, 0, 0] S1x512x128.size inb_S2x512x128_S1x512x128_1_0_0).toLoadRect (harg6.unread x4)
      = VecWindow.window x4 ![1, 0, 0] S1x512x128.size one_inb1 := by
    rw [View.readAt_unit arg6.view _ _ rfl one_inb1, harg6.read_unread]
  have r1 : kernelRun0_B.sl.r_1 c arg2 harg2 x0 = k0_pay258 x0 := congrArg k0_pay258 w0
  have r2 : kernelRun0_B.sl.r_2 c arg2 harg2 x0 = k0_pay259 x0 := congrArg k0_pay259 w0
  have r3 : kernelRun0_B.sl.r_3 c arg5 harg5 x3 = k0_pay260 x3 := congrArg k0_pay260 w3
  have r4 : kernelRun0_B.sl.r_4 c arg5 harg5 x3 = k0_pay261 x3 := congrArg k0_pay261 w3
  have r5 : kernelRun0_B.sl.r_5 c arg6 harg6 x4 = k0_pay262 (VecWindow.window x4 ![0, 0, 0] S1x512x128.size one_inb0) := congrArg k0_pay262 w4
  have r6 : kernelRun0_B.sl.r_6 c arg6 harg6 x4 = k0_pay263 (VecWindow.window x4 ![1, 0, 0] S1x512x128.size one_inb1) := congrArg k0_pay263 w5
  have z0 : arg10.view.read (Elt F) (harg10.unread xs0) = xs0 := harg10.read_unread _
  have z1 : arg11.view.read (Elt F) (harg11.unread xs1) = xs1 := harg11.read_unread _
  have k1 : arg3.view.read (Elt F) (harg3.unread x1) = x1 := harg3.read_unread _
  have k2 : arg4.view.read (Elt F) (harg4.unread x2) = x2 := harg4.read_unread _
  rw [View.writes_nil, View.writes_nil, z0, z1, k1, k2] at h
  have hp : _ = (point i (head0 x0 x3 x4) (head1 x0 x3 x4) x1 x2 (xs0, xs1)) := h.trans (by rw [r1, r2, r3, r4, r5, r6]; rfl)
  generalize hS : seg4 Variants.none c none i arg2 harg2 arg3 harg3 arg4 harg4 arg5 harg5 arg6 harg6 arg7 harg7 arg8 harg8 arg9 harg9 arg10 harg10 arg11 harg11 kernelRun0_B.sl.v43 kernelRun0_B.sl.v44 kernelRun0_B.sl.v45 (kernelRun0_B.sl.r i) (kernelRun0_B.sl.r_1 c arg2 harg2 x0) (kernelRun0_B.sl.r_2 c arg2 harg2 x0) (kernelRun0_B.sl.r_3 c arg5 harg5 x3) (kernelRun0_B.sl.r_4 c arg5 harg5 x3) (kernelRun0_B.sl.r_5 c arg6 harg6 x4) (kernelRun0_B.sl.r_6 c arg6 harg6 x4) (harg3.unread x1) (harg4.unread x2) (harg10.unread xs0) (harg11.unread xs1) ([], []) (k0_pay2, k0_pay3, k0_pay3, k0_pay2, k0_pay3, k0_pay3) (kernelRun0_B.sl.v41 i) (Scalar.addi (0#32) (Scalar.muli (Scalar.divsi (Scalar.subi (kernelRun0_B.sl.v41 i) 0#32) 1#32) 1#32)) (Scalar.addi (kernelRun0_B.sl.v41 i) (Scalar.muli (Scalar.divsi (Scalar.subi (kernelRun0_B.sl.v23 i) (kernelRun0_B.sl.v41 i)) 1#32) 1#32)) = S at hp e1
  have g1 := congrArg (fun s : St F => s.1) hp
  have g2 := congrArg (fun s : St F => s.2.1) hp
  have g3 := congrArg (fun s : St F => s.2.2) hp
  dsimp only at g1 g2 g3
  exact ⟨(by unfold out0_B_5; rw [e1, View.read_writes_full, g1]),
    (by unfold sout0_B_0; rw [e2, g2]),
    (by unfold sout0_B_1; rw [e3, g3])⟩

/-- Case C, by its steps. -/
theorem ptC (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : ¬cond0_0 i) (hc1 : cond0_1 i)     (x0 : Vec F S512x128 .bf16) (x1 : Vec F S2048x128 .bf16) (x2 : Vec F S2048x128 .bf16) (x3 : Vec F S512x128 .f32) (x4 : Vec F S2x512x128 .f32) (xs0 : Vec F S2048x128 .f32) (xs1 : Vec F S2048x128 .f32) :
    out0_C_5 c i arg2 harg2 arg3 harg3 arg4 harg4 arg5 harg5 arg6 harg6 arg7 harg7 arg8 harg8 arg9 harg9 arg10 harg10 arg11 harg11 hc0 hc1 x0 x1 x2 x3 x4 xs0 xs1 = k0_pay18 k0_pay256 (point i (head0 x0 x3 x4) (head1 x0 x3 x4) x1 x2 (xs0, xs1)).1.1 (point i (head0 x0 x3 x4) (head1 x0 x3 x4) x1 x2 (xs0, xs1)).1.2.2.2.1
    ∧ sout0_C_0 c i arg2 harg2 arg3 harg3 arg4 harg4 arg5 harg5 arg6 harg6 arg7 harg7 arg8 harg8 arg9 harg9 arg10 harg10 arg11 harg11 hc0 hc1 x0 x1 x2 x3 x4 xs0 xs1 = (point i (head0 x0 x3 x4) (head1 x0 x3 x4) x1 x2 (xs0, xs1)).2.1
    ∧ sout0_C_1 c i arg2 harg2 arg3 harg3 arg4 harg4 arg5 harg5 arg6 harg6 arg7 harg7 arg8 harg8 arg9 harg9 arg10 harg10 arg11 harg11 hc0 hc1 x0 x1 x2 x3 x4 xs0 xs1 = (point i (head0 x0 x3 x4) (head1 x0 x3 x4) x1 x2 (xs0, xs1)).2.2
    ∧ out0_C_6 c i arg2 harg2 arg3 harg3 arg4 harg4 arg5 harg5 arg6 harg6 arg7 harg7 arg8 harg8 arg9 harg9 arg10 harg10 arg11 harg11 hc0 hc1 x0 x1 x2 x3 x4 xs0 xs1 = k0_pay19 (point i (head0 x0 x3 x4) (head1 x0 x3 x4) x1 x2 (xs0, xs1)).2.1
    ∧ out0_C_7 c i arg2 harg2 arg3 harg3 arg4 harg4 arg5 harg5 arg6 harg6 arg7 harg7 arg8 harg8 arg9 harg9 arg10 harg10 arg11 harg11 hc0 hc1 x0 x1 x2 x3 x4 xs0 xs1 = k0_pay20 (point i (head0 x0 x3 x4) (head1 x0 x3 x4) x1 x2 (xs0, xs1)).2.2 := by
  obtain ⟨e1, e2, e3, e4, e5⟩ := runC c i arg2 harg2 arg3 harg3 arg4 harg4 arg5 harg5 arg6 harg6 arg7 harg7 arg8 harg8 arg9 harg9 arg10 harg10 arg11 harg11 hc0 hc1 x0 x1 x2 x3 x4 xs0 xs1
  have h := seg4_spec Variants.none c none i arg2 harg2 arg3 harg3 arg4 harg4 arg5 harg5 arg6 harg6 arg7 harg7 arg8 harg8 arg9 harg9 arg10 harg10 arg11 harg11 kernelRun0_C.sl.v43 kernelRun0_C.sl.v44 kernelRun0_C.sl.v45 (kernelRun0_C.sl.r i) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg6 harg6 x4) (kernelRun0_C.sl.r_6 c arg6 harg6 x4) (harg3.unread x1) (harg4.unread x2) (harg10.unread xs0) (harg11.unread xs1) ([], []) (k0_pay2, k0_pay3, k0_pay3, k0_pay2, k0_pay3, k0_pay3) (kernelRun0_C.sl.v41 i) (Scalar.addi (0#32) (Scalar.muli (Scalar.divsi (Scalar.subi (kernelRun0_C.sl.v41 i) 0#32) 1#32) 1#32)) (Scalar.addi (kernelRun0_C.sl.v41 i) (Scalar.muli (Scalar.divsi (Scalar.subi (kernelRun0_C.sl.v23 i) (kernelRun0_C.sl.v41 i)) 1#32) 1#32)) ⟨0, trips3_pos i⟩
  have w0 : arg2.view.readAt (Elt F) (Rect.unit (s := S512x128) ![0, 0] S512x128.size inb_S512x128_S512x128_0_0).toLoadRect (harg2.unread x0) = x0 := by
    rw [View.readAt_full, harg2.read_unread]
  have w3 : arg5.view.readAt (Elt F) (Rect.unit (s := S512x128) ![0, 0] S512x128.size inb_S512x128_S512x128_0_0).toLoadRect (harg5.unread x3) = x3 := by
    rw [View.readAt_full, harg5.read_unread]
  have w4 : arg6.view.readAt (Elt F) (Rect.unit (s := S2x512x128) ![0, 0, 0] S1x512x128.size inb_S2x512x128_S1x512x128_0_0_0).toLoadRect (harg6.unread x4)
      = VecWindow.window x4 ![0, 0, 0] S1x512x128.size one_inb0 := by
    rw [View.readAt_unit arg6.view _ _ rfl one_inb0, harg6.read_unread]
  have w5 : arg6.view.readAt (Elt F) (Rect.unit (s := S2x512x128) ![1, 0, 0] S1x512x128.size inb_S2x512x128_S1x512x128_1_0_0).toLoadRect (harg6.unread x4)
      = VecWindow.window x4 ![1, 0, 0] S1x512x128.size one_inb1 := by
    rw [View.readAt_unit arg6.view _ _ rfl one_inb1, harg6.read_unread]
  have r1 : kernelRun0_C.sl.r_1 c arg2 harg2 x0 = k0_pay258 x0 := congrArg k0_pay258 w0
  have r2 : kernelRun0_C.sl.r_2 c arg2 harg2 x0 = k0_pay259 x0 := congrArg k0_pay259 w0
  have r3 : kernelRun0_C.sl.r_3 c arg5 harg5 x3 = k0_pay260 x3 := congrArg k0_pay260 w3
  have r4 : kernelRun0_C.sl.r_4 c arg5 harg5 x3 = k0_pay261 x3 := congrArg k0_pay261 w3
  have r5 : kernelRun0_C.sl.r_5 c arg6 harg6 x4 = k0_pay262 (VecWindow.window x4 ![0, 0, 0] S1x512x128.size one_inb0) := congrArg k0_pay262 w4
  have r6 : kernelRun0_C.sl.r_6 c arg6 harg6 x4 = k0_pay263 (VecWindow.window x4 ![1, 0, 0] S1x512x128.size one_inb1) := congrArg k0_pay263 w5
  have z0 : arg10.view.read (Elt F) (harg10.unread xs0) = xs0 := harg10.read_unread _
  have z1 : arg11.view.read (Elt F) (harg11.unread xs1) = xs1 := harg11.read_unread _
  have k1 : arg3.view.read (Elt F) (harg3.unread x1) = x1 := harg3.read_unread _
  have k2 : arg4.view.read (Elt F) (harg4.unread x2) = x2 := harg4.read_unread _
  rw [View.writes_nil, View.writes_nil, z0, z1, k1, k2] at h
  have hp : _ = (point i (head0 x0 x3 x4) (head1 x0 x3 x4) x1 x2 (xs0, xs1)) := h.trans (by rw [r1, r2, r3, r4, r5, r6]; rfl)
  generalize hS : seg4 Variants.none c none i arg2 harg2 arg3 harg3 arg4 harg4 arg5 harg5 arg6 harg6 arg7 harg7 arg8 harg8 arg9 harg9 arg10 harg10 arg11 harg11 kernelRun0_C.sl.v43 kernelRun0_C.sl.v44 kernelRun0_C.sl.v45 (kernelRun0_C.sl.r i) (kernelRun0_C.sl.r_1 c arg2 harg2 x0) (kernelRun0_C.sl.r_2 c arg2 harg2 x0) (kernelRun0_C.sl.r_3 c arg5 harg5 x3) (kernelRun0_C.sl.r_4 c arg5 harg5 x3) (kernelRun0_C.sl.r_5 c arg6 harg6 x4) (kernelRun0_C.sl.r_6 c arg6 harg6 x4) (harg3.unread x1) (harg4.unread x2) (harg10.unread xs0) (harg11.unread xs1) ([], []) (k0_pay2, k0_pay3, k0_pay3, k0_pay2, k0_pay3, k0_pay3) (kernelRun0_C.sl.v41 i) (Scalar.addi (0#32) (Scalar.muli (Scalar.divsi (Scalar.subi (kernelRun0_C.sl.v41 i) 0#32) 1#32) 1#32)) (Scalar.addi (kernelRun0_C.sl.v41 i) (Scalar.muli (Scalar.divsi (Scalar.subi (kernelRun0_C.sl.v23 i) (kernelRun0_C.sl.v41 i)) 1#32) 1#32)) = S at hp e1
  have g1 := congrArg (fun s : St F => s.1) hp
  have g2 := congrArg (fun s : St F => s.2.1) hp
  have g3 := congrArg (fun s : St F => s.2.2) hp
  dsimp only at g1 g2 g3
  exact ⟨(by unfold out0_C_5; rw [e1, View.read_writes_full, g1]),
    (by unfold sout0_C_0; rw [e2, g2]),
    (by unfold sout0_C_1; rw [e3, g3]),
    (congrArg (fun L => VO0_6.read (Elt F) (VO0_6.writes (Elt F) VO0_6.junk L)) e4).trans ((View.read_writes_full _ _ _ _ _).trans (congrArg k0_pay19 ((View.readAt_full arg10.view _ _).trans g2))),
    (congrArg (fun L => VO0_7.read (Elt F) (VO0_7.writes (Elt F) VO0_7.junk L)) e5).trans ((View.read_writes_full _ _ _ _ _).trans (congrArg k0_pay20 ((View.readAt_full arg11.view _ _).trans g3)))⟩

/-- Case A, by its steps. -/
theorem ptA (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S512x128 .f32) (harg5 : arg5.IsWhole) (arg6 : Memref sig .tc .vmem S2x512x128 .f32) (harg6 : arg6.IsWhole) (arg7 : Memref sig .tc .vmem S512x128 .bf16) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S2048x128 .f32) (harg10 : arg10.IsWhole) (arg11 : Memref sig .tc .vmem S2048x128 .f32) (harg11 : arg11.IsWhole) (hc0 : cond0_0 i) (hc1 : ¬cond0_1 i)     (x0 : Vec F S512x128 .bf16) (x1 : Vec F S2048x128 .bf16) (x2 : Vec F S2048x128 .bf16) (x3 : Vec F S512x128 .f32) (x4 : Vec F S2x512x128 .f32) :
    out0_A_5 c i arg2 harg2 arg3 harg3 arg4 harg4 arg5 harg5 arg6 harg6 arg7 harg7 arg8 harg8 arg9 harg9 arg10 harg10 arg11 harg11 hc0 hc1 x0 x1 x2 x3 x4 = k0_pay18 k0_pay256 (point i (head0 x0 x3 x4) (head1 x0 x3 x4) x1 x2 (k0_pay251, k0_pay252)).1.1 (point i (head0 x0 x3 x4) (head1 x0 x3 x4) x1 x2 (k0_pay251, k0_pay252)).1.2.2.2.1
    ∧ sout0_A_0 c i arg2 harg2 arg3 harg3 arg4 harg4 arg5 harg5 arg6 harg6 arg7 harg7 arg8 harg8 arg9 harg9 arg10 harg10 arg11 harg11 hc0 hc1 x0 x1 x2 x3 x4 = (point i (head0 x0 x3 x4) (head1 x0 x3 x4) x1 x2 (k0_pay251, k0_pay252)).2.1
    ∧ sout0_A_1 c i arg2 harg2 arg3 harg3 arg4 harg4 arg5 harg5 arg6 harg6 arg7 harg7 arg8 harg8 arg9 harg9 arg10 harg10 arg11 harg11 hc0 hc1 x0 x1 x2 x3 x4 = (point i (head0 x0 x3 x4) (head1 x0 x3 x4) x1 x2 (k0_pay251, k0_pay252)).2.2 := by
  obtain ⟨e1, e2, e3⟩ := runA c i arg2 harg2 arg3 harg3 arg4 harg4 arg5 harg5 arg6 harg6 arg7 harg7 arg8 harg8 arg9 harg9 arg10 harg10 arg11 harg11 hc0 hc1 x0 x1 x2 x3 x4
  have h := seg4_spec Variants.none c none i arg2 harg2 arg3 harg3 arg4 harg4 arg5 harg5 arg6 harg6 arg7 harg7 arg8 harg8 arg9 harg9 arg10 harg10 arg11 harg11 kernelRun0_A.sl.v43 kernelRun0_A.sl.v44 kernelRun0_A.sl.v45 (kernelRun0_A.sl.r i) (kernelRun0_A.sl.r_1 c arg2 harg2 x0) (kernelRun0_A.sl.r_2 c arg2 harg2 x0) (kernelRun0_A.sl.r_3 c arg5 harg5 x3) (kernelRun0_A.sl.r_4 c arg5 harg5 x3) (kernelRun0_A.sl.r_5 c arg6 harg6 x4) (kernelRun0_A.sl.r_6 c arg6 harg6 x4) (harg3.unread x1) (harg4.unread x2) arg10.view.junk arg11.view.junk (kernelRun0_A.sl.HS0_1, kernelRun0_A.sl.HS1_1) (k0_pay2, k0_pay3, k0_pay3, k0_pay2, k0_pay3, k0_pay3) (kernelRun0_A.sl.v41 i) (Scalar.addi (0#32) (Scalar.muli (Scalar.divsi (Scalar.subi (kernelRun0_A.sl.v41 i) 0#32) 1#32) 1#32)) (Scalar.addi (kernelRun0_A.sl.v41 i) (Scalar.muli (Scalar.divsi (Scalar.subi (kernelRun0_A.sl.v23 i) (kernelRun0_A.sl.v41 i)) 1#32) 1#32)) ⟨0, trips3_pos i⟩
  have w0 : arg2.view.readAt (Elt F) (Rect.unit (s := S512x128) ![0, 0] S512x128.size inb_S512x128_S512x128_0_0).toLoadRect (harg2.unread x0) = x0 := by
    rw [View.readAt_full, harg2.read_unread]
  have w3 : arg5.view.readAt (Elt F) (Rect.unit (s := S512x128) ![0, 0] S512x128.size inb_S512x128_S512x128_0_0).toLoadRect (harg5.unread x3) = x3 := by
    rw [View.readAt_full, harg5.read_unread]
  have w4 : arg6.view.readAt (Elt F) (Rect.unit (s := S2x512x128) ![0, 0, 0] S1x512x128.size inb_S2x512x128_S1x512x128_0_0_0).toLoadRect (harg6.unread x4)
      = VecWindow.window x4 ![0, 0, 0] S1x512x128.size one_inb0 := by
    rw [View.readAt_unit arg6.view _ _ rfl one_inb0, harg6.read_unread]
  have w5 : arg6.view.readAt (Elt F) (Rect.unit (s := S2x512x128) ![1, 0, 0] S1x512x128.size inb_S2x512x128_S1x512x128_1_0_0).toLoadRect (harg6.unread x4)
      = VecWindow.window x4 ![1, 0, 0] S1x512x128.size one_inb1 := by
    rw [View.readAt_unit arg6.view _ _ rfl one_inb1, harg6.read_unread]
  have r1 : kernelRun0_A.sl.r_1 c arg2 harg2 x0 = k0_pay258 x0 := congrArg k0_pay258 w0
  have r2 : kernelRun0_A.sl.r_2 c arg2 harg2 x0 = k0_pay259 x0 := congrArg k0_pay259 w0
  have r3 : kernelRun0_A.sl.r_3 c arg5 harg5 x3 = k0_pay260 x3 := congrArg k0_pay260 w3
  have r4 : kernelRun0_A.sl.r_4 c arg5 harg5 x3 = k0_pay261 x3 := congrArg k0_pay261 w3
  have r5 : kernelRun0_A.sl.r_5 c arg6 harg6 x4 = k0_pay262 (VecWindow.window x4 ![0, 0, 0] S1x512x128.size one_inb0) := congrArg k0_pay262 w4
  have r6 : kernelRun0_A.sl.r_6 c arg6 harg6 x4 = k0_pay263 (VecWindow.window x4 ![1, 0, 0] S1x512x128.size one_inb1) := congrArg k0_pay263 w5
  have z0 : arg10.view.read (Elt F) (arg10.view.writes (Elt F) arg10.view.junk kernelRun0_A.sl.HS0_1) = k0_pay251 := View.read_writes_full _ _ _ _ _
  have z1 : arg11.view.read (Elt F) (arg11.view.writes (Elt F) arg11.view.junk kernelRun0_A.sl.HS1_1) = k0_pay252 := View.read_writes_full _ _ _ _ _
  have c0 := scover0_A_0 c i arg2 harg2 arg3 harg3 arg4 harg4 arg5 harg5 arg6 harg6 arg7 harg7 arg8 harg8 arg9 harg9 arg10 harg10 arg11 harg11 hc0 hc1 x0 x1 x2 x3 x4
  have c1 := scover0_A_1 c i arg2 harg2 arg3 harg3 arg4 harg4 arg5 harg5 arg6 harg6 arg7 harg7 arg8 harg8 arg9 harg9 arg10 harg10 arg11 harg11 hc0 hc1 x0 x1 x2 x3 x4
  have k1 : arg3.view.read (Elt F) (harg3.unread x1) = x1 := harg3.read_unread _
  have k2 : arg4.view.read (Elt F) (harg4.unread x2) = x2 := harg4.read_unread _
  rw [z0, z1, k1, k2] at h
  have hp : _ = (point i (head0 x0 x3 x4) (head1 x0 x3 x4) x1 x2 (k0_pay251, k0_pay252)) := h.trans (by rw [r1, r2, r3, r4, r5, r6]; rfl)
  generalize hS : seg4 Variants.none c none i arg2 harg2 arg3 harg3 arg4 harg4 arg5 harg5 arg6 harg6 arg7 harg7 arg8 harg8 arg9 harg9 arg10 harg10 arg11 harg11 kernelRun0_A.sl.v43 kernelRun0_A.sl.v44 kernelRun0_A.sl.v45 (kernelRun0_A.sl.r i) (kernelRun0_A.sl.r_1 c arg2 harg2 x0) (kernelRun0_A.sl.r_2 c arg2 harg2 x0) (kernelRun0_A.sl.r_3 c arg5 harg5 x3) (kernelRun0_A.sl.r_4 c arg5 harg5 x3) (kernelRun0_A.sl.r_5 c arg6 harg6 x4) (kernelRun0_A.sl.r_6 c arg6 harg6 x4) (harg3.unread x1) (harg4.unread x2) arg10.view.junk arg11.view.junk (kernelRun0_A.sl.HS0_1, kernelRun0_A.sl.HS1_1) (k0_pay2, k0_pay3, k0_pay3, k0_pay2, k0_pay3, k0_pay3) (kernelRun0_A.sl.v41 i) (Scalar.addi (0#32) (Scalar.muli (Scalar.divsi (Scalar.subi (kernelRun0_A.sl.v41 i) 0#32) 1#32) 1#32)) (Scalar.addi (kernelRun0_A.sl.v41 i) (Scalar.muli (Scalar.divsi (Scalar.subi (kernelRun0_A.sl.v23 i) (kernelRun0_A.sl.v41 i)) 1#32) 1#32)) = S at hp e1
  have g1 := congrArg (fun s : St F => s.1) hp
  have g2 := congrArg (fun s : St F => s.2.1) hp
  have g3 := congrArg (fun s : St F => s.2.2) hp
  dsimp only at g1 g2 g3
  exact ⟨(by unfold out0_A_5; rw [e1, View.read_writes_full, g1]),
    (by unfold sout0_A_0; rw [← g2, ← e2]; funext y; exact (View.read_writes_apply_eq_canon _ _ y _ (c0 y)).trans (View.read_writes_apply_eq_canon _ _ y _ (c0 y)).symm),
    (by unfold sout0_A_1; rw [← g3, ← e3]; funext y; exact (View.read_writes_apply_eq_canon _ _ y _ (c1 y)).trans (View.read_writes_apply_eq_canon _ _ y _ (c1 y)).symm)⟩

end Cert.KernelSbIdeal.Gen

end
-- ==== Proof.SbLift.lean ====
module

public import proofs.«01_k».proof.Proof.SbPoint
public import proofs.«01_k».proof.Proof.Finite
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem

namespace Cert.KernelSbIdeal.Grad
open Cert.KernelSbIdeal Cert.KernelSbIdeal.Gen Cert.Finite

/-- A matrix of reals, its entries named by natural numbers, as an array of the model. -/
def lift {n m : ℕ} {φ : FTy} (X : ℕ → ℕ → ℝ) : FVec Ideal ⟨2, ![n, m]⟩ φ := fun j => ((X (j 0).val (j 1).val : ℝ) : EReal)

theorem lift_ix {n m : ℕ} {φ : FTy} (X : ℕ → ℕ → ℝ) (r : Fin n) (s : Fin m) : lift (φ := φ) X (ix2 r s) = ((X r.val s.val : ℝ) : EReal) := rfl

theorem lift_congr {n m : ℕ} {φ : FTy} {X Y : ℕ → ℕ → ℝ} (h : ∀ r < n, ∀ s < m, X r s = Y r s) : (lift X : FVec Ideal ⟨2, ![n, m]⟩ φ) = lift Y :=
  funext fun j => congrArg (fun x : ℝ => (x : EReal)) (h _ (j 0).isLt _ (j 1).isLt)

theorem eq_lift {n m : ℕ} {φ : FTy} {f : FVec Ideal ⟨2, ![n, m]⟩ φ} {X : ℕ → ℕ → ℝ} (h : ∀ (r : Fin n) (s : Fin m), f (ix2 r s) = ((X r.val s.val : ℝ) : EReal)) : f = lift X :=
  funext fun j => by rw [eq_ix2 j]; exact h _ _

/-- A product of a row with a column that is one up to `m` and zero after. -/
theorem sum_upto {n m : ℕ} (hm : m ≤ n) (g : ℕ → ℝ) : ∑ k : Fin n, g k.val * (if k.val < m then 1 else 0) = ∑ k ∈ Finset.range m, g k := by
  rw [← Finset.sum_range (fun k => g k * (if k < m then 1 else 0))]
  rw [← Finset.sum_subset (Finset.range_subset_range.2 hm) (f := fun k => g k * (if k < m then 1 else 0))]
  · exact Finset.sum_congr rfl fun k hk => by rw [if_pos (Finset.mem_range.1 hk), mul_one]
  · intro k _ hk; rw [if_neg (fun h => hk (Finset.mem_range.2 h)), mul_zero]

theorem triI_at (a b : Fin 128) : triI (F := Ideal) (ix2 a b) = (((if a.val < b.val + 1 then 1 else 0 : ℝ)) : EReal) := by
  have h : IntOp.cmpi CmpIPredicate.sle (BitVec.ofNat 32 a.val) (BitVec.ofNat 32 b.val) = if a.val < b.val + 1 then 1#1 else 0#1 := by
    revert a b; decide +kernel
  pointwise [triI, k0_pay4]
  rw [h]
  split <;> simp [Scalar.select]

theorem triE_at (a b : Fin 128) : triE (F := Ideal) (ix2 a b) = (((if a.val < b.val then 1 else 0 : ℝ)) : EReal) := by
  have h : IntOp.cmpi CmpIPredicate.slt (BitVec.ofNat 32 a.val) (BitVec.ofNat 32 b.val) = if a.val < b.val then 1#1 else 0#1 := by
    revert a b; decide +kernel
  pointwise [triE, k0_pay5]
  rw [h]
  split <;> simp [Scalar.select]

theorem prod_hi (tri : FVec Ideal S128x128 .bf16) (X : ℕ → ℕ → ℝ) (R : Fin 4096) (r m : ℕ) (l : Fin 128) (hr : r < 512) (hm : m < 4) (hR : R.val = 1024 * m + r) :
    prodOf tri (lift X) (ix2 R l) = ∑ k : Fin 128, ((X r (128 * m + k.val) : ℝ) : EReal) * tri (ix2 k l) := by
  pointwise [prodOf, stackOf, hiOf, loOf, ch0, ch1, ch2, ch3, lift]
  refine Finset.sum_congr rfl fun k _ => congrArg (· * _) ?_
  split_ifs <;> first | (exfalso; omega) | (congr 2 <;> omega)

theorem prod_lo (tri : FVec Ideal S128x128 .bf16) (X : ℕ → ℕ → ℝ) (R : Fin 4096) (r m : ℕ) (l : Fin 128) (hr : r < 512) (hm : m < 4) (hR : R.val = 1024 * m + 512 + r) :
    prodOf tri (lift X) (ix2 R l) = 0 := by
  pointwise [prodOf, stackOf, hiOf, loOf, ch0, ch1, ch2, ch3, lift]
  refine Finset.sum_eq_zero fun k _ => ?_
  have e : ∀ x : ℝ, (x : EReal) - (x : EReal) = 0 := fun x => by rw [← EReal.coe_sub, sub_self, EReal.coe_zero]
  split_ifs <;> first | (exfalso; omega) | rw [e, zero_mul]

theorem addSum_lift (C X : ℕ → ℕ → ℝ) : addSum (lift C) (lift X) = lift fun r _ => C r 0 + ∑ k ∈ Finset.range 128, X r k :=
  eq_lift fun r s => by
    pointwise [addSum, lift]
    rw [Finset.sum_range]
    norm_cast

theorem chunk_lift (X : ℕ → ℕ → ℝ) : ch0 (F := Ideal) (lift X) = lift (fun r k => X r k) ∧ ch1 (F := Ideal) (lift X) = lift (fun r k => X r (128 + k))
    ∧ ch2 (F := Ideal) (lift X) = lift (fun r k => X r (256 + k)) ∧ ch3 (F := Ideal) (lift X) = lift (fun r k => X r (384 + k)) := by
  refine ⟨eq_lift fun r s => ?_, eq_lift fun r s => ?_, eq_lift fun r s => ?_, eq_lift fun r s => ?_⟩
  all_goals pointwise [ch0, ch1, ch2, ch3, lift]

theorem range_512 (f : ℕ → ℝ) : ∑ k ∈ Finset.range 512, f k = ((∑ k ∈ Finset.range 128, f k + ∑ k ∈ Finset.range 128, f (128 + k)) + ∑ k ∈ Finset.range 128, f (256 + k)) + ∑ k ∈ Finset.range 128, f (384 + k) := by
  rw [show 512 = 128 + 128 + 128 + 128 from rfl, Finset.sum_range_add, Finset.sum_range_add, Finset.sum_range_add]

theorem cs_lift (c : ℕ → ℝ) (X : ℕ → ℕ → ℝ) (m : ℕ) (hm : m < 4) :
    cs1 (F := Ideal) (lift fun r _ => c r) (lift X) = lift (fun r _ => c r + ∑ k ∈ Finset.range 128, X r k)
    ∧ cs2 (F := Ideal) (lift fun r _ => c r) (lift X) = lift (fun r _ => c r + ∑ k ∈ Finset.range 256, X r k)
    ∧ cs3 (F := Ideal) (lift fun r _ => c r) (lift X) = lift (fun r _ => c r + ∑ k ∈ Finset.range 384, X r k)
    ∧ cs4 (F := Ideal) (lift fun r _ => c r) (lift X) = lift (fun r _ => c r + ∑ k ∈ Finset.range 512, X r k) := by
  obtain ⟨e0, e1, e2, e3⟩ := chunk_lift X
  have h1 : cs1 (F := Ideal) (lift fun r _ => c r) (lift X) = lift (fun r _ => c r + ∑ k ∈ Finset.range 128, X r k) := by
    rw [cs1, e0, addSum_lift]
  have h2 : cs2 (F := Ideal) (lift fun r _ => c r) (lift X) = lift (fun r _ => c r + ∑ k ∈ Finset.range 256, X r k) := by
    rw [cs2, e1, h1, addSum_lift]; simp only [show 256 = 128 + 128 from rfl, Finset.sum_range_add, add_assoc]
  have h3 : cs3 (F := Ideal) (lift fun r _ => c r) (lift X) = lift (fun r _ => c r + ∑ k ∈ Finset.range 384, X r k) := by
    rw [cs3, e2, h2, addSum_lift]; simp only [show 384 = 256 + 128 from rfl, Finset.sum_range_add, add_assoc]
  refine ⟨h1, h2, h3, ?_⟩
  rw [cs4, e3, h3, addSum_lift]; simp only [show 512 = 384 + 128 from rfl, Finset.sum_range_add, add_assoc]

theorem split_range (f : ℕ → ℝ) (c : ℝ) {a n k : ℕ} (m : ℕ) (h : k = a + n) :
    ∑ i ∈ Finset.range n, f (a + i) + (c + ∑ i ∈ Finset.range a, f i) = c + ∑ i ∈ Finset.range k, f i := by
  rw [h, Finset.sum_range_add]; ring

set_option maxHeartbeats 1000000 in
/-- The prefix sums of a block's rows: `w` is one when the element itself counts. -/
theorem scan_lift (tri : FVec Ideal S128x128 .bf16) (w : ℕ) (ht : ∀ a b : Fin 128, tri (ix2 a b) = (((if a.val < b.val + w then 1 else 0 : ℝ)) : EReal)) (hw : w ≤ 1)
    (c : ℕ → ℝ) (X : ℕ → ℕ → ℝ) :
    scanOf tri (lift fun r _ => c r) (lift X) = lift fun r s => c r + ∑ k ∈ Finset.range (s + w), X r k := by
  obtain ⟨e1, e2, e3, _⟩ := cs_lift c X 0 (by decide)
  refine eq_lift fun r s => ?_
  pointwise [scanOf, wid]
  rw [e1, e2, e3]
  have hp : ∀ (m : ℕ) (l : Fin 128) (R R' : Fin 4096), m < 4 → R.val = 1024 * m + r.val → R'.val = 1024 * m + 512 + r.val →
      prodOf tri (lift X) (ix2 R l) + prodOf tri (lift X) (ix2 R' l) = ((∑ k ∈ Finset.range (l.val + w), X r.val (128 * m + k) : ℝ) : EReal) := by
    intro m l R R' hm hR hR'
    rw [prod_hi tri X R r.val m l r.isLt hm hR, prod_lo tri X R' r.val m l r.isLt hm hR', add_zero]
    rw [← sum_upto (n := 128) (by omega) (fun k => X r.val (128 * m + k))]
    rw [coe_sum]
    exact Finset.sum_congr rfl fun k _ => by rw [ht, EReal.coe_mul]
  split_ifs
  all_goals try exact absurd rfl ‹¬ _ = _›
  · rw [hp 0 _ _ _ (by decide) (by simp) (by simp), lift_ix, ← EReal.coe_add]
    simp only [Nat.mul_zero, zero_add]
    exact congrArg (fun x : ℝ => (x : EReal)) (add_comm _ _)
  · rw [hp 1 _ _ _ (by decide) (by simp) (by simp), lift_ix, ← EReal.coe_add]
    exact congrArg (fun x : ℝ => (x : EReal)) (split_range _ _ 0 (by show s.val + w = 128 + (s.val - 128 + w); omega))
  · rw [hp 2 _ _ _ (by decide) (by simp) (by simp), lift_ix, ← EReal.coe_add]
    exact congrArg (fun x : ℝ => (x : EReal)) (split_range _ _ 0 (by show s.val + w = 256 + (s.val - 128 - 128 + w); omega))
  · rw [hp 3 _ _ _ (by decide) (by simp) (by simp), lift_ix, ← EReal.coe_add]
    exact congrArg (fun x : ℝ => (x : EReal)) (split_range _ _ 0 (by show s.val + w = 384 + (s.val - 128 - 128 - 128 + w); omega))

end Cert.KernelSbIdeal.Grad

end
-- ==== Proof.SbReal.lean ====
module

public import proofs.«01_k».proof.Proof.SbLift
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem

namespace Cert.KernelSbIdeal.Grad
open Cert.KernelSbIdeal Cert.KernelSbIdeal.Gen Cert.Finite

/-- The logarithm of the logistic function. -/
def lsg (x : ℝ) : ℝ := min x 0 - Real.log (1 + Real.exp (-|x|))

/-- Scores, over a head's 128 columns. -/
def zz (Q K : ℕ → ℕ → ℝ) (T S : ℕ) : ℝ := ∑ l ∈ Finset.range 128, Q T l * K S l
/-- The logarithm of the share a key leaves to the ones before it. -/
def lm (Q K : ℕ → ℕ → ℝ) (T S : ℕ) : ℝ := if S < T then lsg (zz Q K T S) - zz Q K T S else 0
/-- The weights. -/
def ww (Q K : ℕ → ℕ → ℝ) (st : ℕ → ℝ) (T S : ℕ) : ℝ :=
  if S < T then Real.exp (lsg (zz Q K T S) + st T - ∑ k ∈ Finset.range (S + 1), lm Q K T k) else 0
/-- The weights' cotangents times the weights. -/
def gg (Q D K V : ℕ → ℕ → ℝ) (st : ℕ → ℝ) (T S : ℕ) : ℝ := ww Q K st T S * zz D V T S
/-- The scores' cotangents. -/
def dzz (Q D K V : ℕ → ℕ → ℝ) (st : ℕ → ℝ) (T S : ℕ) : ℝ :=
  if S < T then gg Q D K V st T S * (1 - Real.exp (lsg (zz Q K T S))) - (∑ k ∈ Finset.range S, gg Q D K V st T k) * Real.exp (lsg (zz Q K T S)) else 0

theorem score_lift (X Y : ℕ → ℕ → ℝ) : scoreOf (lift X) (lift Y) = lift fun r s => zz X Y r s :=
  eq_lift fun r s => by
    pointwise [scoreOf, lift]
    rw [zz, Finset.sum_range]
    norm_cast

theorem tn_lift (X Y : ℕ → ℕ → ℝ) : tnOf (lift X) (lift Y) = lift fun s l => ∑ r ∈ Finset.range 512, X r s * Y r l :=
  eq_lift fun r s => by
    pointwise [tnOf, lift]
    rw [Finset.sum_range]
    norm_cast

theorem nn_lift (X Y : ℕ → ℕ → ℝ) : nnOf (lift X) (lift Y) = lift fun r l => ∑ s ∈ Finset.range 512, X r s * Y s l :=
  eq_lift fun r s => by
    pointwise [nnOf, lift]
    rw [Finset.sum_range]
    norm_cast

theorem logSig_coe (x : ℝ) : min (x : EReal) 0 - Ideal.log (1 + Ideal.exp (0 - FloatOps.absf (F := Ideal) (φ := .f32) (x : EReal))) = ((lsg x : ℝ) : EReal) := by
  have e : FloatOps.absf (F := Ideal) (φ := .f32) (x : EReal) = ((|x| : ℝ) : EReal) := by
    show max (x : EReal) (-(x : EReal)) = _
    rw [abs_eq_max_neg]; norm_cast
  have hp : ¬ (1 + Real.exp (-|x|)) ≤ 0 := not_le.2 (by positivity)
  rw [e, ← EReal.coe_zero, ← EReal.coe_sub, zero_sub, Ideal.exp_coe, ← EReal.coe_one, ← EReal.coe_add, Ideal.log_coe, if_neg hp, lsg]
  norm_cast

theorem logSig_lift (X : ℕ → ℕ → ℝ) : logSigOf (lift X) = lift fun r s => lsg (X r s) :=
  eq_lift fun r s => by
    pointwise [logSigOf, lift]
    exact logSig_coe _

/-- A mask that keeps the keys strictly before the query, for query block `b` and key block `n`. -/
def Keeps (m : Option (IVec S512x512 1)) (b n : ℕ) : Prop :=
  ∀ X : ℕ → ℕ → ℝ, keep m (lift X) = lift fun r s => if 512 * n + s < 512 * b + r then X r s else 0

theorem keeps_none {b n : ℕ} (h : n < b) : Keeps none b n := fun X =>
  lift_congr fun r hr s hs => by rw [if_pos (by omega)]

theorem cmpi_slt_ofNat {a b : ℕ} (ha : a < 4096) (hb : b < 4096) :
    IntOp.cmpi CmpIPredicate.slt (BitVec.ofNat 32 a) (BitVec.ofNat 32 b) = if a < b then 1#1 else 0#1 := by
  rw [WordCmp.cmpi_slt_of_lt (by rw [BitVec.toNat_ofNat]; omega) (by rw [BitVec.toNat_ofNat]; omega), BitVec.toNat_ofNat, BitVec.toNat_ofNat,
    Nat.mod_eq_of_lt (by omega), Nat.mod_eq_of_lt (by omega)]
  by_cases h : a < b <;> simp [h]

/-- The first key block of the masked steps. -/
def k0_lb (b : BitVec 32) : BitVec 32 :=
  let v := Scalar.muli b 512#32
  Scalar.select (Scalar.andi (Scalar.cmpi CmpIPredicate.ne
      (Scalar.subi (Scalar.extui (Scalar.cmpi CmpIPredicate.sgt v 0#32)) (Scalar.extui (Scalar.cmpi CmpIPredicate.slt v 0#32)))
      (Scalar.subi (Scalar.extui (Scalar.cmpi CmpIPredicate.sgt 512#32 0#32)) (Scalar.extui (Scalar.cmpi CmpIPredicate.slt 512#32 0#32))))
    (Scalar.cmpi CmpIPredicate.ne (Scalar.remsi v 512#32) 0#32)) (Scalar.subi (Scalar.divsi v 512#32) 1#32) (Scalar.divsi v 512#32)

theorem keeps_diag (i : grid0.Coords) : Keeps (some (maskOf i)) (i 1).val (i 1).val := fun X =>
  eq_lift fun r s => by
    pointwise [keep, maskOf, lift, k0_pay141, k0_pay253]
    have h1 : ∀ q : Fin 4, Scalar.muli (Scf.iv (k0_lb (BitVec.ofNat 32 q.val)) 1#32 0) 512#32 = BitVec.ofNat 32 (512 * q.val) := by decide +kernel
    have h2 : ∀ q : Fin 4, Scalar.muli (BitVec.ofNat 32 q.val) 512#32 = BitVec.ofNat 32 (512 * q.val) := by decide +kernel
    have hi : (i 1).val < 4 := (i 1).isLt
    have ha : ∀ x y : ℕ, IntOp.addi (BitVec.ofNat 32 x) (BitVec.ofNat 32 y) = BitVec.ofNat 32 (x + y) := fun x y => (BitVec.ofNat_add x y).symm
    erw [h1 (i 1), h2 (i 1)]
    rw [ha, ha, cmpi_slt_ofNat (by omega) (by omega)]
    split <;> simp [Scalar.select]

end Cert.KernelSbIdeal.Grad

end
-- ==== Proof.Cumsum.lean ====
module

public import Idealize.ShloMosaic.Lib.Claim
public import Idealize.ShloMosaic.Lib.Pointwise
public import Idealize.ShloMosaic.Lib.LayoutAt

@[expose] public section

set_option maxRecDepth 16384

noncomputable section

open Idealize.ShloMosaic Idealize.ShloMosaic.TcCoe Idealize.SL.Sem

namespace Cert.Cumsum

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A running sum from zero is, at the exact instance, the sum over the positions of the window. -/
theorem window_sum {s t u : Shape} (window strides lo hi : Fin s.rank → Nat) (x : FVec Ideal s .f32) (init : FVec Ideal u .f32)
    (h : s.ReduceWindows window strides lo hi t) (hu : 0 < u.numel) (h0 : init (Shape.Idx.first hu) = 0) (j : t.Idx) :
    Host.reduceWindowAdd window strides lo hi x init h hu j
      = ∑ w : (⟨s.rank, window⟩ : Shape).Idx, if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  change Ideal.hostReduceWindowAdd window strides lo hi h x (init (Shape.Idx.first hu)) j = _
  unfold Ideal.hostReduceWindowAdd Host.reduceWindow
  dsimp only
  rw [foldl_sum, h0, zero_add, ← Fin.sum_univ_def]
  refine Eq.trans (Finset.sum_congr rfl fun n _ => ?_) (Equiv.sum_comp (⟨s.rank, window⟩ : Shape).rowMajor.symm (fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0))
  congr

theorem sum_coe {ι : Type} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- The positions of a window that is long along the last axis only. -/
def last3 (N : ℕ) : (⟨3, ![1, 1, N]⟩ : Shape).Idx ≃ Fin N where
  toFun w := w 2
  invFun k := ix3 (0 : Fin 1) (0 : Fin 1) k
  left_inv w := by
    funext i
    match i with
    | ⟨0, _⟩ => exact Subsingleton.elim (α := Fin 1) _ _
    | ⟨1, _⟩ => exact Subsingleton.elim (α := Fin 1) _ _
    | ⟨2, _⟩ => rfl
  right_inv k := rfl

def last2 (N : ℕ) : (⟨2, ![1, N]⟩ : Shape).Idx ≃ Fin N where
  toFun w := w 1
  invFun k := ix2 (0 : Fin 1) k
  left_inv w := by
    funext i
    match i with
    | ⟨0, _⟩ => exact Subsingleton.elim (α := Fin 1) _ _
    | ⟨1, _⟩ => rfl
  right_inv k := rfl

theorem shift_up (N c : ℕ) (hc : c < N) (f : ℕ → ℝ) :
    ∑ k ∈ Finset.range N, (if c + k < N then f (c + k) else 0) = ∑ k ∈ Finset.range N, if c ≤ k then f k else 0 := by
  rw [← Finset.sum_filter, ← Finset.sum_filter]
  refine Finset.sum_bij (fun k _ => c + k) ?_ ?_ ?_ ?_
  · intro k hk; simp only [Finset.mem_filter, Finset.mem_range] at hk ⊢; omega
  · intro a _ b _ h; exact Nat.add_left_cancel h
  · intro b hb; simp only [Finset.mem_filter, Finset.mem_range] at hb
    exact ⟨b - c, by simp only [Finset.mem_filter, Finset.mem_range]; omega, by omega⟩
  · intro _ _; rfl

theorem shift_down (N c : ℕ) (hc : c < N + 1) (f : ℕ → ℝ) :
    ∑ k ∈ Finset.range (N + 1), (if N ≤ c + k then f (c + k - N) else 0) = ∑ k ∈ Finset.range (c + 1), f k := by
  rw [← Finset.sum_filter]
  refine Finset.sum_bij (fun k _ => c + k - N) ?_ ?_ ?_ ?_
  · intro k hk; simp only [Finset.mem_filter, Finset.mem_range] at hk ⊢; omega
  · intro a ha b hb h
    simp only [Finset.mem_filter, Finset.mem_range] at ha hb
    have : c + a - N = c + b - N := h
    omega
  · intro b hb; simp only [Finset.mem_range] at hb
    exact ⟨b + N - c, by simp only [Finset.mem_filter, Finset.mem_range]; omega, by omega⟩
  · intro _ _; rfl

variable {A B N M : ℕ} {u : Shape} (init : FVec Ideal u .f32) (hu : 0 < u.numel) (h0 : init (Shape.Idx.first hu) = 0)
include h0

theorem suffix3 (X : ℕ → ℕ → ℕ → ℝ) (x : FVec Ideal ⟨3, ![A, B, N]⟩ .f32) (hx : ∀ a b c, x (ix3 a b c) = ((X a.val b.val c.val : ℝ) : EReal))
    (h : (⟨3, ![A, B, N]⟩ : Shape).ReduceWindows ![1, 1, N] ![1, 1, 1] ![0, 0, 0] ![0, 0, M] ⟨3, ![A, B, N]⟩) (a : Fin A) (b : Fin B) (c : Fin N) :
    Host.reduceWindowAdd ![1, 1, N] ![1, 1, 1] ![0, 0, 0] ![0, 0, M] x init h hu (ix3 a b c)
      = ((∑ k ∈ Finset.range N, if c.val ≤ k then X a.val b.val k else 0 : ℝ) : EReal) := by
  rw [window_sum _ _ _ _ x init h hu h0, ← shift_up N c.val c.isLt, Finset.sum_range, ← sum_coe]
  refine Fintype.sum_equiv (last3 N) _ _ fun w => ?_
  obtain ⟨k, rfl⟩ := (last3 N).symm.surjective w
  rw [Equiv.apply_symm_apply]
  by_cases hk : c.val + k.val < N
  · rw [if_pos hk, dif_pos]
    · refine Eq.trans (congrArg x ?_) (hx a b ⟨c.val + k.val, hk⟩)
      funext i
      match i with
      | ⟨0, _⟩ => exact Fin.ext (by show a.val * 1 + 0 - 0 = a.val; omega)
      | ⟨1, _⟩ => exact Fin.ext (by show b.val * 1 + 0 - 0 = b.val; omega)
      | ⟨2, _⟩ => exact Fin.ext (by show c.val * 1 + k.val - 0 = c.val + k.val; omega)
    · intro i
      match i with
      | ⟨0, _⟩ => exact ⟨Nat.zero_le _, by show a.val * 1 + 0 - 0 < A; omega⟩
      | ⟨1, _⟩ => exact ⟨Nat.zero_le _, by show b.val * 1 + 0 - 0 < B; omega⟩
      | ⟨2, _⟩ => exact ⟨Nat.zero_le _, by show c.val * 1 + k.val - 0 < N; omega⟩
  · rw [if_neg hk, dif_neg]
    · rfl
    · intro hin
      have h2 := (hin 2).2
      exact hk (by have : c.val * 1 + k.val - 0 < N := h2; omega)

theorem prefix3 (X : ℕ → ℕ → ℕ → ℝ) (x : FVec Ideal ⟨3, ![A, B, N + 1]⟩ .f32) (hx : ∀ a b c, x (ix3 a b c) = ((X a.val b.val c.val : ℝ) : EReal))
    (h : (⟨3, ![A, B, N + 1]⟩ : Shape).ReduceWindows ![1, 1, N + 1] ![1, 1, 1] ![0, 0, N] ![0, 0, 0] ⟨3, ![A, B, N + 1]⟩) (a : Fin A) (b : Fin B) (c : Fin (N + 1)) :
    Host.reduceWindowAdd ![1, 1, N + 1] ![1, 1, 1] ![0, 0, N] ![0, 0, 0] x init h hu (ix3 a b c)
      = ((∑ k ∈ Finset.range (c.val + 1), X a.val b.val k : ℝ) : EReal) := by
  rw [window_sum _ _ _ _ x init h hu h0, ← shift_down N c.val c.isLt, Finset.sum_range, ← sum_coe]
  refine Fintype.sum_equiv (last3 (N + 1)) _ _ fun w => ?_
  obtain ⟨k, rfl⟩ := (last3 (N + 1)).symm.surjective w
  rw [Equiv.apply_symm_apply]
  by_cases hk : N ≤ c.val + k.val
  · rw [if_pos hk, dif_pos]
    · refine Eq.trans (congrArg x ?_) (hx a b ⟨c.val + k.val - N, by omega⟩)
      funext i
      match i with
      | ⟨0, _⟩ => exact Fin.ext (by show a.val * 1 + 0 - 0 = a.val; omega)
      | ⟨1, _⟩ => exact Fin.ext (by show b.val * 1 + 0 - 0 = b.val; omega)
      | ⟨2, _⟩ => exact Fin.ext (by show c.val * 1 + k.val - N = c.val + k.val - N; omega)
    · intro i
      match i with
      | ⟨0, _⟩ => exact ⟨Nat.zero_le _, by show a.val * 1 + 0 - 0 < A; omega⟩
      | ⟨1, _⟩ => exact ⟨Nat.zero_le _, by show b.val * 1 + 0 - 0 < B; omega⟩
      | ⟨2, _⟩ => exact ⟨by show N ≤ c.val * 1 + k.val; omega, by show c.val * 1 + k.val - N < N + 1; omega⟩
  · rw [if_neg hk, dif_neg]
    · rfl
    · intro hin
      have h2 := (hin 2).1
      exact hk (by have : N ≤ c.val * 1 + k.val := h2; omega)

end Cert.Cumsum

end
-- ==== Proof.ForgetRun.lean ====
module

public import proofs.«01_k».proof.Proof.Gen.KernelForgetIdeal.Frame
public import proofs.«01_k».proof.Proof.SbReal
public import proofs.«01_k».proof.Proof.Cumsum
public import Idealize.ShloMosaic.Lib.VecWindow
public import Idealize.ShloMosaic.Lib.Pointwise
public import Idealize.ShloMosaic.Lib.WordCmp
public import Idealize.ShloMosaic.Lib.LayoutAt
public import Idealize.ShloMosaic.Lib.Pipeline.ValueKit

@[expose] public section

set_option maxRecDepth 16384

noncomputable section

open Idealize.ShloMosaic Idealize.ShloMosaic.TcCoe Idealize.SL.Sem

namespace Cert.KernelForgetIdeal.Grad
open Cert.KernelForgetIdeal Cert.KernelForgetIdeal.Gen Cert.Finite
open Cert.KernelSbIdeal.Grad (lift lift_ix lift_congr eq_lift)

/-- The sum of a column from a row on. -/
def suf (D : ℕ → ℕ → ℝ) (r l : ℕ) : ℝ := ∑ k ∈ Finset.Ico r 2048, D k l
/-- The gradient of the gates' inputs. -/
def gf (X : ℕ → ℕ → ℝ) (B : ℕ → ℝ) (D : ℕ → ℕ → ℝ) (r l : ℕ) : ℝ := suf D r l * (1 / (1 + Real.exp (X r l + B l)))

section Payloads
variable (T A X D : ℕ → ℕ → ℝ) (B : ℕ → ℝ)

/-- The sums from each row of a block on, and the gradient there. -/
def pre (T D : ℕ → ℕ → ℝ) (r l : ℕ) : ℝ := ∑ k ∈ Finset.Ico r 128, D k l + T 0 l
def grad (T D X : ℕ → ℕ → ℝ) (B : ℕ → ℝ) (r l : ℕ) : ℝ := pre T D r l * (1 / (1 + Real.exp (X r l + B l)))

theorem sge : ∀ a b : Fin 128, IntOp.cmpi CmpIPredicate.sge (BitVec.ofNat 32 b.val) (BitVec.ofNat 32 a.val) = if a.val ≤ b.val then 1#1 else 0#1 := by
  decide +kernel

theorem upper_at (a b : Fin 128) (x : ℝ) : Scalar.select (IntOp.cmpi CmpIPredicate.sge (BitVec.ofNat 32 b.val) (BitVec.ofNat 32 a.val)) (x : EReal) 0
    = ((if a.val ≤ b.val then x else 0 : ℝ) : EReal) := by
  rw [sge]
  split <;> simp [Scalar.select]

theorem select_same (b : BitVec 1) (x : EReal) : Scalar.select b x x = x := by unfold Scalar.select; split <;> rfl

theorem sum_ico (f : ℕ → ℝ) (r : ℕ) : ∑ k : Fin 128, (if r ≤ k.val then f k.val else 0) = ∑ k ∈ Finset.Ico r 128, f k := by
  rw [← Finset.sum_range (fun k => if r ≤ k then f k else 0), ← Finset.sum_filter]
  exact Finset.sum_congr (by ext k; simp only [Finset.mem_filter, Finset.mem_range, Finset.mem_Ico]; omega) fun _ _ => rfl

theorem pay3 : k0_pay3 (F := Ideal) (lift (φ := .f32) T) (lift (φ := .f32) D) = lift (pre T D) :=
  eq_lift fun r l => by
    pointwise [k0_pay3, lift]
    simp only [← EReal.coe_sub, sub_self, EReal.coe_zero, sub_zero, upper_at, select_same, Cert.Cumsum.sum_coe, Finset.sum_const_zero, add_zero, ← EReal.coe_add]
    rw [sum_ico fun k => D k l.val]
    rfl

theorem pay4 : k0_pay4 (F := Ideal) (lift (φ := .f32) T) (lift (φ := .f32) D) (lift (φ := .f32) X) (lift (φ := .f32) fun _ l => B l) = lift (grad T D X B) :=
  eq_lift fun r l => by
    pointwise [k0_pay4]
    rw [pay3]
    have h : (1 + Real.exp (X r.val l.val + B l.val)) ≠ 0 := by positivity
    rw [lift_ix, lift_ix, lift_ix, ← EReal.coe_add, Ideal.exp_coe, ← EReal.coe_one, ← EReal.coe_add, div_real h, ← EReal.coe_mul]
    rfl

theorem pay5 : k0_pay5 (F := Ideal) (lift (φ := .f32) T) (lift (φ := .f32) D) = lift fun _ l => pre T D 0 l :=
  eq_lift fun r l => by
    pointwise [k0_pay5]
    rw [pay3]; rfl

theorem pay6 : k0_pay6 (F := Ideal) (lift (φ := .f32) T) (lift (φ := .f32) A) (lift (φ := .f32) D) (lift (φ := .f32) X) (lift (φ := .f32) fun _ l => B l) = lift fun _ l => A 0 l + ∑ r ∈ Finset.range 128, grad T D X B r l :=
  eq_lift fun r l => by
    pointwise [k0_pay6]
    rw [pay4]
    simp only [lift_ix]
    rw [Cert.Cumsum.sum_coe, ← EReal.coe_add, Finset.sum_range, Subsingleton.elim r 0]
    rfl

/-- The sums from a row on, by its block and the rows after the block. -/
theorem pre_suf (D : ℕ → ℕ → ℝ) {q r l : ℕ} (hq : q < 16) (hr : r ≤ 128) :
    pre (fun _ l => suf D (128 * (q + 1)) l) (fun r l => D (128 * q + r) l) r l = suf D (128 * q + r) l := by
  unfold pre suf
  rw [Finset.sum_Ico_add (fun k => D k l) r 128 (128 * q), add_comm r, show 128 + 128 * q = 128 * (q + 1) by ring]
  exact Finset.sum_Ico_consecutive _ (by omega) (by omega)

theorem grad_gf (X : ℕ → ℕ → ℝ) (B : ℕ → ℝ) (D : ℕ → ℕ → ℝ) {q r l : ℕ} (hq : q < 16) (hr : r ≤ 128) :
    grad (fun _ l => suf D (128 * (q + 1)) l) (fun r l => D (128 * q + r) l) (fun r l => X (128 * q + r) l) B r l = gf X B D (128 * q + r) l := by
  rw [grad, pre_suf D hq hr, gf]

theorem sum_gf (X : ℕ → ℕ → ℝ) (B : ℕ → ℝ) (D : ℕ → ℕ → ℝ) {q l : ℕ} (hq : q < 16) :
    ∑ r ∈ Finset.Ico (128 * (q + 1)) 2048, gf X B D r l
      + ∑ r ∈ Finset.range 128, grad (fun _ l => suf D (128 * (q + 1)) l) (fun r l => D (128 * q + r) l) (fun r l => X (128 * q + r) l) B r l
      = ∑ r ∈ Finset.Ico (128 * q) 2048, gf X B D r l := by
  rw [Finset.sum_congr rfl fun r hr => grad_gf X B D hq (Finset.mem_range.1 hr).le, Finset.range_eq_Ico, Finset.sum_Ico_add (fun r => gf X B D r l) 0 128 (128 * q), add_comm,
    zero_add, show 128 + 128 * q = 128 * (q + 1) by ring]
  exact Finset.sum_Ico_consecutive _ (by omega) (by omega)
end Payloads

theorem trips : k0_t1_loop.trips = 16 := by decide +kernel
theorem off : ∀ k : Fin k0_t1_loop.trips, k0_off1 k = ![128 * (15 - k.val), 0] := by decide +kernel

theorem rows_inb {q : ℕ} (hq : q < 16) : ∀ a, (![128 * q, 0] : Fin 2 → ℕ) a + S128x128.size a ≤ S2048x128.size a := fun a => by
  match a with
  | ⟨0, _⟩ => show 128 * q + 128 ≤ 2048; omega
  | ⟨1, _⟩ => show 0 + 128 ≤ 128; omega

/-- A block of rows of a matrix. -/
theorem rows_lift {σ : RefSig} (X : ℕ → ℕ → ℝ) {κ : Kind} {sp : Space} (v : View σ κ sp S2048x128 .f32) (f : v.ty.Contents (Elt Ideal)) (hf : v.read (Elt Ideal) f = lift (φ := .f32) X)
    {o : Fin 2 → ℕ} (inb : ∀ a, o a + S128x128.size a ≤ S2048x128.size a) {q : ℕ} (hq : q < 16) (h : o = ![128 * q, 0]) :
    v.readAt (Elt Ideal) (Rect.unit (s := S2048x128) o S128x128.size inb).toLoadRect f = lift (φ := .f32) (n := 128) (m := 128) fun r l => X (128 * q + r) l := by
  rw [View.readAt_unit v f inb h (rows_inb hq), hf]
  funext j
  exact congrArg₂ (fun a b => ((X a b : ℝ) : EReal)) (by show 128 * q + 1 * (j 0).val = _; omega) (by show 0 + 1 * (j 1).val = _; omega)

/-- One more block of rows of the gradient. -/
theorem put_rows (X D : ℕ → ℕ → ℝ) (B : ℕ → ℝ) {q : ℕ} (hq : q < 16) (x : Vec Ideal S2048x128 .f32)
    (hx : ∀ j : S2048x128.Idx, 128 * (q + 1) ≤ (j 0).val → x j = ((gf X B D (j 0).val (j 1).val : ℝ) : EReal)) (j : S2048x128.Idx) (hj : 128 * q ≤ (j 0).val) :
    VecWindow.put x ![128 * q, 0] S128x128.size
      (lift (n := 128) (m := 128) (φ := .f32) (grad (fun _ l => suf D (128 * (q + 1)) l) (fun r l => D (128 * q + r) l) (fun r l => X (128 * q + r) l) B)) j
      = ((gf X B D (j 0).val (j 1).val : ℝ) : EReal) := by
  by_cases h : (j 0).val < 128 * (q + 1)
  · unfold VecWindow.put
    rw [dif_pos (fun i => by
      match i with
      | ⟨0, _⟩ => show 128 * q ≤ (j 0).val ∧ (j 0).val < 128 * q + 128; omega
      | ⟨1, _⟩ => have : (j 1).val < 128 := (j 1).isLt; show 0 ≤ (j 1).val ∧ (j 1).val < 0 + 128; omega)]
    refine congrArg Real.toEReal ((grad_gf X B D (r := (j 0).val - 128 * q) (l := (j 1).val) hq (by omega)).trans ?_)
    rw [Nat.add_sub_cancel' hj]
  · unfold VecWindow.put
    rw [dif_neg (fun h' => h (by have h' := h' 0; change 128 * q ≤ (j 0).val ∧ (j 0).val < 128 * q + 128 at h'; omega))]
    exact hx j (by omega)

section Loop
variable (𝒱 : Variants) (c : Dev nD) (bd : Option 𝒱.V) (arg0 : Memref sig .tc .vmem S2048x128 .f32) (harg0 : arg0.IsWhole) (arg1 : Memref sig .tc .vmem S1x128 .f32) (harg1 : arg1.IsWhole)
  (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole)
  (X_arg0 : BufTy.Contents (Elt Ideal) arg0.view.ty) (X_arg1 : BufTy.Contents (Elt Ideal) arg1.view.ty) (X_arg2 : BufTy.Contents (Elt Ideal) arg2.view.ty)

theorem tripR (k : Fin k0_t1_loop.trips) (acc : FVec Ideal S1x128 .f32 × FVec Ideal S1x128 .f32) :
    tripR_k0_t1 𝒱 c bd arg0 harg0 arg1 harg1 arg2 harg2 arg3 harg3 arg4 harg4 X_arg0 X_arg1 X_arg2 k acc
      = (k0_pay5 acc.1 (arg2.view.readAt (Elt Ideal) (Rect.unit (s := S2048x128) (k0_off1 k) S128x128.size (k0_off1_inb k)).toLoadRect X_arg2),
        k0_pay6 acc.1 acc.2 (arg2.view.readAt (Elt Ideal) (Rect.unit (s := S2048x128) (k0_off1 k) S128x128.size (k0_off1_inb k)).toLoadRect X_arg2)
          (arg0.view.readAt (Elt Ideal) (Rect.unit (s := S2048x128) (k0_off1 k) S128x128.size (k0_off1_inb k)).toLoadRect X_arg0)
          (arg1.view.readAt (Elt Ideal) (Rect.unit (s := S1x128) ![0, 0] S1x128.size inb_S1x128_S1x128_0_0).toLoadRect X_arg1)) := by
  unfold tripR_k0_t1 trip_k0_t1
  rfl

theorem tripL (k : Fin k0_t1_loop.trips) (acc : FVec Ideal S1x128 .f32 × FVec Ideal S1x128 .f32) :
    tripL_k0_t1 𝒱 c bd arg0 harg0 arg1 harg1 arg2 harg2 arg3 harg3 arg4 harg4 X_arg0 X_arg1 X_arg2 k acc
      = [⟨Rect.unit (s := S2048x128) (k0_off1 k) S128x128.size (k0_off1_inb k),
        k0_pay4 acc.1 (arg2.view.readAt (Elt Ideal) (Rect.unit (s := S2048x128) (k0_off1 k) S128x128.size (k0_off1_inb k)).toLoadRect X_arg2)
          (arg0.view.readAt (Elt Ideal) (Rect.unit (s := S2048x128) (k0_off1 k) S128x128.size (k0_off1_inb k)).toLoadRect X_arg0)
          (arg1.view.readAt (Elt Ideal) (Rect.unit (s := S1x128) ![0, 0] S1x128.size inb_S1x128_S1x128_0_0).toLoadRect X_arg1)⟩] := by
  unfold tripL_k0_t1 trip_k0_t1
  rfl

variable {X D : ℕ → ℕ → ℝ} {B : ℕ → ℝ} (h0 : arg0.view.read (Elt Ideal) X_arg0 = lift (φ := .f32) X) (h1 : arg1.view.read (Elt Ideal) X_arg1 = lift (φ := .f32) fun _ l => B l)
  (h2 : arg2.view.read (Elt Ideal) X_arg2 = lift (φ := .f32) D)
include h0 h1 h2

theorem loop (v : View sig .tc .vmem S2048x128 .f32) (f : v.ty.Contents (Elt Ideal)) (n : ℕ) (hn : n ≤ 16) :
    (st_k0_t1 𝒱 c bd arg0 harg0 arg1 harg1 arg2 harg2 arg3 harg3 arg4 harg4 X_arg0 X_arg1 X_arg2 (k0_pay1, k0_pay2) n).1
        = (lift (φ := .f32) fun _ l => suf D (128 * (16 - n)) l, lift (φ := .f32) fun _ l => ∑ r ∈ Finset.Ico (128 * (16 - n)) 2048, gf X B D r l)
    ∧ ∀ j : S2048x128.Idx, 128 * (16 - n) ≤ (j 0).val →
      v.read (Elt Ideal) (v.writes (Elt Ideal) f (st_k0_t1 𝒱 c bd arg0 harg0 arg1 harg1 arg2 harg2 arg3 harg3 arg4 harg4 X_arg0 X_arg1 X_arg2 (k0_pay1, k0_pay2) n).2) j
        = ((gf X B D (j 0).val (j 1).val : ℝ) : EReal) := by
  induction n with
  | zero =>
    refine ⟨congrArg₂ Prod.mk (eq_lift fun r l => ?_) (eq_lift fun r l => ?_), fun j hj => ?_⟩
    · show Ideal.ofBits .f32 0x00000000#32 = _
      rw [show suf D (128 * (16 - 0)) l.val = 0 from Finset.sum_eq_zero fun k hk => by rw [Finset.mem_Ico] at hk; omega]
      exact Ideal.ofBits_zero_f32
    · show Ideal.ofBits .f32 0x00000000#32 = _
      rw [show ∑ r ∈ Finset.Ico (128 * (16 - 0)) 2048, gf X B D r l.val = 0 from Finset.sum_eq_zero fun k hk => by rw [Finset.mem_Ico] at hk; omega]
      exact Ideal.ofBits_zero_f32
    · have : (j 0).val < 2048 := (j 0).isLt
      omega
  | succ n ih =>
    have hlt : n < k0_t1_loop.trips := lt_of_lt_of_eq hn trips.symm
    obtain ⟨i1, i2⟩ := ih (Nat.le_of_succ_le hn)
    have e : st_k0_t1 𝒱 c bd arg0 harg0 arg1 harg1 arg2 harg2 arg3 harg3 arg4 harg4 X_arg0 X_arg1 X_arg2 (k0_pay1, k0_pay2) (n + 1) = _ :=
      st_k0_t1_succ 𝒱 c bd arg0 harg0 arg1 harg1 arg2 harg2 arg3 harg3 arg4 harg4 X_arg0 X_arg1 X_arg2 (k0_pay1, k0_pay2) ⟨n, hlt⟩
    have hq : 15 - n < 16 := by omega
    have hq1 : 16 - n = 15 - n + 1 := by omega
    have hq2 : 16 - (n + 1) = 15 - n := by omega
    rw [hq1] at i1 i2
    have ho := off ⟨n, hlt⟩
    change k0_off1 ⟨n, hlt⟩ = ![128 * (15 - n), 0] at ho
    rw [hq2, e, tripR, tripL, rows_lift D arg2.view _ h2 _ hq ho, rows_lift X arg0.view _ h0 _ hq ho, View.readAt_full, h1, i1]
    generalize 15 - n = q at hq i2 ho ⊢
    dsimp only
    rw [pay4, pay5, pay6]
    refine ⟨congrArg₂ Prod.mk (lift_congr fun r _ l _ => pre_suf D (r := 0) (l := l) hq (Nat.zero_le _)) (lift_congr fun r _ l _ => sum_gf X B D (l := l) hq), fun j hj => ?_⟩
    rw [List.cons_append, List.nil_append, View.read_writes_cons_put v f _ _ _ ho]
    exact put_rows X D B hq _ i2 j hj
end Loop

section Point
variable (c : Dev nD) (arg0 : Memref sig .tc .vmem S2048x128 .f32) (harg0 : arg0.IsWhole) (arg1 : Memref sig .tc .vmem S1x128 .f32) (harg1 : arg1.IsWhole)
  (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole)
  (X D : ℕ → ℕ → ℝ) (B : ℕ → ℝ)

/-- What the call leaves. -/
theorem point3 : out0_A_3 (F := Ideal) c arg0 harg0 arg1 harg1 arg2 harg2 arg3 harg3 arg4 harg4 (lift (φ := .f32) X) (lift (φ := .f32) fun _ l => B l) (lift (φ := .f32) D) = lift (φ := .f32) (gf X B D) := by
  have h := (loop Variants.none c none arg0 harg0 arg1 harg1 arg2 harg2 arg3 harg3 arg4 harg4 (harg0.unread (lift (φ := .f32) X : Vec Ideal S2048x128 .f32))
    (harg1.unread (lift (φ := .f32) fun _ l => B l : Vec Ideal S1x128 .f32)) (harg2.unread (lift (φ := .f32) D : Vec Ideal S2048x128 .f32)) (harg0.read_unread _) (harg1.read_unread _) (harg2.read_unread _) VO0_3 VO0_3.junk 16 le_rfl).2
  funext j
  refine Eq.trans ?_ (h j (Nat.zero_le _))
  unfold out0_A_3 kernelRun0_A
  rw [← trips]

theorem point4 : out0_A_4 (F := Ideal) c arg0 harg0 arg1 harg1 arg2 harg2 arg3 harg3 arg4 harg4 (lift (φ := .f32) X) (lift (φ := .f32) fun _ l => B l) (lift (φ := .f32) D)
    = lift (φ := .f32) fun _ l => ∑ r ∈ Finset.Ico 0 2048, gf X B D r l := by
  have h := (loop Variants.none c none arg0 harg0 arg1 harg1 arg2 harg2 arg3 harg3 arg4 harg4 (harg0.unread (lift (φ := .f32) X : Vec Ideal S2048x128 .f32))
    (harg1.unread (lift (φ := .f32) fun _ l => B l : Vec Ideal S1x128 .f32)) (harg2.unread (lift (φ := .f32) D : Vec Ideal S2048x128 .f32)) (harg0.read_unread _) (harg1.read_unread _) (harg2.read_unread _) VO0_3 VO0_3.junk k0_t1_loop.trips trips.le).1
  unfold out0_A_4 kernelRun0_A
  dsimp only
  rw [View.read_writes_full]
  refine (congrArg Prod.snd h).trans ?_
  rw [trips]
end Point
end Cert.KernelForgetIdeal.Grad

end
-- ==== Proof.SbRef.lean ====
module

public import proofs.«01_k».proof.Proof.SbReal
public import proofs.«01_k».proof.Proof.Cumsum
public import proofs.«01_k».proof.Proof.Gen.ReferenceSbIdeal.Read
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem

namespace Cert.ReferenceSbIdeal.Grad
open Cert.ReferenceSbIdeal Cert.ReferenceSbIdeal.Read
open Cert.KernelSbIdeal.Grad (lift lift_ix lsg logSig_coe cmpi_slt_ofNat)

/-- The scores and the products of cotangent and value of head `h`. -/
def zH (X0 X1 : ℕ → ℕ → ℝ) (h T S : ℕ) : ℝ := ∑ d ∈ Finset.range 64, X0 T (64 * h + d) * (1 / 8) * X1 S (64 * h + d)
def pH (X3 X2 : ℕ → ℕ → ℝ) (h T S : ℕ) : ℝ := ∑ d ∈ Finset.range 64, X3 T (64 * h + d) * X2 S (64 * h + d)

def lmH (Z : ℕ → ℕ → ℝ) (T S : ℕ) : ℝ := if S < T then lsg (Z T S) - Z T S else 0
def wH (Z : ℕ → ℕ → ℝ) (T S : ℕ) : ℝ :=
  if S < T then Real.exp (lsg (Z T S) + ∑ k ∈ Finset.range 2048, lmH Z T k - ∑ k ∈ Finset.range (S + 1), lmH Z T k) else 0
def gH (Z P : ℕ → ℕ → ℝ) (T S : ℕ) : ℝ := wH Z T S * P T S
def dH (Z P : ℕ → ℕ → ℝ) (T S : ℕ) : ℝ :=
  if S < T then gH Z P T S * (1 - Real.exp (lsg (Z T S))) - (∑ k ∈ Finset.range S, gH Z P T k) * Real.exp (lsg (Z T S)) else 0

theorem lsg_neg (x : ℝ) : lsg (-x) = lsg x - x := by
  unfold lsg
  rw [abs_neg]
  rcases le_total 0 x with hx | hx
  · rw [min_eq_left (by linarith), min_eq_right hx]; ring
  · rw [min_eq_right (by linarith), min_eq_left hx]; ring

theorem exp_lsg_add (x : ℝ) : Real.exp (lsg x) + Real.exp (lsg x - x) = 1 := by
  have h1 : (0 : ℝ) < 1 + Real.exp (-|x|) := by positivity
  have e : Real.exp (lsg x) = Real.exp (min x 0) / (1 + Real.exp (-|x|)) := by rw [lsg, Real.exp_sub, Real.exp_log h1]
  have e' : Real.exp (lsg x - x) = Real.exp (min x 0 - x) / (1 + Real.exp (-|x|)) := by rw [lsg, sub_right_comm, Real.exp_sub, Real.exp_log h1]
  rw [e, e', ← add_div, div_eq_one_iff_eq h1.ne']
  rcases le_total 0 x with hx | hx
  · rw [min_eq_right hx, abs_of_nonneg hx, Real.exp_zero, zero_sub]
  · rw [min_eq_left hx, abs_of_nonpos hx, sub_self, Real.exp_zero, neg_neg, add_comm]

/-- The softplus of jax at a real number. -/
theorem sp_coe (x : ℝ) : max (x : EReal) 0 + Ideal.log1p (Ideal.exp (-FloatOps.absf (F := Ideal) (φ := .f32) (x : EReal))) = ((-lsg (-x) : ℝ) : EReal) := by
  have e : FloatOps.absf (F := Ideal) (φ := .f32) (x : EReal) = ((|x| : ℝ) : EReal) := by
    show max (x : EReal) (-(x : EReal)) = _
    rw [abs_eq_max_neg]; norm_cast
  have hp : ¬ (1 + Real.exp (-|x|)) ≤ 0 := not_le.2 (by positivity)
  have hm : max x 0 = -min (-x) 0 := by rw [← max_neg_neg]; simp
  rw [e, ← EReal.coe_neg, Ideal.exp_coe, Ideal.log1p, ← EReal.coe_one, ← EReal.coe_add, Ideal.log_coe, if_neg hp, lsg, abs_neg, ← EReal.coe_zero, ← EReal.coe_strictMono.monotone.map_max, ← EReal.coe_add]
  congr 1; rw [hm]; ring

theorem ofBits_eighth : Ideal.ofBits .f32 0x3E000000#32 = ((1 / 8 : ℝ) : EReal) := by
  simp [Ideal.ofBits, Ideal.ieee]; norm_num [← EReal.coe_mul]

theorem ofBits_top : Ideal.ofBits .f32 0x7F800000#32 = ⊤ := by simp [Ideal.ofBits, Ideal.ieee]

theorem sum_fin {n : ℕ} (f : ℕ → ℝ) : ∑ k : Fin n, ((f k.val : ℝ) : EReal) = ((∑ k ∈ Finset.range n, f k : ℝ) : EReal) := by
  rw [Cert.Cumsum.sum_coe, Finset.sum_range]

abbrev R2 (X : ℕ → ℕ → ℝ) : (⟨S2048x512, .f32⟩ : BufTy).Contents (Elt Ideal) := (lift (φ := .f32) X : FVec Ideal S2048x512 .f32)

variable (X0 X1 X2 X3 : ℕ → ℕ → ℝ) (h : Fin 8) (T S : Fin 2048)

theorem z_at : val_main_v8 (F := Ideal) (R2 X0) (R2 X1) (ix3 h T S) = ((zH X0 X1 h.val T.val S.val : ℝ) : EReal) := by
  pointwise [val_main_v8, val_main_v5, val_main_v4, val_main_v3, val_main_v2, val_main_v1, val_main_v0, val_main_cst]
  rw [ofBits_eighth]
  refine Eq.trans (Finset.sum_congr rfl fun d _ => ?_) (sum_fin fun d => X0 T.val (64 * h.val + d) * (1 / 8) * X1 S.val (64 * h.val + d))
  show ((X0 T.val (h.val * 64 + d.val) : ℝ) : EReal) * _ * ((X1 S.val (h.val * 64 + d.val) : ℝ) : EReal) = _
  rw [mul_comm h.val 64]
  norm_cast

theorem p_at : val_main_v32 (F := Ideal) (R2 X2) (R2 X3) (ix3 h T S) = ((pH X3 X2 h.val T.val S.val : ℝ) : EReal) := by
  pointwise [val_main_v32, val_main_v29, val_main_v28, val_main_v7, val_main_v6]
  refine Eq.trans (Finset.sum_congr rfl fun d _ => ?_) (sum_fin fun d => X3 T.val (64 * h.val + d) * X2 S.val (64 * h.val + d))
  show ((X3 T.val (h.val * 64 + d.val) : ℝ) : EReal) * ((X2 S.val (h.val * 64 + d.val) : ℝ) : EReal) = _
  rw [mul_comm h.val 64]
  norm_cast

theorem mask_at : val_main_v15 (F := Ideal) (ix2 T S) = if S.val < T.val then 1#1 else 0#1 := by
  pointwise [val_main_v15, val_main_v14, val_main_v13, val_main_v12, val_main_v11, val_main_v10, val_main_v9]
  exact cmpi_slt_ofNat (by omega) (by omega)

theorem sp0_at : val_main_call0_v1_0 (F := Ideal) (R2 X0) (R2 X1) (ix3 h T S) = ((-(lsg (zH X0 X1 h.val T.val S.val) - zH X0 X1 h.val T.val S.val) : ℝ) : EReal) := by
  pointwise [val_main_call0_v1_0, val_main_call0_call0_v4, val_main_call0_call0_v6, val_main_call0_call0_v11, val_main_call0_call0_v10, val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0, val_main_v16]
  rw [z_at, neg_neg, if_neg (fun h => h rfl), sp_coe, lsg_neg]

theorem ds0_at : val_main_v17_1 (F := Ideal) (R2 X0) (R2 X1) (ix3 h T S) = ((Real.exp (lsg (zH X0 X1 h.val T.val S.val)) : ℝ) : EReal) := by
  pointwise [val_main_v17_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_v0, val_main_v16, val_main_call0_call0_cst_0, val_main_call0_call0_cst_1, val_main_call0_call0_cst_2, val_main_call0_call0_cst_3]
  rw [z_at, sp0_at, neg_neg, ofBits_top, if_neg (EReal.coe_ne_top _), if_neg (EReal.coe_ne_top _), ← EReal.coe_sub, Ideal.exp_coe]
  congr 2; ring

theorem sp3_at : val_main_call3_v1_0 (F := Ideal) (R2 X0) (R2 X1) (ix3 h T S) = ((-lsg (zH X0 X1 h.val T.val S.val) : ℝ) : EReal) := by
  pointwise [val_main_call3_v1_0, val_main_call3_call0_v4, val_main_call3_call0_v6, val_main_call3_call0_v11, val_main_call3_call0_v10, val_main_call3_call0_v9, val_main_call3_call0_v8, val_main_call3_call0_v7, val_main_call3_call0_v5, val_main_call3_call0_v3, val_main_call3_call0_v2, val_main_call3_call0_v1, val_main_call3_call0_v0, val_main_call3_call0_cst, val_main_call3_v0]
  rw [z_at, ← EReal.coe_neg, if_neg (fun h => h rfl), sp_coe, neg_neg]

theorem ds3_at : val_main_v21_1 (F := Ideal) (R2 X0) (R2 X1) (ix3 h T S) = ((1 - Real.exp (lsg (zH X0 X1 h.val T.val S.val)) : ℝ) : EReal) := by
  pointwise [val_main_v21_1, val_main_call3_call0_v21, val_main_call3_call0_v20, val_main_call3_call0_v19, val_main_call3_call0_v18, val_main_call3_call0_v17, val_main_call3_call0_v16, val_main_call3_call0_v15, val_main_call3_call0_v14, val_main_call3_call0_v13, val_main_call3_v0, val_main_call3_call0_cst_0, val_main_call3_call0_cst_1, val_main_call3_call0_cst_2, val_main_call3_call0_cst_3]
  rw [z_at, sp3_at, ← EReal.coe_neg, ofBits_top, if_neg (EReal.coe_ne_top _), if_neg (EReal.coe_ne_top _), ← EReal.coe_sub, Ideal.exp_coe, ← exp_lsg_add (zH X0 X1 h.val T.val S.val)]
  congr 1; rw [add_sub_cancel_left]; congr 1; ring

theorem lm_at : val_main_v18_0 (F := Ideal) (R2 X0) (R2 X1) (ix3 h T S) = ((lmH (zH X0 X1 h.val) T.val S.val : ℝ) : EReal) := by
  pointwise [val_main_v18_0, val_main_v18_1, val_main_v17_0, val_main_call1_v2, val_main_call1_v0, val_main_cst_0]
  rw [sp0_at, mask_at, ← EReal.coe_neg, neg_neg, lmH]
  split <;> simp [Scalar.select]
  exact Ideal.ofBits_zero_f32

theorem cs_at : val_main_v19 (F := Ideal) (R2 X0) (R2 X1) (ix3 h T S) = ((∑ k ∈ Finset.range 2048, if S.val ≤ k then lmH (zH X0 X1 h.val) T.val k else 0 : ℝ) : EReal) :=
  Cert.Cumsum.suffix3 (A := 8) (B := 2048) (N := 2048) (M := 2047) (val_main_call2_v0 (F := Ideal)) (by decide) (by rw [show Shape.Idx.first _ = ix0 from funext fun a => a.elim0]; pointwise [val_main_call2_v0, val_main_call2_cst])
    (fun a b c => lmH (zH X0 X1 a) b c) (val_main_v18_0 (F := Ideal) (R2 X0) (R2 X1)) (lm_at X0 X1) _ h T S

theorem after_sub (f : ℕ → ℝ) {n S : ℕ} (hS : S < n) :
    (∑ k ∈ Finset.range n, if S ≤ k then f k else 0) - f S = ∑ k ∈ Finset.range n, f k - ∑ k ∈ Finset.range (S + 1), f k := by
  have e : ∑ k ∈ Finset.range n, f k = ∑ k ∈ Finset.range S, f k + ∑ k ∈ Finset.range n, if S ≤ k then f k else 0 := by
    have h1 : ∑ k ∈ Finset.range S, f k = ∑ k ∈ Finset.range n, if k < S then f k else 0 := by
      rw [← Finset.sum_filter]
      exact Finset.sum_congr (Finset.ext fun k => by simp only [Finset.mem_filter, Finset.mem_range]; omega) fun _ _ => rfl
    rw [h1, ← Finset.sum_add_distrib]
    refine Finset.sum_congr rfl fun k _ => ?_
    by_cases hk : k < S
    · rw [if_pos hk, if_neg (by omega), add_zero]
    · rw [if_neg hk, if_pos (by omega), zero_add]
  rw [e, Finset.sum_range_succ]; ring

theorem e_at : val_main_v23 (F := Ideal) (R2 X0) (R2 X1) (ix3 h T S)
    = ((Real.exp (lsg (zH X0 X1 h.val T.val S.val) + ∑ k ∈ Finset.range 2048, lmH (zH X0 X1 h.val) T.val k - ∑ k ∈ Finset.range (S.val + 1), lmH (zH X0 X1 h.val) T.val k) : ℝ) : EReal) := by
  pointwise [val_main_v23, val_main_v22, val_main_v21_0, val_main_v20]
  rw [sp3_at, cs_at, lm_at, ← EReal.coe_neg, neg_neg, ← EReal.coe_sub, after_sub _ S.isLt, ← EReal.coe_add, Ideal.exp_coe]
  congr 2; ring

theorem w_at : val_main_v24_0 (F := Ideal) (R2 X0) (R2 X1) (ix3 h T S) = ((wH (zH X0 X1 h.val) T.val S.val : ℝ) : EReal) := by
  pointwise [val_main_v24_0, val_main_v24_1, val_main_call4_v2, val_main_call4_v0, val_main_cst_1]
  rw [e_at, mask_at, wH]
  split <;> simp [Scalar.select]
  exact Ideal.ofBits_zero_f32

theorem g_at : val_main_v34 (F := Ideal) (R2 X0) (R2 X1) (R2 X2) (R2 X3) (ix3 h T S) = ((gH (zH X0 X1 h.val) (pH X3 X2 h.val) T.val S.val : ℝ) : EReal) := by
  pointwise [val_main_v34, val_main_v33, val_main_v24_1, val_main_call5_v0, val_main_call5_cst]
  rw [e_at, mask_at, p_at, gH, wH]
  split <;> simp [Scalar.select, mul_comm]

theorem gs_at : val_main_v37 (F := Ideal) (R2 X0) (R2 X1) (R2 X2) (R2 X3) (ix3 h T S) = ((∑ k ∈ Finset.range (S.val + 1), gH (zH X0 X1 h.val) (pH X3 X2 h.val) T.val k : ℝ) : EReal) :=
  Cert.Cumsum.prefix3 (A := 8) (B := 2048) (N := 2047) (val_main_call7_v0 (F := Ideal)) (by decide) (by rw [show Shape.Idx.first _ = ix0 from funext fun a => a.elim0]; pointwise [val_main_call7_v0, val_main_call7_cst])
    (fun a b c => gH (zH X0 X1 a) (pH X3 X2 a) b c) (val_main_v34 (F := Ideal) (R2 X0) (R2 X1) (R2 X2) (R2 X3)) (g_at X0 X1 X2 X3) _ h T S

theorem d_at : val_main_v42 (F := Ideal) (R2 X0) (R2 X1) (R2 X2) (R2 X3) (ix3 h T S) = ((dH (zH X0 X1 h.val) (pH X3 X2 h.val) T.val S.val : ℝ) : EReal) := by
  pointwise [val_main_v42, val_main_v41, val_main_v40, val_main_v39, val_main_v38, val_main_v36, val_main_v35, val_main_v18_1, val_main_call6_v0, val_main_call6_v1, val_main_call8_v0, val_main_call8_cst, val_main_call9_v0, val_main_call9_v1]
  rw [g_at, gs_at, ds0_at, ds3_at, mask_at, dH]
  by_cases hS : S.val < T.val
  · rw [if_pos hS, if_pos hS, Finset.sum_range_succ]
    rw [show ∀ a b : EReal, Scalar.select (1#1) a b = a from fun _ _ => rfl]
    simp only [← EReal.coe_neg, ← EReal.coe_mul, ← EReal.coe_add]
    congr 1; ring
  · rw [if_neg hS, if_neg hS]
    have hg : gH (zH X0 X1 h.val) (pH X3 X2 h.val) T.val S.val = 0 := by rw [gH, wH, if_neg hS, zero_mul]
    rw [hg]
    simp [Scalar.select]

/-- The three gradients of the stick-breaking attention. -/
def dqH (X0 X1 X2 X3 : ℕ → ℕ → ℝ) (T c : ℕ) : ℝ := (∑ S ∈ Finset.range 2048, dH (zH X0 X1 (c / 64)) (pH X3 X2 (c / 64)) T S * X1 S c) * (1 / 8)
def dkH (X0 X1 X2 X3 : ℕ → ℕ → ℝ) (S c : ℕ) : ℝ := ∑ T ∈ Finset.range 2048, dH (zH X0 X1 (c / 64)) (pH X3 X2 (c / 64)) T S * (X0 T c * (1 / 8))
def dvH (X0 X1 X3 : ℕ → ℕ → ℝ) (S c : ℕ) : ℝ := ∑ T ∈ Finset.range 2048, wH (zH X0 X1 (c / 64)) T S * X3 T c

variable (c : Fin 512)

theorem dq_at : val_main_v53 (F := Ideal) (R2 X0) (R2 X1) (R2 X2) (R2 X3) (ix2 T c) = ((dqH X0 X1 X2 X3 T.val c.val : ℝ) : EReal) := by
  pointwise [val_main_v53, val_main_v52, val_main_v51, val_main_v50, val_main_v49, val_main_cst_2, val_main_v44, val_main_v5, val_main_v4]
  rw [ofBits_eighth]
  refine Eq.trans (congrArg (fun x : EReal => x * ((1 / 8 : ℝ) : EReal)) (Eq.trans (Finset.sum_congr rfl fun S _ => ?_)
    (sum_fin fun S => dH (zH X0 X1 (c.val / 64)) (pH X3 X2 (c.val / 64)) T.val S * X1 S c.val))) (EReal.coe_mul _ _).symm
  rw [d_at]; exact (EReal.coe_mul _ _).symm

theorem dk_at : val_main_v54 (F := Ideal) (R2 X0) (R2 X1) (R2 X2) (R2 X3) (ix2 T c) = ((dkH X0 X1 X2 X3 T.val c.val : ℝ) : EReal) := by
  pointwise [val_main_v54, val_main_v48, val_main_v47, val_main_v43, val_main_v3, val_main_v2, val_main_cst, val_main_v1, val_main_v0]
  rw [ofBits_eighth]
  refine Eq.trans (Finset.sum_congr rfl fun S _ => ?_) (sum_fin fun S => dH (zH X0 X1 (c.val / 64)) (pH X3 X2 (c.val / 64)) S T.val * (X0 S c.val * (1 / 8)))
  rw [d_at, EReal.coe_mul, EReal.coe_mul]; rfl

theorem dv_at : val_main_v55 (F := Ideal) (R2 X0) (R2 X1) (R2 X3) (ix2 T c) = ((dvH X0 X1 X3 T.val c.val : ℝ) : EReal) := by
  pointwise [val_main_v55, val_main_v46, val_main_v45, val_main_v31, val_main_v30, val_main_v29, val_main_v28]
  refine Eq.trans (Finset.sum_congr rfl fun S _ => ?_) (sum_fin fun S => wH (zH X0 X1 (c.val / 64)) S T.val * X3 S c.val)
  rw [w_at, EReal.coe_mul, mul_comm]; rfl

end Cert.ReferenceSbIdeal.Grad

end
-- ==== Proof.Suffix.lean ====
module

public import proofs.«01_k».proof.Proof.Cumsum

@[expose] public section

set_option maxRecDepth 16384

noncomputable section

open Idealize.ShloMosaic Idealize.ShloMosaic.TcCoe Idealize.SL.Sem

namespace Cert.Cumsum

variable {A N M : ℕ} {u : Shape} (init : FVec Ideal u .f32) (hu : 0 < u.numel) (h0 : init (Shape.Idx.first hu) = 0)
include h0

/-- A running sum from the end, along the last of two axes. -/
theorem suffix2 (X : ℕ → ℕ → ℝ) (x : FVec Ideal ⟨2, ![A, N]⟩ .f32) (hx : ∀ a c, x (ix2 a c) = ((X a.val c.val : ℝ) : EReal))
    (h : (⟨2, ![A, N]⟩ : Shape).ReduceWindows ![1, N] ![1, 1] ![0, 0] ![0, M] ⟨2, ![A, N]⟩) (a : Fin A) (c : Fin N) :
    Host.reduceWindowAdd ![1, N] ![1, 1] ![0, 0] ![0, M] x init h hu (ix2 a c)
      = ((∑ k ∈ Finset.range N, if c.val ≤ k then X a.val k else 0 : ℝ) : EReal) := by
  rw [window_sum _ _ _ _ x init h hu h0, ← shift_up N c.val c.isLt, Finset.sum_range, ← sum_coe]
  refine Fintype.sum_equiv (last2 N) _ _ fun w => ?_
  obtain ⟨k, rfl⟩ := (last2 N).symm.surjective w
  rw [Equiv.apply_symm_apply]
  by_cases hk : c.val + k.val < N
  · rw [if_pos hk, dif_pos]
    · refine Eq.trans (congrArg x ?_) (hx a ⟨c.val + k.val, hk⟩)
      funext i
      match i with
      | ⟨0, _⟩ => exact Fin.ext (by show a.val * 1 + 0 - 0 = a.val; omega)
      | ⟨1, _⟩ => exact Fin.ext (by show c.val * 1 + k.val - 0 = c.val + k.val; omega)
    · intro i
      match i with
      | ⟨0, _⟩ => exact ⟨Nat.zero_le _, by show a.val * 1 + 0 - 0 < A; omega⟩
      | ⟨1, _⟩ => exact ⟨Nat.zero_le _, by show c.val * 1 + k.val - 0 < N; omega⟩
  · rw [if_neg hk, dif_neg]
    · rfl
    · intro hin
      have h2 := (hin 1).2
      exact hk (by have : c.val * 1 + k.val - 0 < N := h2; omega)

/-- A running sum from the start, along the last of two axes. -/
theorem prefix2 (X : ℕ → ℕ → ℝ) (x : FVec Ideal ⟨2, ![A, N + 1]⟩ .f32) (hx : ∀ a c, x (ix2 a c) = ((X a.val c.val : ℝ) : EReal))
    (h : (⟨2, ![A, N + 1]⟩ : Shape).ReduceWindows ![1, N + 1] ![1, 1] ![0, N] ![0, 0] ⟨2, ![A, N + 1]⟩) (a : Fin A) (c : Fin (N + 1)) :
    Host.reduceWindowAdd ![1, N + 1] ![1, 1] ![0, N] ![0, 0] x init h hu (ix2 a c)
      = ((∑ k ∈ Finset.range (c.val + 1), X a.val k : ℝ) : EReal) := by
  rw [window_sum _ _ _ _ x init h hu h0, ← shift_down N c.val c.isLt, Finset.sum_range, ← sum_coe]
  refine Fintype.sum_equiv (last2 (N + 1)) _ _ fun w => ?_
  obtain ⟨k, rfl⟩ := (last2 (N + 1)).symm.surjective w
  rw [Equiv.apply_symm_apply]
  by_cases hk : N ≤ c.val + k.val
  · rw [if_pos hk, dif_pos]
    · refine Eq.trans (congrArg x ?_) (hx a ⟨c.val + k.val - N, by omega⟩)
      funext i
      match i with
      | ⟨0, _⟩ => exact Fin.ext (by show a.val * 1 + 0 - 0 = a.val; omega)
      | ⟨1, _⟩ => exact Fin.ext (by show c.val * 1 + k.val - N = c.val + k.val - N; omega)
    · intro i
      match i with
      | ⟨0, _⟩ => exact ⟨Nat.zero_le _, by show a.val * 1 + 0 - 0 < A; omega⟩
      | ⟨1, _⟩ => exact ⟨by show N ≤ c.val * 1 + k.val; omega, by show c.val * 1 + k.val - N < N + 1; omega⟩
  · rw [if_neg hk, dif_neg]
    · rfl
    · intro hin
      have h2 := (hin 1).1
      exact hk (by have : N ≤ c.val * 1 + k.val := h2; omega)

end Cert.Cumsum

end
-- ==== Proof.ForgetRef.lean ====
module

public import proofs.«01_k».proof.Proof.Gen.ReferenceForgetIdeal.Read
public import proofs.«01_k».proof.Proof.SbRef
public import proofs.«01_k».proof.Proof.Suffix

@[expose] public section

set_option maxRecDepth 16384

noncomputable section

open Idealize.ShloMosaic Idealize.ShloMosaic.TcCoe Idealize.SL.Sem

namespace Cert.ReferenceForgetIdeal.Grad
open Cert.ReferenceForgetIdeal Cert.ReferenceForgetIdeal.Gen Cert.ReferenceForgetIdeal.Read Cert.Finite
open Cert.KernelSbIdeal.Grad (lift lift_ix lsg)
open Cert.ReferenceSbIdeal.Grad (sp_coe lsg_neg exp_lsg_add ofBits_top)

variable (X D : ℕ → ℕ → ℝ) (B : ℕ → ℝ)
/-- A vector of reals. -/
def vec (B : ℕ → ℝ) : FVec Ideal S16 .f32 := fun i => ((B (i 0).val : ℝ) : EReal)

/-- The sums from a column on. -/
theorem sums_at (h : Fin 16) (r : Fin 2048) : val_main_v6 (F := Ideal) (lift (φ := .f32) D) (ix2 h r) = ((∑ k ∈ Finset.range 2048, if r.val ≤ k then D h.val k else 0 : ℝ) : EReal) :=
  Cert.Cumsum.suffix2 _ _ (by pointwise [val_main_call2_v0, val_main_call2_cst]) D (lift D) (fun _ _ => rfl) _ h r

theorem x_at (r : Fin 2048) (h : Fin 16) : val_main_v2 (F := Ideal) (lift (φ := .f32) X) (vec B) (ix2 r h) = ((X r.val h.val + B h.val : ℝ) : EReal) := by
  pointwise [val_main_v2, val_main_v1, val_main_v0, vec, lift]
  norm_cast

theorem sp_at (r : Fin 2048) (h : Fin 16) : val_main_call0_v1_0 (F := Ideal) (lift (φ := .f32) X) (vec B) (ix2 r h) = ((-lsg (X r.val h.val + B h.val) : ℝ) : EReal) := by
  pointwise [val_main_call0_v1_0, val_main_call0_call0_v4, val_main_call0_call0_v6, val_main_call0_call0_v11, val_main_call0_call0_v10, val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0]
  rw [x_at, ← EReal.coe_neg, if_neg (fun h => h rfl), sp_coe, neg_neg]

theorem sig_at (r : Fin 2048) (h : Fin 16) : val_main_v3_1 (F := Ideal) (lift (φ := .f32) X) (vec B) (ix2 r h) = ((1 / (1 + Real.exp (X r.val h.val + B h.val)) : ℝ) : EReal) := by
  pointwise [val_main_v3_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_v0, val_main_call0_call0_cst_0, val_main_call0_call0_cst_1, val_main_call0_call0_cst_2, val_main_call0_call0_cst_3]
  rw [x_at, sp_at, ← EReal.coe_neg, ofBits_top, if_neg (EReal.coe_ne_top _), if_neg (EReal.coe_ne_top _), ← EReal.coe_sub, Ideal.exp_coe]
  congr 1
  have e := exp_lsg_add (X r.val h.val + B h.val)
  generalize X r.val h.val + B h.val = x at e ⊢
  have e2 : Real.exp (lsg x) = Real.exp (lsg x - x) * Real.exp x := by rw [← Real.exp_add, sub_add_cancel]
  rw [eq_div_iff (by positivity), show -x - -lsg x = lsg x - x by ring]
  linarith

/-- The gradient of the gates' inputs. -/
theorem df_at (r : Fin 2048) (h : Fin 16) : val_main_v8 (F := Ideal) (lift (φ := .f32) X) (vec B) (lift (φ := .f32) D) (ix2 r h)
    = (((∑ k ∈ Finset.range 2048, if r.val ≤ k then D h.val k else 0) * (1 / (1 + Real.exp (X r.val h.val + B h.val))) : ℝ) : EReal) := by
  pointwise [val_main_v8, val_main_call3_v1, val_main_call3_v0, val_main_v7]
  rw [sig_at, sums_at, ← EReal.coe_neg, ← EReal.coe_mul, ← EReal.coe_neg]
  congr 1; ring

/-- The gradient of the bias. -/
theorem db_at (h : Fin 16) : val_main_v11 (F := Ideal) (lift (φ := .f32) X) (vec B) (lift (φ := .f32) D) (ix1 h)
    = ((∑ r ∈ Finset.range 2048, (∑ k ∈ Finset.range 2048, if r ≤ k then D h.val k else 0) * (1 / (1 + Real.exp (X r h.val + B h.val))) : ℝ) : EReal) := by
  pointwise [val_main_v11, val_main_v10, val_main_v9, val_main_cst, val_main_cst_0]
  rw [Fin.sum_univ_one]
  simp only [df_at]
  rw [Cert.Cumsum.sum_coe, Finset.sum_range]
end Cert.ReferenceForgetIdeal.Grad

end
-- ==== Proof.ForgetClaim.lean ====
module

public import proofs.«01_k».proof.Defs
public import proofs.«01_k».proof.Proof.ForgetRun
public import proofs.«01_k».proof.Proof.ForgetRef
public import proofs.«01_k».proof.Proof.Finite
public import proofs.«01_k».proof.Proof.Gen.Pre_finite_forget

@[expose] public section

set_option maxRecDepth 16384

noncomputable section

open Idealize.ShloMosaic Idealize.ShloMosaic.TcCoe Idealize.SL.Sem
open Idealize.ShloMosaic.Pipeline (Dat)

open Idealize.ShloMosaic Idealize.ShloMosaic.TcCoe Idealize.SL.Sem

namespace Cert.KernelForgetIdeal.Grad
open Cert.KernelForgetIdeal Cert.KernelForgetIdeal.Gen Cert.Finite
open Cert.KernelSbIdeal.Grad (lift lift_ix lift_congr eq_lift)
open Cert.ReferenceForgetIdeal.Grad (vec df_at db_at)

/-- A finite matrix and a finite vector are tables of reals. -/
theorem table {n p : ℕ} (X : (⟨2, ![n, p]⟩ : Shape).Idx → ℝ) : ∃ Y : ℕ → ℕ → ℝ, (fun i => (X i : EReal)) = lift (φ := .f32) Y :=
  ⟨fun a b => if h : a < n ∧ b < p then X (ix2 ⟨a, h.1⟩ ⟨b, h.2⟩) else 0, eq_lift fun r s => by
    rw [dif_pos ⟨r.isLt, s.isLt⟩]⟩
theorem vector (X : S16.Idx → ℝ) : ∃ Y : ℕ → ℝ, (fun i => (X i : EReal)) = vec Y :=
  ⟨fun a => if h : a < 16 then X (ix1 ⟨a, h⟩) else 0, funext fun i => by
    have h : (i 0).val < 16 := (i 0).isLt
    show ((X i : ℝ) : EReal) = ((dite ((i 0).val < 16) _ _ : ℝ) : EReal)
    rw [dif_pos h]
    exact congrArg (fun j => (X j : EReal)) (eq_ix1 i)⟩

/-- Finite arguments are tables of reals. -/
theorem lifts (m : (ℓ : Loc nD τ sig) → Buf (Elt Ideal) ℓ) (h : Cert.Pre_KernelForgetIdeal_finite_forget m) (c : Dev nD) :
    ∃ (X : ℕ → ℕ → ℝ) (B : ℕ → ℝ) (D : ℕ → ℕ → ℝ), m ((c : Thread nD τ).loc main_arg0) = lift (n := 2048) (m := 16) (φ := .f32) X
      ∧ m ((c : Thread nD τ).loc main_arg1) = vec B ∧ m ((c : Thread nD τ).loc main_arg2) = lift (n := 16) (m := 2048) (φ := .f32) D := by
  haveI : Subsingleton Cert.Pre_finite_forget.S_.Idx := ⟨fun a b => funext fun i => i.elim0⟩
  have h1 := congrFun (h c) ix0
  obtain ⟨h1, a2⟩ := and_one h1
  obtain ⟨h1, a1⟩ := and_one h1
  obtain ⟨h1, a0⟩ := and_one h1
  obtain ⟨Y0, f0⟩ := (of_all _ _ _ _ _ _ _ a0).lift
  obtain ⟨Y1, f1⟩ := (of_all _ _ _ _ _ _ _ a1).lift
  obtain ⟨Y2, f2⟩ := (of_all _ _ _ _ _ _ _ a2).lift
  obtain ⟨X, g0⟩ := table Y0
  obtain ⟨B, g1⟩ := vector Y1
  obtain ⟨D, g2⟩ := table Y2
  exact ⟨X, B, D, f0.trans g0, f1.trans g1, f2.trans g2⟩

section Host
variable (m : (ℓ : Loc nD τ sig) → Buf (Elt Ideal) ℓ) (c : Dev nD) (X D : ℕ → ℕ → ℝ) (B : ℕ → ℝ)

/-- The table with zeros from column 16 on. -/
def wide (X : ℕ → ℕ → ℝ) (r l : ℕ) : ℝ := if l < 16 then X r l else 0

theorem fill : (FloatOps.sitofp FTy.f32 0#32 : Ideal .f32) = 0 := by
  show ((((0#32 : BitVec 32).toInt : ℤ) : ℝ) : EReal) = 0
  simp

theorem pad_rows : pad S2048x128 ![0, 0] ![0, 112] ![0, 0] (lift (φ := .f32) X : FVec Ideal S2048x16 .f32) (sitofp (F := Ideal) .f32 (constantI S_ 32 0#32)) pads_S2048x16_S2048x128_000_01120 h_S_
    = lift (φ := .f32) (wide X) := eq_lift fun r l => by
  pointwise [lift]
  unfold wide
  split
  · rfl
  · exact fill

theorem pad_row : pad S1x128 ![0, 0] ![0, 112] ![0, 0] (shapeCast S1x16 (vec B) shapeCasts_S16_S1x16) (sitofp (F := Ideal) .f32 (constantI S_ 32 0#32)) pads_S1x16_S1x128_000_01120 h_S_
    = lift (φ := .f32) (fun _ l => wide (fun _ => B) 0 l) := eq_lift fun r l => by
  pointwise [vec]
  unfold wide
  split
  · rfl
  · exact fill

theorem turned : transpose S2048x16 [1, 0] (lift (φ := .f32) D : FVec Ideal S16x2048 .f32) transposes_S16x2048_S2048x16_1_0 = lift (φ := .f32) fun r l => D l r :=
  eq_lift fun r l => by pointwise [lift]

theorem in0 (e0 : m ((c : Thread nD τ).loc main_arg0) = lift (n := 2048) (m := 16) (φ := .f32) X) : V m c main_v0 = lift (φ := .f32) (wide X) := by
  refine Eq.trans (b := pad S2048x128 ![0, 0] ![0, 112] ![0, 0] (m ((c : Thread nD τ).loc main_arg0)) (sitofp (F := Ideal) .f32 (constantI S_ 32 0#32)) pads_S2048x16_S2048x128_000_01120 h_S_) rfl ?_
  rw [e0]; exact pad_rows X
theorem in1 (e1 : m ((c : Thread nD τ).loc main_arg1) = vec B) : V m c main_v2 = lift (φ := .f32) (fun _ l => wide (fun _ => B) 0 l) := by
  refine Eq.trans (b := pad S1x128 ![0, 0] ![0, 112] ![0, 0] (shapeCast S1x16 (m ((c : Thread nD τ).loc main_arg1)) shapeCasts_S16_S1x16) (sitofp (F := Ideal) .f32 (constantI S_ 32 0#32)) pads_S1x16_S1x128_000_01120 h_S_) rfl ?_
  rw [e1]; exact pad_row B
theorem in2 (e2 : m ((c : Thread nD τ).loc main_arg2) = lift (n := 16) (m := 2048) (φ := .f32) D) : V m c main_v4 = lift (φ := .f32) (wide fun r l => D l r) := by
  refine Eq.trans (b := pad S2048x128 ![0, 0] ![0, 112] ![0, 0] (transpose S2048x16 [1, 0] (m ((c : Thread nD τ).loc main_arg2)) transposes_S16x2048_S2048x16_1_0) (sitofp (F := Ideal) .f32 (constantI S_ 32 0#32)) pads_S2048x16_S2048x128_000_01120 h_S_) rfl ?_
  rw [e2, turned]; exact pad_rows _

theorem idx : ∀ t : Fin cfg0.N, win0_0.index t = ![0, 0] ∧ win0_1.index t = ![0, 0] ∧ win0_2.index t = ![0, 0]
    ∧ win0_3.index t = ![0, 0] ∧ win0_4.index t = ![0, 0] := (by decide +kernel : ∀ t : Fin grid0.N, _)

theorem ld0 (t : Fin cfg0.N) : iblk m c 0 t = V m c main_v0 := by
  funext i
  exact congrArg (V m c main_v0) (by blk_ext [idx t])
theorem ld1 (t : Fin cfg0.N) : iblk m c 1 t = V m c main_v2 := by
  funext i
  exact congrArg (V m c main_v2) (by blk_ext [idx t])
theorem ld2 (t : Fin cfg0.N) : iblk m c 2 t = V m c main_v4 := by
  funext i
  exact congrArg (V m c main_v4) (by blk_ext [idx t])

variable (e0 : m ((c : Thread nD τ).loc main_arg0) = lift (n := 2048) (m := 16) (φ := .f32) X) (e1 : m ((c : Thread nD τ).loc main_arg1) = vec B)
  (e2 : m ((c : Thread nD τ).loc main_arg2) = lift (n := 16) (m := 2048) (φ := .f32) D)

/-- The gradient of the gates' inputs, the columns after the sixteenth with it. -/
abbrev gw (X D : ℕ → ℕ → ℝ) (B : ℕ → ℝ) : ℕ → ℕ → ℝ := gf (wide X) (wide (fun _ => B) 0) (wide fun r l => D l r)

include e0 e1 e2 in
theorem final3 : (dats m 0 c).arrAt 3 (cfgs 0).N = lift (n := 2048) (m := 128) (φ := .f32) (gw X D B) := by
  refine (dats m 0 c).arrAt_eq_of_covers 3 _ (by decide +kernel) fun t _ y => ?_
  blk_simp
  rw [after0_3, outsAt0, ld0, ld1, ld2, in0 m c X e0, in1 m c B e1, in2 m c D e2, point3]
  exact congrArg (lift (n := 2048) (m := 128) (φ := .f32) (gw X D B)) (by blk_ext [idx t])

include e0 e1 e2 in
theorem final4 : (dats m 0 c).arrAt 4 (cfgs 0).N = lift (n := 1) (m := 128) (φ := .f32) (fun _ l => ∑ r ∈ Finset.Ico 0 2048, gw X D B r l) := by
  refine (dats m 0 c).arrAt_eq_of_covers 4 _ (by decide +kernel) fun t _ y => ?_
  blk_simp
  rw [after0_4, outsAt0, ld0, ld1, ld2, in0 m c X e0, in1 m c B e1, in2 m c D e2, point4]
  exact congrArg (lift (n := 1) (m := 128) (φ := .f32) (fun _ l => ∑ r ∈ Finset.Ico 0 2048, gw X D B r l)) (by blk_ext [idx t])
end Host

/-- A gradient of the kernel is the reference's at a head. -/
theorem gw_at (X D : ℕ → ℕ → ℝ) (B : ℕ → ℝ) (r h : ℕ) (hh : h < 16) :
    gw X D B r h = (∑ k ∈ Finset.range 2048, if r ≤ k then D h k else 0) * (1 / (1 + Real.exp (X r h + B h))) := by
  unfold gw gf suf
  rw [← Finset.sum_filter]
  refine congrArg₂ (· * ·) (Finset.sum_congr (by ext k; simp only [Finset.mem_filter, Finset.mem_range, Finset.mem_Ico]; omega) fun k _ => if_pos hh) ?_
  rw [wide, wide, if_pos hh, if_pos hh]

theorem out6 (X D : ℕ → ℕ → ℝ) (B : ℕ → ℝ) : extractStridedSlice S2048x16 ![0, 0] (lift (φ := .f32) (gw X D B) : FVec Ideal S2048x128 .f32) slices_S2048x128_S2048x16_0_0
    = Cert.ReferenceForgetIdeal.Read.val_main_v8 (F := Ideal) (lift (φ := .f32) X) (vec B) (lift (φ := .f32) D) := by
  funext j
  obtain ⟨r, h, rfl⟩ : ∃ r h, j = ix2 r h := ⟨j 0, j 1, eq_ix2 j⟩
  rw [df_at, ← gw_at X D B r.val h.val h.isLt]
  pointwise [lift]

theorem out8 (X D : ℕ → ℕ → ℝ) (B : ℕ → ℝ) : shapeCast S16 (extractStridedSlice S1x16 ![0, 0] (lift (φ := .f32) (fun _ l => ∑ r ∈ Finset.Ico 0 2048, gw X D B r l) : FVec Ideal S1x128 .f32) slices_S1x128_S1x16_0_0) shapeCasts_S1x16_S16
    = Cert.ReferenceForgetIdeal.Read.val_main_v11 (F := Ideal) (lift (φ := .f32) X) (vec B) (lift (φ := .f32) D) := by
  funext j
  obtain ⟨h, rfl⟩ : ∃ h, j = ix1 h := ⟨j 0, eq_ix1 j⟩
  rw [db_at, ← Finset.sum_congr rfl fun r _ => gw_at X D B r h.val h.isLt, Finset.range_eq_Ico]
  pointwise [lift]

theorem algebraic : Cert.algebraic_KernelForgetIdeal_ReferenceForgetIdeal_pre_finite_forget := by
  intro m g m' g' hpre hagree
  refine ⟨fun c => Cert.ReferenceForgetIdeal.Read.val_main_v8 (F := Ideal) (m ((c : Thread nD τ).loc main_arg0)) (m ((c : Thread nD τ).loc main_arg1)) (m ((c : Thread nD τ).loc main_arg2)),
    fun c => Cert.ReferenceForgetIdeal.Read.val_main_v11 (F := Ideal) (m ((c : Thread nD τ).loc main_arg0)) (m ((c : Thread nD τ).loc main_arg1)) (m ((c : Thread nD τ).loc main_arg2)), ?_, ?_⟩
  · run_from Cert.KernelForgetIdeal.Gen.unchanged m g & Cert.KernelForgetIdeal.Gen.run_main m g
    all_goals obtain ⟨X, B, D, e0, e1, e2⟩ := lifts m hpre c
    · refine Eq.trans (b := extractStridedSlice S2048x16 ![0, 0] (Pipeline.withArrays (cfgs 0).spec c (V0 m c) (fun w => (dats m 0 c).arrAt w (cfgs 0).N) (Proc.tc.devRef main_v5_0)) slices_S2048x128_S2048x16_0_0) rfl ?_
      rw [show Pipeline.withArrays (cfgs 0).spec c (V0 m c) (fun w => (dats m 0 c).arrAt w (cfgs 0).N) (Proc.tc.devRef main_v5_0) = _ from
        (Pipeline.withArrays_arr (cfgs 0).spec (by decide) c _ _ 3).trans (final3 m c X D B e0 e1 e2), e0, e1, e2]
      exact out6 X D B
    · refine Eq.trans (b := shapeCast S16 (extractStridedSlice S1x16 ![0, 0] (Pipeline.withArrays (cfgs 0).spec c (V0 m c) (fun w => (dats m 0 c).arrAt w (cfgs 0).N) (Proc.tc.devRef main_v5_1)) slices_S1x128_S1x16_0_0) shapeCasts_S1x16_S16) rfl ?_
      rw [show Pipeline.withArrays (cfgs 0).spec c (V0 m c) (fun w => (dats m 0 c).arrAt w (cfgs 0).N) (Proc.tc.devRef main_v5_1) = _ from
        (Pipeline.withArrays_arr (cfgs 0).spec (by decide) c _ _ 4).trans (final4 m c X D B e0 e1 e2), e0, e1, e2]
      exact out8 X D B
  · refine θ_run_mono (Cert.ReferenceForgetIdeal.Value.run m' g') fun r h c => ?_
    obtain ⟨a0, a1, a2⟩ := hagree c
    refine ⟨((h c).1.trans (Cert.ReferenceForgetIdeal.Read.val_main_v8_eq _ _)).trans ?_, ((h c).2.1.trans (Cert.ReferenceForgetIdeal.Read.val_main_v11_eq _ _)).trans ?_, (h c).2.2⟩
    · rw [a0, a1, a2]
    · rw [a0, a1, a2]

end Cert.KernelForgetIdeal.Grad

end
-- ==== Proof.SbChain.lean ====
module

public import proofs.«01_k».proof.Proof.SbReal
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem

namespace Cert.KernelSbIdeal.Grad
open Cert.KernelSbIdeal Cert.KernelSbIdeal.Gen Cert.Finite

theorem castB_lift (X : ℕ → ℕ → ℝ) : castB (lift X) = lift X := eq_lift fun r s => by pointwise [castB, lift]
theorem castF_lift (X : ℕ → ℕ → ℝ) : castF (lift X) = lift X := eq_lift fun r s => by pointwise [castF, lift]

theorem addf_lift {n m : ℕ} (X Y : ℕ → ℕ → ℝ) : (addf (lift X) (lift Y) : FVec Ideal ⟨2, ![n, m]⟩ .f32) = lift fun r s => X r s + Y r s :=
  eq_lift fun r s => by pointwise [lift]; norm_cast

theorem rows_lift (k : Fin 4) (X : ℕ → ℕ → ℝ) : (rows (F := Ideal) (e := .bf16) k (lift (φ := .bf16) X : Vec Ideal S2048x128 .bf16) : FVec Ideal S512x128 .bf16) = lift (φ := .bf16) fun s l => X (512 * k.val + s) l :=
  funext fun j => congrArg₂ (fun a b => ((X a b : ℝ) : EReal)) (by show 512 * k.val + 1 * (j 0).val = _; omega) (by show 0 + 1 * (j 1).val = _; omega)

theorem rows_lift' (k : Fin 4) (X : ℕ → ℕ → ℝ) : (rows (F := Ideal) (e := .f32) k (lift (φ := .f32) X : Vec Ideal S2048x128 .f32) : FVec Ideal S512x128 .f32) = lift (φ := .f32) fun s l => X (512 * k.val + s) l :=
  funext fun j => congrArg₂ (fun a b => ((X a b : ℝ) : EReal)) (by show 512 * k.val + 1 * (j 0).val = _; omega) (by show 0 + 1 * (j 1).val = _; omega)

theorem bump_lift (k : Fin 4) (X Y : ℕ → ℕ → ℝ) :
    bump k (lift (φ := .f32) X : Vec Ideal S2048x128 .f32) (lift fun s l => Y (512 * k.val + s) l) = lift (φ := .f32) fun S l => X S l + if 512 * k.val ≤ S ∧ S < 512 * (k.val + 1) then Y S l else 0 := by
  rw [bump, rows_lift']
  refine eq_lift fun S l => ?_
  have hS := S.isLt
  have hl := l.isLt
  unfold VecWindow.put
  split
  · next h =>
    have h0 := h 0
    have h1 : 512 * k.val ≤ S.val ∧ S.val < 512 * k.val + 512 := h0
    rw [if_pos (by omega)]
    erw [addf_lift, castF_lift]
    show ((X (512 * k.val + (S.val - 512 * k.val)) (l.val - 0) + Y (512 * k.val + (S.val - 512 * k.val)) (l.val - 0) : ℝ) : EReal) = _
    rw [Nat.add_sub_cancel' h1.1, Nat.sub_zero]
  · next h =>
    rw [if_neg (fun hh => h fun a => by
      fin_cases a
      · show 512 * k.val ≤ S.val ∧ S.val < 512 * k.val + 512; omega
      · show 0 ≤ l.val ∧ l.val < 0 + 128; omega), add_zero]
    rfl

/-- A head's operands for query block `b`. -/
def IsHead (h : Head Ideal) (b : ℕ) (Q D : ℕ → ℕ → ℝ) (st : ℕ → ℝ) : Prop :=
  h.q = lift (fun r l => Q (512 * b + r) l) ∧ h.d = lift (fun r l => D (512 * b + r) l) ∧ h.st = lift fun r _ => st (512 * b + r)

variable {m : Option (IVec S512x512 1)} {b n : ℕ} {h h0 h1 : Head Ideal} {Q D Q0 D0 Q1 D1 K V : ℕ → ℕ → ℝ} {st st0 st1 : ℕ → ℝ}

theorem lm_lift (hm : Keeps m b n) (hh : IsHead h b Q D st) :
    lmOf m (scoreOf h.q (lift fun s l => K (512 * n + s) l)) = lift fun r s => lm Q K (512 * b + r) (512 * n + s) := by
  rw [hh.1, score_lift, lmOf, logSig_lift]
  refine Eq.trans (congrArg (keep m) (a₂ := lift fun r s => lsg (zz Q K (512 * b + r) (512 * n + s)) - zz Q K (512 * b + r) (512 * n + s)) ?_) (hm _)
  exact eq_lift fun r s => by pointwise [lift]; rfl

theorem hw_lift (hm : Keeps m b n) (hh : IsHead h b Q D st) :
    hw m triI h (lift fun s l => K (512 * n + s) l) (lift fun r _ => ∑ S ∈ Finset.range (512 * n), lm Q K (512 * b + r) S)
      = lift fun r s => ww Q K st (512 * b + r) (512 * n + s) := by
  rw [hw, awOf, lm_lift hm hh, scan_lift triI 1 triI_at le_rfl, hh.1, hh.2.2, score_lift, logSig_lift]
  refine Eq.trans (congrArg (keep m) (a₂ := lift fun r s => Real.exp (lsg (zz Q K (512 * b + r) (512 * n + s)) + st (512 * b + r) - ∑ k ∈ Finset.range (512 * n + s + 1), lm Q K (512 * b + r) k)) ?_) (hm _)
  refine eq_lift fun r s => ?_
  pointwise [lift]
  rw [add_assoc, Finset.sum_range_add _ (512 * n)]
  rfl

theorem hg_lift (hm : Keeps m b n) (hh : IsHead h b Q D st) :
    hg m triI h (lift fun s l => K (512 * n + s) l) (lift fun s l => V (512 * n + s) l) (lift fun r _ => ∑ S ∈ Finset.range (512 * n), lm Q K (512 * b + r) S)
      = lift fun r s => gg Q D K V st (512 * b + r) (512 * n + s) := by
  rw [hg, hw_lift hm hh, hh.2.1, score_lift, gOf]
  exact eq_lift fun r s => by pointwise [lift]; rfl

theorem hdz_lift (hm : Keeps m b n) (hh : IsHead h b Q D st) :
    hdz m triI triE h (lift fun s l => K (512 * n + s) l) (lift fun s l => V (512 * n + s) l) (lift fun r _ => ∑ S ∈ Finset.range (512 * n), lm Q K (512 * b + r) S)
      (lift fun r _ => ∑ S ∈ Finset.range (512 * n), gg Q D K V st (512 * b + r) S)
      = lift fun r s => dzz Q D K V st (512 * b + r) (512 * n + s) := by
  rw [hdz, hg_lift hm hh, hh.1, score_lift, dzOf, scan_lift triE 0 triE_at (Nat.zero_le 1), logSig_lift]
  refine Eq.trans (congrArg (fun x => truncf .bf16 (keep m x) bitsLt_bf16_f32) (a₂ := lift fun r s => gg Q D K V st (512 * b + r) (512 * n + s) * (1 - Real.exp (lsg (zz Q K (512 * b + r) (512 * n + s)))) - (∑ k ∈ Finset.range (512 * n + s), gg Q D K V st (512 * b + r) k) * Real.exp (lsg (zz Q K (512 * b + r) (512 * n + s)))) ?_)
    (congrArg (fun x => truncf .bf16 x bitsLt_bf16_f32) (hm _))
  refine eq_lift fun r s => ?_
  pointwise [lift]
  rw [Finset.sum_range_add _ (512 * n)]
  rfl

/-- The accumulators of query block `b` after `n` key blocks. -/
def accR (Q0 D0 Q1 D1 K V : ℕ → ℕ → ℝ) (st0 st1 : ℕ → ℝ) (b n : ℕ) : Acc Ideal :=
  (lift fun r l => ∑ S ∈ Finset.range (512 * n), dzz Q0 D0 K V st0 (512 * b + r) S * K S l,
   lift fun r _ => ∑ S ∈ Finset.range (512 * n), lm Q0 K (512 * b + r) S,
   lift fun r _ => ∑ S ∈ Finset.range (512 * n), gg Q0 D0 K V st0 (512 * b + r) S,
   lift fun r l => ∑ S ∈ Finset.range (512 * n), dzz Q1 D1 K V st1 (512 * b + r) S * K S l,
   lift fun r _ => ∑ S ∈ Finset.range (512 * n), lm Q1 K (512 * b + r) S,
   lift fun r _ => ∑ S ∈ Finset.range (512 * n), gg Q1 D1 K V st1 (512 * b + r) S)

theorem glue (f : ℕ → ℝ) (n : ℕ) : ∑ S ∈ Finset.range (512 * n), f S + ∑ s ∈ Finset.range 512, f (512 * n + s) = ∑ S ∈ Finset.range (512 * (n + 1)), f S := by
  rw [show 512 * (n + 1) = 512 * n + 512 by ring, Finset.sum_range_add]

theorem stepR_lift (hm : Keeps m b n) (e0 : IsHead h0 b Q0 D0 st0) (e1 : IsHead h1 b Q1 D1 st1) :
    stepR m triI triE h0 h1 (lift fun s l => K (512 * n + s) l) (lift fun s l => V (512 * n + s) l) (accR Q0 D0 Q1 D1 K V st0 st1 b n)
      = accR Q0 D0 Q1 D1 K V st0 st1 b (n + 1) := by
  rw [stepR, accR, accR]
  simp only []
  rw [hdz_lift hm e0, hdz_lift hm e1, lm_lift hm e0, lm_lift hm e1, hg_lift hm e0, hg_lift hm e1, nn_lift, nn_lift, addf_lift, addf_lift,
    (cs_lift _ _ 0 (by decide)).2.2.2, (cs_lift _ _ 0 (by decide)).2.2.2, (cs_lift _ _ 0 (by decide)).2.2.2, (cs_lift _ _ 0 (by decide)).2.2.2]
  simp only [← glue]

/-- What a query block adds to the gradient of a key. -/
def dkC (Q0 D0 Q1 D1 K V : ℕ → ℕ → ℝ) (st0 st1 : ℕ → ℝ) (b S l : ℕ) : ℝ :=
  ∑ r ∈ Finset.range 512, dzz Q0 D0 K V st0 (512 * b + r) S * Q0 (512 * b + r) l + ∑ r ∈ Finset.range 512, dzz Q1 D1 K V st1 (512 * b + r) S * Q1 (512 * b + r) l

/-- What a query block adds to the gradient of a value. -/
def dvC (Q0 D0 Q1 D1 K : ℕ → ℕ → ℝ) (st0 st1 : ℕ → ℝ) (b S l : ℕ) : ℝ :=
  ∑ r ∈ Finset.range 512, ww Q0 K st0 (512 * b + r) S * D0 (512 * b + r) l + ∑ r ∈ Finset.range 512, ww Q1 K st1 (512 * b + r) S * D1 (512 * b + r) l

theorem dk_lift (hm : Keeps m b n) (e0 : IsHead h0 b Q0 D0 st0) (e1 : IsHead h1 b Q1 D1 st1) :
    dkAdd m triI triE h0 h1 (lift fun s l => K (512 * n + s) l) (lift fun s l => V (512 * n + s) l) (accR Q0 D0 Q1 D1 K V st0 st1 b n)
      = lift fun s l => dkC Q0 D0 Q1 D1 K V st0 st1 b (512 * n + s) l := by
  rw [dkAdd, accR]
  simp only []
  rw [hdz_lift hm e0, hdz_lift hm e1, e0.1, e1.1, tn_lift, tn_lift]
  exact eq_lift fun r s => by pointwise [lift]; exact (EReal.coe_add _ _).symm

theorem bf_lift (X : ℕ → ℕ → ℝ) : bf (lift X) = lift X := eq_lift fun r s => by pointwise [bf, lift]

theorem dv_lift (hm : Keeps m b n) (e0 : IsHead h0 b Q0 D0 st0) (e1 : IsHead h1 b Q1 D1 st1) :
    dvAdd m triI triE h0 h1 (lift fun s l => K (512 * n + s) l) (lift fun s l => V (512 * n + s) l) (accR Q0 D0 Q1 D1 K V st0 st1 b n)
      = lift fun s l => dvC Q0 D0 Q1 D1 K st0 st1 b (512 * n + s) l := by
  rw [dvAdd, accR]
  simp only []
  rw [hw_lift hm e0, hw_lift hm e1, e0.2.1, e1.2.1, bf_lift, bf_lift, tn_lift, tn_lift]
  exact eq_lift fun r s => by pointwise [lift]; exact (EReal.coe_add _ _).symm

variable {X Y : ℕ → ℕ → ℝ}

/-- The state after `n` key blocks, from gradients `X`, `Y` of keys and values. -/
def stR (Q0 D0 Q1 D1 K V : ℕ → ℕ → ℝ) (st0 st1 : ℕ → ℝ) (b : ℕ) (X Y : ℕ → ℕ → ℝ) (n : ℕ) : St Ideal :=
  (accR Q0 D0 Q1 D1 K V st0 st1 b n,
   lift (φ := .f32) fun S l => X S l + if S < 512 * n then dkC Q0 D0 Q1 D1 K V st0 st1 b S l else 0,
   lift (φ := .f32) fun S l => Y S l + if S < 512 * n then dvC Q0 D0 Q1 D1 K st0 st1 b S l else 0)

theorem upto_succ (x f : ℝ) (n S : ℕ) : (x + if S < 512 * n then f else 0) + (if 512 * n ≤ S ∧ S < 512 * (n + 1) then f else 0) = x + if S < 512 * (n + 1) then f else 0 := by
  split_ifs <;> first | (exfalso; omega) | ring

theorem stepSt_lift (hn : n < 4) (hm : Keeps m b n) (e0 : IsHead h0 b Q0 D0 st0) (e1 : IsHead h1 b Q1 D1 st1) :
    stepSt m triI triE h0 h1 (lift (φ := .bf16) K) (lift (φ := .bf16) V) ⟨n, hn⟩ (stR Q0 D0 Q1 D1 K V st0 st1 b X Y n) = stR Q0 D0 Q1 D1 K V st0 st1 b X Y (n + 1) := by
  rw [stepSt, stR]
  simp only []
  rw [rows_lift, rows_lift, castB_lift, castB_lift, stepR_lift hm e0 e1, dk_lift hm e0 e1, dv_lift hm e0 e1]
  have hk := bump_lift ⟨n, hn⟩ (fun S l => X S l + if S < 512 * n then dkC Q0 D0 Q1 D1 K V st0 st1 b S l else 0) (dkC Q0 D0 Q1 D1 K V st0 st1 b)
  have hv := bump_lift ⟨n, hn⟩ (fun S l => Y S l + if S < 512 * n then dvC Q0 D0 Q1 D1 K st0 st1 b S l else 0) (dvC Q0 D0 Q1 D1 K st0 st1 b)
  exact Prod.ext rfl (Prod.ext
    (hk.trans (congrArg (lift (φ := .f32)) (funext fun S => funext fun l => upto_succ (X S l) (dkC Q0 D0 Q1 D1 K V st0 st1 b S l) n S)))
    (hv.trans (congrArg (lift (φ := .f32)) (funext fun S => funext fun l => upto_succ (Y S l) (dvC Q0 D0 Q1 D1 K st0 st1 b S l) n S))))

theorem chain_lift (hb : b < 4) (e0 : IsHead h0 b Q0 D0 st0) (e1 : IsHead h1 b Q1 D1 st1) (n : ℕ) (hn : n ≤ b) :
    chain triI triE h0 h1 (lift (φ := .bf16) K) (lift (φ := .bf16) V) (stR Q0 D0 Q1 D1 K V st0 st1 b X Y 0) n = stR Q0 D0 Q1 D1 K V st0 st1 b X Y n := by
  induction n with
  | zero => rfl
  | succ n ih => rw [chain, dif_pos (by omega), ih (by omega), stepSt_lift (by omega) (keeps_none (by omega)) e0 e1]

theorem dkC_zero {S l : ℕ} (h : 512 * (b + 1) ≤ S) : dkC Q0 D0 Q1 D1 K V st0 st1 b S l = 0 ∧ dvC Q0 D0 Q1 D1 K st0 st1 b S l = 0 := by
  have hz : ∀ (Q D : ℕ → ℕ → ℝ) (st : ℕ → ℝ) r, r ∈ Finset.range 512 → dzz Q D K V st (512 * b + r) S = 0 := fun Q D st r hr => by
    rw [dzz, if_neg (by have := Finset.mem_range.1 hr; omega)]
  have hw : ∀ (Q : ℕ → ℕ → ℝ) (st : ℕ → ℝ) r, r ∈ Finset.range 512 → ww Q K st (512 * b + r) S = 0 := fun Q st r hr => by
    rw [ww, if_neg (by have := Finset.mem_range.1 hr; omega)]
  constructor
  · rw [dkC, Finset.sum_eq_zero fun r hr => by rw [hz _ _ _ r hr, zero_mul], Finset.sum_eq_zero fun r hr => by rw [hz _ _ _ r hr, zero_mul], add_zero]
  · rw [dvC, Finset.sum_eq_zero fun r hr => by rw [hw _ _ r hr, zero_mul], Finset.sum_eq_zero fun r hr => by rw [hw _ _ r hr, zero_mul], add_zero]

theorem zeros_lift : (zeros (F := Ideal)) = accR Q0 D0 Q1 D1 K V st0 st1 b 0 := by
  have h2 : k0_pay2 (F := Ideal) = lift fun r l => 0 := eq_lift fun r s => by pointwise [k0_pay2]; rfl
  have h3 : k0_pay3 (F := Ideal) = lift fun r l => 0 := eq_lift fun r s => by pointwise [k0_pay3]; rfl
  rw [zeros, h2, h3, accR]
  simp only [Nat.mul_zero, Finset.sum_range_zero]

/-- A grid point on real arrays. -/
theorem point_lift (i : grid0.Coords) (e0 : IsHead h0 (i 1).val Q0 D0 st0) (e1 : IsHead h1 (i 1).val Q1 D1 st1) :
    point i h0 h1 (lift (φ := .bf16) K) (lift (φ := .bf16) V) (lift (φ := .f32) X, lift (φ := .f32) Y)
      = (accR Q0 D0 Q1 D1 K V st0 st1 (i 1).val ((i 1).val + 1),
         lift (φ := .f32) fun S l => X S l + dkC Q0 D0 Q1 D1 K V st0 st1 (i 1).val S l,
         lift (φ := .f32) fun S l => Y S l + dvC Q0 D0 Q1 D1 K st0 st1 (i 1).val S l) := by
  have hs : ((zeros (F := Ideal), (lift (φ := .f32) X : Vec Ideal S2048x128 .f32), (lift (φ := .f32) Y : Vec Ideal S2048x128 .f32)) : St Ideal)
      = stR Q0 D0 Q1 D1 K V st0 st1 (i 1).val X Y 0 := by
    rw [stR, ← zeros_lift]
    simp only [Nat.mul_zero, Nat.not_lt_zero, if_false, add_zero]
  have hi : (i 1).val < 4 := (i 1).isLt
  have hst := stepSt_lift (X := X) (Y := Y) (K := K) (V := V) hi (keeps_diag i) e0 e1
  refine (congrArg (stepSt (some (maskOf i)) triI triE h0 h1 (lift (φ := .bf16) K) (lift (φ := .bf16) V) (i 1)) ?_).trans (hst.trans ?_)
  · exact (congrArg (fun s => chain triI triE h0 h1 (lift (φ := .bf16) K) (lift (φ := .bf16) V) s (i 1).val) hs).trans (chain_lift hi e0 e1 _ le_rfl)
  · have h1 : (fun S l => X S l + if S < 512 * ((i 1).val + 1) then dkC Q0 D0 Q1 D1 K V st0 st1 (i 1).val S l else 0) = fun S l => X S l + dkC Q0 D0 Q1 D1 K V st0 st1 (i 1).val S l :=
      funext fun S => funext fun l => congrArg (X S l + ·) (ite_eq_left_iff.2 fun h => (dkC_zero (not_lt.1 h)).1.symm)
    have h2 : (fun S l => Y S l + if S < 512 * ((i 1).val + 1) then dvC Q0 D0 Q1 D1 K st0 st1 (i 1).val S l else 0) = fun S l => Y S l + dvC Q0 D0 Q1 D1 K st0 st1 (i 1).val S l :=
      funext fun S => funext fun l => congrArg (Y S l + ·) (ite_eq_left_iff.2 fun h => (dkC_zero (V := K) (not_lt.1 h)).2.symm)
    exact Prod.ext rfl (Prod.ext (congrArg (lift (φ := .f32)) h1) (congrArg (lift (φ := .f32)) h2))

end Cert.KernelSbIdeal.Grad

end
-- ==== Proof.SbFold.lean ====
module

public import proofs.«01_k».proof.Proof.SbChain
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem

namespace Cert.KernelSbIdeal.Grad
open Cert.KernelSbIdeal Cert.KernelSbIdeal.Gen Cert.KernelSbIdeal.Value Cert.Finite

section General
variable {F : FTy → Type} [FloatOps F] (m : (ℓ : Loc nD τ sig) → Buf (Elt F) ℓ) (c : Dev nD)

/-- What grid point `t` does to the gradients of keys and values. -/
def pointAt (t : Fin cfg0.N) (s : Vec F S2048x128 .f32 × Vec F S2048x128 .f32) : St F :=
  point (grid0.coords t) (head0 (iblk m c 0 t) (iblk m c 3 t) (iblk m c 4 t)) (head1 (iblk m c 0 t) (iblk m c 3 t) (iblk m c 4 t)) (iblk m c 1 t) (iblk m c 2 t) s

/-- What is kept of the point before. -/
def before (t : Fin cfg0.N) : Vec F S2048x128 .f32 × Vec F S2048x128 .f32 :=
  if t.val % 4 = 0 then (k0_pay251, k0_pay252)
  else ((outsAt0 m c (t.val - 1) (Nat.lt_of_le_of_lt (Nat.sub_le _ _) t.isLt)).2.2.2.1, (outsAt0 m c (t.val - 1) (Nat.lt_of_le_of_lt (Nat.sub_le _ _) t.isLt)).2.2.2.2)

theorem five {α β γ δ ε : Type} {a : α × β × γ × δ × ε} {x : α} {y : β} {z : γ} {u : δ} {v : ε} (h : a = (x, y, z, u, v)) :
    a.1 = x ∧ a.2.1 = y ∧ a.2.2.1 = z ∧ a.2.2.2.1 = u ∧ a.2.2.2.2 = v := by subst h; exact ⟨rfl, rfl, rfl, rfl, rfl⟩

theorem outs_eq (t : Fin cfg0.N) :
    (outsAt0 m c t.val t.isLt).1 = k0_pay18 k0_pay256 (pointAt m c t (before m c t)).1.1 (pointAt m c t (before m c t)).1.2.2.2.1
    ∧ (outsAt0 m c t.val t.isLt).2.2.2.1 = (pointAt m c t (before m c t)).2.1
    ∧ (outsAt0 m c t.val t.isLt).2.2.2.2 = (pointAt m c t (before m c t)).2.2
    ∧ (t.val % 4 = 3 → (outsAt0 m c t.val t.isLt).2.1 = k0_pay19 (pointAt m c t (before m c t)).2.1 ∧ (outsAt0 m c t.val t.isLt).2.2.1 = k0_pay20 (pointAt m c t (before m c t)).2.2) := by
  by_cases h0 : t.val % 4 = 0
  · have h1 : ¬ t.val % 4 = 3 := by omega
    rw [show before m c t = _ from if_pos h0]
    have E := outsAt0_A m c t h0 h1
    obtain ⟨e1, e2, e3⟩ := ptA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)
    obtain ⟨E1, _, _, E4, E5⟩ := five E
    exact ⟨E1.trans e1, E4.trans e2, E5.trans e3, fun h => absurd h h1⟩
  · by_cases h1 : t.val % 4 = 3
    · rw [show before m c t = _ from if_neg h0]
      have E := outsAt0_C m c t h0 h1
      obtain ⟨e1, e2, e3, e4, e5⟩ := ptC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t)
        (outsAt0 m c (t.val - 1) (Nat.lt_of_le_of_lt (Nat.sub_le _ _) t.isLt)).2.2.2.1 (outsAt0 m c (t.val - 1) (Nat.lt_of_le_of_lt (Nat.sub_le _ _) t.isLt)).2.2.2.2
      obtain ⟨E1, E2, E3, E4, E5⟩ := five E
      exact ⟨E1.trans e1, E4.trans e2, E5.trans e3, fun _ => ⟨E2.trans e4, E3.trans e5⟩⟩
    · rw [show before m c t = _ from if_neg h0]
      have E := outsAt0_B m c t h0 h1
      obtain ⟨e1, e2, e3⟩ := ptB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t)
        (outsAt0 m c (t.val - 1) (Nat.lt_of_le_of_lt (Nat.sub_le _ _) t.isLt)).2.2.2.1 (outsAt0 m c (t.val - 1) (Nat.lt_of_le_of_lt (Nat.sub_le _ _) t.isLt)).2.2.2.2
      obtain ⟨E1, _, _, E4, E5⟩ := five E
      exact ⟨E1.trans e1, E4.trans e2, E5.trans e3, fun h => absurd h h1⟩
end General

theorem coords1 : ∀ t : Fin grid0.N, (grid0.coords t 1).val = t.val % 4 := by decide +kernel

variable (m : (ℓ : Loc nD τ sig) → Buf (Elt Ideal) ℓ) (c : Dev nD)

/-- The blocks of grid point `t`, as reals. -/
structure Blocks (t : Fin cfg0.N) (Q0 D0 Q1 D1 K V : ℕ → ℕ → ℝ) (st0 st1 : ℕ → ℝ) : Prop where
  h0 : IsHead (head0 (iblk m c 0 t) (iblk m c 3 t) (iblk m c 4 t)) (t.val % 4) Q0 D0 st0
  h1 : IsHead (head1 (iblk m c 0 t) (iblk m c 3 t) (iblk m c 4 t)) (t.val % 4) Q1 D1 st1
  k : iblk m c 1 t = lift (φ := .bf16) K
  v : iblk m c 2 t = lift (φ := .bf16) V

variable {Q0 D0 Q1 D1 K V : ℕ → ℕ → ℕ → ℝ} {st0 st1 : ℕ → ℕ → ℝ}

theorem pointAt_lift {X Y : ℕ → ℕ → ℝ} (t : Fin cfg0.N) {Q0 D0 Q1 D1 K V : ℕ → ℕ → ℝ} {st0 st1 : ℕ → ℝ} (hB : Blocks m c t Q0 D0 Q1 D1 K V st0 st1) :
    pointAt m c t (lift (φ := .f32) X, lift (φ := .f32) Y)
      = (accR Q0 D0 Q1 D1 K V st0 st1 (t.val % 4) (t.val % 4 + 1),
         lift (φ := .f32) fun S l => X S l + dkC Q0 D0 Q1 D1 K V st0 st1 (t.val % 4) S l,
         lift (φ := .f32) fun S l => Y S l + dvC Q0 D0 Q1 D1 K st0 st1 (t.val % 4) S l) := by
  have e := coords1 t
  have := point_lift (X := X) (Y := Y) (K := K) (V := V) (grid0.coords t) (by rw [e]; exact hB.h0) (by rw [e]; exact hB.h1)
  rw [e] at this
  rw [pointAt, hB.k, hB.v]
  exact this

/-- What the points of a pair have left before point `t`, and after it. -/
theorem fold_lift (hB : ∀ t : Fin cfg0.N, Blocks m c t (Q0 (t.val / 4)) (D0 (t.val / 4)) (Q1 (t.val / 4)) (D1 (t.val / 4)) (K (t.val / 4)) (V (t.val / 4)) (st0 (t.val / 4)) (st1 (t.val / 4))) :
    ∀ (n : ℕ) (hn : n < cfg0.N), before m c ⟨n, hn⟩ =
      ((lift (φ := .f32) fun S l => ∑ b ∈ Finset.range (n % 4), dkC (Q0 (n / 4)) (D0 (n / 4)) (Q1 (n / 4)) (D1 (n / 4)) (K (n / 4)) (V (n / 4)) (st0 (n / 4)) (st1 (n / 4)) b S l : Vec Ideal S2048x128 .f32),
       (lift (φ := .f32) fun S l => ∑ b ∈ Finset.range (n % 4), dvC (Q0 (n / 4)) (D0 (n / 4)) (Q1 (n / 4)) (D1 (n / 4)) (K (n / 4)) (st0 (n / 4)) (st1 (n / 4)) b S l : Vec Ideal S2048x128 .f32)) := by
  have hz : (k0_pay251 (F := Ideal), k0_pay252 (F := Ideal)) = ((lift (φ := .f32) fun _ _ => 0 : Vec Ideal S2048x128 .f32), (lift (φ := .f32) fun _ _ => 0 : Vec Ideal S2048x128 .f32)) :=
    Prod.ext (eq_lift (f := (k0_pay251 : FVec Ideal S2048x128 .f32)) (X := fun _ _ => 0) fun r s => by pointwise [k0_pay251]; rfl)
      (eq_lift (f := (k0_pay252 : FVec Ideal S2048x128 .f32)) (X := fun _ _ => 0) fun r s => by pointwise [k0_pay252]; rfl)
  intro n
  induction n with
  | zero => intro hn; exact hz
  | succ n ih =>
    intro hn
    have hN : n + 1 < 16 := lt_of_lt_of_eq hn (show cfg0.N = 16 from N_0)
    by_cases h0 : (n + 1) % 4 = 0
    · rw [before, if_pos h0]
      simp only [h0, Finset.sum_range_zero]
      exact hz
    · rw [before, if_neg h0]
      have hn' : n < cfg0.N := Nat.lt_of_succ_lt hn
      obtain ⟨_, e2, e3, _⟩ := outs_eq m c ⟨n, hn'⟩
      rw [ih hn', pointAt_lift m c ⟨n, hn'⟩ (hB ⟨n, hn'⟩)] at e2 e3
      have hd : (n + 1) / 4 = n / 4 := by omega
      have hm : (n + 1) % 4 = n % 4 + 1 := by omega
      simp only [hd, hm, Finset.sum_range_succ]
      exact Prod.ext e2 e3

theorem outs_lift (hB : ∀ t : Fin cfg0.N, Blocks m c t (Q0 (t.val / 4)) (D0 (t.val / 4)) (Q1 (t.val / 4)) (D1 (t.val / 4)) (K (t.val / 4)) (V (t.val / 4)) (st0 (t.val / 4)) (st1 (t.val / 4)))
    (t : Fin cfg0.N) {p b : ℕ} (hp : t.val / 4 = p) (hb : t.val % 4 = b) :
    (outsAt0 m c t.val t.isLt).1 = k0_pay18 k0_pay256
        (lift fun r l => ∑ S ∈ Finset.range (512 * (b + 1)), dzz (Q0 p) (D0 p) (K p) (V p) (st0 p) (512 * b + r) S * K p S l)
        (lift fun r l => ∑ S ∈ Finset.range (512 * (b + 1)), dzz (Q1 p) (D1 p) (K p) (V p) (st1 p) (512 * b + r) S * K p S l)
    ∧ (b = 3 → (outsAt0 m c t.val t.isLt).2.1 = k0_pay19 (F := Ideal) (lift (φ := .f32) fun S l => ∑ b ∈ Finset.range 4, dkC (Q0 p) (D0 p) (Q1 p) (D1 p) (K p) (V p) (st0 p) (st1 p) b S l : Vec Ideal S2048x128 .f32)
      ∧ (outsAt0 m c t.val t.isLt).2.2.1 = k0_pay20 (F := Ideal) (lift (φ := .f32) fun S l => ∑ b ∈ Finset.range 4, dvC (Q0 p) (D0 p) (Q1 p) (D1 p) (K p) (st0 p) (st1 p) b S l : Vec Ideal S2048x128 .f32)) := by
  subst hp hb
  obtain ⟨e1, _, _, e4⟩ := outs_eq m c t
  rw [fold_lift m c hB t.val t.isLt, pointAt_lift m c t (hB t)] at e1 e4
  refine ⟨e1, fun h => ?_⟩
  obtain ⟨e5, e6⟩ := e4 h
  constructor
  · rw [e5]; simp only [h, Finset.sum_range_succ]
  · rw [e6]; simp only [h, Finset.sum_range_succ]

end Cert.KernelSbIdeal.Grad

end
-- ==== Proof.SbHost.lean ====
module

public import proofs.«01_k».proof.Proof.SbFold
public import proofs.«01_k».proof.Proof.SbRef
public import proofs.«01_k».proof.Proof.Gen.KernelSbIdeal.Value
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem

namespace Cert.KernelSbIdeal.Grad
open Cert.KernelSbIdeal Cert.KernelSbIdeal.Gen Cert.KernelSbIdeal.Value Cert.Finite
open Cert.ReferenceSbIdeal.Grad (R2 zH pH lmH wH gH dH lm_at ofBits_eighth sum_fin)

/-- The row sum of the masked logarithms, as the host prepares it. -/
def stH (X0 X1 : ℕ → ℕ → ℝ) (h T : ℕ) : ℝ := ∑ k ∈ Finset.range 2048, lmH (zH X0 X1 h) T k

/-- Pair `p`'s columns of an array; its first head's alone and its second head's alone. -/
def cols (X : ℕ → ℕ → ℝ) (p T l : ℕ) : ℝ := X T (128 * p + l)
def first (X : ℕ → ℕ → ℝ) (p T l : ℕ) : ℝ := if l < 64 then X T (128 * p + l) else 0
def second (X : ℕ → ℕ → ℝ) (p T l : ℕ) : ℝ := if l < 64 then 0 else X T (128 * p + l)
def eighth (X : ℕ → ℕ → ℝ) (T l : ℕ) : ℝ := X T l * (1 / 8)

variable (m : (ℓ : Loc nD τ sig) → Buf (Elt Ideal) ℓ) (c : Dev nD) (X0 X1 X2 X3 : ℕ → ℕ → ℝ)
    (e0 : m ((c : Thread nD τ).loc main_arg0) = R2 X0) (e1 : m ((c : Thread nD τ).loc main_arg1) = R2 X1)
    (e2 : m ((c : Thread nD τ).loc main_arg2) = R2 X2) (e3 : m ((c : Thread nD τ).loc main_arg3) = R2 X3)

theorem V16 : V m c main_v16 = Cert.ReferenceSbIdeal.Read.val_main_v18_0 (F := Ideal) (m ((c : Thread nD τ).loc main_arg0)) (m ((c : Thread nD τ).loc main_arg1)) := rfl

include e0 e1 in
theorem V19 (h : Fin 8) (T : Fin 2048) (l : Fin 128) : V m c main_v19 (ix3 h T l) = ((stH X0 X1 h.val T.val : ℝ) : EReal) := by
  have e : V m c main_v19 = broadcastInDim S8x2048x128 ![0, 1, 2] bcast_S8x2048x1_S8x2048x128_0_1_2 (broadcastInDim S8x2048x1 ![0, 1] bcast_S8x2048_S8x2048x1_0_1
      (Host.reduceAdd (F := Ideal) (φ := .f32) (V m c main_v16) (constant S_ .f32 0x00000000#32) reducesTo_S8x2048x2048_S8x2048_d2 h_S_)) := rfl
  rw [e, V16, e0, e1]
  pointwise
  exact (Finset.sum_congr rfl fun k _ => lm_at X0 X1 h T k).trans (sum_fin fun k => lmH (zH X0 X1 h.val) T.val k)

/-- The array of queries, keys and values, each with zeros after it. -/
theorem cat3 (T : Fin 2048) (l : Fin 3072) :
    truncf (F := Ideal) (φ := .f32) .bf16 (concatenate S2048x3072 1 [⟨S2048x512, R2 X0⟩, ⟨S2048x512, broadcastInDim S2048x512 ![] bcast_S_S2048x512 (constant (F := Ideal) S_ .f32 0x00000000#32)⟩, ⟨S2048x512, R2 X1⟩, ⟨S2048x512, broadcastInDim S2048x512 ![] bcast_S_S2048x512 (constant (F := Ideal) S_ .f32 0x00000000#32)⟩, ⟨S2048x512, R2 X2⟩, ⟨S2048x512, broadcastInDim S2048x512 ![] bcast_S_S2048x512 (constant (F := Ideal) S_ .f32 0x00000000#32)⟩] concatenates_S2048x512_S2048x512_S2048x512_S2048x512_S2048x512_S2048x512_S2048x3072_d1) bitsLt_bf16_f32 (ix2 T l)
      = (((if l.val < 512 then X0 T.val l.val else if l.val < 1024 then 0 else if l.val < 1536 then X1 T.val (l.val - 1024) else if l.val < 2048 then 0 else if l.val < 2560 then X2 T.val (l.val - 2048) else 0 : ℝ)) : EReal) := by
  pointwise
  split_ifs <;> first
    | (exfalso; omega)
    | rfl
    | (refine (congrArg (fun x => ((X1 T.val x : ℝ) : EReal)) (show l.val - 512 - 512 = l.val - 1024 by omega)).trans ?_
       rw [if_neg (by omega), if_pos (by omega)])
    | (refine (congrArg (fun x => ((X2 T.val x : ℝ) : EReal)) (show l.val - 512 - 512 - 512 - 512 = l.val - 2048 by omega)).trans ?_
       rw [if_neg (by omega), if_neg (by omega), if_neg (by omega), if_pos (by omega)])

include e0 e1 e2 in
theorem V22 (T : Fin 2048) (l : Fin 3072) : V m c main_v22 (ix2 T l)
    = (((if l.val < 512 then X0 T.val l.val else if l.val < 1024 then 0 else if l.val < 1536 then X1 T.val (l.val - 1024) else if l.val < 2048 then 0 else if l.val < 2560 then X2 T.val (l.val - 2048) else 0 : ℝ)) : EReal) := by
  rw [← cat3, ← e0, ← e1, ← e2]; rfl

theorem cat1 (T : Fin 2048) (l : Fin 1024) :
    concatenate S2048x1024 1 [⟨S2048x512, R2 X3⟩, ⟨S2048x512, broadcastInDim S2048x512 ![] bcast_S_S2048x512 (constant (F := Ideal) S_ .f32 0x00000000#32)⟩] concatenates_S2048x512_S2048x512_S2048x1024_d1 (ix2 T l)
      = (((if l.val < 512 then X3 T.val l.val else 0 : ℝ)) : EReal) := by
  pointwise
  split_ifs <;> rfl

include e3 in
theorem V23 (T : Fin 2048) (l : Fin 1024) : V m c main_v23 (ix2 T l) = (((if l.val < 512 then X3 T.val l.val else 0 : ℝ)) : EReal) := by
  rw [← cat1, ← e3]; rfl

theorem idx : ∀ t : Fin cfg0.N, win0_0.index t = ![t.val % 4, t.val / 4] ∧ win0_1.index t = ![0, 8 + t.val / 4] ∧ win0_2.index t = ![0, 16 + t.val / 4]
    ∧ win0_3.index t = ![t.val % 4, t.val / 4] ∧ win0_4.index t = ![t.val / 4, t.val % 4, 0] := (by decide +kernel : ∀ t : Fin grid0.N, _)

variable (t : Fin cfg0.N)
theorem t_lt (t : Fin cfg0.N) : t.val < 16 := t.isLt

include e0 e1 e2 in
theorem ld0 : iblk m c 0 t = (lift (φ := .bf16) (fun r l => X0 (512 * (t.val % 4) + r) (128 * (t.val / 4) + l)) : Vec Ideal S512x128 .bf16) :=
  eq_lift (φ := .bf16) fun r l => by
    have ht := t_lt t
    refine Eq.trans (b := V m c main_v22 (ix2 ⟨(t.val % 4) * 512 + r.val, by omega⟩ ⟨(t.val / 4) * 128 + l.val, by omega⟩)) (congrArg (V m c main_v22) (by blk_ext [idx t])) ?_
    rw [V22 m c X0 X1 X2 e0 e1 e2, if_pos (by show (t.val / 4) * 128 + l.val < 512; omega)]
    exact congrArg₂ (fun x y => ((X0 x y : ℝ) : EReal)) (by show (t.val % 4) * 512 + r.val = _; omega) (by show (t.val / 4) * 128 + l.val = _; omega)

include e0 e1 e2 in
theorem ld1 : iblk m c 1 t = (lift (φ := .bf16) (cols X1 (t.val / 4)) : Vec Ideal S2048x128 .bf16) :=
  eq_lift (φ := .bf16) fun r l => by
    have ht := t_lt t
    refine Eq.trans (b := V m c main_v22 (ix2 r ⟨(8 + t.val / 4) * 128 + l.val, by omega⟩)) (congrArg (V m c main_v22) (by blk_ext [idx t])) ?_
    have h1 : (8 + t.val / 4) * 128 + l.val - 1024 = 128 * (t.val / 4) + l.val := by omega
    rw [V22 m c X0 X1 X2 e0 e1 e2]
    dsimp only
    rw [if_neg (by omega), if_neg (by omega), if_pos (by omega), h1, cols]

include e0 e1 e2 in
theorem ld2 : iblk m c 2 t = (lift (φ := .bf16) (cols X2 (t.val / 4)) : Vec Ideal S2048x128 .bf16) :=
  eq_lift (φ := .bf16) fun r l => by
    have ht := t_lt t
    refine Eq.trans (b := V m c main_v22 (ix2 r ⟨(16 + t.val / 4) * 128 + l.val, by omega⟩)) (congrArg (V m c main_v22) (by blk_ext [idx t])) ?_
    have h1 : (16 + t.val / 4) * 128 + l.val - 2048 = 128 * (t.val / 4) + l.val := by omega
    rw [V22 m c X0 X1 X2 e0 e1 e2]
    dsimp only
    rw [if_neg (by omega), if_neg (by omega), if_neg (by omega), if_neg (by omega), if_pos (by omega), h1, cols]

include e3 in
theorem ld3 : iblk m c 3 t = (lift (φ := .f32) (fun r l => X3 (512 * (t.val % 4) + r) (128 * (t.val / 4) + l)) : Vec Ideal S512x128 .f32) :=
  eq_lift (φ := .f32) fun r l => by
    have ht := t_lt t
    refine Eq.trans (b := V m c main_v23 (ix2 ⟨(t.val % 4) * 512 + r.val, by omega⟩ ⟨(t.val / 4) * 128 + l.val, by omega⟩)) (congrArg (V m c main_v23) (by blk_ext [idx t])) ?_
    rw [V23 m c X3 e3, if_pos (by show (t.val / 4) * 128 + l.val < 512; omega)]
    exact congrArg₂ (fun x y => ((X3 x y : ℝ) : EReal)) (by show (t.val % 4) * 512 + r.val = _; omega) (by show (t.val / 4) * 128 + l.val = _; omega)

include e0 e1 in
theorem ld4 (a : Fin 2) (r : Fin 512) (l : Fin 128) : (iblk m c 4 t : Vec Ideal S2x512x128 .f32) (ix3 a r l) = ((stH X0 X1 (2 * (t.val / 4) + a.val) (512 * (t.val % 4) + r.val) : ℝ) : EReal) := by
  have ht := t_lt t
  refine Eq.trans (b := V m c main_v19 (ix3 ⟨(t.val / 4) * 2 + a.val, by omega⟩ ⟨(t.val % 4) * 512 + r.val, by omega⟩ l)) (congrArg (V m c main_v19) (by blk_ext [idx t])) ?_
  rw [V19 m c X0 X1 e0 e1]
  exact congrArg₂ (fun x y => ((stH X0 X1 x y : ℝ) : EReal)) (by show (t.val / 4) * 2 + a.val = _; omega) (by show (t.val % 4) * 512 + r.val = _; omega)

theorem slt64 (l : Fin 128) : IntOp.cmpi CmpIPredicate.slt (BitVec.ofNat 32 l.val) 64#32 = if l.val < 64 then 1#1 else 0#1 := by
  revert l; decide +kernel
theorem sge64 (l : Fin 128) : IntOp.cmpi CmpIPredicate.sge (BitVec.ofNat 32 l.val) 64#32 = if l.val < 64 then 0#1 else 1#1 := by
  revert l; decide +kernel

variable (b p : ℕ)
theorem q_first : k0_pay258 (lift (φ := .bf16) (fun r l => X0 (512 * b + r) (128 * p + l)) : Vec Ideal S512x128 .bf16) = lift fun r l => first (eighth X0) p (512 * b + r) l :=
  eq_lift fun r l => by
    pointwise [k0_pay258, k0_pay254, k0_pay256, lift]
    rw [slt64, first]
    split <;> simp [Scalar.select, eighth, ofBits_eighth]

theorem q_second : k0_pay259 (lift (φ := .bf16) (fun r l => X0 (512 * b + r) (128 * p + l)) : Vec Ideal S512x128 .bf16) = lift fun r l => second (eighth X0) p (512 * b + r) l :=
  eq_lift fun r l => by
    pointwise [k0_pay259, k0_pay254, k0_pay257, lift]
    rw [sge64, second]
    split <;> simp [Scalar.select, eighth, ofBits_eighth]

theorem d_first : k0_pay260 (lift (φ := .f32) (fun r l => X3 (512 * b + r) (128 * p + l)) : Vec Ideal S512x128 .f32) = lift fun r l => first X3 p (512 * b + r) l :=
  eq_lift fun r l => by
    pointwise [k0_pay260, k0_pay255, k0_pay256, lift]
    rw [slt64, first]
    split <;> simp [Scalar.select]

theorem d_second : k0_pay261 (lift (φ := .f32) (fun r l => X3 (512 * b + r) (128 * p + l)) : Vec Ideal S512x128 .f32) = lift fun r l => second X3 p (512 * b + r) l :=
  eq_lift fun r l => by
    pointwise [k0_pay261, k0_pay255, k0_pay257, lift]
    rw [sge64, second]
    split <;> simp [Scalar.select]

theorem win_first (x : Vec Ideal S2x512x128 .f32) (r : Fin 512) (l : Fin 128) : VecWindow.window x ![0, 0, 0] ![1, 512, 128] one_inb0 (ix3 0 r l) = x (ix3 0 r l) :=
  congrArg x (funext fun a => Fin.ext (by
    match a with
    | ⟨0, _⟩ => rfl
    | ⟨1, _⟩ => show 0 + 1 * r.val = r.val; omega
    | ⟨2, _⟩ => show 0 + 1 * l.val = l.val; omega))

theorem win_second (x : Vec Ideal S2x512x128 .f32) (r : Fin 512) (l : Fin 128) : VecWindow.window x ![1, 0, 0] ![1, 512, 128] one_inb1 (ix3 0 r l) = x (ix3 1 r l) :=
  congrArg x (funext fun a => Fin.ext (by
    match a with
    | ⟨0, _⟩ => rfl
    | ⟨1, _⟩ => show 0 + 1 * r.val = r.val; omega
    | ⟨2, _⟩ => show 0 + 1 * l.val = l.val; omega))

theorem st_first (x : Vec Ideal S2x512x128 .f32) (f : ℕ → ℕ → ℝ) (hx : ∀ a r l, x (ix3 a r l) = ((f a.val r.val : ℝ) : EReal)) :
    k0_pay262 (VecWindow.window x ![0, 0, 0] S1x512x128.size one_inb0) = lift fun r _ => f 0 r :=
  eq_lift fun r l => by
    pointwise [k0_pay262]
    split_ifs <;> exact (win_first x _ _).trans (hx 0 _ _)

theorem st_second (x : Vec Ideal S2x512x128 .f32) (f : ℕ → ℕ → ℝ) (hx : ∀ a r l, x (ix3 a r l) = ((f a.val r.val : ℝ) : EReal)) :
    k0_pay1 (k0_pay263 (VecWindow.window x ![1, 0, 0] S1x512x128.size one_inb1)) = lift fun r _ => f 1 r :=
  eq_lift fun r l => by
    pointwise [k0_pay1, k0_pay263]
    split_ifs <;> exact (win_second x _ _).trans (hx 1 _ _)

include e0 e1 e2 e3 in
theorem blocks : Blocks m c t (first (eighth X0) (t.val / 4)) (first X3 (t.val / 4)) (second (eighth X0) (t.val / 4)) (second X3 (t.val / 4)) (cols X1 (t.val / 4)) (cols X2 (t.val / 4))
    (stH X0 X1 (2 * (t.val / 4))) (stH X0 X1 (2 * (t.val / 4) + 1)) where
  h0 := by
    rw [ld0 m c X0 X1 X2 e0 e1 e2, ld3 m c X3 e3]
    exact ⟨q_first X0 _ _, d_first X3 _ _, st_first _ (fun a r => stH X0 X1 (2 * (t.val / 4) + a) (512 * (t.val % 4) + r)) (ld4 m c X0 X1 e0 e1 t)⟩
  h1 := by
    rw [ld0 m c X0 X1 X2 e0 e1 e2, ld3 m c X3 e3]
    exact ⟨q_second X0 _ _, d_second X3 _ _, st_second _ (fun a r => stH X0 X1 (2 * (t.val / 4) + a) (512 * (t.val % 4) + r)) (ld4 m c X0 X1 e0 e1 t)⟩
  k := ld1 m c X0 X1 X2 e0 e1 e2 t
  v := ld2 m c X0 X1 X2 e0 e1 e2 t

end Cert.KernelSbIdeal.Grad

end
-- ==== Proof.SbFin.lean ====
module

public import proofs.«01_k».proof.Proof.SbHost
public import proofs.«01_k».proof.Proof.Gen.KernelSbIdeal.Value
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem

namespace Cert.KernelSbIdeal.Grad
open Cert.KernelSbIdeal Cert.KernelSbIdeal.Gen Cert.KernelSbIdeal.Value Cert.Finite
open Cert.ReferenceSbIdeal.Grad (R2 zH pH lmH wH gH dH dqH dkH dvH ofBits_eighth)

theorem sum_low (f : ℕ → ℝ) : ∑ l ∈ Finset.range 128, (if l < 64 then f l else 0) = ∑ d ∈ Finset.range 64, f d := by
  rw [Finset.sum_range_add (n := 64) (m := 64) (f := fun l => if l < 64 then f l else 0)]
  rw [Finset.sum_eq_zero (s := Finset.range 64) (f := fun x => if 64 + x < 64 then f (64 + x) else 0) fun x _ => if_neg (by omega), add_zero]
  exact Finset.sum_congr rfl fun x hx => if_pos (Finset.mem_range.1 hx)

theorem sum_high (f : ℕ → ℝ) : ∑ l ∈ Finset.range 128, (if l < 64 then 0 else f l) = ∑ d ∈ Finset.range 64, f (64 + d) := by
  rw [Finset.sum_range_add (n := 64) (m := 64) (f := fun l => if l < 64 then 0 else f l)]
  rw [Finset.sum_eq_zero (s := Finset.range 64) (f := fun x => if x < 64 then 0 else f x) fun x hx => if_pos (Finset.mem_range.1 hx), zero_add]
  exact Finset.sum_congr rfl fun x _ => if_neg (by omega)

variable (X0 X1 X2 X3 : ℕ → ℕ → ℝ) (p : ℕ)

theorem zz_first (X Y : ℕ → ℕ → ℝ) (T S : ℕ) : zz (first X p) (cols Y p) T S = ∑ d ∈ Finset.range 64, X T (64 * (2 * p) + d) * Y S (64 * (2 * p) + d) := by
  rw [zz, ← sum_low fun l => X T (64 * (2 * p) + l) * Y S (64 * (2 * p) + l)]
  refine Finset.sum_congr rfl fun l _ => ?_
  have h : 64 * (2 * p) + l = 128 * p + l := by omega
  rw [first, cols, h, ite_mul, zero_mul]

theorem zz_second (X Y : ℕ → ℕ → ℝ) (T S : ℕ) : zz (second X p) (cols Y p) T S = ∑ d ∈ Finset.range 64, X T (64 * (2 * p + 1) + d) * Y S (64 * (2 * p + 1) + d) := by
  have e : ∀ d, 64 * (2 * p + 1) + d = 128 * p + (64 + d) := fun d => by omega
  simp only [e]
  rw [zz, ← sum_high fun l => X T (128 * p + l) * Y S (128 * p + l)]
  refine Finset.sum_congr rfl fun l _ => ?_
  rw [second, cols, ite_mul, zero_mul]

theorem ww_eq {Q K : ℕ → ℕ → ℝ} {st : ℕ → ℝ} {Z : ℕ → ℕ → ℝ} (hz : ∀ T S, zz Q K T S = Z T S) (hs : ∀ T, st T = ∑ k ∈ Finset.range 2048, lmH Z T k) (T S : ℕ) :
    ww Q K st T S = wH Z T S := by
  obtain rfl : zz Q K = Z := funext fun T => funext (hz T)
  rw [ww, hs]; rfl

theorem dzz_eq {Q D K V : ℕ → ℕ → ℝ} {st : ℕ → ℝ} {Z P : ℕ → ℕ → ℝ} (hz : ∀ T S, zz Q K T S = Z T S) (hp : ∀ T S, zz D V T S = P T S)
    (hs : ∀ T, st T = ∑ k ∈ Finset.range 2048, lmH Z T k) (T S : ℕ) : dzz Q D K V st T S = dH Z P T S := by
  have hg : ∀ S, gg Q D K V st T S = gH Z P T S := fun S => by rw [gg, ww_eq hz hs, hp]; rfl
  rw [dzz, dH, hz, hg]
  simp only [hg]

/-- The first head of pair `p` is head `2p`, the second `2p + 1`. -/
theorem w_first (T S : ℕ) : ww (first (eighth X0) p) (cols X1 p) (stH X0 X1 (2 * p)) T S = wH (zH X0 X1 (2 * p)) T S :=
  ww_eq (fun T S => zz_first p _ _ T S) (fun _ => rfl) T S
theorem w_second (T S : ℕ) : ww (second (eighth X0) p) (cols X1 p) (stH X0 X1 (2 * p + 1)) T S = wH (zH X0 X1 (2 * p + 1)) T S :=
  ww_eq (fun T S => zz_second p _ _ T S) (fun _ => rfl) T S
theorem z_first (T S : ℕ) : dzz (first (eighth X0) p) (first X3 p) (cols X1 p) (cols X2 p) (stH X0 X1 (2 * p)) T S = dH (zH X0 X1 (2 * p)) (pH X3 X2 (2 * p)) T S :=
  dzz_eq (fun T S => zz_first p _ _ T S) (fun T S => zz_first p _ _ T S) (fun _ => rfl) T S
theorem z_second (T S : ℕ) : dzz (second (eighth X0) p) (second X3 p) (cols X1 p) (cols X2 p) (stH X0 X1 (2 * p + 1)) T S = dH (zH X0 X1 (2 * p + 1)) (pH X3 X2 (2 * p + 1)) T S :=
  dzz_eq (fun T S => zz_second p _ _ T S) (fun T S => zz_second p _ _ T S) (fun _ => rfl) T S

theorem glue_all (f : ℕ → ℝ) (n : ℕ) : ∑ b ∈ Finset.range n, ∑ r ∈ Finset.range 512, f (512 * b + r) = ∑ T ∈ Finset.range (512 * n), f T := by
  induction n with
  | zero => rfl
  | succ n ih => rw [Finset.sum_range_succ, ih, glue]

/-- Only keys before the query have a part. -/
theorem upto (f : ℕ → ℝ) {b T : ℕ} (hb : b < 4) (hT : T < 512 * (b + 1)) (Z P : ℕ → ℕ → ℝ) :
    ∑ S ∈ Finset.range (512 * (b + 1)), dH Z P T S * f S = ∑ S ∈ Finset.range 2048, dH Z P T S * f S :=
  Finset.sum_subset (Finset.range_subset_range.2 (by omega)) fun S _ hS => by
    rw [dH, if_neg (fun h => hS (Finset.mem_range.2 (by omega))), zero_mul]

theorem dk_sum (S l : ℕ) (hl : l < 128) : ∑ b ∈ Finset.range 4, dkC (first (eighth X0) p) (first X3 p) (second (eighth X0) p) (second X3 p) (cols X1 p) (cols X2 p) (stH X0 X1 (2 * p)) (stH X0 X1 (2 * p + 1)) b S l
    = dkH X0 X1 X2 X3 S (128 * p + l) := by
  simp only [dkC, z_first, z_second, Finset.sum_add_distrib]
  rw [glue_all (fun T => dH (zH X0 X1 (2 * p)) (pH X3 X2 (2 * p)) T S * first (eighth X0) p T l) 4, glue_all (fun T => dH (zH X0 X1 (2 * p + 1)) (pH X3 X2 (2 * p + 1)) T S * second (eighth X0) p T l) 4]
  rw [dkH]
  by_cases h : l < 64
  · rw [show (128 * p + l) / 64 = 2 * p by omega]
    simp only [first, second, if_pos h, mul_zero, Finset.sum_const_zero, add_zero]; rfl
  · rw [show (128 * p + l) / 64 = 2 * p + 1 by omega]
    simp only [first, second, if_neg h, mul_zero, Finset.sum_const_zero, zero_add]; rfl

theorem dv_sum (S l : ℕ) (hl : l < 128) : ∑ b ∈ Finset.range 4, dvC (first (eighth X0) p) (first X3 p) (second (eighth X0) p) (second X3 p) (cols X1 p) (stH X0 X1 (2 * p)) (stH X0 X1 (2 * p + 1)) b S l
    = dvH X0 X1 X3 S (128 * p + l) := by
  simp only [dvC, w_first, w_second, Finset.sum_add_distrib]
  rw [glue_all (fun T => wH (zH X0 X1 (2 * p)) T S * first X3 p T l) 4, glue_all (fun T => wH (zH X0 X1 (2 * p + 1)) T S * second X3 p T l) 4]
  rw [dvH]
  by_cases h : l < 64
  · rw [show (128 * p + l) / 64 = 2 * p by omega]
    simp only [first, second, if_pos h, mul_zero, Finset.sum_const_zero, add_zero]
  · rw [show (128 * p + l) / 64 = 2 * p + 1 by omega]
    simp only [first, second, if_neg h, mul_zero, Finset.sum_const_zero, zero_add]

/-- A query block's gradient, the heads put side by side. -/
theorem dq_block (b r l : ℕ) (hb : b < 4) (hr : r < 512) (hl : l < 128) (A B : ℕ → ℕ → ℝ)
    (hA : ∀ r l, A r l = ∑ S ∈ Finset.range (512 * (b + 1)), dzz (first (eighth X0) p) (first X3 p) (cols X1 p) (cols X2 p) (stH X0 X1 (2 * p)) (512 * b + r) S * cols X1 p S l)
    (hB : ∀ r l, B r l = ∑ S ∈ Finset.range (512 * (b + 1)), dzz (second (eighth X0) p) (second X3 p) (cols X1 p) (cols X2 p) (stH X0 X1 (2 * p + 1)) (512 * b + r) S * cols X1 p S l) :
    (if l < 64 then A r l else B r l) * (1 / 8) = dqH X0 X1 X2 X3 (512 * b + r) (128 * p + l) := by
  rw [hA, hB, dqH]
  simp only [z_first, z_second]
  rw [upto _ hb (by omega), upto _ hb (by omega)]
  by_cases h : l < 64
  · rw [if_pos h, show (128 * p + l) / 64 = 2 * p by omega]; rfl
  · rw [if_neg h, show (128 * p + l) / 64 = 2 * p + 1 by omega]; rfl

theorem pay18_at (A B : ℕ → ℕ → ℝ) (r : Fin 512) (l : Fin 128) : k0_pay18 (F := Ideal) k0_pay256 (lift A) (lift B) (ix2 r l) = (((if l.val < 64 then A r.val l.val else B r.val l.val) * (1 / 8) : ℝ) : EReal) := by
  pointwise [k0_pay18, k0_pay256]
  rw [slt64, ofBits_eighth, lift_ix, lift_ix]
  split <;> simp [Scalar.select]

variable (m : (ℓ : Loc nD τ sig) → Buf (Elt Ideal) ℓ) (c : Dev nD)
    (e0 : m ((c : Thread nD τ).loc main_arg0) = R2 X0) (e1 : m ((c : Thread nD τ).loc main_arg1) = R2 X1)
    (e2 : m ((c : Thread nD τ).loc main_arg2) = R2 X2) (e3 : m ((c : Thread nD τ).loc main_arg3) = R2 X3)
include e0 e1 e2 e3

theorem G5_at (T : Fin 2048) (k : Fin 512) : G5 m c (ix2 T k) = ((dqH X0 X1 X2 X3 T.val k.val : ℝ) : EReal) := by
  have hN : pt5Of (ix2 T k) < cfg0.N := lt_of_lt_of_eq (show 1 * (T.val / 512 - 0) + 4 * (k.val / 128 - 0) < 16 by omega) (show cfg0.N = 16 from N_0).symm
  have hp : pt5Of (ix2 T k) / 4 = k.val / 128 := by show (1 * (T.val / 512 - 0) + 4 * (k.val / 128 - 0)) / 4 = _; omega
  have hb : pt5Of (ix2 T k) % 4 = T.val / 512 := by show (1 * (T.val / 512 - 0) + 4 * (k.val / 128 - 0)) % 4 = _; omega
  have E := (outs_lift m c (Q0 := first (eighth X0)) (D0 := first X3) (Q1 := second (eighth X0)) (D1 := second X3) (K := cols X1) (V := cols X2) (st0 := fun p => stH X0 X1 (2 * p)) (st1 := fun p => stH X0 X1 (2 * p + 1)) (blocks m c X0 X1 X2 X3 e0 e1 e2 e3) ⟨pt5Of (ix2 T k), hN⟩ hp hb).1
  refine Eq.trans (dif_pos hN) ?_
  refine Eq.trans (congrFun (congrArg Prod.fst (outsAt0_sweep m c _ hN).symm) _) ?_
  refine Eq.trans (congrFun E _) ?_
  refine Eq.trans (congrArg _ (eq_ix2 (loc5Of (ix2 T k)))) ?_
  refine (pay18_at _ _ _ _).trans ?_
  refine congrArg (fun x : ℝ => (x : EReal)) ?_
  refine (dq_block X0 X1 X2 X3 (k.val / 128) (T.val / 512) (T.val % 512) (k.val % 128) (by omega) (by omega) (by omega) _ _ (fun _ _ => rfl) (fun _ _ => rfl)).trans ?_
  rw [Nat.div_add_mod, Nat.div_add_mod]

theorem G6_at (T : Fin 2048) (k : Fin 512) : G6 m c (ix2 T k) = ((dkH X0 X1 X2 X3 T.val k.val : ℝ) : EReal) := by
  have h3 : pt6Of (ix2 T k) = 4 * (k.val / 128) + 3 := by show 4 * (4 * (T.val / 2048 - 0) + 1 * (k.val / 128 - 0)) + 3 = _; omega
  have hN : pt6Of (ix2 T k) < cfg0.N := lt_of_lt_of_eq (by rw [h3]; omega) (show cfg0.N = 16 from N_0).symm
  have E := ((outs_lift m c (Q0 := first (eighth X0)) (D0 := first X3) (Q1 := second (eighth X0)) (D1 := second X3) (K := cols X1) (V := cols X2) (st0 := fun p => stH X0 X1 (2 * p)) (st1 := fun p => stH X0 X1 (2 * p + 1)) (blocks m c X0 X1 X2 X3 e0 e1 e2 e3) ⟨pt6Of (ix2 T k), hN⟩ (p := k.val / 128) (b := 3) (by show pt6Of (ix2 T k) / 4 = _; omega) (by show pt6Of (ix2 T k) % 4 = _; omega)).2 rfl).1
  refine Eq.trans (dif_pos hN) ?_
  refine Eq.trans (congrFun (congrArg (fun x => x.2.1) (outsAt0_sweep m c _ hN).symm) _) ?_
  refine Eq.trans (congrFun E _) ?_
  refine congrArg (fun x : ℝ => (x : EReal)) ?_
  refine (dk_sum X0 X1 X2 X3 (k.val / 128) (T.val % 2048) (k.val % 128) (by omega)).trans ?_
  rw [Nat.div_add_mod, Nat.mod_eq_of_lt T.isLt]

theorem G7_at (T : Fin 2048) (k : Fin 512) : G7 m c (ix2 T k) = ((dvH X0 X1 X3 T.val k.val : ℝ) : EReal) := by
  have h3 : pt7Of (ix2 T k) = 4 * (k.val / 128) + 3 := by show 4 * (4 * (T.val / 2048 - 0) + 1 * (k.val / 128 - 0)) + 3 = _; omega
  have hN : pt7Of (ix2 T k) < cfg0.N := lt_of_lt_of_eq (by rw [h3]; omega) (show cfg0.N = 16 from N_0).symm
  have E := ((outs_lift m c (Q0 := first (eighth X0)) (D0 := first X3) (Q1 := second (eighth X0)) (D1 := second X3) (K := cols X1) (V := cols X2) (st0 := fun p => stH X0 X1 (2 * p)) (st1 := fun p => stH X0 X1 (2 * p + 1)) (blocks m c X0 X1 X2 X3 e0 e1 e2 e3) ⟨pt7Of (ix2 T k), hN⟩ (p := k.val / 128) (b := 3) (by show pt7Of (ix2 T k) / 4 = _; omega) (by show pt7Of (ix2 T k) % 4 = _; omega)).2 rfl).2
  refine Eq.trans (dif_pos hN) ?_
  refine Eq.trans (congrFun (congrArg (fun x => x.2.2.1) (outsAt0_sweep m c _ hN).symm) _) ?_
  refine Eq.trans (congrFun E _) ?_
  refine congrArg (fun x : ℝ => (x : EReal)) ?_
  refine (dv_sum X0 X1 X3 (k.val / 128) (T.val % 2048) (k.val % 128) (by omega)).trans ?_
  rw [Nat.div_add_mod, Nat.mod_eq_of_lt T.isLt]

end Cert.KernelSbIdeal.Grad

end
-- ==== Proof.SbClaim.lean ====
module

public import proofs.«01_k».proof.Defs
public import proofs.«01_k».proof.Proof.SbFin
public import proofs.«01_k».proof.Proof.Finite
public import proofs.«01_k».proof.Proof.Gen.Pre_finite_sb

@[expose] public section

set_option maxRecDepth 16384

noncomputable section

open Idealize.ShloMosaic Idealize.ShloMosaic.TcCoe Idealize.SL.Sem
open Idealize.ShloMosaic.Pipeline (Dat)

namespace Cert.KernelSbIdeal.Grad
open Cert.KernelSbIdeal Cert.KernelSbIdeal.Gen Cert.KernelSbIdeal.Value Cert.Finite
open Cert.ReferenceSbIdeal.Grad (R2 dq_at dk_at dv_at)

/-- An array of reals, read at pairs of natural numbers. -/
theorem table (X : S2048x512.Idx → ℝ) : ∃ Y : ℕ → ℕ → ℝ, (fun i => (X i : EReal)) = R2 Y :=
  ⟨fun a b => if h : a < 2048 ∧ b < 512 then X (ix2 ⟨a, h.1⟩ ⟨b, h.2⟩) else 0, funext fun i => by
    have h : (i 0).val < 2048 ∧ (i 1).val < 512 := ⟨(i 0).isLt, (i 1).isLt⟩
    show ((X i : ℝ) : EReal) = ((dite ((i 0).val < 2048 ∧ (i 1).val < 512) _ _ : ℝ) : EReal)
    rw [dif_pos h]
    exact congrArg (fun j => (X j : EReal)) (eq_ix2 i)⟩

/-- Finite arguments are tables of reals. -/
theorem lifts (m : (ℓ : Loc nD τ sig) → Buf (Elt Ideal) ℓ) (h : Cert.Pre_KernelSbIdeal_finite_sb m) (c : Dev nD) :
    ∃ X0 X1 X2 X3 : ℕ → ℕ → ℝ, m ((c : Thread nD τ).loc main_arg0) = R2 X0 ∧ m ((c : Thread nD τ).loc main_arg1) = R2 X1
      ∧ m ((c : Thread nD τ).loc main_arg2) = R2 X2 ∧ m ((c : Thread nD τ).loc main_arg3) = R2 X3 := by
  haveI : Subsingleton Cert.Pre_finite_sb.S_.Idx := ⟨fun a b => funext fun i => i.elim0⟩
  have h1 := congrFun (h c) ix0
  obtain ⟨h1, a3⟩ := and_one h1
  obtain ⟨h1, a2⟩ := and_one h1
  obtain ⟨h1, a1⟩ := and_one h1
  obtain ⟨h1, a0⟩ := and_one h1
  obtain ⟨Y0, f0⟩ := (of_all _ _ _ _ _ _ _ a0).lift
  obtain ⟨Y1, f1⟩ := (of_all _ _ _ _ _ _ _ a1).lift
  obtain ⟨Y2, f2⟩ := (of_all _ _ _ _ _ _ _ a2).lift
  obtain ⟨Y3, f3⟩ := (of_all _ _ _ _ _ _ _ a3).lift
  obtain ⟨X0, g0⟩ := table Y0
  obtain ⟨X1, g1⟩ := table Y1
  obtain ⟨X2, g2⟩ := table Y2
  obtain ⟨X3, g3⟩ := table Y3
  exact ⟨X0, X1, X2, X3, f0.trans g0, f1.trans g1, f2.trans g2, f3.trans g3⟩

theorem algebraic : Cert.algebraic_KernelSbIdeal_ReferenceSbIdeal_pre_finite_sb := by
  intro m g m' g' hpre hagree
  refine ⟨fun c => G5 m c, fun c => G6 m c, fun c => G7 m c, Value.run m g, ?_⟩
  refine θ_run_mono (Cert.ReferenceSbIdeal.Value.run m' g') fun r h c => ?_
  obtain ⟨X0, X1, X2, X3, e0, e1, e2, e3⟩ := lifts m hpre c
  obtain ⟨a0, a1, a2, a3⟩ := hagree c
  rw [e0] at a0; rw [e1] at a1; rw [e2] at a2; rw [e3] at a3
  refine ⟨((h c).1.trans (Cert.ReferenceSbIdeal.Read.val_main_v53_eq _ _)).trans (funext fun i => ?_),
    ((h c).2.1.trans (Cert.ReferenceSbIdeal.Read.val_main_v54_eq _ _)).trans (funext fun i => ?_),
    ((h c).2.2.1.trans (Cert.ReferenceSbIdeal.Read.val_main_v55_eq _ _)).trans (funext fun i => ?_), (h c).2.2.2⟩ <;> rw [eq_ix2 i]
  · rw [a0, a1, a2, a3]; exact (dq_at X0 X1 X2 X3 (i 0) (i 1)).trans (G5_at X0 X1 X2 X3 m c e0 e1 e2 e3 (i 0) (i 1)).symm
  · rw [a0, a1, a2, a3]; exact (dk_at X0 X1 X2 X3 (i 0) (i 1)).trans (G6_at X0 X1 X2 X3 m c e0 e1 e2 e3 (i 0) (i 1)).symm
  · rw [a0, a1, a3]; exact (dv_at X0 X1 X3 (i 0) (i 1)).trans (G7_at X0 X1 X2 X3 m c e0 e1 e2 e3 (i 0) (i 1)).symm

end Cert.KernelSbIdeal.Grad

end
-- ==== Proof.FoxReal.lean ====
module

public import proofs.«01_k».proof.Proof.FoxPt
public import proofs.«01_k».proof.Proof.SbFin

@[expose] public section

set_option maxRecDepth 16384

noncomputable section

open Idealize.ShloMosaic Idealize.ShloMosaic.TcCoe Idealize.SL.Sem

namespace Cert.KernelFoxIdeal.Grad
open Cert.KernelFoxIdeal Cert.KernelFoxIdeal.Gen Cert.Finite
open Cert.KernelSbIdeal.Grad (lift lift_ix lift_congr eq_lift zz glue upto_succ)

/-- A pair of heads' rows, their entries named by natural numbers. -/
def duo (W : ℕ → ℕ → ℝ) : FVec Ideal S1x2x2048 .f32 := fun j => ((W (j 1).val (j 2).val : ℝ) : EReal)

/-- The weights: `c` is the sum of the gate's logarithms, `st` the row's log-sum. -/
def pp (Q K : ℕ → ℕ → ℝ) (c st : ℕ → ℝ) (T S : ℕ) : ℝ := if S ≤ T then Real.exp (zz Q K T S + c T - c S - st T) else 0
/-- The weight times its cotangent. -/
def pd (Q D K V : ℕ → ℕ → ℝ) (c st : ℕ → ℝ) (T S : ℕ) : ℝ := pp Q K c st T S * zz D V T S
/-- The cotangent of the scores, from the row sum `e` over the keys of the blocks up to the query's. -/
def dss (Q D K V : ℕ → ℕ → ℝ) (c st : ℕ → ℝ) (b T S : ℕ) : ℝ := pp Q K c st T S * (zz D V T S - ∑ k ∈ Finset.range (512 * (b + 1)), pd Q D K V c st T k)

theorem score_lift (X Y : ℕ → ℕ → ℝ) : scoreOf (lift X) (lift Y) = lift fun r s => zz X Y r s :=
  eq_lift fun r s => by
    pointwise [scoreOf, lift]
    rw [zz, Finset.sum_range]
    norm_cast

theorem tn_lift (X Y : ℕ → ℕ → ℝ) : tnOf (lift X) (lift Y) = lift fun s l => ∑ r ∈ Finset.range 512, X r s * Y r l :=
  eq_lift fun r s => by
    pointwise [tnOf, lift]
    rw [Finset.sum_range]
    norm_cast

theorem nn_lift (X Y : ℕ → ℕ → ℝ) : nnOf (lift X) (lift Y) = lift fun r l => ∑ s ∈ Finset.range 512, X r s * Y s l :=
  eq_lift fun r s => by
    pointwise [nnOf, lift]
    rw [Finset.sum_range]
    norm_cast

theorem castB_lift (X : ℕ → ℕ → ℝ) : castB (lift X) = lift X := eq_lift fun r s => by pointwise [castB, lift]
theorem castF_lift (X : ℕ → ℕ → ℝ) : castF (lift X) = lift X := eq_lift fun r s => by pointwise [castF, lift]

theorem addf_lift {n m : ℕ} (X Y : ℕ → ℕ → ℝ) : (addf (lift X) (lift Y) : FVec Ideal ⟨2, ![n, m]⟩ .f32) = lift fun r s => X r s + Y r s :=
  eq_lift fun r s => by pointwise [lift]; norm_cast

theorem rows_lift (k : Fin 4) (X : ℕ → ℕ → ℝ) : (rows (F := Ideal) (e := .bf16) k (lift (φ := .bf16) X : Vec Ideal S2048x128 .bf16) : FVec Ideal S512x128 .bf16) = lift (φ := .bf16) fun s l => X (512 * k.val + s) l :=
  funext fun j => congrArg₂ (fun a b => ((X a b : ℝ) : EReal)) (by show 512 * k.val + 1 * (j 0).val = _; omega) (by show 0 + 1 * (j 1).val = _; omega)

theorem rows_lift' (k : Fin 4) (X : ℕ → ℕ → ℝ) : (rows (F := Ideal) (e := .f32) k (lift (φ := .f32) X : Vec Ideal S2048x128 .f32) : FVec Ideal S512x128 .f32) = lift (φ := .f32) fun s l => X (512 * k.val + s) l :=
  funext fun j => congrArg₂ (fun a b => ((X a b : ℝ) : EReal)) (by show 512 * k.val + 1 * (j 0).val = _; omega) (by show 0 + 1 * (j 1).val = _; omega)

theorem bump_lift (k : Fin 4) (X Y : ℕ → ℕ → ℝ) :
    bump k (lift (φ := .f32) X : Vec Ideal S2048x128 .f32) (lift fun s l => Y (512 * k.val + s) l) = lift (φ := .f32) fun S l => X S l + if 512 * k.val ≤ S ∧ S < 512 * (k.val + 1) then Y S l else 0 := by
  rw [bump, rows_lift']
  refine eq_lift fun S l => ?_
  have hS := S.isLt
  have hl := l.isLt
  unfold VecWindow.put
  split
  · next h =>
    have h1 : 512 * k.val ≤ S.val ∧ S.val < 512 * k.val + 512 := h 0
    rw [if_pos (by omega)]
    erw [addf_lift, castF_lift]
    show ((X (512 * k.val + (S.val - 512 * k.val)) (l.val - 0) + Y (512 * k.val + (S.val - 512 * k.val)) (l.val - 0) : ℝ) : EReal) = _
    rw [Nat.add_sub_cancel' h1.1, Nat.sub_zero]
  · next h =>
    rw [if_neg (fun hh => h fun a => by
      fin_cases a
      · show 512 * k.val ≤ S.val ∧ S.val < 512 * k.val + 512; omega
      · show 0 ≤ l.val ∧ l.val < 0 + 128; omega), add_zero]
    rfl

theorem frow_at (a : Fin 2) (k : Fin 4) (W : ℕ → ℕ → ℝ) (s : Fin 512) : frow (F := Ideal) a k (duo W) (ix3 0 0 s) = ((W a.val (512 * k.val + s.val) : ℝ) : EReal) :=
  congrArg₂ (fun a b => ((W a b : ℝ) : EReal)) (by show a.val + 1 * 0 = _; omega) (by show 512 * k.val + 1 * s.val = _; omega)

theorem tall_lift (a : Fin 2) (k : Fin 4) (W : ℕ → ℕ → ℝ) : tall (frow (F := Ideal) a k (duo W)) = lift fun _ s => W a.val (512 * k.val + s) :=
  eq_lift fun r s => by
    pointwise [tall]
    exact frow_at a k W s

theorem df_at (a : Fin 2) (k : Fin 4) (W G : ℕ → ℕ → ℝ) (s : Fin 512) :
    dfOf (frow (F := Ideal) a k (duo W)) (lift fun r s => G r (512 * k.val + s)) (ix3 0 0 s) = ((W a.val (512 * k.val + s.val) - ∑ r ∈ Finset.range 512, G r (512 * k.val + s.val) : ℝ) : EReal) := by
  have e := frow_at a k W s
  pointwise [dfOf, lift]
  rw [e, Finset.sum_range]
  norm_cast

theorem row_lift (A X Y : ℕ → ℕ → ℝ) : rowAdd (lift fun r _ => A r 0) (lift X) (lift Y) = lift fun r _ => A r 0 + ∑ s ∈ Finset.range 512, X r s * Y r s :=
  eq_lift fun r s => by
    pointwise [rowAdd, lift]
    rw [Finset.sum_range]
    norm_cast

theorem dsOf_lift (P D : ℕ → ℕ → ℝ) (E : ℕ → ℝ) : dsOf (lift P) (lift D) (lift fun r _ => E r) = lift fun r s => P r s * (D r s - E r) :=
  eq_lift fun r s => by
    pointwise [dsOf, lift]
    norm_cast

/-- A mask that keeps the keys up to the query, for query block `b` and key block `n`. -/
def Keeps (m : Option (IVec S512x512 1)) (b n : ℕ) : Prop :=
  ∀ X : ℕ → ℕ → ℝ, keep m (lift X) = lift fun r s => if 512 * n + s ≤ 512 * b + r then X r s else 0

theorem keeps_none {b n : ℕ} (h : n < b) : Keeps none b n := fun X =>
  lift_congr fun r hr s hs => by rw [if_pos (by omega)]

theorem cmpi_sle_ofNat {a b : ℕ} (ha : a < 4096) (hb : b < 4096) :
    IntOp.cmpi CmpIPredicate.sle (BitVec.ofNat 32 a) (BitVec.ofNat 32 b) = if a ≤ b then 1#1 else 0#1 := by
  rw [WordCmp.cmpi_sle_of_lt (by rw [BitVec.toNat_ofNat]; omega) (by rw [BitVec.toNat_ofNat]; omega), BitVec.toNat_ofNat, BitVec.toNat_ofNat,
    Nat.mod_eq_of_lt (by omega), Nat.mod_eq_of_lt (by omega)]
  by_cases h : a ≤ b <;> simp [h]

theorem keeps_diag (i : grid0.Coords) : Keeps (some (maskOf i)) (i 1).val (i 1).val := fun X =>
  eq_lift fun r s => by
    pointwise [keep, maskOf, diag, lift, k0_pay68]
    have h1 : ∀ i : grid0.Coords, Scalar.muli (Scf.iv (k0_t3_loop i).lb 1#32 0) 512#32 = BitVec.ofNat 32 (512 * (i 1).val) := by decide +kernel
    have h2 : ∀ q : Fin 4, Scalar.muli (BitVec.ofNat 32 q.val) 512#32 = BitVec.ofNat 32 (512 * q.val) := by decide +kernel
    have hi : (i 1).val < 4 := (i 1).isLt
    have ha : ∀ x y : ℕ, IntOp.addi (BitVec.ofNat 32 x) (BitVec.ofNat 32 y) = BitVec.ofNat 32 (x + y) := fun x y => (BitVec.ofNat_add x y).symm
    erw [h1 i, h2 (i 1)]
    rw [ha, ha, cmpi_sle_ofNat (by omega) (by omega)]
    split <;> simp [Scalar.select]

end Cert.KernelFoxIdeal.Grad

end
-- ==== Proof.FoxChain.lean ====
module

public import proofs.«01_k».proof.Proof.FoxReal

@[expose] public section

set_option maxRecDepth 16384

noncomputable section

open Idealize.ShloMosaic Idealize.ShloMosaic.TcCoe Idealize.SL.Sem

namespace Cert.KernelFoxIdeal.Grad
open Cert.KernelFoxIdeal Cert.KernelFoxIdeal.Gen Cert.Finite
open Cert.KernelSbIdeal.Grad (lift lift_ix lift_congr eq_lift zz glue upto_succ)

/-- A head's operands for query block `b`. -/
structure IsHead (h : Head Ideal) (b : ℕ) (Q D : ℕ → ℕ → ℝ) (c st : ℕ → ℝ) : Prop where
  q : h.q = lift fun r l => Q (512 * b + r) l
  d : h.d = lift fun r l => D (512 * b + r) l
  st : h.st = lift fun r _ => st (512 * b + r)
  fq : h.fq = lift fun r _ => c (512 * b + r)

variable {m : Option (IVec S512x512 1)} {b : ℕ} {h h0 h1 : Head Ideal} {Q D Q0 D0 Q1 D1 K V : ℕ → ℕ → ℝ} {W st : ℕ → ℕ → ℝ} {c : ℕ → ℝ}

theorem p_lift {n : Fin 4} {a : Fin 2} (hm : Keeps m b n.val) (hh : IsHead h b Q D (W a.val) c) :
    pAt m h (lift (φ := .bf16) K) (duo W) a n = lift fun r s => pp Q K (W a.val) c (512 * b + r) (512 * n.val + s) := by
  rw [pAt, pOf, rows_lift, castB_lift, hh.q, score_lift, hh.fq, hh.st, tall_lift]
  refine Eq.trans (congrArg (keep m) (a₂ := lift fun r s => Real.exp (zz Q K (512 * b + r) (512 * n.val + s) + W a.val (512 * b + r) - W a.val (512 * n.val + s) - c (512 * b + r))) ?_) (hm _)
  refine eq_lift fun r s => ?_
  pointwise [lift]
  rw [← EReal.coe_add, ← EReal.coe_sub, ← EReal.coe_sub, Ideal.exp_coe]; rfl

theorem dp_lift {n : Fin 4} {c' : ℕ → ℝ} (hh : IsHead h b Q D c' c) :
    dpAt h (lift (φ := .bf16) V) n = lift fun r s => zz D V (512 * b + r) (512 * n.val + s) := by
  rw [dpAt, dpOf, rows_lift, castB_lift, hh.d, score_lift]; rfl

theorem keeps_of {t j : Fin 4} {mk : IVec S512x512 1} (hj : j.val ≤ t.val) (hk : Keeps (some mk) t.val t.val) : Keeps (mOf t mk j) t.val j.val := by
  by_cases h : j.val < t.val
  · rw [mOf_lt t mk j h]; exact keeps_none h
  · obtain rfl : j = t := Fin.ext (by omega)
    rw [mOf_eq]; exact hk

section Point
variable {t : Fin 4} {mk : IVec S512x512 1} (hk : Keeps (some mk) t.val t.val) (e0 : IsHead h0 t.val Q0 D0 (W 0) (st 0)) (e1 : IsHead h1 t.val Q1 D1 (W 1) (st 1))
include hk e0 e1

theorem sums_lift (n : ℕ) (hn : n ≤ t.val + 1) :
    sums (pF t mk h0 (lift (φ := .bf16) K) (duo W) 0) (pF t mk h1 (lift (φ := .bf16) K) (duo W) 1) (dpAt h0 (lift (φ := .bf16) V)) (dpAt h1 (lift (φ := .bf16) V)) (k0_pay79, k0_pay79) n
      = (lift fun r _ => ∑ S ∈ Finset.range (512 * n), pd Q0 D0 K V (W 0) (st 0) (512 * t.val + r) S, lift fun r _ => ∑ S ∈ Finset.range (512 * n), pd Q1 D1 K V (W 1) (st 1) (512 * t.val + r) S) := by
  induction n with
  | zero =>
    have hz : k0_pay79 (F := Ideal) = lift fun r l => 0 := eq_lift fun r s => by pointwise [k0_pay79]; rfl
    rw [sums, hz]
    simp only [Nat.mul_zero, Finset.sum_range_zero]
  | succ n ih =>
    have ht := t.isLt
    rw [sums, dif_pos (show n < 4 by omega), ih (by omega), pF, pF, p_lift (a := 0) (keeps_of (show n ≤ t.val by omega) hk) e0, p_lift (a := 1) (keeps_of (show n ≤ t.val by omega) hk) e1, dp_lift e0, dp_lift e1]
    refine Prod.ext ?_ ?_
    · exact (row_lift (fun r _ => ∑ S ∈ Finset.range (512 * n), pd Q0 D0 K V (W 0) (st 0) (512 * t.val + r) S) (fun r s => pp Q0 K (W 0) (st 0) (512 * t.val + r) (512 * n + s)) (fun r s => zz D0 V (512 * t.val + r) (512 * n + s))).trans
        (congrArg lift (funext fun r => funext fun _ => glue (fun S => pd Q0 D0 K V (W 0) (st 0) (512 * t.val + r) S) n))
    · exact (row_lift (fun r _ => ∑ S ∈ Finset.range (512 * n), pd Q1 D1 K V (W 1) (st 1) (512 * t.val + r) S) (fun r s => pp Q1 K (W 1) (st 1) (512 * t.val + r) (512 * n + s)) (fun r s => zz D1 V (512 * t.val + r) (512 * n + s))).trans
        (congrArg lift (funext fun r => funext fun _ => glue (fun S => pd Q1 D1 K V (W 1) (st 1) (512 * t.val + r) S) n))

theorem ds_lift (n : Fin 4) (hn : n.val ≤ t.val) :
    dsOf (pF t mk h0 (lift (φ := .bf16) K) (duo W) 0 n) (dpAt h0 (lift (φ := .bf16) V) n) (delta t mk h0 h1 (lift (φ := .bf16) K) (lift (φ := .bf16) V) (duo W)).1
        = lift (fun r s => dss Q0 D0 K V (W 0) (st 0) t.val (512 * t.val + r) (512 * n.val + s))
    ∧ dsOf (pF t mk h1 (lift (φ := .bf16) K) (duo W) 1 n) (dpAt h1 (lift (φ := .bf16) V) n) (delta t mk h0 h1 (lift (φ := .bf16) K) (lift (φ := .bf16) V) (duo W)).2
        = lift (fun r s => dss Q1 D1 K V (W 1) (st 1) t.val (512 * t.val + r) (512 * n.val + s)) := by
  rw [delta, sums_lift hk e0 e1 _ le_rfl, pF, pF, p_lift (a := 0) (keeps_of hn hk) e0, p_lift (a := 1) (keeps_of hn hk) e1, dp_lift e0, dp_lift e1]
  exact ⟨dsOf_lift (fun r s => pp Q0 K (W 0) (st 0) (512 * t.val + r) (512 * n.val + s)) (fun r s => zz D0 V (512 * t.val + r) (512 * n.val + s)) (fun r => ∑ S ∈ Finset.range (512 * (t.val + 1)), pd Q0 D0 K V (W 0) (st 0) (512 * t.val + r) S),
    dsOf_lift (fun r s => pp Q1 K (W 1) (st 1) (512 * t.val + r) (512 * n.val + s)) (fun r s => zz D1 V (512 * t.val + r) (512 * n.val + s)) (fun r => ∑ S ∈ Finset.range (512 * (t.val + 1)), pd Q1 D1 K V (W 1) (st 1) (512 * t.val + r) S)⟩
end Point

/-- What a query block takes off the gate's gradient, and adds to those of keys and values. -/
def dfC (G : ℕ → ℕ → ℝ) (b S : ℕ) : ℝ := ∑ r ∈ Finset.range 512, G (512 * b + r) S
def prC (G0 G1 Y0 Y1 : ℕ → ℕ → ℝ) (b S l : ℕ) : ℝ := ∑ r ∈ Finset.range 512, G0 (512 * b + r) S * Y0 (512 * b + r) l + ∑ r ∈ Finset.range 512, G1 (512 * b + r) S * Y1 (512 * b + r) l

theorem pair_lift (G0 G1 Y0 Y1 : ℕ → ℕ → ℝ) (n : ℕ) : pair (lift fun r s => G0 (512 * b + r) (512 * n + s)) (lift fun r s => G1 (512 * b + r) (512 * n + s)) (lift fun r l => Y0 (512 * b + r) l) (lift fun r l => Y1 (512 * b + r) l)
    = lift fun s l => prC G0 G1 Y0 Y1 b (512 * n + s) l := by
  rw [pair, tn_lift, tn_lift]
  exact eq_lift fun r s => by pointwise [lift]; exact (EReal.coe_add _ _).symm

theorem drop_lift (k : Fin 4) (W : ℕ → ℕ → ℝ) (G : ℕ → ℕ → ℕ → ℝ) :
    drop2 (F := Ideal) k (duo W) (lift fun r s => G 0 (512 * b + r) (512 * k.val + s)) (lift fun r s => G 1 (512 * b + r) (512 * k.val + s))
      = duo fun a S => W a S - if 512 * k.val ≤ S ∧ S < 512 * (k.val + 1) then dfC (G a) b S else 0 := by
  funext j
  rw [eq_ix3 j]
  have hS : (j 2).val < 2048 := (j 2).isLt
  have hc : (j 0).val = 0 := by have : (j 0).val < 1 := (j 0).isLt; omega
  have hd : ∀ a : Fin 2, 512 * k.val ≤ (j 2).val → (j 2).val < 512 * k.val + 512 → ∀ (x : S1x1x512.Idx), (x 2).val = (j 2).val - 512 * k.val →
      dfOf (frow (F := Ideal) a k (duo W)) (lift fun r s => G a.val (512 * b + r) (512 * k.val + s)) x = ((W a.val (j 2).val - dfC (G a.val) b (j 2).val : ℝ) : EReal) := by
    intro a h1 h2 x hx
    have e : x = ix3 0 0 ⟨(j 2).val - 512 * k.val, by omega⟩ := funext fun i => Fin.ext (by
      match i with
      | ⟨0, _⟩ => have : (x 0).val < 1 := (x 0).isLt; show (x 0).val = 0; omega
      | ⟨1, _⟩ => have : (x 1).val < 1 := (x 1).isLt; show (x 1).val = 0; omega
      | ⟨2, _⟩ => exact hx)
    rw [e, df_at a k W (fun r S => G a.val (512 * b + r) S), dfC]
    dsimp only
    rw [Nat.add_sub_cancel' h1]
  by_cases hr : 512 * k.val ≤ (j 2).val ∧ (j 2).val < 512 * (k.val + 1)
  · have h2 : (j 2).val < 512 * k.val + 512 := by omega
    by_cases ha : (j 1).val = 1
    · unfold drop2
      unfold VecWindow.put
      rw [dif_pos (fun i => by
        match i with
        | ⟨0, _⟩ => show 0 ≤ (j 0).val ∧ (j 0).val < 0 + 1; omega
        | ⟨1, _⟩ => show 1 ≤ (j 1).val ∧ (j 1).val < 1 + 1; omega
        | ⟨2, _⟩ => show 512 * k.val ≤ (j 2).val ∧ (j 2).val < 512 * k.val + 512; omega)]
      refine (hd 1 hr.1 h2 _ rfl).trans ?_
      show _ = ((W (j 1).val (j 2).val - (if 512 * k.val ≤ (j 2).val ∧ (j 2).val < 512 * (k.val + 1) then dfC (G (j 1).val) b (j 2).val else 0) : ℝ) : EReal)
      rw [if_pos hr, ha]; rfl
    · have ha0 : (j 1).val = 0 := by have : (j 1).val < 2 := (j 1).isLt; omega
      unfold drop2
      unfold VecWindow.put
      rw [dif_neg (fun h => by have h := h 1; change 1 ≤ (j 1).val ∧ (j 1).val < 1 + 1 at h; omega)]
      rw [dif_pos (fun i => by
        match i with
        | ⟨0, _⟩ => show 0 ≤ (j 0).val ∧ (j 0).val < 0 + 1; omega
        | ⟨1, _⟩ => show 0 ≤ (j 1).val ∧ (j 1).val < 0 + 1; omega
        | ⟨2, _⟩ => show 512 * k.val ≤ (j 2).val ∧ (j 2).val < 512 * k.val + 512; omega)]
      refine (hd 0 hr.1 h2 _ rfl).trans ?_
      show _ = ((W (j 1).val (j 2).val - (if 512 * k.val ≤ (j 2).val ∧ (j 2).val < 512 * (k.val + 1) then dfC (G (j 1).val) b (j 2).val else 0) : ℝ) : EReal)
      rw [if_pos hr, ha0]; rfl
  · unfold drop2
    unfold VecWindow.put
    rw [dif_neg (fun h => hr (by have h := h 2; change 512 * k.val ≤ (j 2).val ∧ (j 2).val < 512 * k.val + 512 at h; omega)),
      dif_neg (fun h => hr (by have h := h 2; change 512 * k.val ≤ (j 2).val ∧ (j 2).val < 512 * k.val + 512 at h; omega))]
    show ((W (j 1).val (j 2).val : ℝ) : EReal) = ((W (j 1).val (j 2).val - (if 512 * k.val ≤ (j 2).val ∧ (j 2).val < 512 * (k.val + 1) then dfC (G (j 1).val) b (j 2).val else 0) : ℝ) : EReal)
    rw [if_neg hr, sub_zero]

variable {X Y U : ℕ → ℕ → ℝ}

/-- The state after `n` key blocks, from gradients `U`, `X`, `Y` of gate, keys and values, in terms of weights `P` and cotangents `G` of the scores. -/
def stR (P G : ℕ → ℕ → ℕ → ℝ) (Q0 D0 Q1 D1 K : ℕ → ℕ → ℝ) (b : ℕ) (U X Y : ℕ → ℕ → ℝ) (n : ℕ) : St Ideal :=
  ((lift fun r l => ∑ S ∈ Finset.range (512 * n), G 0 (512 * b + r) S * K S l, lift fun r l => ∑ S ∈ Finset.range (512 * n), G 1 (512 * b + r) S * K S l),
   duo fun a S => U a S - if S < 512 * n then dfC (G a) b S else 0,
   lift (φ := .f32) fun S l => X S l + if S < 512 * n then prC (G 0) (G 1) Q0 Q1 b S l else 0,
   lift (φ := .f32) fun S l => Y S l + if S < 512 * n then prC (P 0) (P 1) D0 D1 b S l else 0)

theorem less_succ (x f : ℝ) (n S : ℕ) : (x - if S < 512 * n then f else 0) - (if 512 * n ≤ S ∧ S < 512 * (n + 1) then f else 0) = x - if S < 512 * (n + 1) then f else 0 := by
  split_ifs <;> first | (exfalso; omega) | ring

variable {P G : ℕ → ℕ → ℕ → ℝ}

theorem chain_lift (p0 p1 d0 d1 : Fin 4 → FVec Ideal S512x512 .f32) (u0 u1 : FVec Ideal S512x1 .f32)
    (hp0 : ∀ j : Fin 4, j.val ≤ b → p0 j = lift fun r s => P 0 (512 * b + r) (512 * j.val + s)) (hp1 : ∀ j : Fin 4, j.val ≤ b → p1 j = lift fun r s => P 1 (512 * b + r) (512 * j.val + s))
    (hg0 : ∀ j : Fin 4, j.val ≤ b → dsOf (p0 j) (d0 j) u0 = lift fun r s => G 0 (512 * b + r) (512 * j.val + s)) (hg1 : ∀ j : Fin 4, j.val ≤ b → dsOf (p1 j) (d1 j) u1 = lift fun r s => G 1 (512 * b + r) (512 * j.val + s))
    (hb : b < 4) (n : ℕ) (hn : n ≤ b + 1) :
    chain (lift fun r l => Q0 (512 * b + r) l) (lift fun r l => Q1 (512 * b + r) l) (lift fun r l => D0 (512 * b + r) l) (lift fun r l => D1 (512 * b + r) l) (lift (φ := .bf16) K) p0 p1 d0 d1 u0 u1 (stR P G Q0 D0 Q1 D1 K b U X Y 0) n
      = stR P G Q0 D0 Q1 D1 K b U X Y n := by
  induction n with
  | zero => rfl
  | succ n ih =>
    rw [chain, dif_pos (show n < 4 by omega), ih (by omega), stepSt, stR]
    simp only []
    rw [hg0 ⟨n, by omega⟩ (by show n ≤ b; omega), hg1 ⟨n, by omega⟩ (by show n ≤ b; omega), hp0 ⟨n, by omega⟩ (by show n ≤ b; omega), hp1 ⟨n, by omega⟩ (by show n ≤ b; omega), rows_lift, castB_lift, nn_lift, nn_lift, addf_lift, addf_lift,
      pair_lift, pair_lift]
    have hd := drop_lift (b := b) ⟨n, by omega⟩ (fun a S => U a S - if S < 512 * n then dfC (G a) b S else 0) G
    have hk := bump_lift ⟨n, by omega⟩ (fun S l => X S l + if S < 512 * n then prC (G 0) (G 1) Q0 Q1 b S l else 0) (prC (G 0) (G 1) Q0 Q1 b)
    have hv := bump_lift ⟨n, by omega⟩ (fun S l => Y S l + if S < 512 * n then prC (P 0) (P 1) D0 D1 b S l else 0) (prC (P 0) (P 1) D0 D1 b)
    refine Prod.ext (Prod.ext ?_ ?_) (Prod.ext ?_ (Prod.ext ?_ ?_))
    · show _ = (lift fun r l => ∑ S ∈ Finset.range (512 * (n + 1)), G 0 (512 * b + r) S * K S l : FVec Ideal S512x128 .f32)
      simp only [← glue]
    · show _ = (lift fun r l => ∑ S ∈ Finset.range (512 * (n + 1)), G 1 (512 * b + r) S * K S l : FVec Ideal S512x128 .f32)
      simp only [← glue]
    · exact hd.trans (congrArg duo (funext fun a => funext fun S => less_succ (U a S) (dfC (G a) b S) n S))
    · exact hk.trans (congrArg (lift (φ := .f32)) (funext fun S => funext fun l => upto_succ (X S l) (prC (G 0) (G 1) Q0 Q1 b S l) n S))
    · exact hv.trans (congrArg (lift (φ := .f32)) (funext fun S => funext fun l => upto_succ (Y S l) (prC (P 0) (P 1) D0 D1 b S l) n S))

theorem pp_zero {T S : ℕ} {c c' : ℕ → ℝ} (h : T < S) : pp Q K c c' T S = 0 := if_neg (by omega)
theorem dss_zero {T S : ℕ} {c c' : ℕ → ℝ} (h : T < S) : dss Q D K V c c' b T S = 0 := by rw [dss, pp_zero h, zero_mul]

theorem dfC_zero {S : ℕ} (hG : ∀ T S, T < S → G 0 T S = 0) (h : 512 * (b + 1) ≤ S) : dfC (G 0) b S = 0 :=
  Finset.sum_eq_zero fun r hr => hG _ _ (by have := Finset.mem_range.1 hr; omega)
theorem prC_zero {S l : ℕ} {G0 G1 Y0 Y1 : ℕ → ℕ → ℝ} (h0 : ∀ T S, T < S → G0 T S = 0) (h1 : ∀ T S, T < S → G1 T S = 0) (h : 512 * (b + 1) ≤ S) : prC G0 G1 Y0 Y1 b S l = 0 := by
  rw [prC, Finset.sum_eq_zero fun r hr => by rw [h0 _ _ (by have := Finset.mem_range.1 hr; omega), zero_mul], Finset.sum_eq_zero fun r hr => by rw [h1 _ _ (by have := Finset.mem_range.1 hr; omega), zero_mul], add_zero]

/-- The weights and the scores' cotangents of a pair's two heads. -/
def two (f g : ℕ → ℕ → ℝ) (a : ℕ) : ℕ → ℕ → ℝ := if a = 0 then f else g

/-- A grid point on real arrays. -/
theorem point_lift (t : Fin 4) (mk : IVec S512x512 1) (hk : Keeps (some mk) t.val t.val) (e0 : IsHead h0 t.val Q0 D0 (W 0) (st 0)) (e1 : IsHead h1 t.val Q1 D1 (W 1) (st 1))
    (hP : P = two (pp Q0 K (W 0) (st 0)) (pp Q1 K (W 1) (st 1))) (hG : G = two (dss Q0 D0 K V (W 0) (st 0) t.val) (dss Q1 D1 K V (W 1) (st 1) t.val)) :
    point t mk h0 h1 (lift (φ := .bf16) K) (lift (φ := .bf16) V) (duo W) (duo U, lift (φ := .f32) X, lift (φ := .f32) Y)
      = ((lift fun r l => ∑ S ∈ Finset.range (512 * (t.val + 1)), G 0 (512 * t.val + r) S * K S l, lift fun r l => ∑ S ∈ Finset.range (512 * (t.val + 1)), G 1 (512 * t.val + r) S * K S l),
         duo fun a S => U a S - dfC (G a) t.val S,
         lift (φ := .f32) fun S l => X S l + prC (G 0) (G 1) Q0 Q1 t.val S l,
         lift (φ := .f32) fun S l => Y S l + prC (P 0) (P 1) D0 D1 t.val S l) := by
  have hz : k0_pay78 (F := Ideal) = lift fun r l => 0 := eq_lift fun r s => by pointwise [k0_pay78]; rfl
  have hs : (((k0_pay78 (F := Ideal), k0_pay78 (F := Ideal)), duo U, (lift (φ := .f32) X : Vec Ideal S2048x128 .f32), (lift (φ := .f32) Y : Vec Ideal S2048x128 .f32)) : St Ideal)
      = stR P G Q0 D0 Q1 D1 K t.val U X Y 0 := by
    rw [stR, hz]
    simp only [Nat.mul_zero, Nat.not_lt_zero, if_false, add_zero, sub_zero, Finset.sum_range_zero]
  have hGz : ∀ a T S, T < S → G a T S = 0 := by
    intro a T S hT; rw [hG, two]; split <;> exact dss_zero hT
  have hPz : ∀ a T S, T < S → P a T S = 0 := by
    intro a T S hT; rw [hP, two]; split <;> exact pp_zero hT
  have E := chain_lift (P := P) (G := G) (Q0 := Q0) (Q1 := Q1) (D0 := D0) (D1 := D1) (K := K) (U := U) (X := X) (Y := Y) (b := t.val)
    (pF t mk h0 (lift (φ := .bf16) K) (duo W) 0) (pF t mk h1 (lift (φ := .bf16) K) (duo W) 1) (dpAt h0 (lift (φ := .bf16) V)) (dpAt h1 (lift (φ := .bf16) V)) (delta t mk h0 h1 (lift (φ := .bf16) K) (lift (φ := .bf16) V) (duo W)).1 (delta t mk h0 h1 (lift (φ := .bf16) K) (lift (φ := .bf16) V) (duo W)).2
    (fun j hj => by rw [hP, pF]; exact p_lift (a := 0) (keeps_of hj hk) e0) (fun j hj => by rw [hP, pF]; exact p_lift (a := 1) (keeps_of hj hk) e1)
    (fun j hj => by rw [hG]; exact (ds_lift hk e0 e1 j hj).1) (fun j hj => by rw [hG]; exact (ds_lift hk e0 e1 j hj).2) t.isLt (t.val + 1) le_rfl
  rw [point, e0.q, e1.q, e0.d, e1.d, hs, E, stR]
  have h2 : (fun a S => U a S - if S < 512 * (t.val + 1) then dfC (G a) t.val S else 0) = fun a S => U a S - dfC (G a) t.val S :=
    funext fun a => funext fun S => congrArg (U a S - ·) (ite_eq_left_iff.2 fun h => (dfC_zero (G := fun _ => G a) (hGz a) (not_lt.1 h)).symm)
  have h3 : (fun S l => X S l + if S < 512 * (t.val + 1) then prC (G 0) (G 1) Q0 Q1 t.val S l else 0) = fun S l => X S l + prC (G 0) (G 1) Q0 Q1 t.val S l :=
    funext fun S => funext fun l => congrArg (X S l + ·) (ite_eq_left_iff.2 fun h => (prC_zero (hGz 0) (hGz 1) (not_lt.1 h)).symm)
  have h4 : (fun S l => Y S l + if S < 512 * (t.val + 1) then prC (P 0) (P 1) D0 D1 t.val S l else 0) = fun S l => Y S l + prC (P 0) (P 1) D0 D1 t.val S l :=
    funext fun S => funext fun l => congrArg (Y S l + ·) (ite_eq_left_iff.2 fun h => (prC_zero (hPz 0) (hPz 1) (not_lt.1 h)).symm)
  exact Prod.ext rfl (Prod.ext (congrArg duo h2) (Prod.ext (congrArg (lift (φ := .f32)) h3) (congrArg (lift (φ := .f32)) h4)))

end Cert.KernelFoxIdeal.Grad

end
-- ==== Proof.FoxFold.lean ====
module

public import proofs.«01_k».proof.Proof.FoxChain
public import proofs.«01_k».proof.Proof.FoxFrame

@[expose] public section

set_option maxRecDepth 16384

noncomputable section

open Idealize.ShloMosaic Idealize.ShloMosaic.TcCoe Idealize.SL.Sem

namespace Cert.KernelFoxIdeal.Grad
open Cert.KernelFoxIdeal Cert.KernelFoxIdeal.Gen Cert.Finite
open Cert.KernelSbIdeal.Grad (lift lift_ix lift_congr eq_lift zz glue)

section General
variable {F : FTy → Type} [FloatOps F] (m : (ℓ : Loc nD τ sig) → Buf (Elt F) ℓ) (c : Dev nD)

/-- What is kept of the point before. -/
def before (t : Fin cfg0.N) : Vec F S1x2x2048 .f32 × Vec F S2048x128 .f32 × Vec F S2048x128 .f32 :=
  if t.val % 4 = 0 then (k0_pay67, k0_pay65, k0_pay66) else (stAt m c (t.val - 1) (Nat.lt_of_le_of_lt (Nat.sub_le _ _) t.isLt)).2

theorem stAt_eq (t : Fin cfg0.N) :
    stAt m c t.val t.isLt = point (grid0.coords t 1) (maskOf (grid0.coords t)) (head0 (iblk m c 0 t) (iblk m c 3 t) (iblk m c 4 t) (iblk m c 5 t)) (head1 (iblk m c 0 t) (iblk m c 3 t) (iblk m c 4 t) (iblk m c 5 t)) (iblk m c 1 t) (iblk m c 2 t) (iblk m c 6 t) (before m c t) := by
  by_cases h : t.val % 4 = 0
  · rw [stAt_first m c t h, before, if_pos h]; rfl
  · rw [stAt_next m c t h, before, if_neg h]; rfl
end General

theorem coords1 : ∀ t : Fin grid0.N, (grid0.coords t 1).val = t.val % 4 := by decide +kernel

variable (m : (ℓ : Loc nD τ sig) → Buf (Elt Ideal) ℓ) (c : Dev nD)

/-- The blocks of grid point `t`, as reals. -/
structure Blocks (t : Fin cfg0.N) (Q0 D0 Q1 D1 K V W st : ℕ → ℕ → ℝ) : Prop where
  h0 : IsHead (head0 (iblk m c 0 t) (iblk m c 3 t) (iblk m c 4 t) (iblk m c 5 t)) (t.val % 4) Q0 D0 (W 0) (st 0)
  h1 : IsHead (head1 (iblk m c 0 t) (iblk m c 3 t) (iblk m c 4 t) (iblk m c 5 t)) (t.val % 4) Q1 D1 (W 1) (st 1)
  k : iblk m c 1 t = lift (φ := .bf16) K
  v : iblk m c 2 t = lift (φ := .bf16) V
  w : iblk m c 6 t = duo W

/-- The weights of a pair's heads, and the cotangents of its scores. -/
def pT (Q0 Q1 K W st : ℕ → ℕ → ℝ) : ℕ → ℕ → ℕ → ℝ := two (pp Q0 K (W 0) (st 0)) (pp Q1 K (W 1) (st 1))
def gT (Q0 D0 Q1 D1 K V W st : ℕ → ℕ → ℝ) (b : ℕ) : ℕ → ℕ → ℕ → ℝ := two (dss Q0 D0 K V (W 0) (st 0) b) (dss Q1 D1 K V (W 1) (st 1) b)
/-- The sums over the query blocks before the `n`th. -/
def dfS (G : ℕ → ℕ → ℕ → ℕ → ℝ) (n a S : ℕ) : ℝ := -∑ b ∈ Finset.range n, dfC (G b a) b S
def prS (G : ℕ → ℕ → ℕ → ℕ → ℝ) (Y0 Y1 : ℕ → ℕ → ℝ) (n S l : ℕ) : ℝ := ∑ b ∈ Finset.range n, prC (G b 0) (G b 1) Y0 Y1 b S l

theorem dfS_succ (G : ℕ → ℕ → ℕ → ℕ → ℝ) (n : ℕ) : (fun a S => dfS G n a S - dfC (G n a) n S) = dfS G (n + 1) :=
  funext fun a => funext fun S => by rw [dfS, dfS, Finset.sum_range_succ]; ring
theorem prS_succ (G : ℕ → ℕ → ℕ → ℕ → ℝ) (Y0 Y1 : ℕ → ℕ → ℝ) (n : ℕ) : (fun S l => prS G Y0 Y1 n S l + prC (G n 0) (G n 1) Y0 Y1 n S l) = prS G Y0 Y1 (n + 1) :=
  funext fun S => funext fun l => (Finset.sum_range_succ (fun b => prC (G b 0) (G b 1) Y0 Y1 b S l) n).symm

/-- The state of a pair after its `n`th query block. -/
def stR' (Q0 D0 Q1 D1 K V W st : ℕ → ℕ → ℝ) (n : ℕ) : Vec Ideal S1x2x2048 .f32 × Vec Ideal S2048x128 .f32 × Vec Ideal S2048x128 .f32 :=
  (duo (dfS (gT Q0 D0 Q1 D1 K V W st) n), lift (φ := .f32) (prS (gT Q0 D0 Q1 D1 K V W st) Q0 Q1 n), lift (φ := .f32) (prS (fun _ => pT Q0 Q1 K W st) D0 D1 n))
/-- Its rows of the gradient of the queries, each head's alone. -/
def dqR (Q0 D0 Q1 D1 K V W st : ℕ → ℕ → ℝ) (n : ℕ) : Vec Ideal S512x128 .f32 × Vec Ideal S512x128 .f32 :=
  (lift (φ := .f32) fun r l => ∑ S ∈ Finset.range (512 * (n + 1)), gT Q0 D0 Q1 D1 K V W st n 0 (512 * n + r) S * K S l,
   lift (φ := .f32) fun r l => ∑ S ∈ Finset.range (512 * (n + 1)), gT Q0 D0 Q1 D1 K V W st n 1 (512 * n + r) S * K S l)

theorem point_stR {Q0 D0 Q1 D1 K V W st : ℕ → ℕ → ℝ} (t : Fin cfg0.N) (hB : Blocks m c t Q0 D0 Q1 D1 K V W st) (hb : before m c t = stR' Q0 D0 Q1 D1 K V W st (t.val % 4)) :
    stAt m c t.val t.isLt = (dqR Q0 D0 Q1 D1 K V W st (t.val % 4), stR' Q0 D0 Q1 D1 K V W st (t.val % 4 + 1)) := by
  have e := coords1 t
  have E := point_lift (P := pT Q0 Q1 K W st) (G := gT Q0 D0 Q1 D1 K V W st (t.val % 4)) (Q0 := Q0) (D0 := D0) (Q1 := Q1) (D1 := D1) (K := K) (V := V) (W := W) (st := st)
    (U := dfS (gT Q0 D0 Q1 D1 K V W st) (t.val % 4)) (X := prS (gT Q0 D0 Q1 D1 K V W st) Q0 Q1 (t.val % 4)) (Y := prS (fun _ => pT Q0 Q1 K W st) D0 D1 (t.val % 4))
    (grid0.coords t 1) (maskOf (grid0.coords t)) (keeps_diag (grid0.coords t)) (by rw [e]; exact hB.h0) (by rw [e]; exact hB.h1) rfl (by rw [e]; rfl)
  rw [e] at E
  rw [stAt_eq, hb, hB.k, hB.v, hB.w]
  refine E.trans (congrArg (Prod.mk (dqR Q0 D0 Q1 D1 K V W st (t.val % 4))) (Eq.symm ?_))
  rw [stR', ← dfS_succ, ← prS_succ, ← prS_succ]

theorem zeros : (k0_pay67 (F := Ideal), k0_pay65 (F := Ideal), k0_pay66 (F := Ideal)) = (duo fun _ _ => 0, (lift (φ := .f32) fun _ _ => 0 : Vec Ideal S2048x128 .f32), (lift (φ := .f32) fun _ _ => 0 : Vec Ideal S2048x128 .f32)) :=
  Prod.ext (funext fun j => by rw [eq_ix3 j]; pointwise [k0_pay67, duo]; rfl)
    (Prod.ext (eq_lift (f := (k0_pay65 : FVec Ideal S2048x128 .f32)) (X := fun _ _ => 0) fun r s => by pointwise [k0_pay65]; rfl)
      (eq_lift (f := (k0_pay66 : FVec Ideal S2048x128 .f32)) (X := fun _ _ => 0) fun r s => by pointwise [k0_pay66]; rfl))

theorem zeros_eq (Q0 D0 Q1 D1 K V W st : ℕ → ℕ → ℝ) : (k0_pay67 (F := Ideal), k0_pay65 (F := Ideal), k0_pay66 (F := Ideal)) = stR' Q0 D0 Q1 D1 K V W st 0 := by
  rw [zeros, stR']
  have h : (fun _ _ => 0 : ℕ → ℕ → ℝ) = dfS (gT Q0 D0 Q1 D1 K V W st) 0 := funext fun a => funext fun S => by rw [dfS, Finset.sum_range_zero, neg_zero]
  rw [← h]; rfl

variable {Q0 D0 Q1 D1 K V W st : ℕ → ℕ → ℕ → ℝ}

/-- What the points of a pair have left before point `t`. -/
theorem fold_lift (hB : ∀ t : Fin cfg0.N, Blocks m c t (Q0 (t.val / 4)) (D0 (t.val / 4)) (Q1 (t.val / 4)) (D1 (t.val / 4)) (K (t.val / 4)) (V (t.val / 4)) (W (t.val / 4)) (st (t.val / 4))) :
    ∀ (n : ℕ) (hn : n < cfg0.N), before m c ⟨n, hn⟩ = stR' (Q0 (n / 4)) (D0 (n / 4)) (Q1 (n / 4)) (D1 (n / 4)) (K (n / 4)) (V (n / 4)) (W (n / 4)) (st (n / 4)) (n % 4) := by
  intro n
  induction n with
  | zero => intro hn; exact zeros_eq _ _ _ _ _ _ _ _
  | succ n ih =>
    intro hn
    by_cases h0 : (n + 1) % 4 = 0
    · rw [before, if_pos h0, h0]
      exact zeros_eq _ _ _ _ _ _ _ _
    · rw [before, if_neg h0]
      have hn' : n < cfg0.N := Nat.lt_of_succ_lt hn
      have E := congrArg Prod.snd (point_stR m c ⟨n, hn'⟩ (hB ⟨n, hn'⟩) (ih hn'))
      rw [show (n + 1) / 4 = n / 4 by omega, show (n + 1) % 4 = n % 4 + 1 by omega]
      exact E

theorem outs_lift (hB : ∀ t : Fin cfg0.N, Blocks m c t (Q0 (t.val / 4)) (D0 (t.val / 4)) (Q1 (t.val / 4)) (D1 (t.val / 4)) (K (t.val / 4)) (V (t.val / 4)) (W (t.val / 4)) (st (t.val / 4)))
    (t : Fin cfg0.N) {p b : ℕ} (hp : t.val / 4 = p) (hb : t.val % 4 = b) :
    stAt m c t.val t.isLt = (dqR (Q0 p) (D0 p) (Q1 p) (D1 p) (K p) (V p) (W p) (st p) b, stR' (Q0 p) (D0 p) (Q1 p) (D1 p) (K p) (V p) (W p) (st p) (b + 1)) := by
  subst hp hb
  exact point_stR m c t (hB t) (fold_lift m c hB t.val t.isLt)

end Cert.KernelFoxIdeal.Grad

end
-- ==== Proof.FoxRef.lean ====
module

public import proofs.«01_k».proof.Proof.FoxReal
public import proofs.«01_k».proof.Proof.Gen.ReferenceFoxIdeal.Read

@[expose] public section

set_option maxRecDepth 16384

noncomputable section

open Idealize.ShloMosaic Idealize.ShloMosaic.TcCoe Idealize.SL.Sem

namespace Cert.ReferenceFoxIdeal.Grad
open Cert.ReferenceFoxIdeal Cert.ReferenceFoxIdeal.Read
open Cert.Finite (div_real)
open Cert.KernelSbIdeal.Grad (lift lift_ix)
open Cert.KernelFoxIdeal.Grad (cmpi_sle_ofNat)
open Cert.ReferenceSbIdeal.Grad (zH pH sum_fin ofBits_eighth)

/-- The scores of head `h`, with the gates between the key and the query. -/
def zF (X0 X1 C : ℕ → ℕ → ℝ) (h T S : ℕ) : ℝ := zH X0 X1 h T S + C h T - C h S
/-- A row's largest score. -/
def topE (Z : ℕ → ℕ → ℝ) (T : ℕ) : EReal := Finset.univ.fold max ⊥ fun k : Fin 2048 => if k.val ≤ T then ((Z T k.val : ℝ) : EReal) else ⊥
def topF (Z : ℕ → ℕ → ℝ) (T : ℕ) : ℝ := (topE Z T).toReal
def eF (Z : ℕ → ℕ → ℝ) (T S : ℕ) : ℝ := if S ≤ T then Real.exp (Z T S - topF Z T) else 0
def lF (Z : ℕ → ℕ → ℝ) (T : ℕ) : ℝ := ∑ k ∈ Finset.range 2048, eF Z T k
/-- A row's log-sum. -/
def stF (Z : ℕ → ℕ → ℝ) (T : ℕ) : ℝ := topF Z T + Real.log (lF Z T)
/-- The softmax, and the cotangent of the scores. -/
def wF (Z : ℕ → ℕ → ℝ) (T S : ℕ) : ℝ := if S ≤ T then Real.exp (Z T S - stF Z T) else 0
def dF (Z P : ℕ → ℕ → ℝ) (T S : ℕ) : ℝ := wF Z T S * (P T S - ∑ k ∈ Finset.range 2048, wF Z T k * P T k)

section Rows
variable (Z P : ℕ → ℕ → ℝ) {T : ℕ} (hT : T < 2048)
include hT

theorem topE_coe : topE Z T = ((topF Z T : ℝ) : EReal) := by
  refine (EReal.coe_toReal (ne_of_lt ?_) (ne_of_gt ?_)).symm
  · refine (Finset.fold_max_lt _).2 ⟨bot_lt_top, fun k _ => ?_⟩
    split
    · exact EReal.coe_lt_top _
    · exact bot_lt_top
  · refine lt_of_lt_of_le (EReal.bot_lt_coe (Z T T)) ((Finset.le_fold_max _).2 (Or.inr ⟨⟨T, hT⟩, Finset.mem_univ _, ?_⟩))
    rw [if_pos (le_refl T)]

theorem lF_pos : 0 < lF Z T :=
  Finset.sum_pos' (fun k _ => by rw [eF]; split <;> positivity) ⟨T, Finset.mem_range.2 hT, by rw [eF, if_pos le_rfl]; positivity⟩

theorem wF_eq (S : ℕ) : wF Z T S = eF Z T S / lF Z T := by
  rw [wF, eF]
  split
  · rw [stF, ← sub_sub, Real.exp_sub _ (Real.log _), Real.exp_log (lF_pos Z hT)]
  · rw [zero_div]

theorem wF_sum : ∑ S ∈ Finset.range 2048, wF Z T S = 1 := by
  simp only [wF_eq Z hT]
  rw [← Finset.sum_div]
  exact div_self (lF_pos Z hT).ne'

theorem dF_sum : ∑ S ∈ Finset.range 2048, dF Z P T S = 0 := by
  simp only [dF, mul_sub, Finset.sum_sub_distrib]
  rw [← Finset.sum_mul, wF_sum Z hT, one_mul, sub_self]

/-- The gradient as jax writes it: of a quotient of two functions. -/
theorem dF_eq (S : ℕ) : (P T S / lF Z T + -∑ k ∈ Finset.range 2048, P T k * (1 / (lF Z T * lF Z T)) * eF Z T k) * eF Z T S = dF Z P T S := by
  have hl := (lF_pos Z hT).ne'
  rw [dF]
  simp only [wF_eq Z hT]
  have e : ∑ k ∈ Finset.range 2048, P T k * (1 / (lF Z T * lF Z T)) * eF Z T k = (∑ k ∈ Finset.range 2048, eF Z T k / lF Z T * P T k) / lF Z T := by
    rw [Finset.sum_div]
    exact Finset.sum_congr rfl fun k _ => by field_simp
  rw [e]
  field_simp
  ring
end Rows

abbrev R2 (X : ℕ → ℕ → ℝ) : (⟨S2048x1024, .f32⟩ : BufTy).Contents (Elt Ideal) := (lift (φ := .f32) X : FVec Ideal S2048x1024 .f32)
abbrev RC (X : ℕ → ℕ → ℝ) : (⟨S16x2048, .f32⟩ : BufTy).Contents (Elt Ideal) := (lift (φ := .f32) X : FVec Ideal S16x2048 .f32)

theorem ofBits_bot : Ideal.ofBits .f32 0xFF800000#32 = ⊥ := by simp [Ideal.ofBits, Ideal.ieee]

variable (X0 X1 X2 C X4 : ℕ → ℕ → ℝ) (h : Fin 16) (T S : Fin 2048)

theorem z_at : val_main_v14 (F := Ideal) (R2 X0) (R2 X1) (RC C) (ix3 h T S) = ((zF X0 X1 C h.val T.val S.val : ℝ) : EReal) := by
  pointwise [val_main_v14, val_main_v13, val_main_v12, val_main_v11, val_main_v10, val_main_v9, val_main_v8, val_main_v5, val_main_v4, val_main_v3, val_main_v2, val_main_v1, val_main_v0, val_main_cst]
  rw [ofBits_eighth, zF, EReal.coe_sub, EReal.coe_add]
  refine congrArg (fun x : EReal => x + ((C h.val T.val : ℝ) : EReal) - ((C h.val S.val : ℝ) : EReal)) ?_
  refine Eq.trans (Finset.sum_congr rfl fun d _ => ?_) (sum_fin fun d => X0 T.val (64 * h.val + d) * (1 / 8) * X1 S.val (64 * h.val + d))
  show ((X0 T.val (h.val * 64 + d.val) : ℝ) : EReal) * _ * ((X1 S.val (h.val * 64 + d.val) : ℝ) : EReal) = _
  rw [mul_comm h.val 64]
  norm_cast

theorem p_at : val_main_v58 (F := Ideal) (R2 X2) (R2 X4) (ix3 h T S) = ((pH X4 X2 h.val T.val S.val : ℝ) : EReal) := by
  pointwise [val_main_v58, val_main_v55, val_main_v54, val_main_v7, val_main_v6]
  refine Eq.trans (Finset.sum_congr rfl fun d _ => ?_) (sum_fin fun d => X4 T.val (64 * h.val + d) * X2 S.val (64 * h.val + d))
  show ((X4 T.val (h.val * 64 + d.val) : ℝ) : EReal) * ((X2 S.val (h.val * 64 + d.val) : ℝ) : EReal) = _
  rw [mul_comm h.val 64]
  norm_cast

theorem mask_at : val_main_v22_1 (F := Ideal) (ix3 h T S) = if S.val ≤ T.val then 1#1 else 0#1 := by
  pointwise [val_main_v22_1, val_main_v21, val_main_v20, val_main_v19, val_main_v18, val_main_v17, val_main_v16, val_main_v15]
  exact cmpi_sle_ofNat (by omega) (by omega)

theorem zm_at : val_main_v22_0 (F := Ideal) (R2 X0) (R2 X1) (RC C) (ix3 h T S) = if S.val ≤ T.val then ((zF X0 X1 C h.val T.val S.val : ℝ) : EReal) else ⊥ := by
  pointwise [val_main_v22_0, val_main_call0_v2, val_main_call0_v0, val_main_cst_0]
  rw [z_at, mask_at]
  split <;> simp [Scalar.select]
  exact ofBits_bot

theorem top_at : val_main_v23 (F := Ideal) (R2 X0) (R2 X1) (RC C) (ix2 h T) = ((topF (zF X0 X1 C h.val) T.val : ℝ) : EReal) := by
  rw [← topE_coe _ T.isLt, topE]
  pointwise [val_main_v23, val_main_cst_1]
  rw [ofBits_bot]
  exact congrArg (Finset.univ.fold max ⊥) (funext fun k => zm_at X0 X1 C h T k)

theorem t2_at : val_main_v30 (F := Ideal) (R2 X0) (R2 X1) (RC C) (ix2 h T) = ((topF (zF X0 X1 C h.val) T.val : ℝ) : EReal) := by
  rw [val_main_v30_apply, top_at]
  have e : val_main_v29 (F := Ideal) (ix2 h T) = ⊥ := by
    pointwise [val_main_v29, val_main_cst_3]
    exact ofBits_bot
  rw [e]
  exact max_eq_right bot_le

theorem b_at : val_main_v41 (F := Ideal) (R2 X0) (R2 X1) (RC C) (ix3 h T S) = ((topF (zF X0 X1 C h.val) T.val : ℝ) : EReal) := by
  rw [val_main_v41_apply, val_main_v40_apply, ← t2_at]
  exact congrArg _ (by blk_ext)

theorem e_at : val_main_v43 (F := Ideal) (R2 X0) (R2 X1) (RC C) (ix3 h T S) = ((eF (zF X0 X1 C h.val) T.val S.val : ℝ) : EReal) := by
  rw [val_main_v43_apply, val_main_v42_apply, zm_at, b_at, eF]
  by_cases hS : S.val ≤ T.val
  · rw [if_pos hS, if_pos hS]
    show Ideal.exp (((zF X0 X1 C h.val T.val S.val : ℝ) : EReal) - ((topF (zF X0 X1 C h.val) T.val : ℝ) : EReal)) = _
    rw [← EReal.coe_sub, Ideal.exp_coe]
  · rw [if_neg hS, if_neg hS]
    show Ideal.exp (⊥ - ((topF (zF X0 X1 C h.val) T.val : ℝ) : EReal)) = _
    rw [EReal.bot_sub, Ideal.exp_bot]; rfl

theorem l_at : val_main_v44 (F := Ideal) (R2 X0) (R2 X1) (RC C) (ix2 h T) = ((lF (zF X0 X1 C h.val) T.val : ℝ) : EReal) := by
  pointwise [val_main_v44, val_main_cst_9]
  exact (Finset.sum_congr rfl fun k _ => e_at X0 X1 C h T k).trans (sum_fin fun k => eF (zF X0 X1 C h.val) T.val k)

theorem w_at : val_main_v47 (F := Ideal) (R2 X0) (R2 X1) (RC C) (ix3 h T S) = ((wF (zF X0 X1 C h.val) T.val S.val : ℝ) : EReal) := by
  pointwise [val_main_v47, val_main_v46, val_main_v45]
  rw [e_at, l_at, div_real (lF_pos _ T.isLt).ne', wF_eq _ T.isLt]

/-- The part of the cotangent that comes from the softmax's sum. -/
theorem g_at : val_main_v61 (F := Ideal) (R2 X0) (R2 X1) (R2 X2) (RC C) (R2 X4) (ix3 h T S)
    = ((pH X4 X2 h.val T.val S.val * (1 / (lF (zF X0 X1 C h.val) T.val * lF (zF X0 X1 C h.val) T.val)) * eF (zF X0 X1 C h.val) T.val S.val : ℝ) : EReal) := by
  have hl := (lF_pos (zF X0 X1 C h.val) T.isLt).ne'
  pointwise [val_main_v61, val_main_v60, val_main_v59, val_main_v50, val_main_v49, val_main_cst_10, val_main_v48, val_main_v45]
  rw [e_at, l_at, p_at, ← EReal.coe_one, ← EReal.coe_mul, div_real (mul_ne_zero hl hl), ← EReal.coe_mul, ← EReal.coe_mul]

theorem gs_at : val_main_v62 (F := Ideal) (R2 X0) (R2 X1) (R2 X2) (RC C) (R2 X4) (ix2 h T)
    = ((∑ k ∈ Finset.range 2048, pH X4 X2 h.val T.val k * (1 / (lF (zF X0 X1 C h.val) T.val * lF (zF X0 X1 C h.val) T.val)) * eF (zF X0 X1 C h.val) T.val k : ℝ) : EReal) := by
  pointwise [val_main_v62, val_main_cst_11]
  exact (Finset.sum_congr rfl fun k _ => g_at X0 X1 X2 C X4 h T k).trans (sum_fin fun k => pH X4 X2 h.val T.val k * (1 / (lF (zF X0 X1 C h.val) T.val * lF (zF X0 X1 C h.val) T.val)) * eF (zF X0 X1 C h.val) T.val k)

theorem d_at : val_main_v71 (F := Ideal) (R2 X0) (R2 X1) (R2 X2) (RC C) (R2 X4) (ix3 h T S) = ((dF (zF X0 X1 C h.val) (pH X4 X2 h.val) T.val S.val : ℝ) : EReal) := by
  have hl := (lF_pos (zF X0 X1 C h.val) T.isLt).ne'
  pointwise [val_main_v71, val_main_v70, val_main_v69, val_main_v68, val_main_v67, val_main_v66, val_main_v65, val_main_v64, val_main_v63, val_main_v45, val_main_cst_12, val_main_call1_v0, val_main_call1_cst]
  simp only [Finset.sum_const, Finset.card_univ, Fintype.card_fin, one_smul]
  rw [e_at, l_at, p_at, gs_at, mask_at, div_real hl, ← EReal.coe_neg, ← EReal.coe_add, ← EReal.coe_mul, dF_eq _ _ T.isLt]
  by_cases hS : S.val ≤ T.val
  · rw [if_pos hS]; rfl
  · rw [if_neg hS, dF, wF, if_neg hS, zero_mul]; simp [Scalar.select]

/-- The gradients of the forgetting attention. -/
def dqF (X0 X1 X2 C X4 : ℕ → ℕ → ℝ) (T c : ℕ) : ℝ := (∑ S ∈ Finset.range 2048, dF (zF X0 X1 C (c / 64)) (pH X4 X2 (c / 64)) T S * X1 S c) * (1 / 8)
def dkF (X0 X1 X2 C X4 : ℕ → ℕ → ℝ) (S c : ℕ) : ℝ := ∑ T ∈ Finset.range 2048, dF (zF X0 X1 C (c / 64)) (pH X4 X2 (c / 64)) T S * (X0 T c * (1 / 8))
def dvF (X0 X1 C X4 : ℕ → ℕ → ℝ) (S c : ℕ) : ℝ := ∑ T ∈ Finset.range 2048, wF (zF X0 X1 C (c / 64)) T S * X4 T c
def dcF (X0 X1 X2 C X4 : ℕ → ℕ → ℝ) (h S : ℕ) : ℝ := -∑ T ∈ Finset.range 2048, dF (zF X0 X1 C h) (pH X4 X2 h) T S

variable (c : Fin 1024)

theorem dq_at : val_main_v90 (F := Ideal) (R2 X0) (R2 X1) (R2 X2) (RC C) (R2 X4) (ix2 T c) = ((dqF X0 X1 X2 C X4 T.val c.val : ℝ) : EReal) := by
  pointwise [val_main_v90, val_main_v89, val_main_v88, val_main_v87, val_main_v86, val_main_cst_17, val_main_v81, val_main_v5, val_main_v4]
  rw [ofBits_eighth]
  refine Eq.trans (congrArg (fun x : EReal => x * ((1 / 8 : ℝ) : EReal)) (Eq.trans (Finset.sum_congr rfl fun S _ => ?_)
    (sum_fin fun S => dF (zF X0 X1 C (c.val / 64)) (pH X4 X2 (c.val / 64)) T.val S * X1 S c.val))) (EReal.coe_mul _ _).symm
  rw [d_at]; exact (EReal.coe_mul _ _).symm

theorem dk_at : val_main_v91 (F := Ideal) (R2 X0) (R2 X1) (R2 X2) (RC C) (R2 X4) (ix2 T c) = ((dkF X0 X1 X2 C X4 T.val c.val : ℝ) : EReal) := by
  pointwise [val_main_v91, val_main_v85, val_main_v84, val_main_v80, val_main_v3, val_main_v2, val_main_cst, val_main_v1, val_main_v0]
  rw [ofBits_eighth]
  refine Eq.trans (Finset.sum_congr rfl fun S _ => ?_) (sum_fin fun S => dF (zF X0 X1 C (c.val / 64)) (pH X4 X2 (c.val / 64)) S T.val * (X0 S c.val * (1 / 8)))
  rw [d_at, EReal.coe_mul, EReal.coe_mul]; rfl

theorem dv_at : val_main_v92 (F := Ideal) (R2 X0) (R2 X1) (RC C) (R2 X4) (ix2 T c) = ((dvF X0 X1 C X4 T.val c.val : ℝ) : EReal) := by
  pointwise [val_main_v92, val_main_v83, val_main_v82, val_main_v57, val_main_v56, val_main_v55, val_main_v54]
  refine Eq.trans (Finset.sum_congr rfl fun S _ => ?_) (sum_fin fun S => wF (zF X0 X1 C (c.val / 64)) S T.val * X4 S c.val)
  rw [w_at, EReal.coe_mul, mul_comm]; rfl

theorem dc_at : val_main_v79 (F := Ideal) (R2 X0) (R2 X1) (R2 X2) (RC C) (R2 X4) (ix2 h S) = ((dcF X0 X1 X2 C X4 h.val S.val : ℝ) : EReal) := by
  have e1 : ∑ k : Fin 2048, -val_main_v71 (F := Ideal) (R2 X0) (R2 X1) (R2 X2) (RC C) (R2 X4) (ix3 h k S) = ((dcF X0 X1 X2 C X4 h.val S.val : ℝ) : EReal) := by
    rw [dcF, ← Finset.sum_neg_distrib]
    refine Eq.trans (Finset.sum_congr rfl fun T _ => ?_) (sum_fin fun T => -dF (zF X0 X1 C h.val) (pH X4 X2 h.val) T S.val)
    rw [d_at]; exact (EReal.coe_neg _).symm
  have e2 : ∑ k : Fin 2048, val_main_v71 (F := Ideal) (R2 X0) (R2 X1) (R2 X2) (RC C) (R2 X4) (ix3 h S k) = 0 := by
    refine ((Finset.sum_congr rfl fun k _ => d_at X0 X1 X2 C X4 h S k).trans (sum_fin fun k => dF (zF X0 X1 C h.val) (pH X4 X2 h.val) S.val k)).trans ?_
    rw [dF_sum _ _ S.isLt]; rfl
  pointwise [val_main_v79, val_main_v78, val_main_v77, val_main_v76, val_main_v75, val_main_v74, val_main_v73, val_main_v72, val_main_cst_13, val_main_cst_14, val_main_cst_15, val_main_cst_16]
  simp only [Finset.sum_const, Finset.card_univ, Fintype.card_fin, one_smul]
  exact (congrArg₂ (· + ·) e1 e2).trans (add_zero _)

theorem df_at (p : Fin 8) (a : Fin 2) : val_main_v93 (F := Ideal) (R2 X0) (R2 X1) (R2 X2) (RC C) (R2 X4) (ix3 p a S) = ((dcF X0 X1 X2 C X4 (2 * p.val + a.val) S.val : ℝ) : EReal) := by
  have h1 : p.val * 2 + a.val < 16 := by omega
  refine Eq.trans (b := val_main_v79 (F := Ideal) (R2 X0) (R2 X1) (R2 X2) (RC C) (R2 X4) (ix2 ⟨p.val * 2 + a.val, h1⟩ S)) ?_ ?_
  · pointwise [val_main_v93]
  · rw [dc_at, mul_comm 2]

end Cert.ReferenceFoxIdeal.Grad

end
-- ==== Proof.FoxHost.lean ====
module

public import proofs.«01_k».proof.Proof.FoxFold
public import proofs.«01_k».proof.Proof.FoxRef

@[expose] public section

set_option maxRecDepth 16384

noncomputable section

open Idealize.ShloMosaic Idealize.ShloMosaic.TcCoe Idealize.SL.Sem

namespace Cert.KernelFoxIdeal.Grad
open Cert.KernelFoxIdeal Cert.KernelFoxIdeal.Gen Cert.Finite
open Cert.KernelSbIdeal.Grad (lift lift_ix lift_congr eq_lift cols first second eighth slt64 sge64)
open Cert.ReferenceSbIdeal.Grad (ofBits_eighth sum_fin)
open Cert.ReferenceFoxIdeal.Grad (R2 RC zF topF eF lF stF zm_at top_at lF_pos ofBits_bot)

/-- The row log-sums of pair `p`'s heads, and the sums of its gates' logarithms. -/
def stP (X0 X1 C : ℕ → ℕ → ℝ) (p a T : ℕ) : ℝ := stF (zF X0 X1 C (2 * p + a)) T
def gateP (C : ℕ → ℕ → ℝ) (p a T : ℕ) : ℝ := C (2 * p + a) T

variable (m : (ℓ : Loc nD τ sig) → Buf (Elt Ideal) ℓ) (c : Dev nD) (X0 X1 X2 C X4 : ℕ → ℕ → ℝ)
    (e0 : m ((c : Thread nD τ).loc main_arg0) = R2 X0) (e1 : m ((c : Thread nD τ).loc main_arg1) = R2 X1)
    (e2 : m ((c : Thread nD τ).loc main_arg2) = R2 X2) (e3 : m ((c : Thread nD τ).loc main_arg3) = RC C) (e4 : m ((c : Thread nD τ).loc main_arg4) = R2 X4)

/-- The buffers after the host's scores and mask, and after the call that puts them together. -/
def scores : Valuation τ sig (Elt Ideal) := StableHlo.after hostOps0 fun b => m (c, b)
def masked : Valuation τ sig (Elt Ideal) := StableHlo.after hostOps0_1 (scores m c)
theorem V_masked (b : Ref sig .tc) : V m c b = StableHlo.after hostOps0_2 (masked m c) b := rfl

section Stages
variable (U : Valuation τ sig (Elt Ideal))
theorem stage20 : StableHlo.after (hostOps0_1 (F := Ideal)) U main_v20
    = select (broadcastInDim S16x2048x2048 ![1, 2] bcast_S2048x2048_S16x2048x2048_1_2 (U main_v19 : IVec S2048x2048 1)) (U main_v12 : FVec Ideal S16x2048x2048 .f32)
        (broadcastInDim S16x2048x2048 ![] bcast_S_S16x2048x2048 (U main_cst_0 : FVec Ideal S_ .f32)) := rfl
def topOf (x : FVec Ideal S16x2048x2048 .f32) : FVec Ideal S16x2048 .f32 :=
  Host.reduce (FloatOps.maximumf (F := Ideal) (φ := .f32)) x (constant S_ .f32 0xFF800000#32) reducesTo_S16x2048x2048_S16x2048_d2 h_S_
def expOf (x : FVec Ideal S16x2048x2048 .f32) : FVec Ideal S16x2048x2048 .f32 :=
  Host.exp (F := Ideal) (φ := .f32) (subf (F := Ideal) (φ := .f32) x (broadcastInDim S16x2048x2048 ![0, 1, 2] bcast_S16x2048x1_S16x2048x2048_0_1_2 (broadcastInDim S16x2048x1 ![0, 1] bcast_S16x2048_S16x2048x1_0_1 (topOf x))))
def sumOf (x : FVec Ideal S16x2048x2048 .f32) : FVec Ideal S16x2048 .f32 :=
  Host.reduceAdd (F := Ideal) (φ := .f32) (expOf x) (constant S_ .f32 0x00000000#32) reducesTo_S16x2048x2048_S16x2048_d2 h_S_
theorem stage30 : StableHlo.after (hostOps0_2 (F := Ideal)) U main_v30
    = broadcastInDim S16x2048x128 ![0, 1, 2] bcast_S16x2048x1_S16x2048x128_0_1_2 (broadcastInDim S16x2048x1 ![0, 1] bcast_S16x2048_S16x2048x1_0_1
      (addf (F := Ideal) (φ := .f32) (topOf (U main_v20)) (Host.log (F := Ideal) (φ := .f32) (sumOf (U main_v20))))) := by
  after_results
  rfl
end Stages

theorem scores12 : scores m c main_v12 = Cert.ReferenceFoxIdeal.Read.val_main_v14 (F := Ideal) (m ((c : Thread nD τ).loc main_arg0)) (m ((c : Thread nD τ).loc main_arg1)) (m ((c : Thread nD τ).loc main_arg3)) := rfl
theorem scores19 : scores m c main_v19 = Cert.ReferenceFoxIdeal.Read.val_main_v21 (F := Ideal) := rfl
theorem scores0 : scores m c main_cst_0 = (constant S_ .f32 0xFF800000#32 : FVec Ideal S_ .f32) := rfl
theorem masked20 : masked m c main_v20 = Cert.ReferenceFoxIdeal.Read.val_main_v22_0 (F := Ideal) (m ((c : Thread nD τ).loc main_arg0)) (m ((c : Thread nD τ).loc main_arg1)) (m ((c : Thread nD τ).loc main_arg3)) := by
  rw [masked, stage20, scores12, scores19, scores0]
  rfl
theorem top_masked (X Y Z) : topOf (Cert.ReferenceFoxIdeal.Read.val_main_v22_0 (F := Ideal) X Y Z) = Cert.ReferenceFoxIdeal.Read.val_main_v23 (F := Ideal) X Y Z := rfl

theorem exp_sub (x : FVec Ideal S16x2048x2048 .f32) (y : FVec Ideal S16x2048 .f32) (h : Fin 16) (T S : Fin 2048) :
    Host.exp (F := Ideal) (φ := .f32) (subf (F := Ideal) (φ := .f32) x (broadcastInDim S16x2048x2048 ![0, 1, 2] bcast_S16x2048x1_S16x2048x2048_0_1_2 (broadcastInDim S16x2048x1 ![0, 1] bcast_S16x2048_S16x2048x1_0_1 y))) (ix3 h T S)
      = Ideal.exp (x (ix3 h T S) - y (ix2 h T)) := by
  pointwise

theorem row_sum (x : FVec Ideal S16x2048x2048 .f32) (h : Fin 16) (T : Fin 2048) :
    Host.reduceAdd (F := Ideal) (φ := .f32) x (constant S_ .f32 0x00000000#32) reducesTo_S16x2048x2048_S16x2048_d2 h_S_ (ix2 h T) = ∑ k : Fin 2048, x (ix3 h T k) := by
  pointwise

theorem spread (x y : FVec Ideal S16x2048 .f32) (h : Fin 16) (T : Fin 2048) (l : Fin 128) :
    broadcastInDim S16x2048x128 ![0, 1, 2] bcast_S16x2048x1_S16x2048x128_0_1_2 (broadcastInDim S16x2048x1 ![0, 1] bcast_S16x2048_S16x2048x1_0_1 (addf (F := Ideal) (φ := .f32) x (Host.log (F := Ideal) (φ := .f32) y))) (ix3 h T l)
      = x (ix2 h T) + Ideal.log (y (ix2 h T)) := by
  pointwise

theorem expOf_at (h : Fin 16) (T S : Fin 2048) : expOf (Cert.ReferenceFoxIdeal.Read.val_main_v22_0 (F := Ideal) (R2 X0) (R2 X1) (RC C)) (ix3 h T S) = ((eF (zF X0 X1 C h.val) T.val S.val : ℝ) : EReal) := by
  rw [expOf, exp_sub, top_masked, zm_at, top_at, eF]
  by_cases hS : S.val ≤ T.val
  · rw [if_pos hS, if_pos hS, ← EReal.coe_sub, Ideal.exp_coe]
  · rw [if_neg hS, if_neg hS, EReal.bot_sub, Ideal.exp_bot]; rfl

theorem sumOf_at (h : Fin 16) (T : Fin 2048) : sumOf (Cert.ReferenceFoxIdeal.Read.val_main_v22_0 (F := Ideal) (R2 X0) (R2 X1) (RC C)) (ix2 h T) = ((lF (zF X0 X1 C h.val) T.val : ℝ) : EReal) := by
  rw [sumOf, row_sum]
  exact (Finset.sum_congr rfl fun k _ => expOf_at X0 X1 C h T k).trans (sum_fin fun k => eF (zF X0 X1 C h.val) T.val k)

include e0 e1 e3 in
theorem V30 (h : Fin 16) (T : Fin 2048) (l : Fin 128) : V m c main_v30 (ix3 h T l) = ((stF (zF X0 X1 C h.val) T.val : ℝ) : EReal) := by
  rw [V_masked, stage30, masked20, e0, e1, e3]
  refine (spread _ _ h T l).trans ?_
  rw [sumOf_at, top_masked, top_at, Ideal.log_coe, if_neg (not_le.2 (lF_pos _ T.isLt)), ← EReal.coe_add, stF]

/-- The array of queries, keys and values. -/
theorem cat3 (T : Fin 2048) (l : Fin 3072) :
    truncf (F := Ideal) (φ := .f32) .bf16 (concatenate S2048x3072 1 [⟨S2048x1024, R2 X0⟩, ⟨S2048x1024, R2 X1⟩, ⟨S2048x1024, R2 X2⟩] concatenates_S2048x1024_S2048x1024_S2048x1024_S2048x3072_d1) bitsLt_bf16_f32 (ix2 T l)
      = (((if l.val < 1024 then X0 T.val l.val else if l.val < 2048 then X1 T.val (l.val - 1024) else X2 T.val (l.val - 2048) : ℝ)) : EReal) := by
  rw [apply_ite Real.toEReal, apply_ite Real.toEReal]
  pointwise
  split_ifs <;> first
    | (exfalso; omega)
    | rfl
    | exact (if_pos (show l.val < 2048 by omega)).symm
    | exact (congrArg (fun x => ((X2 T.val x : ℝ) : EReal)) (show l.val - 1024 - 1024 = l.val - 2048 by omega)).trans (if_neg (show ¬ l.val < 2048 by omega)).symm

include e0 e1 e2 in
theorem V32 (T : Fin 2048) (l : Fin 3072) : V m c main_v32 (ix2 T l)
    = (((if l.val < 1024 then X0 T.val l.val else if l.val < 2048 then X1 T.val (l.val - 1024) else X2 T.val (l.val - 2048) : ℝ)) : EReal) := by
  rw [← cat3, ← e0, ← e1, ← e2]; rfl

include e3 in
theorem V34 (h : Fin 16) (T : Fin 2048) (l : Fin 128) : V m c main_v34 (ix3 h T l) = ((C h.val T.val : ℝ) : EReal) := by
  have e : V m c main_v34 = broadcastInDim S16x2048x128 ![0, 1, 2] bcast_S16x2048x1_S16x2048x128_0_1_2 (broadcastInDim S16x2048x1 ![0, 1] bcast_S16x2048_S16x2048x1_0_1 (m ((c : Thread nD τ).loc main_arg3))) := rfl
  rw [e, e3]
  pointwise
  rfl

theorem pairs (x : FVec Ideal S16x2048 .f32) (p : Fin 8) (a : Fin 2) (T : Fin 2048) (h : p.val * 2 + a.val < 16) :
    shapeCast S8x2x2048 x shapeCasts_S16x2048_S8x2x2048 (ix3 p a T) = x (ix2 ⟨p.val * 2 + a.val, h⟩ T) := by
  pointwise

include e3 in
theorem V35 (p : Fin 8) (a : Fin 2) (T : Fin 2048) : V m c main_v35 (ix3 p a T) = ((C (2 * p.val + a.val) T.val : ℝ) : EReal) := by
  have e : V m c main_v35 = shapeCast S8x2x2048 (m ((c : Thread nD τ).loc main_arg3)) shapeCasts_S16x2048_S8x2x2048 := rfl
  rw [e, e3, pairs _ p a T (by omega), mul_comm 2]
  rfl

theorem idx : ∀ t : Fin cfg0.N, win0_0.index t = ![t.val % 4, t.val / 4] ∧ win0_1.index t = ![0, 8 + t.val / 4] ∧ win0_2.index t = ![0, 16 + t.val / 4]
    ∧ win0_3.index t = ![t.val % 4, t.val / 4] ∧ win0_4.index t = ![t.val / 4, t.val % 4, 0] ∧ win0_5.index t = ![t.val / 4, t.val % 4, 0] ∧ win0_6.index t = ![t.val / 4, 0, 0] := (by decide +kernel : ∀ t : Fin grid0.N, _)

variable (t : Fin cfg0.N)
theorem wide4_at (A : FVec Ideal S16x2048x128 .f32) (a : Fin 2) (r : Fin 512) (l : Fin 128) (h : t.val / 4 * 2 + a.val < 16) (h' : t.val % 4 * 512 + r.val < 2048) :
    ((cfg0.win 4).blk t).view.read (Elt Ideal) A (ix3 a r l) = A (ix3 ⟨t.val / 4 * 2 + a.val, h⟩ ⟨t.val % 4 * 512 + r.val, h'⟩ l) :=
  congrArg A (by blk_ext [idx t])
theorem wide5_at (A : FVec Ideal S16x2048x128 .f32) (a : Fin 2) (r : Fin 512) (l : Fin 128) (h : t.val / 4 * 2 + a.val < 16) (h' : t.val % 4 * 512 + r.val < 2048) :
    ((cfg0.win 5).blk t).view.read (Elt Ideal) A (ix3 a r l) = A (ix3 ⟨t.val / 4 * 2 + a.val, h⟩ ⟨t.val % 4 * 512 + r.val, h'⟩ l) :=
  congrArg A (by blk_ext [idx t])
theorem t_lt (t : Fin cfg0.N) : t.val < 32 := t.isLt

include e0 e1 e2 in
theorem ld0 : iblk m c 0 t = (lift (φ := .bf16) (fun r l => X0 (512 * (t.val % 4) + r) (128 * (t.val / 4) + l)) : Vec Ideal S512x128 .bf16) :=
  eq_lift (φ := .bf16) fun r l => by
    have ht := t_lt t
    refine Eq.trans (b := V m c main_v32 (ix2 ⟨(t.val % 4) * 512 + r.val, by omega⟩ ⟨(t.val / 4) * 128 + l.val, by omega⟩)) (congrArg (V m c main_v32) (by blk_ext [idx t])) ?_
    rw [V32 m c X0 X1 X2 e0 e1 e2, if_pos (by show (t.val / 4) * 128 + l.val < 1024; omega)]
    exact congrArg₂ (fun x y => ((X0 x y : ℝ) : EReal)) (by show (t.val % 4) * 512 + r.val = _; omega) (by show (t.val / 4) * 128 + l.val = _; omega)

include e0 e1 e2 in
theorem ld1 : iblk m c 1 t = (lift (φ := .bf16) (cols X1 (t.val / 4)) : Vec Ideal S2048x128 .bf16) :=
  eq_lift (φ := .bf16) fun r l => by
    have ht := t_lt t
    refine Eq.trans (b := V m c main_v32 (ix2 r ⟨(8 + t.val / 4) * 128 + l.val, by omega⟩)) (congrArg (V m c main_v32) (by blk_ext [idx t])) ?_
    have h1 : (8 + t.val / 4) * 128 + l.val - 1024 = 128 * (t.val / 4) + l.val := by omega
    rw [V32 m c X0 X1 X2 e0 e1 e2]
    dsimp only
    rw [if_neg (by omega), if_pos (by omega), h1, cols]

include e0 e1 e2 in
theorem ld2 : iblk m c 2 t = (lift (φ := .bf16) (cols X2 (t.val / 4)) : Vec Ideal S2048x128 .bf16) :=
  eq_lift (φ := .bf16) fun r l => by
    have ht := t_lt t
    refine Eq.trans (b := V m c main_v32 (ix2 r ⟨(16 + t.val / 4) * 128 + l.val, by omega⟩)) (congrArg (V m c main_v32) (by blk_ext [idx t])) ?_
    have h1 : (16 + t.val / 4) * 128 + l.val - 2048 = 128 * (t.val / 4) + l.val := by omega
    rw [V32 m c X0 X1 X2 e0 e1 e2]
    dsimp only
    rw [if_neg (by omega), if_neg (by omega), h1, cols]

include e4 in
theorem ld3 : iblk m c 3 t = (lift (φ := .f32) (fun r l => X4 (512 * (t.val % 4) + r) (128 * (t.val / 4) + l)) : Vec Ideal S512x128 .f32) :=
  eq_lift (φ := .f32) fun r l => by
    have ht := t_lt t
    refine Eq.trans (b := V m c main_arg4 (ix2 ⟨(t.val % 4) * 512 + r.val, by omega⟩ ⟨(t.val / 4) * 128 + l.val, by omega⟩)) (congrArg (V m c main_arg4) (by blk_ext [idx t])) ?_
    rw [V_main_arg4, e4]
    exact congrArg₂ (fun x y => ((X4 x y : ℝ) : EReal)) (by show (t.val % 4) * 512 + r.val = _; omega) (by show (t.val / 4) * 128 + l.val = _; omega)

include e0 e1 e3 in
theorem ld4 (a : Fin 2) (r : Fin 512) (l : Fin 128) : (iblk m c 4 t : Vec Ideal S2x512x128 .f32) (ix3 a r l) = ((stP X0 X1 C (t.val / 4) a.val (512 * (t.val % 4) + r.val) : ℝ) : EReal) := by
  have ht := t_lt t
  refine Eq.trans (b := V m c main_v30 (ix3 ⟨(t.val / 4) * 2 + a.val, by omega⟩ ⟨(t.val % 4) * 512 + r.val, by omega⟩ l)) (wide4_at t (V m c main_v30) a r l _ _) ?_
  rw [V30 m c X0 X1 C e0 e1 e3]
  exact congrArg₂ (fun x y => ((stF (zF X0 X1 C x) y : ℝ) : EReal)) (by show (t.val / 4) * 2 + a.val = _; omega) (by show (t.val % 4) * 512 + r.val = _; omega)

include e3 in
theorem ld5 (a : Fin 2) (r : Fin 512) (l : Fin 128) : (iblk m c 5 t : Vec Ideal S2x512x128 .f32) (ix3 a r l) = ((gateP C (t.val / 4) a.val (512 * (t.val % 4) + r.val) : ℝ) : EReal) := by
  have ht := t_lt t
  refine Eq.trans (b := V m c main_v34 (ix3 ⟨(t.val / 4) * 2 + a.val, by omega⟩ ⟨(t.val % 4) * 512 + r.val, by omega⟩ l)) (wide5_at t (V m c main_v34) a r l _ _) ?_
  rw [V34 m c C e3]
  exact congrArg₂ (fun x y => ((C x y : ℝ) : EReal)) (by show (t.val / 4) * 2 + a.val = _; omega) (by show (t.val % 4) * 512 + r.val = _; omega)

include e3 in
theorem ld6 : (iblk m c 6 t : Vec Ideal S1x2x2048 .f32) = duo (gateP C (t.val / 4)) := funext fun j => by
  have ht := t_lt t
  rw [eq_ix3 j]
  refine Eq.trans (b := V m c main_v35 (ix3 ⟨t.val / 4, by omega⟩ (j 1) (j 2))) (congrArg (V m c main_v35) (by blk_ext [idx t])) ?_
  exact V35 m c C e3 _ (j 1) (j 2)

variable (b p : ℕ)
theorem q_first : k0_pay72 (lift (φ := .bf16) (fun r l => X0 (512 * b + r) (128 * p + l)) : Vec Ideal S512x128 .bf16) = lift fun r l => first (eighth X0) p (512 * b + r) l :=
  eq_lift fun r l => by
    pointwise [k0_pay72, k0_pay69, k0_pay70, lift]
    rw [slt64, first]
    split <;> simp [Scalar.select, eighth, ofBits_eighth]

theorem q_second : k0_pay73 (lift (φ := .bf16) (fun r l => X0 (512 * b + r) (128 * p + l)) : Vec Ideal S512x128 .bf16) = lift fun r l => second (eighth X0) p (512 * b + r) l :=
  eq_lift fun r l => by
    pointwise [k0_pay73, k0_pay69, k0_pay71, lift]
    rw [sge64, second]
    split <;> simp [Scalar.select, eighth, ofBits_eighth]

theorem d_first : k0_pay74 (lift (φ := .f32) (fun r l => X4 (512 * b + r) (128 * p + l)) : Vec Ideal S512x128 .f32) = lift fun r l => first X4 p (512 * b + r) l :=
  eq_lift fun r l => by
    pointwise [k0_pay74, k0_pay70, lift]
    rw [slt64, first]
    split <;> simp [Scalar.select]

theorem d_second : k0_pay75 (lift (φ := .f32) (fun r l => X4 (512 * b + r) (128 * p + l)) : Vec Ideal S512x128 .f32) = lift fun r l => second X4 p (512 * b + r) l :=
  eq_lift fun r l => by
    pointwise [k0_pay75, k0_pay71, lift]
    rw [sge64, second]
    split <;> simp [Scalar.select]

theorem win_first (x : Vec Ideal S2x512x128 .f32) (r : Fin 512) (l : Fin 128) : VecWindow.window x ![0, 0, 0] ![1, 512, 128] one_inb0 (ix3 0 r l) = x (ix3 0 r l) :=
  congrArg x (funext fun a => Fin.ext (by
    match a with
    | ⟨0, _⟩ => rfl
    | ⟨1, _⟩ => show 0 + 1 * r.val = r.val; omega
    | ⟨2, _⟩ => show 0 + 1 * l.val = l.val; omega))

theorem win_second (x : Vec Ideal S2x512x128 .f32) (r : Fin 512) (l : Fin 128) : VecWindow.window x ![1, 0, 0] ![1, 512, 128] one_inb1 (ix3 0 r l) = x (ix3 1 r l) :=
  congrArg x (funext fun a => Fin.ext (by
    match a with
    | ⟨0, _⟩ => rfl
    | ⟨1, _⟩ => show 0 + 1 * r.val = r.val; omega
    | ⟨2, _⟩ => show 0 + 1 * l.val = l.val; omega))

section Wide
variable (x : Vec Ideal S2x512x128 .f32) (f : ℕ → ℕ → ℝ) (hx : ∀ a r l, x (ix3 a r l) = ((f a.val r.val : ℝ) : EReal))
include hx
theorem st_first : k0_pay76 (VecWindow.window x ![0, 0, 0] S1x512x128.size one_inb0) = lift fun r _ => f 0 r :=
  eq_lift fun r l => by
    pointwise [k0_pay76]
    split_ifs <;> exact (win_first x _ _).trans (hx 0 _ _)
theorem st_second : k0_pay77 (VecWindow.window x ![1, 0, 0] S1x512x128.size one_inb1) = lift fun r _ => f 1 r :=
  eq_lift fun r l => by
    pointwise [k0_pay77]
    split_ifs <;> exact (win_second x _ _).trans (hx 1 _ _)
theorem fq_first : wide4 (VecWindow.window x ![0, 0, 0] S1x512x128.size one_inb0) = lift fun r _ => f 0 r := st_first x f hx
theorem fq_second : wide4 (VecWindow.window x ![1, 0, 0] S1x512x128.size one_inb1) = lift fun r _ => f 1 r := st_second x f hx
end Wide

include e0 e1 e2 e3 e4 in
theorem blocks : Blocks m c t (first (eighth X0) (t.val / 4)) (first X4 (t.val / 4)) (second (eighth X0) (t.val / 4)) (second X4 (t.val / 4)) (cols X1 (t.val / 4)) (cols X2 (t.val / 4))
    (gateP C (t.val / 4)) (stP X0 X1 C (t.val / 4)) where
  h0 := by
    rw [ld0 m c X0 X1 X2 e0 e1 e2, ld3 m c X4 e4]
    exact ⟨q_first X0 _ _, d_first X4 _ _, st_first _ (fun a r => stP X0 X1 C (t.val / 4) a (512 * (t.val % 4) + r)) (ld4 m c X0 X1 C e0 e1 e3 t), fq_first _ (fun a r => gateP C (t.val / 4) a (512 * (t.val % 4) + r)) (ld5 m c C e3 t)⟩
  h1 := by
    rw [ld0 m c X0 X1 X2 e0 e1 e2, ld3 m c X4 e4]
    exact ⟨q_second X0 _ _, d_second X4 _ _, st_second _ (fun a r => stP X0 X1 C (t.val / 4) a (512 * (t.val % 4) + r)) (ld4 m c X0 X1 C e0 e1 e3 t), fq_second _ (fun a r => gateP C (t.val / 4) a (512 * (t.val % 4) + r)) (ld5 m c C e3 t)⟩
  k := ld1 m c X0 X1 X2 e0 e1 e2 t
  v := ld2 m c X0 X1 X2 e0 e1 e2 t
  w := ld6 m c C e3 t

end Cert.KernelFoxIdeal.Grad

end
-- ==== Proof.FoxFin.lean ====
module

public import proofs.«01_k».proof.Proof.FoxHost

@[expose] public section

set_option maxRecDepth 16384

noncomputable section

open Idealize.ShloMosaic Idealize.ShloMosaic.TcCoe Idealize.SL.Sem

namespace Cert.KernelFoxIdeal.Grad
open Cert.KernelFoxIdeal Cert.KernelFoxIdeal.Gen Cert.Finite
open Cert.KernelSbIdeal.Grad (lift lift_ix eq_lift zz cols first second eighth slt64 glue_all zz_first zz_second)
open Cert.ReferenceSbIdeal.Grad (zH pH ofBits_eighth)
open Cert.ReferenceFoxIdeal.Grad (R2 RC zF stF wF dF dqF dkF dvF dcF dq_at dk_at dv_at)

theorem pp_eq {Q K : ℕ → ℕ → ℝ} {c st : ℕ → ℝ} {Z : ℕ → ℕ → ℝ} (hz : ∀ T S, zz Q K T S + c T - c S = Z T S) (hs : ∀ T, st T = stF Z T) (T S : ℕ) : pp Q K c st T S = wF Z T S := by
  rw [pp, hz, hs]; rfl

theorem dss_eq {Q D K V : ℕ → ℕ → ℝ} {c st : ℕ → ℝ} {Z P : ℕ → ℕ → ℝ} (hz : ∀ T S, zz Q K T S + c T - c S = Z T S) (hs : ∀ T, st T = stF Z T) (hp : ∀ T S, zz D V T S = P T S)
    {b T : ℕ} (hb : b < 4) (hT : T < 512 * (b + 1)) (S : ℕ) : dss Q D K V c st b T S = dF Z P T S := by
  have e : ∑ k ∈ Finset.range (512 * (b + 1)), pd Q D K V c st T k = ∑ k ∈ Finset.range 2048, wF Z T k * P T k := by
    refine (Finset.sum_subset (Finset.range_subset_range.2 (show 512 * (b + 1) ≤ 2048 by omega)) fun k _ hk => ?_).trans (Finset.sum_congr rfl fun k _ => by rw [pd, pp_eq hz hs, hp])
    have hk' := Finset.mem_range.not.1 hk
    rw [pd, pp_zero (by omega), zero_mul]
  rw [dss, e, pp_eq hz hs, hp, dF]

theorem glue4 {F : ℕ → ℕ → ℝ} {f : ℕ → ℝ} (h : ∀ b < 4, ∀ r < 512, F b r = f (512 * b + r)) : ∑ b ∈ Finset.range 4, ∑ r ∈ Finset.range 512, F b r = ∑ T ∈ Finset.range 2048, f T :=
  (Finset.sum_congr rfl fun b hb => Finset.sum_congr rfl fun r hr => h b (Finset.mem_range.1 hb) r (Finset.mem_range.1 hr)).trans (glue_all f 4)

variable (X0 X1 X2 C X4 : ℕ → ℕ → ℝ) (p : ℕ)

/-- Pair `p`'s weights and cotangents. -/
abbrev PP : ℕ → ℕ → ℕ → ℝ := pT (first (eighth X0) p) (second (eighth X0) p) (cols X1 p) (gateP C p) (stP X0 X1 C p)
abbrev GP : ℕ → ℕ → ℕ → ℕ → ℝ := gT (first (eighth X0) p) (first X4 p) (second (eighth X0) p) (second X4 p) (cols X1 p) (cols X2 p) (gateP C p) (stP X0 X1 C p)

theorem z_first (T S : ℕ) : zz (first (eighth X0) p) (cols X1 p) T S + gateP C p 0 T - gateP C p 0 S = zF X0 X1 C (2 * p) T S := by
  rw [zz_first]; rfl
theorem z_second (T S : ℕ) : zz (second (eighth X0) p) (cols X1 p) T S + gateP C p 1 T - gateP C p 1 S = zF X0 X1 C (2 * p + 1) T S := by
  rw [zz_second]; rfl

theorem PP_first (T S : ℕ) : PP X0 X1 C p 0 T S = wF (zF X0 X1 C (2 * p)) T S := pp_eq (z_first X0 X1 C p) (fun _ => rfl) T S
theorem PP_second (T S : ℕ) : PP X0 X1 C p 1 T S = wF (zF X0 X1 C (2 * p + 1)) T S := pp_eq (z_second X0 X1 C p) (fun _ => rfl) T S

variable {b r : ℕ} (hb : b < 4) (hr : r < 512)
include hb hr
theorem GP_first (S : ℕ) : GP X0 X1 X2 C X4 p b 0 (512 * b + r) S = dF (zF X0 X1 C (2 * p)) (pH X4 X2 (2 * p)) (512 * b + r) S :=
  dss_eq (z_first X0 X1 C p) (fun _ => rfl) (fun T S => zz_first p X4 X2 T S) hb (by omega) S
theorem GP_second (S : ℕ) : GP X0 X1 X2 C X4 p b 1 (512 * b + r) S = dF (zF X0 X1 C (2 * p + 1)) (pH X4 X2 (2 * p + 1)) (512 * b + r) S :=
  dss_eq (z_second X0 X1 C p) (fun _ => rfl) (fun T S => zz_second p X4 X2 T S) hb (by omega) S
omit hb hr

theorem dk_sum (S l : ℕ) (hl : l < 128) : prS (GP X0 X1 X2 C X4 p) (first (eighth X0) p) (second (eighth X0) p) 4 S l = dkF X0 X1 X2 C X4 S (128 * p + l) := by
  simp only [prS, prC, Finset.sum_add_distrib]
  rw [glue4 (f := fun T => dF (zF X0 X1 C (2 * p)) (pH X4 X2 (2 * p)) T S * first (eighth X0) p T l) fun b hb r hr => by rw [GP_first X0 X1 X2 C X4 p hb hr],
    glue4 (f := fun T => dF (zF X0 X1 C (2 * p + 1)) (pH X4 X2 (2 * p + 1)) T S * second (eighth X0) p T l) fun b hb r hr => by rw [GP_second X0 X1 X2 C X4 p hb hr]]
  rw [dkF]
  by_cases h : l < 64
  · rw [show (128 * p + l) / 64 = 2 * p by omega]
    simp only [first, second, if_pos h, mul_zero, Finset.sum_const_zero, add_zero]; rfl
  · rw [show (128 * p + l) / 64 = 2 * p + 1 by omega]
    simp only [first, second, if_neg h, mul_zero, Finset.sum_const_zero, zero_add]; rfl

theorem dv_sum (S l : ℕ) (hl : l < 128) : prS (fun _ => PP X0 X1 C p) (first X4 p) (second X4 p) 4 S l = dvF X0 X1 C X4 S (128 * p + l) := by
  simp only [prS, prC, Finset.sum_add_distrib]
  rw [glue4 (f := fun T => wF (zF X0 X1 C (2 * p)) T S * first X4 p T l) fun b hb r hr => by rw [PP_first],
    glue4 (f := fun T => wF (zF X0 X1 C (2 * p + 1)) T S * second X4 p T l) fun b hb r hr => by rw [PP_second]]
  rw [dvF]
  by_cases h : l < 64
  · rw [show (128 * p + l) / 64 = 2 * p by omega]
    simp only [first, second, if_pos h, mul_zero, Finset.sum_const_zero, add_zero]
  · rw [show (128 * p + l) / 64 = 2 * p + 1 by omega]
    simp only [first, second, if_neg h, mul_zero, Finset.sum_const_zero, zero_add]

theorem df_sum (a : Fin 2) (S : ℕ) : dfS (GP X0 X1 X2 C X4 p) 4 a.val S = dcF X0 X1 X2 C X4 (2 * p + a.val) S := by
  rw [dfS, dcF]
  refine congrArg Neg.neg (glue4 fun b hb r hr => ?_)
  match a with
  | ⟨0, _⟩ => exact GP_first X0 X1 X2 C X4 p hb hr S
  | ⟨1, _⟩ => exact GP_second X0 X1 X2 C X4 p hb hr S

/-- Only keys up to the query have a part. -/
theorem upto (f : ℕ → ℝ) {b T : ℕ} (hb : b < 4) (hT : T < 512 * (b + 1)) (Z P : ℕ → ℕ → ℝ) :
    ∑ S ∈ Finset.range (512 * (b + 1)), dF Z P T S * f S = ∑ S ∈ Finset.range 2048, dF Z P T S * f S :=
  Finset.sum_subset (Finset.range_subset_range.2 (by omega)) fun S _ hS => by
    have hS' := Finset.mem_range.not.1 hS
    rw [dF, wF, if_neg (by omega), zero_mul, zero_mul]

theorem dqOf_at (s : St Ideal) (A B : ℕ → ℕ → ℝ) (hs : s.1 = ((lift (φ := .f32) A : FVec Ideal S512x128 .f32), (lift (φ := .f32) B : FVec Ideal S512x128 .f32))) (r : Fin 512) (l : Fin 128) :
    dqOf s (ix2 r l) = (((if l.val < 64 then A r.val l.val else B r.val l.val) * (1 / 8) : ℝ) : EReal) := by
  rw [dqOf, hs]
  pointwise [k0_pay100, k0_pay70]
  rw [slt64, ofBits_eighth, lift_ix, lift_ix]
  split <;> simp [Scalar.select]

/-- A query block's gradient, the heads put side by side. -/
theorem dq_block (l : ℕ) (hb : b < 4) (hr : r < 512) (hl : l < 128) :
    (if l < 64 then ∑ S ∈ Finset.range (512 * (b + 1)), GP X0 X1 X2 C X4 p b 0 (512 * b + r) S * cols X1 p S l else ∑ S ∈ Finset.range (512 * (b + 1)), GP X0 X1 X2 C X4 p b 1 (512 * b + r) S * cols X1 p S l) * (1 / 8)
      = dqF X0 X1 X2 C X4 (512 * b + r) (128 * p + l) := by
  simp only [GP_first X0 X1 X2 C X4 p hb hr, GP_second X0 X1 X2 C X4 p hb hr]
  rw [upto _ hb (by omega), upto _ hb (by omega), dqF]
  by_cases h : l < 64
  · rw [if_pos h, show (128 * p + l) / 64 = 2 * p by omega]; rfl
  · rw [if_neg h, show (128 * p + l) / 64 = 2 * p + 1 by omega]; rfl

variable (m : (ℓ : Loc nD τ sig) → Buf (Elt Ideal) ℓ) (c : Dev nD)
    (e0 : m ((c : Thread nD τ).loc main_arg0) = R2 X0) (e1 : m ((c : Thread nD τ).loc main_arg1) = R2 X1)
    (e2 : m ((c : Thread nD τ).loc main_arg2) = R2 X2) (e3 : m ((c : Thread nD τ).loc main_arg3) = RC C) (e4 : m ((c : Thread nD τ).loc main_arg4) = R2 X4)

theorem idxO : ∀ t : Fin cfg0.N, win0_7.index t = ![t.val % 4, t.val / 4] ∧ win0_8.index t = ![0, t.val / 4] ∧ win0_9.index t = ![0, t.val / 4] ∧ win0_10.index t = ![t.val / 4, 0, 0] :=
  (by decide +kernel : ∀ t : Fin grid0.N, _)

include e0 e1 e2 e3 e4

theorem outs (t : Fin cfg0.N) : stAt m c t.val t.isLt
    = (dqR (first (eighth X0) (t.val / 4)) (first X4 (t.val / 4)) (second (eighth X0) (t.val / 4)) (second X4 (t.val / 4)) (cols X1 (t.val / 4)) (cols X2 (t.val / 4)) (gateP C (t.val / 4)) (stP X0 X1 C (t.val / 4)) (t.val % 4),
       stR' (first (eighth X0) (t.val / 4)) (first X4 (t.val / 4)) (second (eighth X0) (t.val / 4)) (second X4 (t.val / 4)) (cols X1 (t.val / 4)) (cols X2 (t.val / 4)) (gateP C (t.val / 4)) (stP X0 X1 C (t.val / 4)) (t.val % 4 + 1)) :=
  outs_lift m c (Q0 := first (eighth X0)) (D0 := first X4) (Q1 := second (eighth X0)) (D1 := second X4) (K := cols X1) (V := cols X2) (W := gateP C) (st := stP X0 X1 C) (blocks m c X0 X1 X2 C X4 e0 e1 e2 e3 e4) t rfl rfl

theorem final7 : (dats m 0 c).arrAt 7 (cfgs 0).N = Cert.ReferenceFoxIdeal.Read.val_main_v90 (F := Ideal) (R2 X0) (R2 X1) (R2 X2) (RC C) (R2 X4) := by
  refine (dats m 0 c).arrAt_eq_of_covers 7 _ (by decide +kernel) fun t _ y => ?_
  have ht := t_lt t
  have he : ((cfg0.win 7).blk t).view.emb y = ix2 (⟨512 * (t.val % 4) + (y 0).val, by have : (y 0).val < 512 := (y 0).isLt; omega⟩ : Fin 2048) (⟨128 * (t.val / 4) + (y 1).val, by have : (y 1).val < 128 := (y 1).isLt; omega⟩ : Fin 1024) := by blk_ext [idxO t]
  have E := outs X0 X1 X2 C X4 m c e0 e1 e2 e3 e4 t
  blk_simp
  rw [after_7]
  refine Eq.trans ?_ (congrArg (Cert.ReferenceFoxIdeal.Read.val_main_v90 (F := Ideal) _ _ _ _ _) he.symm)
  refine Eq.trans (congrArg (dqOf (stAt m c t.val t.isLt)) (eq_ix2 y)) ?_
  rw [dq_at]
  refine (dqOf_at _ _ _ (congrArg Prod.fst E) (y 0) (y 1)).trans ?_
  exact congrArg (fun x : ℝ => (x : EReal)) (dq_block X0 X1 X2 C X4 (t.val / 4) (y 1).val (by omega) (y 0).isLt (y 1).isLt)

theorem final8 : (dats m 0 c).arrAt 8 (cfgs 0).N = Cert.ReferenceFoxIdeal.Read.val_main_v91 (F := Ideal) (R2 X0) (R2 X1) (R2 X2) (RC C) (R2 X4) := by
  refine (dats m 0 c).arrAt_eq_of_covers 8 _ (by decide +kernel) fun t hf y => ?_
  have ht := t_lt t
  have h3 : t.val % 4 = 3 := (flush0_8 t).1 hf
  have he : ((cfg0.win 8).blk t).view.emb y = ix2 (y 0 : Fin 2048) (⟨128 * (t.val / 4) + (y 1).val, by have : (y 1).val < 128 := (y 1).isLt; omega⟩ : Fin 1024) := by blk_ext [idxO t]
  have E := outs X0 X1 X2 C X4 m c e0 e1 e2 e3 e4 t
  rw [h3] at E
  blk_simp
  rw [after_8]
  refine Eq.trans ?_ (congrArg (Cert.ReferenceFoxIdeal.Read.val_main_v91 (F := Ideal) _ _ _ _ _) he.symm)
  refine Eq.trans ?_ (dk_at ..).symm
  refine (congrFun (congrArg (fun s : St Ideal => s.2.2.1) E) y).trans ?_
  exact congrArg (fun x : ℝ => (x : EReal)) (dk_sum X0 X1 X2 C X4 (t.val / 4) (y 0).val (y 1).val (y 1).isLt)

theorem final9 : (dats m 0 c).arrAt 9 (cfgs 0).N = Cert.ReferenceFoxIdeal.Read.val_main_v92 (F := Ideal) (R2 X0) (R2 X1) (RC C) (R2 X4) := by
  refine (dats m 0 c).arrAt_eq_of_covers 9 _ (by decide +kernel) fun t hf y => ?_
  have ht := t_lt t
  have h3 : t.val % 4 = 3 := (flush0_9 t).1 hf
  have he : ((cfg0.win 9).blk t).view.emb y = ix2 (y 0 : Fin 2048) (⟨128 * (t.val / 4) + (y 1).val, by have : (y 1).val < 128 := (y 1).isLt; omega⟩ : Fin 1024) := by blk_ext [idxO t]
  have E := outs X0 X1 X2 C X4 m c e0 e1 e2 e3 e4 t
  rw [h3] at E
  blk_simp
  rw [after_9]
  refine Eq.trans ?_ (congrArg (Cert.ReferenceFoxIdeal.Read.val_main_v92 (F := Ideal) _ _ _ _) he.symm)
  refine Eq.trans ?_ (dv_at ..).symm
  refine (congrFun (congrArg (fun s : St Ideal => s.2.2.2) E) y).trans ?_
  exact congrArg (fun x : ℝ => (x : EReal)) (dv_sum X0 X1 C X4 (t.val / 4) (y 0).val (y 1).val (y 1).isLt)

theorem final10 : (dats m 0 c).arrAt 10 (cfgs 0).N = Cert.ReferenceFoxIdeal.Read.val_main_v93 (F := Ideal) (R2 X0) (R2 X1) (R2 X2) (RC C) (R2 X4) := by
  refine (dats m 0 c).arrAt_eq_of_covers 10 _ (by decide +kernel) fun t hf y => ?_
  have ht := t_lt t
  have h3 : t.val % 4 = 3 := (flush0_10 t).1 hf
  have he : ((cfg0.win 10).blk t).view.emb y = ix3 (⟨t.val / 4, by omega⟩ : Fin 8) (y 1 : Fin 2) (y 2 : Fin 2048) := by blk_ext [idxO t]
  have E := outs X0 X1 X2 C X4 m c e0 e1 e2 e3 e4 t
  rw [h3] at E
  blk_simp
  rw [after_10]
  refine Eq.trans ?_ (congrArg (Cert.ReferenceFoxIdeal.Read.val_main_v93 (F := Ideal) _ _ _ _ _) he.symm)
  refine Eq.trans ?_ (Cert.ReferenceFoxIdeal.Grad.df_at ..).symm
  refine (congrFun (congrArg (fun s : St Ideal => s.2.1) E) y).trans ?_
  exact congrArg (fun x : ℝ => (x : EReal)) (df_sum X0 X1 X2 C X4 (t.val / 4) (y 1) (y 2).val)

end Cert.KernelFoxIdeal.Grad

end
-- ==== Proof.FoxClaim.lean ====
module

public import proofs.«01_k».proof.Defs
public import proofs.«01_k».proof.Proof.FoxFin
public import proofs.«01_k».proof.Proof.Finite
public import proofs.«01_k».proof.Proof.Gen.Pre_finite_fox

@[expose] public section

set_option maxRecDepth 16384

noncomputable section

open Idealize.ShloMosaic Idealize.ShloMosaic.TcCoe Idealize.SL.Sem
open Idealize.ShloMosaic.Pipeline (Dat)

namespace Cert.KernelFoxIdeal.Grad
open Cert.KernelFoxIdeal Cert.KernelFoxIdeal.Gen Cert.Finite
open Cert.ReferenceFoxIdeal.Grad (R2 RC)

/-- Arrays of reals, read at pairs of natural numbers. -/
theorem table (X : S2048x1024.Idx → ℝ) : ∃ Y : ℕ → ℕ → ℝ, (fun i => (X i : EReal)) = R2 Y :=
  ⟨fun a b => if h : a < 2048 ∧ b < 1024 then X (ix2 ⟨a, h.1⟩ ⟨b, h.2⟩) else 0, funext fun i => by
    have h : (i 0).val < 2048 ∧ (i 1).val < 1024 := ⟨(i 0).isLt, (i 1).isLt⟩
    show ((X i : ℝ) : EReal) = ((dite ((i 0).val < 2048 ∧ (i 1).val < 1024) _ _ : ℝ) : EReal)
    rw [dif_pos h]
    exact congrArg (fun j => (X j : EReal)) (eq_ix2 i)⟩

theorem gate_table (X : S16x2048.Idx → ℝ) : ∃ Y : ℕ → ℕ → ℝ, (fun i => (X i : EReal)) = RC Y :=
  ⟨fun a b => if h : a < 16 ∧ b < 2048 then X (ix2 ⟨a, h.1⟩ ⟨b, h.2⟩) else 0, funext fun i => by
    have h : (i 0).val < 16 ∧ (i 1).val < 2048 := ⟨(i 0).isLt, (i 1).isLt⟩
    show ((X i : ℝ) : EReal) = ((dite ((i 0).val < 16 ∧ (i 1).val < 2048) _ _ : ℝ) : EReal)
    rw [dif_pos h]
    exact congrArg (fun j => (X j : EReal)) (eq_ix2 i)⟩

/-- Finite arguments are tables of reals. -/
theorem lifts (m : (ℓ : Loc nD τ sig) → Buf (Elt Ideal) ℓ) (h : Cert.Pre_KernelFoxIdeal_finite_fox m) (c : Dev nD) :
    ∃ X0 X1 X2 C X4 : ℕ → ℕ → ℝ, m ((c : Thread nD τ).loc main_arg0) = R2 X0 ∧ m ((c : Thread nD τ).loc main_arg1) = R2 X1
      ∧ m ((c : Thread nD τ).loc main_arg2) = R2 X2 ∧ m ((c : Thread nD τ).loc main_arg3) = RC C ∧ m ((c : Thread nD τ).loc main_arg4) = R2 X4 := by
  haveI : Subsingleton Cert.Pre_finite_fox.S_.Idx := ⟨fun a b => funext fun i => i.elim0⟩
  have h1 := congrFun (h c) ix0
  obtain ⟨h1, a4⟩ := and_one h1
  obtain ⟨h1, a3⟩ := and_one h1
  obtain ⟨h1, a2⟩ := and_one h1
  obtain ⟨h1, a1⟩ := and_one h1
  obtain ⟨h1, a0⟩ := and_one h1
  obtain ⟨Y0, f0⟩ := (of_all _ _ _ _ _ _ _ a0).lift
  obtain ⟨Y1, f1⟩ := (of_all _ _ _ _ _ _ _ a1).lift
  obtain ⟨Y2, f2⟩ := (of_all _ _ _ _ _ _ _ a2).lift
  obtain ⟨Y3, f3⟩ := (of_all _ _ _ _ _ _ _ a3).lift
  obtain ⟨Y4, f4⟩ := (of_all _ _ _ _ _ _ _ a4).lift
  obtain ⟨X0, g0⟩ := table Y0
  obtain ⟨X1, g1⟩ := table Y1
  obtain ⟨X2, g2⟩ := table Y2
  obtain ⟨C, g3⟩ := gate_table Y3
  obtain ⟨X4, g4⟩ := table Y4
  exact ⟨X0, X1, X2, C, X4, f0.trans g0, f1.trans g1, f2.trans g2, f3.trans g3, f4.trans g4⟩

theorem gates10 (X0 X1 X2 C X4 : ℕ → ℕ → ℝ) (m : (ℓ : Loc nD τ sig) → Buf (Elt Ideal) ℓ) (c : Dev nD)
    (e0 : m ((c : Thread nD τ).loc main_arg0) = R2 X0) (e1 : m ((c : Thread nD τ).loc main_arg1) = R2 X1) (e2 : m ((c : Thread nD τ).loc main_arg2) = R2 X2)
    (e3 : m ((c : Thread nD τ).loc main_arg3) = RC C) (e4 : m ((c : Thread nD τ).loc main_arg4) = R2 X4)
    {B0 B1 B2 B4 : FVec Ideal S2048x1024 .f32} {B3 : FVec Ideal S16x2048 .f32} (a0 : B0 = R2 X0) (a1 : B1 = R2 X1) (a2 : B2 = R2 X2) (a3 : B3 = RC C) (a4 : B4 = R2 X4) :
    Cert.ReferenceFoxIdeal.Read.val_main_v93 (F := Ideal) B0 B1 B2 B3 B4 = (dats m 0 c).arrAt 10 (cfgs 0).N := by
  rw [a0, a1, a2, a3, a4]
  exact (final10 X0 X1 X2 C X4 m c e0 e1 e2 e3 e4).symm

theorem algebraic : Cert.algebraic_KernelFoxIdeal_ReferenceFoxIdeal_pre_finite_fox := by
  intro m g m' g' hpre hagree
  refine ⟨fun c => (dats m 0 c).arrAt 7 (cfgs 0).N, fun c => (dats m 0 c).arrAt 8 (cfgs 0).N, fun c => (dats m 0 c).arrAt 9 (cfgs 0).N, fun c => (dats m 0 c).arrAt 10 (cfgs 0).N, ?_, ?_⟩
  · exact (θ_run defs _ _).mono (fun r h c => ⟨(h.1 c).1 7, (h.1 c).1 8, (h.1 c).1 9, (h.1 c).1 10, h.2 c⟩)
      (θ_run_and (run_main m g) (frame_of m g (dats m) (A_eq m) (run_main m g)))
  · refine θ_run_mono (Cert.ReferenceFoxIdeal.Value.run m' g') fun r h c => ?_
    obtain ⟨X0, X1, X2, C, X4, e0, e1, e2, e3, e4⟩ := lifts m hpre c
    obtain ⟨a0, a1, a2, a3, a4⟩ := hagree c
    rw [e0] at a0; rw [e1] at a1; rw [e2] at a2; rw [e3] at a3; rw [e4] at a4
    refine ⟨((h c).1.trans (Cert.ReferenceFoxIdeal.Read.val_main_v90_eq _ _)).trans ?_, ((h c).2.1.trans (Cert.ReferenceFoxIdeal.Read.val_main_v91_eq _ _)).trans ?_,
      ((h c).2.2.1.trans (Cert.ReferenceFoxIdeal.Read.val_main_v92_eq _ _)).trans ?_, ((h c).2.2.2.1.trans (Cert.ReferenceFoxIdeal.Read.val_main_v93_eq _ _)).trans ?_, (h c).2.2.2.2⟩
    · rw [a0, a1, a2, a3, a4]; exact (final7 X0 X1 X2 C X4 m c e0 e1 e2 e3 e4).symm
    · rw [a0, a1, a2, a3, a4]; exact (final8 X0 X1 X2 C X4 m c e0 e1 e2 e3 e4).symm
    · rw [a0, a1, a3, a4]; exact (final9 X0 X1 X2 C X4 m c e0 e1 e2 e3 e4).symm
    · exact gates10 X0 X1 X2 C X4 m c e0 e1 e2 e3 e4 a0 a1 a2 a3 a4

end Cert.KernelFoxIdeal.Grad

end
-- ==== Proof.Even.lean ====
module

public import proofs.«01_k».proof.Proof.Gen.KernelEvenIdeal.Frame
public import proofs.«01_k».proof.Proof.Gen.ReferenceEvenIdeal.Read
public import proofs.«01_k».proof.Proof.Finite
public import proofs.«01_k».proof.Proof.Ffn
public import proofs.«01_k».proof.Proof.Mix
public import proofs.«01_k».proof.Proof.Rms
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem
open Idealize.ShloMosaic.Pipeline (Dat)

namespace Cert.KernelEvenIdeal.Grad
open Cert.KernelEvenIdeal Cert.KernelEvenIdeal.Gen Cert.Finite Cert.Rms

abbrev D0 := Cert.ReferenceEvenIdeal.S2048x3072
abbrev D1 := Cert.ReferenceEvenIdeal.S1024x3072
abbrev D2 := Cert.ReferenceEvenIdeal.S2048x1024
abbrev D3 := Cert.ReferenceEvenIdeal.S1024

/-- The gradient before the projection, one row of it. -/
def dh (x0 : D0.Idx → ℝ) (x1 : D1.Idx → ℝ) (a : Fin 2048) (j : Fin 1024) : ℝ := ∑ k : Fin 3072, x0 (ix2 a k) * x1 (ix2 j k)

open Cert.ReferenceEvenIdeal.Read in
theorem ref_dh (x0 : D0.Idx → ℝ) (x1 : D1.Idx → ℝ) (a : Fin 2048) (j : Fin 1024) :
    val_main_v17 (F := Ideal) (fun i => (x0 i : EReal)) (fun i => (x1 i : EReal)) (ix2 a j) = ((dh x0 x1 a j : ℝ) : EReal) := by
  pointwise [val_main_v17]
  norm_cast

open Cert.ReferenceEvenIdeal.Read in
theorem ref_rr (x2 : D2.Idx → ℝ) (a : Fin 2048) (b : Fin 1) :
    val_main_v7 (F := Ideal) (fun i => (x2 i : EReal)) (ix2 a b) = ((rr (fun k => x2 (ix2 a k)) : ℝ) : EReal) :=
  Cert.KernelFfnIdeal.Grad.ref_rr x2 a b

open Cert.ReferenceEvenIdeal.Read in
theorem ref_r3 (x2 : D2.Idx → ℝ) (a : Fin 2048) (b : Fin 1) :
    val_main_v8 (F := Ideal) (fun i => (x2 i : EReal)) (ix2 a b)
      = ((rr (fun k => x2 (ix2 a k)) * rr (fun k => x2 (ix2 a k)) * rr (fun k => x2 (ix2 a k)) : ℝ) : EReal) :=
  Cert.KernelFfnIdeal.Grad.ref_r3 x2 a b

set_option maxHeartbeats 1600000 in
open Cert.ReferenceEvenIdeal.Read in
theorem ref_dx (x0 : D0.Idx → ℝ) (x1 : D1.Idx → ℝ) (x2 : D2.Idx → ℝ) (x3 : D3.Idx → ℝ) (x4 : D2.Idx → EReal) (a : Fin 2048) (b : Fin 1024) :
    val_main_v38 (F := Ideal) (fun i => (x0 i : EReal)) (fun i => (x1 i : EReal)) (fun i => (x2 i : EReal)) (fun i => (x3 i : EReal)) x4 (ix2 a b)
      = x4 (ix2 a b) + ((dx (fun k => x2 (ix2 a k)) (fun j => dh x0 x1 a j * x3 (ix1 j)) b : ℝ) : EReal) := by
  pointwise [val_main_v38, val_main_v37, val_main_v36, val_main_v35, val_main_v34, val_main_v33, val_main_v32, val_main_v31, val_main_v30, val_main_v29, val_main_v28, val_main_v27, val_main_v26, val_main_v25, val_main_v24, val_main_v22, val_main_v21, val_main_v14, val_main_v13, val_main_v12, val_main_v11, val_main_v10, val_main_v9, val_main_cst_2, val_main_cst_5, val_main_cst_6, val_main_cst_7]
  simp only [ref_dh, ref_rr, ref_r3]
  simp only [div_1024, ofBits_neg_half, Finset.univ_unique, Finset.sum_singleton, add_assoc]
  norm_cast
  rw [← dx_eq]
  simp only [add_assoc]

set_option maxHeartbeats 1600000 in
open Cert.ReferenceEvenIdeal.Read in
theorem ref_dg (x0 : D0.Idx → ℝ) (x1 : D1.Idx → ℝ) (x2 : D2.Idx → ℝ) (a : Fin 1) (b : Fin 1024) :
    val_main_v39 (F := Ideal) (fun i => (x0 i : EReal)) (fun i => (x1 i : EReal)) (fun i => (x2 i : EReal)) (ix2 a b)
      = ((∑ r : Fin 2048, dg (fun k => x2 (ix2 r k)) (dh x0 x1 r) b : ℝ) : EReal) := by
  pointwise [val_main_v39, val_main_v23, val_main_v20, val_main_v19, val_main_v18, val_main_v12, val_main_v11, val_main_cst_3, val_main_cst_4]
  simp only [ref_dh, ref_rr]
  simp only [Finset.univ_unique, Finset.sum_singleton]
  norm_cast
  congr 1
  exact Finset.sum_congr rfl fun r _ => by simp only [dg]; ring

/-- The weights of four chips side by side. -/
def joined (w : S4x1024x768.Idx → ℝ) (j : Fin 1024) (k : Fin 3072) : ℝ :=
  w (ix3 ⟨k.val / 768, by omega⟩ j ⟨k.val % 768, by omega⟩)

/-- A block's rows times the transposed weights. -/
def dhk (w : S4x1024x768.Idx → ℝ) (y : S512x3072.Idx → ℝ) (a : Fin 512) (j : Fin 1024) : ℝ := ∑ k : Fin 3072, y (ix2 a k) * joined w j k

theorem pay_dh (w : S4x1024x768.Idx → ℝ) (y : S512x3072.Idx → ℝ) (a : Fin 512) (j : Fin 1024) :
    k0_pay3 (F := Ideal) (fun i => (w i : EReal)) (fun i => (y i : EReal)) (ix2 a j) = ((dhk w y a j : ℝ) : EReal) := by
  pointwise [k0_pay3]
  unfold dhk
  rw [coe_sum]
  refine Finset.sum_congr rfl fun k _ => ?_
  rw [EReal.coe_mul]
  congr 1
  simp only [joined]
  have hk := k.isLt
  split
  · exact congrArg (fun i => ((w i : ℝ) : EReal)) (by blk_ext <;> omega)
  split
  · exact congrArg (fun i => ((w i : ℝ) : EReal)) (by blk_ext <;> omega)
  split
  · exact congrArg (fun i => ((w i : ℝ) : EReal)) (by blk_ext <;> omega)
  · exact congrArg (fun i => ((w i : ℝ) : EReal)) (by blk_ext <;> omega)

theorem pay_rr (x : S512x1024.Idx → ℝ) (a : Fin 512) (b : Fin 1) :
    k0_pay4 (F := Ideal) (fun i => (x i : EReal)) (ix2 a b) = ((rr (fun k => x (ix2 a k)) : ℝ) : EReal) :=
  Cert.KernelMixIdeal.Grad.pay_rr x a b

theorem pay_dx (w : S4x1024x768.Idx → ℝ) (x : S512x1024.Idx → ℝ) (g : S1x1024.Idx → ℝ) (y : S512x3072.Idx → ℝ) (d : S512x1024.Idx → EReal) (a : Fin 512) (b : Fin 1024) :
    k0_pay7 (F := Ideal) (fun i => (w i : EReal)) (fun i => (x i : EReal)) (fun i => (g i : EReal)) (fun i => (y i : EReal)) d (ix2 a b)
      = d (ix2 a b) + ((dx (fun k => x (ix2 a k)) (fun j => dhk w y a j * g (ix2 0 j)) b : ℝ) : EReal) := by
  pointwise [k0_pay7, k0_pay5]
  simp only [pay_dh, pay_rr, div_1024]
  norm_cast

theorem pay_dg (w : S4x1024x768.Idx → ℝ) (x : S512x1024.Idx → ℝ) (y : S512x3072.Idx → ℝ) (a : Fin 1) (b : Fin 1024) :
    k0_pay1 (F := Ideal) (k0_pay6 (F := Ideal) (fun i => (w i : EReal)) (fun i => (x i : EReal)) (fun i => (y i : EReal))) (ix2 a b)
      = ((∑ r : Fin 512, dg (fun k => x (ix2 r k)) (dhk w y r) b : ℝ) : EReal) := by
  pointwise [k0_pay1, k0_pay6, k0_pay5]
  simp only [pay_dh, pay_rr]
  norm_cast

theorem pay_acc (u : FVec Ideal S512x1024 .f32) (v : Vec Ideal S1x1024 .f32) (i : S1x1024.Idx) :
    k0_pay2 (F := Ideal) u v i = v i + k0_pay1 (F := Ideal) u i := by
  pointwise [k0_pay2, k0_pay1]

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] := (by decide +kernel : ∀ t : Fin grid0.N, _)

section Blocks

variable (c : Dev nD) (t : Fin cfg0.N)
    (X0 : S2048x3072.Idx → ℝ) (e0 : m ((c : Thread nD τ).loc main_arg0) = fun i => (X0 i : EReal))
    (X1 : S1024x3072.Idx → ℝ) (e1 : m ((c : Thread nD τ).loc main_arg1) = fun i => (X1 i : EReal))
    (X2 : S2048x1024.Idx → ℝ) (e2 : m ((c : Thread nD τ).loc main_arg2) = fun i => (X2 i : EReal))
    (X3 : S1024.Idx → ℝ) (e3 : m ((c : Thread nD τ).loc main_arg3) = fun i => (X3 i : EReal))

theorem t_lt (t : Fin cfg0.N) : t.val < 4 := t.isLt

/-- The row of the whole array that is row `a` of block `t`. -/
abbrev row (a : Fin 512) : Fin 2048 := ⟨t.val * 512 + a.val, by have := t_lt t; omega⟩

include e1 in
theorem V2 : V m c main_v2 = fun j : S4x1024x768.Idx => ((X1 (ix2 (j 1) ⟨(j 0).val * 768 + (j 2).val, by have := (j 0).isLt; have := (j 2).isLt; simp at *; omega⟩) : ℝ) : EReal) := by
  refine Eq.trans (b := truncf (F := Ideal) .bf16 (transpose S4x1024x768 [1, 0, 2] (shapeCast S1024x4x768 (m ((c : Thread nD τ).loc main_arg1)) shapeCasts_S1024x3072_S1024x4x768) transposes_S1024x4x768_S4x1024x768_1_0_2) bitsLt_bf16_f32) rfl ?_
  rw [e1]
  funext j
  pointwise
  done

theorem V3 : V m c main_v3 = m ((c : Thread nD τ).loc main_arg0) := rfl

include e0 in
theorem ld0 : (iblk m c 0 t) = fun i : S512x3072.Idx => ((X0 (ix2 (row t (i 0)) (i 1)) : ℝ) : EReal) := by
  funext i
  refine Eq.trans (b := V m c main_v3 (ix2 (row t (i 0)) (i 1))) (congrArg (V m c main_v3) (by blk_ext [idx t])) ?_
  rw [V3]; exact congrFun e0 _

include e1 in
theorem ld1 : (iblk m c 1 t) = fun j : S4x1024x768.Idx => ((X1 (ix2 (j 1) ⟨(j 0).val * 768 + (j 2).val, by have := (j 0).isLt; have := (j 2).isLt; simp at *; omega⟩) : ℝ) : EReal) := by
  funext i
  refine Eq.trans (b := V m c main_v2 i) (congrArg (V m c main_v2) (by blk_ext [idx t])) ?_
  rw [V2 m c X1 e1]

theorem dhk_eq (r : Fin 512) (j : Fin 1024) : dhk (fun j : S4x1024x768.Idx => X1 (ix2 (j 1) ⟨(j 0).val * 768 + (j 2).val, by have := (j 0).isLt; have := (j 2).isLt; simp at *; omega⟩))
    (fun i => X0 (ix2 (row t (i 0)) (i 1))) r j = dh X0 X1 (row t r) j :=
  Finset.sum_congr rfl fun k _ => by
    simp only [joined]
    congr 1
    exact congrArg X1 (by blk_ext <;> omega)

include e2 in
theorem ld2 : (iblk m c 2 t) = fun i : S512x1024.Idx => ((X2 (ix2 (row t (i 0)) (i 1)) : ℝ) : EReal) := by
  funext i
  refine Eq.trans (b := m ((c : Thread nD τ).loc main_arg2) _) ?_ (congrFun e2 _)
  blk_point [iblk, V, idx t]

theorem Vg : V m c main_v4 = fun j : S1x1024.Idx => m ((c : Thread nD τ).loc main_arg3) (ix1 (j 1)) := by
  refine Eq.trans (b := shapeCast S1x1024 (m ((c : Thread nD τ).loc main_arg3)) shapeCasts_S1024_S1x1024) rfl ?_
  funext j
  pointwise

include e3 in
theorem ld3 : (iblk m c 3 t) = fun i : S1x1024.Idx => ((X3 (ix1 (i 1)) : ℝ) : EReal) := by
  funext i
  refine Eq.trans (b := m ((c : Thread nD τ).loc main_arg3) _) ?_ (congrFun e3 _)
  refine Eq.trans (b := V m c main_v4 (ix2 0 (i 1))) ?_ ?_
  · exact congrArg (V m c main_v4) (by blk_ext [idx t])
  · rw [Vg]; blk_ext

theorem ld4 : (iblk m c 4 t) = fun i : S512x1024.Idx => m ((c : Thread nD τ).loc main_arg4) (ix2 (row t (i 0)) (i 1)) := by
  funext i
  blk_point [iblk, V, idx t]

include e0 e1 e2 e3 in
theorem blk5 (a : Fin 512) (b : Fin 1024) : k0_pay7 ((iblk m c 1 t)) ((iblk m c 2 t)) ((iblk m c 3 t)) ((iblk m c 0 t)) ((iblk m c 4 t)) (ix2 a b)
    = Cert.ReferenceEvenIdeal.Read.val_main_v38 (F := Ideal) (fun i => (X0 i : EReal)) (fun i => (X1 i : EReal)) (fun i => (X2 i : EReal)) (fun i => (X3 i : EReal)) (m ((c : Thread nD τ).loc main_arg4)) (ix2 (row t a) b) := by
  rw [ld0 m c t X0 e0, ld1 m c t X1 e1, ld2 m c t X2 e2, ld3 m c t X3 e3, ld4 m c t, pay_dx, ref_dx]
  simp only [dhk_eq]
  rfl

include e0 e1 e2 in
theorem blk6 (a : Fin 1) (b : Fin 1024) : k0_pay1 (F := Ideal) (k0_pay6 (F := Ideal) ((iblk m c 1 t)) ((iblk m c 2 t)) ((iblk m c 0 t))) (ix2 a b)
    = ((∑ r : Fin 512, dg (fun k => X2 (ix2 (row t r) k)) (dh X0 X1 (row t r)) b : ℝ) : EReal) := by
  rw [ld0 m c t X0 e0, ld1 m c t X1 e1, ld2 m c t X2 e2, pay_dg]
  simp only [show ∀ r : Fin 512, dhk _ _ r = dh X0 X1 (row t r) from fun r => funext fun j => dhk_eq t X0 X1 r j]
  rfl

include e0 e1 e2 e3 in
/-- The gradient with respect to the rows. -/
theorem final5 : (dats m 0 c).arrAt 5 (cfgs 0).N
    = Cert.ReferenceEvenIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [e0, e1, e2, e3]
  refine (dats m 0 c).arrAt_eq_of_covers 5 _ (by decide +kernel) fun t _ y => ?_
  have he : ((cfg0.win 5).blk t).view.emb y = ix2 (row t (y 0)) (⟨(y 1 : ℕ), (y 1).isLt⟩ : Fin 1024) := by blk_ext [idx t]
  blk_simp; rw [after0_5]
  refine Eq.trans ?_ ((blk5 m c t X0 e0 X1 e1 X2 e2 X3 e3 (y 0) (y 1)).trans (congrArg (Cert.ReferenceEvenIdeal.Read.val_main_v38 (F := Ideal) _ _ _ _ _) he.symm))
  by_cases h : t.val % 4 = 0
  · rw [outsAt0_A m c t h (by have := t_lt t; omega)]; frame_out; exact congrArg (k0_pay7 _ _ _ _ _) (by blk_ext)
  · rw [outsAt0_B m c t h (by omega)]; frame_out; exact congrArg (k0_pay7 _ _ _ _ _) (by blk_ext)

include e0 e1 e2 in
theorem acc6 (j : S1x1024.Idx) : (outsAt0 m c (t0_3).val (t0_3).isLt).2 j
    = Cert.ReferenceEvenIdeal.Read.val_main_v39 (F := Ideal) (fun i => (X0 i : EReal)) (fun i => (X1 i : EReal)) (fun i => (X2 i : EReal)) j := by
  rw [Pipeline.eq_sum_fin_of_reset_step_apply_last (fun n h => (outsAt0 m c n h).2) 4 (fun _ => 0)
    (fun p j => k0_pay1 (F := Ideal) (k0_pay6 (F := Ideal) ((iblk m c 1 p)) ((iblk m c 2 p)) ((iblk m c 0 p))) j)
    (fun t h j => by rw [outsAt0_A m c t h (by have := t_lt t; omega)]; frame_out; exact (zero_add _).symm)
    (fun t h j => by rw [outsAt0_B m c t h (by omega)]; frame_out; exact pay_acc _ _ j)
    (le_of_eq N_0) t0_3 rfl j, zero_add]
  obtain ⟨a, b, rfl⟩ : ∃ a b, j = ix2 a b := ⟨j 0, j 1, by blk_ext⟩
  rw [ref_dg X0 X1 X2 a b, Finset.sum_congr rfl fun p _ => blk6 m c p X0 e0 X1 e1 X2 e2 a b]
  norm_cast
  congr 1
  exact Fin.sum_mul_add_congr fun s k hl => rfl

include e0 e1 e2 in
/-- The gain's gradient, as the pass over the row blocks adds it up. -/
theorem final6 : (dats m 0 c).arrAt 6 (cfgs 0).N
    = Cert.ReferenceEvenIdeal.Read.val_main_v39 (F := Ideal) (m ((c : Thread nD τ).loc main_arg0)) (m ((c : Thread nD τ).loc main_arg1)) (m ((c : Thread nD τ).loc main_arg2)) := by
  rw [e0, e1, e2]
  refine (dats m 0 c).arrAt_eq_of_after_last 6 t0_3 (by decide +kernel) _ fun j => ?_
  blk_simp
  rw [after0_6]
  exact acc6 m c X0 e0 X1 e1 X2 e2 j

end Blocks
end Cert.KernelEvenIdeal.Grad

end
-- ==== Proof.EvenClaim.lean ====
module

public import proofs.«01_k».proof.Defs
public import proofs.«01_k».proof.Proof.Even
public import proofs.«01_k».proof.Proof.Gen.Pre_finite_even

@[expose] public section

set_option maxRecDepth 16384

noncomputable section

open Idealize.ShloMosaic Idealize.ShloMosaic.TcCoe Idealize.SL.Sem
open Idealize.ShloMosaic.Pipeline (Dat)

namespace Cert.KernelEvenIdeal.Grad
open Cert.KernelEvenIdeal Cert.KernelEvenIdeal.Gen Cert.Finite

/-- Finite arguments are arrays of reals. -/
theorem lifts (m : (ℓ : Loc nD τ sig) → Buf (Elt Ideal) ℓ) (h : Cert.Pre_KernelEvenIdeal_finite_even m) (c : Dev nD) :
    (∃ X : S2048x3072.Idx → ℝ, m ((c : Thread nD τ).loc main_arg0) = fun i => (X i : EReal))
    ∧ (∃ X : S1024x3072.Idx → ℝ, m ((c : Thread nD τ).loc main_arg1) = fun i => (X i : EReal))
    ∧ (∃ X : S2048x1024.Idx → ℝ, m ((c : Thread nD τ).loc main_arg2) = fun i => (X i : EReal))
    ∧ (∃ X : S1024.Idx → ℝ, m ((c : Thread nD τ).loc main_arg3) = fun i => (X i : EReal)) := by
  haveI : Subsingleton Cert.Pre_finite_even.S_.Idx := ⟨fun a b => funext fun i => i.elim0⟩
  have h1 := congrFun (h c) ix0
  obtain ⟨h1, a3⟩ := and_one h1
  obtain ⟨h1, a2⟩ := and_one h1
  obtain ⟨h1, a1⟩ := and_one h1
  obtain ⟨h1, a0⟩ := and_one h1
  exact ⟨(of_all _ _ _ _ _ _ _ a0).lift, (of_all _ _ _ _ _ _ _ a1).lift, (of_all _ _ _ _ _ _ _ a2).lift, (of_all _ _ _ _ _ _ _ a3).lift⟩

theorem algebraic : Cert.algebraic_KernelEvenIdeal_ReferenceEvenIdeal_pre_finite_even := by
  intro m g m' g' hpre hagree
  refine ⟨fun c => Cert.ReferenceEvenIdeal.Read.val_main_v38 (F := Ideal) (m' ((c : Thread nD τ).loc Cert.ReferenceEvenIdeal.main_arg0)) (m' ((c : Thread nD τ).loc Cert.ReferenceEvenIdeal.main_arg1)) (m' ((c : Thread nD τ).loc Cert.ReferenceEvenIdeal.main_arg2)) (m' ((c : Thread nD τ).loc Cert.ReferenceEvenIdeal.main_arg3)) (m' ((c : Thread nD τ).loc Cert.ReferenceEvenIdeal.main_arg4)),
    fun c => Cert.ReferenceEvenIdeal.Read.val_main_v39 (F := Ideal) (m' ((c : Thread nD τ).loc Cert.ReferenceEvenIdeal.main_arg0)) (m' ((c : Thread nD τ).loc Cert.ReferenceEvenIdeal.main_arg1)) (m' ((c : Thread nD τ).loc Cert.ReferenceEvenIdeal.main_arg2)), ?_, ?_⟩
  · run_from Cert.KernelEvenIdeal.Gen.run_main m g
    all_goals obtain ⟨⟨X0, e0⟩, ⟨X1, e1⟩, ⟨X2, e2⟩, ⟨X3, e3⟩⟩ := lifts m hpre c
    · exact final5 m c X0 e0 X1 e1 X2 e2 X3 e3
    · exact final6 m c X0 e0 X1 e1 X2 e2
  · exact θ_run_mono (Cert.ReferenceEvenIdeal.Value.run m' g') fun r h c =>
      ⟨(h c).1.trans (Cert.ReferenceEvenIdeal.Read.val_main_v38_eq _ _), (h c).2.1.trans (Cert.ReferenceEvenIdeal.Read.val_main_v39_eq _ _ _), (h c).2.2⟩

end Cert.KernelEvenIdeal.Grad

end
-- ==== Proof.FoxfwdStep.lean ====
module

public import proofs.«01_k».proof.Proof.FoxLoop
public import proofs.«01_k».proof.Proof.Gen.KernelFoxfwdIdeal.Loops

@[expose] public section

set_option maxRecDepth 16384

noncomputable section

open Idealize.ShloMosaic Idealize.ShloMosaic.TcCoe Idealize.SL.Sem

namespace Cert.KernelFoxfwdIdeal.Gen
open Cert.KernelFoxfwdIdeal
open Cert.KernelFoxIdeal.Gen (scoreOf tall wide4 nnOf castB)
variable {F : FTy → Type} [FloatOps F] [Named F]

/-- What one head carries along its row of blocks: the sums of weighted values, the largest scores and the sums of weights. -/
abbrev Row (F : FTy → Type) := FVec F S512x128 .f32 × FVec F S512x1 .f32 × FVec F S512x1 .f32
/-- Both heads. -/
abbrev Two (F : FTy → Type) := FVec F S512x128 .f32 × FVec F S512x1 .f32 × FVec F S512x1 .f32 × FVec F S512x128 .f32 × FVec F S512x1 .f32 × FVec F S512x1 .f32
def both (a b : Row F) : Two F := (a.1, a.2.1, a.2.2, b)
def fst (x : Two F) : Row F := (x.1, x.2.1, x.2.2.1)
def snd (x : Two F) : Row F := x.2.2.2

/-- What lies after the query is put to the mask (on the diagonal block). -/
def hide (m : Option (IVec S512x512 1)) (x : FVec F S512x512 .f32) : FVec F S512x512 .f32 :=
  match m with
  | none => x
  | some v => select v x (broadcast S512x512 (Named.named κ "mask" 0xF149F2CA#32))

/-- The gated scores of a block. -/
def zOf (m : Option (IVec S512x512 1)) (q : FVec F S512x128 .bf16) (fq : FVec F S512x512 .f32) (kb : FVec F S512x128 .bf16) (fk : Vec F S1x1x512 .f32) : FVec F S512x512 .f32 :=
  hide m (subf (addf (scoreOf q kb) fq) (tall fk))

/-- The largest scores so far. -/
def topOf (mx : FVec F S512x1 .f32) (z : FVec F S512x512 .f32) : FVec F S512x1 .f32 :=
  maximumf mx (shapeCast S512x1 (multiReduction .maximumf [1] S512 z 0xFF800000#32 reduces_S512x512_S512 (.inl rfl) rfl) shapeCasts_S512_S512x1)
/-- What the sums so far are scaled by. -/
def fadeOf (mx : FVec F S512x1 .f32) (z : FVec F S512x512 .f32) : FVec F S512x1 .f32 := exp (subf mx (topOf mx z))
/-- The block's weights. -/
def wOf (mx : FVec F S512x1 .f32) (z : FVec F S512x512 .f32) : FVec F S512x512 .f32 :=
  exp (subf z (broadcastTo S512x512 (topOf mx z) broadcasts_S512x1_S512x512))
/-- One block of keys and values. -/
def headStep (z : FVec F S512x512 .f32) (vb : FVec F S512x128 .bf16) (s : Row F) : Row F :=
  (addf (mulf (broadcastTo S512x128 (fadeOf s.2.1 z) broadcasts_S512x1_S512x128) s.1) (nnOf (wOf s.2.1 z) vb), topOf s.2.1 z,
    addf (mulf (fadeOf s.2.1 z) s.2.2) (shapeCast S512x1 (multiReduction .add [1] S512 (wOf s.2.1 z) 0x00000000#32 reduces_S512x512_S512 (.inl rfl) rfl) shapeCasts_S512_S512x1))

variable {𝒱 : Variants} {c : Dev nD} {bd : Option 𝒱.V} {i : grid0.Coords} {arg2 : Memref sig .tc .vmem S512x128 .bf16} {harg2 : arg2.IsWhole} {arg3 : Memref sig .tc .vmem S2048x128 .bf16} {harg3 : arg3.IsWhole} {arg4 : Memref sig .tc .vmem S2048x128 .bf16} {harg4 : arg4.IsWhole} {arg5 : Memref sig .tc .vmem S2x512x128 .f32} {harg5 : arg5.IsWhole} {arg6 : Memref sig .tc .vmem S1x2x2048 .f32} {harg6 : arg6.IsWhole} {arg7 : Memref sig .tc .vmem S512x128 .bf16} {harg7 : arg7.IsWhole} {arg8 : Memref sig .tc .vmem S2x512x128 .f32} {harg8 : arg8.IsWhole} {arg1 : BitVec 32} {v20 : BitVec 32} {v21 : IVec S512x512 32} {v23 : IVec S512x128 32} {v25 : BitVec 32} {v39 : BitVec 1} {v45 : Vec F S512x128 .bf16} {v62 : Vec F S1x512x128 .f32} {v65 : Vec F S1x512x128 .f32} {X_arg3 : BufTy.Contents (Elt F) arg3.view.ty} {X_arg4 : BufTy.Contents (Elt F) arg4.view.ty} {X_arg6 : BufTy.Contents (Elt F) arg6.view.ty} {v22 : IVec S512x512 32} {v41 : BitVec 32} {v44 : IVec S512x512 32} {v56 : FVec F S512x128 .bf16} {v59 : FVec F S512x128 .bf16} {v64 : FVec F S512x512 .f32} {v67 : FVec F S512x512 .f32}

set_option maxHeartbeats 4000000 in
theorem tripR_t1 (k : Fin (k0_t1_loop i).trips) (acc : Two F) :
    tripR_k0_t1 𝒱 c bd i arg2 harg2 arg3 harg3 arg4 harg4 arg5 harg5 arg6 harg6 arg7 harg7 arg8 harg8 arg1 v20 v21 v23 v25 v39 v45 v62 v65 X_arg3 X_arg4 X_arg6 k acc = both (headStep (zOf none (k0_pay63 v23 v45) (wide4 v62) (castB (View.readAt (Elt F) arg3.view (Rect.unit (s := S2048x128) (k0_off1 i k) S512x128.size (k0_off1_inb i k)).toLoadRect X_arg3)) (View.readAt (Elt F) arg6.view (Rect.unit (s := S1x2x2048) (k0_off2 i k) S1x1x512.size (k0_off2_inb i k)).toLoadRect X_arg6)) (castB (View.readAt (Elt F) arg4.view (Rect.unit (s := S2048x128) (k0_off1 i k) S512x128.size (k0_off1_inb i k)).toLoadRect X_arg4)) (fst acc)) (headStep (zOf none (k0_pay64 v23 v45) (wide4 v65) (castB (View.readAt (Elt F) arg3.view (Rect.unit (s := S2048x128) (k0_off1 i k) S512x128.size (k0_off1_inb i k)).toLoadRect X_arg3)) (View.readAt (Elt F) arg6.view (Rect.unit (s := S1x2x2048) (k0_off3 i k) S1x1x512.size (k0_off3_inb i k)).toLoadRect X_arg6)) (castB (View.readAt (Elt F) arg4.view (Rect.unit (s := S2048x128) (k0_off1 i k) S512x128.size (k0_off1_inb i k)).toLoadRect X_arg4)) (snd acc)) := by
  unfold tripR_k0_t1 trip_k0_t1
  exact Prod.ext rfl (Prod.ext rfl (Prod.ext rfl (Prod.ext rfl (Prod.ext rfl rfl))))

set_option maxHeartbeats 4000000 in
theorem tripR_t3 (k : Fin (k0_t3_loop i).trips) (acc : Two F) :
    tripR_k0_t3 𝒱 c bd i arg2 harg2 arg3 harg3 arg4 harg4 arg5 harg5 arg6 harg6 arg7 harg7 arg8 harg8 v22 v41 v44 v56 v59 v64 v67 X_arg3 X_arg4 X_arg6 k acc = both (headStep (zOf (some (cmpi .sle (addi (broadcast S512x512 (Scalar.muli (Scf.iv v41 1#32 k) 512#32)) v22) v44)) v56 v64 (castB (View.readAt (Elt F) arg3.view (Rect.unit (s := S2048x128) (k0_off7 i k) S512x128.size (k0_off7_inb i k)).toLoadRect X_arg3)) (View.readAt (Elt F) arg6.view (Rect.unit (s := S1x2x2048) (k0_off8 i k) S1x1x512.size (k0_off8_inb i k)).toLoadRect X_arg6)) (castB (View.readAt (Elt F) arg4.view (Rect.unit (s := S2048x128) (k0_off7 i k) S512x128.size (k0_off7_inb i k)).toLoadRect X_arg4)) (fst acc)) (headStep (zOf (some (cmpi .sle (addi (broadcast S512x512 (Scalar.muli (Scf.iv v41 1#32 k) 512#32)) v22) v44)) v59 v67 (castB (View.readAt (Elt F) arg3.view (Rect.unit (s := S2048x128) (k0_off7 i k) S512x128.size (k0_off7_inb i k)).toLoadRect X_arg3)) (View.readAt (Elt F) arg6.view (Rect.unit (s := S1x2x2048) (k0_off9 i k) S1x1x512.size (k0_off9_inb i k)).toLoadRect X_arg6)) (castB (View.readAt (Elt F) arg4.view (Rect.unit (s := S2048x128) (k0_off7 i k) S512x128.size (k0_off7_inb i k)).toLoadRect X_arg4)) (snd acc)) := by
  unfold tripR_k0_t3 trip_k0_t3
  exact Prod.ext rfl (Prod.ext rfl (Prod.ext rfl (Prod.ext rfl (Prod.ext rfl rfl))))

end Cert.KernelFoxfwdIdeal.Gen

end
-- ==== Proof.FoxfwdLoop.lean ====
module

public import proofs.«01_k».proof.Proof.FoxfwdStep
public import proofs.«01_k».proof.Proof.Gen.KernelFoxfwdIdeal.Skeleton

@[expose] public section

set_option maxRecDepth 16384

noncomputable section

open Idealize.ShloMosaic Idealize.ShloMosaic.TcCoe Idealize.SL.Sem

namespace Cert.KernelFoxfwdIdeal.Gen
open Cert.KernelFoxfwdIdeal
open Cert.KernelFoxIdeal.Gen (scoreOf tall wide4 nnOf castB rows frow rows_inb frow_inb)

theorem trips1 : ∀ i : grid0.Coords, (k0_t1_loop i).trips = (i 1).val := by decide +kernel
theorem trips2 : ∀ i : grid0.Coords, (k0_t2_loop i).trips = 0 := by decide +kernel
theorem trips3 : ∀ i : grid0.Coords, (k0_t3_loop i).trips = 1 := by decide +kernel
theorem trips4 : ∀ i : grid0.Coords, (k0_t4_loop i).trips = 0 := by decide +kernel
theorem off1 : ∀ (i : grid0.Coords) (k : Fin (k0_t1_loop i).trips), k0_off1 i k = ![512 * k.val, 0] := by decide +kernel
theorem off2 : ∀ (i : grid0.Coords) (k : Fin (k0_t1_loop i).trips), k0_off2 i k = ![0, 0, 512 * k.val] := by decide +kernel
theorem off3 : ∀ (i : grid0.Coords) (k : Fin (k0_t1_loop i).trips), k0_off3 i k = ![0, 1, 512 * k.val] := by decide +kernel
theorem off7 : ∀ (i : grid0.Coords) (k : Fin (k0_t3_loop i).trips), k0_off7 i k = ![512 * (i 1).val, 0] := by decide +kernel
theorem off8 : ∀ (i : grid0.Coords) (k : Fin (k0_t3_loop i).trips), k0_off8 i k = ![0, 0, 512 * (i 1).val] := by decide +kernel
theorem off9 : ∀ (i : grid0.Coords) (k : Fin (k0_t3_loop i).trips), k0_off9 i k = ![0, 1, 512 * (i 1).val] := by decide +kernel

variable {F : FTy → Type} [FloatOps F] [Named F]

theorem readAt_rows {κ : Kind} {sp : Space} {e : EltTy} (v : View sig κ sp S2048x128 e) (f : v.ty.Contents (Elt F)) {off : Fin 2 → ℕ}
    (inb : ∀ a, off a + S512x128.size a ≤ S2048x128.size a) (k : Fin 4) (h : off = ![512 * k.val, 0]) :
    v.readAt (Elt F) (Rect.unit (s := S2048x128) off S512x128.size inb).toLoadRect f = rows k (v.read (Elt F) f) :=
  View.readAt_unit v f inb h (rows_inb k)
theorem readAt_frow {κ : Kind} {sp : Space} (v : View sig κ sp S1x2x2048 .f32) (f : v.ty.Contents (Elt F)) {off : Fin 3 → ℕ}
    (inb : ∀ a, off a + S1x1x512.size a ≤ S1x2x2048.size a) (a : Fin 2) (k : Fin 4) (h : off = ![0, a.val, 512 * k.val]) :
    v.readAt (Elt F) (Rect.unit (s := S1x2x2048) off S1x1x512.size inb).toLoadRect f = frow a k (v.read (Elt F) f) :=
  View.readAt_unit v f inb h (frow_inb a k)

/-- A head's gated scores against a key block. -/
def zAt (m : Option (IVec S512x512 1)) (q : FVec F S512x128 .bf16) (fq : FVec F S512x512 .f32) (K : Vec F S2048x128 .bf16) (fk : Vec F S1x2x2048 .f32) (a : Fin 2) (k : Fin 4) : FVec F S512x512 .f32 :=
  zOf m q fq (castB (rows k K)) (frow a k fk)

/-- A head's first `n` blocks. -/
def walk (z : Fin 4 → FVec F S512x512 .f32) (V : Vec F S2048x128 .bf16) (s : Row F) : ℕ → Row F
  | 0 => s
  | n + 1 => if h : n < 4 then headStep (z ⟨n, h⟩) (castB (rows ⟨n, h⟩ V)) (walk z V s n) else walk z V s n

variable {𝒱 : Variants} {c : Dev nD} {bd : Option 𝒱.V} {i : grid0.Coords} {arg2 : Memref sig .tc .vmem S512x128 .bf16} {harg2 : arg2.IsWhole} {arg3 : Memref sig .tc .vmem S2048x128 .bf16} {harg3 : arg3.IsWhole} {arg4 : Memref sig .tc .vmem S2048x128 .bf16} {harg4 : arg4.IsWhole} {arg5 : Memref sig .tc .vmem S2x512x128 .f32} {harg5 : arg5.IsWhole} {arg6 : Memref sig .tc .vmem S1x2x2048 .f32} {harg6 : arg6.IsWhole} {arg7 : Memref sig .tc .vmem S512x128 .bf16} {harg7 : arg7.IsWhole} {arg8 : Memref sig .tc .vmem S2x512x128 .f32} {harg8 : arg8.IsWhole} {arg1 : BitVec 32} {v20 : BitVec 32} {v21 : IVec S512x512 32} {v23 : IVec S512x128 32} {v25 : BitVec 32} {v39 : BitVec 1} {v45 : Vec F S512x128 .bf16} {v62 : Vec F S1x512x128 .f32} {v65 : Vec F S1x512x128 .f32} {X_arg3 : BufTy.Contents (Elt F) arg3.view.ty} {X_arg4 : BufTy.Contents (Elt F) arg4.view.ty} {X_arg6 : BufTy.Contents (Elt F) arg6.view.ty} {v22 : IVec S512x512 32} {v41 : BitVec 32} {v44 : IVec S512x512 32} {v56 : FVec F S512x128 .bf16} {v59 : FVec F S512x128 .bf16} {v64 : FVec F S512x512 .f32} {v67 : FVec F S512x512 .f32} {v73 : BitVec 32} {v80 : BitVec 32}

theorem st2_done (init : Two F) : st_k0_t2 𝒱 c bd i arg2 harg2 arg3 harg3 arg4 harg4 arg5 harg5 arg6 harg6 arg7 harg7 arg8 harg8 arg1 v20 v21 v23 v25 v39 v45 v62 v65 v73 X_arg3 X_arg4 X_arg6 init (k0_t2_loop i).trips = init := by
  rw [trips2]; rfl

theorem st4_done (init : Two F) : st_k0_t4 𝒱 c bd i arg2 harg2 arg3 harg3 arg4 harg4 arg5 harg5 arg6 harg6 arg7 harg7 arg8 harg8 v22 v44 v56 v59 v64 v67 v80 X_arg3 X_arg4 X_arg6 init (k0_t4_loop i).trips = init := by
  rw [trips4]; rfl

/-- The unmasked loop. -/
theorem st1_spec (init : Two F) (n : ℕ) (hn : n ≤ (k0_t1_loop i).trips) :
    st_k0_t1 𝒱 c bd i arg2 harg2 arg3 harg3 arg4 harg4 arg5 harg5 arg6 harg6 arg7 harg7 arg8 harg8 arg1 v20 v21 v23 v25 v39 v45 v62 v65 X_arg3 X_arg4 X_arg6 init n = both (walk (zAt none (k0_pay63 v23 v45) (wide4 v62) (arg3.view.read (Elt F) X_arg3) (arg6.view.read (Elt F) X_arg6) 0) (arg4.view.read (Elt F) X_arg4) (fst init) n) (walk (zAt none (k0_pay64 v23 v45) (wide4 v65) (arg3.view.read (Elt F) X_arg3) (arg6.view.read (Elt F) X_arg6) 1) (arg4.view.read (Elt F) X_arg4) (snd init) n) := by
  induction n with
  | zero => rfl
  | succ n ih =>
    have hlt : n < (k0_t1_loop i).trips := hn
    have h4 : n < 4 := lt_of_lt_of_le hlt (by rw [trips1]; exact (i 1).isLt.le)
    have e := st_k0_t1_succ 𝒱 c bd i arg2 harg2 arg3 harg3 arg4 harg4 arg5 harg5 arg6 harg6 arg7 harg7 arg8 harg8 arg1 v20 v21 v23 v25 v39 v45 v62 v65 X_arg3 X_arg4 X_arg6 init ⟨n, hlt⟩
    have e' : st_k0_t1 𝒱 c bd i arg2 harg2 arg3 harg3 arg4 harg4 arg5 harg5 arg6 harg6 arg7 harg7 arg8 harg8 arg1 v20 v21 v23 v25 v39 v45 v62 v65 X_arg3 X_arg4 X_arg6 init (n + 1) = _ := e
    rw [e', tripR_t1, readAt_rows arg3.view _ _ ⟨n, h4⟩ (off1 i ⟨n, hlt⟩), readAt_rows arg4.view _ _ ⟨n, h4⟩ (off1 i ⟨n, hlt⟩),
      readAt_frow arg6.view _ _ 0 ⟨n, h4⟩ (off2 i ⟨n, hlt⟩), readAt_frow arg6.view _ _ 1 ⟨n, h4⟩ (off3 i ⟨n, hlt⟩), ih hlt.le, walk, walk, dif_pos h4, dif_pos h4]
    rfl

/-- The masked loop is one step. -/
theorem st3_spec (init : Two F) (k : Fin (k0_t3_loop i).trips) :
    st_k0_t3 𝒱 c bd i arg2 harg2 arg3 harg3 arg4 harg4 arg5 harg5 arg6 harg6 arg7 harg7 arg8 harg8 v22 v41 v44 v56 v59 v64 v67 X_arg3 X_arg4 X_arg6 init (k0_t3_loop i).trips = both (headStep (zAt (some (cmpi .sle (addi (broadcast S512x512 (Scalar.muli (Scf.iv v41 1#32 k) 512#32)) v22) v44)) v56 v64 (arg3.view.read (Elt F) X_arg3) (arg6.view.read (Elt F) X_arg6) 0 (i 1)) (castB (rows (i 1) (arg4.view.read (Elt F) X_arg4))) (fst init)) (headStep (zAt (some (cmpi .sle (addi (broadcast S512x512 (Scalar.muli (Scf.iv v41 1#32 k) 512#32)) v22) v44)) v59 v67 (arg3.view.read (Elt F) X_arg3) (arg6.view.read (Elt F) X_arg6) 1 (i 1)) (castB (rows (i 1) (arg4.view.read (Elt F) X_arg4))) (snd init)) := by
  have hk : k.val = 0 := by have h := k.isLt.trans_eq (trips3 i); omega
  have e := st_k0_t3_succ 𝒱 c bd i arg2 harg2 arg3 harg3 arg4 harg4 arg5 harg5 arg6 harg6 arg7 harg7 arg8 harg8 v22 v41 v44 v56 v59 v64 v67 X_arg3 X_arg4 X_arg6 init k
  have e' : st_k0_t3 𝒱 c bd i arg2 harg2 arg3 harg3 arg4 harg4 arg5 harg5 arg6 harg6 arg7 harg7 arg8 harg8 v22 v41 v44 v56 v59 v64 v67 X_arg3 X_arg4 X_arg6 init (k0_t3_loop i).trips = _ := (congrArg _ ((trips3 i).trans (by rw [hk]))).trans e
  have e0 : st_k0_t3 𝒱 c bd i arg2 harg2 arg3 harg3 arg4 harg4 arg5 harg5 arg6 harg6 arg7 harg7 arg8 harg8 v22 v41 v44 v56 v59 v64 v67 X_arg3 X_arg4 X_arg6 init k.val = init := by rw [hk]; rfl
  rw [e', e0, tripR_t3, readAt_rows arg3.view _ _ (i 1) (off7 i k), readAt_rows arg4.view _ _ (i 1) (off7 i k),
    readAt_frow arg6.view _ _ 0 (i 1) (off8 i k), readAt_frow arg6.view _ _ 1 (i 1) (off9 i k)]
  rfl

end Cert.KernelFoxfwdIdeal.Gen

end
-- ==== Proof.FoxfwdCarry.lean ====
module

public import proofs.«01_k».proof.Proof.FoxfwdLoop
public import proofs.«01_k».proof.Proof.FoxPt

@[expose] public section

set_option maxRecDepth 16384

noncomputable section

open Idealize.ShloMosaic Idealize.ShloMosaic.TcCoe Idealize.SL.Sem

namespace Cert.KernelFoxfwdIdeal.Gen
open Cert.KernelFoxfwdIdeal
open Cert.KernelFoxIdeal.Gen (scoreOf tall wide4 nnOf castB rows frow rows_inb frow_inb one_inb0 one_inb1)
variable {F : FTy → Type} [FloatOps F] [Named F]

/-- The numbers of a block's lanes and keys. -/
abbrev laneNo : IVec S512x128 32 := iota .tc S512x128 32 [1] iota_S512x128_d1_w32
abbrev keyNo : IVec S512x512 32 := iota .tc S512x512 32 [1] iota_S512x512_d1_w32
/-- The keys at or before a query of the diagonal block. -/
def maskOf (i : grid0.Coords) : IVec S512x512 1 :=
  cmpi .sle (addi (broadcast S512x512 (Scalar.muli (Scf.iv (k0_t3_loop i).lb 1#32 0) 512#32)) keyNo) (k0_pay60 (BitVec.ofNat 32 (i 1).val) (iota .tc S512x512 32 [0] iota_S512x512_d0_w32))
/-- What a head starts with. -/
def zero : Row F := (k0_pay65, k0_pay69, k0_pay66)
def start : Two F := (k0_pay65, k0_pay69, k0_pay66, k0_pay65, k0_pay69, k0_pay66)
/-- A head after its blocks up to the diagonal one. -/
def headOf (i : grid0.Coords) (q : FVec F S512x128 .bf16) (fq : FVec F S512x512 .f32) (K V : Vec F S2048x128 .bf16) (fk : Vec F S1x2x2048 .f32) (a : Fin 2) : Row F :=
  headStep (zAt (some (maskOf i)) q fq K fk a (i 1)) (castB (rows (i 1) V)) (walk (zAt none q fq K fk a) V zero (i 1).val)
def head0 (i : grid0.Coords) (x0 : Vec F S512x128 .bf16) (x1 x2 : Vec F S2048x128 .bf16) (x3 : Vec F S2x512x128 .f32) (x4 : Vec F S1x2x2048 .f32) : Row F := headOf i (k0_pay63 laneNo x0) (wide4 (VecWindow.window x3 ![0, 0, 0] S1x512x128.size one_inb0)) x1 x2 x4 0
def head1 (i : grid0.Coords) (x0 : Vec F S512x128 .bf16) (x1 x2 : Vec F S2048x128 .bf16) (x3 : Vec F S2x512x128 .f32) (x4 : Vec F S1x2x2048 .f32) : Row F := headOf i (k0_pay64 laneNo x0) (wide4 (VecWindow.window x3 ![1, 0, 0] S1x512x128.size one_inb1)) x1 x2 x4 1

variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x128 .f32) (harg5 : arg5.IsWhole) (arg6 : Memref sig .tc .vmem S1x2x2048 .f32) (harg6 : arg6.IsWhole) (arg7 : Memref sig .tc .vmem S512x128 .bf16) (harg7 : arg7.IsWhole) (arg8 : Memref sig .tc .vmem S2x512x128 .f32) (harg8 : arg8.IsWhole) (x0 : Vec F S512x128 .bf16) (x1 x2 : Vec F S2048x128 .bf16) (x3 : Vec F S2x512x128 .f32) (x4 : Vec F S1x2x2048 .f32)

/-- What a point carries to its end. -/
abbrev carried (u20 u25 u73 u80 : BitVec 32) (u39 : BitVec 1) : Two F :=
  st_k0_t4 Variants.none c none i arg2 harg2 arg3 harg3 arg4 harg4 arg5 harg5 arg6 harg6 arg7 harg7 arg8 harg8 keyNo (k0_pay60 (BitVec.ofNat 32 (i 1).val) (iota .tc S512x512 32 [0] iota_S512x512_d0_w32)) (k0_pay63 laneNo (arg2.view.readAt (Elt F) (Rect.unit (s := S512x128) ![0, 0] S512x128.size inb_S512x128_S512x128_0_0).toLoadRect (harg2.unread x0))) (k0_pay64 laneNo (arg2.view.readAt (Elt F) (Rect.unit (s := S512x128) ![0, 0] S512x128.size inb_S512x128_S512x128_0_0).toLoadRect (harg2.unread x0))) (wide4 (arg5.view.readAt (Elt F) (Rect.unit (s := S2x512x128) ![0, 0, 0] S1x512x128.size inb_S2x512x128_S1x512x128_0_0_0).toLoadRect (harg5.unread x3))) (wide4 (arg5.view.readAt (Elt F) (Rect.unit (s := S2x512x128) ![1, 0, 0] S1x512x128.size inb_S2x512x128_S1x512x128_1_0_0).toLoadRect (harg5.unread x3))) u80 (harg3.unread x1) (harg4.unread x2) (harg6.unread x4) (st_k0_t3 Variants.none c none i arg2 harg2 arg3 harg3 arg4 harg4 arg5 harg5 arg6 harg6 arg7 harg7 arg8 harg8 keyNo (k0_t3_loop i).lb (k0_pay60 (BitVec.ofNat 32 (i 1).val) (iota .tc S512x512 32 [0] iota_S512x512_d0_w32)) (k0_pay63 laneNo (arg2.view.readAt (Elt F) (Rect.unit (s := S512x128) ![0, 0] S512x128.size inb_S512x128_S512x128_0_0).toLoadRect (harg2.unread x0))) (k0_pay64 laneNo (arg2.view.readAt (Elt F) (Rect.unit (s := S512x128) ![0, 0] S512x128.size inb_S512x128_S512x128_0_0).toLoadRect (harg2.unread x0))) (wide4 (arg5.view.readAt (Elt F) (Rect.unit (s := S2x512x128) ![0, 0, 0] S1x512x128.size inb_S2x512x128_S1x512x128_0_0_0).toLoadRect (harg5.unread x3))) (wide4 (arg5.view.readAt (Elt F) (Rect.unit (s := S2x512x128) ![1, 0, 0] S1x512x128.size inb_S2x512x128_S1x512x128_1_0_0).toLoadRect (harg5.unread x3))) (harg3.unread x1) (harg4.unread x2) (harg6.unread x4) (st_k0_t2 Variants.none c none i arg2 harg2 arg3 harg3 arg4 harg4 arg5 harg5 arg6 harg6 arg7 harg7 arg8 harg8 (BitVec.ofNat 32 (i 1).val) u20 (iota .tc S512x512 32 [0] iota_S512x512_d0_w32) laneNo u25 u39 (arg2.view.readAt (Elt F) (Rect.unit (s := S512x128) ![0, 0] S512x128.size inb_S512x128_S512x128_0_0).toLoadRect (harg2.unread x0)) (arg5.view.readAt (Elt F) (Rect.unit (s := S2x512x128) ![0, 0, 0] S1x512x128.size inb_S2x512x128_S1x512x128_0_0_0).toLoadRect (harg5.unread x3)) (arg5.view.readAt (Elt F) (Rect.unit (s := S2x512x128) ![1, 0, 0] S1x512x128.size inb_S2x512x128_S1x512x128_1_0_0).toLoadRect (harg5.unread x3)) u73 (harg3.unread x1) (harg4.unread x2) (harg6.unread x4) (st_k0_t1 Variants.none c none i arg2 harg2 arg3 harg3 arg4 harg4 arg5 harg5 arg6 harg6 arg7 harg7 arg8 harg8 (BitVec.ofNat 32 (i 1).val) u20 (iota .tc S512x512 32 [0] iota_S512x512_d0_w32) laneNo u25 u39 (arg2.view.readAt (Elt F) (Rect.unit (s := S512x128) ![0, 0] S512x128.size inb_S512x128_S512x128_0_0).toLoadRect (harg2.unread x0)) (arg5.view.readAt (Elt F) (Rect.unit (s := S2x512x128) ![0, 0, 0] S1x512x128.size inb_S2x512x128_S1x512x128_0_0_0).toLoadRect (harg5.unread x3)) (arg5.view.readAt (Elt F) (Rect.unit (s := S2x512x128) ![1, 0, 0] S1x512x128.size inb_S2x512x128_S1x512x128_1_0_0).toLoadRect (harg5.unread x3)) (harg3.unread x1) (harg4.unread x2) (harg6.unread x4) start (k0_t1_loop i).trips) (k0_t2_loop i).trips) (k0_t3_loop i).trips) (k0_t4_loop i).trips

theorem carried_eq (u20 u25 u73 u80 : BitVec 32) (u39 : BitVec 1) : carried c i arg2 harg2 arg3 harg3 arg4 harg4 arg5 harg5 arg6 harg6 arg7 harg7 arg8 harg8 x0 x1 x2 x3 x4 u20 u25 u73 u80 u39 = both (head0 i x0 x1 x2 x3 x4) (head1 i x0 x1 x2 x3 x4) := by
  have w2 : (arg2.view.readAt (Elt F) (Rect.unit (s := S512x128) ![0, 0] S512x128.size inb_S512x128_S512x128_0_0).toLoadRect (harg2.unread x0)) = x0 := by
    rw [View.readAt_full, harg2.read_unread]
  have w50 : (arg5.view.readAt (Elt F) (Rect.unit (s := S2x512x128) ![0, 0, 0] S1x512x128.size inb_S2x512x128_S1x512x128_0_0_0).toLoadRect (harg5.unread x3)) = VecWindow.window x3 ![0, 0, 0] S1x512x128.size one_inb0 := by
    rw [View.readAt_unit arg5.view _ _ rfl one_inb0, harg5.read_unread]
  have w51 : (arg5.view.readAt (Elt F) (Rect.unit (s := S2x512x128) ![1, 0, 0] S1x512x128.size inb_S2x512x128_S1x512x128_1_0_0).toLoadRect (harg5.unread x3)) = VecWindow.window x3 ![1, 0, 0] S1x512x128.size one_inb1 := by
    rw [View.readAt_unit arg5.view _ _ rfl one_inb1, harg5.read_unread]
  have z3 : arg3.view.read (Elt F) (harg3.unread x1) = x1 := harg3.read_unread _
  have z4 : arg4.view.read (Elt F) (harg4.unread x2) = x2 := harg4.read_unread _
  have z6 : arg6.view.read (Elt F) (harg6.unread x4) = x4 := harg6.read_unread _
  have hk : 0 < (k0_t3_loop i).trips := by rw [trips3]; exact Nat.one_pos
  rw [carried, st4_done, st2_done, st1_spec start _ le_rfl, st3_spec _ ⟨0, hk⟩, z3, z4, z6, w2, w50, w51, trips1]
  rfl

end Cert.KernelFoxfwdIdeal.Gen

end
-- ==== Proof.FoxfwdStores.lean ====
module

public import proofs.«01_k».proof.Proof.FoxfwdCarry
public import proofs.«01_k».proof.Proof.Gen.KernelFoxfwdIdeal.Frame.RunA

@[expose] public section

set_option maxRecDepth 16384

noncomputable section

open Idealize.ShloMosaic Idealize.ShloMosaic.TcCoe Idealize.SL.Sem

namespace Cert.KernelFoxfwdIdeal.Gen
open Cert.KernelFoxfwdIdeal
open Cert.KernelFoxIdeal.Gen (scoreOf tall wide4 nnOf castB rows frow rows_inb frow_inb one_inb0 one_inb1)
variable {F : FTy → Type} [FloatOps F] [Named F]
variable (c : Dev nD) (i : grid0.Coords) (arg2 : Memref sig .tc .vmem S512x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x512x128 .f32) (harg5 : arg5.IsWhole) (arg6 : Memref sig .tc .vmem S1x2x2048 .f32) (harg6 : arg6.IsWhole) (arg7 : Memref sig .tc .vmem S512x128 .bf16) (harg7 : arg7.IsWhole) (arg8 : Memref sig .tc .vmem S2x512x128 .f32) (harg8 : arg8.IsWhole) (x0 : Vec F S512x128 .bf16) (x1 x2 : Vec F S2048x128 .bf16) (x3 : Vec F S2x512x128 .f32) (x4 : Vec F S1x2x2048 .f32)

/-- A carried value, put together from its components. -/
theorem eta6 (T : Two F) : (T.1, T.2.1, T.2.2.1, T.2.2.2.1, T.2.2.2.2.1, T.2.2.2.2.2) = T := rfl

/-- What the first two loops leave, component by component. -/
theorem carry_two : ((kernelRun0_A.sl.r_5 c i arg2 harg2 arg3 harg3 arg4 harg4 arg5 harg5 arg6 harg6 arg7 harg7 arg8 harg8 x0 x1 x2 x3 x4, kernelRun0_A.sl.r_6 c i arg2 harg2 arg3 harg3 arg4 harg4 arg5 harg5 arg6 harg6 arg7 harg7 arg8 harg8 x0 x1 x2 x3 x4, kernelRun0_A.sl.r_7 c i arg2 harg2 arg3 harg3 arg4 harg4 arg5 harg5 arg6 harg6 arg7 harg7 arg8 harg8 x0 x1 x2 x3 x4, kernelRun0_A.sl.r_8 c i arg2 harg2 arg3 harg3 arg4 harg4 arg5 harg5 arg6 harg6 arg7 harg7 arg8 harg8 x0 x1 x2 x3 x4, kernelRun0_A.sl.r_9 c i arg2 harg2 arg3 harg3 arg4 harg4 arg5 harg5 arg6 harg6 arg7 harg7 arg8 harg8 x0 x1 x2 x3 x4, kernelRun0_A.sl.r_10 c i arg2 harg2 arg3 harg3 arg4 harg4 arg5 harg5 arg6 harg6 arg7 harg7 arg8 harg8 x0 x1 x2 x3 x4) : Two F) = (st_k0_t2 Variants.none c none i arg2 harg2 arg3 harg3 arg4 harg4 arg5 harg5 arg6 harg6 arg7 harg7 arg8 harg8 (BitVec.ofNat 32 (i 1).val) (kernelRun0_A.sl.v20 i) (iota .tc S512x512 32 [0] iota_S512x512_d0_w32) laneNo (kernelRun0_A.sl.v25 i) (kernelRun0_A.sl.v39 i) (arg2.view.readAt (Elt F) (Rect.unit (s := S512x128) ![0, 0] S512x128.size inb_S512x128_S512x128_0_0).toLoadRect (harg2.unread x0)) (arg5.view.readAt (Elt F) (Rect.unit (s := S2x512x128) ![0, 0, 0] S1x512x128.size inb_S2x512x128_S1x512x128_0_0_0).toLoadRect (harg5.unread x3)) (arg5.view.readAt (Elt F) (Rect.unit (s := S2x512x128) ![1, 0, 0] S1x512x128.size inb_S2x512x128_S1x512x128_1_0_0).toLoadRect (harg5.unread x3)) (kernelRun0_A.sl.v73 i) (harg3.unread x1) (harg4.unread x2) (harg6.unread x4) (st_k0_t1 Variants.none c none i arg2 harg2 arg3 harg3 arg4 harg4 arg5 harg5 arg6 harg6 arg7 harg7 arg8 harg8 (BitVec.ofNat 32 (i 1).val) (kernelRun0_A.sl.v20 i) (iota .tc S512x512 32 [0] iota_S512x512_d0_w32) laneNo (kernelRun0_A.sl.v25 i) (kernelRun0_A.sl.v39 i) (arg2.view.readAt (Elt F) (Rect.unit (s := S512x128) ![0, 0] S512x128.size inb_S512x128_S512x128_0_0).toLoadRect (harg2.unread x0)) (arg5.view.readAt (Elt F) (Rect.unit (s := S2x512x128) ![0, 0, 0] S1x512x128.size inb_S2x512x128_S1x512x128_0_0_0).toLoadRect (harg5.unread x3)) (arg5.view.readAt (Elt F) (Rect.unit (s := S2x512x128) ![1, 0, 0] S1x512x128.size inb_S2x512x128_S1x512x128_1_0_0).toLoadRect (harg5.unread x3)) (harg3.unread x1) (harg4.unread x2) (harg6.unread x4) start (k0_t1_loop i).trips) (k0_t2_loop i).trips) := by
  unfold kernelRun0_A.sl.r_5 kernelRun0_A.sl.r_6 kernelRun0_A.sl.r_7 kernelRun0_A.sl.r_8 kernelRun0_A.sl.r_9 kernelRun0_A.sl.r_10
  refine (eta6 _).trans ?_
  rw [eta6]
  congr 1

/-- The third loop's result, and the fourth's. -/
def third : Two F := st_k0_t3 Variants.none c none i arg2 harg2 arg3 harg3 arg4 harg4 arg5 harg5 arg6 harg6 arg7 harg7 arg8 harg8 kernelRun0_A.sl.v22 (kernelRun0_A.sl.v41 i) (kernelRun0_A.sl.r i) (kernelRun0_A.sl.r_1 c arg2 harg2 x0) (kernelRun0_A.sl.r_2 c arg2 harg2 x0) (kernelRun0_A.sl.r_3 c arg5 harg5 x3) (kernelRun0_A.sl.r_4 c arg5 harg5 x3) (harg3.unread x1) (harg4.unread x2) (harg6.unread x4) (kernelRun0_A.sl.r_5 c i arg2 harg2 arg3 harg3 arg4 harg4 arg5 harg5 arg6 harg6 arg7 harg7 arg8 harg8 x0 x1 x2 x3 x4, kernelRun0_A.sl.r_6 c i arg2 harg2 arg3 harg3 arg4 harg4 arg5 harg5 arg6 harg6 arg7 harg7 arg8 harg8 x0 x1 x2 x3 x4, kernelRun0_A.sl.r_7 c i arg2 harg2 arg3 harg3 arg4 harg4 arg5 harg5 arg6 harg6 arg7 harg7 arg8 harg8 x0 x1 x2 x3 x4, kernelRun0_A.sl.r_8 c i arg2 harg2 arg3 harg3 arg4 harg4 arg5 harg5 arg6 harg6 arg7 harg7 arg8 harg8 x0 x1 x2 x3 x4, kernelRun0_A.sl.r_9 c i arg2 harg2 arg3 harg3 arg4 harg4 arg5 harg5 arg6 harg6 arg7 harg7 arg8 harg8 x0 x1 x2 x3 x4, kernelRun0_A.sl.r_10 c i arg2 harg2 arg3 harg3 arg4 harg4 arg5 harg5 arg6 harg6 arg7 harg7 arg8 harg8 x0 x1 x2 x3 x4) (k0_t3_loop i).trips
def fourth : Two F := st_k0_t4 Variants.none c none i arg2 harg2 arg3 harg3 arg4 harg4 arg5 harg5 arg6 harg6 arg7 harg7 arg8 harg8 kernelRun0_A.sl.v22 (kernelRun0_A.sl.r i) (kernelRun0_A.sl.r_1 c arg2 harg2 x0) (kernelRun0_A.sl.r_2 c arg2 harg2 x0) (kernelRun0_A.sl.r_3 c arg5 harg5 x3) (kernelRun0_A.sl.r_4 c arg5 harg5 x3) (Scalar.addi (kernelRun0_A.sl.v41 i) (Scalar.muli (Scalar.divsi (kernelRun0_A.sl.v76 i) 1#32) 1#32)) (harg3.unread x1) (harg4.unread x2) (harg6.unread x4) ((third c i arg2 harg2 arg3 harg3 arg4 harg4 arg5 harg5 arg6 harg6 arg7 harg7 arg8 harg8 x0 x1 x2 x3 x4).1, (third c i arg2 harg2 arg3 harg3 arg4 harg4 arg5 harg5 arg6 harg6 arg7 harg7 arg8 harg8 x0 x1 x2 x3 x4).2.1, (third c i arg2 harg2 arg3 harg3 arg4 harg4 arg5 harg5 arg6 harg6 arg7 harg7 arg8 harg8 x0 x1 x2 x3 x4).2.2.1, (third c i arg2 harg2 arg3 harg3 arg4 harg4 arg5 harg5 arg6 harg6 arg7 harg7 arg8 harg8 x0 x1 x2 x3 x4).2.2.2.1, (third c i arg2 harg2 arg3 harg3 arg4 harg4 arg5 harg5 arg6 harg6 arg7 harg7 arg8 harg8 x0 x1 x2 x3 x4).2.2.2.2.1, (third c i arg2 harg2 arg3 harg3 arg4 harg4 arg5 harg5 arg6 harg6 arg7 harg7 arg8 harg8 x0 x1 x2 x3 x4).2.2.2.2.2) (k0_t4_loop i).trips
theorem third_eq : third c i arg2 harg2 arg3 harg3 arg4 harg4 arg5 harg5 arg6 harg6 arg7 harg7 arg8 harg8 x0 x1 x2 x3 x4 = (st_k0_t3 Variants.none c none i arg2 harg2 arg3 harg3 arg4 harg4 arg5 harg5 arg6 harg6 arg7 harg7 arg8 harg8 keyNo (k0_t3_loop i).lb (k0_pay60 (BitVec.ofNat 32 (i 1).val) (iota .tc S512x512 32 [0] iota_S512x512_d0_w32)) (k0_pay63 laneNo (arg2.view.readAt (Elt F) (Rect.unit (s := S512x128) ![0, 0] S512x128.size inb_S512x128_S512x128_0_0).toLoadRect (harg2.unread x0))) (k0_pay64 laneNo (arg2.view.readAt (Elt F) (Rect.unit (s := S512x128) ![0, 0] S512x128.size inb_S512x128_S512x128_0_0).toLoadRect (harg2.unread x0))) (wide4 (arg5.view.readAt (Elt F) (Rect.unit (s := S2x512x128) ![0, 0, 0] S1x512x128.size inb_S2x512x128_S1x512x128_0_0_0).toLoadRect (harg5.unread x3))) (wide4 (arg5.view.readAt (Elt F) (Rect.unit (s := S2x512x128) ![1, 0, 0] S1x512x128.size inb_S2x512x128_S1x512x128_1_0_0).toLoadRect (harg5.unread x3))) (harg3.unread x1) (harg4.unread x2) (harg6.unread x4) (st_k0_t2 Variants.none c none i arg2 harg2 arg3 harg3 arg4 harg4 arg5 harg5 arg6 harg6 arg7 harg7 arg8 harg8 (BitVec.ofNat 32 (i 1).val) (kernelRun0_A.sl.v20 i) (iota .tc S512x512 32 [0] iota_S512x512_d0_w32) laneNo (kernelRun0_A.sl.v25 i) (kernelRun0_A.sl.v39 i) (arg2.view.readAt (Elt F) (Rect.unit (s := S512x128) ![0, 0] S512x128.size inb_S512x128_S512x128_0_0).toLoadRect (harg2.unread x0)) (arg5.view.readAt (Elt F) (Rect.unit (s := S2x512x128) ![0, 0, 0] S1x512x128.size inb_S2x512x128_S1x512x128_0_0_0).toLoadRect (harg5.unread x3)) (arg5.view.readAt (Elt F) (Rect.unit (s := S2x512x128) ![1, 0, 0] S1x512x128.size inb_S2x512x128_S1x512x128_1_0_0).toLoadRect (harg5.unread x3)) (kernelRun0_A.sl.v73 i) (harg3.unread x1) (harg4.unread x2) (harg6.unread x4) (st_k0_t1 Variants.none c none i arg2 harg2 arg3 harg3 arg4 harg4 arg5 harg5 arg6 harg6 arg7 harg7 arg8 harg8 (BitVec.ofNat 32 (i 1).val) (kernelRun0_A.sl.v20 i) (iota .tc S512x512 32 [0] iota_S512x512_d0_w32) laneNo (kernelRun0_A.sl.v25 i) (kernelRun0_A.sl.v39 i) (arg2.view.readAt (Elt F) (Rect.unit (s := S512x128) ![0, 0] S512x128.size inb_S512x128_S512x128_0_0).toLoadRect (harg2.unread x0)) (arg5.view.readAt (Elt F) (Rect.unit (s := S2x512x128) ![0, 0, 0] S1x512x128.size inb_S2x512x128_S1x512x128_0_0_0).toLoadRect (harg5.unread x3)) (arg5.view.readAt (Elt F) (Rect.unit (s := S2x512x128) ![1, 0, 0] S1x512x128.size inb_S2x512x128_S1x512x128_1_0_0).toLoadRect (harg5.unread x3)) (harg3.unread x1) (harg4.unread x2) (harg6.unread x4) start (k0_t1_loop i).trips) (k0_t2_loop i).trips) (k0_t3_loop i).trips) := by
  rw [third, carry_two]
  congr 1
theorem fourth_eq : fourth c i arg2 harg2 arg3 harg3 arg4 harg4 arg5 harg5 arg6 harg6 arg7 harg7 arg8 harg8 x0 x1 x2 x3 x4 = carried c i arg2 harg2 arg3 harg3 arg4 harg4 arg5 harg5 arg6 harg6 arg7 harg7 arg8 harg8 x0 x1 x2 x3 x4 (kernelRun0_A.sl.v20 i) (kernelRun0_A.sl.v25 i) (kernelRun0_A.sl.v73 i) (Scalar.addi (kernelRun0_A.sl.v41 i) (Scalar.muli (Scalar.divsi (kernelRun0_A.sl.v76 i) 1#32) 1#32)) (kernelRun0_A.sl.v39 i) := by
  rw [fourth, carried, eta6, third_eq]
  congr 1

set_option maxHeartbeats 1000000 in
/-- A point's stores. -/
theorem stores :
    (kernelRun0_A c i arg2 harg2 arg3 harg3 arg4 harg4 arg5 harg5 arg6 harg6 arg7 harg7 arg8 harg8 x0 x1 x2 x3 x4).1
      = [⟨(Rect.unit (s := S512x128) ![0, 0] S512x128.size inb_S512x128_S512x128_0_0), k0_pay13 (k0_pay62 kernelRun0_A.sl.v23) (fourth c i arg2 harg2 arg3 harg3 arg4 harg4 arg5 harg5 arg6 harg6 arg7 harg7 arg8 harg8 x0 x1 x2 x3 x4).1 (fourth c i arg2 harg2 arg3 harg3 arg4 harg4 arg5 harg5 arg6 harg6 arg7 harg7 arg8 harg8 x0 x1 x2 x3 x4).2.2.1 (fourth c i arg2 harg2 arg3 harg3 arg4 harg4 arg5 harg5 arg6 harg6 arg7 harg7 arg8 harg8 x0 x1 x2 x3 x4).2.2.2.1 (fourth c i arg2 harg2 arg3 harg3 arg4 harg4 arg5 harg5 arg6 harg6 arg7 harg7 arg8 harg8 x0 x1 x2 x3 x4).2.2.2.2.2⟩]
    ∧ (kernelRun0_A c i arg2 harg2 arg3 harg3 arg4 harg4 arg5 harg5 arg6 harg6 arg7 harg7 arg8 harg8 x0 x1 x2 x3 x4).2.1
      = [⟨(Rect.unit (s := S2x512x128) ![1, 0, 0] S1x512x128.size inb_S2x512x128_S1x512x128_1_0_0), k0_pay15 (fourth c i arg2 harg2 arg3 harg3 arg4 harg4 arg5 harg5 arg6 harg6 arg7 harg7 arg8 harg8 x0 x1 x2 x3 x4).2.2.2.2.1 (fourth c i arg2 harg2 arg3 harg3 arg4 harg4 arg5 harg5 arg6 harg6 arg7 harg7 arg8 harg8 x0 x1 x2 x3 x4).2.2.2.2.2⟩,
        ⟨(Rect.unit (s := S2x512x128) ![0, 0, 0] S1x512x128.size inb_S2x512x128_S1x512x128_0_0_0), k0_pay14 (fourth c i arg2 harg2 arg3 harg3 arg4 harg4 arg5 harg5 arg6 harg6 arg7 harg7 arg8 harg8 x0 x1 x2 x3 x4).2.1 (fourth c i arg2 harg2 arg3 harg3 arg4 harg4 arg5 harg5 arg6 harg6 arg7 harg7 arg8 harg8 x0 x1 x2 x3 x4).2.2.1⟩] := by
  unfold kernelRun0_A fourth third
  exact ⟨rfl, rfl⟩

end Cert.KernelFoxfwdIdeal.Gen

end
-- ==== Proof.FoxfwdPt.lean ====
module

public import proofs.«01_k».proof.Proof.FoxfwdStores
public import proofs.«01_k».proof.Proof.FoxfwdFrame

@[expose] public section

set_option maxRecDepth 16384

noncomputable section

open Idealize.ShloMosaic Idealize.ShloMosaic.TcCoe Idealize.SL.Sem

namespace Cert.KernelFoxfwdIdeal.Gen
open Cert.KernelFoxfwdIdeal
open Cert.KernelFoxIdeal.Gen (one_inb0 one_inb1)
variable {F : FTy → Type} [FloatOps F] [Named F]

theorem out_written (L : List (View.Piece (Elt F) S512x128 .bf16)) (w : Vec F S512x128 .bf16) (h : L = [⟨Rect.unit (s := S512x128) ![0, 0] S512x128.size inb_S512x128_S512x128_0_0, w⟩]) :
    VO0_5.read (Elt F) (VO0_5.writes (Elt F) VO0_5.junk L) = w := by
  rw [h]; exact View.read_writes_full _ _ _ _ _

section Stats
variable (L : List (View.Piece (Elt F) S2x512x128 .f32)) (w0 w1 : Vec F S1x512x128 .f32)
  (h : L = [⟨Rect.unit (s := S2x512x128) ![1, 0, 0] S1x512x128.size inb_S2x512x128_S1x512x128_1_0_0, w1⟩, ⟨Rect.unit (s := S2x512x128) ![0, 0, 0] S1x512x128.size inb_S2x512x128_S1x512x128_0_0_0, w0⟩])
include h
theorem stat_put : ∃ x : Vec F S2x512x128 .f32, VO0_6.read (Elt F) (VO0_6.writes (Elt F) VO0_6.junk L)
    = VecWindow.put (s := S2x512x128) (VecWindow.put (s := S2x512x128) x ![0, 0, 0] S1x512x128.size w0) ![1, 0, 0] S1x512x128.size w1 := by
  subst h
  refine ⟨VO0_6.read (Elt F) (VO0_6.writes (Elt F) VO0_6.junk []), ?_⟩
  refine (View.read_writes_cons_put VO0_6 _ inb_S2x512x128_S1x512x128_1_0_0 w1 _ rfl).trans ?_
  exact congrArg (fun x : Vec F S2x512x128 .f32 => VecWindow.put (s := S2x512x128) x ![1, 0, 0] S1x512x128.size w1) (View.read_writes_cons_put VO0_6 _ inb_S2x512x128_S1x512x128_0_0_0 w0 [] rfl)
theorem stat_first : VecWindow.window (VO0_6.read (Elt F) (VO0_6.writes (Elt F) VO0_6.junk L)) ![0, 0, 0] S1x512x128.size one_inb0 = w0 := by
  obtain ⟨x, e⟩ := stat_put L w0 w1 h
  rw [e]
  refine (VecWindow.window_put_of_disjoint (s := S2x512x128) _ ![1, 0, 0] S1x512x128.size ![0, 0, 0] S1x512x128.size one_inb0 w1 0 (by show 0 + 1 ≤ 1 ∨ 1 + 1 ≤ 0; omega)).trans ?_
  exact VecWindow.window_put_same (s := S2x512x128) x ![0, 0, 0] S1x512x128.size one_inb0 w0
theorem stat_second : VecWindow.window (VO0_6.read (Elt F) (VO0_6.writes (Elt F) VO0_6.junk L)) ![1, 0, 0] S1x512x128.size one_inb1 = w1 := by
  obtain ⟨x, e⟩ := stat_put L w0 w1 h
  rw [e]
  exact VecWindow.window_put_same (s := S2x512x128) _ ![1, 0, 0] S1x512x128.size one_inb1 w1
end Stats

variable (m : (ℓ : Loc nD τ sig) → Buf (Elt F) ℓ) (c : Dev nD) (t : Fin cfg0.N)

/-- The two heads at the end of a point. -/
def H0 : Row F := head0 (grid0.coords t) (iblk m c 0 t) (iblk m c 1 t) (iblk m c 2 t) (iblk m c 3 t) (iblk m c 4 t)
def H1 : Row F := head1 (grid0.coords t) (iblk m c 0 t) (iblk m c 1 t) (iblk m c 2 t) (iblk m c 3 t) (iblk m c 4 t)

/-- A store's payload reads the carried values; those are the two heads'. -/
theorem at_heads {A : Type} (f : Two F → A) {i : grid0.Coords} {x0 : Vec F S512x128 .bf16} {x1 x2 : Vec F S2048x128 .bf16} {x3 : Vec F S2x512x128 .f32} {x4 : Vec F S1x2x2048 .f32} {T : Two F}
    (h : T = both (head0 i x0 x1 x2 x3 x4) (head1 i x0 x1 x2 x3 x4)) : f T = f (both (head0 i x0 x1 x2 x3 x4) (head1 i x0 x1 x2 x3 x4)) := congrArg f h

theorem outAt_eq : outAt m c t = k0_pay13 (k0_pay62 laneNo) (H0 m c t).1 (H0 m c t).2.2 (H1 m c t).1 (H1 m c t).2.2 := by
  have e := (fourth_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).trans (carried_eq ..)
  unfold outAt outP
  refine (out_written _ _ (stores ..).1).trans ?_
  exact at_heads (fun T : Two F => k0_pay13 (k0_pay62 laneNo) T.1 T.2.2.1 T.2.2.2.1 T.2.2.2.2.2) e

theorem statAt_first : VecWindow.window (statAt m c t) ![0, 0, 0] S1x512x128.size one_inb0 = k0_pay14 (H0 m c t).2.1 (H0 m c t).2.2 := by
  have e := (fourth_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).trans (carried_eq ..)
  unfold statAt statP
  refine (stat_first _ _ _ (stores ..).2).trans ?_
  exact at_heads (fun T : Two F => k0_pay14 T.2.1 T.2.2.1) e

theorem statAt_second : VecWindow.window (statAt m c t) ![1, 0, 0] S1x512x128.size one_inb1 = k0_pay15 (H1 m c t).2.1 (H1 m c t).2.2 := by
  have e := (fourth_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t)).trans (carried_eq ..)
  unfold statAt statP
  refine (stat_second _ _ _ (stores ..).2).trans ?_
  exact at_heads (fun T : Two F => k0_pay15 T.2.2.2.2.1 T.2.2.2.2.2) e

end Cert.KernelFoxfwdIdeal.Gen

end
-- ==== Proof.FoxfwdHost.lean ====
module

public import proofs.«01_k».proof.Proof.FoxHost
public import proofs.«01_k».proof.Proof.FoxfwdPt

@[expose] public section

set_option maxRecDepth 16384

noncomputable section

open Idealize.ShloMosaic Idealize.ShloMosaic.TcCoe Idealize.SL.Sem

namespace Cert.KernelFoxfwdIdeal.Grad
open Cert.KernelFoxfwdIdeal Cert.KernelFoxfwdIdeal.Gen Cert.Finite
open Cert.KernelSbIdeal.Grad (lift lift_ix lift_congr eq_lift cols first second eighth slt64 sge64)
open Cert.KernelFoxIdeal.Grad (gateP duo)
open Cert.ReferenceSbIdeal.Grad (ofBits_eighth)
open Cert.ReferenceFoxIdeal.Grad (R2 RC)

variable (m : (ℓ : Loc nD τ sig) → Buf (Elt Ideal) ℓ) (c : Dev nD) (X0 X1 X2 C : ℕ → ℕ → ℝ)
    (e0 : m ((c : Thread nD τ).loc main_arg0) = R2 X0) (e1 : m ((c : Thread nD τ).loc main_arg1) = R2 X1)
    (e2 : m ((c : Thread nD τ).loc main_arg2) = R2 X2) (e3 : m ((c : Thread nD τ).loc main_arg3) = RC C)

include e0 e1 e2 in
theorem V1 (T : Fin 2048) (l : Fin 3072) : V m c main_v1 (ix2 T l)
    = (((if l.val < 1024 then X0 T.val l.val else if l.val < 2048 then X1 T.val (l.val - 1024) else X2 T.val (l.val - 2048) : ℝ)) : EReal) := by
  rw [← Cert.KernelFoxIdeal.Grad.cat3, ← e0, ← e1, ← e2]; rfl

include e3 in
theorem V3 (h : Fin 16) (T : Fin 2048) (l : Fin 128) : V m c main_v3 (ix3 h T l) = ((C h.val T.val : ℝ) : EReal) := by
  have e : V m c main_v3 = broadcastInDim S16x2048x128 ![0, 1, 2] bcast_S16x2048x1_S16x2048x128_0_1_2 (broadcastInDim S16x2048x1 ![0, 1] bcast_S16x2048_S16x2048x1_0_1 (m ((c : Thread nD τ).loc main_arg3))) := rfl
  rw [e, e3]
  pointwise
  rfl

include e3 in
theorem V4 (p : Fin 8) (a : Fin 2) (T : Fin 2048) : V m c main_v4 (ix3 p a T) = ((C (2 * p.val + a.val) T.val : ℝ) : EReal) := by
  have e : V m c main_v4 = shapeCast S8x2x2048 (m ((c : Thread nD τ).loc main_arg3)) shapeCasts_S16x2048_S8x2x2048 := rfl
  rw [e, e3]
  refine (Cert.KernelFoxIdeal.Grad.pairs _ p a T (by omega)).trans ?_
  rw [mul_comm 2]
  rfl

theorem idx : ∀ t : Fin cfg0.N, win0_0.index t = ![t.val % 4, t.val / 4] ∧ win0_1.index t = ![0, 8 + t.val / 4] ∧ win0_2.index t = ![0, 16 + t.val / 4]
    ∧ win0_3.index t = ![t.val / 4, t.val % 4, 0] ∧ win0_4.index t = ![t.val / 4, 0, 0] := (by decide +kernel : ∀ t : Fin grid0.N, _)

variable (t : Fin cfg0.N)
theorem wide3_at (A : FVec Ideal S16x2048x128 .f32) (a : Fin 2) (r : Fin 512) (l : Fin 128) (h : t.val / 4 * 2 + a.val < 16) (h' : t.val % 4 * 512 + r.val < 2048) :
    ((cfg0.win 3).blk t).view.read (Elt Ideal) A (ix3 a r l) = A (ix3 ⟨t.val / 4 * 2 + a.val, h⟩ ⟨t.val % 4 * 512 + r.val, h'⟩ l) :=
  congrArg A (by blk_ext [idx t])
theorem t_lt (t : Fin cfg0.N) : t.val < 32 := t.isLt

include e0 e1 e2 in
theorem ld0 : iblk m c 0 t = (lift (φ := .bf16) (fun r l => X0 (512 * (t.val % 4) + r) (128 * (t.val / 4) + l)) : Vec Ideal S512x128 .bf16) :=
  eq_lift (φ := .bf16) fun r l => by
    have ht := t_lt t
    refine Eq.trans (b := V m c main_v1 (ix2 ⟨(t.val % 4) * 512 + r.val, by omega⟩ ⟨(t.val / 4) * 128 + l.val, by omega⟩)) (congrArg (V m c main_v1) (by blk_ext [idx t])) ?_
    rw [V1 m c X0 X1 X2 e0 e1 e2, if_pos (by show (t.val / 4) * 128 + l.val < 1024; omega)]
    exact congrArg₂ (fun x y => ((X0 x y : ℝ) : EReal)) (by show (t.val % 4) * 512 + r.val = _; omega) (by show (t.val / 4) * 128 + l.val = _; omega)

include e0 e1 e2 in
theorem ld1 : iblk m c 1 t = (lift (φ := .bf16) (cols X1 (t.val / 4)) : Vec Ideal S2048x128 .bf16) :=
  eq_lift (φ := .bf16) fun r l => by
    have ht := t_lt t
    refine Eq.trans (b := V m c main_v1 (ix2 r ⟨(8 + t.val / 4) * 128 + l.val, by omega⟩)) (congrArg (V m c main_v1) (by blk_ext [idx t])) ?_
    have h1 : (8 + t.val / 4) * 128 + l.val - 1024 = 128 * (t.val / 4) + l.val := by omega
    rw [V1 m c X0 X1 X2 e0 e1 e2]
    dsimp only
    rw [if_neg (by omega), if_pos (by omega), h1, cols]

include e0 e1 e2 in
theorem ld2 : iblk m c 2 t = (lift (φ := .bf16) (cols X2 (t.val / 4)) : Vec Ideal S2048x128 .bf16) :=
  eq_lift (φ := .bf16) fun r l => by
    have ht := t_lt t
    refine Eq.trans (b := V m c main_v1 (ix2 r ⟨(16 + t.val / 4) * 128 + l.val, by omega⟩)) (congrArg (V m c main_v1) (by blk_ext [idx t])) ?_
    have h1 : (16 + t.val / 4) * 128 + l.val - 2048 = 128 * (t.val / 4) + l.val := by omega
    rw [V1 m c X0 X1 X2 e0 e1 e2]
    dsimp only
    rw [if_neg (by omega), if_neg (by omega), h1, cols]

include e3 in
theorem ld3 (a : Fin 2) (r : Fin 512) (l : Fin 128) : (iblk m c 3 t : Vec Ideal S2x512x128 .f32) (ix3 a r l) = ((gateP C (t.val / 4) a.val (512 * (t.val % 4) + r.val) : ℝ) : EReal) := by
  have ht := t_lt t
  refine Eq.trans (b := V m c main_v3 (ix3 ⟨(t.val / 4) * 2 + a.val, by omega⟩ ⟨(t.val % 4) * 512 + r.val, by omega⟩ l)) (wide3_at t (V m c main_v3) a r l _ _) ?_
  rw [V3 m c C e3]
  exact congrArg₂ (fun x y => ((C x y : ℝ) : EReal)) (by show (t.val / 4) * 2 + a.val = _; omega) (by show (t.val % 4) * 512 + r.val = _; omega)

include e3 in
theorem ld4 : (iblk m c 4 t : Vec Ideal S1x2x2048 .f32) = duo (gateP C (t.val / 4)) := funext fun j => by
  have ht := t_lt t
  rw [eq_ix3 j]
  refine Eq.trans (b := V m c main_v4 (ix3 ⟨t.val / 4, by omega⟩ (j 1) (j 2))) (congrArg (V m c main_v4) (by blk_ext [idx t])) ?_
  exact V4 m c C e3 _ (j 1) (j 2)

variable (b p : ℕ)
theorem q_first : k0_pay63 laneNo (lift (φ := .bf16) (fun r l => X0 (512 * b + r) (128 * p + l)) : Vec Ideal S512x128 .bf16) = lift fun r l => first (eighth X0) p (512 * b + r) l :=
  eq_lift fun r l => by
    pointwise [k0_pay63, k0_pay61, k0_pay62, laneNo, lift]
    rw [slt64, first]
    split <;> simp [Scalar.select, eighth, ofBits_eighth]

theorem q_second : k0_pay64 laneNo (lift (φ := .bf16) (fun r l => X0 (512 * b + r) (128 * p + l)) : Vec Ideal S512x128 .bf16) = lift fun r l => second (eighth X0) p (512 * b + r) l :=
  eq_lift fun r l => by
    pointwise [k0_pay64, k0_pay61, laneNo, lift]
    rw [sge64, second]
    split <;> simp [Scalar.select, eighth, ofBits_eighth]

end Cert.KernelFoxfwdIdeal.Grad

end
-- ==== Proof.FoxfwdRow.lean ====
module

public import proofs.«01_k».proof.Proof.FoxfwdStep
public import proofs.«01_k».proof.Proof.FoxReal
public import proofs.«01_k».proof.Proof.FoxRef

@[expose] public section

set_option maxRecDepth 16384

noncomputable section

open Idealize.ShloMosaic Idealize.ShloMosaic.TcCoe Idealize.SL.Sem

namespace Cert.KernelFoxfwdIdeal.Grad
open Cert.KernelFoxfwdIdeal Cert.KernelFoxfwdIdeal.Gen
open Cert.KernelFoxIdeal.Gen (scoreOf tall wide4 nnOf castB)
open Cert.ReferenceFoxIdeal.Grad (ofBits_bot topF topE topE_coe eF lF stF wF lF_pos wF_eq)
open Cert.KernelSbIdeal.Grad (glue)
open Cert.Finite (div_real)

section Reals
variable (Z : ℕ → ℕ → ℝ) (M M' : ℝ) (T : ℕ) (v : ℕ → ℝ) (n : ℕ)

/-- The weights under a bound `M`, their sum over the first `n` key blocks and the sum of the weighted values. -/
def eM (S : ℕ) : ℝ := if S ≤ T then Real.exp (Z T S - M) else 0
def lM : ℝ := ∑ S ∈ Finset.range (512 * n), eM Z M T S
def aM : ℝ := ∑ S ∈ Finset.range (512 * n), eM Z M T S * v S

theorem eM_move (S : ℕ) : Real.exp (M - M') * eM Z M T S = eM Z M' T S := by
  unfold eM
  split
  · rw [← Real.exp_add]; congr 1; ring
  · rw [mul_zero]

theorem lM_move : Real.exp (M - M') * lM Z M T n = lM Z M' T n := by
  rw [lM, lM, Finset.mul_sum]; exact Finset.sum_congr rfl fun S _ => eM_move Z M M' T S
theorem aM_move : Real.exp (M - M') * aM Z M T v n = aM Z M' T v n := by
  rw [aM, aM, Finset.mul_sum]; exact Finset.sum_congr rfl fun S _ => by rw [← mul_assoc, eM_move]

theorem sum_block (f : ℕ → ℝ) : ∑ S ∈ Finset.range (512 * (n + 1)), f S = ∑ S ∈ Finset.range (512 * n), f S + ∑ s ∈ Finset.range 512, f (512 * n + s) := by
  rw [mul_add, mul_one, Finset.sum_range_add]

theorem lM_succ : lM Z M T (n + 1) = lM Z M T n + ∑ s ∈ Finset.range 512, eM Z M T (512 * n + s) := sum_block n _
theorem aM_succ : aM Z M T v (n + 1) = aM Z M T v n + ∑ s ∈ Finset.range 512, eM Z M T (512 * n + s) * v (512 * n + s) := sum_block n _

theorem all_blocks (f : ℕ → ℝ) {b : ℕ} (hb : b < 4) (hT : T < 512 * (b + 1)) (hf : ∀ S, T < S → f S = 0) : ∑ S ∈ Finset.range (512 * (b + 1)), f S = ∑ S ∈ Finset.range 2048, f S :=
  Finset.sum_subset (Finset.range_subset_range.2 (by omega)) fun S _ hS => hf S (by have := Finset.mem_range.not.1 hS; omega)

theorem eM_zero {S : ℕ} (h : T < S) : eM Z M T S = 0 := by rw [eM, if_neg (by omega)]

variable {b : ℕ} (hb : b < 4) (hT : T < 512 * (b + 1))
include hb hT

theorem lM_eq : lM Z M T (b + 1) = Real.exp (topF Z T - M) * lF Z T := by
  rw [lM, all_blocks T _ hb hT fun S h => eM_zero Z M T h, lF, Finset.mul_sum]
  exact Finset.sum_congr rfl fun S _ => (eM_move Z (topF Z T) M T S).symm
theorem lM_pos : 0 < lM Z M T (b + 1) := by
  rw [lM_eq Z M T hb hT]
  exact mul_pos (Real.exp_pos _) (lF_pos Z (by omega))
/-- The row's log-sum. -/
theorem st_eq : M + Real.log (lM Z M T (b + 1)) = stF Z T := by
  rw [lM_eq Z M T hb hT, Real.log_mul (Real.exp_pos _).ne' (lF_pos Z (by omega)).ne', Real.log_exp, stF]; ring
/-- The softmax of the values. -/
theorem o_eq : aM Z M T v (b + 1) / lM Z M T (b + 1) = ∑ S ∈ Finset.range 2048, wF Z T S * v S := by
  rw [aM, all_blocks T _ hb hT fun S h => by rw [eM_zero Z M T h, zero_mul], Finset.sum_div]
  refine Finset.sum_congr rfl fun S _ => ?_
  rw [lM_eq Z M T hb hT, wF_eq Z (by omega), ← eM_move Z (topF Z T) M T S]
  have := (Real.exp_pos (topF Z T - M)).ne'
  have := (lF_pos Z (show T < 2048 by omega)).ne'
  have e : eM Z (topF Z T) T S = eF Z T S := rfl
  rw [e]
  field_simp
end Reals

variable (z : FVec Ideal S512x512 .f32) (vb : FVec Ideal S512x128 .bf16) (s : Row Ideal) (r : Fin 512) (l : Fin 128)

theorem top_row (mx : FVec Ideal S512x1 .f32) : topOf mx z (ix2 r 0) = max (mx (ix2 r 0)) (Finset.univ.fold max ⊥ fun k : Fin 512 => z (ix2 r k)) := by
  pointwise [topOf]
  rw [ofBits_bot]
theorem l_row : (headStep z vb s).2.2 (ix2 r 0) = Ideal.exp (s.2.1 (ix2 r 0) - topOf s.2.1 z (ix2 r 0)) * s.2.2 (ix2 r 0) + ∑ k : Fin 512, Ideal.exp (z (ix2 r k) - topOf s.2.1 z (ix2 r 0)) := by
  pointwise [headStep, fadeOf, wOf]
theorem a_row : (headStep z vb s).1 (ix2 r l) = Ideal.exp (s.2.1 (ix2 r 0) - topOf s.2.1 z (ix2 r 0)) * s.1 (ix2 r l) + ∑ k : Fin 512, Ideal.exp (z (ix2 r k) - topOf s.2.1 z (ix2 r 0)) * vb (ix2 k l) := by
  pointwise [headStep, fadeOf, wOf, nnOf]

/-- Scores of a query block's row against key block `n`: those up to the query, `⊥` after it. -/
def Scores (Z : ℕ → ℕ → ℝ) (b n : ℕ) (z : FVec Ideal S512x512 .f32) : Prop :=
  ∀ r k : Fin 512, z (ix2 r k) = if 512 * n + k.val ≤ 512 * b + r.val then ((Z (512 * b + r.val) (512 * n + k.val) : ℝ) : EReal) else ⊥

/-- The carried sums, moved to any bound, are those of the first `n` blocks. -/
def Before (Z v : ℕ → ℕ → ℝ) (b n : ℕ) (s : Row Ideal) : Prop :=
  ∀ r : Fin 512, s.2.1 (ix2 r 0) ≠ ⊤ ∧ ∀ M : ℝ,
    Ideal.exp (s.2.1 (ix2 r 0) - (M : EReal)) * s.2.2 (ix2 r 0) = ((lM Z M (512 * b + r.val) n : ℝ) : EReal)
    ∧ ∀ l : Fin 128, Ideal.exp (s.2.1 (ix2 r 0) - (M : EReal)) * s.1 (ix2 r l) = ((aM Z M (512 * b + r.val) (fun S => v S l.val) n : ℝ) : EReal)

/-- The carried values are those of a real bound. -/
def After (Z v : ℕ → ℕ → ℝ) (b n : ℕ) (s : Row Ideal) : Prop :=
  ∀ r : Fin 512, ∃ M : ℝ, s.2.1 (ix2 r 0) = (M : EReal) ∧ s.2.2 (ix2 r 0) = ((lM Z M (512 * b + r.val) n : ℝ) : EReal)
    ∧ ∀ l : Fin 128, s.1 (ix2 r l) = ((aM Z M (512 * b + r.val) (fun S => v S l.val) n : ℝ) : EReal)

variable {Z v : ℕ → ℕ → ℝ} {b n : ℕ} {z : FVec Ideal S512x512 .f32} {vb : FVec Ideal S512x128 .bf16} {s : Row Ideal}

theorem After.before (h : After Z v b n s) : Before Z v b n s := fun r => by
  obtain ⟨M, h1, h2, h3⟩ := h r
  refine ⟨by rw [h1]; exact EReal.coe_ne_top M, fun M' => ⟨?_, fun l => ?_⟩⟩
  · rw [h1, h2, ← EReal.coe_sub, Ideal.exp_coe, ← EReal.coe_mul, lM_move]
  · rw [h1, h3, ← EReal.coe_sub, Ideal.exp_coe, ← EReal.coe_mul, aM_move]

theorem before_zero (h1 : ∀ r : Fin 512, s.2.1 (ix2 r 0) = ⊥) (h2 : ∀ r : Fin 512, s.2.2 (ix2 r 0) = 0) (h3 : ∀ (r : Fin 512) (l : Fin 128), s.1 (ix2 r l) = 0) : Before Z v b 0 s := fun r => by
  refine ⟨by rw [h1]; exact bot_ne_top, fun M => ⟨?_, fun l => ?_⟩⟩
  · rw [h2, mul_zero, lM, Finset.sum_range_zero]; rfl
  · rw [h3, mul_zero, aM, Finset.sum_range_zero]; rfl

theorem exp_score (Z : ℕ → ℕ → ℝ) (M : ℝ) (T S : ℕ) : Ideal.exp ((if S ≤ T then ((Z T S : ℝ) : EReal) else ⊥) - (M : EReal)) = ((eM Z M T S : ℝ) : EReal) := by
  rw [eM]
  by_cases hS : S ≤ T
  · rw [if_pos hS, if_pos hS, ← EReal.coe_sub, Ideal.exp_coe]
  · rw [if_neg hS, if_neg hS, EReal.bot_sub, Ideal.exp_bot]; rfl

theorem sum512 (f : ℕ → ℝ) : ∑ k : Fin 512, ((f k.val : ℝ) : EReal) = ((∑ k ∈ Finset.range 512, f k : ℝ) : EReal) := by
  rw [Finset.sum_range]; norm_cast

theorem step_after (hn : n ≤ b) (hz : Scores Z b n z) (hv : ∀ (k : Fin 512) (l : Fin 128), vb (ix2 k l) = ((v (512 * n + k.val) l.val : ℝ) : EReal)) (h : Before Z v b n s) :
    After Z v b (n + 1) (headStep z vb s) := fun r => by
  obtain ⟨h1, h2⟩ := h r
  have ht := top_row z r s.2.1
  have hb : topOf s.2.1 z (ix2 r 0) ≠ ⊥ := by
    rw [ht]
    refine ne_of_gt (lt_of_lt_of_le (EReal.bot_lt_coe (Z (512 * b + r.val) (512 * n))) (le_max_of_le_right ((Finset.le_fold_max _).2 (Or.inr ⟨0, Finset.mem_univ _, ?_⟩))))
    rw [hz]
    show _ ≤ if 512 * n + 0 ≤ _ then ((Z _ (512 * n + 0) : ℝ) : EReal) else ⊥
    rw [if_pos (by omega), add_zero]
  have hT : topOf s.2.1 z (ix2 r 0) ≠ ⊤ := by
    rw [ht]
    refine ne_of_lt (max_lt (lt_top_iff_ne_top.2 h1) ((Finset.fold_max_lt _).2 ⟨bot_lt_top, fun k _ => ?_⟩))
    rw [hz]
    split
    · exact EReal.coe_lt_top _
    · exact bot_lt_top
  obtain ⟨M, hM⟩ : ∃ M : ℝ, topOf s.2.1 z (ix2 r 0) = (M : EReal) := ⟨_, (EReal.coe_toReal hT hb).symm⟩
  refine ⟨M, hM, ?_, fun l => ?_⟩
  · rw [l_row, hM, (h2 M).1, lM_succ, EReal.coe_add]
    refine congrArg (fun x : EReal => _ + x) ((Finset.sum_congr rfl fun k _ => ?_).trans (sum512 fun k => eM Z M (512 * b + r.val) (512 * n + k)))
    rw [hz, exp_score]
  · rw [a_row, hM, (h2 M).2 l, aM_succ, EReal.coe_add]
    refine congrArg (fun x : EReal => _ + x) ((Finset.sum_congr rfl fun k _ => ?_).trans (sum512 fun k => eM Z M (512 * b + r.val) (512 * n + k) * v (512 * n + k) l.val))
    rw [hz, exp_score, hv, EReal.coe_mul]

end Cert.KernelFoxfwdIdeal.Grad

end
-- ==== Proof.FoxfwdFold.lean ====
module

public import proofs.«01_k».proof.Proof.FoxfwdHost
public import proofs.«01_k».proof.Proof.FoxfwdRow
public import proofs.«01_k».proof.Proof.FoxFin

@[expose] public section

set_option maxRecDepth 16384

noncomputable section

open Idealize.ShloMosaic Idealize.ShloMosaic.TcCoe Idealize.SL.Sem

namespace Cert.KernelFoxfwdIdeal.Grad
open Cert.KernelFoxfwdIdeal Cert.KernelFoxfwdIdeal.Gen Cert.Finite
open Cert.KernelFoxIdeal.Gen (scoreOf tall wide4 nnOf castB rows frow)
open Cert.KernelSbIdeal.Grad (lift lift_ix lift_congr eq_lift zz cols first second eighth slt64)
open Cert.KernelFoxIdeal.Grad (gateP duo score_lift castB_lift rows_lift tall_lift addf_lift cmpi_sle_ofNat)

theorem subf_lift {n m : ℕ} (X Y : ℕ → ℕ → ℝ) : (subf (lift X) (lift Y) : FVec Ideal ⟨2, ![n, m]⟩ .f32) = lift fun r s => X r s - Y r s :=
  eq_lift fun r s => by pointwise [lift]; norm_cast

section Head
variable (Q K V : ℕ → ℕ → ℝ) (W : ℕ → ℕ → ℝ) (a : Fin 2) (Z : ℕ → ℕ → ℝ) (b : ℕ)
  (hZ : ∀ T S, zz Q K T S + W a.val T - W a.val S = Z T S)

/-- A head's operands: its queries with their gates, the keys, the values, the keys' gates. -/
abbrev qOf : FVec Ideal S512x128 .bf16 := lift fun r l => Q (512 * b + r) l
abbrev fqOf : FVec Ideal S512x512 .f32 := lift fun r _ => W a.val (512 * b + r)
abbrev kOf : Vec Ideal S2048x128 .bf16 := lift (φ := .bf16) K

include hZ in
theorem raw (n : Fin 4) : subf (addf (scoreOf (qOf Q b) (castB (rows n (kOf K)))) (fqOf W a b)) (tall (frow a n (duo W))) = lift fun r s => Z (512 * b + r) (512 * n.val + s) := by
  rw [rows_lift, castB_lift, score_lift, addf_lift, tall_lift, subf_lift]
  exact lift_congr fun r _ s _ => hZ (512 * b + r) (512 * n.val + s)

include hZ in
theorem scores_before (n : Fin 4) (hn : n.val < b) : Scores Z b n.val (zAt none (qOf Q b) (fqOf W a b) (kOf K) (duo W) a n) := fun r k => by
  rw [if_pos (by omega)]
  exact congrFun (raw Q K W a Z b hZ n) (ix2 r k)

theorem masked_row (i : grid0.Coords) (x : FVec Ideal S512x512 .f32) (r k : Fin 512) :
    hide (some (maskOf i)) x (ix2 r k) = if 512 * (i 1).val + k.val ≤ 512 * (i 1).val + r.val then x (ix2 r k) else ⊥ := by
  have hm : (Named.named (F := Ideal) κ "mask" (φ := .f32) 0xF149F2CA#32) = (⊥ : EReal) := rfl
  pointwise [hide, maskOf, keyNo, k0_pay60]
  have h1 : ∀ i : grid0.Coords, Scalar.muli (Scf.iv (k0_t3_loop i).lb 1#32 0) 512#32 = BitVec.ofNat 32 (512 * (i 1).val) := by decide +kernel
  have h2 : ∀ q : Fin 4, Scalar.muli (BitVec.ofNat 32 q.val) 512#32 = BitVec.ofNat 32 (512 * q.val) := by decide +kernel
  have hi : (i 1).val < 4 := (i 1).isLt
  have ha : ∀ x y : ℕ, IntOp.addi (BitVec.ofNat 32 x) (BitVec.ofNat 32 y) = BitVec.ofNat 32 (x + y) := fun x y => (BitVec.ofNat_add x y).symm
  erw [h1 i, h2 (i 1)]
  rw [ha, ha, cmpi_sle_ofNat (by omega) (by omega)]
  split <;> simp [Scalar.select, hm]

include hZ in
theorem scores_diag (i : grid0.Coords) (hi : (i 1).val = b) : Scores Z b b (zAt (some (maskOf i)) (qOf Q b) (fqOf W a b) (kOf K) (duo W) a (i 1)) := fun r k => by
  refine (masked_row i _ r k).trans ?_
  refine (congrArg (fun x : EReal => if 512 * (i 1).val + k.val ≤ 512 * (i 1).val + r.val then x else ⊥) (congrFun (raw Q K W a Z b hZ (i 1)) (ix2 r k))).trans ?_
  show (if 512 * (i 1).val + k.val ≤ 512 * (i 1).val + r.val then ((Z (512 * b + r.val) (512 * (i 1).val + k.val) : ℝ) : EReal) else ⊥) = _
  rw [hi]

theorem values (n : Fin 4) (k : Fin 512) (l : Fin 128) : (castB (F := Ideal) (rows n (kOf V)) : FVec Ideal S512x128 .bf16) (ix2 k l) = ((V (512 * n.val + k.val) l.val : ℝ) : EReal) := by
  rw [rows_lift, castB_lift]; rfl

theorem zero_before : Before Z V b 0 zero :=
  before_zero (fun r => rfl) (fun r => by pointwise [zero, k0_pay66]) (fun r l => by pointwise [zero, k0_pay65])

include hZ in
theorem walk_before (hb : b < 4) : ∀ n ≤ b, Before Z V b n (walk (zAt none (qOf Q b) (fqOf W a b) (kOf K) (duo W) a) (kOf V) zero n)
  | 0, _ => zero_before V Z b
  | n + 1, h => by
    rw [walk, dif_pos (show n < 4 by omega)]
    exact (step_after (n := n) (by omega) (scores_before Q K W a Z b hZ ⟨n, by omega⟩ h) (values V ⟨n, by omega⟩) (walk_before hb n (by omega))).before

include hZ in
theorem head_after (i : grid0.Coords) (hi : (i 1).val = b) (hb : b < 4) : After Z V b (b + 1) (headOf i (qOf Q b) (fqOf W a b) (kOf K) (kOf V) (duo W) a) := by
  rw [headOf, hi]
  exact step_after le_rfl (scores_diag Q K W a Z b hZ i hi) (fun k l => (values V (i 1) k l).trans (by show ((V (512 * (i 1).val + k.val) l.val : ℝ) : EReal) = _; rw [hi])) (walk_before Q K V W a Z b hZ hb b le_rfl)
end Head

section Stores
variable (a0 a1 : FVec Ideal S512x128 .f32) (l0 l1 mx : FVec Ideal S512x1 .f32) (r : Fin 512) (l : Fin 128)
theorem out_row : k0_pay13 (k0_pay62 laneNo) a0 l0 a1 l1 (ix2 r l)
    = if l.val < 64 then Ideal.div (a0 (ix2 r l)) (l0 (ix2 r 0)) else Ideal.div (a1 (ix2 r l)) (l1 (ix2 r 0)) := by
  pointwise [k0_pay13, k0_pay62, laneNo]
  rw [slt64]
  split <;> simp [Scalar.select]
theorem stat_row0 : k0_pay14 mx l0 (ix3 0 r l) = mx (ix2 r 0) + Ideal.log (l0 (ix2 r 0)) := by
  pointwise [k0_pay14]
theorem stat_row1 : k0_pay15 mx l0 (ix3 0 r l) = mx (ix2 r 0) + Ideal.log (l0 (ix2 r 0)) := by
  pointwise [k0_pay15]
end Stores

end Cert.KernelFoxfwdIdeal.Grad

end
-- ==== Proof.FoxfwdRef.lean ====
module

public import proofs.«01_k».proof.Proof.FoxReal
public import proofs.«01_k».proof.Proof.FoxRef
public import proofs.«01_k».proof.Proof.Gen.ReferenceFoxfwdIdeal.Read

@[expose] public section

set_option maxRecDepth 16384

noncomputable section

open Idealize.ShloMosaic Idealize.ShloMosaic.TcCoe Idealize.SL.Sem

namespace Cert.ReferenceFoxfwdIdeal.Grad
open Cert.ReferenceFoxfwdIdeal Cert.ReferenceFoxfwdIdeal.Read
open Cert.Finite (div_real)
open Cert.KernelSbIdeal.Grad (lift lift_ix)
open Cert.KernelFoxIdeal.Grad (cmpi_sle_ofNat)
open Cert.ReferenceSbIdeal.Grad (sum_fin ofBits_eighth)
open Cert.ReferenceFoxIdeal.Grad (zF topE topF eF lF stF wF topE_coe lF_pos wF_eq ofBits_bot)

abbrev R2 (X : ℕ → ℕ → ℝ) : (⟨S2048x1024, .f32⟩ : BufTy).Contents (Elt Ideal) := (lift (φ := .f32) X : FVec Ideal S2048x1024 .f32)
abbrev RC (X : ℕ → ℕ → ℝ) : (⟨S16x2048, .f32⟩ : BufTy).Contents (Elt Ideal) := (lift (φ := .f32) X : FVec Ideal S16x2048 .f32)

variable (X0 X1 X2 C : ℕ → ℕ → ℝ) (h : Fin 16) (T S : Fin 2048)

theorem z_at : val_main_v14 (F := Ideal) (R2 X0) (R2 X1) (RC C) (ix3 h T S) = ((zF X0 X1 C h.val T.val S.val : ℝ) : EReal) := by
  pointwise [val_main_v14, val_main_v13, val_main_v12, val_main_v11, val_main_v10, val_main_v9, val_main_v8, val_main_v5, val_main_v4, val_main_v3, val_main_v2, val_main_v1, val_main_v0, val_main_cst]
  rw [ofBits_eighth, zF, EReal.coe_sub, EReal.coe_add]
  refine congrArg (fun x : EReal => x + ((C h.val T.val : ℝ) : EReal) - ((C h.val S.val : ℝ) : EReal)) ?_
  refine Eq.trans (Finset.sum_congr rfl fun d _ => ?_) (sum_fin fun d => X0 T.val (64 * h.val + d) * (1 / 8) * X1 S.val (64 * h.val + d))
  show ((X0 T.val (h.val * 64 + d.val) : ℝ) : EReal) * _ * ((X1 S.val (h.val * 64 + d.val) : ℝ) : EReal) = _
  rw [mul_comm h.val 64]
  norm_cast

theorem zm_at : val_main_v22 (F := Ideal) (R2 X0) (R2 X1) (RC C) (ix3 h T S) = if S.val ≤ T.val then ((zF X0 X1 C h.val T.val S.val : ℝ) : EReal) else ⊥ := by
  have hm : val_main_call0_v1 (F := Ideal) (ix3 h T S) = if S.val ≤ T.val then 1#1 else 0#1 := by
    pointwise [val_main_call0_v1, val_main_v21, val_main_v20, val_main_v19, val_main_v18, val_main_v17, val_main_v16, val_main_v15]
    exact cmpi_sle_ofNat (by omega) (by omega)
  pointwise [val_main_v22, val_main_call0_v2, val_main_call0_v0, val_main_cst_0]
  rw [z_at, hm]
  split <;> simp [Scalar.select]
  exact ofBits_bot

theorem top_at : val_main_v23 (F := Ideal) (R2 X0) (R2 X1) (RC C) (ix2 h T) = ((topF (zF X0 X1 C h.val) T.val : ℝ) : EReal) := by
  rw [← topE_coe _ T.isLt, topE]
  pointwise [val_main_v23, val_main_cst_1]
  rw [ofBits_bot]
  exact congrArg (Finset.univ.fold max ⊥) (funext fun k => zm_at X0 X1 C h T k)

theorem t2_at : val_main_v25 (F := Ideal) (R2 X0) (R2 X1) (RC C) (ix2 h T) = ((topF (zF X0 X1 C h.val) T.val : ℝ) : EReal) := by
  rw [val_main_v25_apply, top_at]
  have e : val_main_v24 (F := Ideal) (ix2 h T) = ⊥ := by
    pointwise [val_main_v24, val_main_cst_2]
    exact ofBits_bot
  rw [e]
  exact max_eq_right bot_le

theorem exp_at (T S : ℕ) (Z : ℕ → ℕ → ℝ) : Ideal.exp ((if S ≤ T then ((Z T S : ℝ) : EReal) else ⊥) - ((topF Z T : ℝ) : EReal)) = ((eF Z T S : ℝ) : EReal) := by
  rw [eF]
  by_cases hS : S ≤ T
  · rw [if_pos hS, if_pos hS, ← EReal.coe_sub, Ideal.exp_coe]
  · rw [if_neg hS, if_neg hS, EReal.bot_sub, Ideal.exp_bot]; rfl

theorem e_at : val_main_v29 (F := Ideal) (R2 X0) (R2 X1) (RC C) (ix3 h T S) = ((eF (zF X0 X1 C h.val) T.val S.val : ℝ) : EReal) := by
  have hb : val_main_v27 (F := Ideal) (R2 X0) (R2 X1) (RC C) (ix3 h T S) = ((topF (zF X0 X1 C h.val) T.val : ℝ) : EReal) := by
    rw [val_main_v27_apply, val_main_v26_apply, ← t2_at]
    exact congrArg _ (by blk_ext)
  rw [val_main_v29_apply, val_main_v28_apply, zm_at, hb]
  exact exp_at T.val S.val _

theorem l_at : val_main_v30 (F := Ideal) (R2 X0) (R2 X1) (RC C) (ix2 h T) = ((lF (zF X0 X1 C h.val) T.val : ℝ) : EReal) := by
  pointwise [val_main_v30, val_main_cst_3]
  exact (Finset.sum_congr rfl fun k _ => e_at X0 X1 C h T k).trans (sum_fin fun k => eF (zF X0 X1 C h.val) T.val k)

theorem w_at : val_main_v33 (F := Ideal) (R2 X0) (R2 X1) (RC C) (ix3 h T S) = ((wF (zF X0 X1 C h.val) T.val S.val : ℝ) : EReal) := by
  pointwise [val_main_v33, val_main_v32, val_main_v31]
  rw [e_at, l_at, div_real (lF_pos _ T.isLt).ne', wF_eq _ T.isLt]

/-- The attention of a column's head. -/
def oF (X0 X1 X2 C : ℕ → ℕ → ℝ) (T c : ℕ) : ℝ := ∑ S ∈ Finset.range 2048, wF (zF X0 X1 C (c / 64)) T S * X2 S c

variable (c : Fin 1024)

theorem o_at : val_main_v66 (F := Ideal) (R2 X0) (R2 X1) (R2 X2) (RC C) (ix2 T c) = ((oF X0 X1 X2 C T.val c.val : ℝ) : EReal) := by
  pointwise [val_main_v66, val_main_v36, val_main_v35, val_main_v34, val_main_v7, val_main_v6]
  refine Eq.trans (Finset.sum_congr rfl fun S _ => ?_) (sum_fin fun S => wF (zF X0 X1 C (c.val / 64)) T.val S * X2 S c.val)
  rw [w_at, EReal.coe_mul]; rfl

/-! The log-sums read the same scores again. -/

theorem z_at2 : val_main_v49 (F := Ideal) (R2 X0) (R2 X1) (RC C) (ix3 h T S) = ((zF X0 X1 C h.val T.val S.val : ℝ) : EReal) := by
  pointwise [val_main_v49, val_main_v48, val_main_v47, val_main_v46, val_main_v45, val_main_v44, val_main_v43, val_main_v42, val_main_v41, val_main_v40, val_main_v39, val_main_v38, val_main_v37, val_main_cst_4]
  rw [ofBits_eighth, zF, EReal.coe_sub, EReal.coe_add]
  refine congrArg (fun x : EReal => x + ((C h.val T.val : ℝ) : EReal) - ((C h.val S.val : ℝ) : EReal)) ?_
  refine Eq.trans (Finset.sum_congr rfl fun d _ => ?_) (sum_fin fun d => X0 T.val (64 * h.val + d) * (1 / 8) * X1 S.val (64 * h.val + d))
  show ((X0 T.val (h.val * 64 + d.val) : ℝ) : EReal) * _ * ((X1 S.val (h.val * 64 + d.val) : ℝ) : EReal) = _
  rw [mul_comm h.val 64]
  norm_cast

theorem zm_at2 : val_main_v57 (F := Ideal) (R2 X0) (R2 X1) (RC C) (ix3 h T S) = if S.val ≤ T.val then ((zF X0 X1 C h.val T.val S.val : ℝ) : EReal) else ⊥ := by
  have hm : val_main_call1_v1 (F := Ideal) (ix3 h T S) = if S.val ≤ T.val then 1#1 else 0#1 := by
    pointwise [val_main_call1_v1, val_main_v56, val_main_v55, val_main_v54, val_main_v53, val_main_v52, val_main_v51, val_main_v50]
    exact cmpi_sle_ofNat (by omega) (by omega)
  pointwise [val_main_v57, val_main_call1_v2, val_main_call1_v0, val_main_cst_5]
  rw [z_at2, hm]
  split <;> simp [Scalar.select]
  exact ofBits_bot

theorem top_at2 : val_main_v58 (F := Ideal) (R2 X0) (R2 X1) (RC C) (ix2 h T) = ((topF (zF X0 X1 C h.val) T.val : ℝ) : EReal) := by
  rw [← topE_coe _ T.isLt, topE]
  pointwise [val_main_v58, val_main_cst_6]
  rw [ofBits_bot]
  exact congrArg (Finset.univ.fold max ⊥) (funext fun k => zm_at2 X0 X1 C h T k)

theorem b_at2 : val_main_v60 (F := Ideal) (R2 X0) (R2 X1) (RC C) (ix3 h T S) = ((topF (zF X0 X1 C h.val) T.val : ℝ) : EReal) := by
  rw [val_main_v60_apply, val_main_v59_apply, ← top_at2]
  exact congrArg _ (by blk_ext)

theorem e_at2 : val_main_v62 (F := Ideal) (R2 X0) (R2 X1) (RC C) (ix3 h T S) = ((eF (zF X0 X1 C h.val) T.val S.val : ℝ) : EReal) := by
  rw [val_main_v62_apply, val_main_v61_apply, zm_at2, b_at2]
  exact exp_at T.val S.val _

theorem l_at2 : val_main_v63 (F := Ideal) (R2 X0) (R2 X1) (RC C) (ix2 h T) = ((lF (zF X0 X1 C h.val) T.val : ℝ) : EReal) := by
  pointwise [val_main_v63, val_main_cst_7]
  exact (Finset.sum_congr rfl fun k _ => e_at2 X0 X1 C h T k).trans (sum_fin fun k => eF (zF X0 X1 C h.val) T.val k)

theorem s_at2 : val_main_v65 (F := Ideal) (R2 X0) (R2 X1) (RC C) (ix2 h T) = ((stF (zF X0 X1 C h.val) T.val : ℝ) : EReal) := by
  rw [val_main_v65_apply, val_main_v64_apply, l_at2, top_at2]
  show ((topF (zF X0 X1 C h.val) T.val : ℝ) : EReal) + Ideal.log ((lF (zF X0 X1 C h.val) T.val : ℝ) : EReal) = _
  rw [stF, Ideal.log_coe, if_neg (not_le.2 (lF_pos _ T.isLt)), ← EReal.coe_add]

theorem st_at (d : Fin 128) : val_main_v68 (F := Ideal) (R2 X0) (R2 X1) (RC C) (ix3 h T d) = ((stF (zF X0 X1 C h.val) T.val : ℝ) : EReal) := by
  rw [val_main_v68_apply, val_main_v67_apply, ← s_at2]
  exact congrArg _ (by blk_ext)

end Cert.ReferenceFoxfwdIdeal.Grad

end
-- ==== Proof.FoxfwdFin.lean ====
module

public import proofs.«01_k».proof.Proof.FoxfwdFold
public import proofs.«01_k».proof.Proof.FoxfwdRef
public import proofs.«01_k».proof.Proof.FoxfwdRow

@[expose] public section

set_option maxRecDepth 16384

noncomputable section

open Idealize.ShloMosaic Idealize.ShloMosaic.TcCoe Idealize.SL.Sem

namespace Cert.KernelFoxfwdIdeal.Grad
open Cert.KernelFoxfwdIdeal Cert.KernelFoxfwdIdeal.Gen Cert.Finite
open Cert.KernelFoxIdeal.Gen (one_inb0 one_inb1)
open Cert.KernelSbIdeal.Grad (lift eq_lift cols first second eighth)
open Cert.KernelFoxIdeal.Grad (gateP duo z_first z_second win_first win_second)
open Cert.ReferenceFoxIdeal.Grad (zF stF wF)
open Cert.ReferenceFoxfwdIdeal.Grad (R2 RC oF o_at st_at)
open Cert.ReferenceFoxfwdIdeal.Read (val_main_v66 val_main_v68)

theorem coords1 : ∀ t : Fin grid0.N, (grid0.coords t 1).val = t.val % 4 := by decide +kernel
theorem idxO : ∀ t : Fin cfg0.N, win0_5.index t = ![t.val % 4, t.val / 4] ∧ win0_6.index t = ![t.val / 4, t.val % 4, 0] := (by decide +kernel : ∀ t : Fin grid0.N, _)

/-- A finished head's quotient and log-sum. -/
theorem quot {Z v : ℕ → ℕ → ℝ} {b : ℕ} {s : Row Ideal} (h : After Z v b (b + 1) s) (hb : b < 4) (r : Fin 512) (l : Fin 128) :
    Ideal.div (s.1 (ix2 r l)) (s.2.2 (ix2 r 0)) = ((∑ S ∈ Finset.range 2048, wF Z (512 * b + r.val) S * v S l.val : ℝ) : EReal) := by
  obtain ⟨M, h1, h2, h3⟩ := h r
  rw [h2, h3, div_real (lM_pos Z M _ hb (by omega)).ne', o_eq Z M _ _ hb (by omega)]
theorem logsum {Z v : ℕ → ℕ → ℝ} {b : ℕ} {s : Row Ideal} (h : After Z v b (b + 1) s) (hb : b < 4) (r : Fin 512) :
    s.2.1 (ix2 r 0) + Ideal.log (s.2.2 (ix2 r 0)) = ((stF Z (512 * b + r.val) : ℝ) : EReal) := by
  obtain ⟨M, h1, h2, h3⟩ := h r
  rw [h1, h2, Ideal.log_coe, if_neg (not_le.2 (lM_pos Z M _ hb (by omega))), ← EReal.coe_add, st_eq Z M _ hb (by omega)]

variable (m : (ℓ : Loc nD τ sig) → Buf (Elt Ideal) ℓ) (c : Dev nD) (X0 X1 X2 C : ℕ → ℕ → ℝ)
    (e0 : m ((c : Thread nD τ).loc main_arg0) = R2 X0) (e1 : m ((c : Thread nD τ).loc main_arg1) = R2 X1)
    (e2 : m ((c : Thread nD τ).loc main_arg2) = R2 X2) (e3 : m ((c : Thread nD τ).loc main_arg3) = RC C)
include e0 e1 e2 e3

theorem head0_after (t : Fin cfg0.N) : After (zF X0 X1 C (2 * (t.val / 4))) (cols X2 (t.val / 4)) (t.val % 4) (t.val % 4 + 1) (H0 m c t) := by
  have hq := Cert.KernelFoxIdeal.Grad.fq_first _ (fun a r => gateP C (t.val / 4) a (512 * (t.val % 4) + r)) (ld3 m c C e3 t)
  rw [H0, head0, ld0 m c X0 X1 X2 e0 e1 e2, ld1 m c X0 X1 X2 e0 e1 e2, ld2 m c X0 X1 X2 e0 e1 e2, ld4 m c C e3, q_first]
  refine Eq.mp (congrArg (fun f => After _ _ _ _ (headOf (grid0.coords t) _ f _ _ _ 0)) hq.symm) ?_
  exact head_after (first (eighth X0) (t.val / 4)) (cols X1 (t.val / 4)) (cols X2 (t.val / 4)) (gateP C (t.val / 4)) 0 _ (t.val % 4) (z_first X0 X1 C (t.val / 4)) (grid0.coords t) (coords1 t) (by omega)

theorem head1_after (t : Fin cfg0.N) : After (zF X0 X1 C (2 * (t.val / 4) + 1)) (cols X2 (t.val / 4)) (t.val % 4) (t.val % 4 + 1) (H1 m c t) := by
  have hq := Cert.KernelFoxIdeal.Grad.fq_second _ (fun a r => gateP C (t.val / 4) a (512 * (t.val % 4) + r)) (ld3 m c C e3 t)
  rw [H1, head1, ld0 m c X0 X1 X2 e0 e1 e2, ld1 m c X0 X1 X2 e0 e1 e2, ld2 m c X0 X1 X2 e0 e1 e2, ld4 m c C e3, q_second]
  refine Eq.mp (congrArg (fun f => After _ _ _ _ (headOf (grid0.coords t) _ f _ _ _ 1)) hq.symm) ?_
  exact head_after (second (eighth X0) (t.val / 4)) (cols X1 (t.val / 4)) (cols X2 (t.val / 4)) (gateP C (t.val / 4)) 1 _ (t.val % 4) (z_second X0 X1 C (t.val / 4)) (grid0.coords t) (coords1 t) (by omega)

theorem out_at (t : Fin cfg0.N) (r : Fin 512) (l : Fin 128) : outAt m c t (ix2 r l) = ((oF X0 X1 X2 C (512 * (t.val % 4) + r.val) (128 * (t.val / 4) + l.val) : ℝ) : EReal) := by
  rw [outAt_eq, out_row, quot (head0_after m c X0 X1 X2 C e0 e1 e2 e3 t) (by omega), quot (head1_after m c X0 X1 X2 C e0 e1 e2 e3 t) (by omega), oF]
  have hl := l.isLt
  by_cases h : l.val < 64
  · rw [if_pos h, show (128 * (t.val / 4) + l.val) / 64 = 2 * (t.val / 4) by omega]; rfl
  · rw [if_neg h, show (128 * (t.val / 4) + l.val) / 64 = 2 * (t.val / 4) + 1 by omega]; rfl

theorem stat_at (t : Fin cfg0.N) (a : Fin 2) (r : Fin 512) (l : Fin 128) : statAt m c t (ix3 a r l) = ((stF (zF X0 X1 C (2 * (t.val / 4) + a.val)) (512 * (t.val % 4) + r.val) : ℝ) : EReal) := by
  match a with
  | ⟨0, _⟩ =>
    refine (win_first (statAt m c t) r l).symm.trans ((congrFun (statAt_first m c t) (ix3 0 r l)).trans ?_)
    rw [stat_row0]
    exact logsum (head0_after m c X0 X1 X2 C e0 e1 e2 e3 t) (by omega) r
  | ⟨1, _⟩ =>
    refine (win_second (statAt m c t) r l).symm.trans ((congrFun (statAt_second m c t) (ix3 0 r l)).trans ?_)
    rw [stat_row1]
    exact logsum (head1_after m c X0 X1 X2 C e0 e1 e2 e3 t) (by omega) r

theorem final5 : (dats m 0 c).arrAt 5 (cfgs 0).N = val_main_v66 (F := Ideal) (R2 X0) (R2 X1) (R2 X2) (RC C) := by
  refine (dats m 0 c).arrAt_eq_of_covers 5 _ (by decide +kernel) fun t _ y => ?_
  have ht := t_lt t
  have he : ((cfg0.win 5).blk t).view.emb y = ix2 (⟨512 * (t.val % 4) + (y 0).val, by have : (y 0).val < 512 := (y 0).isLt; omega⟩ : Fin 2048) (⟨128 * (t.val / 4) + (y 1).val, by have : (y 1).val < 128 := (y 1).isLt; omega⟩ : Fin 1024) := by blk_ext [idxO t]
  blk_simp
  rw [after_5]
  refine Eq.trans ?_ (congrArg (val_main_v66 (F := Ideal) _ _ _ _) he.symm)
  rw [o_at]
  exact (congrArg (outAt m c t) (eq_ix2 y)).trans (out_at m c X0 X1 X2 C e0 e1 e2 e3 t (y 0) (y 1))

theorem final6 : (dats m 0 c).arrAt 6 (cfgs 0).N = val_main_v68 (F := Ideal) (R2 X0) (R2 X1) (RC C) := by
  refine (dats m 0 c).arrAt_eq_of_covers 6 _ (by decide +kernel) fun t _ y => ?_
  have ht := t_lt t
  have he : ((cfg0.win 6).blk t).view.emb y = ix3 (⟨2 * (t.val / 4) + (y 0).val, by have : (y 0).val < 2 := (y 0).isLt; omega⟩ : Fin 16) (⟨512 * (t.val % 4) + (y 1).val, by have : (y 1).val < 512 := (y 1).isLt; omega⟩ : Fin 2048) (y 2 : Fin 128) := by blk_ext [idxO t]
  blk_simp
  rw [after_6]
  refine Eq.trans ?_ (congrArg (val_main_v68 (F := Ideal) _ _ _) he.symm)
  refine Eq.trans ?_ (st_at (h := (⟨2 * (t.val / 4) + (y 0).val, by have : (y 0).val < 2 := (y 0).isLt; omega⟩ : Fin 16)) (T := (⟨512 * (t.val % 4) + (y 1).val, by have : (y 1).val < 512 := (y 1).isLt; omega⟩ : Fin 2048)) (d := (y 2 : Fin 128)) ..).symm
  exact (congrArg (statAt m c t) (eq_ix3 y)).trans (stat_at m c X0 X1 X2 C e0 e1 e2 e3 t (y 0) (y 1) (y 2))

end Cert.KernelFoxfwdIdeal.Grad

end
-- ==== Proof.FoxfwdClaim.lean ====
module

public import proofs.«01_k».proof.Defs
public import proofs.«01_k».proof.Proof.FoxfwdFin
public import proofs.«01_k».proof.Proof.FoxClaim
public import proofs.«01_k».proof.Proof.Finite
public import proofs.«01_k».proof.Proof.Gen.Pre_finite_foxfwd

@[expose] public section

set_option maxRecDepth 16384

noncomputable section

open Idealize.ShloMosaic Idealize.ShloMosaic.TcCoe Idealize.SL.Sem
open Idealize.ShloMosaic.Pipeline (Dat)

namespace Cert.KernelFoxfwdIdeal.Grad
open Cert.KernelFoxfwdIdeal Cert.KernelFoxfwdIdeal.Gen Cert.Finite
open Cert.KernelFoxIdeal.Grad (table gate_table)
open Cert.ReferenceFoxfwdIdeal.Grad (R2 RC)

/-- Finite arguments are tables of reals. -/
theorem lifts (m : (ℓ : Loc nD τ sig) → Buf (Elt Ideal) ℓ) (h : Cert.Pre_KernelFoxfwdIdeal_finite_foxfwd m) (c : Dev nD) :
    ∃ X0 X1 X2 C : ℕ → ℕ → ℝ, m ((c : Thread nD τ).loc main_arg0) = R2 X0 ∧ m ((c : Thread nD τ).loc main_arg1) = R2 X1
      ∧ m ((c : Thread nD τ).loc main_arg2) = R2 X2 ∧ m ((c : Thread nD τ).loc main_arg3) = RC C := by
  haveI : Subsingleton Cert.Pre_finite_foxfwd.S_.Idx := ⟨fun a b => funext fun i => i.elim0⟩
  have h1 := congrFun (h c) ix0
  obtain ⟨h1, a3⟩ := and_one h1
  obtain ⟨h1, a2⟩ := and_one h1
  obtain ⟨h1, a1⟩ := and_one h1
  obtain ⟨h1, a0⟩ := and_one h1
  obtain ⟨Y0, f0⟩ := (of_all _ _ _ _ _ _ _ a0).lift
  obtain ⟨Y1, f1⟩ := (of_all _ _ _ _ _ _ _ a1).lift
  obtain ⟨Y2, f2⟩ := (of_all _ _ _ _ _ _ _ a2).lift
  obtain ⟨Y3, f3⟩ := (of_all _ _ _ _ _ _ _ a3).lift
  obtain ⟨X0, g0⟩ := table Y0
  obtain ⟨X1, g1⟩ := table Y1
  obtain ⟨X2, g2⟩ := table Y2
  obtain ⟨C, g3⟩ := gate_table Y3
  exact ⟨X0, X1, X2, C, f0.trans g0, f1.trans g1, f2.trans g2, f3.trans g3⟩

theorem algebraic : Cert.algebraic_KernelFoxfwdIdeal_ReferenceFoxfwdIdeal_pre_finite_foxfwd := by
  intro m g m' g' hpre hagree
  refine ⟨fun c => (dats m 0 c).arrAt 5 (cfgs 0).N, fun c => (dats m 0 c).arrAt 6 (cfgs 0).N, ?_, ?_⟩
  · exact (θ_run defs _ _).mono (fun r h c => ⟨(h.1 c).1 5, (h.1 c).1 6, h.2 c⟩)
      (θ_run_and (run_main m g) (frame_of m g (dats m) (A_eq m) (run_main m g)))
  · refine θ_run_mono (Cert.ReferenceFoxfwdIdeal.Value.run m' g') fun r h c => ?_
    obtain ⟨X0, X1, X2, C, e0, e1, e2, e3⟩ := lifts m hpre c
    obtain ⟨a0, a1, a2, a3⟩ := hagree c
    rw [e0] at a0; rw [e1] at a1; rw [e2] at a2; rw [e3] at a3
    refine ⟨((h c).1.trans (Cert.ReferenceFoxfwdIdeal.Read.val_main_v66_eq _ _)).trans ?_, ((h c).2.1.trans (Cert.ReferenceFoxfwdIdeal.Read.val_main_v68_eq _ _)).trans ?_, (h c).2.2⟩
    · rw [a0, a1, a2, a3]; exact (final5 m c X0 X1 X2 C e0 e1 e2 e3).symm
    · rw [a0, a1, a3]; exact (final6 m c X0 X1 X2 C e0 e1 e2 e3).symm

end Cert.KernelFoxfwdIdeal.Grad

end
-- ==== Proof.GateRun.lean ====
module

public import proofs.«01_k».proof.Proof.ForgetRun
public import proofs.«01_k».proof.Proof.Gen.KernelGateIdeal.Frame

@[expose] public section

set_option maxRecDepth 16384

noncomputable section

open Idealize.ShloMosaic Idealize.ShloMosaic.TcCoe Idealize.SL.Sem

namespace Cert.KernelGateIdeal.Grad
open Cert.KernelGateIdeal Cert.KernelGateIdeal.Gen Cert.Finite
open Cert.KernelSbIdeal.Grad (lift lift_ix lift_congr eq_lift lsg logSig_coe)
open Cert.KernelForgetIdeal.Grad (select_same rows_inb rows_lift)

/-- The gates' logarithms, summed over the first rows. -/
def cum (X : ℕ → ℕ → ℝ) (B : ℕ → ℝ) (n l : ℕ) : ℝ := ∑ k ∈ Finset.range n, lsg (X k l + B l)

theorem sle : ∀ a b : Fin 128, IntOp.cmpi CmpIPredicate.sle (BitVec.ofNat 32 b.val) (BitVec.ofNat 32 a.val) = if b.val ≤ a.val then 1#1 else 0#1 := by
  decide +kernel

theorem lower_at (a b : Fin 128) (x : ℝ) : Scalar.select (IntOp.cmpi CmpIPredicate.sle (BitVec.ofNat 32 b.val) (BitVec.ofNat 32 a.val)) (x : EReal) 0
    = ((if b.val ≤ a.val then x else 0 : ℝ) : EReal) := by
  rw [sle]
  split <;> simp [Scalar.select]

theorem sum_le (f : ℕ → ℝ) (r : Fin 128) : ∑ k : Fin 128, (if k.val ≤ r.val then f k.val else 0) = ∑ k ∈ Finset.range (r.val + 1), f k := by
  rw [← Finset.sum_range (fun k => if k ≤ r.val then f k else 0), ← Finset.sum_filter]
  exact Finset.sum_congr (by ext k; simp only [Finset.mem_filter, Finset.mem_range]; omega) fun _ _ => rfl

theorem pay2 (T X : ℕ → ℕ → ℝ) (B : ℕ → ℝ) : k0_pay2 (F := Ideal) (lift (φ := .f32) T) (lift (φ := .f32) X) (lift (φ := .f32) fun _ l => B l) = lift fun r l => cum X B (r + 1) l + T 0 l :=
  eq_lift fun r l => by
    pointwise [k0_pay2, lift]
    simp only [← EReal.coe_add, logSig_coe, ← EReal.coe_sub, sub_self, EReal.coe_zero, sub_zero, lower_at, select_same, Cert.Cumsum.sum_coe, Finset.sum_const_zero, add_zero, ← EReal.coe_add]
    rw [sum_le fun k => lsg (X k l.val + B l.val)]
    rfl

theorem pay3 (T X : ℕ → ℕ → ℝ) (B : ℕ → ℝ) : k0_pay3 (F := Ideal) (lift (φ := .f32) T) (lift (φ := .f32) X) (lift (φ := .f32) fun _ l => B l) = lift fun _ l => cum X B 128 l + T 0 l :=
  eq_lift fun r l => by
    pointwise [k0_pay3]
    rw [pay2]
    have : r.val = 0 := by omega
    simp [lift_ix, this]

theorem trips : k0_t1_loop.trips = 16 := by decide +kernel
theorem off : ∀ k : Fin k0_t1_loop.trips, k0_off1 k = ![128 * k.val, 0] := by decide +kernel

/-- The sums up to a row, by the blocks before its own and the rows of its block. -/
theorem cum_add (X : ℕ → ℕ → ℝ) (B : ℕ → ℝ) (n r l : ℕ) : cum (fun r l => X (128 * n + r) l) B r l + cum X B (128 * n) l = cum X B (128 * n + r) l := by
  unfold cum
  rw [Finset.sum_range_add, add_comm]

/-- One more block of rows. -/
theorem put_rows (X : ℕ → ℕ → ℝ) (B : ℕ → ℝ) {n : ℕ} (x : Vec Ideal S2048x128 .f32)
    (hx : ∀ j : S2048x128.Idx, (j 0).val < 128 * n → x j = ((cum X B ((j 0).val + 1) (j 1).val : ℝ) : EReal)) (j : S2048x128.Idx) (hj : (j 0).val < 128 * (n + 1)) :
    VecWindow.put x ![128 * n, 0] S128x128.size
      (lift (n := 128) (m := 128) (φ := .f32) fun r l => cum (fun r l => X (128 * n + r) l) B (r + 1) l + cum X B (128 * n) l) j
      = ((cum X B ((j 0).val + 1) (j 1).val : ℝ) : EReal) := by
  by_cases h : 128 * n ≤ (j 0).val
  · unfold VecWindow.put
    rw [dif_pos (fun i => by
      match i with
      | ⟨0, _⟩ => show 128 * n ≤ (j 0).val ∧ (j 0).val < 128 * n + 128; omega
      | ⟨1, _⟩ => have : (j 1).val < 128 := (j 1).isLt; show 0 ≤ (j 1).val ∧ (j 1).val < 0 + 128; omega)]
    refine congrArg Real.toEReal ((cum_add X B n ((j 0).val - 128 * n + 1) (j 1).val).trans ?_)
    rw [show 128 * n + ((j 0).val - 128 * n + 1) = (j 0).val + 1 by omega]
  · unfold VecWindow.put
    rw [dif_neg (fun h' => h (by have h' := h' 0; change 128 * n ≤ (j 0).val ∧ (j 0).val < 128 * n + 128 at h'; omega))]
    exact hx j (by omega)

section Loop
variable (𝒱 : Variants) (c : Dev nD) (bd : Option 𝒱.V) (arg0 : Memref sig .tc .vmem S2048x128 .f32) (harg0 : arg0.IsWhole) (arg1 : Memref sig .tc .vmem S1x128 .f32) (harg1 : arg1.IsWhole)
  (arg2 : Memref sig .tc .vmem S2048x128 .f32) (harg2 : arg2.IsWhole)
  (X_arg0 : BufTy.Contents (Elt Ideal) arg0.view.ty) (X_arg1 : BufTy.Contents (Elt Ideal) arg1.view.ty)

/-- The rows a trip reads. -/
abbrev rows (k : Fin k0_t1_loop.trips) : Vec Ideal S128x128 .f32 := arg0.view.readAt (Elt Ideal) (Rect.unit (s := S2048x128) (k0_off1 k) S128x128.size (k0_off1_inb k)).toLoadRect X_arg0
abbrev bias : Vec Ideal S1x128 .f32 := arg1.view.readAt (Elt Ideal) (Rect.unit (s := S1x128) ![0, 0] S1x128.size inb_S1x128_S1x128_0_0).toLoadRect X_arg1

theorem tripR (k : Fin k0_t1_loop.trips) (acc : FVec Ideal S1x128 .f32) :
    tripR_k0_t1 𝒱 c bd arg0 harg0 arg1 harg1 arg2 harg2 X_arg0 X_arg1 k acc = k0_pay3 acc (rows arg0 X_arg0 k) (bias arg1 X_arg1) := by
  unfold tripR_k0_t1 trip_k0_t1
  rfl

theorem tripL (k : Fin k0_t1_loop.trips) (acc : FVec Ideal S1x128 .f32) :
    tripL_k0_t1 𝒱 c bd arg0 harg0 arg1 harg1 arg2 harg2 X_arg0 X_arg1 k acc
      = [⟨Rect.unit (s := S2048x128) (k0_off1 k) S128x128.size (k0_off1_inb k), k0_pay2 acc (rows arg0 X_arg0 k) (bias arg1 X_arg1)⟩] := by
  unfold tripL_k0_t1 trip_k0_t1
  rfl

variable {X : ℕ → ℕ → ℝ} {B : ℕ → ℝ} (h0 : arg0.view.read (Elt Ideal) X_arg0 = lift (φ := .f32) X) (h1 : arg1.view.read (Elt Ideal) X_arg1 = lift (φ := .f32) fun _ l => B l)
include h0 h1

theorem loop (v : View sig .tc .vmem S2048x128 .f32) (f : v.ty.Contents (Elt Ideal)) (n : ℕ) (hn : n ≤ 16) :
    (st_k0_t1 𝒱 c bd arg0 harg0 arg1 harg1 arg2 harg2 X_arg0 X_arg1 k0_pay1 n).1 = (lift (φ := .f32) fun _ l => cum X B (128 * n) l)
    ∧ ∀ j : S2048x128.Idx, (j 0).val < 128 * n →
      v.read (Elt Ideal) (v.writes (Elt Ideal) f (st_k0_t1 𝒱 c bd arg0 harg0 arg1 harg1 arg2 harg2 X_arg0 X_arg1 k0_pay1 n).2) j
        = ((cum X B ((j 0).val + 1) (j 1).val : ℝ) : EReal) := by
  induction n with
  | zero => exact ⟨eq_lift fun r l => Ideal.ofBits_zero_f32, fun j hj => absurd hj (by omega)⟩
  | succ n ih =>
    have hlt : n < k0_t1_loop.trips := lt_of_lt_of_eq hn trips.symm
    obtain ⟨i1, i2⟩ := ih (Nat.le_of_succ_le hn)
    have e : st_k0_t1 𝒱 c bd arg0 harg0 arg1 harg1 arg2 harg2 X_arg0 X_arg1 k0_pay1 (n + 1) = _ :=
      st_k0_t1_succ 𝒱 c bd arg0 harg0 arg1 harg1 arg2 harg2 X_arg0 X_arg1 k0_pay1 ⟨n, hlt⟩
    have ho : k0_off1 ⟨n, hlt⟩ = ![128 * n, 0] := off ⟨n, hlt⟩
    have hr : rows arg0 X_arg0 ⟨n, hlt⟩ = _ := rows_lift X arg0.view _ h0 _ hn ho
    have hb : bias arg1 X_arg1 = _ := (View.readAt_full ..).trans h1
    rw [e, tripR, tripL, hr, hb, i1]
    dsimp only
    rw [pay2, pay3]
    refine ⟨lift_congr fun r _ l _ => cum_add X B n 128 l, fun j hj => ?_⟩
    rw [List.cons_append, List.nil_append, View.read_writes_cons_put v f _ _ _ ho]
    exact put_rows X B _ i2 j hj
end Loop

/-- What the call leaves. -/
theorem point2 (c : Dev nD) (arg0 : Memref sig .tc .vmem S2048x128 .f32) (harg0 : arg0.IsWhole) (arg1 : Memref sig .tc .vmem S1x128 .f32) (harg1 : arg1.IsWhole)
    (arg2 : Memref sig .tc .vmem S2048x128 .f32) (harg2 : arg2.IsWhole) (X : ℕ → ℕ → ℝ) (B : ℕ → ℝ) :
    out0_A_2 (F := Ideal) c arg0 harg0 arg1 harg1 arg2 harg2 (lift (φ := .f32) X) (lift (φ := .f32) fun _ l => B l) = lift (φ := .f32) fun r l => cum X B (r + 1) l := by
  have h := (loop Variants.none c none arg0 harg0 arg1 harg1 arg2 harg2 (harg0.unread (lift (φ := .f32) X : Vec Ideal S2048x128 .f32))
    (harg1.unread (lift (φ := .f32) fun _ l => B l : Vec Ideal S1x128 .f32)) (harg0.read_unread _) (harg1.read_unread _) VO0_2 VO0_2.junk 16 le_rfl).2
  funext j
  refine Eq.trans ?_ (h j (j 0).isLt)
  unfold out0_A_2 kernelRun0_A
  rw [← trips]
end Cert.KernelGateIdeal.Grad

end
-- ==== Proof.GateClaim.lean ====
module

public import proofs.«01_k».proof.Defs
public import proofs.«01_k».proof.Proof.GateRun
public import proofs.«01_k».proof.Proof.ForgetClaim
public import proofs.«01_k».proof.Proof.Finite
public import proofs.«01_k».proof.Proof.Gen.Pre_finite_gate
public import proofs.«01_k».proof.Proof.Gen.ReferenceGateIdeal.Read

@[expose] public section

set_option maxRecDepth 16384

noncomputable section

open Idealize.ShloMosaic Idealize.ShloMosaic.TcCoe Idealize.SL.Sem

open Idealize.ShloMosaic.Pipeline (Dat)

namespace Cert.ReferenceGateIdeal.Grad
open Cert.ReferenceGateIdeal Cert.ReferenceGateIdeal.Gen Cert.ReferenceGateIdeal.Read
open Cert.KernelSbIdeal.Grad (lift lift_ix lsg)
open Cert.ReferenceSbIdeal.Grad (sp_coe)
open Cert.ReferenceForgetIdeal.Grad (vec)
open Cert.KernelGateIdeal.Grad (cum)
variable (X : ℕ → ℕ → ℝ) (B : ℕ → ℝ)

theorem x_at (r : Fin 2048) (h : Fin 16) : val_main_v2 (F := Ideal) (lift (φ := .f32) X) (vec B) (ix2 r h) = ((X r.val h.val + B h.val : ℝ) : EReal) := by
  pointwise [val_main_v2, val_main_v1, val_main_v0, vec, lift]
  norm_cast

theorem ls_at (h : Fin 16) (r : Fin 2048) : val_main_v4 (F := Ideal) (lift (φ := .f32) X) (vec B) (ix2 h r) = ((lsg (X r.val h.val + B h.val) : ℝ) : EReal) := by
  pointwise [val_main_v4, val_main_v3, val_main_call0_v1, val_main_call0_call0_v4, val_main_call0_call0_v6, val_main_call0_call0_v11, val_main_call0_call0_v10, val_main_call0_call0_v9, val_main_call0_call0_v8, val_main_call0_call0_v7, val_main_call0_call0_v5, val_main_call0_call0_v3, val_main_call0_call0_v2, val_main_call0_call0_v1, val_main_call0_call0_v0, val_main_call0_call0_cst, val_main_call0_v0]
  rw [x_at, ← EReal.coe_neg, if_neg (fun h => h rfl), sp_coe, neg_neg, ← EReal.coe_neg, neg_neg]

theorem out_at (h : Fin 16) (r : Fin 2048) : val_main_v5 (F := Ideal) (lift (φ := .f32) X) (vec B) (ix2 h r) = ((cum X B (r.val + 1) h.val : ℝ) : EReal) :=
  Cert.Cumsum.prefix2 (N := 2047) _ _ (by pointwise [val_main_call1_v0, val_main_call1_cst]) (fun h r => lsg (X r h + B h)) _ (ls_at X B) _ h r
end Cert.ReferenceGateIdeal.Grad

namespace Cert.KernelGateIdeal.Grad
open Cert.KernelGateIdeal Cert.KernelGateIdeal.Gen Cert.Finite
open Cert.KernelSbIdeal.Grad (lift lift_ix lift_congr eq_lift)
open Cert.KernelForgetIdeal.Grad (table vector wide pad_rows pad_row)
open Cert.ReferenceForgetIdeal.Grad (vec)

/-- Finite arguments are tables of reals. -/
theorem lifts (m : (ℓ : Loc nD τ sig) → Buf (Elt Ideal) ℓ) (h : Cert.Pre_KernelGateIdeal_finite_gate m) (c : Dev nD) :
    ∃ (X : ℕ → ℕ → ℝ) (B : ℕ → ℝ), m ((c : Thread nD τ).loc main_arg0) = lift (n := 2048) (m := 16) (φ := .f32) X ∧ m ((c : Thread nD τ).loc main_arg1) = vec B := by
  haveI : Subsingleton Cert.Pre_finite_gate.S_.Idx := ⟨fun a b => funext fun i => i.elim0⟩
  have h1 := congrFun (h c) ix0
  obtain ⟨h1, a1⟩ := and_one h1
  obtain ⟨h1, a0⟩ := and_one h1
  obtain ⟨Y0, f0⟩ := (of_all _ _ _ _ _ _ _ a0).lift
  obtain ⟨Y1, f1⟩ := (of_all _ _ _ _ _ _ _ a1).lift
  obtain ⟨X, g0⟩ := table Y0
  obtain ⟨B, g1⟩ := vector Y1
  exact ⟨X, B, f0.trans g0, f1.trans g1⟩

section Host
variable (m : (ℓ : Loc nD τ sig) → Buf (Elt Ideal) ℓ) (c : Dev nD) (X : ℕ → ℕ → ℝ) (B : ℕ → ℝ)
  (e0 : m ((c : Thread nD τ).loc main_arg0) = lift (n := 2048) (m := 16) (φ := .f32) X) (e1 : m ((c : Thread nD τ).loc main_arg1) = vec B)

include e0 in
theorem in0 : V m c main_v0 = lift (φ := .f32) (wide X) := by
  refine Eq.trans (b := pad S2048x128 ![0, 0] ![0, 112] ![0, 0] (m ((c : Thread nD τ).loc main_arg0)) (sitofp (F := Ideal) .f32 (constantI S_ 32 0#32)) pads_S2048x16_S2048x128_000_01120 h_S_) rfl ?_
  rw [e0]; exact pad_rows X
include e1 in
theorem in1 : V m c main_v2 = lift (φ := .f32) (fun _ l => wide (fun _ => B) 0 l) := by
  refine Eq.trans (b := pad S1x128 ![0, 0] ![0, 112] ![0, 0] (shapeCast S1x16 (m ((c : Thread nD τ).loc main_arg1)) shapeCasts_S16_S1x16) (sitofp (F := Ideal) .f32 (constantI S_ 32 0#32)) pads_S1x16_S1x128_000_01120 h_S_) rfl ?_
  rw [e1]; exact pad_row B

theorem idx : ∀ t : Fin cfg0.N, win0_0.index t = ![0, 0] ∧ win0_1.index t = ![0, 0] ∧ win0_2.index t = ![0, 0] := (by decide +kernel : ∀ t : Fin grid0.N, _)

theorem ld0 (t : Fin cfg0.N) : iblk m c 0 t = V m c main_v0 := by
  funext i
  exact congrArg (V m c main_v0) (by blk_ext [idx t])
theorem ld1 (t : Fin cfg0.N) : iblk m c 1 t = V m c main_v2 := by
  funext i
  exact congrArg (V m c main_v2) (by blk_ext [idx t])

/-- The summed logarithms, the columns after the sixteenth with them. -/
abbrev cw (X : ℕ → ℕ → ℝ) (B : ℕ → ℝ) (r l : ℕ) : ℝ := cum (wide X) (wide (fun _ => B) 0) (r + 1) l

include e0 e1 in
theorem final2 : (dats m 0 c).arrAt 2 (cfgs 0).N = lift (n := 2048) (m := 128) (φ := .f32) (cw X B) := by
  refine (dats m 0 c).arrAt_eq_of_covers 2 _ (by decide +kernel) fun t _ y => ?_
  blk_simp
  rw [after0_2, outsAt0, ld0, ld1, in0 m c X e0, in1 m c B e1, point2]
  exact congrArg (lift (n := 2048) (m := 128) (φ := .f32) (cw X B)) (by blk_ext [idx t])
end Host

theorem out5 (X : ℕ → ℕ → ℝ) (B : ℕ → ℝ) : transpose S16x2048 [1, 0] (extractStridedSlice S2048x16 ![0, 0] (lift (φ := .f32) (cw X B) : FVec Ideal S2048x128 .f32) slices_S2048x128_S2048x16_0_0) transposes_S2048x16_S16x2048_1_0
    = Cert.ReferenceGateIdeal.Read.val_main_v5 (F := Ideal) (lift (φ := .f32) X) (vec B) := by
  funext j
  obtain ⟨h, r, rfl⟩ : ∃ h r, j = ix2 h r := ⟨j 0, j 1, eq_ix2 j⟩
  rw [Cert.ReferenceGateIdeal.Grad.out_at]
  pointwise [lift]
  refine congrArg Real.toEReal (Finset.sum_congr rfl fun k _ => ?_)
  rw [wide, wide, if_pos h.isLt, if_pos h.isLt]

theorem algebraic : Cert.algebraic_KernelGateIdeal_ReferenceGateIdeal_pre_finite_gate := by
  intro m g m' g' hpre hagree
  refine ⟨fun c => Cert.ReferenceGateIdeal.Read.val_main_v5 (F := Ideal) (m ((c : Thread nD τ).loc main_arg0)) (m ((c : Thread nD τ).loc main_arg1)), ?_, ?_⟩
  · run_from Cert.KernelGateIdeal.Gen.unchanged m g & Cert.KernelGateIdeal.Gen.run_main m g
    all_goals obtain ⟨X, B, e0, e1⟩ := lifts m hpre c
    refine Eq.trans (b := transpose S16x2048 [1, 0] (extractStridedSlice S2048x16 ![0, 0] (Pipeline.withArrays (cfgs 0).spec c (V0 m c) (fun w => (dats m 0 c).arrAt w (cfgs 0).N) (Proc.tc.devRef main_v3)) slices_S2048x128_S2048x16_0_0) transposes_S2048x16_S16x2048_1_0) rfl ?_
    rw [show Pipeline.withArrays (cfgs 0).spec c (V0 m c) (fun w => (dats m 0 c).arrAt w (cfgs 0).N) (Proc.tc.devRef main_v3) = _ from
      (Pipeline.withArrays_arr (cfgs 0).spec (by decide) c _ _ 2).trans (final2 m c X B e0 e1), e0, e1]
    exact out5 X B
  · refine θ_run_mono (Cert.ReferenceGateIdeal.Value.run m' g') fun r h c => ?_
    obtain ⟨a0, a1⟩ := hagree c
    refine ⟨((h c).1.trans (Cert.ReferenceGateIdeal.Read.val_main_v5_eq _ _)).trans ?_, (h c).2⟩
    rw [a0, a1]

end Cert.KernelGateIdeal.Grad

end
-- ==== Proof.NormClaim.lean ====
module

public import proofs.«01_k».proof.Defs
public import proofs.«01_k».proof.Proof.Finite
public import proofs.«01_k».proof.Proof.Gen.KernelNormIdeal.Frame
public import proofs.«01_k».proof.Proof.Gen.ReferenceNormIdeal.Read
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem

open Idealize.ShloMosaic.Pipeline (Dat)

namespace Cert.KernelNormIdeal.Grad
open Cert.KernelNormIdeal Cert.KernelNormIdeal.Gen

/-- A row of the normalised array: its entry, times the inverse root of the row's mean square, times the gain. -/
def entry (x : Fin 1024 → EReal) (g : EReal) (b : Fin 1024) : EReal :=
  x b * Ideal.rsqrt (Ideal.div (∑ k, x k * x k) (Ideal.ofBits .f32 0x44800000#32) + Ideal.ofBits .f32 0x3727C5AC#32) * g

/-- A block of the kernel at an entry. -/
theorem pay_at (v0 : Vec Ideal S256x1024 .f32) (v11 : Vec Ideal S1x1024 .f32) (a : Fin 256) (b : Fin 1024) :
    k0_pay1 (F := Ideal) v0 v11 (ix2 a b) = entry (fun k => v0 (ix2 a k)) (v11 (ix2 0 b)) b := by
  pointwise [k0_pay1]
  rfl

/-- The reference at an entry. -/
theorem ref_at (x : S2048x1024.Idx → EReal) (g : S1024.Idx → EReal) (a : Fin 2048) (b : Fin 1024) :
    Cert.ReferenceNormIdeal.Read.val_main_v13 (F := Ideal) x g (ix2 a b) = entry (fun k => x (ix2 a k)) (g (ix1 b)) b := by
  rw [← Cert.ReferenceNormIdeal.Read.val_main_v13_eq]
  pointwise
  rfl

theorem out_eq (x0 : Vec Ideal S256x1024 .f32) (x1 : Vec Ideal S1x1024 .f32) : out0_2 x0 x1 = k0_pay1 x0 x1 := by
  have hz : (![0, 0] : Fin 2 → ℕ) = fun _ => 0 := by funext a; fin_cases a <;> rfl
  unfold out0_2
  rw [View.canon_unit_zero hz, View.ld_unit_zero hz, View.ld_unit_zero hz]

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![t.val, 0] := (by decide +kernel : ∀ t : Fin grid0.N, _)
theorem t_lt : t.val < 8 := t.isLt

/-- The row of the whole array that is row `a` of block `t`. -/
abbrev row (a : Fin 256) : Fin 2048 := ⟨t.val * 256 + a.val, by have := t_lt t; omega⟩

theorem ld0 (a : Fin 256) (b : Fin 1024) : iblk m c 0 t (ix2 a b) = m ((c : Thread nD τ).loc main_arg0) (ix2 (row t a) b) :=
  congrArg (m ((c : Thread nD τ).loc main_arg0)) (by blk_ext [idx t])

theorem gain : V m c main_v0 = shapeCast S1x1024 (m ((c : Thread nD τ).loc main_arg1)) shapeCasts_S1024_S1x1024 := rfl

theorem ld1 (b : Fin 1024) : iblk m c 1 t (ix2 0 b) = m ((c : Thread nD τ).loc main_arg1) (ix1 b) := by
  refine Eq.trans (b := V m c main_v0 (ix2 0 b)) (congrArg (V m c main_v0) (by blk_ext [idx t])) ?_
  rw [gain]
  pointwise

theorem final : (dats m 0 c).arrAt 2 (cfgs 0).N
    = Cert.ReferenceNormIdeal.Read.val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  obtain ⟨a, b, rfl⟩ : ∃ (a : Fin 256) (b : Fin 1024), y = ix2 a b := ⟨y 0, y 1, eq_ix2 y⟩
  have he : ((cfg0.win 2).blk t).view.emb (ix2 a b) = ix2 (row t a) b := by blk_ext [idx t]
  refine Eq.trans ?_ ((congrArg (Cert.ReferenceNormIdeal.Read.val_main_v13 (F := Ideal) _ _) he).trans (ref_at _ _ _ _)).symm
  rw [out_eq, pay_at, ld1]
  simp only [ld0]

theorem algebraic : Cert.algebraic_KernelNormIdeal_ReferenceNormIdeal := by
  intro m g m' g' hpre hagree
  refine ⟨fun c => Cert.ReferenceNormIdeal.Read.val_main_v13 (F := Ideal) (m' ((c : Thread nD τ).loc Cert.ReferenceNormIdeal.main_arg0))
    (m' ((c : Thread nD τ).loc Cert.ReferenceNormIdeal.main_arg1)), ?_, ?_⟩
  · run_from Cert.KernelNormIdeal.Gen.run_main m g
    exact final m c
  · exact θ_run_mono (Cert.ReferenceNormIdeal.Value.run m' g') fun r h c =>
      ⟨(h c).1.trans (Cert.ReferenceNormIdeal.Read.val_main_v13_eq _ _), (h c).2⟩

end Cert.KernelNormIdeal.Grad

end
-- ==== Proof.ActClaim.lean ====
module

public import proofs.«01_k».proof.Defs
public import proofs.«01_k».proof.Proof.Finite
public import proofs.«01_k».proof.Proof.Gen.KernelActIdeal.Frame
public import proofs.«01_k».proof.Proof.Gen.ReferenceActIdeal.Read
public import Idealize.ShloMosaic.Lib.Claim
public import Idealize.ShloMosaic.Lib.Pipeline.ValueKit
public import Idealize.ShloMosaic.Lib.Pointwise
public import Idealize.ShloMosaic.Lib.WordCmp
public import Idealize.ShloMosaic.Lib.LayoutAt

@[expose] public section

set_option maxRecDepth 16384

noncomputable section

open Idealize.ShloMosaic Idealize.ShloMosaic.TcCoe Idealize.SL.Sem

open Idealize.ShloMosaic.Pipeline (Dat)

namespace Cert.KernelActIdeal.Grad
open Cert.KernelActIdeal Cert.KernelActIdeal.Gen
open Cert.ReferenceActIdeal.Read (val_main_v3 val_main_v4 val_main_v7)

/-- An entry of the projection. -/
def proj (h : S2048x1024.Idx → EReal) (w : S1024x5632.Idx → EReal) (a : Fin 2048) (b : Fin 5632) : EReal := ∑ k : Fin 1024, h (ix2 a k) * w (ix2 k b)

/-- The gated product, from the gate's entry and the other's. -/
def act (g u : EReal) : EReal := g * Ideal.div 1 (1 + Ideal.exp (0 - g)) * u

/-- A block of the kernel at an entry. -/
abbrev prod (v0 : Vec Ideal S1024x1024 .bf16) (v2 : Vec Ideal S1x1024x1408 .bf16) (a : Fin 1024) (b : Fin 1408) : EReal := ∑ k : Fin 1024, v0 (ix2 a k) * v2 (ix3 0 k b)

theorem pay2_at (v0 : Vec Ideal S1024x1024 .bf16) (v2 : Vec Ideal S1x1024x1408 .bf16) (a : Fin 1024) (b : Fin 1408) :
    k0_pay2 (F := Ideal) v0 v2 (ix2 a b) = prod v0 v2 a b := by
  pointwise [k0_pay2, k0_pay1]

theorem pay6_at (v0 : Vec Ideal S1024x1024 .bf16) (v2 v5 : Vec Ideal S1x1024x1408 .bf16) (a : Fin 1024) (b : Fin 1408) :
    k0_pay6 (F := Ideal) v0 v2 v5 (ix2 a b) = act (prod v0 v2 a b) (prod v0 v5 a b) := by
  pointwise [k0_pay6, k0_pay3, k0_pay2, k0_pay1]
  rfl

section Ref
variable (h : S2048x1024.Idx → EReal) (w : S1024x5632.Idx → EReal) (a : Fin 2048) (b : Fin 2816)

theorem ref3 : val_main_v3 (F := Ideal) h w (ix2 a b) = proj h w a ⟨b.val, by omega⟩ := by
  rw [← Cert.ReferenceActIdeal.Read.val_main_v3_eq]
  pointwise
  rfl

theorem ref4 : val_main_v4 (F := Ideal) h w (ix2 a b) = proj h w a ⟨2816 + b.val, by omega⟩ := by
  rw [← Cert.ReferenceActIdeal.Read.val_main_v4_eq]
  pointwise
  rfl

theorem ref7 : val_main_v7 (F := Ideal) h w (ix2 a b) = act (proj h w a ⟨b.val, by omega⟩) (proj h w a ⟨2816 + b.val, by omega⟩) := by
  rw [← Cert.ReferenceActIdeal.Read.val_main_v7_eq]
  pointwise
  unfold act
  rw [zero_sub]
  rfl
end Ref

theorem hz2 : (![0, 0] : Fin 2 → ℕ) = fun _ => 0 := by funext a; fin_cases a <;> rfl
theorem hz3 : (![0, 0, 0] : Fin 3 → ℕ) = fun _ => 0 := by funext a; fin_cases a <;> rfl

section Out
variable (x0 : Vec Ideal S1024x1024 .bf16) (x1 x2 : Vec Ideal S1x1024x1408 .bf16)
theorem out3 : out0_3 x0 x1 x2 = k0_pay2 x0 x1 := by
  unfold out0_3
  rw [View.canon_unit_zero hz2, View.ld_unit_zero hz2, View.ld_unit_zero hz3]
  rfl
theorem out4 : out0_4 x0 x1 x2 = k0_pay2 x0 x2 := by
  unfold out0_4
  rw [View.canon_unit_zero hz2, View.ld_unit_zero hz2, View.ld_unit_zero hz3]
  rfl
theorem out5 : out0_5 x0 x1 x2 = k0_pay6 x0 x1 x2 := by
  unfold out0_5
  rw [View.canon_unit_zero hz2, View.ld_unit_zero hz2, View.ld_unit_zero hz3, View.ld_unit_zero hz3]
end Out

variable (m : (ℓ : Loc nD τ sig) → Buf (Elt Ideal) ℓ) (c : Dev nD) (t : Fin cfg0.N)

theorem idx : ∀ t : Fin cfg0.N, win0_0.index t = ![t.val / 2, 0] ∧ win0_1.index t = ![t.val % 2, 0, 0] ∧ win0_2.index t = ![t.val % 2 + 2, 0, 0]
    ∧ win0_3.index t = ![t.val / 2, t.val % 2] ∧ win0_4.index t = ![t.val / 2, t.val % 2] ∧ win0_5.index t = ![t.val / 2, t.val % 2] := (by decide +kernel : ∀ t : Fin grid0.N, _)
theorem t_lt : t.val < 4 := t.isLt

/-- The row of the whole array that is row `a` of block `t`, and the column that is its column `b`. -/
abbrev row (a : Fin 1024) : Fin 2048 := ⟨t.val / 2 * 1024 + a.val, by have := t_lt t; omega⟩
abbrev col (b : Fin 1408) : Fin 2816 := ⟨t.val % 2 * 1408 + b.val, by omega⟩

abbrev H := m ((c : Thread nD τ).loc main_arg0)
abbrev W := m ((c : Thread nD τ).loc main_arg1)

theorem ld0 (a k : Fin 1024) : iblk m c 0 t (ix2 a k) = H m c (ix2 (row t a) k) :=
  congrArg (V m c main_v3) (by blk_ext [idx t])

theorem chips (s : Fin 4) (k : Fin 1024) (b : Fin 1408) : V m c main_v2 (ix3 s k b) = W m c (ix2 k ⟨s.val * 1408 + b.val, by omega⟩) := by
  refine Eq.trans (b := truncf (F := Ideal) .bf16 (transpose S4x1024x1408 [1, 0, 2] (shapeCast S1024x4x1408 (m ((c : Thread nD τ).loc main_arg1)) shapeCasts_S1024x5632_S1024x4x1408) transposes_S1024x4x1408_S4x1024x1408_1_0_2) bitsLt_bf16_f32 (ix3 s k b)) rfl ?_
  pointwise

theorem ld1 (k : Fin 1024) (b : Fin 1408) : iblk m c 1 t (ix3 0 k b) = W m c (ix2 k ⟨(col t b).val, by omega⟩) :=
  Eq.trans (b := V m c main_v2 (ix3 ⟨t.val % 2, by omega⟩ k b)) (congrArg (V m c main_v2) (by blk_ext [idx t])) (chips ..)

theorem ld2 (k : Fin 1024) (b : Fin 1408) : iblk m c 2 t (ix3 0 k b) = W m c (ix2 k ⟨2816 + (col t b).val, by omega⟩) :=
  (Eq.trans (b := V m c main_v2 (ix3 ⟨t.val % 2 + 2, by omega⟩ k b)) (congrArg (V m c main_v2) (by blk_ext [idx t])) (chips ..)).trans
    (congrArg (W m c) (by blk_ext <;> omega))

theorem gate (a : Fin 1024) (b : Fin 1408) : prod (iblk m c 0 t) (iblk m c 1 t) a b = proj (H m c) (W m c) (row t a) ⟨(col t b).val, by omega⟩ :=
  Finset.sum_congr rfl fun k _ => by rw [ld0, ld1]
theorem up (a : Fin 1024) (b : Fin 1408) : prod (iblk m c 0 t) (iblk m c 2 t) a b = proj (H m c) (W m c) (row t a) ⟨2816 + (col t b).val, by omega⟩ :=
  Finset.sum_congr rfl fun k _ => by rw [ld0, ld2]

theorem final3 : (dats m 0 c).arrAt 3 (cfgs 0).N = val_main_v3 (F := Ideal) (H m c) (W m c) := by
  refine (dats m 0 c).arrAt_eq_of_covers 3 _ (by decide +kernel) fun t _ y => ?_
  blk_simp
  rw [after0_3]
  obtain ⟨a, b, rfl⟩ : ∃ (a : Fin 1024) (b : Fin 1408), y = ix2 a b := ⟨y 0, y 1, eq_ix2 y⟩
  have he : ((cfg0.win 3).blk t).view.emb (ix2 a b) = ix2 (row t a) (col t b) := by blk_ext [idx t]
  refine Eq.trans ?_ ((congrArg (val_main_v3 (F := Ideal) _ _) he).trans (ref3 _ _ _ _)).symm
  rw [out3, pay2_at, gate]

theorem final4 : (dats m 0 c).arrAt 4 (cfgs 0).N = val_main_v4 (F := Ideal) (H m c) (W m c) := by
  refine (dats m 0 c).arrAt_eq_of_covers 4 _ (by decide +kernel) fun t _ y => ?_
  blk_simp
  rw [after0_4]
  obtain ⟨a, b, rfl⟩ : ∃ (a : Fin 1024) (b : Fin 1408), y = ix2 a b := ⟨y 0, y 1, eq_ix2 y⟩
  have he : ((cfg0.win 4).blk t).view.emb (ix2 a b) = ix2 (row t a) (col t b) := by blk_ext [idx t]
  refine Eq.trans ?_ ((congrArg (val_main_v4 (F := Ideal) _ _) he).trans (ref4 _ _ _ _)).symm
  rw [out4, pay2_at, up]

theorem final5 : (dats m 0 c).arrAt 5 (cfgs 0).N = val_main_v7 (F := Ideal) (H m c) (W m c) := by
  refine (dats m 0 c).arrAt_eq_of_covers 5 _ (by decide +kernel) fun t _ y => ?_
  blk_simp
  rw [after0_5]
  obtain ⟨a, b, rfl⟩ : ∃ (a : Fin 1024) (b : Fin 1408), y = ix2 a b := ⟨y 0, y 1, eq_ix2 y⟩
  have he : ((cfg0.win 5).blk t).view.emb (ix2 a b) = ix2 (row t a) (col t b) := by blk_ext [idx t]
  refine Eq.trans ?_ ((congrArg (val_main_v7 (F := Ideal) _ _) he).trans (ref7 _ _ _ _)).symm
  rw [out5, pay6_at, gate, up]

theorem algebraic : Cert.algebraic_KernelActIdeal_ReferenceActIdeal := by
  intro m g m' g' hpre hagree
  refine ⟨fun c => val_main_v3 (F := Ideal) (m' ((c : Thread nD τ).loc Cert.ReferenceActIdeal.main_arg0)) (m' ((c : Thread nD τ).loc Cert.ReferenceActIdeal.main_arg1)),
    fun c => val_main_v4 (F := Ideal) (m' ((c : Thread nD τ).loc Cert.ReferenceActIdeal.main_arg0)) (m' ((c : Thread nD τ).loc Cert.ReferenceActIdeal.main_arg1)),
    fun c => val_main_v7 (F := Ideal) (m' ((c : Thread nD τ).loc Cert.ReferenceActIdeal.main_arg0)) (m' ((c : Thread nD τ).loc Cert.ReferenceActIdeal.main_arg1)), ?_, ?_⟩
  · run_from Cert.KernelActIdeal.Gen.run_main m g
    · exact final3 m c
    · exact final4 m c
    · exact final5 m c
  · exact θ_run_mono (Cert.ReferenceActIdeal.Value.run m' g') fun r h c =>
      ⟨(h c).1.trans (Cert.ReferenceActIdeal.Read.val_main_v3_eq _ _), (h c).2.1.trans (Cert.ReferenceActIdeal.Read.val_main_v4_eq _ _),
        (h c).2.2.1.trans (Cert.ReferenceActIdeal.Read.val_main_v7_eq _ _), (h c).2.2.2⟩

end Cert.KernelActIdeal.Grad

end
-- ==== Proof.OutClaim.lean ====
module

public import proofs.«01_k».proof.Defs
public import proofs.«01_k».proof.Proof.NormClaim
public import proofs.«01_k».proof.Proof.Gen.KernelOutIdeal.Frame
public import proofs.«01_k».proof.Proof.Gen.ReferenceOutIdeal.Read

@[expose] public section

set_option maxRecDepth 16384

noncomputable section

open Idealize.ShloMosaic Idealize.ShloMosaic.TcCoe Idealize.SL.Sem

open Idealize.ShloMosaic.Pipeline (Dat)

namespace Cert.KernelOutIdeal.Grad
open Cert.KernelOutIdeal Cert.KernelOutIdeal.Gen
open Cert.KernelNormIdeal.Grad (entry)
open Cert.ReferenceOutIdeal.Read (val_main_v1 val_main_v15)

/-- An entry of the projection with what it is added to. -/
def sum (o : S2048x1024.Idx → EReal) (w : S1024x1024.Idx → EReal) (x : S2048x1024.Idx → EReal) (a : Fin 2048) (b : Fin 1024) : EReal := x (ix2 a b) + ∑ k : Fin 1024, o (ix2 a k) * w (ix2 k b)

section Block
variable (v0 : Vec Ideal S1024x1024 .bf16) (v2 : Vec Ideal S512x1024 .bf16) (v5 : Vec Ideal S512x1024 .f32) (v18 : Vec Ideal S1x1024 .f32)

/-- The same entry in a block. -/
abbrev part (a : Fin 512) (b : Fin 1024) : EReal := v5 (ix2 a b) + ∑ k : Fin 1024, v2 (ix2 a k) * v0 (ix2 k b)

theorem pay1_at (a : Fin 512) (b : Fin 1024) : k0_pay1 (F := Ideal) v0 v2 v5 (ix2 a b) = part v0 v2 v5 a b := by
  pointwise [k0_pay1]
  exact add_comm _ _

theorem pay2_at (a : Fin 512) (b : Fin 1024) : k0_pay2 (F := Ideal) v0 v2 v5 v18 (ix2 a b) = entry (part v0 v2 v5 a) (v18 (ix2 0 b)) b := by
  pointwise [k0_pay2]
  simp only [pay1_at]
  rfl

theorem out4 : out0_4 v2 v0 v5 v18 = k0_pay1 v0 v2 v5 := by
  have hz : (![0, 0] : Fin 2 → ℕ) = fun _ => 0 := by funext a; fin_cases a <;> rfl
  unfold out0_4
  rw [View.canon_unit_zero hz, View.ld_unit_zero hz, View.ld_unit_zero hz, View.ld_unit_zero hz]

theorem out5 : out0_5 v2 v0 v5 v18 = k0_pay2 v0 v2 v5 v18 := by
  have hz : (![0, 0] : Fin 2 → ℕ) = fun _ => 0 := by funext a; fin_cases a <;> rfl
  unfold out0_5
  rw [View.canon_unit_zero hz, View.ld_unit_zero hz, View.ld_unit_zero hz, View.ld_unit_zero hz, View.ld_unit_zero hz]
end Block

section Ref
variable (o : S2048x1024.Idx → EReal) (w : S1024x1024.Idx → EReal) (x : S2048x1024.Idx → EReal) (g : S1024.Idx → EReal) (a : Fin 2048) (b : Fin 1024)

theorem ref1 : val_main_v1 (F := Ideal) o w x (ix2 a b) = sum o w x a b := by
  rw [← Cert.ReferenceOutIdeal.Read.val_main_v1_eq]
  pointwise
  rfl

theorem ref15 : val_main_v15 (F := Ideal) o w x g (ix2 a b) = entry (sum o w x a) (g (ix1 b)) b := by
  rw [← Cert.ReferenceOutIdeal.Read.val_main_v15_eq]
  pointwise
  rfl
end Ref

variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] := (by decide +kernel : ∀ t : Fin grid0.N, _)
theorem t_lt : t.val < 4 := t.isLt

/-- The row of the whole array that is row `a` of block `t`. -/
abbrev row (a : Fin 512) : Fin 2048 := ⟨t.val * 512 + a.val, by have := t_lt t; omega⟩

abbrev O := m ((c : Thread nD τ).loc main_arg0)
abbrev W := m ((c : Thread nD τ).loc main_arg1)
abbrev X := m ((c : Thread nD τ).loc main_arg2)
abbrev G := m ((c : Thread nD τ).loc main_arg3)

theorem ld0 (a : Fin 512) (k : Fin 1024) : iblk m c 0 t (ix2 a k) = O m c (ix2 (row t a) k) := congrArg (V m c main_v0) (by blk_ext [idx t])
theorem ld1 (k b : Fin 1024) : iblk m c 1 t (ix2 k b) = W m c (ix2 k b) := congrArg (V m c main_v1) (by blk_ext [idx t])
theorem ld2 (a : Fin 512) (b : Fin 1024) : iblk m c 2 t (ix2 a b) = X m c (ix2 (row t a) b) := congrArg (V m c main_arg2) (by blk_ext [idx t])

theorem gain : V m c main_v2 = shapeCast S1x1024 (m ((c : Thread nD τ).loc main_arg3)) shapeCasts_S1024_S1x1024 := rfl
theorem ld3 (b : Fin 1024) : iblk m c 3 t (ix2 0 b) = G m c (ix1 b) := by
  refine Eq.trans (b := V m c main_v2 (ix2 0 b)) (congrArg (V m c main_v2) (by blk_ext [idx t])) ?_
  rw [gain]
  pointwise

theorem part_eq (a : Fin 512) : part (iblk m c 1 t) (iblk m c 0 t) (iblk m c 2 t) a = sum (O m c) (W m c) (X m c) (row t a) :=
  funext fun b => congrArg₂ (· + ·) (ld2 m c t a b) (Finset.sum_congr rfl fun k _ => by rw [ld0, ld1])

theorem final4 : (dats m 0 c).arrAt 4 (cfgs 0).N = val_main_v1 (F := Ideal) (O m c) (W m c) (X m c) := by
  refine (dats m 0 c).arrAt_eq_of_covers 4 _ (by decide +kernel) fun t _ y => ?_
  blk_simp
  rw [after0_4]
  obtain ⟨a, b, rfl⟩ : ∃ (a : Fin 512) (b : Fin 1024), y = ix2 a b := ⟨y 0, y 1, eq_ix2 y⟩
  have he : ((cfg0.win 4).blk t).view.emb (ix2 a b) = ix2 (row t a) b := by blk_ext [idx t]
  refine Eq.trans ?_ ((congrArg (val_main_v1 (F := Ideal) _ _ _) he).trans (ref1 _ _ _ _ _)).symm
  rw [out4, pay1_at]
  exact congrFun (part_eq m c t a) b

theorem final5 : (dats m 0 c).arrAt 5 (cfgs 0).N = val_main_v15 (F := Ideal) (O m c) (W m c) (X m c) (G m c) := by
  refine (dats m 0 c).arrAt_eq_of_covers 5 _ (by decide +kernel) fun t _ y => ?_
  blk_simp
  rw [after0_5]
  obtain ⟨a, b, rfl⟩ : ∃ (a : Fin 512) (b : Fin 1024), y = ix2 a b := ⟨y 0, y 1, eq_ix2 y⟩
  have he : ((cfg0.win 5).blk t).view.emb (ix2 a b) = ix2 (row t a) b := by blk_ext [idx t]
  refine Eq.trans ?_ ((congrArg (val_main_v15 (F := Ideal) _ _ _ _) he).trans (ref15 _ _ _ _ _ _)).symm
  rw [out5, pay2_at, part_eq, ld3]

theorem algebraic : Cert.algebraic_KernelOutIdeal_ReferenceOutIdeal := by
  intro m g m' g' hpre hagree
  refine ⟨fun c => val_main_v1 (F := Ideal) (m' ((c : Thread nD τ).loc Cert.ReferenceOutIdeal.main_arg0)) (m' ((c : Thread nD τ).loc Cert.ReferenceOutIdeal.main_arg1)) (m' ((c : Thread nD τ).loc Cert.ReferenceOutIdeal.main_arg2)),
    fun c => val_main_v15 (F := Ideal) (m' ((c : Thread nD τ).loc Cert.ReferenceOutIdeal.main_arg0)) (m' ((c : Thread nD τ).loc Cert.ReferenceOutIdeal.main_arg1)) (m' ((c : Thread nD τ).loc Cert.ReferenceOutIdeal.main_arg2)) (m' ((c : Thread nD τ).loc Cert.ReferenceOutIdeal.main_arg3)), ?_, ?_⟩
  · run_from Cert.KernelOutIdeal.Gen.run_main m g
    · exact final4 m c
    · exact final5 m c
  · exact θ_run_mono (Cert.ReferenceOutIdeal.Value.run m' g') fun r h c =>
      ⟨(h c).1.trans (Cert.ReferenceOutIdeal.Read.val_main_v1_eq _ _ _), (h c).2.1.trans (Cert.ReferenceOutIdeal.Read.val_main_v15_eq _ _ _ _), (h c).2.2⟩

end Cert.KernelOutIdeal.Grad

end
-- ==== Proof.lean ====
/- Every conjunct of `Cert.Claim`: the frames from the launch kits, the values from the claim modules. -/
module

public import proofs.«01_k».proof.Defs
public import proofs.«01_k».proof.Proof.Gen.KernelSwiglu
public import proofs.«01_k».proof.Proof.Gen.KernelSwiglu.Frame
public import proofs.«01_k».proof.Proof.Gen.KernelSwigluIdeal
public import proofs.«01_k».proof.Proof.Gen.KernelSwigluIdeal.Frame
public import proofs.«01_k».proof.Proof.Gen.ReferenceSwigluIdeal
public import proofs.«01_k».proof.Proof.Gen.ReferenceSwigluIdeal.Read
public import proofs.«01_k».proof.Proof.Gen.KernelLoss
public import proofs.«01_k».proof.Proof.Gen.KernelLoss.Frame
public import proofs.«01_k».proof.Proof.Gen.KernelLossIdeal
public import proofs.«01_k».proof.Proof.Gen.KernelLossIdeal.Frame
public import proofs.«01_k».proof.Proof.Gen.ReferenceLossIdeal
public import proofs.«01_k».proof.Proof.Gen.ReferenceLossIdeal.Read
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Frame
public import proofs.«01_k».proof.Proof.Gen.ReferenceFfnIdeal
public import proofs.«01_k».proof.Proof.Gen.ReferenceFfnIdeal.Read
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.ReferenceMixIdeal
public import proofs.«01_k».proof.Proof.Gen.ReferenceMixIdeal.Read
public import proofs.«01_k».proof.Proof.Gen.KernelForget
public import proofs.«01_k».proof.Proof.Gen.KernelForget.Frame
public import proofs.«01_k».proof.Proof.Gen.KernelForgetIdeal
public import proofs.«01_k».proof.Proof.Gen.KernelForgetIdeal.Frame
public import proofs.«01_k».proof.Proof.Gen.ReferenceForgetIdeal
public import proofs.«01_k».proof.Proof.Gen.ReferenceForgetIdeal.Read
public import proofs.«01_k».proof.Proof.Gen.KernelSb
public import proofs.«01_k».proof.Proof.Gen.KernelSb.Frame
public import proofs.«01_k».proof.Proof.Gen.KernelSbIdeal
public import proofs.«01_k».proof.Proof.Gen.KernelSbIdeal.Frame
public import proofs.«01_k».proof.Proof.Gen.KernelSbIdeal.Value
public import proofs.«01_k».proof.Proof.Gen.ReferenceSbIdeal
public import proofs.«01_k».proof.Proof.Gen.ReferenceSbIdeal.Read
public import proofs.«01_k».proof.Proof.Gen.KernelFox
public import proofs.«01_k».proof.Proof.Gen.KernelFox.Frame
public import proofs.«01_k».proof.Proof.Gen.KernelFoxIdeal
public import proofs.«01_k».proof.Proof.Gen.KernelFoxIdeal.Frame
public import proofs.«01_k».proof.Proof.Gen.ReferenceFoxIdeal
public import proofs.«01_k».proof.Proof.Gen.ReferenceFoxIdeal.Read
public import proofs.«01_k».proof.Proof.Gen.KernelEven
public import proofs.«01_k».proof.Proof.Gen.KernelEven.Frame
public import proofs.«01_k».proof.Proof.Gen.KernelEvenIdeal
public import proofs.«01_k».proof.Proof.Gen.KernelEvenIdeal.Frame
public import proofs.«01_k».proof.Proof.Gen.ReferenceEvenIdeal
public import proofs.«01_k».proof.Proof.Gen.ReferenceEvenIdeal.Read
public import proofs.«01_k».proof.Proof.Gen.KernelFoxfwd
public import proofs.«01_k».proof.Proof.Gen.KernelFoxfwdIdeal
public import proofs.«01_k».proof.Proof.Gen.ReferenceFoxfwdIdeal
public import proofs.«01_k».proof.Proof.Gen.ReferenceFoxfwdIdeal.Read
public import proofs.«01_k».proof.Proof.Gen.KernelGate
public import proofs.«01_k».proof.Proof.Gen.KernelGate.Frame
public import proofs.«01_k».proof.Proof.Gen.KernelGateIdeal
public import proofs.«01_k».proof.Proof.Gen.KernelGateIdeal.Frame
public import proofs.«01_k».proof.Proof.Gen.ReferenceGateIdeal
public import proofs.«01_k».proof.Proof.Gen.ReferenceGateIdeal.Read
public import proofs.«01_k».proof.Proof.Gen.KernelNorm
public import proofs.«01_k».proof.Proof.Gen.KernelNorm.Frame
public import proofs.«01_k».proof.Proof.Gen.KernelNormIdeal
public import proofs.«01_k».proof.Proof.Gen.KernelNormIdeal.Frame
public import proofs.«01_k».proof.Proof.Gen.ReferenceNormIdeal
public import proofs.«01_k».proof.Proof.Gen.ReferenceNormIdeal.Read
public import proofs.«01_k».proof.Proof.Gen.KernelAct
public import proofs.«01_k».proof.Proof.Gen.KernelAct.Frame
public import proofs.«01_k».proof.Proof.Gen.KernelActIdeal
public import proofs.«01_k».proof.Proof.Gen.KernelActIdeal.Frame
public import proofs.«01_k».proof.Proof.Gen.ReferenceActIdeal
public import proofs.«01_k».proof.Proof.Gen.ReferenceActIdeal.Read
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.ReferenceOutIdeal
public import proofs.«01_k».proof.Proof.Gen.ReferenceOutIdeal.Read
public import proofs.«01_k».proof.Proof.Gen.Pre_finite_swiglu
public import proofs.«01_k».proof.Proof.Gen.Pre_finite_loss
public import proofs.«01_k».proof.Proof.Gen.Pre_finite_ffn
public import proofs.«01_k».proof.Proof.Gen.Pre_finite_mix
public import proofs.«01_k».proof.Proof.Gen.Pre_finite_forget
public import proofs.«01_k».proof.Proof.Gen.Pre_finite_sb
public import proofs.«01_k».proof.Proof.Gen.Pre_finite_fox
public import proofs.«01_k».proof.Proof.Gen.Pre_finite_even
public import proofs.«01_k».proof.Proof.Gen.Pre_finite_foxfwd
public import proofs.«01_k».proof.Proof.Gen.Pre_finite_gate
public import proofs.«01_k».proof.Proof.FoxBoth
public import proofs.«01_k».proof.Proof.Gen.KernelFoxIdeal.Loops
public import proofs.«01_k».proof.Proof.Gen.KernelFoxIdeal.Skeleton
public import proofs.«01_k».proof.Proof.FoxfwdBoth
public import proofs.«01_k».proof.Proof.FoxfwdFrame
public import proofs.«01_k».proof.Proof.Gen.KernelFoxfwdIdeal.Frame.RunA
public import proofs.«01_k».proof.Proof.Gen.KernelFoxfwdIdeal.Loops
public import proofs.«01_k».proof.Proof.Gen.KernelFoxfwdIdeal.Skeleton
public import proofs.«01_k».proof.Proof.SwigluClaim
public import proofs.«01_k».proof.Proof.LossClaim
public import proofs.«01_k».proof.Proof.FfnClaim
public import proofs.«01_k».proof.Proof.MixClaim
public import proofs.«01_k».proof.Proof.ForgetClaim
public import proofs.«01_k».proof.Proof.SbClaim
public import proofs.«01_k».proof.Proof.FoxClaim
public import proofs.«01_k».proof.Proof.EvenClaim
public import proofs.«01_k».proof.Proof.FoxfwdClaim
public import proofs.«01_k».proof.Proof.GateClaim
public import proofs.«01_k».proof.Proof.NormClaim
public import proofs.«01_k».proof.Proof.ActClaim
public import proofs.«01_k».proof.Proof.OutClaim
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem claim : Cert.Claim := ⟨Cert.KernelSwiglu.Gen.facts, Cert.KernelSwigluIdeal.Gen.facts, Cert.ReferenceSwigluIdeal.Gen.facts, Cert.KernelLoss.Gen.facts, Cert.KernelLossIdeal.Gen.facts, Cert.ReferenceLossIdeal.Gen.facts, Cert.KernelFfn.Gen.facts, Cert.KernelFfnIdeal.Gen.facts, Cert.ReferenceFfnIdeal.Gen.facts, Cert.KernelMix.Gen.facts, Cert.KernelMixIdeal.Gen.facts, Cert.ReferenceMixIdeal.Gen.facts, Cert.KernelForget.Gen.facts, Cert.KernelForgetIdeal.Gen.facts, Cert.ReferenceForgetIdeal.Gen.facts, Cert.KernelSb.Gen.facts, Cert.KernelSbIdeal.Gen.facts, Cert.ReferenceSbIdeal.Gen.facts, Cert.KernelFox.Gen.facts, Cert.KernelFoxIdeal.Gen.facts, Cert.ReferenceFoxIdeal.Gen.facts, Cert.KernelEven.Gen.facts, Cert.KernelEvenIdeal.Gen.facts, Cert.ReferenceEvenIdeal.Gen.facts, Cert.KernelFoxfwd.Gen.facts, Cert.KernelFoxfwdIdeal.Gen.facts, Cert.ReferenceFoxfwdIdeal.Gen.facts, Cert.KernelGate.Gen.facts, Cert.KernelGateIdeal.Gen.facts, Cert.ReferenceGateIdeal.Gen.facts, Cert.KernelNorm.Gen.facts, Cert.KernelNormIdeal.Gen.facts, Cert.ReferenceNormIdeal.Gen.facts, Cert.KernelAct.Gen.facts, Cert.KernelActIdeal.Gen.facts, Cert.ReferenceActIdeal.Gen.facts, Cert.KernelOut.Gen.facts, Cert.KernelOutIdeal.Gen.facts, Cert.ReferenceOutIdeal.Gen.facts, Cert.Pre_finite_swiglu.Gen.facts, Cert.Pre_finite_loss.Gen.facts, Cert.Pre_finite_ffn.Gen.facts, Cert.Pre_finite_mix.Gen.facts, Cert.Pre_finite_forget.Gen.facts, Cert.Pre_finite_sb.Gen.facts, Cert.Pre_finite_fox.Gen.facts, Cert.Pre_finite_even.Gen.facts, Cert.Pre_finite_foxfwd.Gen.facts, Cert.Pre_finite_gate.Gen.facts,
    fun m g _ => Cert.KernelSwiglu.Gen.frame m g,
    fun m g _ => Cert.KernelSwigluIdeal.Gen.frame m g,
    fun m g _ => Cert.KernelSwigluIdeal.Gen.frame m g,
    fun m g _ => θ_run_mono (Cert.ReferenceSwigluIdeal.Value.run m g) fun r h => ⟨fun c => (h c).2, sem_eq_zero_of_no_sems rfl r.2⟩,
    fun m g _ => θ_run_mono (Cert.ReferenceSwigluIdeal.Value.run m g) fun r h => ⟨fun c => (h c).2, sem_eq_zero_of_no_sems rfl r.2⟩,
    fun m g _ => Cert.KernelLoss.Gen.frame m g,
    fun m g _ => Cert.KernelLossIdeal.Gen.frame m g,
    fun m g _ => Cert.KernelLossIdeal.Gen.frame m g,
    fun m g _ => θ_run_mono (Cert.ReferenceLossIdeal.Value.run m g) fun r h => ⟨fun c => (h c).2.2.2, sem_eq_zero_of_no_sems rfl r.2⟩,
    fun m g _ => θ_run_mono (Cert.ReferenceLossIdeal.Value.run m g) fun r h => ⟨fun c => (h c).2.2.2, sem_eq_zero_of_no_sems rfl r.2⟩,
    fun m g _ => Cert.KernelFfn.Gen.frame m g,
    fun m g _ => Cert.KernelFfnIdeal.Gen.frame m g,
    fun m g _ => Cert.KernelFfnIdeal.Gen.frame m g,
    fun m g _ => θ_run_mono (Cert.ReferenceFfnIdeal.Value.run m g) fun r h => ⟨fun c => (h c).2.2, sem_eq_zero_of_no_sems rfl r.2⟩,
    fun m g _ => θ_run_mono (Cert.ReferenceFfnIdeal.Value.run m g) fun r h => ⟨fun c => (h c).2.2, sem_eq_zero_of_no_sems rfl r.2⟩,
    fun m g _ => Cert.KernelMix.Gen.frame m g,
    fun m g _ => Cert.KernelMixIdeal.Gen.frame m g,
    fun m g _ => Cert.KernelMixIdeal.Gen.frame m g,
    fun m g _ => θ_run_mono (Cert.ReferenceMixIdeal.Value.run m g) fun r h => ⟨fun c => (h c).2.2, sem_eq_zero_of_no_sems rfl r.2⟩,
    fun m g _ => θ_run_mono (Cert.ReferenceMixIdeal.Value.run m g) fun r h => ⟨fun c => (h c).2.2, sem_eq_zero_of_no_sems rfl r.2⟩,
    fun m g _ => Cert.KernelForget.Gen.frame m g,
    fun m g _ => Cert.KernelForgetIdeal.Gen.frame m g,
    fun m g _ => Cert.KernelForgetIdeal.Gen.frame m g,
    fun m g _ => θ_run_mono (Cert.ReferenceForgetIdeal.Value.run m g) fun r h => ⟨fun c => (h c).2.2, sem_eq_zero_of_no_sems rfl r.2⟩,
    fun m g _ => θ_run_mono (Cert.ReferenceForgetIdeal.Value.run m g) fun r h => ⟨fun c => (h c).2.2, sem_eq_zero_of_no_sems rfl r.2⟩,
    fun m g _ => Cert.KernelSb.Gen.frame m g,
    fun m g _ => Cert.KernelSbIdeal.Gen.frame m g,
    fun m g _ => Cert.KernelSbIdeal.Gen.frame m g,
    fun m g _ => θ_run_mono (Cert.ReferenceSbIdeal.Value.run m g) fun r h => ⟨fun c => (h c).2.2.2, sem_eq_zero_of_no_sems rfl r.2⟩,
    fun m g _ => θ_run_mono (Cert.ReferenceSbIdeal.Value.run m g) fun r h => ⟨fun c => (h c).2.2.2, sem_eq_zero_of_no_sems rfl r.2⟩,
    Cert.FoxFrames.kernel,
    fun m g _ => Cert.KernelFoxIdeal.Gen.frame m g,
    fun m g _ => Cert.KernelFoxIdeal.Gen.frame m g,
    fun m g _ => θ_run_mono (Cert.ReferenceFoxIdeal.Value.run m g) fun r h => ⟨fun c => (h c).2.2.2.2, sem_eq_zero_of_no_sems rfl r.2⟩,
    fun m g _ => θ_run_mono (Cert.ReferenceFoxIdeal.Value.run m g) fun r h => ⟨fun c => (h c).2.2.2.2, sem_eq_zero_of_no_sems rfl r.2⟩,
    fun m g _ => Cert.KernelEven.Gen.frame m g,
    fun m g _ => Cert.KernelEvenIdeal.Gen.frame m g,
    fun m g _ => Cert.KernelEvenIdeal.Gen.frame m g,
    fun m g _ => θ_run_mono (Cert.ReferenceEvenIdeal.Value.run m g) fun r h => ⟨fun c => (h c).2.2, sem_eq_zero_of_no_sems rfl r.2⟩,
    fun m g _ => θ_run_mono (Cert.ReferenceEvenIdeal.Value.run m g) fun r h => ⟨fun c => (h c).2.2, sem_eq_zero_of_no_sems rfl r.2⟩,
    Cert.FoxfwdFrames.kernel,
    fun m g _ => Cert.KernelFoxfwdIdeal.Gen.frame m g,
    fun m g _ => Cert.KernelFoxfwdIdeal.Gen.frame m g,
    fun m g _ => θ_run_mono (Cert.ReferenceFoxfwdIdeal.Value.run m g) fun r h => ⟨fun c => (h c).2.2, sem_eq_zero_of_no_sems rfl r.2⟩,
    fun m g _ => θ_run_mono (Cert.ReferenceFoxfwdIdeal.Value.run m g) fun r h => ⟨fun c => (h c).2.2, sem_eq_zero_of_no_sems rfl r.2⟩,
    fun m g _ => Cert.KernelGate.Gen.frame m g,
    fun m g _ => Cert.KernelGateIdeal.Gen.frame m g,
    fun m g _ => Cert.KernelGateIdeal.Gen.frame m g,
    fun m g _ => θ_run_mono (Cert.ReferenceGateIdeal.Value.run m g) fun r h => ⟨fun c => (h c).2, sem_eq_zero_of_no_sems rfl r.2⟩,
    fun m g _ => θ_run_mono (Cert.ReferenceGateIdeal.Value.run m g) fun r h => ⟨fun c => (h c).2, sem_eq_zero_of_no_sems rfl r.2⟩,
    fun m g _ => Cert.KernelNorm.Gen.frame m g,
    fun m g _ => Cert.KernelNormIdeal.Gen.frame m g,
    fun m g _ => θ_run_mono (Cert.ReferenceNormIdeal.Value.run m g) fun r h => ⟨fun c => (h c).2, sem_eq_zero_of_no_sems rfl r.2⟩,
    fun m g _ => Cert.KernelAct.Gen.frame m g,
    fun m g _ => Cert.KernelActIdeal.Gen.frame m g,
    fun m g _ => θ_run_mono (Cert.ReferenceActIdeal.Value.run m g) fun r h => ⟨fun c => (h c).2.2.2, sem_eq_zero_of_no_sems rfl r.2⟩,
    fun m g _ => Cert.KernelOut.Gen.frame m g,
    fun m g _ => Cert.KernelOutIdeal.Gen.frame m g,
    fun m g _ => θ_run_mono (Cert.ReferenceOutIdeal.Value.run m g) fun r h => ⟨fun c => (h c).2.2, sem_eq_zero_of_no_sems rfl r.2⟩,
    trivial,
    Cert.KernelSwigluIdeal.Grad.algebraic,
    trivial,
    Cert.KernelLossIdeal.Grad.algebraic,
    trivial,
    Cert.KernelFfnIdeal.Grad.algebraic,
    trivial,
    Cert.KernelMixIdeal.Grad.algebraic,
    trivial,
    Cert.KernelForgetIdeal.Grad.algebraic,
    trivial,
    Cert.KernelSbIdeal.Grad.algebraic,
    trivial,
    Cert.KernelFoxIdeal.Grad.algebraic,
    trivial,
    Cert.KernelEvenIdeal.Grad.algebraic,
    IdealRules.named_const.statement Cert.KernelFoxfwdIdeal.κ "mask" .f32 0xF149F2CA#32 ⊥ rfl,
    Cert.KernelFoxfwdIdeal.Grad.algebraic,
    trivial,
    Cert.KernelGateIdeal.Grad.algebraic,
    trivial,
    Cert.KernelNormIdeal.Grad.algebraic,
    trivial,
    Cert.KernelActIdeal.Grad.algebraic,
    trivial,
    Cert.KernelOutIdeal.Grad.algebraic⟩

end Cert.Proof

end
